-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))).2.2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))).2.2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))).2.2.2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))).2.2.2.2.2.2 = (fun _ => 1#1)

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluIdeal_finite_relu [hPre_finite_relu : Cert.Pre_finite_relu.Facts] (m : (ℓ : Loc Cert.ReluIdeal.nD Cert.ReluIdeal.τ Cert.ReluIdeal.sig) → Buf (Elt Ideal) ℓ) : Prop :=
  ∀ c : Dev Cert.ReluIdeal.nD,
    (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.2.1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.2.2.1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.2.2.2.1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.2.2.2.2.1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.2.2.2.2.2.1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.2.2.2.2.2.2.1 = (fun _ => 1#1)
    ∧ (Cert.Pre_finite_relu.fn (F := Ideal) (m ((c.tc : Thread Cert.ReluIdeal.nD Cert.ReluIdeal.τ).loc Cert.ReluIdeal.main_arg0)) (m ((c.tc : Thread Cert.ReluIdeal.nD Cert.ReluIdeal.τ).loc Cert.ReluIdeal.main_arg1)) (m ((c.tc : Thread Cert.ReluIdeal.nD Cert.ReluIdeal.τ).loc Cert.ReluIdeal.main_arg2)) (m ((c.tc : Thread Cert.ReluIdeal.nD Cert.ReluIdeal.τ).loc Cert.ReluIdeal.main_arg3)) (m ((c.tc : Thread Cert.ReluIdeal.nD Cert.ReluIdeal.τ).loc Cert.ReluIdeal.main_arg4)) (m ((c.tc : Thread Cert.ReluIdeal.nD Cert.ReluIdeal.τ).loc Cert.ReluIdeal.main_arg5)) (m ((c.tc : Thread Cert.ReluIdeal.nD Cert.ReluIdeal.τ).loc Cert.ReluIdeal.main_arg6)) (m ((c.tc : Thread Cert.ReluIdeal.nD Cert.ReluIdeal.τ).loc Cert.ReluIdeal.main_arg7)) (m ((c.tc : Thread Cert.ReluIdeal.nD Cert.ReluIdeal.τ).loc Cert.ReluIdeal.main_arg8)) (m ((c.tc : Thread Cert.ReluIdeal.nD Cert.ReluIdeal.τ).loc Cert.ReluIdeal.main_arg9)) (m ((c.tc : Thread Cert.ReluIdeal.nD Cert.ReluIdeal.τ).loc Cert.ReluIdeal.main_arg10))).2.2.2.2.2.2.2.2 = (fun _ => 1#1)

def Pre_ReluRefIdeal (m : (ℓ : Loc Cert.ReluRefIdeal.nD Cert.ReluRefIdeal.τ Cert.ReluRefIdeal.sig) → Buf (Elt Ideal) ℓ) : Prop :=
  True

def Pre_ReluRefIdeal_finite_relu [hPre_finite_relu : Cert.Pre_finite_relu.Facts] (m : (ℓ : Loc Cert.ReluRefIdeal.nD Cert.ReluRefIdeal.τ Cert.ReluRefIdeal.sig) → Buf (Elt Ideal) ℓ) : Prop :=
  ∀ c : Dev Cert.ReluRefIdeal.nD,
    (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.2.1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.2.2.1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.2.2.2.1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.2.2.2.2.1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.2.2.2.2.2.1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.2.2.2.2.2.2.1 = (fun _ => 1#1)
    ∧ (Cert.Pre_finite_relu.fn (F := Ideal) (m ((c.tc : Thread Cert.ReluRefIdeal.nD Cert.ReluRefIdeal.τ).loc Cert.ReluRefIdeal.main_arg0)) (m ((c.tc : Thread Cert.ReluRefIdeal.nD Cert.ReluRefIdeal.τ).loc Cert.ReluRefIdeal.main_arg1)) (m ((c.tc : Thread Cert.ReluRefIdeal.nD Cert.ReluRefIdeal.τ).loc Cert.ReluRefIdeal.main_arg2)) (m ((c.tc : Thread Cert.ReluRefIdeal.nD Cert.ReluRefIdeal.τ).loc Cert.ReluRefIdeal.main_arg3)) (m ((c.tc : Thread Cert.ReluRefIdeal.nD Cert.ReluRefIdeal.τ).loc Cert.ReluRefIdeal.main_arg4)) (m ((c.tc : Thread Cert.ReluRefIdeal.nD Cert.ReluRefIdeal.τ).loc Cert.ReluRefIdeal.main_arg5)) (m ((c.tc : Thread Cert.ReluRefIdeal.nD Cert.ReluRefIdeal.τ).loc Cert.ReluRefIdeal.main_arg6)) (m ((c.tc : Thread Cert.ReluRefIdeal.nD Cert.ReluRefIdeal.τ).loc Cert.ReluRefIdeal.main_arg7)) (m ((c.tc : Thread Cert.ReluRefIdeal.nD Cert.ReluRefIdeal.τ).loc Cert.ReluRefIdeal.main_arg8)) (m ((c.tc : Thread Cert.ReluRefIdeal.nD Cert.ReluRefIdeal.τ).loc Cert.ReluRefIdeal.main_arg9)) (m ((c.tc : Thread Cert.ReluRefIdeal.nD Cert.ReluRefIdeal.τ).loc Cert.ReluRefIdeal.main_arg10))).2.2.2.2.2.2.2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8)
      ∧ r.2.mem ((c.tc : Thread Cert.Join.nD Cert.Join.τ).loc Cert.Join.main_arg9) = m ((c.tc : Thread Cert.Join.nD Cert.Join.τ).loc Cert.Join.main_arg9)
      ∧ r.2.mem ((c.tc : Thread Cert.Join.nD Cert.Join.τ).loc Cert.Join.main_arg10) = m ((c.tc : Thread Cert.Join.nD Cert.Join.τ).loc Cert.Join.main_arg10))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
      ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8)
      ∧ r.2.mem ((c.tc : Thread Cert.JoinRefIdeal.nD Cert.JoinRefIdeal.τ).loc Cert.JoinRefIdeal.main_arg9) = m ((c.tc : Thread Cert.JoinRefIdeal.nD Cert.JoinRefIdeal.τ).loc Cert.JoinRefIdeal.main_arg9)
      ∧ r.2.mem ((c.tc : Thread Cert.JoinRefIdeal.nD Cert.JoinRefIdeal.τ).loc Cert.JoinRefIdeal.main_arg10) = m ((c.tc : Thread Cert.JoinRefIdeal.nD Cert.JoinRefIdeal.τ).loc Cert.JoinRefIdeal.main_arg10))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0)
      ∧ r.2.mem ((c.tc : Thread Cert.Relu.nD Cert.Relu.τ).loc Cert.Relu.main_arg1) = m ((c.tc : Thread Cert.Relu.nD Cert.Relu.τ).loc Cert.Relu.main_arg1)
      ∧ r.2.mem ((c.tc : Thread Cert.Relu.nD Cert.Relu.τ).loc Cert.Relu.main_arg2) = m ((c.tc : Thread Cert.Relu.nD Cert.Relu.τ).loc Cert.Relu.main_arg2)
      ∧ r.2.mem ((c.tc : Thread Cert.Relu.nD Cert.Relu.τ).loc Cert.Relu.main_arg3) = m ((c.tc : Thread Cert.Relu.nD Cert.Relu.τ).loc Cert.Relu.main_arg3)
      ∧ r.2.mem ((c.tc : Thread Cert.Relu.nD Cert.Relu.τ).loc Cert.Relu.main_arg4) = m ((c.tc : Thread Cert.Relu.nD Cert.Relu.τ).loc Cert.Relu.main_arg4)
      ∧ r.2.mem ((c.tc : Thread Cert.Relu.nD Cert.Relu.τ).loc Cert.Relu.main_arg5) = m ((c.tc : Thread Cert.Relu.nD Cert.Relu.τ).loc Cert.Relu.main_arg5)
      ∧ r.2.mem ((c.tc : Thread Cert.Relu.nD Cert.Relu.τ).loc Cert.Relu.main_arg6) = m ((c.tc : Thread Cert.Relu.nD Cert.Relu.τ).loc Cert.Relu.main_arg6)
      ∧ r.2.mem ((c.tc : Thread Cert.Relu.nD Cert.Relu.τ).loc Cert.Relu.main_arg7) = m ((c.tc : Thread Cert.Relu.nD Cert.Relu.τ).loc Cert.Relu.main_arg7)
      ∧ r.2.mem ((c.tc : Thread Cert.Relu.nD Cert.Relu.τ).loc Cert.Relu.main_arg8) = m ((c.tc : Thread Cert.Relu.nD Cert.Relu.τ).loc Cert.Relu.main_arg8)
      ∧ r.2.mem ((c.tc : Thread Cert.Relu.nD Cert.Relu.τ).loc Cert.Relu.main_arg9) = m ((c.tc : Thread Cert.Relu.nD Cert.Relu.τ).loc Cert.Relu.main_arg9)
      ∧ r.2.mem ((c.tc : Thread Cert.Relu.nD Cert.Relu.τ).loc Cert.Relu.main_arg10) = m ((c.tc : Thread Cert.Relu.nD Cert.Relu.τ).loc Cert.Relu.main_arg10))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2)
      ∧ r.2.mem ((c.tc : Thread Cert.ReluIdeal.nD Cert.ReluIdeal.τ).loc Cert.ReluIdeal.main_arg3) = m ((c.tc : Thread Cert.ReluIdeal.nD Cert.ReluIdeal.τ).loc Cert.ReluIdeal.main_arg3)
      ∧ r.2.mem ((c.tc : Thread Cert.ReluIdeal.nD Cert.ReluIdeal.τ).loc Cert.ReluIdeal.main_arg4) = m ((c.tc : Thread Cert.ReluIdeal.nD Cert.ReluIdeal.τ).loc Cert.ReluIdeal.main_arg4)
      ∧ r.2.mem ((c.tc : Thread Cert.ReluIdeal.nD Cert.ReluIdeal.τ).loc Cert.ReluIdeal.main_arg5) = m ((c.tc : Thread Cert.ReluIdeal.nD Cert.ReluIdeal.τ).loc Cert.ReluIdeal.main_arg5)
      ∧ r.2.mem ((c.tc : Thread Cert.ReluIdeal.nD Cert.ReluIdeal.τ).loc Cert.ReluIdeal.main_arg6) = m ((c.tc : Thread Cert.ReluIdeal.nD Cert.ReluIdeal.τ).loc Cert.ReluIdeal.main_arg6)
      ∧ r.2.mem ((c.tc : Thread Cert.ReluIdeal.nD Cert.ReluIdeal.τ).loc Cert.ReluIdeal.main_arg7) = m ((c.tc : Thread Cert.ReluIdeal.nD Cert.ReluIdeal.τ).loc Cert.ReluIdeal.main_arg7)
      ∧ r.2.mem ((c.tc : Thread Cert.ReluIdeal.nD Cert.ReluIdeal.τ).loc Cert.ReluIdeal.main_arg8) = m ((c.tc : Thread Cert.ReluIdeal.nD Cert.ReluIdeal.τ).loc Cert.ReluIdeal.main_arg8)
      ∧ r.2.mem ((c.tc : Thread Cert.ReluIdeal.nD Cert.ReluIdeal.τ).loc Cert.ReluIdeal.main_arg9) = m ((c.tc : Thread Cert.ReluIdeal.nD Cert.ReluIdeal.τ).loc Cert.ReluIdeal.main_arg9)
      ∧ r.2.mem ((c.tc : Thread Cert.ReluIdeal.nD Cert.ReluIdeal.τ).loc Cert.ReluIdeal.main_arg10) = m ((c.tc : Thread Cert.ReluIdeal.nD Cert.ReluIdeal.τ).loc Cert.ReluIdeal.main_arg10))
      ∧ r.2.sem = fun _ => 0)

def quiescent_ReluIdeal_pre_finite_relu [hReluIdeal : Cert.ReluIdeal.Facts] [hPre_finite_relu : Cert.Pre_finite_relu.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal_finite_relu m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2)
      ∧ r.2.mem ((c.tc : Thread Cert.ReluIdeal.nD Cert.ReluIdeal.τ).loc Cert.ReluIdeal.main_arg3) = m ((c.tc : Thread Cert.ReluIdeal.nD Cert.ReluIdeal.τ).loc Cert.ReluIdeal.main_arg3)
      ∧ r.2.mem ((c.tc : Thread Cert.ReluIdeal.nD Cert.ReluIdeal.τ).loc Cert.ReluIdeal.main_arg4) = m ((c.tc : Thread Cert.ReluIdeal.nD Cert.ReluIdeal.τ).loc Cert.ReluIdeal.main_arg4)
      ∧ r.2.mem ((c.tc : Thread Cert.ReluIdeal.nD Cert.ReluIdeal.τ).loc Cert.ReluIdeal.main_arg5) = m ((c.tc : Thread Cert.ReluIdeal.nD Cert.ReluIdeal.τ).loc Cert.ReluIdeal.main_arg5)
      ∧ r.2.mem ((c.tc : Thread Cert.ReluIdeal.nD Cert.ReluIdeal.τ).loc Cert.ReluIdeal.main_arg6) = m ((c.tc : Thread Cert.ReluIdeal.nD Cert.ReluIdeal.τ).loc Cert.ReluIdeal.main_arg6)
      ∧ r.2.mem ((c.tc : Thread Cert.ReluIdeal.nD Cert.ReluIdeal.τ).loc Cert.ReluIdeal.main_arg7) = m ((c.tc : Thread Cert.ReluIdeal.nD Cert.ReluIdeal.τ).loc Cert.ReluIdeal.main_arg7)
      ∧ r.2.mem ((c.tc : Thread Cert.ReluIdeal.nD Cert.ReluIdeal.τ).loc Cert.ReluIdeal.main_arg8) = m ((c.tc : Thread Cert.ReluIdeal.nD Cert.ReluIdeal.τ).loc Cert.ReluIdeal.main_arg8)
      ∧ r.2.mem ((c.tc : Thread Cert.ReluIdeal.nD Cert.ReluIdeal.τ).loc Cert.ReluIdeal.main_arg9) = m ((c.tc : Thread Cert.ReluIdeal.nD Cert.ReluIdeal.τ).loc Cert.ReluIdeal.main_arg9)
      ∧ r.2.mem ((c.tc : Thread Cert.ReluIdeal.nD Cert.ReluIdeal.τ).loc Cert.ReluIdeal.main_arg10) = m ((c.tc : Thread Cert.ReluIdeal.nD Cert.ReluIdeal.τ).loc Cert.ReluIdeal.main_arg10))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2)
      ∧ r.2.mem ((c.tc : Thread Cert.ReluRefIdeal.nD Cert.ReluRefIdeal.τ).loc Cert.ReluRefIdeal.main_arg3) = m ((c.tc : Thread Cert.ReluRefIdeal.nD Cert.ReluRefIdeal.τ).loc Cert.ReluRefIdeal.main_arg3)
      ∧ r.2.mem ((c.tc : Thread Cert.ReluRefIdeal.nD Cert.ReluRefIdeal.τ).loc Cert.ReluRefIdeal.main_arg4) = m ((c.tc : Thread Cert.ReluRefIdeal.nD Cert.ReluRefIdeal.τ).loc Cert.ReluRefIdeal.main_arg4)
      ∧ r.2.mem ((c.tc : Thread Cert.ReluRefIdeal.nD Cert.ReluRefIdeal.τ).loc Cert.ReluRefIdeal.main_arg5) = m ((c.tc : Thread Cert.ReluRefIdeal.nD Cert.ReluRefIdeal.τ).loc Cert.ReluRefIdeal.main_arg5)
      ∧ r.2.mem ((c.tc : Thread Cert.ReluRefIdeal.nD Cert.ReluRefIdeal.τ).loc Cert.ReluRefIdeal.main_arg6) = m ((c.tc : Thread Cert.ReluRefIdeal.nD Cert.ReluRefIdeal.τ).loc Cert.ReluRefIdeal.main_arg6)
      ∧ r.2.mem ((c.tc : Thread Cert.ReluRefIdeal.nD Cert.ReluRefIdeal.τ).loc Cert.ReluRefIdeal.main_arg7) = m ((c.tc : Thread Cert.ReluRefIdeal.nD Cert.ReluRefIdeal.τ).loc Cert.ReluRefIdeal.main_arg7)
      ∧ r.2.mem ((c.tc : Thread Cert.ReluRefIdeal.nD Cert.ReluRefIdeal.τ).loc Cert.ReluRefIdeal.main_arg8) = m ((c.tc : Thread Cert.ReluRefIdeal.nD Cert.ReluRefIdeal.τ).loc Cert.ReluRefIdeal.main_arg8)
      ∧ r.2.mem ((c.tc : Thread Cert.ReluRefIdeal.nD Cert.ReluRefIdeal.τ).loc Cert.ReluRefIdeal.main_arg9) = m ((c.tc : Thread Cert.ReluRefIdeal.nD Cert.ReluRefIdeal.τ).loc Cert.ReluRefIdeal.main_arg9)
      ∧ r.2.mem ((c.tc : Thread Cert.ReluRefIdeal.nD Cert.ReluRefIdeal.τ).loc Cert.ReluRefIdeal.main_arg10) = m ((c.tc : Thread Cert.ReluRefIdeal.nD Cert.ReluRefIdeal.τ).loc Cert.ReluRefIdeal.main_arg10))
      ∧ r.2.sem = fun _ => 0)

def quiescent_ReluRefIdeal_pre_finite_relu [hReluRefIdeal : Cert.ReluRefIdeal.Facts] [hPre_finite_relu : Cert.Pre_finite_relu.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal_finite_relu m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2)
      ∧ r.2.mem ((c.tc : Thread Cert.ReluRefIdeal.nD Cert.ReluRefIdeal.τ).loc Cert.ReluRefIdeal.main_arg3) = m ((c.tc : Thread Cert.ReluRefIdeal.nD Cert.ReluRefIdeal.τ).loc Cert.ReluRefIdeal.main_arg3)
      ∧ r.2.mem ((c.tc : Thread Cert.ReluRefIdeal.nD Cert.ReluRefIdeal.τ).loc Cert.ReluRefIdeal.main_arg4) = m ((c.tc : Thread Cert.ReluRefIdeal.nD Cert.ReluRefIdeal.τ).loc Cert.ReluRefIdeal.main_arg4)
      ∧ r.2.mem ((c.tc : Thread Cert.ReluRefIdeal.nD Cert.ReluRefIdeal.τ).loc Cert.ReluRefIdeal.main_arg5) = m ((c.tc : Thread Cert.ReluRefIdeal.nD Cert.ReluRefIdeal.τ).loc Cert.ReluRefIdeal.main_arg5)
      ∧ r.2.mem ((c.tc : Thread Cert.ReluRefIdeal.nD Cert.ReluRefIdeal.τ).loc Cert.ReluRefIdeal.main_arg6) = m ((c.tc : Thread Cert.ReluRefIdeal.nD Cert.ReluRefIdeal.τ).loc Cert.ReluRefIdeal.main_arg6)
      ∧ r.2.mem ((c.tc : Thread Cert.ReluRefIdeal.nD Cert.ReluRefIdeal.τ).loc Cert.ReluRefIdeal.main_arg7) = m ((c.tc : Thread Cert.ReluRefIdeal.nD Cert.ReluRefIdeal.τ).loc Cert.ReluRefIdeal.main_arg7)
      ∧ r.2.mem ((c.tc : Thread Cert.ReluRefIdeal.nD Cert.ReluRefIdeal.τ).loc Cert.ReluRefIdeal.main_arg8) = m ((c.tc : Thread Cert.ReluRefIdeal.nD Cert.ReluRefIdeal.τ).loc Cert.ReluRefIdeal.main_arg8)
      ∧ r.2.mem ((c.tc : Thread Cert.ReluRefIdeal.nD Cert.ReluRefIdeal.τ).loc Cert.ReluRefIdeal.main_arg9) = m ((c.tc : Thread Cert.ReluRefIdeal.nD Cert.ReluRefIdeal.τ).loc Cert.ReluRefIdeal.main_arg9)
      ∧ r.2.mem ((c.tc : Thread Cert.ReluRefIdeal.nD Cert.ReluRefIdeal.τ).loc Cert.ReluRefIdeal.main_arg10) = m ((c.tc : Thread Cert.ReluRefIdeal.nD Cert.ReluRefIdeal.τ).loc Cert.ReluRefIdeal.main_arg10))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5)
      ∧ r.2.mem ((c.tc : Thread Cert.Mod.nD Cert.Mod.τ).loc Cert.Mod.main_arg6) = m ((c.tc : Thread Cert.Mod.nD Cert.Mod.τ).loc Cert.Mod.main_arg6)
      ∧ r.2.mem ((c.tc : Thread Cert.Mod.nD Cert.Mod.τ).loc Cert.Mod.main_arg7) = m ((c.tc : Thread Cert.Mod.nD Cert.Mod.τ).loc Cert.Mod.main_arg7)
      ∧ r.2.mem ((c.tc : Thread Cert.Mod.nD Cert.Mod.τ).loc Cert.Mod.main_arg8) = m ((c.tc : Thread Cert.Mod.nD Cert.Mod.τ).loc Cert.Mod.main_arg8))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
      ∧ r.2.mem ((c.tc : Thread Cert.ModIdeal.nD Cert.ModIdeal.τ).loc Cert.ModIdeal.main_arg6) = m ((c.tc : Thread Cert.ModIdeal.nD Cert.ModIdeal.τ).loc Cert.ModIdeal.main_arg6)
      ∧ r.2.mem ((c.tc : Thread Cert.ModIdeal.nD Cert.ModIdeal.τ).loc Cert.ModIdeal.main_arg7) = m ((c.tc : Thread Cert.ModIdeal.nD Cert.ModIdeal.τ).loc Cert.ModIdeal.main_arg7)
      ∧ r.2.mem ((c.tc : Thread Cert.ModIdeal.nD Cert.ModIdeal.τ).loc Cert.ModIdeal.main_arg8) = m ((c.tc : Thread Cert.ModIdeal.nD Cert.ModIdeal.τ).loc Cert.ModIdeal.main_arg8))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4)
      ∧ r.2.mem ((c.tc : Thread Cert.ModRefIdeal.nD Cert.ModRefIdeal.τ).loc Cert.ModRefIdeal.main_arg5) = m ((c.tc : Thread Cert.ModRefIdeal.nD Cert.ModRefIdeal.τ).loc Cert.ModRefIdeal.main_arg5)
      ∧ r.2.mem ((c.tc : Thread Cert.ModRefIdeal.nD Cert.ModRefIdeal.τ).loc Cert.ModRefIdeal.main_arg6) = m ((c.tc : Thread Cert.ModRefIdeal.nD Cert.ModRefIdeal.τ).loc Cert.ModRefIdeal.main_arg6)
      ∧ r.2.mem ((c.tc : Thread Cert.ModRefIdeal.nD Cert.ModRefIdeal.τ).loc Cert.ModRefIdeal.main_arg7) = m ((c.tc : Thread Cert.ModRefIdeal.nD Cert.ModRefIdeal.τ).loc Cert.ModRefIdeal.main_arg7)
      ∧ r.2.mem ((c.tc : Thread Cert.ModRefIdeal.nD Cert.ModRefIdeal.τ).loc Cert.ModRefIdeal.main_arg8) = m ((c.tc : Thread Cert.ModRefIdeal.nD Cert.ModRefIdeal.τ).loc Cert.ModRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v16) = v0 c
          ∧ r.2.mem ((c.tc : Thread Cert.GateRefIdeal.nD Cert.GateRefIdeal.τ).loc Cert.GateRefIdeal.main_v18) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)) (v2 : (c : Dev Cert.MixIdeal.nD) → Buf (Elt Ideal) ((c.tc : Thread Cert.MixIdeal.nD Cert.MixIdeal.τ).loc Cert.MixIdeal.main_v2_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v81) = v0 c
          ∧ r.2.mem ((c.tc : Thread Cert.MixRefIdeal.nD Cert.MixRefIdeal.τ).loc Cert.MixRefIdeal.main_v60) = v1 c
          ∧ r.2.mem ((c.tc : Thread Cert.MixRefIdeal.nD Cert.MixRefIdeal.τ).loc Cert.MixRefIdeal.main_v84) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)) (v4 : (c : Dev Cert.LossIdeal.nD) → Buf (Elt Ideal) ((c.tc : Thread Cert.LossIdeal.nD Cert.LossIdeal.τ).loc Cert.LossIdeal.main_v5_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_v5_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v121) = v0 c
          ∧ r.2.mem ((c.tc : Thread Cert.LossRefIdeal.nD Cert.LossRefIdeal.τ).loc Cert.LossRefIdeal.main_v122) = v1 c
          ∧ r.2.mem ((c.tc : Thread Cert.LossRefIdeal.nD Cert.LossRefIdeal.τ).loc Cert.LossRefIdeal.main_v123) = v2 c
          ∧ r.2.mem ((c.tc : Thread Cert.LossRefIdeal.nD Cert.LossRefIdeal.τ).loc Cert.LossRefIdeal.main_v116) = v3 c
          ∧ r.2.mem ((c.tc : Thread Cert.LossRefIdeal.nD Cert.LossRefIdeal.τ).loc Cert.LossRefIdeal.main_v120) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)
      ∧ m' ((c.tc : Thread Cert.JoinRefIdeal.nD Cert.JoinRefIdeal.τ).loc Cert.JoinRefIdeal.main_arg8) = m ((c.tc : Thread Cert.JoinIdeal.nD Cert.JoinIdeal.τ).loc Cert.JoinIdeal.main_arg8)
      ∧ m' ((c.tc : Thread Cert.JoinRefIdeal.nD Cert.JoinRefIdeal.τ).loc Cert.JoinRefIdeal.main_arg9) = m ((c.tc : Thread Cert.JoinIdeal.nD Cert.JoinIdeal.τ).loc Cert.JoinIdeal.main_arg9)
      ∧ m' ((c.tc : Thread Cert.JoinRefIdeal.nD Cert.JoinRefIdeal.τ).loc Cert.JoinRefIdeal.main_arg10) = m ((c.tc : Thread Cert.JoinIdeal.nD Cert.JoinIdeal.τ).loc Cert.JoinIdeal.main_arg10)) →
    ∃ (v0 : (c : Dev Cert.JoinIdeal.nD) → Buf (Elt Ideal) ((c.tc : Thread Cert.JoinIdeal.nD Cert.JoinIdeal.τ).loc Cert.JoinIdeal.main_v5_0)) (v1 : (c : Dev Cert.JoinIdeal.nD) → Buf (Elt Ideal) ((c.tc : Thread Cert.JoinIdeal.nD Cert.JoinIdeal.τ).loc Cert.JoinIdeal.main_v5_1)) (v2 : (c : Dev Cert.JoinIdeal.nD) → Buf (Elt Ideal) ((c.tc : Thread Cert.JoinIdeal.nD Cert.JoinIdeal.τ).loc Cert.JoinIdeal.main_v5_2)) (v3 : (c : Dev Cert.JoinIdeal.nD) → Buf (Elt Ideal) ((c.tc : Thread Cert.JoinIdeal.nD Cert.JoinIdeal.τ).loc Cert.JoinIdeal.main_v5_3)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v5_0) = v0 c
          ∧ r.2.mem ((c.tc : Thread Cert.JoinIdeal.nD Cert.JoinIdeal.τ).loc Cert.JoinIdeal.main_v5_1) = v1 c
          ∧ r.2.mem ((c.tc : Thread Cert.JoinIdeal.nD Cert.JoinIdeal.τ).loc Cert.JoinIdeal.main_v5_2) = v2 c
          ∧ r.2.mem ((c.tc : Thread Cert.JoinIdeal.nD Cert.JoinIdeal.τ).loc Cert.JoinIdeal.main_v5_3) = v3 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
          ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
          ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v41) = v0 c
          ∧ r.2.mem ((c.tc : Thread Cert.JoinRefIdeal.nD Cert.JoinRefIdeal.τ).loc Cert.JoinRefIdeal.main_v30) = v1 c
          ∧ r.2.mem ((c.tc : Thread Cert.JoinRefIdeal.nD Cert.JoinRefIdeal.τ).loc Cert.JoinRefIdeal.main_v40) = v2 c
          ∧ r.2.mem ((c.tc : Thread Cert.JoinRefIdeal.nD Cert.JoinRefIdeal.τ).loc Cert.JoinRefIdeal.main_v67) = v3 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7)
          ∧ r.2.mem ((c.tc : Thread Cert.JoinRefIdeal.nD Cert.JoinRefIdeal.τ).loc Cert.JoinRefIdeal.main_arg8) = m' ((c.tc : Thread Cert.JoinRefIdeal.nD Cert.JoinRefIdeal.τ).loc Cert.JoinRefIdeal.main_arg8)
          ∧ r.2.mem ((c.tc : Thread Cert.JoinRefIdeal.nD Cert.JoinRefIdeal.τ).loc Cert.JoinRefIdeal.main_arg9) = m' ((c.tc : Thread Cert.JoinRefIdeal.nD Cert.JoinRefIdeal.τ).loc Cert.JoinRefIdeal.main_arg9)
          ∧ r.2.mem ((c.tc : Thread Cert.JoinRefIdeal.nD Cert.JoinRefIdeal.τ).loc Cert.JoinRefIdeal.main_arg10) = m' ((c.tc : Thread Cert.JoinRefIdeal.nD Cert.JoinRefIdeal.τ).loc Cert.JoinRefIdeal.main_arg10))

def preserves_Relu_ReluIdeal : Prop :=
  True

def algebraic_ReluIdeal_ReluRefIdeal_pre_finite_relu [hReluIdeal : Cert.ReluIdeal.Facts] [hReluRefIdeal : Cert.ReluRefIdeal.Facts] [hPre_finite_relu : Cert.Pre_finite_relu.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal_finite_relu m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)
      ∧ m' ((c.tc : Thread Cert.ReluRefIdeal.nD Cert.ReluRefIdeal.τ).loc Cert.ReluRefIdeal.main_arg1) = m ((c.tc : Thread Cert.ReluIdeal.nD Cert.ReluIdeal.τ).loc Cert.ReluIdeal.main_arg1)
      ∧ m' ((c.tc : Thread Cert.ReluRefIdeal.nD Cert.ReluRefIdeal.τ).loc Cert.ReluRefIdeal.main_arg2) = m ((c.tc : Thread Cert.ReluIdeal.nD Cert.ReluIdeal.τ).loc Cert.ReluIdeal.main_arg2)
      ∧ m' ((c.tc : Thread Cert.ReluRefIdeal.nD Cert.ReluRefIdeal.τ).loc Cert.ReluRefIdeal.main_arg3) = m ((c.tc : Thread Cert.ReluIdeal.nD Cert.ReluIdeal.τ).loc Cert.ReluIdeal.main_arg3)
      ∧ m' ((c.tc : Thread Cert.ReluRefIdeal.nD Cert.ReluRefIdeal.τ).loc Cert.ReluRefIdeal.main_arg4) = m ((c.tc : Thread Cert.ReluIdeal.nD Cert.ReluIdeal.τ).loc Cert.ReluIdeal.main_arg4)
      ∧ m' ((c.tc : Thread Cert.ReluRefIdeal.nD Cert.ReluRefIdeal.τ).loc Cert.ReluRefIdeal.main_arg5) = m ((c.tc : Thread Cert.ReluIdeal.nD Cert.ReluIdeal.τ).loc Cert.ReluIdeal.main_arg5)
      ∧ m' ((c.tc : Thread Cert.ReluRefIdeal.nD Cert.ReluRefIdeal.τ).loc Cert.ReluRefIdeal.main_arg6) = m ((c.tc : Thread Cert.ReluIdeal.nD Cert.ReluIdeal.τ).loc Cert.ReluIdeal.main_arg6)
      ∧ m' ((c.tc : Thread Cert.ReluRefIdeal.nD Cert.ReluRefIdeal.τ).loc Cert.ReluRefIdeal.main_arg7) = m ((c.tc : Thread Cert.ReluIdeal.nD Cert.ReluIdeal.τ).loc Cert.ReluIdeal.main_arg7)
      ∧ m' ((c.tc : Thread Cert.ReluRefIdeal.nD Cert.ReluRefIdeal.τ).loc Cert.ReluRefIdeal.main_arg8) = m ((c.tc : Thread Cert.ReluIdeal.nD Cert.ReluIdeal.τ).loc Cert.ReluIdeal.main_arg8)
      ∧ m' ((c.tc : Thread Cert.ReluRefIdeal.nD Cert.ReluRefIdeal.τ).loc Cert.ReluRefIdeal.main_arg9) = m ((c.tc : Thread Cert.ReluIdeal.nD Cert.ReluIdeal.τ).loc Cert.ReluIdeal.main_arg9)
      ∧ m' ((c.tc : Thread Cert.ReluRefIdeal.nD Cert.ReluRefIdeal.τ).loc Cert.ReluRefIdeal.main_arg10) = m ((c.tc : Thread Cert.ReluIdeal.nD Cert.ReluIdeal.τ).loc Cert.ReluIdeal.main_arg10)) →
    ∃ (v0 : (c : Dev Cert.ReluIdeal.nD) → Buf (Elt Ideal) ((c.tc : Thread Cert.ReluIdeal.nD Cert.ReluIdeal.τ).loc Cert.ReluIdeal.main_v58_0)) (v1 : (c : Dev Cert.ReluIdeal.nD) → Buf (Elt Ideal) ((c.tc : Thread Cert.ReluIdeal.nD Cert.ReluIdeal.τ).loc Cert.ReluIdeal.main_v58_1)) (v2 : (c : Dev Cert.ReluIdeal.nD) → Buf (Elt Ideal) ((c.tc : Thread Cert.ReluIdeal.nD Cert.ReluIdeal.τ).loc Cert.ReluIdeal.main_v58_2)) (v3 : (c : Dev Cert.ReluIdeal.nD) → Buf (Elt Ideal) ((c.tc : Thread Cert.ReluIdeal.nD Cert.ReluIdeal.τ).loc Cert.ReluIdeal.main_v58_3)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v58_0) = v0 c
          ∧ r.2.mem ((c.tc : Thread Cert.ReluIdeal.nD Cert.ReluIdeal.τ).loc Cert.ReluIdeal.main_v58_1) = v1 c
          ∧ r.2.mem ((c.tc : Thread Cert.ReluIdeal.nD Cert.ReluIdeal.τ).loc Cert.ReluIdeal.main_v58_2) = v2 c
          ∧ r.2.mem ((c.tc : Thread Cert.ReluIdeal.nD Cert.ReluIdeal.τ).loc Cert.ReluIdeal.main_v58_3) = v3 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
          ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
          ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2)
          ∧ r.2.mem ((c.tc : Thread Cert.ReluIdeal.nD Cert.ReluIdeal.τ).loc Cert.ReluIdeal.main_arg3) = m ((c.tc : Thread Cert.ReluIdeal.nD Cert.ReluIdeal.τ).loc Cert.ReluIdeal.main_arg3)
          ∧ r.2.mem ((c.tc : Thread Cert.ReluIdeal.nD Cert.ReluIdeal.τ).loc Cert.ReluIdeal.main_arg4) = m ((c.tc : Thread Cert.ReluIdeal.nD Cert.ReluIdeal.τ).loc Cert.ReluIdeal.main_arg4)
          ∧ r.2.mem ((c.tc : Thread Cert.ReluIdeal.nD Cert.ReluIdeal.τ).loc Cert.ReluIdeal.main_arg5) = m ((c.tc : Thread Cert.ReluIdeal.nD Cert.ReluIdeal.τ).loc Cert.ReluIdeal.main_arg5)
          ∧ r.2.mem ((c.tc : Thread Cert.ReluIdeal.nD Cert.ReluIdeal.τ).loc Cert.ReluIdeal.main_arg6) = m ((c.tc : Thread Cert.ReluIdeal.nD Cert.ReluIdeal.τ).loc Cert.ReluIdeal.main_arg6)
          ∧ r.2.mem ((c.tc : Thread Cert.ReluIdeal.nD Cert.ReluIdeal.τ).loc Cert.ReluIdeal.main_arg7) = m ((c.tc : Thread Cert.ReluIdeal.nD Cert.ReluIdeal.τ).loc Cert.ReluIdeal.main_arg7)
          ∧ r.2.mem ((c.tc : Thread Cert.ReluIdeal.nD Cert.ReluIdeal.τ).loc Cert.ReluIdeal.main_arg8) = m ((c.tc : Thread Cert.ReluIdeal.nD Cert.ReluIdeal.τ).loc Cert.ReluIdeal.main_arg8)
          ∧ r.2.mem ((c.tc : Thread Cert.ReluIdeal.nD Cert.ReluIdeal.τ).loc Cert.ReluIdeal.main_arg9) = m ((c.tc : Thread Cert.ReluIdeal.nD Cert.ReluIdeal.τ).loc Cert.ReluIdeal.main_arg9)
          ∧ r.2.mem ((c.tc : Thread Cert.ReluIdeal.nD Cert.ReluIdeal.τ).loc Cert.ReluIdeal.main_arg10) = m ((c.tc : Thread Cert.ReluIdeal.nD Cert.ReluIdeal.τ).loc Cert.ReluIdeal.main_arg10))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v129) = v0 c
          ∧ r.2.mem ((c.tc : Thread Cert.ReluRefIdeal.nD Cert.ReluRefIdeal.τ).loc Cert.ReluRefIdeal.main_v123) = v1 c
          ∧ r.2.mem ((c.tc : Thread Cert.ReluRefIdeal.nD Cert.ReluRefIdeal.τ).loc Cert.ReluRefIdeal.main_v130) = v2 c
          ∧ r.2.mem ((c.tc : Thread Cert.ReluRefIdeal.nD Cert.ReluRefIdeal.τ).loc Cert.ReluRefIdeal.main_v128) = v3 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2)
          ∧ r.2.mem ((c.tc : Thread Cert.ReluRefIdeal.nD Cert.ReluRefIdeal.τ).loc Cert.ReluRefIdeal.main_arg3) = m' ((c.tc : Thread Cert.ReluRefIdeal.nD Cert.ReluRefIdeal.τ).loc Cert.ReluRefIdeal.main_arg3)
          ∧ r.2.mem ((c.tc : Thread Cert.ReluRefIdeal.nD Cert.ReluRefIdeal.τ).loc Cert.ReluRefIdeal.main_arg4) = m' ((c.tc : Thread Cert.ReluRefIdeal.nD Cert.ReluRefIdeal.τ).loc Cert.ReluRefIdeal.main_arg4)
          ∧ r.2.mem ((c.tc : Thread Cert.ReluRefIdeal.nD Cert.ReluRefIdeal.τ).loc Cert.ReluRefIdeal.main_arg5) = m' ((c.tc : Thread Cert.ReluRefIdeal.nD Cert.ReluRefIdeal.τ).loc Cert.ReluRefIdeal.main_arg5)
          ∧ r.2.mem ((c.tc : Thread Cert.ReluRefIdeal.nD Cert.ReluRefIdeal.τ).loc Cert.ReluRefIdeal.main_arg6) = m' ((c.tc : Thread Cert.ReluRefIdeal.nD Cert.ReluRefIdeal.τ).loc Cert.ReluRefIdeal.main_arg6)
          ∧ r.2.mem ((c.tc : Thread Cert.ReluRefIdeal.nD Cert.ReluRefIdeal.τ).loc Cert.ReluRefIdeal.main_arg7) = m' ((c.tc : Thread Cert.ReluRefIdeal.nD Cert.ReluRefIdeal.τ).loc Cert.ReluRefIdeal.main_arg7)
          ∧ r.2.mem ((c.tc : Thread Cert.ReluRefIdeal.nD Cert.ReluRefIdeal.τ).loc Cert.ReluRefIdeal.main_arg8) = m' ((c.tc : Thread Cert.ReluRefIdeal.nD Cert.ReluRefIdeal.τ).loc Cert.ReluRefIdeal.main_arg8)
          ∧ r.2.mem ((c.tc : Thread Cert.ReluRefIdeal.nD Cert.ReluRefIdeal.τ).loc Cert.ReluRefIdeal.main_arg9) = m' ((c.tc : Thread Cert.ReluRefIdeal.nD Cert.ReluRefIdeal.τ).loc Cert.ReluRefIdeal.main_arg9)
          ∧ r.2.mem ((c.tc : Thread Cert.ReluRefIdeal.nD Cert.ReluRefIdeal.τ).loc Cert.ReluRefIdeal.main_arg10) = m' ((c.tc : Thread Cert.ReluRefIdeal.nD Cert.ReluRefIdeal.τ).loc Cert.ReluRefIdeal.main_arg10))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)
      ∧ m' ((c.tc : Thread Cert.ModRefIdeal.nD Cert.ModRefIdeal.τ).loc Cert.ModRefIdeal.main_arg5) = m ((c.tc : Thread Cert.ModIdeal.nD Cert.ModIdeal.τ).loc Cert.ModIdeal.main_arg5)
      ∧ m' ((c.tc : Thread Cert.ModRefIdeal.nD Cert.ModRefIdeal.τ).loc Cert.ModRefIdeal.main_arg6) = m ((c.tc : Thread Cert.ModIdeal.nD Cert.ModIdeal.τ).loc Cert.ModIdeal.main_arg6)
      ∧ m' ((c.tc : Thread Cert.ModRefIdeal.nD Cert.ModRefIdeal.τ).loc Cert.ModRefIdeal.main_arg7) = m ((c.tc : Thread Cert.ModIdeal.nD Cert.ModIdeal.τ).loc Cert.ModIdeal.main_arg7)
      ∧ m' ((c.tc : Thread Cert.ModRefIdeal.nD Cert.ModRefIdeal.τ).loc Cert.ModRefIdeal.main_arg8) = m ((c.tc : Thread Cert.ModIdeal.nD Cert.ModIdeal.τ).loc Cert.ModIdeal.main_arg8)) →
    ∃ (v0 : (c : Dev Cert.ModIdeal.nD) → Buf (Elt Ideal) ((c.tc : Thread Cert.ModIdeal.nD Cert.ModIdeal.τ).loc Cert.ModIdeal.main_v7_0)) (v1 : (c : Dev Cert.ModIdeal.nD) → Buf (Elt Ideal) ((c.tc : Thread Cert.ModIdeal.nD Cert.ModIdeal.τ).loc Cert.ModIdeal.main_v7_1)) (v2 : (c : Dev Cert.ModIdeal.nD) → Buf (Elt Ideal) ((c.tc : Thread Cert.ModIdeal.nD Cert.ModIdeal.τ).loc Cert.ModIdeal.main_v7_2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v7_0) = v0 c
          ∧ r.2.mem ((c.tc : Thread Cert.ModIdeal.nD Cert.ModIdeal.τ).loc Cert.ModIdeal.main_v7_1) = v1 c
          ∧ r.2.mem ((c.tc : Thread Cert.ModIdeal.nD Cert.ModIdeal.τ).loc Cert.ModIdeal.main_v7_2) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5)
          ∧ r.2.mem ((c.tc : Thread Cert.ModIdeal.nD Cert.ModIdeal.τ).loc Cert.ModIdeal.main_arg6) = m ((c.tc : Thread Cert.ModIdeal.nD Cert.ModIdeal.τ).loc Cert.ModIdeal.main_arg6)
          ∧ r.2.mem ((c.tc : Thread Cert.ModIdeal.nD Cert.ModIdeal.τ).loc Cert.ModIdeal.main_arg7) = m ((c.tc : Thread Cert.ModIdeal.nD Cert.ModIdeal.τ).loc Cert.ModIdeal.main_arg7)
          ∧ r.2.mem ((c.tc : Thread Cert.ModIdeal.nD Cert.ModIdeal.τ).loc Cert.ModIdeal.main_arg8) = m ((c.tc : Thread Cert.ModIdeal.nD Cert.ModIdeal.τ).loc Cert.ModIdeal.main_arg8))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v36) = v0 c
          ∧ r.2.mem ((c.tc : Thread Cert.ModRefIdeal.nD Cert.ModRefIdeal.τ).loc Cert.ModRefIdeal.main_v29) = v1 c
          ∧ r.2.mem ((c.tc : Thread Cert.ModRefIdeal.nD Cert.ModRefIdeal.τ).loc Cert.ModRefIdeal.main_v34) = v2 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4)
          ∧ r.2.mem ((c.tc : Thread Cert.ModRefIdeal.nD Cert.ModRefIdeal.τ).loc Cert.ModRefIdeal.main_arg5) = m' ((c.tc : Thread Cert.ModRefIdeal.nD Cert.ModRefIdeal.τ).loc Cert.ModRefIdeal.main_arg5)
          ∧ r.2.mem ((c.tc : Thread Cert.ModRefIdeal.nD Cert.ModRefIdeal.τ).loc Cert.ModRefIdeal.main_arg6) = m' ((c.tc : Thread Cert.ModRefIdeal.nD Cert.ModRefIdeal.τ).loc Cert.ModRefIdeal.main_arg6)
          ∧ r.2.mem ((c.tc : Thread Cert.ModRefIdeal.nD Cert.ModRefIdeal.τ).loc Cert.ModRefIdeal.main_arg7) = m' ((c.tc : Thread Cert.ModRefIdeal.nD Cert.ModRefIdeal.τ).loc Cert.ModRefIdeal.main_arg7)
          ∧ r.2.mem ((c.tc : Thread Cert.ModRefIdeal.nD Cert.ModRefIdeal.τ).loc Cert.ModRefIdeal.main_arg8) = m' ((c.tc : Thread Cert.ModRefIdeal.nD Cert.ModRefIdeal.τ).loc Cert.ModRefIdeal.main_arg8))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v1_0)) (v1 : (c : Dev Cert.AttnIdeal.nD) → Buf (Elt Ideal) ((c.tc : Thread Cert.AttnIdeal.nD Cert.AttnIdeal.τ).loc Cert.AttnIdeal.main_v1_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = v0 c
          ∧ r.2.mem ((c.tc : Thread Cert.AttnIdeal.nD Cert.AttnIdeal.τ).loc Cert.AttnIdeal.main_v1_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v39) = v0 c
          ∧ r.2.mem ((c.tc : Thread Cert.AttnRefIdeal.nD Cert.AttnRefIdeal.τ).loc Cert.AttnRefIdeal.main_v41) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Fox_FoxIdeal : Prop :=
  True

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v37_0)) (v1 : (c : Dev Cert.FoxIdeal.nD) → Buf (Elt Ideal) ((c.tc : Thread Cert.FoxIdeal.nD Cert.FoxIdeal.τ).loc Cert.FoxIdeal.main_v37_1)) (v2 : (c : Dev Cert.FoxIdeal.nD) → Buf (Elt Ideal) ((c.tc : Thread Cert.FoxIdeal.nD Cert.FoxIdeal.τ).loc Cert.FoxIdeal.main_v37_2)) (v3 : (c : Dev Cert.FoxIdeal.nD) → Buf (Elt Ideal) ((c.tc : Thread Cert.FoxIdeal.nD Cert.FoxIdeal.τ).loc Cert.FoxIdeal.main_v37_3)) (v4 : (c : Dev Cert.FoxIdeal.nD) → Buf (Elt Ideal) ((c.tc : Thread Cert.FoxIdeal.nD Cert.FoxIdeal.τ).loc Cert.FoxIdeal.main_v37_4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v37_0) = v0 c
          ∧ r.2.mem ((c.tc : Thread Cert.FoxIdeal.nD Cert.FoxIdeal.τ).loc Cert.FoxIdeal.main_v37_1) = v1 c
          ∧ r.2.mem ((c.tc : Thread Cert.FoxIdeal.nD Cert.FoxIdeal.τ).loc Cert.FoxIdeal.main_v37_2) = v2 c
          ∧ r.2.mem ((c.tc : Thread Cert.FoxIdeal.nD Cert.FoxIdeal.τ).loc Cert.FoxIdeal.main_v37_3) = v3 c
          ∧ r.2.mem ((c.tc : Thread Cert.FoxIdeal.nD Cert.FoxIdeal.τ).loc Cert.FoxIdeal.main_v37_4) = v4 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v89) = v0 c
          ∧ r.2.mem ((c.tc : Thread Cert.FoxRefIdeal.nD Cert.FoxRefIdeal.τ).loc Cert.FoxRefIdeal.main_v90) = v1 c
          ∧ r.2.mem ((c.tc : Thread Cert.FoxRefIdeal.nD Cert.FoxRefIdeal.τ).loc Cert.FoxRefIdeal.main_v91) = v2 c
          ∧ r.2.mem ((c.tc : Thread Cert.FoxRefIdeal.nD Cert.FoxRefIdeal.τ).loc Cert.FoxRefIdeal.main_v88) = v3 c
          ∧ r.2.mem ((c.tc : Thread Cert.FoxRefIdeal.nD Cert.FoxRefIdeal.τ).loc Cert.FoxRefIdeal.main_v93) = v4 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Opt_OptIdeal : Prop :=
  True

def algebraic_OptIdeal_OptRefIdeal [hOptIdeal : Cert.OptIdeal.Facts] [hOptRefIdeal : Cert.OptRefIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptIdeal m →
    (∀ c : Dev Cert.OptIdeal.nD,
      m' ((c.tc : Thread Cert.OptRefIdeal.nD Cert.OptRefIdeal.τ).loc Cert.OptRefIdeal.main_arg0) = m ((c.tc : Thread Cert.OptIdeal.nD Cert.OptIdeal.τ).loc Cert.OptIdeal.main_arg0)
      ∧ m' ((c.tc : Thread Cert.OptRefIdeal.nD Cert.OptRefIdeal.τ).loc Cert.OptRefIdeal.main_arg1) = m ((c.tc : Thread Cert.OptIdeal.nD Cert.OptIdeal.τ).loc Cert.OptIdeal.main_arg1)
      ∧ m' ((c.tc : Thread Cert.OptRefIdeal.nD Cert.OptRefIdeal.τ).loc Cert.OptRefIdeal.main_arg2) = m ((c.tc : Thread Cert.OptIdeal.nD Cert.OptIdeal.τ).loc Cert.OptIdeal.main_arg2)
      ∧ m' ((c.tc : Thread Cert.OptRefIdeal.nD Cert.OptRefIdeal.τ).loc Cert.OptRefIdeal.main_arg3) = m ((c.tc : Thread Cert.OptIdeal.nD Cert.OptIdeal.τ).loc Cert.OptIdeal.main_arg3)) →
    ∃ (v0 : (c : Dev Cert.OptIdeal.nD) → Buf (Elt Ideal) ((c.tc : Thread Cert.OptIdeal.nD Cert.OptIdeal.τ).loc Cert.OptIdeal.main_v0_0)) (v1 : (c : Dev Cert.OptIdeal.nD) → Buf (Elt Ideal) ((c.tc : Thread Cert.OptIdeal.nD Cert.OptIdeal.τ).loc Cert.OptIdeal.main_v0_1)) (v2 : (c : Dev Cert.OptIdeal.nD) → Buf (Elt Ideal) ((c.tc : Thread Cert.OptIdeal.nD Cert.OptIdeal.τ).loc Cert.OptIdeal.main_v0_2)) (v3 : (c : Dev Cert.OptIdeal.nD) → Buf (Elt Ideal) ((c.tc : Thread Cert.OptIdeal.nD Cert.OptIdeal.τ).loc Cert.OptIdeal.main_v0_3)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v0_0) = v0 c
          ∧ r.2.mem ((c.tc : Thread Cert.OptIdeal.nD Cert.OptIdeal.τ).loc Cert.OptIdeal.main_v0_1) = v1 c
          ∧ r.2.mem ((c.tc : Thread Cert.OptIdeal.nD Cert.OptIdeal.τ).loc Cert.OptIdeal.main_v0_2) = v2 c
          ∧ r.2.mem ((c.tc : Thread Cert.OptIdeal.nD Cert.OptIdeal.τ).loc Cert.OptIdeal.main_v0_3) = v3 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v1) = v0 c
          ∧ r.2.mem ((c.tc : Thread Cert.OptRefIdeal.nD Cert.OptRefIdeal.τ).loc Cert.OptRefIdeal.main_v25) = v1 c
          ∧ r.2.mem ((c.tc : Thread Cert.OptRefIdeal.nD Cert.OptRefIdeal.τ).loc Cert.OptRefIdeal.main_v6) = v2 c
          ∧ r.2.mem ((c.tc : Thread Cert.OptRefIdeal.nD Cert.OptRefIdeal.τ).loc Cert.OptRefIdeal.main_v12) = v3 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3))

def Claim : Prop :=
  ∃ (hGate : Cert.Gate.Facts) (hGateIdeal : Cert.GateIdeal.Facts) (hGateRefIdeal : Cert.GateRefIdeal.Facts) (hMix : Cert.Mix.Facts) (hMixIdeal : Cert.MixIdeal.Facts) (hMixRefIdeal : Cert.MixRefIdeal.Facts) (hLoss : Cert.Loss.Facts) (hLossIdeal : Cert.LossIdeal.Facts) (hLossRefIdeal : Cert.LossRefIdeal.Facts) (hJoin : Cert.Join.Facts) (hJoinIdeal : Cert.JoinIdeal.Facts) (hJoinRefIdeal : Cert.JoinRefIdeal.Facts) (hRelu : Cert.Relu.Facts) (hReluIdeal : Cert.ReluIdeal.Facts) (hReluRefIdeal : Cert.ReluRefIdeal.Facts) (hMod : Cert.Mod.Facts) (hModIdeal : Cert.ModIdeal.Facts) (hModRefIdeal : Cert.ModRefIdeal.Facts) (hAttn : Cert.Attn.Facts) (hAttnIdeal : Cert.AttnIdeal.Facts) (hAttnRefIdeal : Cert.AttnRefIdeal.Facts) (hFox : Cert.Fox.Facts) (hFoxIdeal : Cert.FoxIdeal.Facts) (hFoxRefIdeal : Cert.FoxRefIdeal.Facts) (hOpt : Cert.Opt.Facts) (hOptIdeal : Cert.OptIdeal.Facts) (hOptRefIdeal : Cert.OptRefIdeal.Facts) (hPre_finite_mix : Cert.Pre_finite_mix.Facts) (hPre_finite_loss : Cert.Pre_finite_loss.Facts) (hPre_finite_relu : Cert.Pre_finite_relu.Facts) (hPre_finite_attn : Cert.Pre_finite_attn.Facts) (hPre_finite_fox : Cert.Pre_finite_fox.Facts),
    quiescent_Gate (hGate := hGate)
    ∧ quiescent_GateIdeal (hGateIdeal := hGateIdeal)
    ∧ quiescent_GateRefIdeal (hGateRefIdeal := hGateRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Join (hJoin := hJoin)
    ∧ quiescent_JoinIdeal (hJoinIdeal := hJoinIdeal)
    ∧ quiescent_JoinRefIdeal (hJoinRefIdeal := hJoinRefIdeal)
    ∧ quiescent_Relu (hRelu := hRelu)
    ∧ quiescent_ReluIdeal (hReluIdeal := hReluIdeal)
    ∧ quiescent_ReluIdeal_pre_finite_relu (hReluIdeal := hReluIdeal) (hPre_finite_relu := hPre_finite_relu)
    ∧ quiescent_ReluRefIdeal (hReluRefIdeal := hReluRefIdeal)
    ∧ quiescent_ReluRefIdeal_pre_finite_relu (hReluRefIdeal := hReluRefIdeal) (hPre_finite_relu := hPre_finite_relu)
    ∧ quiescent_Mod (hMod := hMod)
    ∧ quiescent_ModIdeal (hModIdeal := hModIdeal)
    ∧ quiescent_ModRefIdeal (hModRefIdeal := hModRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_Opt (hOpt := hOpt)
    ∧ quiescent_OptIdeal (hOptIdeal := hOptIdeal)
    ∧ quiescent_OptRefIdeal (hOptRefIdeal := hOptRefIdeal)
    ∧ preserves_Gate_GateIdeal
    ∧ algebraic_GateIdeal_GateRefIdeal (hGateIdeal := hGateIdeal) (hGateRefIdeal := hGateRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Join_JoinIdeal
    ∧ algebraic_JoinIdeal_JoinRefIdeal (hJoinIdeal := hJoinIdeal) (hJoinRefIdeal := hJoinRefIdeal)
    ∧ preserves_Relu_ReluIdeal
    ∧ algebraic_ReluIdeal_ReluRefIdeal_pre_finite_relu (hReluIdeal := hReluIdeal) (hReluRefIdeal := hReluRefIdeal) (hPre_finite_relu := hPre_finite_relu)
    ∧ preserves_Mod_ModIdeal
    ∧ algebraic_ModIdeal_ModRefIdeal (hModIdeal := hModIdeal) (hModRefIdeal := hModRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ preserves_Opt_OptIdeal
    ∧ algebraic_OptIdeal_OptRefIdeal (hOptIdeal := hOptIdeal) (hOptRefIdeal := hOptRefIdeal)
-- ==== Pre_finite_attn.lean ====
abbrev S8192x512 : Shape := ⟨2, ![8192, 512]⟩
abbrev S8x8192 : Shape := ⟨2, ![8, 8192]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8x8192 : S_.BroadcastsInDim S8x8192 (![] : Fin 0 → Fin S8x8192.rank)

variable [Facts]

def fn {F : FTy → Type} [FloatOps F] (main_arg0 : FVec F S8192x512 .bf16) (main_arg1 : FVec F S8192x512 .bf16) (main_arg2 : FVec F S8192x512 .bf16) (main_arg3 : FVec F S8x8192 .f32) : IVec S8192x512 1 × IVec S8192x512 1 × IVec S8192x512 1 × IVec S8x8192 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8x8192 .f32 := Host.absf main_arg3
  let main_cst_2 : FVec F S_ .f32 := constant S_ .f32 0x7F800000#32
  let main_v13 : FVec F S8x8192 .f32 := broadcastInDim S8x8192 ![] bcast_S_S8x8192 main_cst_2
  let main_v14 : IVec S8x8192 1 := cmpf .olt main_v12 main_v13
  (main_v3, main_v7, main_v11, main_v14)
-- ==== Pre_finite_fox.lean ====
abbrev S8192x512 : Shape := ⟨2, ![8192, 512]⟩
abbrev S8x8192 : Shape := ⟨2, ![8, 8192]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8x8192 : S_.BroadcastsInDim S8x8192 (![] : Fin 0 → Fin S8x8192.rank)

variable [Facts]

def fn {F : FTy → Type} [FloatOps F] (main_arg0 : FVec F S8192x512 .bf16) (main_arg1 : FVec F S8192x512 .bf16) (main_arg2 : FVec F S8192x512 .bf16) (main_arg3 : FVec F S8x8192 .f32) (main_arg4 : FVec F S8192x512 .f32) : IVec S8192x512 1 × IVec S8192x512 1 × IVec S8192x512 1 × IVec S8x8192 1 × IVec S8192x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8x8192 .f32 := Host.absf main_arg3
  let main_cst_2 : FVec F S_ .f32 := constant S_ .f32 0x7F800000#32
  let main_v13 : FVec F S8x8192 .f32 := broadcastInDim S8x8192 ![] bcast_S_S8x8192 main_cst_2
  let main_v14 : IVec S8x8192 1 := cmpf .olt main_v12 main_v13
  let main_v15 : FVec F S8192x512 .f32 := Host.absf main_arg4
  let main_cst_3 : FVec F S_ .f32 := constant S_ .f32 0x7F800000#32
  let main_v16 : FVec F S8192x512 .f32 := broadcastInDim S8192x512 ![] bcast_S_S8192x512 main_cst_3
  let main_v17 : IVec S8192x512 1 := cmpf .olt main_v15 main_v16
  (main_v3, main_v7, main_v11, main_v14, main_v17)
-- ==== Pre_finite_loss.lean ====
abbrev S8192x1024 : Shape := ⟨2, ![8192, 1024]⟩
abbrev S1024x4096 : Shape := ⟨2, ![1024, 4096]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S6x1024 : S_.BroadcastsInDim S6x1024 (![] : Fin 0 → Fin S6x1024.rank)
  bcast_S_S1x1024 : S_.BroadcastsInDim S1x1024 (![] : Fin 0 → Fin S1x1024.rank)

variable [Facts]

def fn_part1 {F : FTy → Type} [FloatOps F] (main_arg8 : FVec F S1x1024 .f32) (main_v2 : IVec S8192x1024 1) (main_v5 : IVec S8192x1024 1) (main_v9 : IVec S1024x4096 1) (main_v13 : IVec S4096x1024 1) (main_v16 : IVec S6x1024 1) (main_v17 : FVec F S1x1024 .f32) (main_cst_4 : FVec F S_ .f32) : IVec S8192x1024 1 × IVec S8192x1024 1 × IVec S1024x4096 1 × IVec S4096x1024 1 × IVec S6x1024 1 × IVec S1x1024 1 × IVec S1x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg8
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  (main_v2, main_v5, main_v9, main_v13, main_v16, main_v19, main_v22)

def fn {F : FTy → Type} [FloatOps F] (main_arg0 : FVec F S8192x1024 .f32) (main_arg1 : FVec F S8192x1024 .f32) (main_arg2 : FVec F S1024x4096 .bf16) (main_arg3 : FVec F S4096x1024 .bf16) (main_arg4 : FVec F S6x1024 .f32) (main_arg5 : FVec F S1x1024 .f32) (main_arg6 : FVec F S1x1024 .f32) (main_arg7 : FVec F S1x1024 .f32) (main_arg8 : FVec F S1x1024 .f32) : IVec S8192x1024 1 × IVec S8192x1024 1 × IVec S1024x4096 1 × IVec S4096x1024 1 × IVec S6x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x4096 .f32 := (extf .f32 · bitsLt_bf16_f32) main_arg2
  let main_v7 : FVec F S1024x4096 .f32 := Host.absf main_v6
  let main_cst_1 : FVec F S_ .f32 := constant S_ .f32 0x7F800000#32
  let main_v8 : FVec F S1024x4096 .f32 := broadcastInDim S1024x4096 ![] bcast_S_S1024x4096 main_cst_1
  let main_v9 : IVec S1024x4096 1 := cmpf .olt main_v7 main_v8
  let main_v10 : FVec F S4096x1024 .f32 := (extf .f32 · bitsLt_bf16_f32) main_arg3
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S6x1024 .f32 := Host.absf main_arg4
  let main_cst_3 : FVec F S_ .f32 := constant S_ .f32 0x7F800000#32
  let main_v15 : FVec F S6x1024 .f32 := broadcastInDim S6x1024 ![] bcast_S_S6x1024 main_cst_3
  let main_v16 : IVec S6x1024 1 := cmpf .olt main_v14 main_v15
  let main_v17 : FVec F S1x1024 .f32 := Host.absf main_arg7
  let main_cst_4 : FVec F S_ .f32 := constant S_ .f32 0x7F800000#32
  fn_part1 (F := F) main_arg8 main_v2 main_v5 main_v9 main_v13 main_v16 main_v17 main_cst_4
-- ==== Pre_finite_mix.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S1x512 : S_.BroadcastsInDim S1x512 (![] : Fin 0 → Fin S1x512.rank)
  bitsLt_bf16_f32 : FTy.bits .bf16 < FTy.bits .f32
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn_part1 {F : FTy → Type} [FloatOps F] (main_v2 : IVec S8192x512 1) (main_v5 : IVec S8192x512 1) (main_v8 : IVec S1x512 1) (main_v11 : IVec S1x512 1) (main_v15 : IVec S1024x1024 1) (main_v17 : FVec F S8192x1024 .f32) (main_cst_4 : FVec F S_ .f32) : IVec S8192x512 1 × IVec S8192x512 1 × IVec S1x512 1 × IVec S1x512 1 × IVec S1024x1024 1 × IVec S8192x1024 1 :=
  let main_v18 : FVec F S8192x1024 .f32 := broadcastInDim S8192x1024 ![] bcast_S_S8192x1024 main_cst_4
  let main_v19 : IVec S8192x1024 1 := cmpf .olt main_v17 main_v18
  (main_v2, main_v5, main_v8, main_v11, main_v15, main_v19)

def fn {F : FTy → Type} [FloatOps F] (main_arg0 : FVec F S8192x512 .f32) (main_arg1 : FVec F S8192x512 .f32) (main_arg2 : FVec F S1x512 .f32) (main_arg3 : FVec F S1x512 .f32) (main_arg4 : FVec F S1024x1024 .bf16) (main_arg5 : FVec F S8192x1024 .bf16) : IVec S8192x512 1 × IVec S8192x512 1 × IVec S1x512 1 × IVec S1x512 1 × IVec S1024x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1024x1024 .f32 := (extf .f32 · bitsLt_bf16_f32) main_arg4
  let main_v13 : FVec F S1024x1024 .f32 := Host.absf main_v12
  let main_cst_3 : FVec F S_ .f32 := constant S_ .f32 0x7F800000#32
  let main_v14 : FVec F S1024x1024 .f32 := broadcastInDim S1024x1024 ![] bcast_S_S1024x1024 main_cst_3
  let main_v15 : IVec S1024x1024 1 := cmpf .olt main_v13 main_v14
  let main_v16 : FVec F S8192x1024 .f32 := (extf .f32 · bitsLt_bf16_f32) main_arg5
  let main_v17 : FVec F S8192x1024 .f32 := Host.absf main_v16
  let main_cst_4 : FVec F S_ .f32 := constant S_ .f32 0x7F800000#32
  fn_part1 (F := F) main_v2 main_v5 main_v8 main_v11 main_v15 main_v17 main_cst_4
-- ==== Pre_finite_relu.lean ====
abbrev S8192x1024 : Shape := ⟨2, ![8192, 1024]⟩
abbrev S6x1024 : Shape := ⟨2, ![6, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S6x1024 : S_.BroadcastsInDim S6x1024 (![] : Fin 0 → Fin S6x1024.rank)
  bitsLt_bf16_f32 : FTy.bits .bf16 < FTy.bits .f32
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_arg9 : FVec F S8192x1024 .bf16) (main_arg10 : FVec F S8192x1024 .f32) (main_v2 : IVec S8192x1024 1) (main_v5 : IVec S8192x1024 1) (main_v8 : IVec S6x1024 1) (main_v12 : IVec S1024x4096 1) (main_v16 : IVec S4096x1024 1) (main_v17 : FVec F S1x1024 .f32) (main_cst_4 : FVec F S_ .f32) : IVec S8192x1024 1 × IVec S8192x1024 1 × IVec S6x1024 1 × IVec S1024x4096 1 × IVec S4096x1024 1 × IVec S1x1024 1 × IVec S1x1024 1 × IVec S8192x1024 1 × IVec S8192x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S8192x1024 .f32 := (extf .f32 · bitsLt_bf16_f32) main_arg9
  let main_v24 : FVec F S8192x1024 .f32 := Host.absf main_v23
  let main_cst_6 : FVec F S_ .f32 := constant S_ .f32 0x7F800000#32
  let main_v25 : FVec F S8192x1024 .f32 := broadcastInDim S8192x1024 ![] bcast_S_S8192x1024 main_cst_6
  let main_v26 : IVec S8192x1024 1 := cmpf .olt main_v24 main_v25
  let main_v27 : FVec F S8192x1024 .f32 := Host.absf main_arg10
  let main_cst_7 : FVec F S_ .f32 := constant S_ .f32 0x7F800000#32
  let main_v28 : FVec F S8192x1024 .f32 := broadcastInDim S8192x1024 ![] bcast_S_S8192x1024 main_cst_7
  let main_v29 : IVec S8192x1024 1 := cmpf .olt main_v27 main_v28
  (main_v2, main_v5, main_v8, main_v12, main_v16, main_v19, main_v22, main_v26, main_v29)

def fn {F : FTy → Type} [FloatOps F] (main_arg0 : FVec F S8192x1024 .f32) (main_arg1 : FVec F S8192x1024 .f32) (main_arg2 : FVec F S6x1024 .f32) (main_arg3 : FVec F S1024x4096 .bf16) (main_arg4 : FVec F S4096x1024 .bf16) (main_arg5 : FVec F S1x1024 .f32) (main_arg6 : FVec F S1x1024 .f32) (main_arg7 : FVec F S1x1024 .f32) (main_arg8 : FVec F S1x1024 .f32) (main_arg9 : FVec F S8192x1024 .bf16) (main_arg10 : FVec F S8192x1024 .f32) : IVec S8192x1024 1 × IVec S8192x1024 1 × IVec S6x1024 1 × IVec S1024x4096 1 × IVec S4096x1024 1 × IVec S1x1024 1 × IVec S1x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S6x1024 .f32 := Host.absf main_arg2
  let main_cst_1 : FVec F S_ .f32 := constant S_ .f32 0x7F800000#32
  let main_v7 : FVec F S6x1024 .f32 := broadcastInDim S6x1024 ![] bcast_S_S6x1024 main_cst_1
  let main_v8 : IVec S6x1024 1 := cmpf .olt main_v6 main_v7
  let main_v9 : FVec F S1024x4096 .f32 := (extf .f32 · bitsLt_bf16_f32) main_arg3
  let main_v10 : FVec F S1024x4096 .f32 := Host.absf main_v9
  let main_cst_2 : FVec F S_ .f32 := constant S_ .f32 0x7F800000#32
  let main_v11 : FVec F S1024x4096 .f32 := broadcastInDim S1024x4096 ![] bcast_S_S1024x4096 main_cst_2
  let main_v12 : IVec S1024x4096 1 := cmpf .olt main_v10 main_v11
  let main_v13 : FVec F S4096x1024 .f32 := (extf .f32 · bitsLt_bf16_f32) main_arg4
  let main_v14 : FVec F S4096x1024 .f32 := Host.absf main_v13
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1x1024 .f32 := Host.absf main_arg5
  let main_cst_4 : FVec F S_ .f32 := constant S_ .f32 0x7F800000#32
  fn_part1 (F := F) main_arg6 main_arg9 main_arg10 main_v2 main_v5 main_v8 main_v12 main_v16 main_v17 main_cst_4
-- ==== Gate.lean ====
abbrev S8x8192 : Shape := ⟨2, ![8, 8192]⟩
abbrev S1x8 : Shape := ⟨2, ![1, 8]⟩
abbrev S8x1 : Shape := ⟨2, ![8, 1]⟩
abbrev S8x128 : Shape := ⟨2, ![8, 128]⟩
abbrev S8 : Shape := ⟨1, ![8]⟩

abbrev nBuf : Space → Nat
  | .hbm => 9
  | .vmem => 9
  | .smem => 0
  | _ => 0

abbrev bufTy : (tb : Table) → Fin (tcTables nBuf tb) → BufTy
  | .hbm, ⟨0, _⟩ => ⟨S8x8192, .f32⟩
  | .hbm, ⟨1, _⟩ => ⟨S1x8, .f32⟩
  | .hbm, ⟨2, _⟩ => ⟨S8x8192, .f32⟩
  | .hbm, ⟨3, _⟩ => ⟨S8x8192, .f32⟩
  | .hbm, ⟨4, _⟩ => ⟨S8x1, .f32⟩
  | .hbm, ⟨5, _⟩ => ⟨S8x8192, .f32⟩
  | .hbm, ⟨6, _⟩ => ⟨S8x8192, .f32⟩
  | .hbm, ⟨7, _⟩ => ⟨S8x8192, .f32⟩
  | .hbm, ⟨8, _⟩ => ⟨S8x128, .f32⟩
  | .local _ .vmem, ⟨0, _⟩ => ⟨S8x8192, .f32⟩
  | .local _ .vmem, ⟨1, _⟩ => ⟨S8x1, .f32⟩
  | .local _ .vmem, ⟨2, _⟩ => ⟨S8x8192, .f32⟩
  | .local _ .vmem, ⟨3, _⟩ => ⟨S8x8192, .f32⟩
  | .local _ .vmem, ⟨4, _⟩ => ⟨S8x8192, .f32⟩
  | .local _ .vmem, ⟨5, _⟩ => ⟨S8x8192, .f32⟩
  | .local _ .vmem, ⟨6, _⟩ => ⟨S8x8192, .f32⟩
  | .local _ .vmem, ⟨7, _⟩ => ⟨S8x8192, .f32⟩
  | .local _ .vmem, ⟨8, _⟩ => ⟨S8x128, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8

abbrev nD : Nat := 1
abbrev τ : Topo := Topo.v7x

variable {F : FTy → Type} [FloatOps F]

abbrev grid0 : Pipeline.Grid := .none

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S8x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== GateRefIdeal.lean ====
abbrev S8x8192 : Shape := ⟨2, ![8, 8192]⟩
abbrev S1x8 : Shape := ⟨2, ![1, 8]⟩
abbrev S8192x8 : Shape := ⟨2, ![8192, 8]⟩
abbrev S8 : Shape := ⟨1, ![8]⟩
abbrev S_ : Shape := ⟨0, ![]⟩
abbrev S8x1 : Shape := ⟨2, ![8, 1]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S1x8, .f32⟩
  | .hbm, ⟨2, _⟩ => ⟨S8x8192, .f32⟩
  | .hbm, ⟨3, _⟩ => ⟨S8x8192, .f32⟩
  | .hbm, ⟨4, _⟩ => ⟨S8192x8, .f32⟩
  | .hbm, ⟨5, _⟩ => ⟨S8, .f32⟩
  | .hbm, ⟨6, _⟩ => ⟨S1x8, .f32⟩
  | .hbm, ⟨7, _⟩ => ⟨S8192x8, .f32⟩
  | .hbm, ⟨8, _⟩ => ⟨S8192x8, .f32⟩
  | .hbm, ⟨9, _⟩ => ⟨S8192x8, .f32⟩
  | .hbm, ⟨10, _⟩ => ⟨S_, .f32⟩
  | .hbm, ⟨11, _⟩ => ⟨S8192x8, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .i1⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S_, .f32⟩
  | .hbm, ⟨25, _⟩ => ⟨S8192x8, .f32⟩
  | .hbm, ⟨26, _⟩ => ⟨S8192x8, .i1⟩
  | .hbm, ⟨27, _⟩ => ⟨S_, .f32⟩
  | .hbm, ⟨28, _⟩ => ⟨S8192x8, .f32⟩
  | .hbm, ⟨29, _⟩ => ⟨S8192x8, .f32⟩
  | .hbm, ⟨30, _⟩ => ⟨S_, .f32⟩
  | .hbm, ⟨31, _⟩ => ⟨S8192x8, .f32⟩
  | .hbm, ⟨32, _⟩ => ⟨S8192x8, .i1⟩
  | .hbm, ⟨33, _⟩ => ⟨S_, .f32⟩
  | .hbm, ⟨34, _⟩ => ⟨S8192x8, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x8, .f32⟩
  | .hbm, ⟨46, _⟩ => ⟨S8192x8, .i1⟩
  | .hbm, ⟨47, _⟩ => ⟨S_, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S_, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S8x8192, .f32⟩
  | .hbm, ⟨58, _⟩ => ⟨S_, .f32⟩
  | .hbm, ⟨59, _⟩ => ⟨S_, .f32⟩
  | .hbm, ⟨60, _⟩ => ⟨S8x8192, .f32⟩
  | .hbm, ⟨61, _⟩ => ⟨S8x8192, .f32⟩
  | .hbm, ⟨62, _⟩ => ⟨S_, .f32⟩
  | .hbm, ⟨63, _⟩ => ⟨S_, .f32⟩
  | .hbm, ⟨64, _⟩ => ⟨S8x8192, .f32⟩
  | .hbm, ⟨65, _⟩ => ⟨S8192x8, .f32⟩
  | .hbm, ⟨66, _⟩ => ⟨S8192x8, .f32⟩
  | .hbm, ⟨67, _⟩ => ⟨S8192x8, .f32⟩
  | .hbm, ⟨68, _⟩ => ⟨S8192x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S_, .f32⟩
  | .hbm, ⟨73, _⟩ => ⟨S8, .f32⟩
  | .hbm, ⟨74, _⟩ => ⟨S1x8, .f32⟩
  | .hbm, ⟨75, _⟩ => ⟨S8x8192, .f32⟩
  | .hbm, ⟨76, _⟩ => ⟨S8x1, .f32⟩
  | .hbm, ⟨77, _⟩ => ⟨S8x128, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1_0 : Ref sig .tc := ⟨.hbm, 23, rfl⟩
abbrev main_call0_call0_cst_0 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst_1 : Ref sig .tc := ⟨.hbm, 27, rfl⟩
abbrev main_call0_call0_v15 : Ref sig .tc := ⟨.hbm, 28, rfl⟩
abbrev main_call0_call0_v16 : Ref sig .tc := ⟨.hbm, 29, rfl⟩
abbrev main_call0_call0_cst_2 : Ref sig .tc := ⟨.hbm, 30, rfl⟩
abbrev main_call0_call0_v17 : Ref sig .tc := ⟨.hbm, 31, rfl⟩
abbrev main_call0_call0_v18 : Ref sig .tc := ⟨.hbm, 32, rfl⟩
abbrev main_call0_call0_cst_3 : Ref sig .tc := ⟨.hbm, 33, rfl⟩
abbrev main_call0_call0_v19 : Ref sig .tc := ⟨.hbm, 34, rfl⟩
abbrev main_call0_call0_v20 : Ref sig .tc := ⟨.hbm, 35, rfl⟩
abbrev main_call0_call0_v21 : Ref sig .tc := ⟨.hbm, 36, rfl⟩
abbrev main_v5_1 : Ref sig .tc := ⟨.hbm, 37, rfl⟩
abbrev main_call0_call0_cst_4 : Ref sig .tc := ⟨.hbm, 38, rfl⟩
abbrev main_call0_call0_cst_5 : Ref sig .tc := ⟨.hbm, 39, rfl⟩
abbrev main_call0_call0_v23 : Ref sig .tc := ⟨.hbm, 40, rfl⟩
abbrev main_call0_call0_cst_6 : Ref sig .tc := ⟨.hbm, 41, rfl⟩
abbrev main_call0_call0_cst_7 : Ref sig .tc := ⟨.hbm, 42, rfl⟩
abbrev main_call0_call0_v24 : Ref sig .tc := ⟨.hbm, 43, rfl⟩
abbrev main_call0_call0_cst_8 : Ref sig .tc := ⟨.hbm, 44, rfl⟩
abbrev main_call0_call0_v25 : Ref sig .tc := ⟨.hbm, 45, rfl⟩
abbrev main_call0_call0_v26 : Ref sig .tc := ⟨.hbm, 46, rfl⟩
abbrev main_call0_call0_cst_9 : Ref sig .tc := ⟨.hbm, 47, rfl⟩
abbrev main_call0_call0_v27 : Ref sig .tc := ⟨.hbm, 48, rfl⟩
abbrev main_call0_call0_v28 : Ref sig .tc := ⟨.hbm, 49, rfl⟩
abbrev main_call0_call0_v29 : Ref sig .tc := ⟨.hbm, 50, rfl⟩
abbrev main_call0_call0_v30 : Ref sig .tc := ⟨.hbm, 51, rfl⟩
abbrev main_call0_call0_v31 : Ref sig .tc := ⟨.hbm, 52, rfl⟩
abbrev main_call0_call0_cst_10 : Ref sig .tc := ⟨.hbm, 53, rfl⟩
abbrev main_call0_call0_v32 : Ref sig .tc := ⟨.hbm, 54, rfl⟩
abbrev main_v5_2 : Ref sig .tc := ⟨.hbm, 55, rfl⟩
abbrev main_v5_0 : Ref sig .tc := ⟨.hbm, 56, rfl⟩
abbrev main_v6 : Ref sig .tc := ⟨.hbm, 57, rfl⟩
abbrev main_call1_call0_cst : Ref sig .tc := ⟨.hbm, 58, rfl⟩
abbrev main_call1_call0_v0 : Ref sig .tc := ⟨.hbm, 59, rfl⟩
abbrev main_v7 : Ref sig .tc := ⟨.hbm, 60, rfl⟩
abbrev main_v8 : Ref sig .tc := ⟨.hbm, 61, rfl⟩
abbrev main_call2_call0_cst : Ref sig .tc := ⟨.hbm, 62, rfl⟩
abbrev main_call2_call0_v0 : Ref sig .tc := ⟨.hbm, 63, rfl⟩
abbrev main_v9 : Ref sig .tc := ⟨.hbm, 64, rfl⟩
abbrev main_v10 : Ref sig .tc := ⟨.hbm, 65, rfl⟩
abbrev main_call3_v0 : Ref sig .tc := ⟨.hbm, 66, rfl⟩
abbrev main_call3_v1 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_cst_0 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩

abbrev nD : Nat := 1
abbrev τ : Topo := Topo.v7x

variable {F : FTy → Type} [FloatOps F]
-- ==== Mix.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S2x512 : Shape := ⟨2, ![2, 512]⟩
abbrev S_ : Shape := ⟨0, ![]⟩
abbrev S8x512 : Shape := ⟨2, ![8, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S8192x1024, .bf16⟩
  | .hbm, ⟨6, _⟩ => ⟨S2x512, .f32⟩
  | .hbm, ⟨7, _⟩ => ⟨S_, .i32⟩
  | .hbm, ⟨8, _⟩ => ⟨S_, .f32⟩
  | .hbm, ⟨9, _⟩ => ⟨S8x512, .f32⟩
  | .hbm, ⟨10, _⟩ => ⟨S8192x512, .f32⟩
  | .hbm, ⟨11, _⟩ => ⟨S8192x512, .f32⟩
  | .hbm, ⟨12, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixRefIdeal.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S6x512 : Shape := ⟨2, ![6, 512]⟩
abbrev S8x512 : Shape := ⟨2, ![8, 512]⟩

abbrev nBuf : Space → Nat
  | .hbm => 110
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S8192x1024, .bf16⟩
  | .hbm, ⟨6, _⟩ => ⟨S1024x1024, .f32⟩
  | .hbm, ⟨7, _⟩ => ⟨S512, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S512, .f32⟩
  | .hbm, ⟨29, _⟩ => ⟨S8192x512, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S512, .f32⟩
  | .hbm, ⟨63, _⟩ => ⟨S8192x512, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x512, .f32⟩
  | .hbm, ⟨68, _⟩ => ⟨S8192x512, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S1x512, .f32⟩
  | .hbm, ⟨81, _⟩ => ⟨S8192x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S512, .f32⟩
  | .hbm, ⟨89, _⟩ => ⟨S8192x512, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x512, .f32⟩
  | .hbm, ⟨94, _⟩ => ⟨S8192x512, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S1x512, .f32⟩
  | .hbm, ⟨107, _⟩ => ⟨S_, .f32⟩
  | .hbm, ⟨108, _⟩ => ⟨S6x512, .f32⟩
  | .hbm, ⟨109, _⟩ => ⟨S8x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Loss.lean ====
abbrev S8192x1024 : Shape := ⟨2, ![8192, 1024]⟩
abbrev S1024x4096 : Shape := ⟨2, ![1024, 4096]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩
abbrev S8x1024 : Shape := ⟨2, ![8, 1024]⟩
abbrev S4x1024 : Shape := ⟨2, ![4, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 23
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .bf16⟩
  | .hbm, ⟨3, _⟩ => ⟨S4096x1024, .bf16⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S4x1024, .f32⟩
  | .hbm, ⟨13, _⟩ => ⟨S_, .i32⟩
  | .hbm, ⟨14, _⟩ => ⟨S_, .f32⟩
  | .hbm, ⟨15, _⟩ => ⟨S8x1024, .f32⟩
  | .hbm, ⟨16, _⟩ => ⟨S1024x8x512, .bf16⟩
  | .hbm, ⟨17, _⟩ => ⟨S8x1024x512, .bf16⟩
  | .hbm, ⟨18, _⟩ => ⟨S8192x1024, .bf16⟩
  | .hbm, ⟨19, _⟩ => ⟨S8192x4096, .bf16⟩
  | .hbm, ⟨20, _⟩ => ⟨S8192x1024, .bf16⟩
  | .hbm, ⟨21, _⟩ => ⟨S8192x1024, .f32⟩
  | .hbm, ⟨22, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024x512, .bf16⟩
  | .local _ .vmem, ⟨5, _⟩ => ⟨S4096x1024, .bf16⟩
  | .local _ .vmem, ⟨6, _⟩ => ⟨S8x1024, .f32⟩
  | .local _ .vmem, ⟨7, _⟩ => ⟨S8x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v5_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S8192x1024 : Shape := ⟨2, ![8192, 1024]⟩
abbrev S1024x4096 : Shape := ⟨2, ![1024, 4096]⟩
abbrev S4096x1024 : Shape := ⟨2, ![4096, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S4x1024 : Shape := ⟨2, ![4, 1024]⟩
abbrev S8x1024 : Shape := ⟨2, ![8, 1024]⟩

abbrev nBuf : Space → Nat
  | .hbm => 168
  | .vmem => 0
  | .smem => 0
  | _ => 0

abbrev hbmTy0_0 (i : Nat) : BufTy := match i % 128 with
  | 0 => ⟨S8192x1024, .f32⟩
  | 1 => ⟨S8192x1024, .f32⟩
  | 2 => ⟨S1024x4096, .bf16⟩
  | 3 => ⟨S4096x1024, .bf16⟩
  | 4 => ⟨S6x1024, .f32⟩
  | 5 => ⟨S1x1024, .f32⟩
  | 6 => ⟨S1x1024, .f32⟩
  | 7 => ⟨S1x1024, .f32⟩
  | 8 => ⟨S1x1024, .f32⟩
  | 9 => ⟨S1024x4096, .f32⟩
  | 10 => ⟨S4096x1024, .f32⟩
  | 11 => ⟨S1x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S_, .f32⟩
  | 18 => ⟨S1024, .f32⟩
  | 19 => ⟨S1024, .f32⟩
  | 20 => ⟨S1x1024, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x4096, .f32⟩
  | 27 => ⟨S_, .f32⟩
  | 28 => ⟨S8192x4096, .f32⟩
  | 29 => ⟨S8192x4096, .f32⟩
  | 30 => ⟨S8192x4096, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S1024, .f32⟩
  | 43 => ⟨S1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192, .f32⟩
  | 87 => ⟨S_, .f32⟩
  | 88 => ⟨S8192, .f32⟩
  | 89 => ⟨S8192, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192, .f32⟩
  | 98 => ⟨S_, .f32⟩
  | 99 => ⟨S8192, .f32⟩
  | 100 => ⟨S8192, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1, .f32⟩
  | 123 => ⟨S8192x1024, .f32⟩
  | 124 => ⟨S_, .f32⟩
  | 125 => ⟨S8192, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S1x1024, .f32⟩
  | 20 => ⟨S1x1024, .f32⟩
  | 21 => ⟨S8192x1024, .f32⟩
  | 22 => ⟨S8192x1024, .f32⟩
  | 23 => ⟨S8192x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S_, .f32⟩
  | 30 => ⟨S8192x1024, .f32⟩
  | 31 => ⟨S8192x1024, .f32⟩
  | 32 => ⟨S1x1024, .f32⟩
  | 33 => ⟨S1x1024, .f32⟩
  | 34 => ⟨S_, .f32⟩
  | 35 => ⟨S4x1024, .f32⟩
  | 36 => ⟨S8x1024, .f32⟩
  | 37 => ⟨S8192x1024, .bf16⟩
  | 38 => ⟨S8192x4096, .bf16⟩
  | 39 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_cst_21 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_22 : Ref sig .tc := ⟨.hbm, 124, rfl⟩
abbrev main_v90 : Ref sig .tc := ⟨.hbm, 125, rfl⟩
abbrev main_v91 : Ref sig .tc := ⟨.hbm, 126, rfl⟩
abbrev main_cst_23 : Ref sig .tc := ⟨.hbm, 127, rfl⟩
abbrev main_v92 : Ref sig .tc := ⟨.hbm, 128, rfl⟩
abbrev main_v93 : Ref sig .tc := ⟨.hbm, 129, rfl⟩
abbrev main_cst_24 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_25 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_26 : Ref sig .tc := ⟨.hbm, 140, rfl⟩
abbrev main_v102 : Ref sig .tc := ⟨.hbm, 141, rfl⟩
abbrev main_v103 : Ref sig .tc := ⟨.hbm, 142, rfl⟩
abbrev main_cst_27 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_28 : Ref sig .tc := ⟨.hbm, 152, rfl⟩
abbrev main_v112 : Ref sig .tc := ⟨.hbm, 153, rfl⟩
abbrev main_v113 : Ref sig .tc := ⟨.hbm, 154, rfl⟩
abbrev main_cst_29 : Ref sig .tc := ⟨.hbm, 155, rfl⟩
abbrev main_v114 : Ref sig .tc := ⟨.hbm, 156, rfl⟩
abbrev main_cst_30 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_31 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]
-- ==== Join.lean ====
abbrev S8192x512 : Shape := ⟨2, ![8192, 512]⟩
abbrev S8192x1024 : Shape := ⟨2, ![8192, 1024]⟩
abbrev S6x1024 : Shape := ⟨2, ![6, 1024]⟩
abbrev S1x512 : Shape := ⟨2, ![1, 512]⟩
abbrev S1024x1024 : Shape := ⟨2, ![1024, 1024]⟩
abbrev S1x1024 : Shape := ⟨2, ![1, 1024]⟩
abbrev S2x512 : Shape := ⟨2, ![2, 512]⟩
abbrev S_ : Shape := ⟨0, ![]⟩
abbrev S8x512 : Shape := ⟨2, ![8, 512]⟩
abbrev S8x1024 : Shape := ⟨2, ![8, 1024]⟩
abbrev S4x1024 : Shape := ⟨2, ![4, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S6x1024, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S2x512, .f32⟩
  | .hbm, ⟨12, _⟩ => ⟨S_, .i32⟩
  | .hbm, ⟨13, _⟩ => ⟨S_, .f32⟩
  | .hbm, ⟨14, _⟩ => ⟨S8x512, .f32⟩
  | .hbm, ⟨15, _⟩ => ⟨S_, .i32⟩
  | .hbm, ⟨16, _⟩ => ⟨S_, .f32⟩
  | .hbm, ⟨17, _⟩ => ⟨S8x1024, .f32⟩
  | .hbm, ⟨18, _⟩ => ⟨S4x1024, .f32⟩
  | .hbm, ⟨19, _⟩ => ⟨S_, .i32⟩
  | .hbm, ⟨20, _⟩ => ⟨S_, .f32⟩
  | .hbm, ⟨21, _⟩ => ⟨S8x1024, .f32⟩
  | .hbm, ⟨22, _⟩ => ⟨S8192x1024, .bf16⟩
  | .hbm, ⟨23, _⟩ => ⟨S8192x1024, .f32⟩
  | .hbm, ⟨24, _⟩ => ⟨S8192x1024, .f32⟩
  | .hbm, ⟨25, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S8x512, .f32⟩
  | .local _ .vmem, ⟨8, _⟩ => ⟨S8x1024, .f32⟩
  | .local _ .vmem, ⟨9, _⟩ => ⟨S8x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== JoinRefIdeal.lean ====
abbrev S8192x512 : Shape := ⟨2, ![8192, 512]⟩
abbrev S8192x1024 : Shape := ⟨2, ![8192, 1024]⟩
abbrev S6x1024 : Shape := ⟨2, ![6, 1024]⟩
abbrev S1x512 : Shape := ⟨2, ![1, 512]⟩
abbrev S1024x1024 : Shape := ⟨2, ![1024, 1024]⟩
abbrev S1x1024 : Shape := ⟨2, ![1, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S6x1024, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S512, .f32⟩
  | .hbm, ⟨29, _⟩ => ⟨S8192x512, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S8192x1024, .f32⟩
  | .hbm, ⟨46, _⟩ => ⟨S1024x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S1x1024, .f32⟩
  | .hbm, ⟨90, _⟩ => ⟨S8192x1024, .f32⟩
  | .hbm, ⟨91, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Relu.lean ====
abbrev S8192x1024 : Shape := ⟨2, ![8192, 1024]⟩
abbrev S6x1024 : Shape := ⟨2, ![6, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8x1024 : Shape := ⟨2, ![8, 1024]⟩
abbrev S4x1024 : Shape := ⟨2, ![4, 1024]⟩
abbrev S1024x8x512 : Shape := ⟨3, ![1024, 8, 512]⟩
abbrev S8x1024x512 : Shape := ⟨3, ![8, 1024, 512]⟩
abbrev S1024 : Shape := ⟨1, ![1024]⟩
abbrev S8192 : Shape := ⟨1, ![8192]⟩
abbrev S8192x1 : Shape := ⟨2, ![8192, 1]⟩
abbrev S8192x4096 : Shape := ⟨2, ![8192, 4096]⟩
abbrev S256x1024 : Shape := ⟨2, ![256, 1024]⟩
abbrev S256x4096 : Shape := ⟨2, ![256, 4096]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 87
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S6x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .bf16⟩
  | .hbm, ⟨10, _⟩ => ⟨S8192x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S4x1024, .f32⟩
  | .hbm, ⟨15, _⟩ => ⟨S_, .i32⟩
  | .hbm, ⟨16, _⟩ => ⟨S_, .f32⟩
  | .hbm, ⟨17, _⟩ => ⟨S8x1024, .f32⟩
  | .hbm, ⟨18, _⟩ => ⟨S1024x8x512, .bf16⟩
  | .hbm, ⟨19, _⟩ => ⟨S8x1024x512, .bf16⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S1024x4096, .f32⟩
  | .hbm, ⟨77, _⟩ => ⟨S8192x4096, .f32⟩
  | .hbm, ⟨78, _⟩ => ⟨S_, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S8192x4096, .bf16⟩
  | .hbm, ⟨83, _⟩ => ⟨S8192x4096, .bf16⟩
  | .hbm, ⟨84, _⟩ => ⟨S8192x1024, .f32⟩
  | .hbm, ⟨85, _⟩ => ⟨S8192x1024, .bf16⟩
  | .hbm, ⟨86, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S8x1024x512, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S8x1024, .f32⟩
  | .local _ .vmem, ⟨16, _⟩ => ⟨S256x4096, .bf16⟩
  | .local _ .vmem, ⟨17, _⟩ => ⟨S256x4096, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_cst : Ref sig .tc := ⟨.hbm, 78, rfl⟩
abbrev main_call2_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58_0 : Ref sig .tc := ⟨.hbm, 83, rfl⟩
abbrev main_v58_1 : Ref sig .tc := ⟨.hbm, 84, rfl⟩
abbrev main_v58_2 : Ref sig .tc := ⟨.hbm, 85, rfl⟩
abbrev main_v58_3 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReluRefIdeal.lean ====
abbrev S8192x1024 : Shape := ⟨2, ![8192, 1024]⟩
abbrev S6x1024 : Shape := ⟨2, ![6, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S3x1024 : Shape := ⟨2, ![3, 1024]⟩
abbrev S8x1024 : Shape := ⟨2, ![8, 1024]⟩

abbrev nBuf : Space → Nat
  | .hbm => 177
  | .vmem => 0
  | .smem => 0
  | _ => 0

abbrev hbmTy0_0 (i : Nat) : BufTy := match i % 128 with
  | 0 => ⟨S8192x1024, .f32⟩
  | 1 => ⟨S8192x1024, .f32⟩
  | 2 => ⟨S6x1024, .f32⟩
  | 3 => ⟨S1024x4096, .bf16⟩
  | 4 => ⟨S4096x1024, .bf16⟩
  | 5 => ⟨S1x1024, .f32⟩
  | 6 => ⟨S1x1024, .f32⟩
  | 7 => ⟨S1x1024, .f32⟩
  | 8 => ⟨S1x1024, .f32⟩
  | 9 => ⟨S8192x1024, .bf16⟩
  | 10 => ⟨S8192x1024, .f32⟩
  | 11 => ⟨S1024x4096, .f32⟩
  | 12 => ⟨S4096x1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S1024, .f32⟩
  | 19 => ⟨S_, .f32⟩
  | 20 => ⟨S8192x1024, .f32⟩
  | 21 => ⟨S8192x1024, .f32⟩
  | 22 => ⟨S_, .f32⟩
  | 23 => ⟨S1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S1024, .f32⟩
  | 30 => ⟨S1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S1024, .f32⟩
  | 70 => ⟨S1x1024, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S8192x4096, .f32⟩
  | 77 => ⟨S_, .f32⟩
  | 78 => ⟨S8192x4096, .f32⟩
  | 79 => ⟨S8192x4096, .f32⟩
  | 80 => ⟨S_, .f32⟩
  | 81 => ⟨S8192x4096, .f32⟩
  | 82 => ⟨S8192x4096, .i1⟩
  | 83 => ⟨S_, .f32⟩
  | 84 => ⟨S8192x4096, .f32⟩
  | 85 => ⟨S8192x4096, .f32⟩
  | 86 => ⟨S_, .f32⟩
  | 87 => ⟨S8192x4096, .f32⟩
  | 88 => ⟨S8192x4096, .f32⟩
  | 89 => ⟨S8192x1024, .f32⟩
  | 90 => ⟨S8192x1024, .f32⟩
  | 91 => ⟨S8192x4096, .f32⟩
  | 92 => ⟨S8192x4096, .f32⟩
  | 93 => ⟨S_, .f32⟩
  | 94 => ⟨S8192x4096, .f32⟩
  | 95 => ⟨S8192x4096, .f32⟩
  | 96 => ⟨S8192x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S1024, .f32⟩
  | 111 => ⟨S8192x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S8192x1024, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1024, .f32⟩
  | 3 => ⟨S8192x1, .f32⟩
  | 4 => ⟨S8192x1024, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x1024, .f32⟩
  | 14 => ⟨S8192x1024, .f32⟩
  | 15 => ⟨S8192x1024, .f32⟩
  | 16 => ⟨S_, .f32⟩
  | 17 => ⟨S8192, .f32⟩
  | 18 => ⟨S8192x1, .f32⟩
  | 19 => ⟨S8192x1024, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x1024, .f32⟩
  | 27 => ⟨S8192x1024, .f32⟩
  | 28 => ⟨S1x1024, .f32⟩
  | 29 => ⟨S1x1024, .f32⟩
  | 30 => ⟨S8192x1024, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S_, .f32⟩
  | 37 => ⟨S1024, .f32⟩
  | 38 => ⟨S_, .f32⟩
  | 39 => ⟨S8192x1024, .f32⟩
  | 40 => ⟨S8192x1024, .f32⟩
  | 41 => ⟨S1x1024, .f32⟩
  | 42 => ⟨S1x1024, .f32⟩
  | 43 => ⟨S1x1024, .f32⟩
  | 44 => ⟨S_, .f32⟩
  | 45 => ⟨S3x1024, .f32⟩
  | 46 => ⟨S8x1024, .f32⟩
  | 47 => ⟨S8192x4096, .bf16⟩
  | 48 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_cst : Ref sig .tc := ⟨.hbm, 77, rfl⟩
abbrev main_call0_v0 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_20 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_cst_23 : Ref sig .tc := ⟨.hbm, 136, rfl⟩
abbrev main_v99 : Ref sig .tc := ⟨.hbm, 137, rfl⟩
abbrev main_v100 : Ref sig .tc := ⟨.hbm, 138, rfl⟩
abbrev main_cst_24 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_25 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_26 : Ref sig .tc := ⟨.hbm, 149, rfl⟩
abbrev main_v109 : Ref sig .tc := ⟨.hbm, 150, rfl⟩
abbrev main_v110 : Ref sig .tc := ⟨.hbm, 151, rfl⟩
abbrev main_cst_27 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_28 : Ref sig .tc := ⟨.hbm, 161, rfl⟩
abbrev main_v119 : Ref sig .tc := ⟨.hbm, 162, rfl⟩
abbrev main_v120 : Ref sig .tc := ⟨.hbm, 163, rfl⟩
abbrev main_cst_29 : Ref sig .tc := ⟨.hbm, 164, rfl⟩
abbrev main_v121 : Ref sig .tc := ⟨.hbm, 165, rfl⟩
abbrev main_cst_30 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_31 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩

abbrev nD : Nat := 1
abbrev τ : Topo := Topo.v7x

variable {F : FTy → Type} [FloatOps F]
-- ==== Mod.lean ====
abbrev S8192x1024 : Shape := ⟨2, ![8192, 1024]⟩
abbrev S6x1024 : Shape := ⟨2, ![6, 1024]⟩
abbrev S1024x2568 : Shape := ⟨2, ![1024, 2568]⟩
abbrev S8192x512 : Shape := ⟨2, ![8192, 512]⟩
abbrev S512x8192 : Shape := ⟨2, ![512, 8192]⟩
abbrev S8x8192 : Shape := ⟨2, ![8, 8192]⟩
abbrev S_ : Shape := ⟨0, ![]⟩
abbrev S8x1024 : Shape := ⟨2, ![8, 1024]⟩
abbrev S1024x1536 : Shape := ⟨2, ![1024, 1536]⟩
abbrev S1024x8 : Shape := ⟨2, ![1024, 8]⟩
abbrev S1024x1024 : Shape := ⟨2, ![1024, 1024]⟩
abbrev S1024x8192 : Shape := ⟨2, ![1024, 8192]⟩
abbrev S512x512 : Shape := ⟨2, ![512, 512]⟩
abbrev S512x1024 : Shape := ⟨2, ![512, 1024]⟩
abbrev S8x512 : Shape := ⟨2, ![8, 512]⟩
abbrev S1024x512 : Shape := ⟨2, ![1024, 512]⟩
abbrev S1x1024 : Shape := ⟨2, ![1, 1024]⟩
abbrev S1024 : Shape := ⟨1, ![1024]⟩

abbrev nBuf : Space → Nat
  | .hbm => 21
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S1024x2568, .bf16⟩
  | .hbm, ⟨3, _⟩ => ⟨S8192x512, .bf16⟩
  | .hbm, ⟨4, _⟩ => ⟨S512x8192, .f32⟩
  | .hbm, ⟨5, _⟩ => ⟨S512x8192, .f32⟩
  | .hbm, ⟨6, _⟩ => ⟨S8192x1024, .bf16⟩
  | .hbm, ⟨7, _⟩ => ⟨S8x8192, .f32⟩
  | .hbm, ⟨8, _⟩ => ⟨S8192x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S1024x1536, .bf16⟩
  | .hbm, ⟨13, _⟩ => ⟨S1024x8, .bf16⟩
  | .hbm, ⟨14, _⟩ => ⟨S8x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x8192, .bf16⟩
  | .hbm, ⟨19, _⟩ => ⟨S8192x1024, .f32⟩
  | .hbm, ⟨20, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S8x512, .f32⟩
  | .local _ .vmem, ⟨9, _⟩ => ⟨S8x512, .f32⟩
  | .local _ .vmem, ⟨10, _⟩ => ⟨S1024x1536, .bf16⟩
  | .local _ .vmem, ⟨11, _⟩ => ⟨S1024x1024, .bf16⟩
  | .local _ .vmem, ⟨12, _⟩ => ⟨S1024x1024, .bf16⟩
  | .local _ .vmem, ⟨13, _⟩ => ⟨S8x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S1024x512, .bf16⟩
  | .local _ .vmem, ⟨20, _⟩ => ⟨S1024x512, .bf16⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ModRefIdeal.lean ====
abbrev S8192x1024 : Shape := ⟨2, ![8192, 1024]⟩
abbrev S6x1024 : Shape := ⟨2, ![6, 1024]⟩
abbrev S1024x2568 : Shape := ⟨2, ![1024, 2568]⟩
abbrev S8192x512 : Shape := ⟨2, ![8192, 512]⟩
abbrev S512x8192 : Shape := ⟨2, ![512, 8192]⟩
abbrev S8x8192 : Shape := ⟨2, ![8, 8192]⟩
abbrev S8192x8 : Shape := ⟨2, ![8192, 8]⟩
abbrev S8192x2568 : Shape := ⟨2, ![8192, 2568]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S1024x8192 : Shape := ⟨2, ![1024, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S1024x2568, .bf16⟩
  | .hbm, ⟨3, _⟩ => ⟨S8192x512, .bf16⟩
  | .hbm, ⟨4, _⟩ => ⟨S512x8192, .f32⟩
  | .hbm, ⟨5, _⟩ => ⟨S512x8192, .f32⟩
  | .hbm, ⟨6, _⟩ => ⟨S8192x1024, .bf16⟩
  | .hbm, ⟨7, _⟩ => ⟨S8x8192, .f32⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x8, .f32⟩
  | .hbm, ⟨13, _⟩ => ⟨S8192x1024, .f32⟩
  | .hbm, ⟨14, _⟩ => ⟨S8192x2568, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2568, .f32⟩
  | .hbm, ⟨29, _⟩ => ⟨S8192x2568, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S6x1024, .f32⟩
  | .hbm, ⟨49, _⟩ => ⟨S8x1024, .f32⟩
  | .hbm, ⟨50, _⟩ => ⟨S1024x8192, .f32⟩
  | .hbm, ⟨51, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Attn.lean ====
abbrev S8192x512 : Shape := ⟨2, ![8192, 512]⟩
abbrev S8x8192 : Shape := ⟨2, ![8, 8192]⟩
abbrev S8192x1536 : Shape := ⟨2, ![8192, 1536]⟩
abbrev S4x8192x2 : Shape := ⟨3, ![4, 8192, 2]⟩
abbrev S1024x128 : Shape := ⟨2, ![1024, 128]⟩
abbrev S8192x128 : Shape := ⟨2, ![8192, 128]⟩
abbrev S1x1024x2 : Shape := ⟨3, ![1, 1024, 2]⟩
abbrev S1x128 : Shape := ⟨2, ![1, 128]⟩
abbrev S1024x1 : Shape := ⟨2, ![1024, 1]⟩
abbrev S1024x1024 : Shape := ⟨2, ![1024, 1024]⟩
abbrev S1x1024 : Shape := ⟨2, ![1, 1024]⟩
abbrev S1024 : Shape := ⟨1, ![1024]⟩
abbrev S512x128 : Shape := ⟨2, ![512, 128]⟩
abbrev S1024x512 : Shape := ⟨2, ![1024, 512]⟩
abbrev S1x512 : Shape := ⟨2, ![1, 512]⟩
abbrev S512x1 : Shape := ⟨2, ![512, 1]⟩
abbrev S512x512 : Shape := ⟨2, ![512, 512]⟩
abbrev S512 : Shape := ⟨1, ![512]⟩
abbrev S1x1024x1 : Shape := ⟨3, ![1, 1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8x8192, .f32⟩
  | .hbm, ⟨4, _⟩ => ⟨S8192x1536, .bf16⟩
  | .hbm, ⟨5, _⟩ => ⟨S8192x512, .f32⟩
  | .hbm, ⟨6, _⟩ => ⟨S4x8192x2, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8x8192, .f32⟩
  | .local _ .vmem, ⟨7, _⟩ => ⟨S1024x128, .f32⟩
  | .local _ .vmem, ⟨8, _⟩ => ⟨S1024x128, .f32⟩
  | .local _ .vmem, ⟨9, _⟩ => ⟨S1x1024x2, .f32⟩
  | .local _ .vmem, ⟨10, _⟩ => ⟨S1x1024x2, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_7 : BitVec 32 := 1#32
  ⟨c0_i32, v25, c1_i32_7⟩
def k0_mult1 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c1024_i32 : BitVec 32 := 1024#32
  let v230 : BitVec 32 := Scalar.muli arg8 c1024_i32
  v230
def k0_off1 (i : grid0.Coords) (k0_t1 : Fin (k0_t1_loop i).trips) : Fin 2 → Nat :=
  let c0_i32 : BitVec 32 := 0#32
  let c1_i32_7 : BitVec 32 := 1#32
  let arg8 : BitVec 32 := Scf.iv c0_i32 c1_i32_7 k0_t1
  let c1024_i32 : BitVec 32 := 1024#32
  let v230 : BitVec 32 := Scalar.muli arg8 c1024_i32
  let v231 : BitVec 32 := v230
  let v232 : Index := Scalar.indexCast v231
  let c0_60 : Index := 0#32
  ![v232.toNat, 0]
def k0_off2 (i : grid0.Coords) (k0_t1 : Fin (k0_t1_loop i).trips) (c0_i32_64 : BitVec 32) : Fin 2 → Nat :=
  let c2_i32_63 : BitVec 32 := 2#32
  let arg0 : BitVec 32 := BitVec.ofNat 32 (i 0).val
  let v239 : BitVec 32 := Scalar.muli c2_i32_63 arg0
  let v240 : BitVec 32 := Scalar.addi v239 c0_i32_64
  let v241 : Index := Scalar.indexCast v240
  let c0_i32 : BitVec 32 := 0#32
  let c1_i32_7 : BitVec 32 := 1#32
  let arg8 : BitVec 32 := Scf.iv c0_i32 c1_i32_7 k0_t1
  let c1024_i32 : BitVec 32 := 1024#32
  let v230 : BitVec 32 := Scalar.muli arg8 c1024_i32
  let v231 : BitVec 32 := v230
  let v242 : Index := Scalar.indexCast v231
  ![v241.toNat, v242.toNat]
@[reducible] def k0_t2_loop (i : grid0.Coords) : Scf.Loop 32 :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let v22 : BitVec 32 := Scalar.addi c0_i32 v21
  let c1_i32_8 : BitVec 32 := 1#32
  ⟨v25, v22, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_8 : BitVec 32 := 1#32
  let arg8 : BitVec 32 := Scf.iv v25 c1_i32_8 k0_t2
  let c1024_i32 : BitVec 32 := 1024#32
  let v230 : BitVec 32 := Scalar.muli arg8 c1024_i32
  v230
def k0_off3 (i : grid0.Coords) (k0_t2 : Fin (k0_t2_loop i).trips) : Fin 2 → Nat :=
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_8 : BitVec 32 := 1#32
  let arg8 : BitVec 32 := Scf.iv v25 c1_i32_8 k0_t2
  let c1024_i32 : BitVec 32 := 1024#32
  let v230 : BitVec 32 := Scalar.muli arg8 c1024_i32
  let v231 : BitVec 32 := v230
  let v232 : Index := Scalar.indexCast v231
  let c0_60 : Index := 0#32
  ![v232.toNat, 0]
def k0_off4 (i : grid0.Coords) (k0_t2 : Fin (k0_t2_loop i).trips) (c0_i32_64 : BitVec 32) : Fin 2 → Nat :=
  let c2_i32_63 : BitVec 32 := 2#32
  let arg0 : BitVec 32 := BitVec.ofNat 32 (i 0).val
  let v239 : BitVec 32 := Scalar.muli c2_i32_63 arg0
  let v240 : BitVec 32 := Scalar.addi v239 c0_i32_64
  let v241 : Index := Scalar.indexCast v240
  let c0_i32 : BitVec 32 := 0#32
  let arg1 : BitVec 32 := BitVec.ofNat 32 (i 1).val
  let v21 : BitVec 32 := Scalar.subi arg1 c0_i32
  let c1_i32 : BitVec 32 := 1#32
  let v23 : BitVec 32 := Scalar.divsi v21 c1_i32
  let v24 : BitVec 32 := Scalar.muli v23 c1_i32
  let v25 : BitVec 32 := Scalar.addi c0_i32 v24
  let c1_i32_8 : BitVec 32 := 1#32
  let arg8 : BitVec 32 := Scf.iv v25 c1_i32_8 k0_t2
  let c1024_i32 : BitVec 32 := 1024#32
  let v230 : BitVec 32 := Scalar.muli arg8 c1024_i32
  let v231 : BitVec 32 := v230
  let v242 : Index := Scalar.indexCast v231
  ![v241.toNat, v242.toNat]
def k0_mult3 (i : grid0.Coords) : BitVec 32 :=
  let arg1 : BitVec 32 := BitVec.ofNat 32 (i 1).val
  let c2_i32 : BitVec 32 := 2#32
  let v28 : BitVec 32 := Scalar.muli arg1 c2_i32
  let c0_i32_9 : BitVec 32 := 0#32
  let v29 : BitVec 32 := Scalar.addi v28 c0_i32_9
  let c512_i32 : BitVec 32 := 512#32
  let v30 : BitVec 32 := Scalar.muli v29 c512_i32
  v30
def k0_off5 (i : grid0.Coords) (c0_i32_9 : BitVec 32) : Fin 2 → Nat :=
  let arg1 : BitVec 32 := BitVec.ofNat 32 (i 1).val
  let c2_i32 : BitVec 32 := 2#32
  let v28 : BitVec 32 := Scalar.muli arg1 c2_i32
  let v29 : BitVec 32 := Scalar.addi v28 c0_i32_9
  let c512_i32 : BitVec 32 := 512#32
  let v30 : BitVec 32 := Scalar.muli v29 c512_i32
  let v31 : BitVec 32 := v30
  let v32 : Index := Scalar.indexCast v31
  let c0_10 : Index := 0#32
  ![v32.toNat, 0]
def k0_off6 (i : grid0.Coords) (c0_i32_14 : BitVec 32) (c0_i32_9 : BitVec 32) : Fin 2 → Nat :=
  let c2_i32_13 : BitVec 32 := 2#32
  let arg0 : BitVec 32 := BitVec.ofNat 32 (i 0).val
  let v39 : BitVec 32 := Scalar.muli c2_i32_13 arg0
  let v40 : BitVec 32 := Scalar.addi v39 c0_i32_14
  let v41 : Index := Scalar.indexCast v40
  let arg1 : BitVec 32 := BitVec.ofNat 32 (i 1).val
  let c2_i32 : BitVec 32 := 2#32
  let v28 : BitVec 32 := Scalar.muli arg1 c2_i32
  let v29 : BitVec 32 := Scalar.addi v28 c0_i32_9
  let c512_i32 : BitVec 32 := 512#32
  let v30 : BitVec 32 := Scalar.muli v29 c512_i32
  let v31 : BitVec 32 := v30
  let v42 : Index := Scalar.indexCast v31
  ![v41.toNat, v42.toNat]
def k0_mult4 (i : grid0.Coords) : BitVec 32 :=
  let arg1 : BitVec 32 := BitVec.ofNat 32 (i 1).val
  let c2_i32_30 : BitVec 32 := 2#32
  let v112 : BitVec 32 := Scalar.muli arg1 c2_i32_30
  let c1_i32_31 : BitVec 32 := 1#32
  let v113 : BitVec 32 := Scalar.addi v112 c1_i32_31
  let c512_i32_32 : BitVec 32 := 512#32
  let v114 : BitVec 32 := Scalar.muli v113 c512_i32_32
  v114
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S8192x512 : Shape := ⟨2, ![8192, 512]⟩
abbrev S8x8192 : Shape := ⟨2, ![8, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8192x8x64 : Shape := ⟨3, ![8192, 8, 64]⟩
abbrev S8x8192x8192 : Shape := ⟨3, ![8, 8192, 8192]⟩
abbrev S8x1x8192 : Shape := ⟨3, ![8, 1, 8192]⟩
abbrev S8x8192x1 : Shape := ⟨3, ![8, 8192, 1]⟩
abbrev S8x64x8192 : Shape := ⟨3, ![8, 64, 8192]⟩
abbrev S4x2x8192 : Shape := ⟨3, ![4, 2, 8192]⟩
abbrev S4x8192x2 : Shape := ⟨3, ![4, 8192, 2]⟩

abbrev nBuf : Space → Nat
  | .hbm => 59
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8x8192, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x8x64, .f32⟩
  | .hbm, ⟨17, _⟩ => ⟨S8192x8x64, .f32⟩
  | .hbm, ⟨18, _⟩ => ⟨S8x8192x8192, .f32⟩
  | .hbm, ⟨19, _⟩ => ⟨S8x1x8192, .f32⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8192x8x64, .f32⟩
  | .hbm, ⟨54, _⟩ => ⟨S8x64x8192, .f32⟩
  | .hbm, ⟨55, _⟩ => ⟨S8192x8x64, .f32⟩
  | .hbm, ⟨56, _⟩ => ⟨S8192x512, .f32⟩
  | .hbm, ⟨57, _⟩ => ⟨S4x2x8192, .f32⟩
  | .hbm, ⟨58, _⟩ => ⟨S4x8192x2, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Fox.lean ====
abbrev S8192x512 : Shape := ⟨2, ![8192, 512]⟩
abbrev S8x8192 : Shape := ⟨2, ![8, 8192]⟩
abbrev S8192x1536 : Shape := ⟨2, ![8192, 1536]⟩
abbrev S8192 : Shape := ⟨1, ![8192]⟩
abbrev S_ : Shape := ⟨0, ![]⟩
abbrev S8192x8x64 : Shape := ⟨3, ![8192, 8, 64]⟩
abbrev S8x8192x8192 : Shape := ⟨3, ![8, 8192, 8192]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x8192x1 : Shape := ⟨3, ![8, 8192, 1]⟩
abbrev S8x64x8192 : Shape := ⟨3, ![8, 64, 8192]⟩
abbrev S4x2x8192 : Shape := ⟨3, ![4, 2, 8192]⟩
abbrev S4x8192x2 : Shape := ⟨3, ![4, 8192, 2]⟩
abbrev S512x8192 : Shape := ⟨2, ![512, 8192]⟩
abbrev S4x8x8192 : Shape := ⟨3, ![4, 8, 8192]⟩
abbrev S1024x128 : Shape := ⟨2, ![1024, 128]⟩
abbrev S8192x128 : Shape := ⟨2, ![8192, 128]⟩
abbrev S1x1024x2 : Shape := ⟨3, ![1, 1024, 2]⟩
abbrev S128x8192 : Shape := ⟨2, ![128, 8192]⟩
abbrev S1x8x8192 : Shape := ⟨3, ![1, 8, 8192]⟩
abbrev S1x128 : Shape := ⟨2, ![1, 128]⟩
abbrev S128x1 : Shape := ⟨2, ![128, 1]⟩
abbrev S128x128 : Shape := ⟨2, ![128, 128]⟩
abbrev S1024 : Shape := ⟨1, ![1024]⟩
abbrev S1024x1 : Shape := ⟨2, ![1024, 1]⟩
abbrev S1x1024x1 : Shape := ⟨3, ![1, 1024, 1]⟩
abbrev S128x1024 : Shape := ⟨2, ![128, 1024]⟩
abbrev S512x128 : Shape := ⟨2, ![512, 128]⟩
abbrev S1x512 : Shape := ⟨2, ![1, 512]⟩
abbrev S1024x512 : Shape := ⟨2, ![1024, 512]⟩
abbrev S128x512 : Shape := ⟨2, ![128, 512]⟩
abbrev S1x1x512 : Shape := ⟨3, ![1, 1, 512]⟩
abbrev S512x512 : Shape := ⟨2, ![512, 512]⟩
abbrev S512x1 : Shape := ⟨2, ![512, 1]⟩

abbrev nBuf : Space → Nat
  | .hbm => 54
  | .vmem => 23
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8x8192, .f32⟩
  | .hbm, ⟨4, _⟩ => ⟨S8192x512, .f32⟩
  | .hbm, ⟨5, _⟩ => ⟨S8192x1536, .bf16⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192, .i32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x8x64, .f32⟩
  | .hbm, ⟨14, _⟩ => ⟨S8192x8x64, .f32⟩
  | .hbm, ⟨15, _⟩ => ⟨S8x8192x8192, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x1, .f32⟩
  | .hbm, ⟨39, _⟩ => ⟨S8x8192x1, .f32⟩
  | .hbm, ⟨40, _⟩ => ⟨S8x8192, .f32⟩
  | .hbm, ⟨41, _⟩ => ⟨S8x8192x8192, .f32⟩
  | .hbm, ⟨42, _⟩ => ⟨S8x8192x8192, .f32⟩
  | .hbm, ⟨43, _⟩ => ⟨S8192x8x64, .f32⟩
  | .hbm, ⟨44, _⟩ => ⟨S8x64x8192, .f32⟩
  | .hbm, ⟨45, _⟩ => ⟨S8192x8x64, .f32⟩
  | .hbm, ⟨46, _⟩ => ⟨S8192x512, .f32⟩
  | .hbm, ⟨47, _⟩ => ⟨S4x2x8192, .f32⟩
  | .hbm, ⟨48, _⟩ => ⟨S4x8192x2, .f32⟩
  | .hbm, ⟨49, _⟩ => ⟨S8192x512, .bf16⟩
  | .hbm, ⟨50, _⟩ => ⟨S512x8192, .f32⟩
  | .hbm, ⟨51, _⟩ => ⟨S512x8192, .f32⟩
  | .hbm, ⟨52, _⟩ => ⟨S4x8x8192, .f32⟩
  | .hbm, ⟨53, _⟩ => ⟨S4x8192x2, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8x8192, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1024x2, .f32⟩
  | .local _ .vmem, ⟨12, _⟩ => ⟨S1x1024x2, .f32⟩
  | .local _ .vmem, ⟨13, _⟩ => ⟨S1024x128, .bf16⟩
  | .local _ .vmem, ⟨14, _⟩ => ⟨S1024x128, .bf16⟩
  | .local _ .vmem, ⟨15, _⟩ => ⟨S128x8192, .f32⟩
  | .local _ .vmem, ⟨16, _⟩ => ⟨S128x8192, .f32⟩
  | .local _ .vmem, ⟨17, _⟩ => ⟨S128x8192, .f32⟩
  | .local _ .vmem, ⟨18, _⟩ => ⟨S128x8192, .f32⟩
  | .local _ .vmem, ⟨19, _⟩ => ⟨S1x8x8192, .f32⟩
  | .local _ .vmem, ⟨20, _⟩ => ⟨S1x8x8192, .f32⟩
  | .local _ .vmem, ⟨21, _⟩ => ⟨S1x1024x2, .f32⟩
  | .local _ .vmem, ⟨22, _⟩ => ⟨S1x1024x2, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev main_v37_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let c1_i32_32 : BitVec 32 := 1#32
  ⟨c0_i32_31, v88, c1_i32_32⟩
def k0_mult1 (i : grid0.Coords) (k0_t1 : Fin (k0_t1_loop i).trips) : BitVec 32 :=
  let c0_i32_31 : BitVec 32 := 0#32
  let c1_i32_32 : BitVec 32 := 1#32
  let arg14 : BitVec 32 := Scf.iv c0_i32_31 c1_i32_32 k0_t1
  let c512_i32_110 : BitVec 32 := 512#32
  let v344 : BitVec 32 := Scalar.muli arg14 c512_i32_110
  v344
def k0_off1 (i : grid0.Coords) (k0_t1 : Fin (k0_t1_loop i).trips) : Fin 2 → Nat :=
  let c0_i32_31 : BitVec 32 := 0#32
  let c1_i32_32 : BitVec 32 := 1#32
  let arg14 : BitVec 32 := Scf.iv c0_i32_31 c1_i32_32 k0_t1
  let c512_i32_110 : BitVec 32 := 512#32
  let v344 : BitVec 32 := Scalar.muli arg14 c512_i32_110
  let v345 : BitVec 32 := v344
  let v346 : Index := Scalar.indexCast v345
  let c0_111 : Index := 0#32
  ![v346.toNat, 0]
def k0_off2 (i : grid0.Coords) (k0_t1 : Fin (k0_t1_loop i).trips) (c0_i32_114 : BitVec 32) : Fin 2 → Nat :=
  let c2_i32_113 : BitVec 32 := 2#32
  let arg0 : BitVec 32 := BitVec.ofNat 32 (i 0).val
  let v352 : BitVec 32 := Scalar.muli c2_i32_113 arg0
  let v353 : BitVec 32 := Scalar.addi v352 c0_i32_114
  let v354 : Index := Scalar.indexCast v353
  let c0_i32_31 : BitVec 32 := 0#32
  let c1_i32_32 : BitVec 32 := 1#32
  let arg14 : BitVec 32 := Scf.iv c0_i32_31 c1_i32_32 k0_t1
  let c512_i32_110 : BitVec 32 := 512#32
  let v344 : BitVec 32 := Scalar.muli arg14 c512_i32_110
  let v345 : BitVec 32 := v344
  let v355 : Index := Scalar.indexCast v345
  ![v354.toNat, v355.toNat]
def k0_off3 (i : grid0.Coords) (k0_t1 : Fin (k0_t1_loop i).trips) : Fin 2 → Nat :=
  let c0_127 : Index := 0#32
  let c0_i32_31 : BitVec 32 := 0#32
  let c1_i32_32 : BitVec 32 := 1#32
  let arg14 : BitVec 32 := Scf.iv c0_i32_31 c1_i32_32 k0_t1
  let c512_i32_110 : BitVec 32 := 512#32
  let v344 : BitVec 32 := Scalar.muli arg14 c512_i32_110
  let v345 : BitVec 32 := v344
  let v406 : Index := Scalar.indexCast v345
  ![0, v406.toNat]
def k0_off4 (i : grid0.Coords) (k0_t1 : Fin (k0_t1_loop i).trips) : Fin 3 → Nat :=
  let c0_132 : Index := 0#32
  let c0_133 : Index := 0#32
  let c0_i32_31 : BitVec 32 := 0#32
  let c1_i32_32 : BitVec 32 := 1#32
  let arg14 : BitVec 32 := Scf.iv c0_i32_31 c1_i32_32 k0_t1
  let c512_i32_110 : BitVec 32 := 512#32
  let v344 : BitVec 32 := Scalar.muli arg14 c512_i32_110
  let v345 : BitVec 32 := v344
  let v424 : Index := Scalar.indexCast v345
  ![0, 0, v424.toNat]
def k0_off5 (i : grid0.Coords) (k0_t1 : Fin (k0_t1_loop i).trips) : Fin 3 → Nat :=
  let c0_136 : Index := 0#32
  let c1_137 : Index := 1#32
  let c0_i32_31 : BitVec 32 := 0#32
  let c1_i32_32 : BitVec 32 := 1#32
  let arg14 : BitVec 32 := Scf.iv c0_i32_31 c1_i32_32 k0_t1
  let c512_i32_110 : BitVec 32 := 512#32
  let v344 : BitVec 32 := Scalar.muli arg14 c512_i32_110
  let v345 : BitVec 32 := v344
  let v433 : Index := Scalar.indexCast v345
  ![0, 1, v433.toNat]
@[reducible] def k0_t2_loop (i : grid0.Coords) : Scf.Loop 32 :=
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let v85 : BitVec 32 := Scalar.addi c0_i32_31 v84
  let c1_i32_33 : BitVec 32 := 1#32
  ⟨v88, v85, c1_i32_33⟩
def k0_mult2 (i : grid0.Coords) (k0_t2 : Fin (k0_t2_loop i).trips) : BitVec 32 :=
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let c1_i32_33 : BitVec 32 := 1#32
  let arg14 : BitVec 32 := Scf.iv v88 c1_i32_33 k0_t2
  let c512_i32_110 : BitVec 32 := 512#32
  let v344 : BitVec 32 := Scalar.muli arg14 c512_i32_110
  v344
def k0_off6 (i : grid0.Coords) (k0_t2 : Fin (k0_t2_loop i).trips) : Fin 2 → Nat :=
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let c1_i32_33 : BitVec 32 := 1#32
  let arg14 : BitVec 32 := Scf.iv v88 c1_i32_33 k0_t2
  let c512_i32_110 : BitVec 32 := 512#32
  let v344 : BitVec 32 := Scalar.muli arg14 c512_i32_110
  let v345 : BitVec 32 := v344
  let v346 : Index := Scalar.indexCast v345
  let c0_111 : Index := 0#32
  ![v346.toNat, 0]
def k0_off7 (i : grid0.Coords) (k0_t2 : Fin (k0_t2_loop i).trips) (c0_i32_114 : BitVec 32) : Fin 2 → Nat :=
  let c2_i32_113 : BitVec 32 := 2#32
  let arg0 : BitVec 32 := BitVec.ofNat 32 (i 0).val
  let v352 : BitVec 32 := Scalar.muli c2_i32_113 arg0
  let v353 : BitVec 32 := Scalar.addi v352 c0_i32_114
  let v354 : Index := Scalar.indexCast v353
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let c1_i32_33 : BitVec 32 := 1#32
  let arg14 : BitVec 32 := Scf.iv v88 c1_i32_33 k0_t2
  let c512_i32_110 : BitVec 32 := 512#32
  let v344 : BitVec 32 := Scalar.muli arg14 c512_i32_110
  let v345 : BitVec 32 := v344
  let v355 : Index := Scalar.indexCast v345
  ![v354.toNat, v355.toNat]
def k0_off8 (i : grid0.Coords) (k0_t2 : Fin (k0_t2_loop i).trips) : Fin 2 → Nat :=
  let c0_127 : Index := 0#32
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let c1_i32_33 : BitVec 32 := 1#32
  let arg14 : BitVec 32 := Scf.iv v88 c1_i32_33 k0_t2
  let c512_i32_110 : BitVec 32 := 512#32
  let v344 : BitVec 32 := Scalar.muli arg14 c512_i32_110
  let v345 : BitVec 32 := v344
  let v406 : Index := Scalar.indexCast v345
  ![0, v406.toNat]
def k0_off9 (i : grid0.Coords) (k0_t2 : Fin (k0_t2_loop i).trips) : Fin 3 → Nat :=
  let c0_132 : Index := 0#32
  let c0_133 : Index := 0#32
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let c1_i32_33 : BitVec 32 := 1#32
  let arg14 : BitVec 32 := Scf.iv v88 c1_i32_33 k0_t2
  let c512_i32_110 : BitVec 32 := 512#32
  let v344 : BitVec 32 := Scalar.muli arg14 c512_i32_110
  let v345 : BitVec 32 := v344
  let v424 : Index := Scalar.indexCast v345
  ![0, 0, v424.toNat]
def k0_off10 (i : grid0.Coords) (k0_t2 : Fin (k0_t2_loop i).trips) : Fin 3 → Nat :=
  let c0_136 : Index := 0#32
  let c1_137 : Index := 1#32
  let c0_i32_31 : BitVec 32 := 0#32
  let arg1 : BitVec 32 := BitVec.ofNat 32 (i 1).val
  let c2_i32 : BitVec 32 := 2#32
  let v83 : BitVec 32 := Scalar.muli arg1 c2_i32
  let v84 : BitVec 32 := Scalar.subi v83 c0_i32_31
  let c1_i32 : BitVec 32 := 1#32
  let v86 : BitVec 32 := Scalar.divsi v84 c1_i32
  let v87 : BitVec 32 := Scalar.muli v86 c1_i32
  let v88 : BitVec 32 := Scalar.addi c0_i32_31 v87
  let c1_i32_33 : BitVec 32 := 1#32
  let arg14 : BitVec 32 := Scf.iv v88 c1_i32_33 k0_t2
  let c512_i32_110 : BitVec 32 := 512#32
  let v344 : BitVec 32 := Scalar.muli arg14 c512_i32_110
  let v345 : BitVec 32 := v344
  let v433 : Index := Scalar.indexCast v345
  ![0, 1, v433.toNat]
def k0_mult3 (i : grid0.Coords) : BitVec 32 :=
  let arg1 : BitVec 32 := BitVec.ofNat 32 (i 1).val
  let c2_i32_34 : BitVec 32 := 2#32
  let v91 : BitVec 32 := Scalar.muli arg1 c2_i32_34
  let c0_i32_35 : BitVec 32 := 0#32
  let v92 : BitVec 32 := Scalar.addi v91 c0_i32_35
  let c512_i32 : BitVec 32 := 512#32
  let v93 : BitVec 32 := Scalar.muli v92 c512_i32
  v93
def k0_off11 (i : grid0.Coords) (c0_i32_35 : BitVec 32) : Fin 2 → Nat :=
  let arg1 : BitVec 32 := BitVec.ofNat 32 (i 1).val
  let c2_i32_34 : BitVec 32 := 2#32
  let v91 : BitVec 32 := Scalar.muli arg1 c2_i32_34
  let v92 : BitVec 32 := Scalar.addi v91 c0_i32_35
  let c512_i32 : BitVec 32 := 512#32
  let v93 : BitVec 32 := Scalar.muli v92 c512_i32
  let v94 : BitVec 32 := v93
  let v95 : Index := Scalar.indexCast v94
  let c0_36 : Index := 0#32
  ![v95.toNat, 0]
def k0_off12 (i : grid0.Coords) (c0_i32_39 : BitVec 32) (c0_i32_35 : BitVec 32) : Fin 2 → Nat :=
  let c2_i32_38 : BitVec 32 := 2#32
  let arg0 : BitVec 32 := BitVec.ofNat 32 (i 0).val
  let v101 : BitVec 32 := Scalar.muli c2_i32_38 arg0
  let v102 : BitVec 32 := Scalar.addi v101 c0_i32_39
  let v103 : Index := Scalar.indexCast v102
  let arg1 : BitVec 32 := BitVec.ofNat 32 (i 1).val
  let c2_i32_34 : BitVec 32 := 2#32
  let v91 : BitVec 32 := Scalar.muli arg1 c2_i32_34
  let v92 : BitVec 32 := Scalar.addi v91 c0_i32_35
  let c512_i32 : BitVec 32 := 512#32
  let v93 : BitVec 32 := Scalar.muli v92 c512_i32
  let v94 : BitVec 32 := v93
  let v104 : Index := Scalar.indexCast v94
  ![v103.toNat, v104.toNat]
def k0_off13 (i : grid0.Coords) (c0_i32_35 : BitVec 32) : Fin 2 → Nat :=
  let c0_54 : Index := 0#32
  let arg1 : BitVec 32 := BitVec.ofNat 32 (i 1).val
  let c2_i32_34 : BitVec 32 := 2#32
  let v91 : BitVec 32 := Scalar.muli arg1 c2_i32_34
  let v92 : BitVec 32 := Scalar.addi v91 c0_i32_35
  let c512_i32 : BitVec 32 := 512#32
  let v93 : BitVec 32 := Scalar.muli v92 c512_i32
  let v94 : BitVec 32 := v93
  let v165 : Index := Scalar.indexCast v94
  ![0, v165.toNat]
def k0_off14 (i : grid0.Coords) (c0_i32_35 : BitVec 32) : Fin 3 → Nat :=
  let c0_59 : Index := 0#32
  let c0_60 : Index := 0#32
  let arg1 : BitVec 32 := BitVec.ofNat 32 (i 1).val
  let c2_i32_34 : BitVec 32 := 2#32
  let v91 : BitVec 32 := Scalar.muli arg1 c2_i32_34
  let v92 : BitVec 32 := Scalar.addi v91 c0_i32_35
  let c512_i32 : BitVec 32 := 512#32
  let v93 : BitVec 32 := Scalar.muli v92 c512_i32
  let v94 : BitVec 32 := v93
  let v183 : Index := Scalar.indexCast v94
  ![0, 0, v183.toNat]
def k0_off15 (i : grid0.Coords) (c0_i32_35 : BitVec 32) : Fin 3 → Nat :=
  let c0_63 : Index := 0#32
  let c1_64 : Index := 1#32
  let arg1 : BitVec 32 := BitVec.ofNat 32 (i 1).val
  let c2_i32_34 : BitVec 32 := 2#32
  let v91 : BitVec 32 := Scalar.muli arg1 c2_i32_34
  let v92 : BitVec 32 := Scalar.addi v91 c0_i32_35
  let c512_i32 : BitVec 32 := 512#32
  let v93 : BitVec 32 := Scalar.muli v92 c512_i32
  let v94 : BitVec 32 := v93
  let v192 : Index := Scalar.indexCast v94
  ![0, 1, v192.toNat]
def k0_mult4 (i : grid0.Coords) : BitVec 32 :=
  let arg1 : BitVec 32 := BitVec.ofNat 32 (i 1).val
  let c2_i32_67 : BitVec 32 := 2#32
  let v201 : BitVec 32 := Scalar.muli arg1 c2_i32_67
  let c1_i32_68 : BitVec 32 := 1#32
  let v202 : BitVec 32 := Scalar.addi v201 c1_i32_68
  let c512_i32_69 : BitVec 32 := 512#32
  let v203 : BitVec 32 := Scalar.muli v202 c512_i32_69
  v203
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FoxRefIdeal.lean ====
abbrev S8192x512 : Shape := ⟨2, ![8192, 512]⟩
abbrev S8x8192 : Shape := ⟨2, ![8, 8192]⟩
abbrev S8192 : Shape := ⟨1, ![8192]⟩
abbrev S_ : Shape := ⟨0, ![]⟩
abbrev S8192x8x64 : Shape := ⟨3, ![8192, 8, 64]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩
abbrev S4x2x8192 : Shape := ⟨3, ![4, 2, 8192]⟩
abbrev S4x8x8192 : Shape := ⟨3, ![4, 8, 8192]⟩
abbrev S512x8192 : Shape := ⟨2, ![512, 8192]⟩
abbrev S4x8192x2 : Shape := ⟨3, ![4, 8192, 2]⟩

abbrev nBuf : Space → Nat
  | .hbm => 127
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8x8192, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192, .i32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x8x64, .f32⟩
  | .hbm, ⟨13, _⟩ => ⟨S8192x8x64, .f32⟩
  | .hbm, ⟨14, _⟩ => ⟨S8x8192x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S8x8192x1, .f32⟩
  | .hbm, ⟨36, _⟩ => ⟨S8x8192x8192, .f32⟩
  | .hbm, ⟨37, _⟩ => ⟨S8x8192x8192, .i1⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .i1⟩
  | .hbm, ⟨47, _⟩ => ⟨S_, .f32⟩
  | .hbm, ⟨48, _⟩ => ⟨S8x8192, .f32⟩
  | .hbm, ⟨49, _⟩ => ⟨S8x8192, .i1⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S_, .f32⟩
  | .hbm, ⟨55, _⟩ => ⟨S8x8192, .f32⟩
  | .hbm, ⟨56, _⟩ => ⟨S8x8192, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S8192x8x64, .f32⟩
  | .hbm, ⟨72, _⟩ => ⟨S8x64x8192, .f32⟩
  | .hbm, ⟨73, _⟩ => ⟨S8192x8x64, .f32⟩
  | .hbm, ⟨74, _⟩ => ⟨S8192x512, .f32⟩
  | .hbm, ⟨75, _⟩ => ⟨S8192x8x64, .f32⟩
  | .hbm, ⟨76, _⟩ => ⟨S8x64x8192, .f32⟩
  | .hbm, ⟨77, _⟩ => ⟨S8x8192x8192, .f32⟩
  | .hbm, ⟨78, _⟩ => ⟨S8x64x8192, .f32⟩
  | .hbm, ⟨79, _⟩ => ⟨S8192x8x64, .f32⟩
  | .hbm, ⟨80, _⟩ => ⟨S8192x512, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192, .f32⟩
  | .hbm, ⟨86, _⟩ => ⟨S8x8192x1, .f32⟩
  | .hbm, ⟨87, _⟩ => ⟨S8x8192x1, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192, .f32⟩
  | .hbm, ⟨92, _⟩ => ⟨S8x8192x8192, .f32⟩
  | .hbm, ⟨93, _⟩ => ⟨S8x8192x8192, .f32⟩
  | .hbm, ⟨94, _⟩ => ⟨S8x8192x8192, .f32⟩
  | .hbm, ⟨95, _⟩ => ⟨S_, .f32⟩
  | .hbm, ⟨96, _⟩ => ⟨S8x8192x8192, .f32⟩
  | .hbm, ⟨97, _⟩ => ⟨S8x8192x8192, .f32⟩
  | .hbm, ⟨98, _⟩ => ⟨S8x8192x8192, .f32⟩
  | .hbm, ⟨99, _⟩ => ⟨S_, .f32⟩
  | .hbm, ⟨100, _⟩ => ⟨S8x8192, .f32⟩
  | .hbm, ⟨101, _⟩ => ⟨S8x1x8192, .f32⟩
  | .hbm, ⟨102, _⟩ => ⟨S_, .f32⟩
  | .hbm, ⟨103, _⟩ => ⟨S8x8192, .f32⟩
  | .hbm, ⟨104, _⟩ => ⟨S_, .f32⟩
  | .hbm, ⟨105, _⟩ => ⟨S8x8192, .f32⟩
  | .hbm, ⟨106, _⟩ => ⟨S8x8192x1, .f32⟩
  | .hbm, ⟨107, _⟩ => ⟨S_, .f32⟩
  | .hbm, ⟨108, _⟩ => ⟨S8x8192, .f32⟩
  | .hbm, ⟨109, _⟩ => ⟨S8x8192x64, .f32⟩
  | .hbm, ⟨110, _⟩ => ⟨S8192x8x64, .f32⟩
  | .hbm, ⟨111, _⟩ => ⟨S8x8192x64, .f32⟩
  | .hbm, ⟨112, _⟩ => ⟨S8192x8x64, .f32⟩
  | .hbm, ⟨113, _⟩ => ⟨S8192x512, .f32⟩
  | .hbm, ⟨114, _⟩ => ⟨S8192x512, .f32⟩
  | .hbm, ⟨115, _⟩ => ⟨S_, .f32⟩
  | .hbm, ⟨116, _⟩ => ⟨S8192x512, .f32⟩
  | .hbm, ⟨117, _⟩ => ⟨S8192x512, .f32⟩
  | .hbm, ⟨118, _⟩ => ⟨S4x2x8192, .f32⟩
  | .hbm, ⟨119, _⟩ => ⟨S_, .i32⟩
  | .hbm, ⟨120, _⟩ => ⟨S_, .f32⟩
  | .hbm, ⟨121, _⟩ => ⟨S4x8x8192, .f32⟩
  | .hbm, ⟨122, _⟩ => ⟨S8192x512, .bf16⟩
  | .hbm, ⟨123, _⟩ => ⟨S512x8192, .f32⟩
  | .hbm, ⟨124, _⟩ => ⟨S512x8192, .f32⟩
  | .hbm, ⟨125, _⟩ => ⟨S4x2x8192, .f32⟩
  | .hbm, ⟨126, _⟩ => ⟨S4x8192x2, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c : Ref sig .tc := ⟨.hbm, 119, rfl⟩
abbrev main_call2_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Opt.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptRefIdeal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Frames.lean ====
/- The frames of the pairs: each kernel's generated frame, and for each reference its generated run, which declares no semaphore. -/
module

public import proofs.«01_k».proof.Defs
public import proofs.«01_k».proof.Proof.Gen.GateRefIdeal.Run
public import proofs.«01_k».proof.Proof.Gen.MixRefIdeal.Run
public import proofs.«01_k».proof.Proof.Gen.LossRefIdeal.Run
public import proofs.«01_k».proof.Proof.Gen.JoinRefIdeal.Run
public import proofs.«01_k».proof.Proof.Gen.ReluRefIdeal.Run
public import proofs.«01_k».proof.Proof.Gen.ModRefIdeal.Run
public import proofs.«01_k».proof.Proof.Gen.AttnRefIdeal.Run
public import proofs.«01_k».proof.Proof.Gen.OptRefIdeal.Run
public import proofs.«01_k».proof.Proof.Gen.FoxRefIdeal
public import Idealize.ShloMosaic.Lib.StableHlo.RunHlo

@[expose] public section

noncomputable section

namespace Cert.Proof

open Idealize.ShloMosaic Idealize.SL.Sem

theorem frame_Gate : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

theorem frame_Mix : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

theorem frame_Loss : Cert.quiescent_LossRefIdeal := fun m ρ _ =>
  (θ_run Cert.LossRefIdeal.defs _ _).mono (fun r h => ⟨fun c => (h c).2.2.2.2.2, sem_eq_zero_of_no_sems (by decide) r.2⟩)
    (Cert.LossRefIdeal.Value.run (F := Ideal) m ρ)

theorem frame_Join : Cert.quiescent_JoinRefIdeal := fun m ρ _ =>
  (θ_run Cert.JoinRefIdeal.defs _ _).mono (fun r h => ⟨fun c => (h c).2.2.2.2, sem_eq_zero_of_no_sems (by decide) r.2⟩)
    (Cert.JoinRefIdeal.Value.run (F := Ideal) m ρ)

theorem frame_Relu : Cert.quiescent_ReluRefIdeal := fun m ρ _ =>
  (θ_run Cert.ReluRefIdeal.defs _ _).mono (fun r h => ⟨fun c => (h c).2.2.2.2, sem_eq_zero_of_no_sems (by decide) r.2⟩)
    (Cert.ReluRefIdeal.Value.run (F := Ideal) m ρ)

theorem frame_Mod : Cert.quiescent_ModRefIdeal := fun m ρ _ =>
  (θ_run Cert.ModRefIdeal.defs _ _).mono (fun r h => ⟨fun c => (h c).2.2.2, sem_eq_zero_of_no_sems (by decide) r.2⟩)
    (Cert.ModRefIdeal.Value.run (F := Ideal) m ρ)

theorem frame_Attn : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

theorem frame_Opt : Cert.quiescent_OptRefIdeal := fun m ρ _ =>
  (θ_run Cert.OptRefIdeal.defs _ _).mono (fun r h => ⟨fun c => (h c).2.2.2.2, sem_eq_zero_of_no_sems (by decide) r.2⟩)
    (Cert.OptRefIdeal.Value.run (F := Ideal) m ρ)

open StableHlo in
set_option maxRecDepth 8192 in
set_option maxHeartbeats 4000000 in
theorem frame_Fox : Cert.quiescent_FoxRefIdeal := by
  intro m ρ _
  refine θ_run_mono (run_hlo Cert.FoxRefIdeal.defs Cert.FoxRefIdeal.main (by hlo_seq) (by decide) (by decide) (by simp)
    (by intro _ h; (repeat (cases h with | head => rfl | tail _ h => ?_)); exact nomatch h) m ρ) fun r h => ?_
  refine ⟨fun c => ?_, sem_eq_zero_of_no_sems (by decide) r.2⟩
  and_intros <;> refine (h c _).trans ?_ <;> after_results_simp <;> rfl

end Cert.Proof

end
-- ==== Proof.GateScan.lean ====
/- The log-step suffix sum along the lanes, over the extended reals.

   The gate's gradient sums the cotangent from each position to the end of the sequence. The kernel does so in thirteen
   steps: each adds to every lane the lane `w` further on, where there is one, and `w` doubles from 1 to 4096. After the step
   of `w`, lane `j` holds the sum of the `2 w` entries from `j` on, entries past the end counting as zero. -/
module

public import proofs.«01_k».proof.Proof.Gen.GateIdeal.Frame
public import Idealize.ShloMosaic.Lib.Pointwise
public import Idealize.ShloMosaic.Lib.ValueIdxCore
public import Idealize.ShloMosaic.PureOps.Ideal.Laws

@[expose] public section

set_option maxRecDepth 16384

noncomputable section

namespace Cert.GateIdeal.Scan

open Idealize.ShloMosaic Cert.GateIdeal Cert.GateIdeal.Facts₀

/-- Row `r` of an array of eight rows as a sequence of all natural numbers, zero past the end. -/
def row (x : FVec Ideal S8x8192 .f32) (r : Fin 8) (k : ℕ) : EReal := if h : k < 8192 then x (ix2 r ⟨k, h⟩) else 0

/-- The sum of the `w` entries of row `r` from `j` on. -/
def tail (x : FVec Ideal S8x8192 .f32) (w : ℕ) (r : Fin 8) (j : ℕ) : EReal := ∑ k ∈ Finset.range w, row x r (j + k)

/-- A window twice as wide is two windows, one after the other. -/
theorem tail_double (x : FVec Ideal S8x8192 .f32) (w : ℕ) (r : Fin 8) (j : ℕ) :
    tail x w r j + tail x w r (j + w) = tail x (w + w) r j := by
  unfold tail
  rw [Finset.sum_range_add]
  simp only [Nat.add_assoc]

/-- A window that starts past the end is empty. -/
theorem tail_past (x : FVec Ideal S8x8192 .f32) (w : ℕ) (r : Fin 8) (j : ℕ) (h : 8192 ≤ j) : tail x w r j = 0 :=
  Finset.sum_eq_zero fun k _ => dif_neg (by omega)

/-- One step as the kernel writes it: rotate by `s`, keep the lanes below `s`, add. -/
def step [Facts] (s : BitVec 32) (x : FVec Ideal S8x8192 .f32) : FVec Ideal S8x8192 .f32 :=
  addf x (select (cmpi .slt (iota .tc S8x8192 32 [1] iota_S8x8192_d1_w32) (broadcast S8x8192 s))
    (dynamicRotate 1 s none x rotates_S8x8192_d1) (broadcast S8x8192 (Scalar.ofBits .f32 0x00000000#32)))

/-- One step, read at an index. -/
theorem step_apply [Facts] (s : BitVec 32) (hs : s.toNat < 8192) (x : FVec Ideal S8x8192 .f32) (r : Fin 8) (j : Fin 8192) :
    step s x (ix2 r j) = x (ix2 r j) + if h : j.val < s.toNat then x (ix2 r ⟨j.val + (8192 - s.toNat), by omega⟩) else 0 := by
  have hj := j.isLt
  have hc : (BitVec.slt (BitVec.ofNat 32 j.val) s) = decide (j.val < s.toNat) := by
    rw [BitVec.slt_eq_decide, BitVec.toInt_eq_toNat_of_lt (by simp; omega), BitVec.toInt_eq_toNat_of_lt (by omega)]
    simp; omega
  pointwise [step]
  congr 1
  unfold Scalar.select IntOp.cmpi
  simp only [hc]
  by_cases h : j.val < s.toNat
  · rw [dif_pos h]
    simp only [h, decide_true, BitVec.ofBool_true, if_true]
    refine congrArg x (congrArg (ix2 r) (Fin.ext ?_))
    show (j.val + 8192 - s.toNat % 8192) % 8192 = j.val + (8192 - s.toNat)
    omega
  · rw [dif_neg h]
    simp [h]

/-- The step of `w` doubles the window. -/
theorem step_tail [Facts] (s : BitVec 32) (w : ℕ) (hw : s.toNat + w = 8192) (h0 : 0 < w) (x y : FVec Ideal S8x8192 .f32)
    (h : ∀ (r : Fin 8) (j : Fin 8192), y (ix2 r j) = tail x w r j.val) (r : Fin 8) (j : Fin 8192) :
    step s y (ix2 r j) = tail x (w + w) r j.val := by
  rw [step_apply s (by omega), h, ← tail_double]
  congr 1
  have hj := j.isLt
  by_cases hc : j.val < s.toNat
  · rw [dif_pos hc, h]; exact congrArg (tail x w r) (by show j.val + (8192 - s.toNat) = j.val + w; omega)
  · rw [dif_neg hc, tail_past _ _ _ _ (by omega)]

/-- A window of one entry. -/
theorem tail_one (x : FVec Ideal S8x8192 .f32) (r : Fin 8) (j : Fin 8192) : x (ix2 r j) = tail x 1 r j.val := by
  unfold tail
  rw [Finset.sum_range_one]
  unfold row
  rw [dif_pos (show j.val + 0 < 8192 from j.isLt)]
  rfl

/-- The thirteen steps. -/
def steps [Facts] (x : FVec Ideal S8x8192 .f32) : FVec Ideal S8x8192 .f32 :=
  step 4096#32 (step 6144#32 (step 7168#32 (step 7680#32 (step 7936#32 (step 8064#32 (step 8128#32 (step 8160#32
    (step 8176#32 (step 8184#32 (step 8188#32 (step 8190#32 (step 8191#32 x))))))))))))

/-- The thirteen steps sum every lane to the end of its row. -/
theorem steps_apply [Facts] (x : FVec Ideal S8x8192 .f32) (r : Fin 8) (j : Fin 8192) :
    steps x (ix2 r j) = tail x 8192 r j.val :=
  step_tail _ 4096 rfl (by decide) x _ (step_tail _ 2048 rfl (by decide) x _ (step_tail _ 1024 rfl (by decide) x _
    (step_tail _ 512 rfl (by decide) x _ (step_tail _ 256 rfl (by decide) x _ (step_tail _ 128 rfl (by decide) x _
    (step_tail _ 64 rfl (by decide) x _ (step_tail _ 32 rfl (by decide) x _ (step_tail _ 16 rfl (by decide) x _
    (step_tail _ 8 rfl (by decide) x _ (step_tail _ 4 rfl (by decide) x _ (step_tail _ 2 rfl (by decide) x _
    (step_tail _ 1 rfl (by decide) x _ (tail_one x))))))))))))) r j

/-- A left fold of a sum is the sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A host sum over windows of one row that reach `n` entries to the right, the padding zero. -/
theorem window_sum {R n hi : ℕ} (x : (⟨2, ![R, n]⟩ : Shape).Idx → EReal)
    (h : (⟨2, ![R, n]⟩ : Shape).ReduceWindows ![1, n] ![1, 1] ![0, 0] ![0, hi] ⟨2, ![R, n]⟩) (r : Fin R) (j : Fin n) :
    Ideal.hostReduceWindowAdd ![1, n] ![1, 1] ![0, 0] ![0, hi] h x 0 (ix2 r j)
      = ∑ k ∈ Finset.range n, if h : j.val + k < n then x (ix2 r ⟨j.val + k, h⟩) else 0 := by
  unfold Ideal.hostReduceWindowAdd Host.reduceWindow
  refine (foldl_add _ _ _).trans ?_
  rw [zero_add, ← List.ofFn_eq_map, List.sum_ofFn]
  refine (Finset.sum_congr rfl fun i _ => ?_).trans
    ((Equiv.sum_comp (Shape.rowMajor ⟨2, ![1, n]⟩).symm (fun w : (⟨2, ![1, n]⟩ : Shape).Idx =>
      if h : j.val + (w 1).val < n then x (ix2 r ⟨j.val + (w 1).val, h⟩) else (0 : EReal))).trans ?_)
  · show _ = if h : j.val + ((Shape.rowMajor ⟨2, ![1, n]⟩).symm i 1).val < n
      then x (ix2 r ⟨j.val + ((Shape.rowMajor ⟨2, ![1, n]⟩).symm i 1).val, h⟩) else (0 : EReal)
    have h0 : ((Shape.rowMajor ⟨2, ![1, n]⟩).symm i 0).val = 0 := Nat.lt_one_iff.mp ((Shape.rowMajor ⟨2, ![1, n]⟩).symm i 0).isLt
    by_cases hk : j.val + ((Shape.rowMajor ⟨2, ![1, n]⟩).symm i 1).val < n
    · rw [dif_pos hk, dif_pos]
      · refine congrArg x (funext fun a => Fin.ext ?_)
        match a with
        | ⟨0, _⟩ =>
          show r.val * 1 + ((Shape.rowMajor ⟨2, ![1, n]⟩).symm i 0).val - 0 = r.val
          omega
        | ⟨1, _⟩ =>
          show j.val * 1 + ((Shape.rowMajor ⟨2, ![1, n]⟩).symm i 1).val - 0 = j.val + ((Shape.rowMajor ⟨2, ![1, n]⟩).symm i 1).val
          omega
      · intro a
        have hr := r.isLt
        match a with
        | ⟨0, _⟩ =>
          refine ⟨Nat.zero_le _, ?_⟩
          show r.val * 1 + ((Shape.rowMajor ⟨2, ![1, n]⟩).symm i 0).val - 0 < R
          omega
        | ⟨1, _⟩ =>
          refine ⟨Nat.zero_le _, ?_⟩
          show j.val * 1 + ((Shape.rowMajor ⟨2, ![1, n]⟩).symm i 1).val - 0 < n
          omega
    · rw [dif_neg hk, dif_neg]
      intro hin
      have := (hin ⟨1, Nat.one_lt_two⟩).2
      change j.val * 1 + ((Shape.rowMajor ⟨2, ![1, n]⟩).symm i 1).val - 0 < n at this
      omega
  · rw [ValueIdx.sum_idx2, Fin.sum_univ_one, Finset.sum_range]
    rfl

/-- The host's window sum is the thirteen steps. -/
theorem window_eq_steps [Facts] (x : FVec Ideal S8x8192 .f32) (h : S8x8192.ReduceWindows ![1, 8192] ![1, 1] ![0, 0] ![0, 8191] S8x8192) :
    Ideal.hostReduceWindowAdd ![1, 8192] ![1, 1] ![0, 0] ![0, 8191] h x 0 = steps x := by
  funext i
  obtain ⟨r, j, rfl⟩ : ∃ (r : Fin 8) (j : Fin 8192), i = ix2 r j := ⟨i 0, i 1, eq_ix2 i⟩
  rw [steps_apply]
  exact window_sum x h r j

end Cert.GateIdeal.Scan

end
-- ==== Proof.GateRun.lean ====
/- The run of the two regions of the gate's gradient, with every array left in memory named: the launch of the frame, its
   last thread state read at every unscoped buffer. -/
module

public import proofs.«01_k».proof.Proof.Gen.GateIdeal.Frame

@[expose] public section

set_option maxRecDepth 16384

noncomputable section

namespace Cert.GateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, as in the frame
set_option backward.isDefEq.respectTransparency.types false in
/-- Every run ends with every unscoped array as the second region leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.GateIdeal.Gen

end
-- ==== Proof.GateValue.lean ====
/- The gate's gradient: the kernel's two results as functions of its arguments, over the extended reals. -/
module

public import proofs.«01_k».proof.Proof.GateScan
public import proofs.«01_k».proof.Proof.GateRun
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Cert.GateIdeal Cert.GateIdeal.Gen
open Idealize.ShloMosaic.Pipeline (Dat)

namespace Cert.GateIdeal.RefValue

/-- The sigmoid of `-z`, as the kernel writes it. -/
def neg (f : Vec Ideal S8x8192 .f32) (b : Vec Ideal S8x1 .f32) : FVec Ideal S8x8192 .f32 := k0_pay5 f b

/-- The gradient at the gate's input. -/
def dz (x y s : Vec Ideal S8x8192 .f32) : FVec Ideal S8x8192 .f32 := mulf (Scan.steps (addf x y)) s

/-- The row sums across 128 lanes. -/
def sums (d : FVec Ideal S8x8192 .f32) : FVec Ideal S8x128 .f32 :=
  broadcastTo S8x128 (shapeCast S8x1 (shapeCast S8x1 (multiReduction .add [1] S8 d 0x00000000#32 reduces_S8x8192_S8 (.inl rfl) rfl)
    shapeCasts_S8_S8x1) shapeCasts_S8x1_S8x1) broadcasts_S8x1_S8x128

theorem hz : (![0, 0] : Fin 2 → ℕ) = fun _ => 0 := funext fun a => by fin_cases a <;> rfl

theorem out_neg (f : Vec Ideal S8x8192 .f32) (b : Vec Ideal S8x1 .f32) : out0_3 f b = neg f b := by
  unfold out0_3
  rw [View.canon_unit_zero hz, View.ld_unit_zero hz, View.ld_unit_zero hz]
  rfl

theorem pay_dz (x y s : Vec Ideal S8x8192 .f32) :
    k1_pay1 (k1_pay7 (iota Kind.tc S8x8192 32 [1] iota_S8x8192_d1_w32) (k1_pay3 x y) k1_pay4 (k1_pay5 x y) k1_pay6)
      (k1_pay8 (iota Kind.tc S8x8192 32 [1] iota_S8x8192_d1_w32)) 4096#32 s = dz x y s := by
  unfold dz k1_pay1
  dsimp only
  rw [shapeCast_self]
  rfl

theorem out_dz (x y s : Vec Ideal S8x8192 .f32) : out1_3 x y s = dz x y s := by
  unfold_out out1_3
  rw [View.canon_unit_zero hz, View.ld_unit_zero hz, View.ld_unit_zero hz, View.ld_unit_zero hz]
  exact pay_dz x y s

theorem out_db (x y s : Vec Ideal S8x8192 .f32) : out1_4 x y s = sums (dz x y s) := by
  unfold_out out1_4
  rw [View.canon_unit_zero hz, View.ld_unit_zero hz, View.ld_unit_zero hz, View.ld_unit_zero hz]
  exact congrArg sums (pay_dz x y s)

variable (m : (ℓ : Loc nD τ sig) → Buf (Elt Ideal) ℓ) (ρ : Dev nD → PrngReg)

/-- The bias as a column, the host's reshape. -/
def bias (c : Dev nD) : Vec Ideal S8x1 .f32 :=
  shapeCast S8x1 (m ((c : Thread nD τ).loc main_arg1) : Vec Ideal S1x8 .f32) shapeCasts_S1x8_S8x1

theorem entry_bias (c : Dev nD) : V1 m ρ c main_v0 = bias m c := by
  unfold V1 W1
  after_results
  rfl

theorem whole_idx0 (t : Fin cfg0.N) : win0_0.index t = ![0, 0] ∧ win0_1.index t = ![0, 0] ∧ win0_3.index t = ![0, 0] := by
  revert t; decide +kernel

theorem whole_idx1 (t : Fin cfg1.N) : win1_0.index t = ![0, 0] ∧ win1_1.index t = ![0, 0] ∧ win1_2.index t = ![0, 0]
    ∧ win1_3.index t = ![0, 0] ∧ win1_4.index t = ![0, 0] := by
  revert t; decide +kernel

theorem iblk0_0 (c : Dev nD) (t : Fin cfg0.N) : iblk0 (V1 m ρ) c 0 t = m ((c : Thread nD τ).loc main_arg0) := by
  refine Eq.trans (funext fun y => ?_) (W1_args m ρ c main_arg0 (by decide))
  blk_ext [iblk0, whole_idx0 t]

theorem iblk0_1 (c : Dev nD) (t : Fin cfg0.N) : iblk0 (V1 m ρ) c 1 t = bias m c := by
  refine Eq.trans (funext fun y => ?_) (entry_bias m ρ c)
  blk_ext [iblk0, whole_idx0 t]

/-- What the first region leaves of the sigmoid. -/
theorem arr_neg (c : Dev nD) : W2 m ρ c (Proc.devRef .tc main_v1_1) = neg (m ((c : Thread nD τ).loc main_arg0)) (bias m c) := by
  refine (W2_arr m ρ c 3).trans ?_
  refine (dat0 (V1 m ρ) c).arrAt_eq_of_covers 3 _ (by decide +kernel) fun t hf y => ?_
  blk_simp
  rw [after0_3, iblk0_0, iblk0_1, out_neg]
  blk_ext [whole_idx0 t]

theorem iblk1_0 (c : Dev nD) (t : Fin cfg1.N) : iblk1 (V2 m ρ) c 0 t = m ((c : Thread nD τ).loc main_arg2) := by
  refine Eq.trans (funext fun y => ?_) (W2_args m ρ c main_arg2 (by decide))
  blk_ext [iblk1, whole_idx1 t]

theorem iblk1_1 (c : Dev nD) (t : Fin cfg1.N) : iblk1 (V2 m ρ) c 1 t = m ((c : Thread nD τ).loc main_arg3) := by
  refine Eq.trans (funext fun y => ?_) (W2_args m ρ c main_arg3 (by decide))
  blk_ext [iblk1, whole_idx1 t]

theorem iblk1_2 (c : Dev nD) (t : Fin cfg1.N) : iblk1 (V2 m ρ) c 2 t = neg (m ((c : Thread nD τ).loc main_arg0)) (bias m c) := by
  refine Eq.trans (funext fun y => ?_) (arr_neg m ρ c)
  blk_ext [iblk1, whole_idx1 t]

/-- The kernel's gradient at the gate's input, from its arguments. -/
def grad (c : Dev nD) : FVec Ideal S8x8192 .f32 :=
  dz (m ((c : Thread nD τ).loc main_arg2)) (m ((c : Thread nD τ).loc main_arg3)) (neg (m ((c : Thread nD τ).loc main_arg0)) (bias m c))

theorem arr_dz (c : Dev nD) : W3 m ρ c (Proc.devRef .tc main_v2_0) = grad m c := by
  refine (W3_arr m ρ c 3).trans ?_
  refine (dat1 (V2 m ρ) c).arrAt_eq_of_covers 3 _ (by decide +kernel) fun t hf y => ?_
  blk_simp
  rw [after1_3, iblk1_0, iblk1_1, iblk1_2, out_dz]
  unfold grad
  blk_ext [whole_idx1 t]

theorem arr_db (c : Dev nD) : W3 m ρ c (Proc.devRef .tc main_v2_1) = sums (grad m c) := by
  refine (W3_arr m ρ c 4).trans ?_
  refine (dat1 (V2 m ρ) c).arrAt_eq_of_covers 4 _ (by decide +kernel) fun t hf y => ?_
  blk_simp
  rw [after1_4, iblk1_0, iblk1_1, iblk1_2, out_db]
  unfold grad
  blk_ext [whole_idx1 t]

/-- The kernel's run, its results named and its arguments unchanged. -/
theorem run : θ_run defs (onTc (τ := τ) (main (F := Ideal))) ⟨m, fun _ => 0, ρ⟩ fun r => ∀ c : Dev nD,
      r.2.mem ((c : Thread nD τ).loc main_v2_0) = grad m c
      ∧ r.2.mem ((c : Thread nD τ).loc main_v2_1) = sums (grad m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c _ (mem_uc main_v2_0 (by decide))).trans (arr_dz m ρ c),
    (h c _ (mem_uc main_v2_1 (by decide))).trans (arr_db m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c)⟩) (run_all m ρ)

end Cert.GateIdeal.RefValue

end
-- ==== Proof.Scalars.lean ====
/- Facts on single extended reals that every pair below uses: constants, choices by a comparison, and the sigmoid in the forms
   the kernels and the references write it. -/
module

public import Idealize.ShloMosaic.PureOps.Ideal.Laws
public import Idealize.ShloMosaic.Lib.IdealHost

@[expose] public section

noncomputable section

open Idealize.ShloMosaic

namespace Cert.Scalars

theorem ofBits_top : Ideal.ofBits .f32 0x7F800000#32 = (⊤ : EReal) := by simp [Ideal.ofBits, Ideal.ieee]

theorem select_ofBool {α : Type} (b : Bool) (x y : α) : Scalar.select (BitVec.ofBool b) x y = if b = true then x else y := by
  cases b <;> rfl

theorem select_zero {α : Type} (x y : α) : Scalar.select 0#1 x y = y := rfl

theorem exp_coe (x : ℝ) : Ideal.exp (x : EReal) = (Real.exp x : ℝ) := rfl
theorem exp_bot : Ideal.exp (⊥ : EReal) = 0 := rfl
theorem exp_top : Ideal.exp (⊤ : EReal) = ⊤ := rfl
theorem exp_zero : Ideal.exp (0 : EReal) = 1 := by
  rw [← EReal.coe_zero, exp_coe, Real.exp_zero, EReal.coe_one]

theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem log_coe {x : ℝ} (h : 0 < x) : Ideal.log (x : EReal) = (Real.log x : ℝ) := by
  show (if x ≤ 0 then (⊥ : EReal) else (Real.log x : ℝ)) = _
  rw [if_neg (not_le.mpr h)]

theorem log1p_coe {x : ℝ} (h : -1 < x) : Ideal.log1p (x : EReal) = (Real.log (1 + x) : ℝ) := by
  unfold Ideal.log1p
  rw [← EReal.coe_one, ← EReal.coe_add, log_coe (by linarith)]

theorem neg_coe (x : ℝ) : -(x : EReal) = ((-x : ℝ) : EReal) := rfl

theorem max_coe (x y : ℝ) : max (x : EReal) (y : EReal) = ((max x y : ℝ) : EReal) := (EReal.coe_strictMono.monotone.map_max).symm

/-- The sigmoid of `-z` over the extended reals. -/
def sigNeg : EReal → EReal
  | ⊥ => 1
  | ⊤ => 0
  | (z : ℝ) => ((1 / (1 + Real.exp z) : ℝ) : EReal)

theorem sigNeg_bot : sigNeg ⊥ = 1 := rfl
theorem sigNeg_top : sigNeg ⊤ = 0 := rfl

/-- The sigmoid of `-z` written with the exponential of `-|z|`. -/
theorem sigNeg_abs (z : EReal) :
    (if 0 ≤ z then Ideal.exp (0 - max z (-z)) * Ideal.div 1 (1 + Ideal.exp (0 - max z (-z)))
      else Ideal.div 1 (1 + Ideal.exp (0 - max z (-z)))) = sigNeg z := by
  induction z using EReal.rec with
  | bot => simp [sigNeg_bot, exp_bot, Ideal.div]
  | top => simp [sigNeg_top, exp_bot, Ideal.div]
  | coe z =>
    have he : ∀ w : ℝ, (1 : ℝ) + Real.exp w ≠ 0 := fun w => by positivity
    rw [neg_coe, max_coe, ← EReal.coe_zero, ← EReal.coe_sub, exp_coe, ← EReal.coe_one, ← EReal.coe_add, div_coe (he _), ← EReal.coe_mul]
    show _ = ((1 / (1 + Real.exp z) : ℝ) : EReal)
    by_cases h : 0 ≤ z
    · rw [if_pos (by exact_mod_cast h), max_eq_left (by linarith)]
      congr 1
      have h2 : Real.exp (0 - z) * Real.exp z = 1 := by rw [← Real.exp_add]; simp
      have := he z; have := he (0 - z)
      field_simp
      linarith
    · rw [if_neg (by exact_mod_cast h), max_eq_right (by linarith)]
      congr 2
      ring_nf

/-- The sigmoid of `-z` as the exponential of `-z` less the logarithm of `exp (-z) + 1`, infinities replaced by zero. -/
theorem sigNeg_log (z : EReal) :
    Ideal.exp ((if -z = ⊤ then 0 else -z)
      - (if max (-z) 0 + Ideal.log1p (Ideal.exp (-max (-z) (-(-z)))) = ⊤ then 0
          else max (-z) 0 + Ideal.log1p (Ideal.exp (-max (-z) (-(-z)))))) = sigNeg z := by
  have hl : Ideal.log1p 0 = 0 := by
    rw [← EReal.coe_zero, log1p_coe (by norm_num)]; simp
  induction z using EReal.rec with
  | bot => simp [sigNeg_bot, exp_bot, hl, exp_zero]
  | top => simp [sigNeg_top, exp_bot, hl]
  | coe z =>
    have hp := Real.exp_pos (-max (-z) z)
    rw [neg_coe, neg_coe, neg_neg, max_coe, neg_coe, exp_coe, log1p_coe (by linarith), ← EReal.coe_zero, max_coe, ← EReal.coe_add,
      if_neg (EReal.coe_ne_top _), if_neg (EReal.coe_ne_top _), ← EReal.coe_sub, exp_coe]
    show _ = ((1 / (1 + Real.exp z) : ℝ) : EReal)
    congr 1
    have hq : (0:ℝ) < 1 + Real.exp (-max (-z) z) := by linarith
    have hz := Real.exp_pos z
    rw [Real.exp_sub, Real.exp_add, Real.exp_log hq]
    have h2 : Real.exp (-z) * Real.exp z = 1 := by rw [← Real.exp_add]; simp
    rcases le_total 0 z with h | h
    · rw [max_eq_right (by linarith : -z ≤ z), max_eq_right (by linarith : -z ≤ 0), Real.exp_zero]
      rw [div_eq_div_iff (by positivity) (by positivity)]
      linarith
    · rw [max_eq_left (by linarith : z ≤ -z), max_eq_left (by linarith : 0 ≤ -z), neg_neg]
      rw [div_eq_div_iff (by positivity) (by positivity)]
      linarith

end Cert.Scalars

end
-- ==== Proof.GatePair.lean ====
/- The gate's gradient: the kernel's results are the reference's, at every extended-real argument. -/
module

public import proofs.«01_k».proof.Proof.GateValue
public import proofs.«01_k».proof.Proof.Scalars
public import proofs.«01_k».proof.Proof.Gen.GateRefIdeal.Read

@[expose] public section

set_option maxRecDepth 16384

noncomputable section

open Idealize.ShloMosaic Idealize.ShloMosaic.TcCoe Idealize.SL.Sem

namespace Cert.GateIdeal.RefValue

open Cert.Scalars

open Cert.GateRefIdeal.Read in
theorem ref_neg (x0 : Vec Ideal S8x8192 .f32) (x1 : Vec Ideal S1x8 .f32) (j : Fin 8192) (r : Fin 8) (z : EReal)
    (hz : val_main_v4 (F := Ideal) x0 x1 (ix2 j r) = z) :
    val_main_v5_1 (F := Ideal) x0 x1 (ix2 j r) = sigNeg z := by
  simp [val_main_v5_1_apply, val_main_call0_call0_v21_apply, val_main_call0_call0_v20_apply, val_main_call0_call0_v19_apply,
    val_main_call0_call0_v18_apply, val_main_call0_call0_v17_apply, val_main_call0_call0_v16_apply, val_main_call0_call0_v15_apply,
    val_main_call0_call0_v14_apply, val_main_call0_call0_v13_apply, val_main_call0_v1_0_apply, val_main_call0_call0_v11_apply,
    val_main_call0_call0_v10_apply, val_main_call0_call0_v9_apply, val_main_call0_call0_v8_apply, val_main_call0_call0_v7_apply,
    val_main_call0_call0_v6_apply, val_main_call0_call0_v5_apply, val_main_call0_call0_v4_apply, val_main_call0_call0_v3_apply,
    val_main_call0_call0_v2_apply, val_main_call0_call0_v1_apply, val_main_call0_call0_v0_apply, val_main_call0_v0_apply,
    val_main_call0_call0_cst_apply, val_main_call0_call0_cst_0_apply, val_main_call0_call0_cst_1_apply, val_main_call0_call0_cst_2_apply,
    val_main_call0_call0_cst_3_apply, hz, Ideal.cmpf_def, Ideal.cmp, select_ofBool, Ideal.ofBits_def, ofBits_top, Ideal.ofBits_zero_f32,
    Ideal.absf_def, select_zero, -neg_neg, -EReal.neg_eq_top_iff]
  exact sigNeg_log z

theorem ker_neg (f : Vec Ideal S8x8192 .f32) (b : Vec Ideal S8x1 .f32) (r : Fin 8) (j : Fin 8192) (z : EReal)
    (hz : f (ix2 r j) + b (ix2 r 0) = z) : neg f b (ix2 r j) = sigNeg z := by
  unfold neg
  pointwise [Gen.k0_pay5, Gen.k0_pay2, Gen.k0_pay3]
  simp only [hz]
  exact sigNeg_abs z

theorem neg_mul_neg (d : FVec Ideal S8x8192 .f32) (i : S8x8192.Idx) (z : EReal) :
    FloatOps.hostNegf (F := Ideal) (φ := .f32) (FloatOps.mulf (FloatOps.hostNegf (d i)) z) = d i * z := by
  show -(-(d i) * z) = d i * z
  rw [EReal.neg_mul, neg_neg]

section
variable (x0 : Vec Ideal S8x8192 .f32) (x1 : Vec Ideal S1x8 .f32) (x2 x3 : Vec Ideal S8x8192 .f32)

theorem bias_apply (r : Fin 8) :
    shapeCast S8x1 x1 Gen.shapeCasts_S1x8_S8x1 (ix2 r 0) = x1 (ix2 0 r) := by
  pointwise []

open Cert.GateRefIdeal.Read in
theorem ref_z (r : Fin 8) (j : Fin 8192) : val_main_v4 (F := Ideal) x0 x1 (ix2 j r) = x0 (ix2 r j) + x1 (ix2 0 r) := by
  rw [val_main_v4_apply, val_main_v0_apply, val_main_v3_apply, val_main_v2_apply, val_main_v1_apply]
  refine congrArg₂ _ ?_ ?_ <;> blk_ext []

open Cert.GateRefIdeal.Read in
/-- One entry of the reference's gradient at the gate's input. -/
theorem ref_v11 (r : Fin 8) (j : Fin 8192) : val_main_v11 (F := Ideal) x0 x1 x2 x3 (ix2 j r)
    = dz x2 x3 (neg x0 (shapeCast S8x1 x1 Gen.shapeCasts_S1x8_S8x1)) (ix2 r j) := by
  have h9 : val_main_v9 (F := Ideal) x2 x3 = Scan.steps (addf x2 x3) := by
    refine Eq.trans ?_ (Scan.window_eq_steps (addf x2 x3) Cert.GateRefIdeal.Gen.reduceWindows_S8x8192_S8x8192_w1s1p0_0_w8192s1p0_8191)
    unfold val_main_v9 Host.reduceWindowAdd
    rw [Ideal.hostReduceWindowAdd_def, val_main_call2_call0_v0_apply, val_main_call2_call0_cst_apply, Ideal.ofBits_def, Ideal.ofBits_zero_f32]
    rfl
  rw [val_main_v11_apply, val_main_call3_v1_apply, val_main_call3_v0_apply, val_main_v10_apply, h9, ref_neg x0 x1 j r _ (ref_z x0 x1 r j)]
  have hk := ker_neg x0 (shapeCast S8x1 x1 Gen.shapeCasts_S1x8_S8x1) r j _ (by rw [bias_apply])
  rw [show idx_main_v10 (ix2 j r) = ix2 r j from eq_ix2 _]
  unfold dz
  generalize Scan.steps (addf x2 x3) = d
  exact (neg_mul_neg d (ix2 r j) _).trans (congrArg (d (ix2 r j) * ·) hk.symm)

open Cert.GateRefIdeal.Read in
theorem ref_dz : val_main_v16 (F := Ideal) x0 x1 x2 x3 = dz x2 x3 (neg x0 (shapeCast S8x1 x1 Gen.shapeCasts_S1x8_S8x1)) := by
  funext i
  obtain ⟨r, j, rfl⟩ : ∃ (r : Fin 8) (j : Fin 8192), i = ix2 r j := ⟨i 0, i 1, eq_ix2 i⟩
  rw [← ref_v11, val_main_v16_apply, show idx_main_v16 (ix2 r j) = ix2 j r from eq_ix2 _]

open Cert.GateRefIdeal.Read in
theorem ref_db : val_main_v18 (F := Ideal) x0 x1 x2 x3 = sums (dz x2 x3 (neg x0 (shapeCast S8x1 x1 Gen.shapeCasts_S1x8_S8x1))) := by
  funext i
  obtain ⟨r, j, rfl⟩ : ∃ (r : Fin 8) (j : Fin 128), i = ix2 r j := ⟨i 0, i 1, eq_ix2 i⟩
  rw [val_main_v18_apply, val_main_v17_apply, val_main_v15_apply, val_main_v14_apply, Fin.sum_univ_one, val_main_v13_apply, val_main_v12_apply,
    val_main_cst_0_apply, val_main_cst_apply, Ideal.ofBits_def, Ideal.ofBits_zero_f32, zero_add, zero_add]
  unfold sums
  generalize hd : dz x2 x3 (neg x0 (shapeCast S8x1 x1 Gen.shapeCasts_S1x8_S8x1)) = d
  pointwise []
  refine Finset.sum_congr rfl fun k _ => ?_
  subst hd
  rw [← ref_v11]
  have he : idx_main_v12 (idx_main_v13 (idx_main_v14 (idx_main_v15 (idx_main_v17 (idx_main_v18 (ix2 r j)))) 0)) k = ix2 k r := by
    funext a
    refine Fin.ext ?_
    match a with
    | ⟨0, _⟩ => rfl
    | ⟨1, _⟩ => show 0 * 8 + r.val = r.val; omega
  rw [he]

end

theorem pair_dz (m : (ℓ : Loc nD τ sig) → Buf (Elt Ideal) ℓ) (c : Dev nD) (x0 x2 x3 : Vec Ideal S8x8192 .f32) (x1 : Vec Ideal S1x8 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    grad m c = Cert.GateRefIdeal.Read.val_main_v16 (F := Ideal) x0 x1 x2 x3 := by
  rw [ref_dz]
  unfold grad bias
  rw [h0, h1, h2, h3]

theorem pair_db (m : (ℓ : Loc nD τ sig) → Buf (Elt Ideal) ℓ) (c : Dev nD) (x0 x2 x3 : Vec Ideal S8x8192 .f32) (x1 : Vec Ideal S1x8 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    sums (grad m c) = Cert.GateRefIdeal.Read.val_main_v18 (F := Ideal) x0 x1 x2 x3 := by
  rw [ref_db]
  unfold grad bias
  rw [h0, h1, h2, h3]

end Cert.GateIdeal.RefValue

end
-- ==== Proof.GateClaim.lean ====
/- The gate's value claim. -/
module

public import proofs.«01_k».proof.Defs
public import proofs.«01_k».proof.Proof.GatePair

@[expose] public section

set_option maxRecDepth 16384

noncomputable section

namespace Cert.Proof

open Idealize.ShloMosaic Idealize.SL.Sem

/-- The gate's gradient and its sums are the reference's, at every argument. -/
theorem algebraic_Gate : Cert.algebraic_GateIdeal_GateRefIdeal := by
  pair_intro
  · run_from Cert.GateIdeal.RefValue.run m g
  · refine (θ_run Cert.GateRefIdeal.defs _ _).mono (fun r h c => ?_) (Cert.GateRefIdeal.Value.run (F := Ideal) m' g')
    obtain ⟨a, b, k⟩ := h c
    exact ⟨a.trans ((Cert.GateRefIdeal.Read.val_main_v16_eq m' c).trans
        (Cert.GateIdeal.RefValue.pair_dz m c _ _ _ _ (hagree c).1.symm (hagree c).2.1.symm (hagree c).2.2.1.symm (hagree c).2.2.2.symm).symm),
      b.trans ((Cert.GateRefIdeal.Read.val_main_v18_eq m' c).trans
        (Cert.GateIdeal.RefValue.pair_db m c _ _ _ _ (hagree c).1.symm (hagree c).2.1.symm (hagree c).2.2.1.symm (hagree c).2.2.2.symm).symm), k⟩

end Cert.Proof

end
-- ==== Proof.Reals.lean ====
/- Vectors over the extended reals all of whose entries are real numbers, and how the operations act on them. -/
module

public import proofs.«01_k».proof.Proof.Scalars
public import Idealize.ShloMosaic.Lib.Pointwise

@[expose] public section

noncomputable section

open Idealize.ShloMosaic

namespace Cert.Reals

/-- The vector's entries are the real numbers `f`. -/
abbrev IsR {a b : ℕ} (v : (⟨2, ![a, b]⟩ : Shape).Idx → EReal) (f : Fin a → Fin b → ℝ) : Prop := ∀ r j, v (ix2 r j) = (f r j : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_ite (p : Prop) [Decidable p] (x y : ℝ) : ((if p then x else y : ℝ) : EReal) = if p then (x : EReal) else y := by
  split <;> rfl

/-- Rows `a` against rows `k`, less a column's and a row's term, exponentiated. -/
def wt {T S D : ℕ} (a : Fin T → Fin D → ℝ) (l : Fin T → ℝ) (k : Fin S → Fin D → ℝ) (c : Fin S → ℝ) (t : Fin T) (s : Fin S) : ℝ :=
  Real.exp (∑ d, a t d * k s d - c s - l t)

/-- The difference of a row's product with `v` and the row's term. -/
def dif {T S D : ℕ} (g : Fin T → Fin D → ℝ) (δ : Fin T → ℝ) (v : Fin S → Fin D → ℝ) (t : Fin T) (s : Fin S) : ℝ :=
  ∑ d, g t d * v s d - δ t

/-- An array's entries are the real numbers `f`, by row and lane. -/
def Is2 {a b : ℕ} (v : (⟨2, ![a, b]⟩ : Shape).Idx → EReal) (f : ℕ → ℕ → ℝ) : Prop := ∀ r j, v (ix2 r j) = (f r.val j.val : EReal)

/-- The same in three coordinates. -/
def Is3 {a b d : ℕ} (v : (⟨3, ![a, b, d]⟩ : Shape).Idx → EReal) (f : ℕ → ℕ → ℕ → ℝ) : Prop := ∀ h r j, v (ix3 h r j) = (f h.val r.val j.val : EReal)

/-- Two arrays with the same real entries are equal. -/
theorem Is2.eq {a b : ℕ} {v w : (⟨2, ![a, b]⟩ : Shape).Idx → EReal} {f g : ℕ → ℕ → ℝ} (hv : Is2 v f) (hw : Is2 w g)
    (h : ∀ (r : Fin a) (j : Fin b), f r.val j.val = g r.val j.val) : v = w :=
  funext fun x => by
    obtain ⟨r, j, rfl⟩ : ∃ (r : Fin a) (j : Fin b), x = ix2 r j := ⟨x 0, x 1, eq_ix2 x⟩
    rw [hv, hw, h]

theorem Is3.eq {a b d : ℕ} {v w : (⟨3, ![a, b, d]⟩ : Shape).Idx → EReal} {f g : ℕ → ℕ → ℕ → ℝ} (hv : Is3 v f) (hw : Is3 w g)
    (h : ∀ (i : Fin a) (r : Fin b) (j : Fin d), f i.val r.val j.val = g i.val r.val j.val) : v = w :=
  funext fun x => by
    obtain ⟨i, r, j, rfl⟩ : ∃ (i : Fin a) (r : Fin b) (j : Fin d), x = ix3 i r j := ⟨x 0, x 1, x 2, eq_ix3 x⟩
    rw [hv, hw, h]

theorem one_sum (x : EReal) : ∑ _ : Fin 1, x = x := by simp

end Cert.Reals

end
-- ==== Proof.FoxTile.lean ====
/- One tile of the attention gradient over the reals: a tile to the left of the diagonal. -/
module

public import proofs.«01_k».proof.Proof.Reals
public import proofs.«01_k».proof.Proof.Gen.FoxIdeal.Skeleton
public import Idealize.ShloMosaic.Lib.WordCmp

@[expose] public section

set_option maxRecDepth 16384

noncomputable section

namespace Cert.FoxIdeal.Tile

open Idealize.ShloMosaic Cert.FoxIdeal Cert.FoxIdeal.Gen Cert.Reals Cert.Scalars

section
variable {v37 v41 : FVec Ideal S1024x128 .bf16} {v45 v47 : FVec Ideal S1024x1 .f32} {v347 v350 : Vec Ideal S512x128 .bf16} {v356 : Vec Ideal S1x512 .f32}
variable {v55 : FVec Ideal S128x1024 .bf16} {arg15 : FVec Ideal S1024x128 .f32}
variable {a g : Fin 1024 → Fin 128 → ℝ} {l δ : Fin 1024 → ℝ} {k v : Fin 512 → Fin 128 → ℝ} {c : Fin 512 → ℝ}
variable {e f : Fin 128 → Fin 1024 → ℝ} {w : Fin 1024 → Fin 512 → ℝ} {y : Fin 1024 → Fin 128 → ℝ}

theorem pay4 (h37 : IsR v37 a) (h47 : ∀ t, v47 (ix2 t 0) = (l t : EReal)) (h347 : IsR v347 k) (h356 : ∀ s, v356 (ix2 0 s) = (c s : EReal)) :
    IsR (k0_pay4 v37 v47 v347 v356) (wt a l k c) := by
  intro t s
  pointwise [k0_pay4, k0_pay2]
  simp only [h37, h47, h347, h356, ← EReal.coe_mul, ← coe_sum, ← EReal.coe_sub, exp_coe, wt]

theorem pay5 (h37 : IsR v37 a) (h41 : IsR v41 g) (h45 : ∀ t, v45 (ix2 t 0) = (δ t : EReal)) (h47 : ∀ t, v47 (ix2 t 0) = (l t : EReal))
    (h347 : IsR v347 k) (h350 : IsR v350 v) (h356 : ∀ s, v356 (ix2 0 s) = (c s : EReal)) :
    IsR (k0_pay5 v37 v41 v45 v47 v347 v350 v356) (fun t s => wt a l k c t s * dif g δ v t s) := by
  intro t s
  have e := pay4 h37 h47 h347 h356 t s
  pointwise [k0_pay5, k0_pay3]
  simp only [e, h41, h45, h350, ← EReal.coe_mul, ← coe_sum, ← EReal.coe_sub, dif]

theorem pay2 (h : IsR v347 k) : IsR (k0_pay2 v347) k := by
  intro t d
  pointwise [k0_pay2]
  exact h _ _

theorem pay3 (h : IsR v350 v) : IsR (k0_pay3 v350) v := pay2 h

theorem pay10 (h41 : IsR v41 g) (h45 : ∀ t, v45 (ix2 t 0) = (δ t : EReal)) {v351 : FVec Ideal S512x128 .bf16} (h350 : IsR v351 v)
    {v389 : FVec Ideal S1024x512 .f32} (hw : IsR v389 w) : IsR (k0_pay10 v41 v45 v351 v389) (fun t s => w t s * dif g δ v t s) := by
  intro t s
  pointwise [k0_pay10]
  simp only [hw _ _, h41, h45, h350, ← EReal.coe_mul, ← coe_sum, ← EReal.coe_sub, dif]

theorem pay9 (h37 : IsR v37 a) (h47 : ∀ t, v47 (ix2 t 0) = (l t : EReal)) (h347 : IsR v347 k) (h356 : ∀ s, v356 (ix2 0 s) = (c s : EReal)) :
    IsR (k0_pay9 v37 v47 v347 v356) (wt a l k c) := pay4 h37 h47 h347 h356

theorem pay6 (h55 : IsR v55 e) (hb : IsR (k0_pay5 v37 v41 v45 v47 v347 v350 v356) w) :
    IsR (k0_pay6 v37 v41 v45 v47 v55 v347 v350 v356) (fun r s => ∑ t, e r t * w t s) := by
  intro r s
  pointwise [k0_pay6]
  simp only [h55, hb _ _, ← EReal.coe_mul, ← coe_sum]

theorem pay7 (h57 : IsR v55 e) (hb : IsR (k0_pay4 v37 v47 v347 v356) w) :
    IsR (k0_pay7 v37 v47 v55 v347 v356) (fun r s => ∑ t, e r t * w t s) := by
  intro r s
  pointwise [k0_pay7]
  simp only [h57, hb _ _, ← EReal.coe_mul, ← coe_sum]

theorem pay11 (h55 : IsR v55 e) {v351 : FVec Ideal S512x128 .bf16} {v389 : FVec Ideal S1024x512 .f32} (hb : IsR (k0_pay10 v41 v45 v351 v389) w) :
    IsR (k0_pay11 v41 v45 v55 v351 v389) (fun r s => ∑ t, e r t * w t s) := by
  intro r s
  pointwise [k0_pay11]
  simp only [h55, hb _ _, ← EReal.coe_mul, ← coe_sum]

/-- The keys of the first head with the column that sums a row. -/
def keys0 {S : Type} (k : S → Fin 128 → ℝ) (s : S) (d : Fin 128) : ℝ := if d.val < 64 then k s d else if d.val = 64 then 1 else 0

/-- The keys of the second head with the column that sums a row. -/
def keys1 {S : Type} (k : S → Fin 128 → ℝ) (s : S) (d : Fin 128) : ℝ := if 64 ≤ d.val then k s d else if d.val = 0 then 1 else 0

theorem pay36 (d : Fin 128) : k0_pay36 (ix2 0 d) = BitVec.ofBool (decide (d.val < 64)) := by
  revert d; decide +kernel

theorem pay37 (d : Fin 128) : k0_pay37 (ix2 0 d) = BitVec.ofBool (decide (64 ≤ d.val)) := by
  revert d; decide +kernel

theorem one_zero (b : Bool) : Scalar.select (BitVec.ofBool b) (1 : EReal) 0 = ((if b = true then 1 else 0 : ℝ) : EReal) := by
  cases b <;> rfl

theorem pay38 (d : Fin 128) : k0_pay38 (F := Ideal) (ix2 0 d) = ((if d.val = 64 then 1 else 0 : ℝ) : EReal) := by
  pointwise [k0_pay38]
  rw [show IntOp.cmpi CmpIPredicate.eq (BitVec.ofNat 32 d.val) 64#32 = BitVec.ofBool (decide (d.val = 64)) by revert d; decide +kernel, one_zero]
  simp

theorem pay39 (d : Fin 128) : k0_pay39 (F := Ideal) (ix2 0 d) = ((if d.val = 0 then 1 else 0 : ℝ) : EReal) := by
  pointwise [k0_pay39]
  rw [show IntOp.cmpi CmpIPredicate.eq (BitVec.ofNat 32 d.val) 0#32 = BitVec.ofBool (decide (d.val = 0)) by revert d; decide +kernel, one_zero]
  simp

theorem sel_coe (p : Prop) [Decidable p] (x y : ℝ) :
    Scalar.select (BitVec.ofBool (decide p)) (x : EReal) (y : EReal) = ((if p then x else y : ℝ) : EReal) := by
  by_cases h : p <;> simp [h, Scalar.select]

theorem pay8 (hk : IsR v347 k) (hb : IsR (k0_pay5 v37 v41 v45 v47 v347 v350 v356) w) (hy : IsR arg15 y) :
    IsR (k0_pay8 k0_pay36 k0_pay38 v37 v41 v45 v47 arg15 v347 v350 v356) (fun t d => y t d + ∑ s, w t s * keys0 k s d) := by
  intro t d
  pointwise [k0_pay8, k0_pay2]
  simp only [hk, hb _ _, hy _ _, pay36, pay38, sel_coe, ← EReal.coe_mul, ← coe_sum, ← EReal.coe_add]
  rfl

theorem pay12 {v348 v351 : FVec Ideal S512x128 .bf16} {v389 : FVec Ideal S1024x512 .f32} (hk : IsR v348 k) (hb : IsR (k0_pay10 v41 v45 v351 v389) w) (hy : IsR arg15 y) :
    IsR (k0_pay12 k0_pay37 k0_pay39 v41 v45 arg15 v348 v351 v389) (fun t d => y t d + ∑ s, w t s * keys1 k s d) := by
  intro t d
  pointwise [k0_pay12]
  simp only [hk, hb _ _, hy _ _, pay37, pay39, sel_coe, ← EReal.coe_mul, ← coe_sum, ← EReal.coe_add]
  rfl

theorem rows_lt (r : Fin 128) : IntOp.cmpi CmpIPredicate.slt (BitVec.ofNat 32 r.val) 64#32 = BitVec.ofBool (decide (r.val < 64)) := by
  revert r; decide +kernel

section
variable {v12 : IVec S128x1 32} {v351 : FVec Ideal S512x128 .bf16} {v369 v370 v396 : FVec Ideal S128x512 .f32} {v389 : FVec Ideal S1024x512 .f32}
variable {v407 : Vec Ideal S128x512 .f32} {v425 : Vec Ideal S1x1x512 .f32}
variable {p q o : Fin 128 → Fin 512 → ℝ} {b : Fin 512 → ℝ}

theorem pay13 (h12 : ∀ r : Fin 128, v12 (ix2 r 0) = BitVec.ofNat 32 r.val) (hp : IsR v369 p) (hq : IsR (k0_pay11 v41 v45 v55 v351 v389) q) (ho : IsR v407 o) :
    IsR (k0_pay13 v12 v41 v45 v55 v351 v369 v389 v407) (fun r s => o r s + if r.val < 64 then p r s else q r s) := by
  intro r s
  pointwise [k0_pay13]
  simp only [h12, hp, hq _ _, ho, rows_lt, sel_coe, ← EReal.coe_add]

theorem pay14 (h57 : IsR v55 e) (hp : IsR v370 p) (hw : IsR v389 w) (ho : IsR v407 o) :
    IsR (k0_pay14 v55 v370 v389 v407) (fun r s => o r s + (p r s + ∑ t, e r t * w t s)) := by
  intro r s
  pointwise [k0_pay14]
  simp only [h57, hp, hw _ _, ho, ← EReal.coe_mul, ← coe_sum, ← EReal.coe_add]

theorem pay15 (hp : IsR v369 p) (ho : ∀ s, v425 (ix3 0 0 s) = (b s : EReal)) (s : Fin 512) :
    k0_pay15 v369 v425 (ix3 0 0 s) = ((b s - p 64 s : ℝ) : EReal) := by
  pointwise [k0_pay15]
  simp only [hp _ _, ho, ← EReal.coe_sub]

theorem pay56 (hp : IsR v369 p) (ho : ∀ s, v425 (ix3 0 0 s) = (b s : EReal)) (s : Fin 512) :
    k0_pay56 v369 v425 (ix3 0 0 s) = ((b s - p 0 s : ℝ) : EReal) := by
  pointwise [k0_pay56]
  simp only [hp _ _, ho, ← EReal.coe_sub]

end

end

/-! The rows of a head. -/

section
variable {v6 v10 : FVec Ideal S1024x128 .bf16} {v8 : FVec Ideal S1024x128 .f32}
variable {q o g : Fin 1024 → Fin 128 → ℝ}

theorem eighth_bf16 : Ideal.ofBits .bf16 0x3E00#16 = ((1 / 8 : ℝ) : EReal) := by
  simp [Ideal.ofBits, Ideal.ieee, -EReal.coe_mul]
  norm_num

theorem eighth_f32 : Ideal.ofBits .f32 0x3E000000#32 = ((1 / 8 : ℝ) : EReal) := by
  simp [Ideal.ofBits, Ideal.ieee, -EReal.coe_mul]
  norm_num

theorem pay33 {v3 : Vec Ideal S1024x128 .bf16} (h : IsR v3 q) : IsR (k0_pay33 v3) (fun t d => q t d * (1 / 8)) := by
  intro t d
  pointwise [k0_pay33]
  rw [h, eighth_bf16, ← EReal.coe_mul]

theorem pay34 {v7 : Vec Ideal S1024x128 .f32} (h : IsR v7 q) : IsR (k0_pay34 v7) q := by
  intro t d
  pointwise [k0_pay34]
  exact h _ _

theorem pay35 {v7 : Vec Ideal S1024x128 .f32} (h : IsR v7 q) : IsR (k0_pay35 v7) q := by
  intro t d
  pointwise [k0_pay35]
  exact h _ _

/-- A head's own lanes. -/
def own0 {T : ℕ} (q : Fin T → Fin 128 → ℝ) (t : Fin T) (d : Fin 128) : ℝ := if d.val < 64 then q t d else 0

/-- The other head's lanes. -/
def own1 {T : ℕ} (q : Fin T → Fin 128 → ℝ) (t : Fin T) (d : Fin 128) : ℝ := if 64 ≤ d.val then q t d else 0

theorem pay43 (h : IsR v6 q) : IsR (k0_pay43 v6 k0_pay41 k0_pay42) (own0 q) := by
  intro t d
  pointwise [k0_pay43, k0_pay41, k0_pay42]
  simp only [h, pay36, ← EReal.coe_zero, sel_coe]
  rfl

theorem pay44 (h : IsR v6 q) : IsR (k0_pay44 v6 k0_pay36) (own0 q) := by
  intro t d
  pointwise [k0_pay44]
  simp only [h, pay36, ← EReal.coe_zero, sel_coe]
  rfl

theorem pay49 (h : IsR v6 q) : IsR (k0_pay49 v6 k0_pay37) (own1 q) := by
  intro t d
  pointwise [k0_pay49]
  simp only [h, pay37, ← EReal.coe_zero, sel_coe]
  rfl

theorem pay50 (h : IsR v6 q) : IsR (k0_pay50 v6 k0_pay37) (own1 q) := by
  intro t d
  pointwise [k0_pay50]
  simp only [h, pay37, ← EReal.coe_zero, sel_coe]
  rfl

theorem pay45 (h : IsR v8 o) (hg : IsR v10 g) (t : Fin 1024) : k0_pay45 v8 v10 k0_pay36 (ix2 t 0) = ((∑ d, own0 g t d * o t d : ℝ) : EReal) := by
  pointwise [k0_pay45]
  simp only [h, pay44 hg _ _, ← EReal.coe_mul, ← coe_sum]

theorem pay51 (h : IsR v8 o) (hg : IsR v10 g) (t : Fin 1024) : k0_pay51 v8 v10 k0_pay37 (ix2 t 0) = ((∑ d, own1 g t d * o t d : ℝ) : EReal) := by
  pointwise [k0_pay51]
  simp only [h, pay50 hg _ _, ← EReal.coe_mul, ← coe_sum]

theorem pay46 {v46 : Vec Ideal S1x1024x1 .f32} {l : Fin 1024 → ℝ} (h : ∀ t, v46 (ix3 0 t 0) = (l t : EReal)) (t : Fin 1024) :
    k0_pay46 v46 (ix2 t 0) = (l t : EReal) := by
  pointwise [k0_pay46]
  exact h _

theorem eye (r d : Fin 128) : k0_pay40 (F := Ideal) (ix2 r d) = if r = d then 1 else 0 := by
  pointwise [k0_pay40]
  rw [WordCmp.cmpi_eq_ofNat (by omega) (by omega), Cert.Scalars.select_ofBool]
  simp [Fin.ext_iff]

theorem sum_eye (r : Fin 128) (x : Fin 128 → EReal) : ∑ d, k0_pay40 (F := Ideal) (ix2 r d) * x d = x r := by
  simp [eye]

theorem pay47 (h : IsR v6 q) : IsR (k0_pay47 v6 k0_pay36 k0_pay38 k0_pay40) (fun r t => keys0 q t r) := by
  intro r t
  pointwise [k0_pay47]
  rw [sum_eye]
  simp only [h, pay36, pay38, sel_coe]
  rfl

theorem pay53 (h : IsR v6 q) : IsR (k0_pay53 v6 k0_pay37 k0_pay39 k0_pay40) (fun r t => keys1 q t r) := by
  intro r t
  pointwise [k0_pay53]
  rw [sum_eye]
  simp only [h, pay37, pay39, sel_coe]
  rfl

theorem pay48 (h : IsR v6 q) : IsR (k0_pay48 v6 k0_pay36 k0_pay40) (fun r t => own0 q t r) := by
  intro r t
  pointwise [k0_pay48]
  rw [sum_eye]
  exact pay44 h t r

theorem pay54 (h : IsR v6 q) : IsR (k0_pay54 v6 k0_pay37 k0_pay40) (fun r t => own1 q t r) := by
  intro r t
  pointwise [k0_pay54]
  rw [sum_eye]
  exact pay50 h t r

theorem pay55 : IsR (k0_pay55 (F := Ideal)) (fun _ _ => 0) := by
  intro t d
  pointwise [k0_pay55]
  rfl

theorem v12_at (r : Fin 128) : iota Kind.tc S128x1 32 [0] iota_S128x1_d0_w32 (ix2 r 0) = BitVec.ofNat 32 r.val := by
  revert r; decide +kernel

end

end Cert.FoxIdeal.Tile

end
-- ==== Proof.FoxDiag.lean ====
/- The two tiles on the diagonal of the attention gradient, over the reals. -/
module

public import proofs.«01_k».proof.Proof.FoxTile

@[expose] public section

set_option maxRecDepth 16384

noncomputable section

namespace Cert.FoxIdeal.Tile

open Idealize.ShloMosaic Cert.FoxIdeal Cert.FoxIdeal.Gen Cert.Reals

/-! The first: every row, the left half of the columns. -/

section
variable {v37 v41 : FVec Ideal S1024x128 .bf16} {v45 v47 : FVec Ideal S1024x1 .f32} {v96 v99 : Vec Ideal S512x128 .bf16} {v105 : Vec Ideal S1x512 .f32}
variable {v55 : FVec Ideal S128x1024 .bf16} {arg15 : FVec Ideal S1024x128 .f32}
variable {a g : Fin 1024 → Fin 128 → ℝ} {l δ : Fin 1024 → ℝ} {k v : Fin 512 → Fin 128 → ℝ} {c : Fin 512 → ℝ}
variable {e f : Fin 128 → Fin 1024 → ℝ} {w : Fin 1024 → Fin 512 → ℝ} {y : Fin 1024 → Fin 128 → ℝ}

/-- The weights at and to the left of the diagonal. -/
def lower {T S : ℕ} (w : Fin T → Fin S → ℝ) (t : Fin T) (s : Fin S) : ℝ := if s.val ≤ t.val then w t s else 0

theorem cmp_le {a b : ℕ} (ha : a < 2048) (hb : b < 2048) :
    IntOp.cmpi CmpIPredicate.sle (BitVec.ofNat 32 a) (BitVec.ofNat 32 b) = BitVec.ofBool (decide (a ≤ b)) :=
  WordCmp.cmpi_sle_ofNat (by omega) (by omega)

theorem pay60 (h37 : IsR v37 a) (h47 : ∀ t, v47 (ix2 t 0) = (l t : EReal)) (h96 : IsR v96 k) (h105 : ∀ s, v105 (ix2 0 s) = (c s : EReal)) :
    IsR (k0_pay60 v37 v47 v96 v105) (lower (wt a l k c)) := by
  intro t s
  pointwise [k0_pay60, k0_pay58]
  simp only [h37, h47, h96, h105, cmp_le (show s.val < 2048 by omega) (show t.val < 2048 by omega), ← EReal.coe_mul, ← coe_sum, ← EReal.coe_sub,
    Cert.Scalars.exp_coe, ← EReal.coe_zero, sel_coe]
  rfl

theorem pay66 (h37 : IsR v37 a) (h47 : ∀ t, v47 (ix2 t 0) = (l t : EReal)) {v97 : FVec Ideal S512x128 .bf16} (h96 : IsR v97 k)
    (h105 : ∀ s, v105 (ix2 0 s) = (c s : EReal)) : IsR (k0_pay66 v37 v47 v97 v105) (lower (wt a l k c)) := by
  intro t s
  pointwise [k0_pay66]
  simp only [h37, h47, h96, h105, cmp_le (show s.val < 2048 by omega) (show t.val < 2048 by omega), ← EReal.coe_mul, ← coe_sum, ← EReal.coe_sub,
    Cert.Scalars.exp_coe, ← EReal.coe_zero, sel_coe]
  rfl

theorem pay62 (hw : IsR (k0_pay60 v37 v47 v96 v105) w) (h41 : IsR v41 g) (h45 : ∀ t, v45 (ix2 t 0) = (δ t : EReal)) (h99 : IsR v99 v) :
    IsR (k0_pay62 v37 v41 v45 v47 v96 v99 v105) (fun t s => w t s * dif g δ v t s) := by
  intro t s
  pointwise [k0_pay62, k0_pay59]
  simp only [hw _ _, h41, h45, h99, ← EReal.coe_mul, ← coe_sum, ← EReal.coe_sub, dif]

theorem pay67 {v97 v100 : FVec Ideal S512x128 .bf16} (hw : IsR (k0_pay66 v37 v47 v97 v105) w) (h41 : IsR v41 g) (h45 : ∀ t, v45 (ix2 t 0) = (δ t : EReal))
    (h99 : IsR v100 v) : IsR (k0_pay67 v37 v41 v45 v47 v97 v100 v105) (fun t s => w t s * dif g δ v t s) := by
  intro t s
  pointwise [k0_pay67]
  simp only [hw _ _, h41, h45, h99, ← EReal.coe_mul, ← coe_sum, ← EReal.coe_sub, dif]

theorem pay63 (h55 : IsR v55 e) (hb : IsR (k0_pay62 v37 v41 v45 v47 v96 v99 v105) w) :
    IsR (k0_pay63 v37 v41 v45 v47 v55 v96 v99 v105) (fun r s => ∑ t, e r t * w t s) := by
  intro r s
  pointwise [k0_pay63]
  simp only [h55, hb _ _, ← EReal.coe_mul, ← coe_sum]

theorem pay64 (h57 : IsR v55 e) (hb : IsR (k0_pay60 v37 v47 v96 v105) w) :
    IsR (k0_pay64 v55 (k0_pay61 v37 v47 v96 v105) (constant S128x512 .f32 0x00000000#32)) (fun r s => ∑ t, e r t * w t s) := by
  intro r s
  pointwise [k0_pay64, k0_pay61]
  simp only [h57, hb _ _, ← EReal.coe_mul, ← coe_sum]

theorem pay68 {v97 v100 : FVec Ideal S512x128 .bf16} (h55 : IsR v55 e) (hb : IsR (k0_pay67 v37 v41 v45 v47 v97 v100 v105) w) :
    IsR (k0_pay68 v37 v41 v45 v47 v55 v97 v100 v105) (fun r s => ∑ t, e r t * w t s) := by
  intro r s
  pointwise [k0_pay68]
  simp only [h55, hb _ _, ← EReal.coe_mul, ← coe_sum]

theorem pay69 {v97 : FVec Ideal S512x128 .bf16} (h55 : IsR v55 e) (hb : IsR (k0_pay66 v37 v47 v97 v105) w) :
    IsR (k0_pay69 v37 v47 v55 v97 v105) (fun r s => ∑ t, e r t * w t s) := by
  intro r s
  pointwise [k0_pay69]
  simp only [h55, hb _ _, ← EReal.coe_mul, ← coe_sum]

theorem pay65 {v97 : FVec Ideal S512x128 .bf16} {v122 : FVec Ideal S1024x512 .bf16} (hk : IsR v97 k) (hb : IsR v122 w) (hy : IsR arg15 y) :
    IsR (k0_pay65 k0_pay36 k0_pay38 arg15 v97 v122) (fun t d => y t d + ∑ s, w t s * keys0 k s d) := by
  intro t d
  pointwise [k0_pay65]
  simp only [hk, hb, hy _ _, pay36, pay38, sel_coe, ← EReal.coe_mul, ← coe_sum, ← EReal.coe_add]
  rfl

theorem pay70 {v97 v100 : FVec Ideal S512x128 .bf16} (hk : IsR v97 k) (hb : IsR (k0_pay67 v37 v41 v45 v47 v97 v100 v105) w) (hy : IsR arg15 y) :
    IsR (k0_pay70 k0_pay37 k0_pay39 v37 v41 v45 v47 arg15 v97 v100 v105) (fun t d => y t d + ∑ s, w t s * keys1 k s d) := by
  intro t d
  pointwise [k0_pay70]
  simp only [hk, hb _ _, hy _ _, pay37, pay39, sel_coe, ← EReal.coe_mul, ← coe_sum, ← EReal.coe_add]
  rfl

section
variable {v12 : IVec S128x1 32} {v123 v124 v156 : FVec Ideal S128x512 .f32} {v177 : Vec Ideal S128x512 .f32}
variable {p q o : Fin 128 → Fin 512 → ℝ}

theorem pay73 {v97 v100 : FVec Ideal S512x128 .bf16} (h12 : ∀ r : Fin 128, v12 (ix2 r 0) = BitVec.ofNat 32 r.val) (hp : IsR v123 p)
    (hq : IsR (k0_pay68 v37 v41 v45 v47 v55 v97 v100 v105) q) (ho : IsR v177 o) :
    IsR (k0_pay73 (k0_pay71 v177) (k0_pay72 v12 v37 v41 v45 v47 v55 v97 v100 v123 v105)) (fun r s => o r s + if r.val < 64 then p r s else q r s) := by
  intro r s
  pointwise [k0_pay73, k0_pay71, k0_pay72]
  simp only [h12, hp, hq _ _, ho, rows_lt, sel_coe, ← EReal.coe_add]

theorem pay74 (hp : IsR v123 p) (hq : IsR v124 q) (ho : IsR v177 o) : IsR (k0_pay74 v123 v124 v177) (fun r s => o r s + (p r s + q r s)) := by
  intro r s
  pointwise [k0_pay74]
  simp only [hp, hq, ho, ← EReal.coe_add]

end

end

/-! The second: the lower half of the rows, the right half of the columns. -/

/-- A row of the lower half. -/
def low (t : Fin 512) : Fin 1024 := ⟨512 + t.val, by omega⟩

section
variable {v37 v41 : FVec Ideal S1024x128 .bf16} {v45 v47 : FVec Ideal S1024x1 .f32} {v207 v210 : FVec Ideal S512x128 .bf16} {v215 : Vec Ideal S1x512 .f32}
variable {v55 : FVec Ideal S128x1024 .bf16} {v132 : FVec Ideal S1024x128 .f32}
variable {a g : Fin 1024 → Fin 128 → ℝ} {l δ : Fin 1024 → ℝ} {k v : Fin 512 → Fin 128 → ℝ} {c : Fin 512 → ℝ}
variable {e f : Fin 128 → Fin 1024 → ℝ} {w : Fin 512 → Fin 512 → ℝ} {y : Fin 1024 → Fin 128 → ℝ}

theorem pay79 (h37 : IsR v37 a) (h47 : ∀ t, v47 (ix2 t 0) = (l t : EReal)) (h207 : IsR v207 k) (h215 : ∀ s, v215 (ix2 0 s) = (c s : EReal)) :
    IsR (k0_pay79 v37 v47 v207 v215) (lower (fun t s => wt a l k c (low t) s)) := by
  intro t s
  pointwise [k0_pay79]
  simp only [h37 _ _, h47, h207, h215, cmp_le (show s.val < 2048 by omega) (show t.val < 2048 by omega), ← EReal.coe_mul, ← coe_sum, ← EReal.coe_sub,
    Cert.Scalars.exp_coe, ← EReal.coe_zero, sel_coe]
  rfl

theorem pay80 (hw : IsR (k0_pay79 v37 v47 v207 v215) w) (h41 : IsR v41 g) (h45 : ∀ t, v45 (ix2 t 0) = (δ t : EReal)) (h210 : IsR v210 v) :
    IsR (k0_pay80 v37 v41 v45 v47 v207 v210 v215) (fun t s => w t s * dif g δ v (low t) s) := by
  intro t s
  pointwise [k0_pay80]
  simp only [hw _ _, h41 _ _, h45, h210, ← EReal.coe_mul, ← coe_sum, ← EReal.coe_sub, dif]
  rfl

theorem pay86 (h37 : IsR v37 a) (h47 : ∀ t, v47 (ix2 t 0) = (l t : EReal)) (h207 : IsR v207 k) (h215 : ∀ s, v215 (ix2 0 s) = (c s : EReal)) :
    IsR (k0_pay86 (k0_pay84 v37 v207 v215) (k0_pay85 v47)) (lower (fun t s => wt a l k c (low t) s)) := by
  intro t s
  pointwise [k0_pay84, k0_pay85, k0_pay86]
  simp only [h37 _ _, h47, h207, h215, cmp_le (show s.val < 2048 by omega) (show t.val < 2048 by omega), ← EReal.coe_mul, ← coe_sum, ← EReal.coe_sub,
    Cert.Scalars.exp_coe, ← EReal.coe_zero, sel_coe]
  rfl

theorem pay87 {v260 : FVec Ideal S512x512 .f32} {v261 : FVec Ideal S512x1 .f32} (hw : IsR (k0_pay86 v260 v261) w) (h41 : IsR v41 g)
    (h45 : ∀ t, v45 (ix2 t 0) = (δ t : EReal)) (h210 : IsR v210 v) :
    IsR (k0_pay87 v41 v45 v210 v260 v261) (fun t s => w t s * dif g δ v (low t) s) := by
  intro t s
  pointwise [k0_pay87]
  simp only [hw _ _, h41 _ _, h45, h210, ← EReal.coe_mul, ← coe_sum, ← EReal.coe_sub, dif]
  rfl

theorem pay81 (h55 : IsR v55 e) (hb : IsR (k0_pay80 v37 v41 v45 v47 v207 v210 v215) w) :
    IsR (k0_pay81 v37 v41 v45 v47 v55 v207 v210 v215) (fun r s => ∑ t, e r (low t) * w t s) := by
  intro r s
  pointwise [k0_pay81]
  simp only [h55 _ _, hb _ _, ← EReal.coe_mul, ← coe_sum]
  rfl

theorem pay82 (h55 : IsR v55 e) (hb : IsR (k0_pay79 v37 v47 v207 v215) w) :
    IsR (k0_pay82 v37 v47 v55 v207 v215) (fun r s => ∑ t, e r (low t) * w t s) := by
  intro r s
  pointwise [k0_pay82]
  simp only [h55 _ _, hb _ _, ← EReal.coe_mul, ← coe_sum]
  rfl

theorem pay88 {v260 : FVec Ideal S512x512 .f32} {v261 : FVec Ideal S512x1 .f32} (h55 : IsR v55 e) (hb : IsR (k0_pay87 v41 v45 v210 v260 v261) w) :
    IsR (k0_pay88 v41 v45 v55 v210 v260 v261) (fun r s => ∑ t, e r (low t) * w t s) := by
  intro r s
  pointwise [k0_pay88]
  simp only [h55 _ _, hb _ _, ← EReal.coe_mul, ← coe_sum]
  rfl

/-- A sum over the lower half of the rows. -/
def addLow (y : Fin 1024 → Fin 128 → ℝ) (z : Fin 512 → Fin 128 → ℝ) (t : Fin 1024) (d : Fin 128) : ℝ :=
  if h : t.val < 512 then y t d else y t d + z ⟨t.val - 512, by omega⟩ d

theorem low_sub (t : Fin 1024) (h : ¬ t.val < 512) (p : 512 + (t.val - 512) < 1024) : (⟨512 + (t.val - 512), p⟩ : Fin 1024) = t :=
  Fin.ext (by simp only; omega)

theorem pay83 (hk : IsR v207 k) (hb : IsR (k0_pay80 v37 v41 v45 v47 v207 v210 v215) w) (hy : IsR v132 y) :
    IsR (k0_pay83 k0_pay36 k0_pay38 v37 v41 v45 v47 v132 v207 v210 v215) (addLow y (fun t d => ∑ s, w t s * keys0 k s d)) := by
  intro t d
  pointwise [k0_pay83]
  simp only [hk, hb _ _, hy _ _, pay36, pay38, sel_coe, ← EReal.coe_mul, ← coe_sum, ← EReal.coe_add]
  unfold addLow
  split
  · rfl
  · rw [low_sub t (by assumption)]; rfl

theorem pay89 {v260 : FVec Ideal S512x512 .f32} {v261 : FVec Ideal S512x1 .f32} (hk : IsR v207 k) (hb : IsR (k0_pay87 v41 v45 v210 v260 v261) w) (hy : IsR v132 y) :
    IsR (k0_pay89 k0_pay37 k0_pay39 v41 v45 v132 v207 v210 v260 v261) (addLow y (fun t d => ∑ s, w t s * keys1 k s d)) := by
  intro t d
  pointwise [k0_pay89]
  simp only [hk, hb _ _, hy _ _, pay37, pay39, sel_coe, ← EReal.coe_mul, ← coe_sum, ← EReal.coe_add]
  unfold addLow
  split
  · rfl
  · rw [low_sub t (by assumption)]; rfl

section
variable {v12 : IVec S128x1 32} {v123 v124 : FVec Ideal S128x512 .f32} {v294 : Vec Ideal S128x512 .f32} {v260 : FVec Ideal S512x512 .f32} {v261 : FVec Ideal S512x1 .f32}
variable {p q o : Fin 128 → Fin 512 → ℝ}

theorem pay90 (h12 : ∀ r : Fin 128, v12 (ix2 r 0) = BitVec.ofNat 32 r.val) (hp : IsR v123 p)
    (hq : IsR (k0_pay88 v41 v45 v55 v210 v260 v261) q) (ho : IsR v294 o) :
    IsR (k0_pay90 v12 v41 v45 v55 v210 v123 v260 v261 v294) (fun r s => o r s + if r.val < 64 then p r s else q r s) := by
  intro r s
  pointwise [k0_pay90]
  simp only [h12, hp, hq _ _, ho, rows_lt, sel_coe, ← EReal.coe_add]

theorem pay91 (h55 : IsR v55 e) (hw : IsR (k0_pay86 v260 v261) w) (hp : IsR v123 p) (ho : IsR v294 o) :
    IsR (k0_pay91 v55 v123 v260 v261 v294) (fun r s => o r s + (p r s + ∑ t, e r (low t) * w t s)) := by
  intro r s
  pointwise [k0_pay91]
  simp only [h55 _ _, hw _ _, hp, ho, ← EReal.coe_mul, ← coe_sum, ← EReal.coe_add]
  rfl

end

variable {y' : Fin 1024 → Fin 128 → ℝ} {v292 : FVec Ideal S1024x128 .f32}

theorem pay94 (hy : IsR v132 y) (hy' : IsR v292 y') :
    IsR (k0_pay94 k0_pay36 v132 v292) (fun t d => (if d.val < 64 then y t d else y' t d) * (1 / 8)) := by
  intro t d
  pointwise [k0_pay94]
  simp only [hy, hy', pay36, sel_coe, eighth_f32, ← EReal.coe_mul]

theorem pay95 (hy : IsR v132 y) (t : Fin 1024) : k0_pay95 v132 (ix3 0 t 0) = (y t 64 : EReal) := by
  pointwise [k0_pay95]
  exact hy _ _

theorem pay1 (hy : IsR v132 y) (t : Fin 1024) : k0_pay1 (k0_pay96 v132) (ix3 0 t 0) = (y t 0 : EReal) := by
  pointwise [k0_pay1, k0_pay96]
  exact hy _ _

end

end Cert.FoxIdeal.Tile

end
-- ==== Proof.FoxModel.lean ====
/- What one grid point of the attention gradient adds, over the reals: a block of 1024 rows of two heads against the columns up to
   the diagonal. -/
module

public import proofs.«01_k».proof.Proof.FoxDiag

@[expose] public section

noncomputable section

namespace Cert.FoxIdeal.Tile

open Idealize.ShloMosaic Cert.Reals

/-- A grid point's operands: scaled query rows, output rows, cotangent rows, the two row terms, the keys and values, the two column
    terms, and the number of the block's first row. -/
structure Pt where
  q : Fin 1024 → Fin 128 → ℝ
  o : Fin 1024 → Fin 128 → ℝ
  g : Fin 1024 → Fin 128 → ℝ
  l0 : Fin 1024 → ℝ
  l1 : Fin 1024 → ℝ
  K : ℕ → Fin 128 → ℝ
  V : ℕ → Fin 128 → ℝ
  C0 : ℕ → ℝ
  C1 : ℕ → ℝ
  n : ℕ

namespace Pt

variable (p : Pt)

/-- The row terms of the gradient: the cotangent's product with the output. -/
def δ0 (t : Fin 1024) : ℝ := ∑ d, own0 p.g t d * p.o t d
def δ1 (t : Fin 1024) : ℝ := ∑ d, own1 p.g t d * p.o t d

/-- The weights without the mask. -/
def U0 (t : Fin 1024) (j : ℕ) : ℝ := Real.exp (∑ d, own0 p.q t d * p.K j d - p.C0 j - p.l0 t)
def U1 (t : Fin 1024) (j : ℕ) : ℝ := Real.exp (∑ d, own1 p.q t d * p.K j d - p.C1 j - p.l1 t)

/-- The weights. -/
def W0 (t : Fin 1024) (j : ℕ) : ℝ := if j ≤ p.n + t.val then p.U0 t j else 0
def W1 (t : Fin 1024) (j : ℕ) : ℝ := if j ≤ p.n + t.val then p.U1 t j else 0

/-- The gradient of the logits. -/
def B0 (t : Fin 1024) (j : ℕ) : ℝ := p.W0 t j * (∑ d, own0 p.g t d * p.V j d - p.δ0 t)
def B1 (t : Fin 1024) (j : ℕ) : ℝ := p.W1 t j * (∑ d, own1 p.g t d * p.V j d - p.δ1 t)

/-- What the point adds to the transposed gradients of the keys and of the values, and takes from the gradients of the column terms. -/
def dk (r : Fin 128) (j : ℕ) : ℝ := if r.val < 64 then ∑ t, keys0 p.q t r * p.B0 t j else ∑ t, keys1 p.q t r * p.B1 t j
def dv (r : Fin 128) (j : ℕ) : ℝ := ∑ t, own0 p.g t r * p.W0 t j + ∑ t, own1 p.g t r * p.W1 t j
def dc0 (j : ℕ) : ℝ := ∑ t, keys0 p.q t 64 * p.B0 t j
def dc1 (j : ℕ) : ℝ := ∑ t, keys1 p.q t 0 * p.B1 t j

def dc (r : Fin 8) (j : ℕ) : ℝ := if r.val = 0 then p.dc0 j else if r.val = 1 then p.dc1 j else 0

/-- The first `J` columns' part of the rows' gradients. -/
def y0 (J : ℕ) (t : Fin 1024) (d : Fin 128) : ℝ := ∑ j ∈ Finset.range J, p.B0 t j * keys0 p.K j d
def y1 (J : ℕ) (t : Fin 1024) (d : Fin 128) : ℝ := ∑ j ∈ Finset.range J, p.B1 t j * keys1 p.K j d

theorem sum_tile (f : ℕ → ℝ) (J : ℕ) : ∑ j ∈ Finset.range (J + 512), f j = ∑ j ∈ Finset.range J, f j + ∑ s : Fin 512, f (J + s.val) := by
  rw [Finset.sum_range_add]
  congr 1

theorem y0_add (J : ℕ) (t : Fin 1024) (d : Fin 128) :
    p.y0 (J + 512) t d = p.y0 J t d + ∑ s : Fin 512, p.B0 t (J + s.val) * keys0 p.K (J + s.val) d := sum_tile _ J

theorem y1_add (J : ℕ) (t : Fin 1024) (d : Fin 128) :
    p.y1 (J + 512) t d = p.y1 J t d + ∑ s : Fin 512, p.B1 t (J + s.val) * keys1 p.K (J + s.val) d := sum_tile _ J

/-- To the left of the block's rows nothing is masked. -/
theorem W0_left {t : Fin 1024} {j : ℕ} (h : j < p.n) : p.W0 t j = p.U0 t j := if_pos (by omega)
theorem W1_left {t : Fin 1024} {j : ℕ} (h : j < p.n) : p.W1 t j = p.U1 t j := if_pos (by omega)

theorem W0_zero {t : Fin 1024} {j : ℕ} (h : p.n + t.val < j) : p.W0 t j = 0 := if_neg (by omega)
theorem W1_zero {t : Fin 1024} {j : ℕ} (h : p.n + t.val < j) : p.W1 t j = 0 := if_neg (by omega)
theorem B0_zero {t : Fin 1024} {j : ℕ} (h : p.n + t.val < j) : p.B0 t j = 0 := by unfold B0; rw [p.W0_zero h, zero_mul]
theorem B1_zero {t : Fin 1024} {j : ℕ} (h : p.n + t.val < j) : p.B1 t j = 0 := by unfold B1; rw [p.W1_zero h, zero_mul]

/-- A sum over the rows of which only the lower half counts. -/
theorem sum_low (F : Fin 1024 → ℝ) (h : ∀ t, t.val < 512 → F t = 0) : ∑ t, F (low t) = ∑ t, F t := by
  rw [← Fin.sum_congr' F (show 512 + 512 = 1024 from rfl), Fin.sum_univ_add, Finset.sum_eq_zero (f := fun i => F (Fin.cast _ (Fin.castAdd 512 i))), zero_add]
  · rfl
  · intro i _; exact h _ (by simp)

end Pt

end Cert.FoxIdeal.Tile

end
-- ==== Proof.FoxLoop.lean ====
/- The loop over the tiles to the left of a block's rows, over the reals. -/
module

public import proofs.«01_k».proof.Proof.FoxModel
public import proofs.«01_k».proof.Proof.Gen.FoxIdeal.Loops
public import proofs.«01_k».proof.Proof.Gen.FoxIdeal.Points
public import Idealize.ShloMosaic.Lib.Pipeline.ValueKit.Tiles

@[expose] public section

set_option maxRecDepth 16384

noncomputable section

namespace Cert.FoxIdeal.Tile

open Idealize.ShloMosaic Cert.FoxIdeal Cert.FoxIdeal.Gen Cert.Reals

theorem trips1 : ∀ t : Fin cfg0.N, (k0_t1_loop (grid0.coords t)).trips = 2 * (t.val % 8) := by decide +kernel
theorem trips2 : ∀ t : Fin cfg0.N, (k0_t2_loop (grid0.coords t)).trips = 0 := by decide +kernel
theorem off1 : ∀ (t : Fin cfg0.N) (k : Fin (k0_t1_loop (grid0.coords t)).trips), k0_off1 (grid0.coords t) k = ![512 * k.val, 0] := by decide +kernel
theorem off2_0 : ∀ (t : Fin cfg0.N) (k : Fin (k0_t1_loop (grid0.coords t)).trips),
    k0_off2 (grid0.coords t) k 0#32 = ![2 * (t.val / 8), 512 * k.val] := by decide +kernel
theorem off2_1 : ∀ (t : Fin cfg0.N) (k : Fin (k0_t1_loop (grid0.coords t)).trips),
    k0_off2 (grid0.coords t) k 1#32 = ![2 * (t.val / 8) + 1, 512 * k.val] := by decide +kernel
theorem off3 : ∀ (t : Fin cfg0.N) (k : Fin (k0_t1_loop (grid0.coords t)).trips), k0_off3 (grid0.coords t) k = ![0, 512 * k.val] := by decide +kernel
theorem off4 : ∀ (t : Fin cfg0.N) (k : Fin (k0_t1_loop (grid0.coords t)).trips), k0_off4 (grid0.coords t) k = ![0, 0, 512 * k.val] := by decide +kernel
theorem off5 : ∀ (t : Fin cfg0.N) (k : Fin (k0_t1_loop (grid0.coords t)).trips), k0_off5 (grid0.coords t) k = ![0, 1, 512 * k.val] := by decide +kernel

/-- The operands of a point's tiles are the model's. -/
structure Args (p : Pt) (v12 : IVec S128x1 32) (v37 v41 : FVec Ideal S1024x128 .bf16) (v45 v47 : FVec Ideal S1024x1 .f32) (v55 v57 : FVec Ideal S128x1024 .bf16)
    (v61 v65 : FVec Ideal S1024x128 .bf16) (v69 v71 : FVec Ideal S1024x1 .f32) (v79 v81 : FVec Ideal S128x1024 .bf16) : Prop where
  row : ∀ r : Fin 128, v12 (ix2 r 0) = BitVec.ofNat 32 r.val
  a0 : IsR v37 (own0 p.q)
  g0 : IsR v41 (own0 p.g)
  d0 : ∀ t, v45 (ix2 t 0) = (p.δ0 t : EReal)
  l0 : ∀ t, v47 (ix2 t 0) = (p.l0 t : EReal)
  e0 : IsR v55 (fun r t => keys0 p.q t r)
  f0 : IsR v57 (fun r t => own0 p.g t r)
  a1 : IsR v61 (own1 p.q)
  g1 : IsR v65 (own1 p.g)
  d1 : ∀ t, v69 (ix2 t 0) = (p.δ1 t : EReal)
  l1 : ∀ t, v71 (ix2 t 0) = (p.l1 t : EReal)
  e1 : IsR v79 (fun r t => keys1 p.q t r)
  f1 : IsR v81 (fun r t => own1 p.g t r)

/-- The keys, values and column terms are the model's; `h` is the pair of heads. -/
structure Cols (p : Pt) (h : ℕ) (xk xv : S8192x128.Idx → EReal) (xc : S8x8192.Idx → EReal) : Prop where
  K : ∀ (j : Fin 8192) d, xk (ix2 j d) = (p.K j d : EReal)
  V : ∀ (j : Fin 8192) d, xv (ix2 j d) = (p.V j d : EReal)
  C0 : ∀ (r : Fin 8) (j : Fin 8192), r.val = 2 * h → xc (ix2 r j) = (p.C0 j : EReal)
  C1 : ∀ (r : Fin 8) (j : Fin 8192), r.val = 2 * h + 1 → xc (ix2 r j) = (p.C1 j : EReal)

/-- What the point's three accumulators hold when the first `J` columns are in, of what they held before. -/
structure Held (p : Pt) (J : ℕ) (o10 o11 : Fin 128 → ℕ → ℝ) (o12 : Fin 8 → ℕ → ℝ)
    (x10 x11 : S128x8192.Idx → EReal) (x12 : S1x8x8192.Idx → EReal) : Prop where
  dk : IsR x10 (fun r j => o10 r j.val + if j.val < J then p.dk r j.val else 0)
  dv : IsR x11 (fun r j => o11 r j.val + if j.val < J then p.dv r j else 0)
  dc : ∀ (r : Fin 8) (j : Fin 8192), x12 (ix3 0 r j) = ((o12 r j.val - if j.val < J then p.dc r j else 0 : ℝ) : EReal)

/-! Reading a tile of a block. -/

theorem cols_read {x : S8192x128.Idx → EReal} {f : ℕ → Fin 128 → ℝ} (h : ∀ (j : Fin 8192) d, x (ix2 j d) = (f j d : EReal)) (off : Fin 2 → ℕ) (J : ℕ)
    (hoff : off = ![J, 0]) (inb : ∀ a, off a + S512x128.size a ≤ S8192x128.size a) :
    IsR (View.ld (Val := Elt Ideal) (e' := .bf16) x (Rect.unit off S512x128.size inb)) (fun s d => f (J + s.val) d) := by
  subst hoff
  intro s d
  have hb : J + 512 ≤ 8192 := inb 0
  have hj : J + s.val < 8192 := by omega
  exact (View.ld_unit_apply_of (S := S8192x128) (Val := Elt Ideal) (e := .bf16) x ![J, 0] S512x128.size inb (ix2 s d) (ix2 ⟨J + s.val, hj⟩ d) (by
    intro a
    fin_cases a
    · rfl
    · exact (Nat.zero_add _).symm)).trans (h _ _)

theorem row_read {x : S8x8192.Idx → EReal} {f : ℕ → ℝ} {n : ℕ} (h : ∀ (r : Fin 8) (j : Fin 8192), r.val = n → x (ix2 r j) = (f j : EReal)) (off : Fin 2 → ℕ) (J : ℕ)
    (hoff : off = ![n, J]) (inb : ∀ a, off a + S1x512.size a ≤ S8x8192.size a) (s : Fin 512) :
    View.ld (Val := Elt Ideal) (e' := .f32) x (Rect.unit off S1x512.size inb) (ix2 0 s) = (f (J + s.val) : EReal) := by
  subst hoff
  have hb : J + 512 ≤ 8192 := inb 1
  have hn : n + 1 ≤ 8 := inb 0
  have hj : J + s.val < 8192 := by omega
  exact (View.ld_unit_apply_of (S := S8x8192) (Val := Elt Ideal) (e := .f32) x ![n, J] S1x512.size inb (ix2 0 s) (ix2 ⟨n, hn⟩ ⟨J + s.val, hj⟩) (by
    intro a
    fin_cases a <;> rfl)).trans (h _ _ rfl)

theorem tile_read {x : S128x8192.Idx → EReal} {f : Fin 128 → ℕ → ℝ} (h : IsR x (fun r j => f r j.val)) (off : Fin 2 → ℕ) (J : ℕ)
    (hoff : off = ![0, J]) (inb : ∀ a, off a + S128x512.size a ≤ S128x8192.size a) :
    IsR (View.ld (Val := Elt Ideal) (e' := .f32) x (Rect.unit off S128x512.size inb)) (fun r s => f r (J + s.val)) := by
  subst hoff
  intro r s
  have hb : J + 512 ≤ 8192 := inb 1
  have hj : J + s.val < 8192 := by omega
  exact (View.ld_unit_apply_of (S := S128x8192) (Val := Elt Ideal) (e := .f32) x ![0, J] S128x512.size inb (ix2 r s) (ix2 r ⟨J + s.val, hj⟩) (by
    intro a
    fin_cases a
    · exact (Nat.zero_add _).symm
    · rfl)).trans (h _ _)

theorem line_read {x : S1x8x8192.Idx → EReal} {f : Fin 8 → ℕ → ℝ} (h : ∀ (r : Fin 8) (j : Fin 8192), x (ix3 0 r j) = (f r j.val : EReal)) (off : Fin 3 → ℕ) (n : Fin 8) (J : ℕ)
    (hoff : off = ![0, n.val, J]) (inb : ∀ a, off a + S1x1x512.size a ≤ S1x8x8192.size a) (s : Fin 512) :
    View.ld (Val := Elt Ideal) (e' := .f32) x (Rect.unit off S1x1x512.size inb) (ix3 0 0 s) = (f n (J + s.val) : EReal) := by
  subst hoff
  have hb : J + 512 ≤ 8192 := inb 2
  have hj : J + s.val < 8192 := by omega
  exact (View.ld_unit_apply_of (S := S1x8x8192) (Val := Elt Ideal) (e := .f32) x ![0, n.val, J] S1x1x512.size inb (ix3 0 0 s) (ix3 0 n ⟨J + s.val, hj⟩) (by
    intro a
    fin_cases a <;> rfl)).trans (h _ _)

/-! Writing a tile of a block. -/

section
variable {κ : Kind} {sp : Space}

theorem tile_write (v : View sig κ sp S128x8192 .f32) (f : v.ty.Contents (Elt Ideal)) (L : List (View.Piece (Elt Ideal) S128x8192 .f32)) (off : Fin 2 → ℕ) (J : ℕ)
    (hoff : off = ![0, J]) (inb : ∀ a, off a + S128x512.size a ≤ S128x8192.size a) (w : S128x512.Idx → EReal) (o D : Fin 128 → ℕ → ℝ)
    (hold : IsR (v.read (Elt Ideal) (v.writes (Elt Ideal) f L)) (fun r j => o r j.val + if j.val < J then D r j.val else 0))
    (hw : IsR w (fun r s => (o r (J + s.val) + if J + s.val < J then D r (J + s.val) else 0) + D r (J + s.val))) :
    IsR (v.read (Elt Ideal) (v.writes (Elt Ideal) f (⟨Rect.unit off S128x512.size inb, w⟩ :: L))) (fun r j => o r j.val + if j.val < J + 512 then D r j.val else 0) := by
  subst hoff
  intro r j
  by_cases h : J ≤ j.val ∧ j.val < J + 512
  · rw [View.read_writes_cons_hit_of_coords v f (Rect.unit ![0, J] S128x512.size inb) w L (ix2 r ⟨j.val - J, by omega⟩) (ix2 r j) (by
      intro a
      fin_cases a
      · simp [Rect.unit]
      · simp [Rect.unit]; omega)]
    refine (hw _ _).trans ?_
    have e : J + (j.val - J) = j.val := by omega
    simp only [e]
    rw [if_neg (by omega), if_pos h.2, add_zero]
  · rw [View.read_writes_cons_miss_of_axis v f _ L (ix2 r j) 1 J 512 rfl rfl rfl (by
      show j.val < J ∨ J + 512 ≤ j.val
      omega)]
    refine (hold _ _).trans ?_
    beta_reduce
    by_cases h' : j.val < J
    · rw [if_pos h', if_pos (by omega)]
    · rw [if_neg h', if_neg (by omega)]

theorem line_write (v : View sig κ sp S1x8x8192 .f32) (f : v.ty.Contents (Elt Ideal)) (L : List (View.Piece (Elt Ideal) S1x8x8192 .f32)) (off : Fin 3 → ℕ) (n : Fin 8) (J : ℕ)
    (hoff : off = ![0, n.val, J]) (inb : ∀ a, off a + S1x1x512.size a ≤ S1x8x8192.size a) (w : S1x1x512.Idx → EReal) (o : Fin 8 → ℕ → ℝ) (z : ℕ → ℝ)
    (hold : ∀ (r : Fin 8) (j : Fin 8192), v.read (Elt Ideal) (v.writes (Elt Ideal) f L) (ix3 0 r j) = (o r j.val : EReal))
    (hw : ∀ s : Fin 512, w (ix3 0 0 s) = (z (J + s.val) : EReal)) (r : Fin 8) (j : Fin 8192) :
    v.read (Elt Ideal) (v.writes (Elt Ideal) f (⟨Rect.unit off S1x1x512.size inb, w⟩ :: L)) (ix3 0 r j)
      = ((if r = n ∧ J ≤ j.val ∧ j.val < J + 512 then z j.val else o r j.val : ℝ) : EReal) := by
  subst hoff
  by_cases h : r = n ∧ J ≤ j.val ∧ j.val < J + 512
  · rw [if_pos h, View.read_writes_cons_hit_of_coords v f (Rect.unit ![0, n.val, J] S1x1x512.size inb) w L (ix3 0 0 ⟨j.val - J, by omega⟩) (ix3 0 r j) (by
      intro a
      fin_cases a
      · simp [Rect.unit]
      · simp [Rect.unit, h.1]
      · simp [Rect.unit]; omega)]
    refine (hw _).trans ?_
    have e : J + (j.val - J) = j.val := by omega
    simp only [e]
  · rw [if_neg h]
    by_cases hr : r = n
    · rw [View.read_writes_cons_miss_of_axis v f _ L (ix3 0 r j) 2 J 512 rfl rfl rfl (by
        show j.val < J ∨ J + 512 ≤ j.val
        omega)]
      exact hold _ _
    · rw [View.read_writes_cons_miss_of_axis v f _ L (ix3 0 r j) 1 n.val 1 rfl rfl rfl (by
        show r.val < n.val ∨ n.val + 1 ≤ r.val
        omega)]
      exact hold _ _

/-- The two lines of a tile's column terms. -/
theorem lines_write (v : View sig κ sp S1x8x8192 .f32) (f : v.ty.Contents (Elt Ideal)) (L : List (View.Piece (Elt Ideal) S1x8x8192 .f32)) (off0 off1 : Fin 3 → ℕ) (J : ℕ)
    (hoff0 : off0 = ![0, 0, J]) (hoff1 : off1 = ![0, 1, J]) (inb0 : ∀ a, off0 a + S1x1x512.size a ≤ S1x8x8192.size a)
    (inb1 : ∀ a, off1 a + S1x1x512.size a ≤ S1x8x8192.size a) (w0 w1 : S1x1x512.Idx → EReal) (o : Fin 8 → ℕ → ℝ) (p : Pt)
    (hold : ∀ (r : Fin 8) (j : Fin 8192), v.read (Elt Ideal) (v.writes (Elt Ideal) f L) (ix3 0 r j) = ((o r j.val - if j.val < J then p.dc r j.val else 0 : ℝ) : EReal))
    (hw0 : ∀ s : Fin 512, w0 (ix3 0 0 s) = (((o 0 (J + s.val) - if J + s.val < J then p.dc 0 (J + s.val) else 0) - p.dc0 (J + s.val) : ℝ) : EReal))
    (hw1 : ∀ s : Fin 512, w1 (ix3 0 0 s) = (((o 1 (J + s.val) - if J + s.val < J then p.dc 1 (J + s.val) else 0) - p.dc1 (J + s.val) : ℝ) : EReal))
    (r : Fin 8) (j : Fin 8192) :
    v.read (Elt Ideal) (v.writes (Elt Ideal) f (⟨Rect.unit off1 S1x1x512.size inb1, w1⟩ :: ⟨Rect.unit off0 S1x1x512.size inb0, w0⟩ :: L)) (ix3 0 r j)
      = ((o r j.val - if j.val < J + 512 then p.dc r j.val else 0 : ℝ) : EReal) := by
  rw [line_write v f _ off1 1 J hoff1 inb1 w1
    (fun r j => if r = 0 ∧ J ≤ j ∧ j < J + 512 then (o 0 j - if j < J then p.dc 0 j else 0) - p.dc0 j else o r j - if j < J then p.dc r j else 0) (fun j => (o 1 j - if j < J then p.dc 1 j else 0) - p.dc1 j)
    (line_write v f L off0 0 J hoff0 inb0 w0 (fun r j => o r j - if j < J then p.dc r j else 0) (fun j => (o 0 j - if j < J then p.dc 0 j else 0) - p.dc0 j) hold hw0) hw1]
  congr 1
  have e0 : p.dc 0 j.val = p.dc0 j.val := rfl
  have e1 : p.dc 1 j.val = p.dc1 j.val := rfl
  have e2 : r ≠ 0 → r ≠ 1 → p.dc r j.val = 0 := fun h0 h1 => by
    unfold Pt.dc
    rw [if_neg (show ¬ r.val = 0 from fun h => h0 (Fin.ext h)), if_neg (show ¬ r.val = 1 from fun h => h1 (Fin.ext h))]
  by_cases h : J ≤ j.val ∧ j.val < J + 512
  · by_cases h1 : r = 1
    · subst h1
      rw [if_pos ⟨rfl, h⟩, if_neg (by omega), if_pos h.2, e1, sub_zero]
    · rw [if_neg (fun x => h1 x.1)]
      by_cases h0 : r = 0
      · subst h0
        rw [if_pos ⟨rfl, h⟩, if_neg (by omega), if_pos h.2, e0, sub_zero]
      · rw [if_neg (fun x => h0 x.1), e2 h0 h1, ite_self, ite_self]
  · rw [if_neg (fun x => h x.2), if_neg (fun x => h x.2)]
    by_cases h' : j.val < J
    · rw [if_pos h', if_pos (by omega)]
    · rw [if_neg h', if_neg (by omega)]

end

theorem IsR.congr {a b : ℕ} {v : (⟨2, ![a, b]⟩ : Shape).Idx → EReal} {f g : Fin a → Fin b → ℝ} (h : IsR v f) (e : ∀ r j, f r j = g r j) : IsR v g :=
  fun r j => (h r j).trans (congrArg _ (e r j))

/-- The operands of the tile of columns `J`. -/
structure Tile (p : Pt) (J : ℕ) (xk xv : S512x128.Idx → EReal) (c0 c1 : S1x512.Idx → EReal) : Prop where
  k : IsR xk (fun s d => p.K (J + s.val) d)
  v : IsR xv (fun s d => p.V (J + s.val) d)
  c0 : ∀ s : Fin 512, c0 (ix2 0 s) = (p.C0 (J + s.val) : EReal)
  c1 : ∀ s : Fin 512, c1 (ix2 0 s) = (p.C1 (J + s.val) : EReal)

section
variable {p : Pt} {J : ℕ} {v12 : IVec S128x1 32} {v37 v41 : FVec Ideal S1024x128 .bf16} {v45 v47 : FVec Ideal S1024x1 .f32} {v55 v57 : FVec Ideal S128x1024 .bf16}
variable {v61 v65 : FVec Ideal S1024x128 .bf16} {v69 v71 : FVec Ideal S1024x1 .f32} {v79 v81 : FVec Ideal S128x1024 .bf16}
variable {xk xv : Vec Ideal S512x128 .bf16} {c0 c1 : Vec Ideal S1x512 .f32}
variable (hA : Args p v12 v37 v41 v45 v47 v55 v57 v61 v65 v69 v71 v79 v81) (hT : Tile p J xk xv c0 c1)
include hA hT

theorem left_w0 (hJ : J + 512 ≤ p.n) : IsR (k0_pay4 v37 v47 xk c0) (fun t s => p.W0 t (J + s.val)) :=
  IsR.congr (pay4 hA.a0 hA.l0 hT.k hT.c0) fun t s => (p.W0_left (by omega)).symm

theorem left_w1 (hJ : J + 512 ≤ p.n) : IsR (k0_pay9 v61 v71 xk c1) (fun t s => p.W1 t (J + s.val)) :=
  IsR.congr (pay9 hA.a1 hA.l1 hT.k hT.c1) fun t s => (p.W1_left (by omega)).symm

theorem left_b0 (hJ : J + 512 ≤ p.n) : IsR (k0_pay5 v37 v41 v45 v47 xk xv c0) (fun t s => p.B0 t (J + s.val)) :=
  IsR.congr (pay5 hA.a0 hA.g0 hA.d0 hA.l0 hT.k hT.v hT.c0) fun t s => congrArg (· * _) (p.W0_left (by omega)).symm

theorem left_b1 (hJ : J + 512 ≤ p.n) : IsR (k0_pay10 v65 v69 (k0_pay3 xv) (k0_pay9 v61 v71 xk c1)) (fun t s => p.B1 t (J + s.val)) :=
  pay10 hA.g1 hA.d1 (v351 := k0_pay3 xv) (pay3 hT.v) (left_w1 hA hT hJ)

end

section
variable {𝒱 : Variants} {c : Dev nD} {bd : Option 𝒱.V} {arg2 : Memref sig .tc .vmem S1024x128 .bf16} {harg2 : arg2.IsWhole} {arg3 : Memref sig .tc .vmem S8192x128 .bf16} {harg3 : arg3.IsWhole} {arg4 : Memref sig .tc .vmem S8192x128 .bf16} {harg4 : arg4.IsWhole} {arg5 : Memref sig .tc .vmem S8x8192 .f32} {harg5 : arg5.IsWhole} {arg6 : Memref sig .tc .vmem S1024x128 .f32} {harg6 : arg6.IsWhole} {arg7 : Memref sig .tc .vmem S1024x128 .f32} {harg7 : arg7.IsWhole} {arg8 : Memref sig .tc .vmem S1x1024x2 .f32} {harg8 : arg8.IsWhole} {arg9 : Memref sig .tc .vmem S1024x128 .bf16} {harg9 : arg9.IsWhole} {arg10 : Memref sig .tc .vmem S128x8192 .f32} {harg10 : arg10.IsWhole} {arg11 : Memref sig .tc .vmem S128x8192 .f32} {harg11 : arg11.IsWhole} {arg12 : Memref sig .tc .vmem S1x8x8192 .f32} {harg12 : arg12.IsWhole} {arg13 : Memref sig .tc .vmem S1x1024x2 .f32} {harg13 : arg13.IsWhole} {arg0 : BitVec 32} {arg1 : BitVec 32} {v12 : IVec S128x1 32} {v37 : FVec Ideal S1024x128 .bf16} {v41 : FVec Ideal S1024x128 .bf16} {v45 : FVec Ideal S1024x1 .f32} {v47 : FVec Ideal S1024x1 .f32} {v55 : FVec Ideal S128x1024 .bf16} {v57 : FVec Ideal S128x1024 .bf16} {v61 : FVec Ideal S1024x128 .bf16} {v65 : FVec Ideal S1024x128 .bf16} {v69 : FVec Ideal S1024x1 .f32} {v71 : FVec Ideal S1024x1 .f32} {v79 : FVec Ideal S128x1024 .bf16} {v81 : FVec Ideal S128x1024 .bf16} {X_arg3 : BufTy.Contents (Elt Ideal) arg3.view.ty} {X_arg4 : BufTy.Contents (Elt Ideal) arg4.view.ty} {X_arg5 : BufTy.Contents (Elt Ideal) arg5.view.ty}
variable {p : Pt} {t : Fin cfg0.N}

theorem trip (hA : Args p v12 v37 v41 v45 v47 v55 v57 v61 v65 v69 v71 v79 v81) (hC : Cols p (t.val / 8) (arg3.view.read (Elt Ideal) X_arg3) (arg4.view.read (Elt Ideal) X_arg4) (arg5.view.read (Elt Ideal) X_arg5))
    (hn : p.n = 1024 * (t.val % 8)) (k : Fin (k0_t1_loop (grid0.coords t)).trips) {acc : FVec Ideal S1024x128 .f32 × FVec Ideal S1024x128 .f32}
    {f_arg10 : BufTy.Contents (Elt Ideal) arg10.view.ty} {f_arg11 : BufTy.Contents (Elt Ideal) arg11.view.ty} {f_arg12 : BufTy.Contents (Elt Ideal) arg12.view.ty}
    {o10 o11 : Fin 128 → ℕ → ℝ} {o12 : Fin 8 → ℕ → ℝ}
    (hH : Held p (512 * k.val) o10 o11 o12 (arg10.view.read (Elt Ideal) f_arg10) (arg11.view.read (Elt Ideal) f_arg11) (arg12.view.read (Elt Ideal) f_arg12))
    (hy0 : IsR acc.1 (p.y0 (512 * k.val))) (hy1 : IsR acc.2 (p.y1 (512 * k.val))) :
    Held p (512 * k.val + 512) o10 o11 o12
      (arg10.view.read (Elt Ideal) (arg10.view.writes (Elt Ideal) f_arg10 (tripL_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 k acc f_arg10 f_arg11 f_arg12).1))
      (arg11.view.read (Elt Ideal) (arg11.view.writes (Elt Ideal) f_arg11 (tripL_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 k acc f_arg10 f_arg11 f_arg12).2.1))
      (arg12.view.read (Elt Ideal) (arg12.view.writes (Elt Ideal) f_arg12 (tripL_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 k acc f_arg10 f_arg11 f_arg12).2.2)) ∧
    IsR (tripR_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 k acc f_arg10 f_arg11 f_arg12).1 (p.y0 (512 * k.val + 512)) ∧
    IsR (tripR_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 k acc f_arg10 f_arg11 f_arg12).2 (p.y1 (512 * k.val + 512)) := by
  have hk : 512 * k.val + 512 ≤ p.n := by
    have := k.isLt
    have e := trips1 t
    omega
  have hT := Tile.mk (p := p) (cols_read hC.K _ _ (off1 t k) (k0_off1_inb (grid0.coords t) k)) (cols_read hC.V _ _ (off1 t k) (k0_off1_inb (grid0.coords t) k))
    (row_read hC.C0 _ _ (off2_0 t k) (k0_off2_inb (grid0.coords t) k 0)) (row_read hC.C1 _ _ (off2_1 t k) (k0_off2_inb (grid0.coords t) k 1))
  have w0 := left_w0 hA hT hk
  have w1 := left_w1 hA hT hk
  have b0 := left_b0 hA hT hk
  have b1 := left_b1 hA hT hk
  unfold tripL_k0_t1 tripR_k0_t1 trip_k0_t1
  dsimp only
  refine ⟨⟨?_, ?_, ?_⟩, ?_, ?_⟩
  · exact tile_write arg10.view f_arg10 [] _ _ (off3 t k) _ _ o10 p.dk hH.dk
      (IsR.congr (pay13 hA.row (pay6 hA.e0 b0) (pay11 hA.e1 b1) (tile_read (f := fun r j => o10 r j + if j < 512 * k.val then p.dk r j else 0) hH.dk _ _ (off3 t k) _)) fun r s => rfl)
  · exact tile_write arg11.view f_arg11 [] _ _ (off3 t k) _ _ o11 p.dv hH.dv
      (IsR.congr (pay14 hA.f1 (pay7 hA.f0 w0) w1 (tile_read (f := fun r j => o11 r j + if j < 512 * k.val then p.dv r j else 0) hH.dv _ _ (off3 t k) _)) fun r s => rfl)
  · exact lines_write arg12.view f_arg12 [] _ _ _ (off4 t k) (off5 t k) _ _ _ _ o12 p hH.dc
      (pay15 (pay6 hA.e0 b0) (line_read (f := fun r j => o12 r j - if j < 512 * k.val then p.dc r j else 0) hH.dc _ 0 _ (off4 t k) _)) (pay56 (pay11 hA.e1 b1) (line_read (f := fun r j => o12 r j - if j < 512 * k.val then p.dc r j else 0) hH.dc _ 1 _ (off5 t k) _))
  · exact IsR.congr (pay8 hT.k b0 hy0) fun t d => (p.y0_add _ t d).symm
  · exact IsR.congr (pay12 (pay2 hT.k) b1 hy1) fun t d => (p.y1_add _ t d).symm

end

end Cert.FoxIdeal.Tile

end
-- ==== Proof.FoxLoops.lean ====
/- The loops of a block's rows, run to their end, over the reals. -/
module

public import proofs.«01_k».proof.Proof.FoxLoop

@[expose] public section

set_option maxRecDepth 16384

noncomputable section

namespace Cert.FoxIdeal.Tile

open Idealize.ShloMosaic Cert.FoxIdeal Cert.FoxIdeal.Gen Cert.Reals

section
variable {𝒱 : Variants} {c : Dev nD} {bd : Option 𝒱.V} {arg2 : Memref sig .tc .vmem S1024x128 .bf16} {harg2 : arg2.IsWhole} {arg3 : Memref sig .tc .vmem S8192x128 .bf16} {harg3 : arg3.IsWhole} {arg4 : Memref sig .tc .vmem S8192x128 .bf16} {harg4 : arg4.IsWhole} {arg5 : Memref sig .tc .vmem S8x8192 .f32} {harg5 : arg5.IsWhole} {arg6 : Memref sig .tc .vmem S1024x128 .f32} {harg6 : arg6.IsWhole} {arg7 : Memref sig .tc .vmem S1024x128 .f32} {harg7 : arg7.IsWhole} {arg8 : Memref sig .tc .vmem S1x1024x2 .f32} {harg8 : arg8.IsWhole} {arg9 : Memref sig .tc .vmem S1024x128 .bf16} {harg9 : arg9.IsWhole} {arg10 : Memref sig .tc .vmem S128x8192 .f32} {harg10 : arg10.IsWhole} {arg11 : Memref sig .tc .vmem S128x8192 .f32} {harg11 : arg11.IsWhole} {arg12 : Memref sig .tc .vmem S1x8x8192 .f32} {harg12 : arg12.IsWhole} {arg13 : Memref sig .tc .vmem S1x1024x2 .f32} {harg13 : arg13.IsWhole} {arg0 : BitVec 32} {arg1 : BitVec 32} {v12 : IVec S128x1 32} {v37 : FVec Ideal S1024x128 .bf16} {v41 : FVec Ideal S1024x128 .bf16} {v45 : FVec Ideal S1024x1 .f32} {v47 : FVec Ideal S1024x1 .f32} {v55 : FVec Ideal S128x1024 .bf16} {v57 : FVec Ideal S128x1024 .bf16} {v61 : FVec Ideal S1024x128 .bf16} {v65 : FVec Ideal S1024x128 .bf16} {v69 : FVec Ideal S1024x1 .f32} {v71 : FVec Ideal S1024x1 .f32} {v79 : FVec Ideal S128x1024 .bf16} {v81 : FVec Ideal S128x1024 .bf16} {X_arg3 : BufTy.Contents (Elt Ideal) arg3.view.ty} {X_arg4 : BufTy.Contents (Elt Ideal) arg4.view.ty} {X_arg5 : BufTy.Contents (Elt Ideal) arg5.view.ty}
variable {p : Pt} {t : Fin cfg0.N}
variable {G_arg10 : BufTy.Contents (Elt Ideal) arg10.view.ty} {G_arg11 : BufTy.Contents (Elt Ideal) arg11.view.ty} {G_arg12 : BufTy.Contents (Elt Ideal) arg12.view.ty}
variable {o10 o11 : Fin 128 → ℕ → ℝ} {o12 : Fin 8 → ℕ → ℝ} {init : FVec Ideal S1024x128 .f32 × FVec Ideal S1024x128 .f32}

theorem loop_upto (hA : Args p v12 v37 v41 v45 v47 v55 v57 v61 v65 v69 v71 v79 v81) (hC : Cols p (t.val / 8) (arg3.view.read (Elt Ideal) X_arg3) (arg4.view.read (Elt Ideal) X_arg4) (arg5.view.read (Elt Ideal) X_arg5))
    (hn : p.n = 1024 * (t.val % 8))
    (hH : Held p 0 o10 o11 o12 (arg10.view.read (Elt Ideal) G_arg10) (arg11.view.read (Elt Ideal) G_arg11) (arg12.view.read (Elt Ideal) G_arg12))
    (hy0 : IsR init.1 (p.y0 0)) (hy1 : IsR init.2 (p.y1 0)) (k : ℕ) (hk : k ≤ (k0_t1_loop (grid0.coords t)).trips) :
    Held p (512 * k) o10 o11 o12
      (arg10.view.read (Elt Ideal) (arg10.view.writes (Elt Ideal) G_arg10 (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init k).2.1))
      (arg11.view.read (Elt Ideal) (arg11.view.writes (Elt Ideal) G_arg11 (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init k).2.2.1))
      (arg12.view.read (Elt Ideal) (arg12.view.writes (Elt Ideal) G_arg12 (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init k).2.2.2)) ∧
    IsR (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init k).1.1 (p.y0 (512 * k)) ∧
    IsR (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init k).1.2 (p.y1 (512 * k)) := by
  induction k with
  | zero => exact ⟨hH, hy0, hy1⟩
  | succ k ih =>
    obtain ⟨h, h0, h1⟩ := ih (by omega)
    have e := trip (c := c) (bd := bd) (harg2 := harg2) (harg3 := harg3) (harg4 := harg4) (harg5 := harg5) (harg6 := harg6) (harg7 := harg7) (harg8 := harg8)
      (harg9 := harg9) (harg10 := harg10) (harg11 := harg11) (harg12 := harg12) (harg13 := harg13) (arg0 := arg0) (arg1 := arg1) hA hC hn ⟨k, hk⟩ h h0 h1
    rw [st_k0_t1_succ 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init ⟨k, hk⟩]
    simp only [View.writes_append]
    exact e

end

end Cert.FoxIdeal.Tile

end
-- ==== Proof.FoxDiags.lean ====
/- The two diagonal tiles of a block's rows in terms of what the point adds. -/
module

public import proofs.«01_k».proof.Proof.FoxLoops

@[expose] public section

set_option maxRecDepth 16384

noncomputable section

namespace Cert.FoxIdeal.Tile

open Idealize.ShloMosaic Cert.FoxIdeal Cert.FoxIdeal.Gen Cert.Reals

section
variable {a : Fin 512 → Fin 128 → ℝ} {v : Vec Ideal S512x128 .bf16}

theorem pay58 (h : IsR v a) : IsR (k0_pay58 v) a := by intro r j; pointwise [k0_pay58]; exact h _ _
theorem pay59 (h : IsR v a) : IsR (k0_pay59 v) a := by intro r j; pointwise [k0_pay59]; exact h _ _
theorem pay77 (h : IsR v a) : IsR (k0_pay77 v) a := by intro r j; pointwise [k0_pay77]; exact h _ _
theorem pay78 (h : IsR v a) : IsR (k0_pay78 v) a := by intro r j; pointwise [k0_pay78]; exact h _ _

end

section
variable {w : FVec Ideal S128x512 .f32} {v : Vec Ideal S1x1x512 .f32} {a : Fin 128 → Fin 512 → ℝ} {o : Fin 512 → ℝ}

theorem pay75 (hw : IsR w a) (ho : ∀ s : Fin 512, v (ix3 0 0 s) = (o s : EReal)) (s : Fin 512) : k0_pay75 w v (ix3 0 0 s) = ((o s - a 64 s : ℝ) : EReal) := by
  pointwise [k0_pay75]
  simp only [hw _ _, ho, ← EReal.coe_sub]

theorem pay76 (hw : IsR w a) (ho : ∀ s : Fin 512, v (ix3 0 0 s) = (o s : EReal)) (s : Fin 512) : k0_pay76 w v (ix3 0 0 s) = ((o s - a 0 s : ℝ) : EReal) := by
  pointwise [k0_pay76]
  simp only [hw _ _, ho, ← EReal.coe_sub]

theorem pay92 (hw : IsR w a) (ho : ∀ s : Fin 512, v (ix3 0 0 s) = (o s : EReal)) (s : Fin 512) : k0_pay92 w v (ix3 0 0 s) = ((o s - a 64 s : ℝ) : EReal) := by
  pointwise [k0_pay92]
  simp only [hw _ _, ho, ← EReal.coe_sub]

theorem pay93 (hw : IsR w a) (ho : ∀ s : Fin 512, v (ix3 0 0 s) = (o s : EReal)) (s : Fin 512) : k0_pay93 w v (ix3 0 0 s) = ((o s - a 0 s : ℝ) : EReal) := by
  pointwise [k0_pay93]
  simp only [hw _ _, ho, ← EReal.coe_sub]

end

section
variable {p : Pt} {v12 : IVec S128x1 32} {v37 v41 : FVec Ideal S1024x128 .bf16} {v45 v47 : FVec Ideal S1024x1 .f32} {v55 v57 : FVec Ideal S128x1024 .bf16}
variable {v61 v65 : FVec Ideal S1024x128 .bf16} {v69 v71 : FVec Ideal S1024x1 .f32} {v79 v81 : FVec Ideal S128x1024 .bf16}
variable {xk xv xk' xv' : Vec Ideal S512x128 .bf16} {c0 c1 c0' c1' : Vec Ideal S1x512 .f32}
variable (hA : Args p v12 v37 v41 v45 v47 v55 v57 v61 v65 v69 v71 v79 v81)

section
variable (hT : Tile p p.n xk xv c0 c1)
include hA hT

theorem diag_w0 : IsR (k0_pay60 v37 v47 xk c0) (fun t s => p.W0 t (p.n + s.val)) :=
  IsR.congr (pay60 hA.a0 hA.l0 hT.k hT.c0) fun t s => by unfold lower Pt.W0; simp only [Nat.add_le_add_iff_left]; rfl

theorem diag_w1 : IsR (k0_pay66 v61 v71 (k0_pay58 xk) c1) (fun t s => p.W1 t (p.n + s.val)) :=
  IsR.congr (pay66 hA.a1 hA.l1 (pay58 hT.k) hT.c1) fun t s => by unfold lower Pt.W1; simp only [Nat.add_le_add_iff_left]; rfl

theorem diag_b0 : IsR (k0_pay62 v37 v41 v45 v47 xk xv c0) (fun t s => p.B0 t (p.n + s.val)) :=
  IsR.congr (pay62 (diag_w0 hA hT) hA.g0 hA.d0 hT.v) fun t s => rfl

theorem diag_b1 : IsR (k0_pay67 v61 v65 v69 v71 (k0_pay58 xk) (k0_pay59 xv) c1) (fun t s => p.B1 t (p.n + s.val)) :=
  IsR.congr (pay67 (diag_w1 hA hT) hA.g1 hA.d1 (pay59 hT.v)) fun t s => rfl

theorem diag_k0 : IsR (k0_pay63 v37 v41 v45 v47 v55 xk xv c0) (fun r s => ∑ t, keys0 p.q t r * p.B0 t (p.n + s.val)) :=
  pay63 hA.e0 (diag_b0 hA hT)

theorem diag_k1 : IsR (k0_pay68 v61 v65 v69 v71 v79 (k0_pay58 xk) (k0_pay59 xv) c1) (fun r s => ∑ t, keys1 p.q t r * p.B1 t (p.n + s.val)) :=
  pay68 hA.e1 (diag_b1 hA hT)

end

section
variable (hT : Tile p (p.n + 512) xk xv c0 c1)
include hA hT

theorem last_w0 : IsR (k0_pay79 v37 v47 (k0_pay77 xk) c0) (fun t s => p.W0 (low t) (p.n + 512 + s.val)) :=
  IsR.congr (pay79 hA.a0 hA.l0 (pay77 hT.k) hT.c0) fun t s => by
    unfold lower Pt.W0; simp only [low, Nat.add_assoc, Nat.add_le_add_iff_left]; rfl

theorem last_w1 : IsR (k0_pay86 (k0_pay84 v61 (k0_pay77 xk) c1) (k0_pay85 v71)) (fun t s => p.W1 (low t) (p.n + 512 + s.val)) :=
  IsR.congr (pay86 hA.a1 hA.l1 (pay77 hT.k) hT.c1) fun t s => by
    unfold lower Pt.W1; simp only [low, Nat.add_assoc, Nat.add_le_add_iff_left]; rfl

theorem last_b0 : IsR (k0_pay80 v37 v41 v45 v47 (k0_pay77 xk) (k0_pay78 xv) c0) (fun t s => p.B0 (low t) (p.n + 512 + s.val)) :=
  IsR.congr (pay80 (last_w0 hA hT) hA.g0 hA.d0 (pay78 hT.v)) fun t s => rfl

theorem last_b1 : IsR (k0_pay87 v65 v69 (k0_pay78 xv) (k0_pay84 v61 (k0_pay77 xk) c1) (k0_pay85 v71)) (fun t s => p.B1 (low t) (p.n + 512 + s.val)) :=
  IsR.congr (pay87 (last_w1 hA hT) hA.g1 hA.d1 (pay78 hT.v)) fun t s => rfl

theorem last_k0 : IsR (k0_pay81 v37 v41 v45 v47 v55 (k0_pay77 xk) (k0_pay78 xv) c0) (fun r s => ∑ t, keys0 p.q t r * p.B0 t (p.n + 512 + s.val)) :=
  IsR.congr (pay81 hA.e0 (last_b0 hA hT)) fun r s => Pt.sum_low (fun t => keys0 p.q t r * p.B0 t (p.n + 512 + s.val)) fun t ht => by
    rw [p.B0_zero (by omega), mul_zero]

theorem last_k1 : IsR (k0_pay88 v65 v69 v79 (k0_pay78 xv) (k0_pay84 v61 (k0_pay77 xk) c1) (k0_pay85 v71)) (fun r s => ∑ t, keys1 p.q t r * p.B1 t (p.n + 512 + s.val)) :=
  IsR.congr (pay88 hA.e1 (last_b1 hA hT)) fun r s => Pt.sum_low (fun t => keys1 p.q t r * p.B1 t (p.n + 512 + s.val)) fun t ht => by
    rw [p.B1_zero (by omega), mul_zero]

theorem last_v0 : IsR (k0_pay82 v37 v47 v57 (k0_pay77 xk) c0) (fun r s => ∑ t, own0 p.g t r * p.W0 t (p.n + 512 + s.val)) :=
  IsR.congr (pay82 hA.f0 (last_w0 hA hT)) fun r s => Pt.sum_low (fun t => own0 p.g t r * p.W0 t (p.n + 512 + s.val)) fun t ht => by
    rw [p.W0_zero (by omega), mul_zero]

end

variable (hT : Tile p p.n xk xv c0 c1) (hT' : Tile p (p.n + 512) xk' xv' c0' c1')
include hA hT hT'

theorem diag_y0 {acc : FVec Ideal S1024x128 .f32} (hy : IsR acc (p.y0 p.n)) :
    IsR (k0_pay83 k0_pay36 k0_pay38 v37 v41 v45 v47 (k0_pay65 k0_pay36 k0_pay38 acc (k0_pay58 xk) (k0_pay62 v37 v41 v45 v47 xk xv c0)) (k0_pay77 xk') (k0_pay78 xv') c0')
      (p.y0 (p.n + 1024)) :=
  IsR.congr (pay83 (pay77 hT'.k) (last_b0 hA hT') (pay65 (pay58 hT.k) (diag_b0 hA hT) hy)) fun t d => by
    unfold addLow
    have e : p.y0 (p.n + 1024) t d = p.y0 (p.n + 512) t d + _ := p.y0_add (p.n + 512) t d
    rw [e, p.y0_add]
    split
    · rw [Finset.sum_eq_zero (f := fun s : Fin 512 => p.B0 t (p.n + 512 + s.val) * _), add_zero]
      · rfl
      · intro s _; rw [p.B0_zero (by omega), zero_mul]
    · rename_i h
      have e2 : low ⟨t.val - 512, by omega⟩ = t := Fin.ext (by simp only [low]; omega)
      simp only [e2]
      rfl

theorem diag_y1 {acc : FVec Ideal S1024x128 .f32} (hy : IsR acc (p.y1 p.n)) :
    IsR (k0_pay89 k0_pay37 k0_pay39 v65 v69 (k0_pay70 k0_pay37 k0_pay39 v61 v65 v69 v71 acc (k0_pay58 xk) (k0_pay59 xv) c1) (k0_pay77 xk') (k0_pay78 xv')
      (k0_pay84 v61 (k0_pay77 xk') c1') (k0_pay85 v71)) (p.y1 (p.n + 1024)) :=
  IsR.congr (pay89 (pay77 hT'.k) (last_b1 hA hT') (pay70 (pay58 hT.k) (diag_b1 hA hT) hy)) fun t d => by
    unfold addLow
    have e : p.y1 (p.n + 1024) t d = p.y1 (p.n + 512) t d + _ := p.y1_add (p.n + 512) t d
    rw [e, p.y1_add]
    split
    · rw [Finset.sum_eq_zero (f := fun s : Fin 512 => p.B1 t (p.n + 512 + s.val) * _), add_zero]
      · rfl
      · intro s _; rw [p.B1_zero (by omega), zero_mul]
    · rename_i h
      have e2 : low ⟨t.val - 512, by omega⟩ = t := Fin.ext (by simp only [low]; omega)
      simp only [e2]
      rfl

variable {κ : Kind} {sp : Space}

theorem diag_dk (v : View sig κ sp S128x8192 .f32) (f : v.ty.Contents (Elt Ideal)) (L : List (View.Piece (Elt Ideal) S128x8192 .f32)) (off off' : Fin 2 → ℕ)
    (hoff : off = ![0, p.n]) (hoff' : off' = ![0, p.n + 512]) (inb : ∀ a, off a + S128x512.size a ≤ S128x8192.size a)
    (inb' : ∀ a, off' a + S128x512.size a ≤ S128x8192.size a) (o : Fin 128 → ℕ → ℝ) (P : View.Piece (Elt Ideal) S128x8192 .f32)
    (hP : P = ⟨Rect.unit off S128x512.size inb, k0_pay73 (k0_pay71 (View.readAt (Elt Ideal) v (Rect.unit (s := S128x8192) off S128x512.size inb).toLoadRect (v.writes (Elt Ideal) f L)))
      (k0_pay72 v12 v61 v65 v69 v71 v79 (k0_pay58 xk) (k0_pay59 xv) (k0_pay63 v37 v41 v45 v47 v55 xk xv c0) c1)⟩)
    (hold : IsR (v.read (Elt Ideal) (v.writes (Elt Ideal) f L)) (fun r j => o r j.val + if j.val < p.n then p.dk r j.val else 0)) :
    IsR (v.read (Elt Ideal) (v.writes (Elt Ideal) f (⟨Rect.unit off' S128x512.size inb', k0_pay90 v12 v65 v69 v79 (k0_pay78 xv')
        (k0_pay81 v37 v41 v45 v47 v55 (k0_pay77 xk') (k0_pay78 xv') c0') (k0_pay84 v61 (k0_pay77 xk') c1') (k0_pay85 v71)
        (View.readAt (Elt Ideal) v (Rect.unit (s := S128x8192) off' S128x512.size inb').toLoadRect (v.writes (Elt Ideal) f (P :: L)))⟩ :: P :: L)))
      (fun r j => o r j.val + if j.val < p.n + 1024 then p.dk r j.val else 0) := by
  subst hP
  have h1 := tile_write v f L off p.n hoff inb _ o p.dk hold
    (IsR.congr (pay73 hA.row (diag_k0 hA hT) (diag_k1 hA hT) (tile_read (f := fun r j => o r j + if j < p.n then p.dk r j else 0) hold _ _ hoff inb)) fun r s => rfl)
  exact tile_write v f _ off' (p.n + 512) hoff' inb' _ o p.dk h1
    (IsR.congr (pay90 hA.row (last_k0 hA hT') (last_k1 hA hT') (tile_read (f := fun r j => o r j + if j < p.n + 512 then p.dk r j else 0) h1 _ _ hoff' inb')) fun r s => rfl)

theorem diag_dv (v : View sig κ sp S128x8192 .f32) (f : v.ty.Contents (Elt Ideal)) (L : List (View.Piece (Elt Ideal) S128x8192 .f32)) (off off' : Fin 2 → ℕ)
    (hoff : off = ![0, p.n]) (hoff' : off' = ![0, p.n + 512]) (inb : ∀ a, off a + S128x512.size a ≤ S128x8192.size a)
    (inb' : ∀ a, off' a + S128x512.size a ≤ S128x8192.size a) (o : Fin 128 → ℕ → ℝ) (P : View.Piece (Elt Ideal) S128x8192 .f32)
    (hP : P = ⟨Rect.unit off S128x512.size inb, k0_pay74 (k0_pay64 v57 (k0_pay61 v37 v47 xk c0) (constant S128x512 .f32 0x00000000#32)) (k0_pay69 v61 v71 v81 (k0_pay58 xk) c1)
      (View.readAt (Elt Ideal) v (Rect.unit (s := S128x8192) off S128x512.size inb).toLoadRect (v.writes (Elt Ideal) f L))⟩)
    (hold : IsR (v.read (Elt Ideal) (v.writes (Elt Ideal) f L)) (fun r j => o r j.val + if j.val < p.n then p.dv r j.val else 0)) :
    IsR (v.read (Elt Ideal) (v.writes (Elt Ideal) f (⟨Rect.unit off' S128x512.size inb', k0_pay91 v81 (k0_pay82 v37 v47 v57 (k0_pay77 xk') c0')
        (k0_pay84 v61 (k0_pay77 xk') c1') (k0_pay85 v71)
        (View.readAt (Elt Ideal) v (Rect.unit (s := S128x8192) off' S128x512.size inb').toLoadRect (v.writes (Elt Ideal) f (P :: L)))⟩ :: P :: L)))
      (fun r j => o r j.val + if j.val < p.n + 1024 then p.dv r j.val else 0) := by
  subst hP
  have h1 := tile_write v f L off p.n hoff inb _ o p.dv hold
    (IsR.congr (pay74 (pay64 hA.f0 (diag_w0 hA hT)) (pay69 hA.f1 (diag_w1 hA hT)) (tile_read (f := fun r j => o r j + if j < p.n then p.dv r j else 0) hold _ _ hoff inb)) fun r s => rfl)
  refine tile_write v f _ off' (p.n + 512) hoff' inb' _ o p.dv h1
    (IsR.congr (pay91 hA.f1 (last_w1 hA hT') (last_v0 hA hT') (tile_read (f := fun r j => o r j + if j < p.n + 512 then p.dv r j else 0) h1 _ _ hoff' inb')) fun r s => ?_)
  beta_reduce
  rw [Pt.sum_low (fun t => own1 p.g t r * p.W1 t (p.n + 512 + s.val)) fun t ht => by rw [p.W1_zero (by omega), mul_zero]]
  rfl

theorem diag_dc (v : View sig κ sp S1x8x8192 .f32) (f : v.ty.Contents (Elt Ideal)) (L : List (View.Piece (Elt Ideal) S1x8x8192 .f32)) (off0 off1 off0' off1' : Fin 3 → ℕ)
    (hoff0 : off0 = ![0, 0, p.n]) (hoff1 : off1 = ![0, 1, p.n]) (hoff0' : off0' = ![0, 0, p.n + 512]) (hoff1' : off1' = ![0, 1, p.n + 512])
    (inb0 : ∀ a, off0 a + S1x1x512.size a ≤ S1x8x8192.size a) (inb1 : ∀ a, off1 a + S1x1x512.size a ≤ S1x8x8192.size a)
    (inb0' : ∀ a, off0' a + S1x1x512.size a ≤ S1x8x8192.size a) (inb1' : ∀ a, off1' a + S1x1x512.size a ≤ S1x8x8192.size a) (o : Fin 8 → ℕ → ℝ)
    (P0 P1 P2 : View.Piece (Elt Ideal) S1x8x8192 .f32)
    (hP0 : P0 = ⟨Rect.unit off0 S1x1x512.size inb0, k0_pay75 (k0_pay63 v37 v41 v45 v47 v55 xk xv c0)
      (View.readAt (Elt Ideal) v (Rect.unit (s := S1x8x8192) off0 S1x1x512.size inb0).toLoadRect (v.writes (Elt Ideal) f L))⟩)
    (hP1 : P1 = ⟨Rect.unit off1 S1x1x512.size inb1, k0_pay76 (k0_pay68 v61 v65 v69 v71 v79 (k0_pay58 xk) (k0_pay59 xv) c1)
      (View.readAt (Elt Ideal) v (Rect.unit (s := S1x8x8192) off1 S1x1x512.size inb1).toLoadRect (v.writes (Elt Ideal) f (P0 :: L)))⟩)
    (hP2 : P2 = ⟨Rect.unit off0' S1x1x512.size inb0', k0_pay92 (k0_pay81 v37 v41 v45 v47 v55 (k0_pay77 xk') (k0_pay78 xv') c0')
      (View.readAt (Elt Ideal) v (Rect.unit (s := S1x8x8192) off0' S1x1x512.size inb0').toLoadRect (v.writes (Elt Ideal) f (P1 :: P0 :: L)))⟩)
    (hold : ∀ (r : Fin 8) (j : Fin 8192), v.read (Elt Ideal) (v.writes (Elt Ideal) f L) (ix3 0 r j) = ((o r j.val - if j.val < p.n then p.dc r j.val else 0 : ℝ) : EReal))
    (r : Fin 8) (j : Fin 8192) :
    v.read (Elt Ideal) (v.writes (Elt Ideal) f (⟨Rect.unit off1' S1x1x512.size inb1', k0_pay93
        (k0_pay88 v65 v69 v79 (k0_pay78 xv') (k0_pay84 v61 (k0_pay77 xk') c1') (k0_pay85 v71))
        (View.readAt (Elt Ideal) v (Rect.unit (s := S1x8x8192) off1' S1x1x512.size inb1').toLoadRect (v.writes (Elt Ideal) f (P2 :: P1 :: P0 :: L)))⟩ :: P2 :: P1 :: P0 :: L)) (ix3 0 r j)
      = ((o r j.val - if j.val < p.n + 1024 then p.dc r j.val else 0 : ℝ) : EReal) := by
  have w0 := pay75 (diag_k0 hA hT) (line_read (f := fun r j => o r j - if j < p.n then p.dc r j else 0) hold _ 0 _ hoff0 inb0)
  have h0 := line_write v f L off0 0 p.n hoff0 inb0 _ (fun r j => o r j - if j < p.n then p.dc r j else 0)
    (fun j => (o 0 j - if j < p.n then p.dc 0 j else 0) - p.dc0 j) hold w0
  have w1 := pay76 (diag_k1 hA hT) (line_read (f := fun r j => if r = 0 ∧ p.n ≤ j ∧ j < p.n + 512 then (o 0 j - if j < p.n then p.dc 0 j else 0) - p.dc0 j
    else o r j - if j < p.n then p.dc r j else 0) h0 _ 1 _ hoff1 inb1)
  have h1 := lines_write v f L off0 off1 p.n hoff0 hoff1 inb0 inb1 _ _ o p hold w0 w1
  have w2 := pay92 (last_k0 hA hT') (line_read (f := fun r j => o r j - if j < p.n + 512 then p.dc r j else 0) h1 _ 0 _ hoff0' inb0')
  have h2 := line_write v f _ off0' 0 (p.n + 512) hoff0' inb0' _ (fun r j => o r j - if j < p.n + 512 then p.dc r j else 0)
    (fun j => (o 0 j - if j < p.n + 512 then p.dc 0 j else 0) - p.dc0 j) h1 w2
  have w3 := pay93 (last_k1 hA hT') (line_read (f := fun r j => if r = 0 ∧ p.n + 512 ≤ j ∧ j < p.n + 512 + 512 then (o 0 j - if j < p.n + 512 then p.dc 0 j else 0) - p.dc0 j
    else o r j - if j < p.n + 512 then p.dc r j else 0) h2 _ 1 _ hoff1' inb1')
  subst hP2 hP1 hP0
  exact lines_write v f _ off0' off1' (p.n + 512) hoff0' hoff1' inb0' inb1' _ _ o p h1 w2 w3 r j

end

end Cert.FoxIdeal.Tile

end
-- ==== Proof.FoxPoint.lean ====
/- What one grid point of the attention gradient leaves in its results, over the reals. -/
module

public import proofs.«01_k».proof.Proof.FoxDiags
public import proofs.«01_k».proof.Proof.Gen.FoxIdeal.Frame

@[expose] public section

set_option maxRecDepth 16384

noncomputable section

namespace Cert.FoxIdeal.Tile

open Idealize.ShloMosaic Cert.FoxIdeal Cert.FoxIdeal.Gen Cert.Reals

section
variable {p : Pt} {t : Fin cfg0.N} (hn : p.n = 1024 * (t.val % 8))
include hn

theorem off11_0 : k0_off11 (grid0.coords t) 0#32 = ![p.n, 0] := by rw [hn]; clear hn; revert t; decide +kernel
theorem off11_1 : k0_off11 (grid0.coords t) 1#32 = ![p.n + 512, 0] := by rw [hn]; clear hn; revert t; decide +kernel
theorem off12_00 : k0_off12 (grid0.coords t) 0#32 0#32 = ![2 * (t.val / 8), p.n] := by rw [hn]; clear hn; revert t; decide +kernel
theorem off12_10 : k0_off12 (grid0.coords t) 1#32 0#32 = ![2 * (t.val / 8) + 1, p.n] := by rw [hn]; clear hn; revert t; decide +kernel
theorem off12_01 : k0_off12 (grid0.coords t) 0#32 1#32 = ![2 * (t.val / 8), p.n + 512] := by rw [hn]; clear hn; revert t; decide +kernel
theorem off12_11 : k0_off12 (grid0.coords t) 1#32 1#32 = ![2 * (t.val / 8) + 1, p.n + 512] := by rw [hn]; clear hn; revert t; decide +kernel
theorem off13_0 : k0_off13 (grid0.coords t) 0#32 = ![0, p.n] := by rw [hn]; clear hn; revert t; decide +kernel
theorem off13_1 : k0_off13 (grid0.coords t) 1#32 = ![0, p.n + 512] := by rw [hn]; clear hn; revert t; decide +kernel
theorem off14_0 : k0_off14 (grid0.coords t) 0#32 = ![0, 0, p.n] := by rw [hn]; clear hn; revert t; decide +kernel
theorem off14_1 : k0_off14 (grid0.coords t) 1#32 = ![0, 0, p.n + 512] := by rw [hn]; clear hn; revert t; decide +kernel
theorem off15_0 : k0_off15 (grid0.coords t) 0#32 = ![0, 1, p.n] := by rw [hn]; clear hn; revert t; decide +kernel
theorem off15_1 : k0_off15 (grid0.coords t) 1#32 = ![0, 1, p.n + 512] := by rw [hn]; clear hn; revert t; decide +kernel

variable {xk xv : S8192x128.Idx → EReal} {xc : S8x8192.Idx → EReal} (hC : Cols p (t.val / 8) xk xv xc)
include hC

theorem tile0 : Tile p p.n (View.ld (Val := Elt Ideal) (e' := .bf16) xk (Rect.unit (k0_off11 (grid0.coords t) 0#32) S512x128.size (k0_off11_inb (grid0.coords t) 0)))
    (View.ld (Val := Elt Ideal) (e' := .bf16) xv (Rect.unit (k0_off11 (grid0.coords t) 0#32) S512x128.size (k0_off11_inb (grid0.coords t) 0)))
    (View.ld (Val := Elt Ideal) (e' := .f32) xc (Rect.unit (k0_off12 (grid0.coords t) 0#32 0#32) S1x512.size (k0_off12_inb (grid0.coords t) 0 0)))
    (View.ld (Val := Elt Ideal) (e' := .f32) xc (Rect.unit (k0_off12 (grid0.coords t) 1#32 0#32) S1x512.size (k0_off12_inb (grid0.coords t) 1 0))) :=
  ⟨cols_read hC.K _ _ (off11_0 hn) _, cols_read hC.V _ _ (off11_0 hn) _, row_read hC.C0 _ _ (off12_00 hn) _, row_read hC.C1 _ _ (off12_10 hn) _⟩

theorem tile1 : Tile p (p.n + 512) (View.ld (Val := Elt Ideal) (e' := .bf16) xk (Rect.unit (k0_off11 (grid0.coords t) 1#32) S512x128.size (k0_off11_inb (grid0.coords t) 1)))
    (View.ld (Val := Elt Ideal) (e' := .bf16) xv (Rect.unit (k0_off11 (grid0.coords t) 1#32) S512x128.size (k0_off11_inb (grid0.coords t) 1)))
    (View.ld (Val := Elt Ideal) (e' := .f32) xc (Rect.unit (k0_off12 (grid0.coords t) 0#32 1#32) S1x512.size (k0_off12_inb (grid0.coords t) 0 1)))
    (View.ld (Val := Elt Ideal) (e' := .f32) xc (Rect.unit (k0_off12 (grid0.coords t) 1#32 1#32) S1x512.size (k0_off12_inb (grid0.coords t) 1 1))) :=
  ⟨cols_read hC.K _ _ (off11_1 hn) _, cols_read hC.V _ _ (off11_1 hn) _, row_read hC.C0 _ _ (off12_01 hn) _, row_read hC.C1 _ _ (off12_11 hn) _⟩

end

theorem Pt.y0_zero (p : Pt) : IsR (k0_pay55 (F := Ideal)) (p.y0 0) := IsR.congr pay55 fun t d => by unfold Pt.y0; simp
theorem Pt.y1_zero (p : Pt) : IsR (k0_pay55 (F := Ideal)) (p.y1 0) := IsR.congr pay55 fun t d => by unfold Pt.y1; simp

/-- Blocks filled with zeros hold nothing yet. -/
theorem filled {p : Pt} {κ : Kind} {sp : Space} (v w : View sig κ sp S128x8192 .f32) (u : View sig κ sp S1x8x8192 .f32)
    (f : v.ty.Contents (Elt Ideal)) (g : w.ty.Contents (Elt Ideal)) (h : u.ty.Contents (Elt Ideal)) :
    Held p 0 (fun _ _ => 0) (fun _ _ => 0) (fun _ _ => 0)
      (v.read (Elt Ideal) (v.writes (Elt Ideal) f [⟨Rect.unit ![0, 0] S128x8192.size inb_S128x8192_S128x8192_0_0, k0_pay30 (F := Ideal)⟩]))
      (w.read (Elt Ideal) (w.writes (Elt Ideal) g [⟨Rect.unit ![0, 0] S128x8192.size inb_S128x8192_S128x8192_0_0, k0_pay31 (F := Ideal)⟩]))
      (u.read (Elt Ideal) (u.writes (Elt Ideal) h [⟨Rect.unit ![0, 0, 0] S1x8x8192.size inb_S1x8x8192_S1x8x8192_0_0_0, k0_pay32 (F := Ideal)⟩])) := by
  refine ⟨fun r j => ?_, fun r j => ?_, fun r j => ?_⟩
  · rw [View.read_writes_cons_hit_of_coords v f (Rect.unit ![0, 0] S128x8192.size inb_S128x8192_S128x8192_0_0) (k0_pay30 (F := Ideal)) [] (ix2 r j) (ix2 r j) (by
      intro a; fin_cases a <;> simp [Rect.unit])]
    pointwise [k0_pay30]
    simp
  · rw [View.read_writes_cons_hit_of_coords w g (Rect.unit ![0, 0] S128x8192.size inb_S128x8192_S128x8192_0_0) (k0_pay31 (F := Ideal)) [] (ix2 r j) (ix2 r j) (by
      intro a; fin_cases a <;> simp [Rect.unit])]
    pointwise [k0_pay31]
    simp
  · rw [View.read_writes_cons_hit_of_coords u h (Rect.unit ![0, 0, 0] S1x8x8192.size inb_S1x8x8192_S1x8x8192_0_0_0) (k0_pay32 (F := Ideal)) [] (ix3 0 r j) (ix3 0 r j) (by
      intro a; fin_cases a <;> simp [Rect.unit])]
    pointwise [k0_pay32]
    simp

theorem pay52 {v46 : Vec Ideal S1x1024x1 .f32} {l : Fin 1024 → ℝ} (h : ∀ t, v46 (ix3 0 t 0) = (l t : EReal)) (t : Fin 1024) :
    k0_pay52 v46 (ix2 t 0) = (l t : EReal) := by
  pointwise [k0_pay52]
  exact h _

/-- A point's blocks hold the model's operands. -/
structure Ops (p : Pt) (qq : Fin 1024 → Fin 128 → ℝ) (t : Fin cfg0.N) (x0 : Vec Ideal S1024x128 .bf16) (x1 x2 : Vec Ideal S8192x128 .bf16) (x3 : Vec Ideal S8x8192 .f32)
    (x4 x5 : Vec Ideal S1024x128 .f32) (x6 : Vec Ideal S1x1024x2 .f32) : Prop where
  num : p.n = 1024 * (t.val % 8)
  q : IsR x0 qq
  scaled : p.q = fun a d => qq a d * (1 / 8)
  cols : Cols p (t.val / 8) x1 x2 x3
  o : IsR x4 p.o
  g : IsR x5 p.g
  l0 : ∀ a, x6 (ix3 0 a 0) = (p.l0 a : EReal)
  l1 : ∀ a, x6 (ix3 0 a 1) = (p.l1 a : EReal)

section
variable {p : Pt} {qq : Fin 1024 → Fin 128 → ℝ} {t : Fin cfg0.N}
variable {x0 : Vec Ideal S1024x128 .bf16} {x1 x2 : Vec Ideal S8192x128 .bf16} {x3 : Vec Ideal S8x8192 .f32} {x4 x5 : Vec Ideal S1024x128 .f32} {x6 : Vec Ideal S1x1024x2 .f32}
variable {arg2 : Memref sig .tc .vmem S1024x128 .bf16} (harg2 : arg2.IsWhole) {arg6 arg7 : Memref sig .tc .vmem S1024x128 .f32} (harg6 : arg6.IsWhole) (harg7 : arg7.IsWhole)
variable {arg8 : Memref sig .tc .vmem S1x1024x2 .f32} (harg8 : arg8.IsWhole)

theorem block_read {κ : Kind} {sp : Space} {e : EltTy} {v : Memref sig κ sp S1024x128 e} (hv : v.IsWhole) (x : Vec Ideal S1024x128 e) :
    View.readAt (Elt Ideal) v.view (Rect.unit (s := S1024x128) ![0, 0] S1024x128.size inb_S1024x128_S1024x128_0_0).toLoadRect (hv.unread x) = x := by
  rw [View.readAt_eq_ld, hv.read_unread, View.ld_unit_zero (by funext a; fin_cases a <;> rfl)]

theorem Ops.args (H : Ops p qq t x0 x1 x2 x3 x4 x5 x6) :
    Args p (iota Kind.tc S128x1 32 [0] iota_S128x1_d0_w32)
      (k0_pay43 (k0_pay33 (View.readAt (Elt Ideal) arg2.view (Rect.unit (s := S1024x128) ![0, 0] S1024x128.size inb_S1024x128_S1024x128_0_0).toLoadRect (harg2.unread x0))) k0_pay41 k0_pay42)
      (k0_pay44 (k0_pay35 (View.readAt (Elt Ideal) arg7.view (Rect.unit (s := S1024x128) ![0, 0] S1024x128.size inb_S1024x128_S1024x128_0_0).toLoadRect (harg7.unread x5))) k0_pay36)
      (k0_pay45 (k0_pay34 (View.readAt (Elt Ideal) arg6.view (Rect.unit (s := S1024x128) ![0, 0] S1024x128.size inb_S1024x128_S1024x128_0_0).toLoadRect (harg6.unread x4)))
        (k0_pay35 (View.readAt (Elt Ideal) arg7.view (Rect.unit (s := S1024x128) ![0, 0] S1024x128.size inb_S1024x128_S1024x128_0_0).toLoadRect (harg7.unread x5))) k0_pay36)
      (k0_pay46 (View.readAt (Elt Ideal) arg8.view (Rect.unit (s := S1x1024x2) ![0, 0, 0] S1x1024x1.size inb_S1x1024x2_S1x1024x1_0_0_0).toLoadRect (harg8.unread x6)))
      (k0_pay47 (k0_pay33 (View.readAt (Elt Ideal) arg2.view (Rect.unit (s := S1024x128) ![0, 0] S1024x128.size inb_S1024x128_S1024x128_0_0).toLoadRect (harg2.unread x0))) k0_pay36 k0_pay38 k0_pay40)
      (k0_pay48 (k0_pay35 (View.readAt (Elt Ideal) arg7.view (Rect.unit (s := S1024x128) ![0, 0] S1024x128.size inb_S1024x128_S1024x128_0_0).toLoadRect (harg7.unread x5))) k0_pay36 k0_pay40)
      (k0_pay49 (k0_pay33 (View.readAt (Elt Ideal) arg2.view (Rect.unit (s := S1024x128) ![0, 0] S1024x128.size inb_S1024x128_S1024x128_0_0).toLoadRect (harg2.unread x0))) k0_pay37)
      (k0_pay50 (k0_pay35 (View.readAt (Elt Ideal) arg7.view (Rect.unit (s := S1024x128) ![0, 0] S1024x128.size inb_S1024x128_S1024x128_0_0).toLoadRect (harg7.unread x5))) k0_pay37)
      (k0_pay51 (k0_pay34 (View.readAt (Elt Ideal) arg6.view (Rect.unit (s := S1024x128) ![0, 0] S1024x128.size inb_S1024x128_S1024x128_0_0).toLoadRect (harg6.unread x4)))
        (k0_pay35 (View.readAt (Elt Ideal) arg7.view (Rect.unit (s := S1024x128) ![0, 0] S1024x128.size inb_S1024x128_S1024x128_0_0).toLoadRect (harg7.unread x5))) k0_pay37)
      (k0_pay52 (View.readAt (Elt Ideal) arg8.view (Rect.unit (s := S1x1024x2) ![0, 0, 1] S1x1024x1.size inb_S1x1024x2_S1x1024x1_0_0_1).toLoadRect (harg8.unread x6)))
      (k0_pay53 (k0_pay33 (View.readAt (Elt Ideal) arg2.view (Rect.unit (s := S1024x128) ![0, 0] S1024x128.size inb_S1024x128_S1024x128_0_0).toLoadRect (harg2.unread x0))) k0_pay37 k0_pay39 k0_pay40)
      (k0_pay54 (k0_pay35 (View.readAt (Elt Ideal) arg7.view (Rect.unit (s := S1024x128) ![0, 0] S1024x128.size inb_S1024x128_S1024x128_0_0).toLoadRect (harg7.unread x5))) k0_pay37 k0_pay40) := by
  have hq : IsR (k0_pay33 x0) p.q := by rw [H.scaled]; exact pay33 H.q
  have hg := pay35 H.g
  have ho := pay34 H.o
  rw [block_read harg2 x0, block_read harg6 x4, block_read harg7 x5]
  refine ⟨v12_at, pay43 hq, pay44 hg, pay45 ho hg, pay46 fun a => ?_, pay47 hq, pay48 hg, pay49 hq, pay50 hg, pay51 ho hg, pay52 fun a => ?_, pay53 hq, pay54 hg⟩
  · rw [View.readAt_eq_ld, harg8.read_unread]
    exact (View.ld_unit_apply_of (S := S1x1024x2) (Val := Elt Ideal) (e := .f32) x6 ![0, 0, 0] S1x1024x1.size inb_S1x1024x2_S1x1024x1_0_0_0 (ix3 0 a 0) (ix3 0 a 0) (by
      intro b; fin_cases b <;> simp)).trans (H.l0 a)
  · rw [View.readAt_eq_ld, harg8.read_unread]
    exact (View.ld_unit_apply_of (S := S1x1024x2) (Val := Elt Ideal) (e := .f32) x6 ![0, 0, 1] S1x1024x1.size inb_S1x1024x2_S1x1024x1_0_0_1 (ix3 0 a 0) (ix3 0 a 1) (by
      intro b; fin_cases b <;> simp)).trans (H.l1 a)

end

section
variable {𝒱 : Variants} {c : Dev nD} {bd : Option 𝒱.V} {arg2 : Memref sig .tc .vmem S1024x128 .bf16} {harg2 : arg2.IsWhole} {arg3 : Memref sig .tc .vmem S8192x128 .bf16} {harg3 : arg3.IsWhole} {arg4 : Memref sig .tc .vmem S8192x128 .bf16} {harg4 : arg4.IsWhole} {arg5 : Memref sig .tc .vmem S8x8192 .f32} {harg5 : arg5.IsWhole} {arg6 : Memref sig .tc .vmem S1024x128 .f32} {harg6 : arg6.IsWhole} {arg7 : Memref sig .tc .vmem S1024x128 .f32} {harg7 : arg7.IsWhole} {arg8 : Memref sig .tc .vmem S1x1024x2 .f32} {harg8 : arg8.IsWhole} {arg9 : Memref sig .tc .vmem S1024x128 .bf16} {harg9 : arg9.IsWhole} {arg10 : Memref sig .tc .vmem S128x8192 .f32} {harg10 : arg10.IsWhole} {arg11 : Memref sig .tc .vmem S128x8192 .f32} {harg11 : arg11.IsWhole} {arg12 : Memref sig .tc .vmem S1x8x8192 .f32} {harg12 : arg12.IsWhole} {arg13 : Memref sig .tc .vmem S1x1024x2 .f32} {harg13 : arg13.IsWhole} {arg0 : BitVec 32} {arg1 : BitVec 32} {v12 : IVec S128x1 32} {v37 : FVec Ideal S1024x128 .bf16} {v41 : FVec Ideal S1024x128 .bf16} {v45 : FVec Ideal S1024x1 .f32} {v47 : FVec Ideal S1024x1 .f32} {v55 : FVec Ideal S128x1024 .bf16} {v57 : FVec Ideal S128x1024 .bf16} {v61 : FVec Ideal S1024x128 .bf16} {v65 : FVec Ideal S1024x128 .bf16} {v69 : FVec Ideal S1024x1 .f32} {v71 : FVec Ideal S1024x1 .f32} {v79 : FVec Ideal S128x1024 .bf16} {v81 : FVec Ideal S128x1024 .bf16} {X_arg3 : BufTy.Contents (Elt Ideal) arg3.view.ty} {X_arg4 : BufTy.Contents (Elt Ideal) arg4.view.ty} {X_arg5 : BufTy.Contents (Elt Ideal) arg5.view.ty}
variable {v88 : BitVec 32} {p : Pt} {t : Fin cfg0.N}
variable {G_arg10 : BufTy.Contents (Elt Ideal) arg10.view.ty} {G_arg11 : BufTy.Contents (Elt Ideal) arg11.view.ty} {G_arg12 : BufTy.Contents (Elt Ideal) arg12.view.ty}
variable {o10 o11 : Fin 128 → ℕ → ℝ} {o12 : Fin 8 → ℕ → ℝ} {init : FVec Ideal S1024x128 .f32 × FVec Ideal S1024x128 .f32}

/-- The loop over tiles that straddle nothing makes no trip. -/
theorem st2_nil : st_k0_t2 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 v88 X_arg3 X_arg4 X_arg5 G_arg10 G_arg11 G_arg12 init (Scf.trips (k0_t2_loop (grid0.coords t)).lb (k0_t2_loop (grid0.coords t)).ub (k0_t2_loop (grid0.coords t)).st)
    = (init, [], [], []) := by
  rw [show Scf.trips (k0_t2_loop (grid0.coords t)).lb (k0_t2_loop (grid0.coords t)).ub (k0_t2_loop (grid0.coords t)).st = 0 from trips2 t]
  rfl

theorem loop_end (hA : Args p v12 v37 v41 v45 v47 v55 v57 v61 v65 v69 v71 v79 v81) (hC : Cols p (t.val / 8) (arg3.view.read (Elt Ideal) X_arg3) (arg4.view.read (Elt Ideal) X_arg4) (arg5.view.read (Elt Ideal) X_arg5))
    (hn : p.n = 1024 * (t.val % 8))
    (hH : Held p 0 o10 o11 o12 (arg10.view.read (Elt Ideal) G_arg10) (arg11.view.read (Elt Ideal) G_arg11) (arg12.view.read (Elt Ideal) G_arg12))
    (hy0 : IsR init.1 (p.y0 0)) (hy1 : IsR init.2 (p.y1 0)) :
    Held p p.n o10 o11 o12
      (arg10.view.read (Elt Ideal) (arg10.view.writes (Elt Ideal) G_arg10 (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init (k0_t1_loop (grid0.coords t)).trips).2.1))
      (arg11.view.read (Elt Ideal) (arg11.view.writes (Elt Ideal) G_arg11 (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init (k0_t1_loop (grid0.coords t)).trips).2.2.1))
      (arg12.view.read (Elt Ideal) (arg12.view.writes (Elt Ideal) G_arg12 (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init (k0_t1_loop (grid0.coords t)).trips).2.2.2)) ∧
    IsR (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init (k0_t1_loop (grid0.coords t)).trips).1.1 (p.y0 p.n) ∧
    IsR (st_k0_t1 𝒱 c bd (grid0.coords t) arg2 harg2 arg3 harg3 arg4 harg4 arg5 harg5 arg6 harg6 arg7 harg7 arg8 harg8 arg9 harg9 arg10 harg10 arg11 harg11 arg12 harg12 arg13 harg13 arg0 arg1 v12 k0_pay36 k0_pay37 k0_pay38 k0_pay39 v37 v41 v45 v47 v55 v57 v61 v65 v69 v71 v79 v81 X_arg3 X_arg4 X_arg5 G_arg10 G_arg11 G_arg12 init (k0_t1_loop (grid0.coords t)).trips).1.2 (p.y1 p.n) := by
  have h := loop_upto (c := c) (bd := bd) (harg2 := harg2) (harg3 := harg3) (harg4 := harg4) (harg5 := harg5) (harg6 := harg6) (harg7 := harg7) (harg8 := harg8)
    (harg9 := harg9) (harg10 := harg10) (harg11 := harg11) (harg12 := harg12) (harg13 := harg13) (arg0 := arg0) (arg1 := arg1) hA hC hn hH hy0 hy1 _ le_rfl
  rw [show 512 * (k0_t1_loop (grid0.coords t)).trips = p.n by rw [trips1 t, hn]; omega] at h
  exact h

end

section
variable (c : Dev nD) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8x8192 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x2 .f32) (harg8 : arg8.IsWhole) (arg9 : Memref sig .tc .vmem S1024x128 .bf16) (harg9 : arg9.IsWhole) (arg10 : Memref sig .tc .vmem S128x8192 .f32) (harg10 : arg10.IsWhole) (arg11 : Memref sig .tc .vmem S128x8192 .f32) (harg11 : arg11.IsWhole) (arg12 : Memref sig .tc .vmem S1x8x8192 .f32) (harg12 : arg12.IsWhole) (arg13 : Memref sig .tc .vmem S1x1024x2 .f32) (harg13 : arg13.IsWhole)
variable {p : Pt} {qq : Fin 1024 → Fin 128 → ℝ} {t : Fin cfg0.N} (hc0 : ¬cond0_0 (grid0.coords t))
variable {x0 : Vec Ideal S1024x128 .bf16} {x1 x2 : Vec Ideal S8192x128 .bf16} {x3 : Vec Ideal S8x8192 .f32} {x4 x5 : Vec Ideal S1024x128 .f32} {x6 : Vec Ideal S1x1024x2 .f32} (xo8 xo9 : Vec Ideal S128x8192 .f32) (xo10 : Vec Ideal S1x8x8192 .f32)
variable {o10 o11 : Fin 128 → ℕ → ℝ} {o12 : Fin 8 → ℕ → ℝ}
variable (H : Ops p qq t x0 x1 x2 x3 x4 x5 x6) (hH : Held p 0 o10 o11 o12 xo8 xo9 xo10)
include H hH

theorem sums_B : Held p (p.n + 1024) o10 o11 o12
    (arg10.view.read (Elt Ideal) (arg10.view.writes (Elt Ideal) (harg10.unread xo8) (kernelRun0_B c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10).2.1))
    (arg11.view.read (Elt Ideal) (arg11.view.writes (Elt Ideal) (harg11.unread xo9) (kernelRun0_B c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10).2.2.1))
    (arg12.view.read (Elt Ideal) (arg12.view.writes (Elt Ideal) (harg12.unread xo10) (kernelRun0_B c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10).2.2.2.1)) := by
  have hA := H.args harg2 harg6 harg7 harg8
  have hC := H.cols
  rw [← harg3.read_unread (Val := Elt Ideal) x1, ← harg4.read_unread (Val := Elt Ideal) x2, ← harg5.read_unread (Val := Elt Ideal) x3] at hC
  have hT := tile0 H.num hC
  have hT' := tile1 H.num hC
  have hl := loop_end (c := c) (bd := none) (𝒱 := Variants.none) (harg2 := harg2) (harg3 := harg3) (harg4 := harg4) (harg5 := harg5) (harg6 := harg6) (harg7 := harg7) (harg8 := harg8)
    (harg9 := harg9) (harg10 := harg10) (harg11 := harg11) (harg12 := harg12) (harg13 := harg13) (arg0 := BitVec.ofNat 32 (grid0.coords t 0)) (arg1 := BitVec.ofNat 32 (grid0.coords t 1))
    (G_arg10 := (harg10.unread xo8)) (G_arg11 := (harg11.unread xo9)) (G_arg12 := (harg12.unread xo10)) (o10 := o10) (o11 := o11) (o12 := o12) (init := (k0_pay55, k0_pay55))
    hA hC H.num (by rw [harg10.read_unread, harg11.read_unread, harg12.read_unread]; exact hH) p.y0_zero p.y1_zero
  unfold kernelRun0_B
  dsimp only
  refine ⟨?_, ?_, ?_⟩
  · refine diag_dk hA hT hT' arg10.view _ _ _ _ (off13_0 H.num) (off13_1 H.num) _ _ o10 _ rfl ?_
    rw [st2_nil, List.nil_append]
    exact hl.1.dk
  · refine diag_dv hA hT hT' arg11.view _ _ _ _ (off13_0 H.num) (off13_1 H.num) _ _ o11 _ rfl ?_
    rw [st2_nil, List.nil_append]
    exact hl.1.dv
  · refine diag_dc hA hT hT' arg12.view _ _ _ _ _ _ (off14_0 H.num) (off15_0 H.num) (off14_1 H.num) (off15_1 H.num) _ _ _ _ o12 _ _ _ rfl rfl rfl ?_
    rw [st2_nil, List.nil_append]
    exact hl.1.dc

theorem rows_B : IsR (out0_B_7 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10) (fun a d => (if d.val < 64 then p.y0 (p.n + 1024) a d else p.y1 (p.n + 1024) a d) * (1 / 8)) := by
  have hA := H.args harg2 harg6 harg7 harg8
  have hC := H.cols
  rw [← harg3.read_unread (Val := Elt Ideal) x1, ← harg4.read_unread (Val := Elt Ideal) x2, ← harg5.read_unread (Val := Elt Ideal) x3] at hC
  have hT := tile0 H.num hC
  have hT' := tile1 H.num hC
  have hl := loop_end (c := c) (bd := none) (𝒱 := Variants.none) (harg2 := harg2) (harg3 := harg3) (harg4 := harg4) (harg5 := harg5) (harg6 := harg6) (harg7 := harg7) (harg8 := harg8)
    (harg9 := harg9) (harg10 := harg10) (harg11 := harg11) (harg12 := harg12) (harg13 := harg13) (arg0 := BitVec.ofNat 32 (grid0.coords t 0)) (arg1 := BitVec.ofNat 32 (grid0.coords t 1))
    (G_arg10 := (harg10.unread xo8)) (G_arg11 := (harg11.unread xo9)) (G_arg12 := (harg12.unread xo10)) (o10 := o10) (o11 := o11) (o12 := o12) (init := (k0_pay55, k0_pay55))
    hA hC H.num (by rw [harg10.read_unread, harg11.read_unread, harg12.read_unread]; exact hH) p.y0_zero p.y1_zero
  intro a d
  unfold out0_B_7 kernelRun0_B
  dsimp only
  refine (View.read_writes_cons_hit_of_coords VO0_7 _ (Rect.unit ![0, 0] S1024x128.size inb_S1024x128_S1024x128_0_0) _ [] (ix2 a d) (ix2 a d) (by
    intro b; fin_cases b <;> simp [Rect.unit])).trans ?_
  refine pay94 (diag_y0 hA hT hT' ?_) (diag_y1 hA hT hT' ?_) a d
  · unfold kernelRun0_B.sl.r_15
    rw [st2_nil]
    exact hl.2.1
  · unfold kernelRun0_B.sl.r_16
    rw [st2_nil]
    exact hl.2.2

theorem cols_B (a : Fin 1024) : out0_B_11 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 (ix3 0 a 0) = (p.y0 (p.n + 1024) a 64 : EReal) ∧
    out0_B_11 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 (ix3 0 a 1) = (p.y1 (p.n + 1024) a 0 : EReal) := by
  have hA := H.args harg2 harg6 harg7 harg8
  have hC := H.cols
  rw [← harg3.read_unread (Val := Elt Ideal) x1, ← harg4.read_unread (Val := Elt Ideal) x2, ← harg5.read_unread (Val := Elt Ideal) x3] at hC
  have hT := tile0 H.num hC
  have hT' := tile1 H.num hC
  have hl := loop_end (c := c) (bd := none) (𝒱 := Variants.none) (harg2 := harg2) (harg3 := harg3) (harg4 := harg4) (harg5 := harg5) (harg6 := harg6) (harg7 := harg7) (harg8 := harg8)
    (harg9 := harg9) (harg10 := harg10) (harg11 := harg11) (harg12 := harg12) (harg13 := harg13) (arg0 := BitVec.ofNat 32 (grid0.coords t 0)) (arg1 := BitVec.ofNat 32 (grid0.coords t 1))
    (G_arg10 := (harg10.unread xo8)) (G_arg11 := (harg11.unread xo9)) (G_arg12 := (harg12.unread xo10)) (o10 := o10) (o11 := o11) (o12 := o12) (init := (k0_pay55, k0_pay55))
    hA hC H.num (by rw [harg10.read_unread, harg11.read_unread, harg12.read_unread]; exact hH) p.y0_zero p.y1_zero
  unfold out0_B_11 kernelRun0_B
  dsimp only
  refine ⟨?_, ?_⟩
  · refine (View.read_writes_cons_miss_of_axis VO0_11 _ _ _ (ix3 0 a 0) 2 1 1 rfl rfl rfl (Or.inl Nat.zero_lt_one)).trans ?_
    refine (View.read_writes_cons_hit_of_coords VO0_11 _ (Rect.unit ![0, 0, 0] S1x1024x1.size inb_S1x1024x2_S1x1024x1_0_0_0) _ [] (ix3 0 a 0) (ix3 0 a 0) (by
      intro b; fin_cases b <;> simp [Rect.unit])).trans ?_
    refine pay95 (diag_y0 hA hT hT' ?_) a
    unfold kernelRun0_B.sl.r_15
    rw [st2_nil]
    exact hl.2.1
  · refine (View.read_writes_cons_hit_of_coords VO0_11 _ (Rect.unit ![0, 0, 1] S1x1024x1.size inb_S1x1024x2_S1x1024x1_0_0_1) _ _ (ix3 0 a 0) (ix3 0 a 1) (by
      intro b; fin_cases b <;> simp [Rect.unit])).trans ?_
    refine pay1 (diag_y1 hA hT hT' ?_) a
    unfold kernelRun0_B.sl.r_16
    rw [st2_nil]
    exact hl.2.2

end

section
variable (c : Dev nD) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8x8192 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x2 .f32) (harg8 : arg8.IsWhole) (arg9 : Memref sig .tc .vmem S1024x128 .bf16) (harg9 : arg9.IsWhole) (arg10 : Memref sig .tc .vmem S128x8192 .f32) (harg10 : arg10.IsWhole) (arg11 : Memref sig .tc .vmem S128x8192 .f32) (harg11 : arg11.IsWhole) (arg12 : Memref sig .tc .vmem S1x8x8192 .f32) (harg12 : arg12.IsWhole) (arg13 : Memref sig .tc .vmem S1x1024x2 .f32) (harg13 : arg13.IsWhole)
variable {p : Pt} {qq : Fin 1024 → Fin 128 → ℝ} {t : Fin cfg0.N} (hc0 : cond0_0 (grid0.coords t))
variable {x0 : Vec Ideal S1024x128 .bf16} {x1 x2 : Vec Ideal S8192x128 .bf16} {x3 : Vec Ideal S8x8192 .f32} {x4 x5 : Vec Ideal S1024x128 .f32} {x6 : Vec Ideal S1x1024x2 .f32}
variable {o10 o11 : Fin 128 → ℕ → ℝ} {o12 : Fin 8 → ℕ → ℝ}
variable (H : Ops p qq t x0 x1 x2 x3 x4 x5 x6)
include H

theorem sums_A : Held p (p.n + 1024) (fun _ _ => 0) (fun _ _ => 0) (fun _ _ => 0)
    (arg10.view.read (Elt Ideal) (arg10.view.writes (Elt Ideal) arg10.view.junk (kernelRun0_A c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6).2.1))
    (arg11.view.read (Elt Ideal) (arg11.view.writes (Elt Ideal) arg11.view.junk (kernelRun0_A c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1))
    (arg12.view.read (Elt Ideal) (arg12.view.writes (Elt Ideal) arg12.view.junk (kernelRun0_A c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1)) := by
  have hA := H.args harg2 harg6 harg7 harg8
  have hC := H.cols
  rw [← harg3.read_unread (Val := Elt Ideal) x1, ← harg4.read_unread (Val := Elt Ideal) x2, ← harg5.read_unread (Val := Elt Ideal) x3] at hC
  have hT := tile0 H.num hC
  have hT' := tile1 H.num hC
  have hl := loop_end (c := c) (bd := none) (𝒱 := Variants.none) (harg2 := harg2) (harg3 := harg3) (harg4 := harg4) (harg5 := harg5) (harg6 := harg6) (harg7 := harg7) (harg8 := harg8)
    (harg9 := harg9) (harg10 := harg10) (harg11 := harg11) (harg12 := harg12) (harg13 := harg13) (arg0 := BitVec.ofNat 32 (grid0.coords t 0)) (arg1 := BitVec.ofNat 32 (grid0.coords t 1))
    (G_arg10 := arg10.view.writes (Elt Ideal) arg10.view.junk [⟨Rect.unit ![0, 0] S128x8192.size inb_S128x8192_S128x8192_0_0, k0_pay30 (F := Ideal)⟩]) (G_arg11 := arg11.view.writes (Elt Ideal) arg11.view.junk [⟨Rect.unit ![0, 0] S128x8192.size inb_S128x8192_S128x8192_0_0, k0_pay31 (F := Ideal)⟩]) (G_arg12 := arg12.view.writes (Elt Ideal) arg12.view.junk [⟨Rect.unit ![0, 0, 0] S1x8x8192.size inb_S1x8x8192_S1x8x8192_0_0_0, k0_pay32 (F := Ideal)⟩]) (o10 := (fun _ _ => 0)) (o11 := (fun _ _ => 0)) (o12 := (fun _ _ => 0)) (init := (k0_pay55, k0_pay55))
    hA hC H.num (filled arg10.view arg11.view arg12.view _ _ _) p.y0_zero p.y1_zero
  unfold kernelRun0_A
  dsimp only
  refine ⟨?_, ?_, ?_⟩
  · refine diag_dk hA hT hT' arg10.view _ _ _ _ (off13_0 H.num) (off13_1 H.num) _ _ (fun _ _ => 0) _ rfl ?_
    rw [st2_nil, List.nil_append, View.writes_append]
    exact hl.1.dk
  · refine diag_dv hA hT hT' arg11.view _ _ _ _ (off13_0 H.num) (off13_1 H.num) _ _ (fun _ _ => 0) _ rfl ?_
    rw [st2_nil, List.nil_append, View.writes_append]
    exact hl.1.dv
  · refine diag_dc hA hT hT' arg12.view _ _ _ _ _ _ (off14_0 H.num) (off15_0 H.num) (off14_1 H.num) (off15_1 H.num) _ _ _ _ (fun _ _ => 0) _ _ _ rfl rfl rfl ?_
    rw [st2_nil, List.nil_append, View.writes_append]
    exact hl.1.dc

theorem rows_A : IsR (out0_A_7 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6) (fun a d => (if d.val < 64 then p.y0 (p.n + 1024) a d else p.y1 (p.n + 1024) a d) * (1 / 8)) := by
  have hA := H.args harg2 harg6 harg7 harg8
  have hC := H.cols
  rw [← harg3.read_unread (Val := Elt Ideal) x1, ← harg4.read_unread (Val := Elt Ideal) x2, ← harg5.read_unread (Val := Elt Ideal) x3] at hC
  have hT := tile0 H.num hC
  have hT' := tile1 H.num hC
  have hl := loop_end (c := c) (bd := none) (𝒱 := Variants.none) (harg2 := harg2) (harg3 := harg3) (harg4 := harg4) (harg5 := harg5) (harg6 := harg6) (harg7 := harg7) (harg8 := harg8)
    (harg9 := harg9) (harg10 := harg10) (harg11 := harg11) (harg12 := harg12) (harg13 := harg13) (arg0 := BitVec.ofNat 32 (grid0.coords t 0)) (arg1 := BitVec.ofNat 32 (grid0.coords t 1))
    (G_arg10 := arg10.view.writes (Elt Ideal) arg10.view.junk [⟨Rect.unit ![0, 0] S128x8192.size inb_S128x8192_S128x8192_0_0, k0_pay30 (F := Ideal)⟩]) (G_arg11 := arg11.view.writes (Elt Ideal) arg11.view.junk [⟨Rect.unit ![0, 0] S128x8192.size inb_S128x8192_S128x8192_0_0, k0_pay31 (F := Ideal)⟩]) (G_arg12 := arg12.view.writes (Elt Ideal) arg12.view.junk [⟨Rect.unit ![0, 0, 0] S1x8x8192.size inb_S1x8x8192_S1x8x8192_0_0_0, k0_pay32 (F := Ideal)⟩]) (o10 := (fun _ _ => 0)) (o11 := (fun _ _ => 0)) (o12 := (fun _ _ => 0)) (init := (k0_pay55, k0_pay55))
    hA hC H.num (filled arg10.view arg11.view arg12.view _ _ _) p.y0_zero p.y1_zero
  intro a d
  unfold out0_A_7 kernelRun0_A
  dsimp only
  refine (View.read_writes_cons_hit_of_coords VO0_7 _ (Rect.unit ![0, 0] S1024x128.size inb_S1024x128_S1024x128_0_0) _ [] (ix2 a d) (ix2 a d) (by
    intro b; fin_cases b <;> simp [Rect.unit])).trans ?_
  refine pay94 (diag_y0 hA hT hT' ?_) (diag_y1 hA hT hT' ?_) a d
  · unfold kernelRun0_A.sl.r_15
    rw [st2_nil]
    exact hl.2.1
  · unfold kernelRun0_A.sl.r_16
    rw [st2_nil]
    exact hl.2.2

theorem cols_A (a : Fin 1024) : out0_A_11 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 0 a 0) = (p.y0 (p.n + 1024) a 64 : EReal) ∧
    out0_A_11 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 0 a 1) = (p.y1 (p.n + 1024) a 0 : EReal) := by
  have hA := H.args harg2 harg6 harg7 harg8
  have hC := H.cols
  rw [← harg3.read_unread (Val := Elt Ideal) x1, ← harg4.read_unread (Val := Elt Ideal) x2, ← harg5.read_unread (Val := Elt Ideal) x3] at hC
  have hT := tile0 H.num hC
  have hT' := tile1 H.num hC
  have hl := loop_end (c := c) (bd := none) (𝒱 := Variants.none) (harg2 := harg2) (harg3 := harg3) (harg4 := harg4) (harg5 := harg5) (harg6 := harg6) (harg7 := harg7) (harg8 := harg8)
    (harg9 := harg9) (harg10 := harg10) (harg11 := harg11) (harg12 := harg12) (harg13 := harg13) (arg0 := BitVec.ofNat 32 (grid0.coords t 0)) (arg1 := BitVec.ofNat 32 (grid0.coords t 1))
    (G_arg10 := arg10.view.writes (Elt Ideal) arg10.view.junk [⟨Rect.unit ![0, 0] S128x8192.size inb_S128x8192_S128x8192_0_0, k0_pay30 (F := Ideal)⟩]) (G_arg11 := arg11.view.writes (Elt Ideal) arg11.view.junk [⟨Rect.unit ![0, 0] S128x8192.size inb_S128x8192_S128x8192_0_0, k0_pay31 (F := Ideal)⟩]) (G_arg12 := arg12.view.writes (Elt Ideal) arg12.view.junk [⟨Rect.unit ![0, 0, 0] S1x8x8192.size inb_S1x8x8192_S1x8x8192_0_0_0, k0_pay32 (F := Ideal)⟩]) (o10 := (fun _ _ => 0)) (o11 := (fun _ _ => 0)) (o12 := (fun _ _ => 0)) (init := (k0_pay55, k0_pay55))
    hA hC H.num (filled arg10.view arg11.view arg12.view _ _ _) p.y0_zero p.y1_zero
  unfold out0_A_11 kernelRun0_A
  dsimp only
  refine ⟨?_, ?_⟩
  · refine (View.read_writes_cons_miss_of_axis VO0_11 _ _ _ (ix3 0 a 0) 2 1 1 rfl rfl rfl (Or.inl Nat.zero_lt_one)).trans ?_
    refine (View.read_writes_cons_hit_of_coords VO0_11 _ (Rect.unit ![0, 0, 0] S1x1024x1.size inb_S1x1024x2_S1x1024x1_0_0_0) _ [] (ix3 0 a 0) (ix3 0 a 0) (by
      intro b; fin_cases b <;> simp [Rect.unit])).trans ?_
    refine pay95 (diag_y0 hA hT hT' ?_) a
    unfold kernelRun0_A.sl.r_15
    rw [st2_nil]
    exact hl.2.1
  · refine (View.read_writes_cons_hit_of_coords VO0_11 _ (Rect.unit ![0, 0, 1] S1x1024x1.size inb_S1x1024x2_S1x1024x1_0_0_1) _ _ (ix3 0 a 0) (ix3 0 a 1) (by
      intro b; fin_cases b <;> simp [Rect.unit])).trans ?_
    refine pay1 (diag_y1 hA hT hT' ?_) a
    unfold kernelRun0_A.sl.r_16
    rw [st2_nil]
    exact hl.2.2

end

end Cert.FoxIdeal.Tile

end
-- ==== Proof.FoxRun.lean ====
/- The attention gradient's five result arrays, over the reals, from what its operands hold when the kernel starts. -/
module

public import proofs.«01_k».proof.Proof.FoxPoint
public import proofs.«01_k».proof.Proof.Gen.FoxIdeal.Value
public import Idealize.ShloMosaic.Lib.Pipeline.ValueKit

@[expose] public section

set_option maxRecDepth 16384

noncomputable section

namespace Cert.FoxIdeal.Tile

open Idealize.ShloMosaic Idealize.ShloMosaic.TcCoe Cert.FoxIdeal Cert.FoxIdeal.Gen Cert.Reals

/-- The operands of the whole call: queries, keys, values, outputs and cotangents by row and lane, the forget sums and the row
    log-sums by head and row. -/
structure Glob where
  Q : ℕ → ℕ → ℝ
  K : ℕ → ℕ → ℝ
  V : ℕ → ℕ → ℝ
  O : ℕ → ℕ → ℝ
  G : ℕ → ℕ → ℝ
  C : ℕ → ℕ → ℝ
  L : ℕ → ℕ → ℝ

/-- The operands of the point of head pair `h` and row block `i`. -/
def Glob.pt (w : Glob) (h i : ℕ) : Pt where
  q a d := w.Q (1024 * i + a.val) (128 * h + d.val) * (1 / 8)
  o a d := w.O (1024 * i + a.val) (128 * h + d.val)
  g a d := w.G (1024 * i + a.val) (128 * h + d.val)
  l0 a := w.L (2 * h) (1024 * i + a.val)
  l1 a := w.L (2 * h + 1) (1024 * i + a.val)
  K j d := w.K j (128 * h + d.val)
  V j d := w.V j (128 * h + d.val)
  C0 := w.C (2 * h)
  C1 := w.C (2 * h + 1)
  n := 1024 * i

namespace Pt
variable (p : Pt)

/-- A point adds nothing to the columns right of its rows. -/
theorem dk_right {j : ℕ} (h : p.n + 1024 ≤ j) (r : Fin 128) : p.dk r j = 0 := by
  unfold dk
  split <;> exact Finset.sum_eq_zero fun t _ => by first | rw [p.B0_zero (by omega), mul_zero] | rw [p.B1_zero (by omega), mul_zero]

theorem dv_right {j : ℕ} (h : p.n + 1024 ≤ j) (r : Fin 128) : p.dv r j = 0 := by
  unfold dv
  rw [Finset.sum_eq_zero fun t _ => by rw [p.W0_zero (by omega), mul_zero], Finset.sum_eq_zero fun t _ => by rw [p.W1_zero (by omega), mul_zero], zero_add]

theorem dc_right {j : ℕ} (h : p.n + 1024 ≤ j) (r : Fin 8) : p.dc r j = 0 := by
  unfold dc dc0 dc1
  rw [Finset.sum_eq_zero fun t _ => by rw [p.B0_zero (by omega), mul_zero], Finset.sum_eq_zero fun t _ => by rw [p.B1_zero (by omega), mul_zero]]
  simp

end Pt

/-- A point's accumulators hold what they held and the point's whole part. -/
theorem Held.full {p : Pt} {o10 o11 : Fin 128 → ℕ → ℝ} {o12 : Fin 8 → ℕ → ℝ} {x10 x11 : S128x8192.Idx → EReal} {x12 : S1x8x8192.Idx → EReal}
    (H : Held p (p.n + 1024) o10 o11 o12 x10 x11 x12) :
    IsR x10 (fun r j => o10 r j.val + p.dk r j.val) ∧ IsR x11 (fun r j => o11 r j.val + p.dv r j.val)
      ∧ ∀ (r : Fin 8) (j : Fin 8192), x12 (ix3 0 r j) = ((o12 r j.val - p.dc r j.val : ℝ) : EReal) := by
  refine ⟨IsR.congr H.dk fun r j => ?_, IsR.congr H.dv fun r j => ?_, fun r j => (H.dc r j).trans ?_⟩
  · by_cases h : j.val < p.n + 1024
    · rw [if_pos h]
    · rw [if_neg h, p.dk_right (by omega)]
  · by_cases h : j.val < p.n + 1024
    · rw [if_pos h]
    · rw [if_neg h, p.dv_right (by omega)]
  · by_cases h : j.val < p.n + 1024
    · rw [if_pos h]
    · rw [if_neg h, p.dc_right (by omega)]

section
variable (c : Dev nD) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8x8192 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024x2 .f32) (harg8 : arg8.IsWhole) (arg9 : Memref sig .tc .vmem S1024x128 .bf16) (harg9 : arg9.IsWhole) (arg10 : Memref sig .tc .vmem S128x8192 .f32) (harg10 : arg10.IsWhole) (arg11 : Memref sig .tc .vmem S128x8192 .f32) (harg11 : arg11.IsWhole) (arg12 : Memref sig .tc .vmem S1x8x8192 .f32) (harg12 : arg12.IsWhole) (arg13 : Memref sig .tc .vmem S1x1024x2 .f32) (harg13 : arg13.IsWhole)
variable {p : Pt} {qq : Fin 1024 → Fin 128 → ℝ} {t : Fin cfg0.N} (hc0 : cond0_0 (grid0.coords t))
variable {x0 : Vec Ideal S1024x128 .bf16} {x1 x2 : Vec Ideal S8192x128 .bf16} {x3 : Vec Ideal S8x8192 .f32} {x4 x5 : Vec Ideal S1024x128 .f32} {x6 : Vec Ideal S1x1024x2 .f32}
variable {o10 o11 : Fin 128 → ℕ → ℝ} {o12 : Fin 8 → ℕ → ℝ}
variable (H : Ops p qq t x0 x1 x2 x3 x4 x5 x6)
include H

/-- What the first point of a pair of heads leaves in the accumulators. -/
theorem held_A : Held p (p.n + 1024) (fun _ _ => 0) (fun _ _ => 0) (fun _ _ => 0)
    (out0_A_8 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6)
    (out0_A_9 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6)
    (out0_A_10 c (grid0.coords t) arg2 harg2 arg3 harg3 arg4 harg4 arg5 harg5 arg6 harg6 arg7 harg7 arg8 harg8 arg9 harg9 arg10 harg10 arg11 harg11 arg12 harg12 arg13 harg13 hc0 x0 x1 x2 x3 x4 x5 x6) := by
  have K := sums_A c arg2 harg2 arg3 harg3 arg4 harg4 arg5 harg5 arg6 harg6 arg7 harg7 arg8 harg8 arg9 harg9 arg10 harg10 arg11 harg11 arg12 harg12 arg13 harg13 hc0 H
  exact ⟨fun r j => (congrFun (View.read_writes_of_cover VO0_8 _ arg10.view arg10.view.junk _ (cover0_A_8 c _ arg2 harg2 arg3 harg3 arg4 harg4 arg5 harg5 arg6 harg6 arg7 harg7 arg8 harg8 arg9 harg9 arg10 harg10 arg11 harg11 arg12 harg12 arg13 harg13 hc0 _ _ _ _ _ _ _)) _).trans (K.dk r j),
    fun r j => (congrFun (View.read_writes_of_cover VO0_9 _ arg11.view arg11.view.junk _ (cover0_A_9 c _ arg2 harg2 arg3 harg3 arg4 harg4 arg5 harg5 arg6 harg6 arg7 harg7 arg8 harg8 arg9 harg9 arg10 harg10 arg11 harg11 arg12 harg12 arg13 harg13 hc0 _ _ _ _ _ _ _)) _).trans (K.dv r j),
    fun r j => (congrFun (View.read_writes_of_cover VO0_10 _ arg12.view arg12.view.junk _ (cover0_A_10 c _ arg2 harg2 arg3 harg3 arg4 harg4 arg5 harg5 arg6 harg6 arg7 harg7 arg8 harg8 arg9 harg9 arg10 harg10 arg11 harg11 arg12 harg12 arg13 harg13 hc0 _ _ _ _ _ _ _)) _).trans (K.dc r j)⟩

end

variable (m : (ℓ : Loc nD τ sig) → Buf (Elt Ideal) ℓ) (c : Dev nD)

/-- The call's operands hold the model when the kernel starts. -/
structure Entry (w : Glob) : Prop where
  q : ∀ (r : Fin 8192) (l : Fin 1536), l.val < 512 → (V m c main_v0 : Vec Ideal S8192x1536 .bf16) (ix2 r l) = (w.Q r l : EReal)
  k : ∀ (r : Fin 8192) (l : Fin 1536) (d : ℕ), l.val = 512 + d → d < 512 → (V m c main_v0 : Vec Ideal S8192x1536 .bf16) (ix2 r l) = (w.K r d : EReal)
  v : ∀ (r : Fin 8192) (l : Fin 1536) (d : ℕ), l.val = 1024 + d → (V m c main_v0 : Vec Ideal S8192x1536 .bf16) (ix2 r l) = (w.V r d : EReal)
  cum : ∀ (h : Fin 8) (j : Fin 8192), (V m c main_arg3 : Vec Ideal S8x8192 .f32) (ix2 h j) = (w.C h j : EReal)
  o : ∀ (r : Fin 8192) (l : Fin 512), (V m c main_v34 : Vec Ideal S8192x512 .f32) (ix2 r l) = (w.O r l : EReal)
  g : ∀ (r : Fin 8192) (l : Fin 512), (V m c main_arg4 : Vec Ideal S8192x512 .f32) (ix2 r l) = (w.G r l : EReal)
  l : ∀ (h : Fin 4) (r : Fin 8192) (e : Fin 2), (V m c main_v36 : Vec Ideal S4x8192x2 .f32) (ix3 h r e) = (w.L (2 * h.val + e.val) r : EReal)

theorem idx (t : Fin cfg0.N) : win0_0.index t = ![t.val % 8, t.val / 8] ∧ win0_1.index t = ![0, 4 + t.val / 8] ∧ win0_2.index t = ![0, 8 + t.val / 8]
    ∧ win0_3.index t = ![0, 0] ∧ win0_4.index t = ![t.val % 8, t.val / 8] ∧ win0_5.index t = ![t.val % 8, t.val / 8]
    ∧ win0_6.index t = ![t.val / 8, t.val % 8, 0] := by
  revert t; decide +kernel

theorem idx_out (t : Fin cfg0.N) : win0_7.index t = ![t.val % 8, t.val / 8] ∧ win0_8.index t = ![t.val / 8, 0] ∧ win0_9.index t = ![t.val / 8, 0]
    ∧ win0_10.index t = ![t.val / 8, 0, 0] ∧ win0_11.index t = ![t.val / 8, t.val % 8, 0] := by
  revert t; decide +kernel

theorem pts (t : Fin cfg0.N) : t.val / 8 < 4 := by
  have : t.val < 32 := t.isLt
  omega

/-! A block of an array, at its coordinates. -/

theorem read_q (f : Vec Ideal S8192x1536 .bf16) (t : Fin cfg0.N) (a : Fin 1024) (d : Fin 128) (h1 : 1024 * (t.val % 8) + a.val < 8192) (h2 : 128 * (t.val / 8) + d.val < 1536) :
    ((cfg0.win 0).blk t).view.read (Elt Ideal) f (ix2 a d) = f (ix2 ⟨1024 * (t.val % 8) + a.val, h1⟩ ⟨128 * (t.val / 8) + d.val, h2⟩) := by
  blk_ext [idx t]

theorem read_k (f : Vec Ideal S8192x1536 .bf16) (t : Fin cfg0.N) (j : Fin 8192) (d : Fin 128) (h2 : 512 + (128 * (t.val / 8) + d.val) < 1536) :
    ((cfg0.win 1).blk t).view.read (Elt Ideal) f (ix2 j d) = f (ix2 j ⟨512 + (128 * (t.val / 8) + d.val), h2⟩) := by
  blk_ext [idx t]

theorem read_v (f : Vec Ideal S8192x1536 .bf16) (t : Fin cfg0.N) (j : Fin 8192) (d : Fin 128) (h2 : 1024 + (128 * (t.val / 8) + d.val) < 1536) :
    ((cfg0.win 2).blk t).view.read (Elt Ideal) f (ix2 j d) = f (ix2 j ⟨1024 + (128 * (t.val / 8) + d.val), h2⟩) := by
  blk_ext [idx t]

theorem read_c (f : Vec Ideal S8x8192 .f32) (t : Fin cfg0.N) (h : Fin 8) (j : Fin 8192) :
    ((cfg0.win 3).blk t).view.read (Elt Ideal) f (ix2 h j) = f (ix2 h j) := by
  blk_ext [idx t]

theorem read_o (f : Vec Ideal S8192x512 .f32) (t : Fin cfg0.N) (a : Fin 1024) (d : Fin 128) (h1 : 1024 * (t.val % 8) + a.val < 8192) (h2 : 128 * (t.val / 8) + d.val < 512) :
    ((cfg0.win 4).blk t).view.read (Elt Ideal) f (ix2 a d) = f (ix2 ⟨1024 * (t.val % 8) + a.val, h1⟩ ⟨128 * (t.val / 8) + d.val, h2⟩) := by
  blk_ext [idx t]

theorem read_g (f : Vec Ideal S8192x512 .f32) (t : Fin cfg0.N) (a : Fin 1024) (d : Fin 128) (h1 : 1024 * (t.val % 8) + a.val < 8192) (h2 : 128 * (t.val / 8) + d.val < 512) :
    ((cfg0.win 5).blk t).view.read (Elt Ideal) f (ix2 a d) = f (ix2 ⟨1024 * (t.val % 8) + a.val, h1⟩ ⟨128 * (t.val / 8) + d.val, h2⟩) := by
  blk_ext [idx t]

theorem read_l (f : Vec Ideal S4x8192x2 .f32) (t : Fin cfg0.N) (a : Fin 1024) (e : Fin 2) (h1 : 1024 * (t.val % 8) + a.val < 8192) (h2 : t.val / 8 < 4) :
    ((cfg0.win 6).blk t).view.read (Elt Ideal) f (ix3 0 a e) = f (ix3 ⟨t.val / 8, h2⟩ ⟨1024 * (t.val % 8) + a.val, h1⟩ e) := by
  blk_ext [idx t]

variable {m c} {w : Glob} (E : Entry m c w)
include E

theorem ops (t : Fin cfg0.N) : Ops (w.pt (t.val / 8) (t.val % 8)) (fun a d => w.Q (1024 * (t.val % 8) + a.val) (128 * (t.val / 8) + d.val)) t
    (iblk m c 0 t) (iblk m c 1 t) (iblk m c 2 t) (iblk m c 3 t) (iblk m c 4 t) (iblk m c 5 t) (iblk m c 6 t) := by
  have hp := pts t
  refine ⟨rfl, fun a d => ?_, rfl, ⟨fun j d => ?_, fun j d => ?_, fun r j hr => ?_, fun r j hr => ?_⟩, fun a d => ?_, fun a d => ?_, fun a => ?_, fun a => ?_⟩
  · exact (read_q (V m c main_v0) t a d (by omega) (by omega)).trans (E.q _ _ (by show 128 * (t.val / 8) + d.val < 512; omega))
  · exact (read_k (V m c main_v0) t j d (by omega)).trans (E.k _ _ _ rfl (by omega))
  · exact (read_v (V m c main_v0) t j d (by omega)).trans (E.v _ _ _ rfl)
  · exact (read_c (V m c main_arg3) t r j).trans ((E.cum _ _).trans (by rw [hr]; rfl))
  · exact (read_c (V m c main_arg3) t r j).trans ((E.cum _ _).trans (by rw [hr]; rfl))
  · exact (read_o (V m c main_v34) t a d (by omega) (by omega)).trans (E.o _ _)
  · exact (read_g (V m c main_arg4) t a d (by omega) (by omega)).trans (E.g _ _)
  · exact (read_l (V m c main_v36) t a 0 (by omega) hp).trans (E.l _ _ _)
  · exact (read_l (V m c main_v36) t a 1 (by omega) hp).trans (E.l _ _ _)

omit E in
/-- The point before, of the same pair of heads. -/
theorem before {n : ℕ} (h : ¬n % 8 = 0) : (n - 1) / 8 = n / 8 ∧ (n - 1) % 8 + 1 = n % 8 := by omega

/-- What the accumulators hold after a point: the sums over the pair's row blocks so far. -/
structure Sums (w : Glob) (n : ℕ) (x10 x11 : S128x8192.Idx → EReal) (x12 : S1x8x8192.Idx → EReal) : Prop where
  dk : IsR x10 (fun r j => ∑ i ∈ Finset.range (n % 8 + 1), (w.pt (n / 8) i).dk r j.val)
  dv : IsR x11 (fun r j => ∑ i ∈ Finset.range (n % 8 + 1), (w.pt (n / 8) i).dv r j.val)
  dc : ∀ (r : Fin 8) (j : Fin 8192), x12 (ix3 0 r j) = ((-∑ i ∈ Finset.range (n % 8 + 1), (w.pt (n / 8) i).dc r j.val : ℝ) : EReal)

omit E in
theorem Sums.first {n : ℕ} {x10 x11 : S128x8192.Idx → EReal} {x12 : S1x8x8192.Idx → EReal} (h0 : n % 8 = 0)
    (H : Held (w.pt (n / 8) (n % 8)) ((w.pt (n / 8) (n % 8)).n + 1024) (fun _ _ => 0) (fun _ _ => 0) (fun _ _ => 0) x10 x11 x12) : Sums w n x10 x11 x12 := by
  obtain ⟨h1, h2, h3⟩ := H.full
  refine ⟨IsR.congr h1 fun r j => ?_, IsR.congr h2 fun r j => ?_, fun r j => (h3 r j).trans ?_⟩ <;> simp [h0]

omit E in
/-- Sums held before a point's first column. -/
theorem Sums.held {p : Pt} {n : ℕ} {x10 x11 : S128x8192.Idx → EReal} {x12 : S1x8x8192.Idx → EReal} (P : Sums w n x10 x11 x12) :
    Held p 0 (fun r j => ∑ i ∈ Finset.range (n % 8 + 1), (w.pt (n / 8) i).dk r j) (fun r j => ∑ i ∈ Finset.range (n % 8 + 1), (w.pt (n / 8) i).dv r j)
      (fun r j => -∑ i ∈ Finset.range (n % 8 + 1), (w.pt (n / 8) i).dc r j) x10 x11 x12 :=
  ⟨IsR.congr P.dk fun r j => by simp, IsR.congr P.dv fun r j => by simp, fun r j => (P.dc r j).trans (by simp)⟩

omit E in
theorem Sums.next {n : ℕ} {y10 y11 x10 x11 : S128x8192.Idx → EReal} {y12 x12 : S1x8x8192.Idx → EReal} (h0 : ¬n % 8 = 0) (P : Sums w (n - 1) y10 y11 y12)
    (H : ∀ o10 o11 o12, Held (w.pt (n / 8) (n % 8)) 0 o10 o11 o12 y10 y11 y12 → Held (w.pt (n / 8) (n % 8)) ((w.pt (n / 8) (n % 8)).n + 1024) o10 o11 o12 x10 x11 x12) :
    Sums w n x10 x11 x12 := by
  obtain ⟨e1, e2⟩ := before h0
  obtain ⟨h1, h2, h3⟩ := (H _ _ _ P.held).full
  rw [e1, e2] at h1 h2 h3
  refine ⟨IsR.congr h1 fun r j => ?_, IsR.congr h2 fun r j => ?_, fun r j => (h3 r j).trans ?_⟩
  · rw [Finset.sum_range_succ]
  · rw [Finset.sum_range_succ]
  · rw [Finset.sum_range_succ, neg_add, sub_eq_add_neg]

theorem sums_first (t : Fin cfg0.N) (h0 : t.val % 8 = 0) :
    Sums w t.val (outsAt0 m c t.val t.isLt).2.1 (outsAt0 m c t.val t.isLt).2.2.1 (outsAt0 m c t.val t.isLt).2.2.2.1 := by
  have K := held_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (ops E t)
  have P := Sums.first h0 K
  rw [outsAt0_A m c t h0]
  dsimp only
  exact P

theorem sums_next (t : Fin cfg0.N) (h0 : ¬t.val % 8 = 0)
    (P : Sums w (t.val - 1) (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1) :
    Sums w t.val (outsAt0 m c t.val t.isLt).2.1 (outsAt0 m c t.val t.isLt).2.2.1 (outsAt0 m c t.val t.isLt).2.2.2.1 := by
  have K := Sums.next h0 P fun o10 o11 o12 hH => sums_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) _ _ _ (ops E t) hH
  rw [outsAt0_B m c t h0]
  exact K

theorem sums (n : ℕ) (hn : n < cfg0.N) : Sums w n (outsAt0 m c n hn).2.1 (outsAt0 m c n hn).2.2.1 (outsAt0 m c n hn).2.2.2.1 := by
  induction n using Nat.strong_induction_on with
  | _ n ih =>
    by_cases h0 : n % 8 = 0
    · exact sums_first E ⟨n, hn⟩ h0
    · exact sums_next E ⟨n, hn⟩ h0 (ih (n - 1) (by omega) _)

/-- The rows' gradients after a point. -/
theorem rows (t : Fin cfg0.N) : IsR (outsAt0 m c t.val t.isLt).1 (fun a d => (if d.val < 64 then (w.pt (t.val / 8) (t.val % 8)).y0 (1024 * (t.val % 8) + 1024) a d
    else (w.pt (t.val / 8) (t.val % 8)).y1 (1024 * (t.val % 8) + 1024) a d) * (1 / 8)) := by
  by_cases h0 : t.val % 8 = 0
  · have K := rows_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (ops E t)
    rw [outsAt0_A m c t h0]
    dsimp only
    exact K
  · have S := sums E (t.val - 1) (Nat.lt_of_le_of_lt (Nat.sub_le _ _) t.isLt)
    have K := rows_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) _ _ _ (ops E t) (Sums.held S)
    rw [outsAt0_B m c t h0]
    dsimp only
    exact K

/-- The row sums' gradients after a point. -/
theorem cols (t : Fin cfg0.N) (a : Fin 1024) :
    (outsAt0 m c t.val t.isLt).2.2.2.2 (ix3 0 a 0) = ((w.pt (t.val / 8) (t.val % 8)).y0 (1024 * (t.val % 8) + 1024) a 64 : EReal)
      ∧ (outsAt0 m c t.val t.isLt).2.2.2.2 (ix3 0 a 1) = ((w.pt (t.val / 8) (t.val % 8)).y1 (1024 * (t.val % 8) + 1024) a 0 : EReal) := by
  by_cases h0 : t.val % 8 = 0
  · have K := cols_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (ops E t) a
    rw [outsAt0_A m c t h0]
    dsimp only
    exact K
  · have S := sums E (t.val - 1) (Nat.lt_of_le_of_lt (Nat.sub_le _ _) t.isLt)
    have K := cols_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) _ _ _ (ops E t) (Sums.held S) a
    rw [outsAt0_B m c t h0]
    dsimp only
    exact K

end Cert.FoxIdeal.Tile

end
-- ==== Proof.FoxHeads.lean ====
/- The attention gradient by heads, over the reals: what the blocks of the kernel add up to. -/
module

public import proofs.«01_k».proof.Proof.FoxRun

@[expose] public section

set_option maxRecDepth 16384

noncomputable section

namespace Cert.FoxIdeal.Tile

open Idealize.ShloMosaic Idealize.ShloMosaic.TcCoe Cert.FoxIdeal Cert.FoxIdeal.Gen Cert.Reals

namespace Glob
variable (w : Glob)

/-- The logit of row `r` and column `j` of head `H`, without the row's forget sum. -/
def s (H r j : ℕ) : ℝ := ∑ d ∈ Finset.range 64, w.Q r (64 * H + d) * (1 / 8) * w.K j (64 * H + d) - w.C H j

/-- The weight. -/
def u (H r j : ℕ) : ℝ := if j ≤ r then Real.exp (w.s H r j - w.L H r) else 0

/-- The row's product of cotangent and output. -/
def δ (H r : ℕ) : ℝ := ∑ d ∈ Finset.range 64, w.G r (64 * H + d) * w.O r (64 * H + d)

/-- The cotangent of the weight. -/
def dp (H r j : ℕ) : ℝ := ∑ d ∈ Finset.range 64, w.G r (64 * H + d) * w.V j (64 * H + d)

/-- The gradient of the logit. -/
def b (H r j : ℕ) : ℝ := w.u H r j * (w.dp H r j - w.δ H r)

/-- The gradients. -/
def dq (r l : ℕ) : ℝ := (∑ j ∈ Finset.range 8192, w.b (l / 64) r j * w.K j l) * (1 / 8)
def dk (l j : ℕ) : ℝ := ∑ r ∈ Finset.range 8192, w.Q r l * (1 / 8) * w.b (l / 64) r j
def dv (l j : ℕ) : ℝ := ∑ r ∈ Finset.range 8192, w.G r l * w.u (l / 64) r j
def dcol (H j : ℕ) : ℝ := ∑ r ∈ Finset.range 8192, w.b H r j
def drow (H r : ℕ) : ℝ := ∑ j ∈ Finset.range 8192, w.b H r j

end Glob

/-- The first half of the lanes is one head's. -/
theorem sum_own0 {T : ℕ} (q : Fin T → Fin 128 → ℝ) (t : Fin T) (f : Fin 128 → ℝ) (g : ℕ → ℝ) (h : ∀ d : Fin 128, d.val < 64 → q t d * f d = g d.val) :
    ∑ d, own0 q t d * f d = ∑ d ∈ Finset.range 64, g d := by
  rw [← Fin.sum_congr' (fun d => own0 q t d * f d) (show 64 + 64 = 128 from rfl), Fin.sum_univ_add, Finset.sum_range]
  rw [Finset.sum_eq_zero (s := Finset.univ) (f := fun i : Fin 64 => own0 q t (Fin.cast _ (Fin.natAdd 64 i)) * f (Fin.cast _ (Fin.natAdd 64 i))), add_zero]
  · refine Finset.sum_congr rfl fun d _ => ?_
    unfold own0
    rw [if_pos (by simp)]
    exact h _ (by simp)
  · intro d _
    unfold own0
    rw [if_neg (by simp), zero_mul]

/-- The second half of the lanes is the other head's. -/
theorem sum_own1 {T : ℕ} (q : Fin T → Fin 128 → ℝ) (t : Fin T) (f : Fin 128 → ℝ) (g : ℕ → ℝ) (h : ∀ d : Fin 128, 64 ≤ d.val → q t d * f d = g (d.val - 64)) :
    ∑ d, own1 q t d * f d = ∑ d ∈ Finset.range 64, g d := by
  rw [← Fin.sum_congr' (fun d => own1 q t d * f d) (show 64 + 64 = 128 from rfl), Fin.sum_univ_add, Finset.sum_range]
  rw [Finset.sum_eq_zero (s := Finset.univ) (f := fun i : Fin 64 => own1 q t (Fin.cast _ (Fin.castAdd 64 i)) * f (Fin.cast _ (Fin.castAdd 64 i))), zero_add]
  · refine Finset.sum_congr rfl fun d _ => ?_
    unfold own1
    rw [if_pos (by simp)]
    exact (h _ (by simp)).trans (by simp)
  · intro d _
    unfold own1
    rw [if_neg (by simp), zero_mul]

/-- Eight blocks of rows are the rows. -/
theorem sum_blocks (f : ℕ → ℝ) (n : ℕ) : ∑ i ∈ Finset.range n, ∑ a : Fin 1024, f (1024 * i + a.val) = ∑ r ∈ Finset.range (1024 * n), f r := by
  induction n with
  | zero => simp
  | succ n ih => rw [Finset.sum_range_succ, ih, Nat.mul_succ, Finset.sum_range_add, Finset.sum_range (fun x => f (1024 * n + x))]

namespace Pt
variable (w : Glob) (h i : ℕ)

theorem W0_pt (a : Fin 1024) (j : ℕ) : (w.pt h i).W0 a j = w.u (2 * h) (1024 * i + a.val) j := by
  unfold W0 U0 Glob.u Glob.s
  rw [sum_own0 _ _ _ (fun d => w.Q (1024 * i + a.val) (64 * (2 * h) + d) * (1 / 8) * w.K j (64 * (2 * h) + d)) fun d _ => by
    simp only [Glob.pt, show 128 * h + d.val = 64 * (2 * h) + d.val by omega]]
  rfl

theorem W1_pt (a : Fin 1024) (j : ℕ) : (w.pt h i).W1 a j = w.u (2 * h + 1) (1024 * i + a.val) j := by
  unfold W1 U1 Glob.u Glob.s
  rw [sum_own1 _ _ _ (fun d => w.Q (1024 * i + a.val) (64 * (2 * h + 1) + d) * (1 / 8) * w.K j (64 * (2 * h + 1) + d)) fun d hd => by
    simp only [Glob.pt, show 64 * (2 * h + 1) + (d.val - 64) = 128 * h + d.val by omega]]
  rfl

theorem B0_pt (a : Fin 1024) (j : ℕ) : (w.pt h i).B0 a j = w.b (2 * h) (1024 * i + a.val) j := by
  unfold B0 δ0 Glob.b Glob.dp Glob.δ
  rw [W0_pt, sum_own0 _ _ _ (fun d => w.G (1024 * i + a.val) (64 * (2 * h) + d) * w.V j (64 * (2 * h) + d)) fun d _ => by
      simp only [Glob.pt, show 128 * h + d.val = 64 * (2 * h) + d.val by omega],
    sum_own0 _ _ _ (fun d => w.G (1024 * i + a.val) (64 * (2 * h) + d) * w.O (1024 * i + a.val) (64 * (2 * h) + d)) fun d _ => by
      simp only [Glob.pt, show 128 * h + d.val = 64 * (2 * h) + d.val by omega]]

theorem B1_pt (a : Fin 1024) (j : ℕ) : (w.pt h i).B1 a j = w.b (2 * h + 1) (1024 * i + a.val) j := by
  unfold B1 δ1 Glob.b Glob.dp Glob.δ
  rw [W1_pt, sum_own1 _ _ _ (fun d => w.G (1024 * i + a.val) (64 * (2 * h + 1) + d) * w.V j (64 * (2 * h + 1) + d)) fun d hd => by
      simp only [Glob.pt, show 64 * (2 * h + 1) + (d.val - 64) = 128 * h + d.val by omega],
    sum_own1 _ _ _ (fun d => w.G (1024 * i + a.val) (64 * (2 * h + 1) + d) * w.O (1024 * i + a.val) (64 * (2 * h + 1) + d)) fun d hd => by
      simp only [Glob.pt, show 64 * (2 * h + 1) + (d.val - 64) = 128 * h + d.val by omega]]

end Pt

namespace Glob
variable (w : Glob)

theorem u_zero {H r j : ℕ} (h : r < j) : w.u H r j = 0 := if_neg (by omega)
theorem b_zero {H r j : ℕ} (h : r < j) : w.b H r j = 0 := by unfold b; rw [w.u_zero h, zero_mul]

/-- A row's sum over the columns up to the end of its block is the sum over all columns. -/
theorem sum_cols {H r J : ℕ} (h : r < J) (hJ : J ≤ 8192) (f : ℕ → ℝ) :
    ∑ j ∈ Finset.range J, w.b H r j * f j = ∑ j ∈ Finset.range 8192, w.b H r j * f j :=
  Finset.sum_subset (Finset.range_subset_range.2 hJ) fun j _ hj => by
    rw [w.b_zero (by have := Finset.mem_range.not.1 hj; omega), zero_mul]

variable {h i : ℕ} (hi : i < 8)
include hi

theorem pt_dq (a : Fin 1024) (d : Fin 128) : (if d.val < 64 then (w.pt h i).y0 (1024 * i + 1024) a d else (w.pt h i).y1 (1024 * i + 1024) a d) * (1 / 8)
    = w.dq (1024 * i + a.val) (128 * h + d.val) := by
  unfold dq Pt.y0 Pt.y1
  congr 1
  split
  · next hd =>
    rw [show (128 * h + d.val) / 64 = 2 * h by omega]
    refine Eq.trans (Finset.sum_congr rfl fun j _ => ?_) (w.sum_cols (by omega) (by omega) _)
    rw [Pt.B0_pt]
    unfold keys0
    rw [if_pos hd]
    rfl
  · next hd =>
    rw [show (128 * h + d.val) / 64 = 2 * h + 1 by omega]
    refine Eq.trans (Finset.sum_congr rfl fun j _ => ?_) (w.sum_cols (by omega) (by omega) _)
    rw [Pt.B1_pt]
    unfold keys1
    rw [if_pos (by omega)]
    rfl

theorem pt_row0 (a : Fin 1024) : (w.pt h i).y0 (1024 * i + 1024) a 64 = w.drow (2 * h) (1024 * i + a.val) := by
  unfold drow Pt.y0
  refine Eq.trans (Finset.sum_congr rfl fun j _ => ?_) ((w.sum_cols (H := 2 * h) (r := 1024 * i + a.val) (J := 1024 * i + 1024) (by omega) (by omega) fun _ => 1).trans (by simp))
  rw [Pt.B0_pt]
  rfl

theorem pt_row1 (a : Fin 1024) : (w.pt h i).y1 (1024 * i + 1024) a 0 = w.drow (2 * h + 1) (1024 * i + a.val) := by
  unfold drow Pt.y1
  refine Eq.trans (Finset.sum_congr rfl fun j _ => ?_) ((w.sum_cols (H := 2 * h + 1) (r := 1024 * i + a.val) (J := 1024 * i + 1024) (by omega) (by omega) fun _ => 1).trans (by simp))
  rw [Pt.B1_pt]
  rfl

omit hi

theorem pts_dk (r : Fin 128) (j : ℕ) : ∑ i ∈ Finset.range 8, (w.pt h i).dk r j = w.dk (128 * h + r.val) j := by
  unfold dk Pt.dk
  by_cases hr : r.val < 64
  · rw [show (128 * h + r.val) / 64 = 2 * h by omega, ← sum_blocks _ 8]
    refine Finset.sum_congr rfl fun i _ => ?_
    rw [if_pos hr]
    refine Finset.sum_congr rfl fun a _ => ?_
    rw [Pt.B0_pt]
    unfold keys0
    rw [if_pos hr]
    rfl
  · rw [show (128 * h + r.val) / 64 = 2 * h + 1 by omega, ← sum_blocks _ 8]
    refine Finset.sum_congr rfl fun i _ => ?_
    rw [if_neg hr]
    refine Finset.sum_congr rfl fun a _ => ?_
    rw [Pt.B1_pt]
    unfold keys1
    rw [if_pos (by omega)]
    rfl

theorem pts_dv (r : Fin 128) (j : ℕ) : ∑ i ∈ Finset.range 8, (w.pt h i).dv r j = w.dv (128 * h + r.val) j := by
  unfold dv Pt.dv own0 own1
  by_cases hr : r.val < 64
  · rw [show (128 * h + r.val) / 64 = 2 * h by omega, ← sum_blocks _ 8]
    refine Finset.sum_congr rfl fun i _ => ?_
    simp only [if_pos hr, if_neg (show ¬64 ≤ r.val by omega), zero_mul, Finset.sum_const_zero, add_zero]
    refine Finset.sum_congr rfl fun a _ => ?_
    rw [Pt.W0_pt]
    rfl
  · rw [show (128 * h + r.val) / 64 = 2 * h + 1 by omega, ← sum_blocks _ 8]
    refine Finset.sum_congr rfl fun i _ => ?_
    simp only [if_neg hr, if_pos (show 64 ≤ r.val by omega), zero_mul, Finset.sum_const_zero, zero_add]
    refine Finset.sum_congr rfl fun a _ => ?_
    rw [Pt.W1_pt]
    rfl

theorem pts_dc (r : Fin 8) (j : ℕ) : -∑ i ∈ Finset.range 8, (w.pt h i).dc r j = if r.val < 2 then -w.dcol (2 * h + r.val) j else 0 := by
  unfold dcol Pt.dc Pt.dc0 Pt.dc1
  by_cases h0 : r.val = 0
  · simp only [if_pos h0]
    rw [if_pos (by omega), h0, Nat.add_zero, ← sum_blocks _ 8]
    refine congrArg _ (Finset.sum_congr rfl fun i _ => Finset.sum_congr rfl fun a _ => ?_)
    rw [Pt.B0_pt]
    exact one_mul _
  · by_cases h1 : r.val = 1
    · simp only [if_neg h0, if_pos h1]
      rw [if_pos (by omega), h1, ← sum_blocks _ 8]
      refine congrArg _ (Finset.sum_congr rfl fun i _ => Finset.sum_congr rfl fun a _ => ?_)
      rw [Pt.B1_pt]
      exact one_mul _
    · simp only [if_neg h0, if_neg h1]
      rw [if_neg (by omega)]
      simp

end Glob

variable {m : (ℓ : Loc nD τ sig) → Buf (Elt Ideal) ℓ} {c : Dev nD} {w : Glob} (E : Entry m c w)
include E

theorem arr_dq : (dats m 0 c).arrAt 7 cfg0.N = (fun x => ((w.dq (x 0).val (x 1).val : ℝ) : EReal) : Vec Ideal S8192x512 .bf16) := by
  refine (dats m 0 c).arrAt_eq_of_covers 7 _ (by decide +kernel) fun t hf y => ?_
  blk_simp
  rw [after0_7]
  obtain ⟨a, d, rfl⟩ : ∃ (a : Fin 1024) (d : Fin 128), y = ix2 a d := ⟨y 0, y 1, eq_ix2 y⟩
  have K := rows E t a d
  dsimp only at K
  rw [Glob.pt_dq w (Nat.mod_lt _ (by norm_num))] at K
  refine K.trans ?_
  rw [(idx_out t).1]
  congr 2 <;> simp [Nat.mul_comm]

omit E in
theorem flushes (t : Fin cfg0.N) : ((cfg0.win 8).flush t = true → t.val % 8 + 1 = 8) ∧ ((cfg0.win 9).flush t = true → t.val % 8 + 1 = 8)
    ∧ ((cfg0.win 10).flush t = true → t.val % 8 + 1 = 8) := by
  revert t; decide +kernel

theorem arr_dk : (dats m 0 c).arrAt 8 cfg0.N = (fun x => ((w.dk (x 0).val (x 1).val : ℝ) : EReal) : Vec Ideal S512x8192 .f32) := by
  refine (dats m 0 c).arrAt_eq_of_covers 8 _ (by decide +kernel) fun t hf y => ?_
  blk_simp
  rw [after0_8]
  obtain ⟨r, j, rfl⟩ : ∃ (r : Fin 128) (j : Fin 8192), y = ix2 r j := ⟨y 0, y 1, eq_ix2 y⟩
  have K := (sums E t.val t.isLt).dk r j
  dsimp only at K
  rw [(flushes t).1 hf, Glob.pts_dk w] at K
  refine K.trans ?_
  rw [(idx_out t).2.1]
  congr 2 <;> simp [Nat.mul_comm]

theorem arr_dv : (dats m 0 c).arrAt 9 cfg0.N = (fun x => ((w.dv (x 0).val (x 1).val : ℝ) : EReal) : Vec Ideal S512x8192 .f32) := by
  refine (dats m 0 c).arrAt_eq_of_covers 9 _ (by decide +kernel) fun t hf y => ?_
  blk_simp
  rw [after0_9]
  obtain ⟨r, j, rfl⟩ : ∃ (r : Fin 128) (j : Fin 8192), y = ix2 r j := ⟨y 0, y 1, eq_ix2 y⟩
  have K := (sums E t.val t.isLt).dv r j
  dsimp only at K
  rw [(flushes t).2.1 hf, Glob.pts_dv w] at K
  refine K.trans ?_
  rw [(idx_out t).2.2.1]
  congr 2 <;> simp [Nat.mul_comm]

theorem arr_dc : (dats m 0 c).arrAt 10 cfg0.N = (fun x => ((if (x 1).val < 2 then -w.dcol (2 * (x 0).val + (x 1).val) (x 2).val else 0 : ℝ) : EReal) : Vec Ideal S4x8x8192 .f32) := by
  refine (dats m 0 c).arrAt_eq_of_covers 10 _ (by decide +kernel) fun t hf y => ?_
  blk_simp
  rw [after0_10]
  obtain ⟨a, r, j, rfl⟩ : ∃ (a : Fin 1) (r : Fin 8) (j : Fin 8192), y = ix3 a r j := ⟨y 0, y 1, y 2, eq_ix3 y⟩
  obtain rfl : a = 0 := Subsingleton.elim _ _
  have K := (sums E t.val t.isLt).dc r j
  rw [(flushes t).2.2 hf, Glob.pts_dc w] at K
  refine K.trans ?_
  rw [(idx_out t).2.2.2.1]
  simp

theorem arr_dr : (dats m 0 c).arrAt 11 cfg0.N = (fun x => ((w.drow (2 * (x 0).val + (x 2).val) (x 1).val : ℝ) : EReal) : Vec Ideal S4x8192x2 .f32) := by
  refine (dats m 0 c).arrAt_eq_of_covers 11 _ (by decide +kernel) fun t hf y => ?_
  blk_simp
  rw [after0_11]
  obtain ⟨h, a, e, rfl⟩ : ∃ (h : Fin 1) (a : Fin 1024) (e : Fin 2), y = ix3 h a e := ⟨y 0, y 1, y 2, eq_ix3 y⟩
  obtain rfl : h = 0 := Subsingleton.elim _ _
  have K := cols E t a
  rw [Glob.pt_row0 w (Nat.mod_lt _ (by norm_num)), Glob.pt_row1 w (Nat.mod_lt _ (by norm_num))] at K
  rw [(idx_out t).2.2.2.2]
  fin_cases e
  · refine K.1.trans ?_
    congr 2 <;> simp [Nat.mul_comm]
  · refine K.2.trans ?_
    congr 2 <;> simp [Nat.mul_comm]

end Cert.FoxIdeal.Tile

end
-- ==== Proof.FoxSoft.lean ====
/- The masked logits of the attention, their row maxima, exponentials and sums as the host computes them, over the reals. -/
module

public import proofs.«01_k».proof.Proof.FoxHeads

@[expose] public section

set_option maxRecDepth 16384

noncomputable section

namespace Cert.FoxIdeal.Soft

open Idealize.ShloMosaic Idealize.ShloMosaic.TcCoe Cert.FoxIdeal Cert.FoxIdeal.Gen Cert.Reals Cert.Scalars

/-- The entries on and left of the diagonal are real, the others `-∞`. -/
def Low (v : S8x8192x8192.Idx → EReal) (f : ℕ → ℕ → ℕ → ℝ) : Prop := ∀ h r j, v (ix3 h r j) = if j.val ≤ r.val then (f h.val r.val j.val : EReal) else ⊥

/-- Zero right of the diagonal. -/
def low (f : ℕ → ℕ → ℕ → ℝ) (h r j : ℕ) : ℝ := if j ≤ r then f h r j else 0

def heads (x : Vec Ideal S8192x512 .f32) : Vec Ideal S8192x8x64 .f32 := shapeCast _ x shapeCasts_S8192x512_S8192x8x64

theorem heads_at {x : Vec Ideal S8192x512 .f32} {f : ℕ → ℕ → ℝ} (hx : Is2 x f) : Is3 (heads x) fun r h d => f r (64 * h + d) := by
  intro r h d
  pointwise [heads]
  rw [hx]
  congr 2
  show h.val * 64 + d.val = 64 * h.val + d.val
  omega

def scaled (x : Vec Ideal S8192x512 .f32) : Vec Ideal S8192x512 .f32 :=
  mulf (x : FVec Ideal S8192x512 .f32) (broadcastInDim S8192x512 ![] bcast_S_S8192x512 (constant (F := Ideal) S_ .f32 0x3E000000#32))

theorem eighth : Ideal.ofBits .f32 0x3E000000#32 = ((1 / 8 : ℝ) : EReal) := by
  simp [Ideal.ofBits, Ideal.ieee, -EReal.coe_mul]
  norm_num

theorem scaled_at {x : Vec Ideal S8192x512 .f32} {f : ℕ → ℕ → ℝ} (hx : Is2 x f) : Is2 (scaled x) fun r l => f r l * (1 / 8) := by
  intro r l
  pointwise [scaled]
  rw [hx, eighth, ← EReal.coe_mul]

def logits (q k : Vec Ideal S8192x512 .f32) : Vec Ideal S8x8192x8192 .f32 :=
  Host.dotGeneral (F := Ideal) (φ₁ := .f32) (φ₂ := .f32) dot_S8192x8x64_S8192x8x64_S8x8192x8192_2_2_0_0_1_1 none (heads (scaled q)) (heads k)

theorem logits_at {q k : Vec Ideal S8192x512 .f32} {Q K : ℕ → ℕ → ℝ} (hq : Is2 q Q) (hk : Is2 k K) :
    Is3 (logits q k) fun h r j => ∑ d ∈ Finset.range 64, Q r (64 * h + d) * (1 / 8) * K j (64 * h + d) := by
  intro h r j
  pointwise [logits]
  simp only [heads_at (scaled_at hq) _ _ _, heads_at hk _ _ _, ← EReal.coe_mul, ← coe_sum]
  rw [Finset.sum_range]

/-- Which columns a row sees. -/
def sees : Vec Ideal S8192x8192 .i1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

theorem sees_at (r j : Fin 8192) : sees (ix2 r j) = BitVec.ofBool (decide (j.val ≤ r.val)) := by
  pointwise [sees]
  have hr := r.isLt
  have hj := j.isLt
  rw [WordCmp.cmpi_sle_ofNat (by omega) (by omega)]

def masked (x : Vec Ideal S8x8192x8192 .f32) : Vec Ideal S8x8192x8192 .f32 :=
  select (broadcastInDim S8x8192x8192 ![1, 2] bcast_S8192x8192_S8x8192x8192_1_2 sees) x
    (broadcastInDim S8x8192x8192 ![] bcast_S_S8x8192x8192 (constant (F := Ideal) S_ .f32 0xFF800000#32))

theorem bot_bits : Ideal.ofBits .f32 0xFF800000#32 = (⊥ : EReal) := by
  simp [Ideal.ofBits, Ideal.ieee]

theorem masked_at {x : Vec Ideal S8x8192x8192 .f32} {f : ℕ → ℕ → ℕ → ℝ} (hx : Is3 x f) : Low (masked x) f := by
  intro h r j
  pointwise [masked]
  rw [hx, sees_at, select_ofBool, bot_bits]
  simp

def tops (x : Vec Ideal S8x8192x8192 .f32) : Vec Ideal S8x8192 .f32 :=
  Host.reduce (FloatOps.maximumf (F := Ideal) (φ := .f32)) x (constant (F := Ideal) S_ .f32 0xFF800000#32) reducesTo_S8x8192x8192_S8x8192_d2 h_S_

theorem tops_at {x : Vec Ideal S8x8192x8192 .f32} {f : ℕ → ℕ → ℕ → ℝ} (hx : Low x f) : ∃ M : ℕ → ℕ → ℝ, Is2 (tops x) M := by
  have key : ∀ (h : Fin 8) (r : Fin 8192), ∃ y : ℝ, tops x (ix2 h r) = (y : EReal) := by
    intro h r
    pointwise [tops]
    rw [bot_bits]
    have lo : ⊥ < Finset.fold max (⊥ : EReal) (fun j => x (ix3 h r j)) Finset.univ := by
      refine (Finset.lt_fold_max _).2 (.inr ⟨⟨0, by omega⟩, Finset.mem_univ _, ?_⟩)
      rw [hx, if_pos (Nat.zero_le _)]
      exact EReal.bot_lt_coe _
    have hi : Finset.fold max (⊥ : EReal) (fun j => x (ix3 h r j)) Finset.univ < ⊤ := by
      refine (Finset.fold_max_lt _).2 ⟨bot_lt_top, fun j _ => ?_⟩
      rw [hx]
      split
      · exact EReal.coe_lt_top _
      · exact bot_lt_top
    exact ⟨_, (EReal.coe_toReal hi.ne lo.ne').symm⟩
  choose M hM using key
  refine ⟨fun h r => if hh : h < 8 ∧ r < 8192 then M ⟨h, hh.1⟩ ⟨r, hh.2⟩ else 0, fun h r => ?_⟩
  rw [hM h r]
  show _ = ((if hh : h.val < 8 ∧ r.val < 8192 then M ⟨h.val, hh.1⟩ ⟨r.val, hh.2⟩ else 0 : ℝ) : EReal)
  rw [dif_pos ⟨h.isLt, r.isLt⟩]

def exps (x : Vec Ideal S8x8192x8192 .f32) (y : Vec Ideal S8x8192 .f32) : Vec Ideal S8x8192x8192 .f32 :=
  Host.exp (F := Ideal) (φ := .f32) (subf (F := Ideal) (φ := .f32) x (broadcastInDim S8x8192x8192 ![0, 1, 2] bcast_S8x8192x1_S8x8192x8192_0_1_2
    (broadcastInDim S8x8192x1 ![0, 1] bcast_S8x8192_S8x8192x1_0_1 y)))

theorem exps_at {x : Vec Ideal S8x8192x8192 .f32} {y : Vec Ideal S8x8192 .f32} {f : ℕ → ℕ → ℕ → ℝ} {M : ℕ → ℕ → ℝ} (hx : Low x f) (hy : Is2 y M) :
    Is3 (exps x y) (low fun h r j => Real.exp (f h r j - M h r)) := by
  intro h r j
  pointwise [exps]
  rw [hx, hy]
  unfold low
  split
  · rw [← EReal.coe_sub, exp_coe]
  · rw [EReal.bot_sub, exp_bot, EReal.coe_zero]

def sums (x : Vec Ideal S8x8192x8192 .f32) : Vec Ideal S8x8192 .f32 :=
  Host.reduceAdd (F := Ideal) (φ := .f32) x (constant (F := Ideal) S_ .f32 0x00000000#32) reducesTo_S8x8192x8192_S8x8192_d2 h_S_

theorem sums_at {x : Vec Ideal S8x8192x8192 .f32} {f : ℕ → ℕ → ℕ → ℝ} (hx : Is3 x f) : Is2 (sums x) fun h r => ∑ j ∈ Finset.range 8192, f h r j := by
  intro h r
  pointwise [sums]
  simp only [hx _ _ _, ← coe_sum]
  rw [Finset.sum_range]

def shifted (x : Vec Ideal S8x8192x8192 .f32) (c : Vec Ideal S8x8192 .f32) : Vec Ideal S8x8192x8192 .f32 :=
  subf (F := Ideal) (φ := .f32) x (broadcastInDim S8x8192x8192 ![0, 1, 2] bcast_S8x1x8192_S8x8192x8192_0_1_2 (broadcastInDim S8x1x8192 ![0, 2] bcast_S8x8192_S8x1x8192_0_2 c))

theorem shifted_at {x : Vec Ideal S8x8192x8192 .f32} {c : Vec Ideal S8x8192 .f32} {f : ℕ → ℕ → ℕ → ℝ} {C : ℕ → ℕ → ℝ} (hx : Is3 x f) (hc : Is2 c C) :
    Is3 (shifted x c) fun h r j => f h r j - C h j := by
  intro h r j
  pointwise [shifted]
  rw [hx, hc, ← EReal.coe_sub]

def column (x : Vec Ideal S8x8192 .f32) : Vec Ideal S8x8192x1 .f32 := broadcastInDim S8x8192x1 ![0, 1] bcast_S8x8192_S8x8192x1_0_1 x

def spread (x : Vec Ideal S8x8192x1 .f32) : Vec Ideal S8x8192x8192 .f32 := broadcastInDim S8x8192x8192 ![0, 1, 2] bcast_S8x8192x1_S8x8192x8192_0_1_2 x

/-- Maximum plus logarithm of the sum, as the kernel takes it. -/
def lse (y z : Vec Ideal S8x8192 .f32) : Vec Ideal S4x8192x2 .f32 :=
  transpose S4x8192x2 [0, 2, 1] (shapeCast _ (shapeCast _ (addf (F := Ideal) (φ := .f32) (column y) (Host.log (F := Ideal) (φ := .f32) (column z))) shapeCasts_S8x8192x1_S8x8192)
    shapeCasts_S8x8192_S4x2x8192) transposes_S4x2x8192_S4x8192x2_0_2_1

theorem lse_at {y z : Vec Ideal S8x8192 .f32} {M Z : ℕ → ℕ → ℝ} (hy : Is2 y M) (hz : Is2 z Z) (pos : ∀ h r, r < 8192 → 0 < Z h r) :
    Is3 (lse y z) fun h r e => M (2 * h + e) r + Real.log (Z (2 * h + e) r) := by
  intro h r e
  pointwise [lse, column]
  rw [hy, hz, log_coe (pos _ _ r.isLt), ← EReal.coe_add]
  simp only [Nat.mul_comm 2]

def quotient (x : Vec Ideal S8x8192x8192 .f32) (z : Vec Ideal S8x8192 .f32) : Vec Ideal S8x8192x8192 .f32 :=
  Host.divf (F := Ideal) (φ := .f32) x (spread (column z))

theorem quotient_at {x : Vec Ideal S8x8192x8192 .f32} {z : Vec Ideal S8x8192 .f32} {f : ℕ → ℕ → ℕ → ℝ} {Z : ℕ → ℕ → ℝ} (hx : Is3 x f) (hz : Is2 z Z)
    (pos : ∀ h r, r < 8192 → 0 < Z h r) : Is3 (quotient x z) fun h r j => f h r j / Z h r := by
  intro h r j
  pointwise [quotient, spread, column]
  rw [hx, hz, div_coe (pos _ _ r.isLt).ne']

/-- The weighted rows of `v`, each head's in its own lanes. -/
def mixed (p : Vec Ideal S8x8192x8192 .f32) (v : Vec Ideal S8192x512 .f32) : Vec Ideal S8192x512 .f32 :=
  shapeCast _ (transpose S8192x8x64 [2, 0, 1] (Host.dotGeneral (F := Ideal) (φ₁ := .f32) (φ₂ := .f32) dot_S8192x8x64_S8x8192x8192_S8x64x8192_0_2_2_1_1_0 none (heads v) p)
    transposes_S8x64x8192_S8192x8x64_2_0_1) shapeCasts_S8192x8x64_S8192x512

theorem mixed_at {p : Vec Ideal S8x8192x8192 .f32} {v : Vec Ideal S8192x512 .f32} {f : ℕ → ℕ → ℕ → ℝ} {V : ℕ → ℕ → ℝ} (hp : Is3 p f) (hv : Is2 v V) :
    Is2 (mixed p v) fun r l => ∑ j ∈ Finset.range 8192, f (l / 64) r j * V j l := by
  intro r l
  pointwise [mixed]
  simp only [heads_at hv _ _ _, hp _ _ _, ← EReal.coe_mul, ← coe_sum]
  rw [Finset.sum_range]
  refine congrArg _ (Finset.sum_congr rfl fun j _ => ?_)
  rw [show 64 * (l.val / 64) + l.val % 64 = l.val from Nat.div_add_mod _ _, mul_comm]

end Cert.FoxIdeal.Soft

end
-- ==== Proof.FoxHost.lean ====
/- The numbers the attention's backward call works from when every argument is finite: the launch finds the packed operands, the
   forward output and the row log-sums the host lines leave. -/
module

public import proofs.«01_k».proof.Proof.FoxSoft

@[expose] public section

set_option maxRecDepth 16384

noncomputable section

namespace Cert.FoxIdeal.Soft

open Idealize.ShloMosaic Idealize.ShloMosaic.TcCoe Cert.FoxIdeal Cert.FoxIdeal.Gen Cert.Reals Cert.Scalars Cert.FoxIdeal.Tile

/-- The five arguments as real numbers, before the forward pass. -/
def Plain (Q K V G C : ℕ → ℕ → ℝ) : Glob := { Q := Q, K := K, V := V, O := fun _ _ => 0, G := G, C := C, L := fun _ _ => 0 }

section Model

variable (Q K V G C : ℕ → ℕ → ℝ)

/-- The attention's weight before division. -/
def raw (h r j : ℕ) : ℝ := low (fun h r j => Real.exp ((Plain Q K V G C).s h r j)) h r j

def total (h r : ℕ) : ℝ := ∑ j ∈ Finset.range 8192, raw Q K V G C h r j

/-- The attention's weight. -/
def weight (h r j : ℕ) : ℝ := raw Q K V G C h r j / total Q K V G C h r

/-- The arguments with the forward pass's output and log-sums. -/
def glob : Glob :=
  { Q := Q, K := K, V := V, G := G, C := C
    O := fun r l => ∑ j ∈ Finset.range 8192, weight Q K V G C (l / 64) r j * V j l
    L := fun h r => Real.log (total Q K V G C h r) }

theorem low_sum_pos {f : ℕ → ℕ → ℕ → ℝ} (hf : ∀ h r j, 0 < f h r j) (h r : ℕ) (hr : r < 8192) : 0 < ∑ j ∈ Finset.range 8192, low f h r j := by
  refine Finset.sum_pos' (fun j _ => ?_) ⟨0, Finset.mem_range.2 (by omega), ?_⟩
  · unfold low
    split
    · exact (hf h r j).le
    · exact le_rfl
  · unfold low
    rw [if_pos (Nat.zero_le _)]
    exact hf h r 0

theorem total_pos (h r : ℕ) (hr : r < 8192) : 0 < total Q K V G C h r := low_sum_pos (fun _ _ _ => Real.exp_pos _) h r hr

/-- Subtracting a row's number from the logits scales the exponentials. -/
theorem low_shift (f : ℕ → ℕ → ℕ → ℝ) (M : ℕ → ℕ → ℝ) (h r j : ℕ) :
    low (fun h r j => Real.exp (f h r j - M h r)) h r j = low (fun h r j => Real.exp (f h r j)) h r j * Real.exp (-M h r) := by
  unfold low
  split
  · show Real.exp (f h r j - M h r) = Real.exp (f h r j) * Real.exp (-M h r)
    rw [sub_eq_add_neg, Real.exp_add]
  · rw [zero_mul]

theorem sum_shift (f : ℕ → ℕ → ℕ → ℝ) (M : ℕ → ℕ → ℝ) (h r : ℕ) :
    ∑ j ∈ Finset.range 8192, low (fun h r j => Real.exp (f h r j - M h r)) h r j
      = (∑ j ∈ Finset.range 8192, low (fun h r j => Real.exp (f h r j)) h r j) * Real.exp (-M h r) := by
  rw [Finset.sum_mul]
  exact Finset.sum_congr rfl fun j _ => low_shift f M h r j

/-- The weights do not depend on the number subtracted. -/
theorem quotient_shift (f : ℕ → ℕ → ℕ → ℝ) (M : ℕ → ℕ → ℝ) (h r j : ℕ) :
    low (fun h r j => Real.exp (f h r j - M h r)) h r j / ∑ j ∈ Finset.range 8192, low (fun h r j => Real.exp (f h r j - M h r)) h r j
      = low (fun h r j => Real.exp (f h r j)) h r j / ∑ j ∈ Finset.range 8192, low (fun h r j => Real.exp (f h r j)) h r j := by
  rw [low_shift, sum_shift, mul_div_mul_right _ _ (Real.exp_pos _).ne']

theorem log_shift (f : ℕ → ℕ → ℕ → ℝ) (M : ℕ → ℕ → ℝ) (h r : ℕ) (hr : r < 8192) :
    M h r + Real.log (∑ j ∈ Finset.range 8192, low (fun h r j => Real.exp (f h r j - M h r)) h r j)
      = Real.log (∑ j ∈ Finset.range 8192, low (fun h r j => Real.exp (f h r j)) h r j) := by
  rw [sum_shift, Real.log_mul (low_sum_pos (fun _ _ _ => Real.exp_pos _) h r hr).ne' (Real.exp_pos _).ne', Real.log_exp]
  ring

theorem glob_s (h r j : ℕ) : (glob Q K V G C).s h r j = (Plain Q K V G C).s h r j := rfl

theorem glob_u (h r j : ℕ) (hr : r < 8192) : (glob Q K V G C).u h r j = weight Q K V G C h r j := by
  unfold Glob.u weight
  rw [glob_s]
  unfold raw low
  split
  · show Real.exp (_ - Real.log (total Q K V G C h r)) = _
    rw [Real.exp_sub, Real.exp_log (total_pos Q K V G C h r hr)]
  · rw [zero_div]

/-- The output times its cotangent is the weighted mean of the columns' products. -/
theorem glob_δ (h r : ℕ) : (glob Q K V G C).δ h r = ∑ j ∈ Finset.range 8192, weight Q K V G C h r j * (glob Q K V G C).dp h r j := by
  unfold Glob.δ Glob.dp
  simp only [Finset.mul_sum]
  rw [Finset.sum_comm]
  refine Finset.sum_congr rfl fun d hd => ?_
  show G r (64 * h + d) * (∑ j ∈ Finset.range 8192, weight Q K V G C ((64 * h + d) / 64) r j * V j (64 * h + d)) = _
  rw [show (64 * h + d) / 64 = h by have := Finset.mem_range.1 hd; omega, Finset.mul_sum]
  refine Finset.sum_congr rfl fun j _ => ?_
  show _ = weight Q K V G C h r j * (G r (64 * h + d) * V j (64 * h + d))
  ring

/-- The host's logits of the kernel's side. -/
def logitsOf (q k : Vec Ideal S8192x512 .f32) (c : Vec Ideal S8x8192 .f32) : Vec Ideal S8x8192x8192 .f32 := masked (shifted (logits q k) c)

theorem logitsOf_at {q k : Vec Ideal S8192x512 .f32} {c : Vec Ideal S8x8192 .f32} {Q K C : ℕ → ℕ → ℝ} (hq : Is2 q Q) (hk : Is2 k K) (hc : Is2 c C) :
    Low (logitsOf q k c) (Plain Q K V G C).s := masked_at (shifted_at (logits_at hq hk) hc)

def lseOf (x : Vec Ideal S8x8192x8192 .f32) : Vec Ideal S4x8192x2 .f32 := lse (tops x) (sums (exps x (tops x)))

def outOf (x : Vec Ideal S8x8192x8192 .f32) (v : Vec Ideal S8192x512 .f32) : Vec Ideal S8192x512 .f32 :=
  mixed (quotient (exps x (tops x)) (sums (exps x (tops x)))) v

theorem lseOf_at {q k : Vec Ideal S8192x512 .f32} {c : Vec Ideal S8x8192 .f32} {Q K C : ℕ → ℕ → ℝ} (hq : Is2 q Q) (hk : Is2 k K) (hc : Is2 c C) (h : Fin 4)
    (r : Fin 8192) (e : Fin 2) : lseOf (logitsOf q k c) (ix3 h r e) = ((glob Q K V G C).L (2 * h.val + e.val) r.val : EReal) := by
  have hx := logitsOf_at V G hq hk hc
  obtain ⟨M, hM⟩ := tops_at hx
  refine (lse_at hM (sums_at (exps_at hx hM)) (fun a b hb => low_sum_pos (fun _ _ _ => Real.exp_pos _) a b hb) h r e).trans (congrArg _ ?_)
  exact log_shift _ M _ _ r.isLt

theorem outOf_at {q k v : Vec Ideal S8192x512 .f32} {c : Vec Ideal S8x8192 .f32} {Q K V C : ℕ → ℕ → ℝ} (hq : Is2 q Q) (hk : Is2 k K) (hv : Is2 v V)
    (hc : Is2 c C) (r : Fin 8192) (l : Fin 512) : outOf (logitsOf q k c) v (ix2 r l) = ((glob Q K V G C).O r l : EReal) := by
  have hx := logitsOf_at V G hq hk hc
  obtain ⟨M, hM⟩ := tops_at hx
  have he := exps_at hx hM
  refine (mixed_at (quotient_at he (sums_at he) fun a b hb => low_sum_pos (fun _ _ _ => Real.exp_pos _) a b hb) hv r l).trans (congrArg _ ?_)
  exact Finset.sum_congr rfl fun j _ => congrArg (· * _) (quotient_shift _ M _ _ _)

/-- An argument of the launch, its float format dropped. -/
def wide (b : Vec Ideal S8192x512 .bf16) : Vec Ideal S8192x512 .f32 := extf (F := Ideal) (φ := .bf16) .f32 b bitsLt_bf16_f32

theorem wide_at {b : Vec Ideal S8192x512 .bf16} {f : ℕ → ℕ → ℝ} (hb : Is2 b f) : Is2 (wide b) f := fun r l => by
  pointwise [wide]
  exact hb r l

end Model

variable (m : (ℓ : Loc nD τ sig) → Buf (Elt Ideal) ℓ) (c : Dev nD)

theorem V_lse : (V m c main_v36 : Vec Ideal S4x8192x2 .f32)
    = lseOf (logitsOf (wide (m ((c : Thread nD τ).loc main_arg0))) (wide (m ((c : Thread nD τ).loc main_arg1))) (m ((c : Thread nD τ).loc main_arg3))) := by
  unfold_abbrev_sides
  simp only [hostOps0, hostOps0_1, hostOps0_2, List.flatten_cons, List.flatten_nil, List.append_nil, List.cons_append, List.nil_append]
  after_results_simp
  rfl

theorem V_out : (V m c main_v34 : Vec Ideal S8192x512 .f32)
    = outOf (logitsOf (wide (m ((c : Thread nD τ).loc main_arg0))) (wide (m ((c : Thread nD τ).loc main_arg1))) (m ((c : Thread nD τ).loc main_arg3)))
      (wide (m ((c : Thread nD τ).loc main_arg2))) := by
  unfold_abbrev_sides
  simp only [hostOps0, hostOps0_1, hostOps0_2, List.flatten_cons, List.flatten_nil, List.append_nil, List.cons_append, List.nil_append]
  after_results_simp
  rfl

theorem V_qkv : (V m c main_v0 : Vec Ideal S8192x1536 .bf16)
    = concatenate S8192x1536 1 [⟨S8192x512, m ((c : Thread nD τ).loc main_arg0)⟩, ⟨S8192x512, m ((c : Thread nD τ).loc main_arg1)⟩,
      ⟨S8192x512, m ((c : Thread nD τ).loc main_arg2)⟩] concatenates_S8192x512_S8192x512_S8192x512_S8192x1536_d1 := by
  unfold_abbrev_sides
  simp only [hostOps0, hostOps0_1, hostOps0_2, List.flatten_cons, List.flatten_nil, List.append_nil, List.cons_append, List.nil_append]
  after_results_simp
  rfl

theorem entry {Q K W G C : ℕ → ℕ → ℝ} (hq : Is2 (m ((c : Thread nD τ).loc main_arg0) : Vec Ideal S8192x512 .bf16) Q)
    (hk : Is2 (m ((c : Thread nD τ).loc main_arg1) : Vec Ideal S8192x512 .bf16) K) (hv : Is2 (m ((c : Thread nD τ).loc main_arg2) : Vec Ideal S8192x512 .bf16) W)
    (hc : Is2 (m ((c : Thread nD τ).loc main_arg3) : Vec Ideal S8x8192 .f32) C) (hg : Is2 (m ((c : Thread nD τ).loc main_arg4) : Vec Ideal S8192x512 .f32) G) :
    Entry m c (glob Q K W G C) where
  q r l hl := by
    refine (congrFun (V_qkv m c) _).trans ?_
    generalize (m ((c : Thread nD τ).loc main_arg0) : Vec Ideal S8192x512 .bf16) = x at hq ⊢
    generalize (m ((c : Thread nD τ).loc main_arg1) : Vec Ideal S8192x512 .bf16) = y
    generalize (m ((c : Thread nD τ).loc main_arg2) : Vec Ideal S8192x512 .bf16) = z
    pointwise
    rw [dif_pos hl]
    exact hq r ⟨l.val, hl⟩
  k r l d hl hd := by
    refine (congrFun (V_qkv m c) _).trans ?_
    generalize (m ((c : Thread nD τ).loc main_arg0) : Vec Ideal S8192x512 .bf16) = x
    generalize (m ((c : Thread nD τ).loc main_arg1) : Vec Ideal S8192x512 .bf16) = y at hk ⊢
    generalize (m ((c : Thread nD τ).loc main_arg2) : Vec Ideal S8192x512 .bf16) = z
    pointwise
    rw [dif_neg (by omega), dif_pos (by omega)]
    exact (hk r ⟨l.val - 512, by omega⟩).trans (congrArg (fun n => (K r n : EReal)) (show l.val - 512 = d by omega))
  v r l d hl := by
    refine (congrFun (V_qkv m c) _).trans ?_
    generalize (m ((c : Thread nD τ).loc main_arg0) : Vec Ideal S8192x512 .bf16) = x
    generalize (m ((c : Thread nD τ).loc main_arg1) : Vec Ideal S8192x512 .bf16) = y
    generalize (m ((c : Thread nD τ).loc main_arg2) : Vec Ideal S8192x512 .bf16) = z at hv ⊢
    pointwise
    rw [dif_neg (by omega), dif_neg (by omega)]
    exact (hv r ⟨l.val - 512 - 512, by omega⟩).trans (congrArg (fun n => (W r n : EReal)) (show l.val - 512 - 512 = d by omega))
  cum h j := (congrFun (V_main_arg3 m c) _).trans (hc h j)
  o r l := (congrFun (V_out m c) _).trans (outOf_at G (wide_at hq) (wide_at hk) (wide_at hv) hc r l)
  g r l := (congrFun (V_main_arg4 m c) _).trans (hg r l)
  l h r e := (congrFun (V_lse m c) _).trans (lseOf_at W G (wide_at hq) (wide_at hk) hc h r e)

end Cert.FoxIdeal.Soft

end
-- ==== Proof.FoxRef.lean ====
/- The reference's gradients of the attention over the reals: the host lines of its forward pass and of the transposed ones, read
   entry by entry, are the same sums the kernel's model names. -/
module

public import proofs.«01_k».proof.Proof.FoxHost
public import proofs.«01_k».proof.Proof.Gen.FoxRefIdeal

@[expose] public section

set_option maxRecDepth 16384

noncomputable section

namespace Cert.FoxRefIdeal.Soft

open Idealize.ShloMosaic Idealize.ShloMosaic.TcCoe Cert.FoxRefIdeal Cert.FoxRefIdeal.Gen Cert.Reals Cert.Scalars Cert.FoxIdeal.Soft

/-- The logits with the row's own decay added. -/
def rowed (x : Vec Ideal S8x8192x8192 .f32) (c : Vec Ideal S8x8192 .f32) : Vec Ideal S8x8192x8192 .f32 := addf (F := Ideal) (φ := .f32) x (spread (column c))

theorem rowed_at {x : Vec Ideal S8x8192x8192 .f32} {c : Vec Ideal S8x8192 .f32} {f : ℕ → ℕ → ℕ → ℝ} {C : ℕ → ℕ → ℝ} (hx : Is3 x f) (hc : Is2 c C) :
    Is3 (rowed x c) fun h r j => f h r j + C h r := by
  intro h r j
  pointwise [rowed, spread, column]
  rw [hx, hc, ← EReal.coe_add]

def upper (x : Vec Ideal S8x8192 .f32) : Vec Ideal S8x8192 .f32 :=
  maximumf (F := Ideal) (φ := .f32) (broadcastInDim S8x8192 ![] bcast_S_S8x8192 (constant (F := Ideal) S_ .f32 0xFF800000#32)) x

theorem upper_at {x : Vec Ideal S8x8192 .f32} {f : ℕ → ℕ → ℝ} (hx : Is2 x f) : Is2 (upper x) f := by
  intro h r
  pointwise [upper]
  rw [hx, bot_bits]
  exact max_eq_right bot_le

def inverse (z : Vec Ideal S8x8192 .f32) : Vec Ideal S8x8192x1 .f32 :=
  Host.divf (F := Ideal) (φ := .f32) (broadcastInDim S8x8192x1 ![] bcast_S_S8x8192x1 (constant (F := Ideal) S_ .f32 0x3F800000#32))
    (mulf (F := Ideal) (φ := .f32) (column z) (column z))

def turned (g : Vec Ideal S8192x512 .f32) : Vec Ideal S8x64x8192 .f32 := transpose S8x64x8192 [1, 2, 0] (heads g) transposes_S8192x8x64_S8x64x8192_1_2_0

theorem turned_at {g : Vec Ideal S8192x512 .f32} {G : ℕ → ℕ → ℝ} (hg : Is2 g G) : Is3 (turned g) fun h d r => G r (64 * h + d) := by
  intro h d r
  pointwise [turned]
  exact heads_at hg r h d

/-- Products of the output's cotangent with each row of `v`. -/
def products (g v : Vec Ideal S8192x512 .f32) : Vec Ideal S8x8192x8192 .f32 :=
  Host.dotGeneral (F := Ideal) (φ₁ := .f32) (φ₂ := .f32) dot_S8x64x8192_S8192x8x64_S8x8192x8192_1_2_2_0_0_1 none (turned g) (heads v)

theorem products_at {g v : Vec Ideal S8192x512 .f32} {G V : ℕ → ℕ → ℝ} (hg : Is2 g G) (hv : Is2 v V) :
    Is3 (products g v) fun h r j => ∑ d ∈ Finset.range 64, G r (64 * h + d) * V j (64 * h + d) := by
  intro h r j
  pointwise [products]
  simp only [turned_at hg _ _ _, heads_at hv _ _ _, ← EReal.coe_mul, ← coe_sum]
  rw [Finset.sum_range]

def correction (y e : Vec Ideal S8x8192x8192 .f32) (z : Vec Ideal S8x8192 .f32) : Vec Ideal S8x8192 .f32 :=
  Host.reduceAdd (F := Ideal) (φ := .f32)
    (Host.negf (F := Ideal) (φ := .f32) (shapeCast S8x8192x1
      (sums (mulf (F := Ideal) (φ := .f32) (mulf (F := Ideal) (φ := .f32) y (spread (inverse z))) e)) shapeCasts_S8x8192_S8x8192x1))
    (constant (F := Ideal) S_ .f32 0x00000000#32) reducesTo_S8x8192x1_S8x8192_d2 h_S_

theorem correction_at {y e : Vec Ideal S8x8192x8192 .f32} {z : Vec Ideal S8x8192 .f32} {f g : ℕ → ℕ → ℕ → ℝ} {Z : ℕ → ℕ → ℝ} (hy : Is3 y f) (he : Is3 e g)
    (hz : Is2 z Z) (pos : ∀ h r, r < 8192 → 0 < Z h r) :
    Is2 (correction y e z) fun h r => -∑ j ∈ Finset.range 8192, f h r j * (1 / (Z h r * Z h r)) * g h r j := by
  have key : Is3 (mulf (F := Ideal) (φ := .f32) (mulf (F := Ideal) (φ := .f32) y (spread (inverse z))) e) fun h r j => f h r j * (1 / (Z h r * Z h r)) * g h r j := by
    intro h r j
    pointwise [inverse, spread, column]
    rw [hy, he, hz, ← EReal.coe_mul (Z _ _), ← EReal.coe_one, div_coe (mul_pos (pos _ _ r.isLt) (pos _ _ r.isLt)).ne', ← EReal.coe_mul, ← EReal.coe_mul]
  intro h r
  pointwise [correction]
  rw [one_sum, sums_at key, neg_coe]

/-- The gradient of the masked logits. -/
def grad (y e : Vec Ideal S8x8192x8192 .f32) (z : Vec Ideal S8x8192 .f32) : Vec Ideal S8x8192x8192 .f32 :=
  select (broadcastInDim S8x8192x8192 ![1, 2] bcast_S8192x8192_S8x8192x8192_1_2 sees)
    (mulf (F := Ideal) (φ := .f32) (addf (F := Ideal) (φ := .f32) (quotient y z)
      (broadcastInDim S8x8192x8192 ![0, 1] bcast_S8x8192_S8x8192x8192_0_1 (correction y e z))) e)
    (broadcastInDim S8x8192x8192 ![] bcast_S_S8x8192x8192 (constant (F := Ideal) S_ .f32 0x00000000#32))

theorem grad_at {y e : Vec Ideal S8x8192x8192 .f32} {z : Vec Ideal S8x8192 .f32} {f g : ℕ → ℕ → ℕ → ℝ} {Z : ℕ → ℕ → ℝ} (hy : Is3 y f) (he : Is3 e g)
    (hz : Is2 z Z) (pos : ∀ h r, r < 8192 → 0 < Z h r) :
    Is3 (grad y e z) (low fun h r j => (f h r j / Z h r + -∑ j ∈ Finset.range 8192, f h r j * (1 / (Z h r * Z h r)) * g h r j) * g h r j) := by
  intro h r j
  pointwise [grad]
  rw [sees_at, select_ofBool, he, quotient_at hy hz pos, correction_at hy he hz pos, ← EReal.coe_add, ← EReal.coe_mul]
  unfold low
  split
  · next hj => rw [if_pos (of_decide_eq_true hj)]
  · next hj => rw [if_neg fun hh => hj (decide_eq_true hh), EReal.coe_zero]

def outQ (x : Vec Ideal S8x8192x8192 .f32) (k : Vec Ideal S8192x512 .f32) : Vec Ideal S8192x512 .bf16 :=
  truncf (F := Ideal) (φ := .f32) .bf16 (scaled (shapeCast S8192x512 (transpose S8192x8x64 [1, 0, 2]
    (Host.dotGeneral (F := Ideal) (φ₁ := .f32) (φ₂ := .f32) dot_S8x8192x8192_S8192x8x64_S8x8192x64_2_0_1_2_0_1 none x (heads k))
    transposes_S8x8192x64_S8192x8x64_1_0_2) shapeCasts_S8192x8x64_S8192x512)) bitsLt_bf16_f32

theorem outQ_at {x : Vec Ideal S8x8192x8192 .f32} {k : Vec Ideal S8192x512 .f32} {f : ℕ → ℕ → ℕ → ℝ} {K : ℕ → ℕ → ℝ} (hx : Is3 x f) (hk : Is2 k K) :
    Is2 (outQ x k) fun r l => (∑ j ∈ Finset.range 8192, f (l / 64) r j * K j l) * (1 / 8) := by
  intro r l
  pointwise [outQ, scaled]
  rw [eighth]
  simp only [hx _ _ _, heads_at hk _ _ _, ← EReal.coe_mul, ← coe_sum]
  rw [Finset.sum_range]
  simp only [Nat.div_add_mod]

def outK (x : Vec Ideal S8x8192x8192 .f32) (q : Vec Ideal S8192x512 .f32) : Vec Ideal S512x8192 .f32 :=
  transpose S512x8192 [1, 0] (shapeCast S8192x512 (transpose S8192x8x64 [1, 0, 2]
    (Host.dotGeneral (F := Ideal) (φ₁ := .f32) (φ₂ := .f32) dot_S8x8192x8192_S8192x8x64_S8x8192x64_1_0_2_2_0_1 none x (heads (scaled q)))
    transposes_S8x8192x64_S8192x8x64_1_0_2) shapeCasts_S8192x8x64_S8192x512) transposes_S8192x512_S512x8192_1_0

theorem outK_at {x : Vec Ideal S8x8192x8192 .f32} {q : Vec Ideal S8192x512 .f32} {f : ℕ → ℕ → ℕ → ℝ} {Q : ℕ → ℕ → ℝ} (hx : Is3 x f) (hq : Is2 q Q) :
    Is2 (outK x q) fun l j => ∑ r ∈ Finset.range 8192, Q r l * (1 / 8) * f (l / 64) r j := by
  intro l j
  pointwise [outK]
  simp only [hx _ _ _, heads_at (scaled_at hq) _ _ _, ← EReal.coe_mul, ← coe_sum]
  rw [Finset.sum_range]
  simp only [Nat.div_add_mod, mul_comm (f _ _ _)]

def outV (g : Vec Ideal S8192x512 .f32) (p : Vec Ideal S8x8192x8192 .f32) : Vec Ideal S512x8192 .f32 :=
  transpose S512x8192 [1, 0] (shapeCast S8192x512 (transpose S8192x8x64 [2, 0, 1]
    (Host.dotGeneral (F := Ideal) (φ₁ := .f32) (φ₂ := .f32) dot_S8x64x8192_S8x8192x8192_S8x64x8192_2_1_1_2_0_0 none (turned g) p)
    transposes_S8x64x8192_S8192x8x64_2_0_1) shapeCasts_S8192x8x64_S8192x512) transposes_S8192x512_S512x8192_1_0

theorem outV_at {g : Vec Ideal S8192x512 .f32} {p : Vec Ideal S8x8192x8192 .f32} {f : ℕ → ℕ → ℕ → ℝ} {G : ℕ → ℕ → ℝ} (hg : Is2 g G) (hp : Is3 p f) :
    Is2 (outV g p) fun l j => ∑ r ∈ Finset.range 8192, G r l * f (l / 64) r j := by
  intro l j
  pointwise [outV]
  simp only [hp _ _ _, turned_at hg _ _ _, ← EReal.coe_mul, ← coe_sum]
  rw [Finset.sum_range]
  simp only [Nat.div_add_mod]

def outCols (x : Vec Ideal S8x8192x8192 .f32) : Vec Ideal S4x8x8192 .f32 :=
  pad S4x8x8192 ![0, 0, 0] ![0, 6, 0] ![0, 0, 0]
    (shapeCast S4x2x8192 (Host.reduceAdd (F := Ideal) (φ := .f32) (shapeCast S8x1x8192
      (Host.reduceAdd (F := Ideal) (φ := .f32) (Host.negf (F := Ideal) (φ := .f32) x) (constant (F := Ideal) S_ .f32 0x00000000#32) reducesTo_S8x8192x8192_S8x8192_d1 h_S_)
      shapeCasts_S8x8192_S8x1x8192) (constant (F := Ideal) S_ .f32 0x00000000#32) reducesTo_S8x1x8192_S8x8192_d1 h_S_) shapeCasts_S8x8192_S4x2x8192)
    (sitofp (F := Ideal) .f32 (constantI S_ 32 0#32)) pads_S4x2x8192_S4x8x8192_000_060_000 h_S_

theorem outCols_at {x : Vec Ideal S8x8192x8192 .f32} {f : ℕ → ℕ → ℕ → ℝ} (hx : Is3 x f) :
    Is3 (outCols x) fun h e j => if e < 2 then -∑ r ∈ Finset.range 8192, f (2 * h + e) r j else 0 := by
  intro h e j
  pointwise [outCols]
  by_cases he : e.val < 2
  · rw [dif_pos he, if_pos he, one_sum]
    simp only [hx _ _ _, neg_coe, ← coe_sum]
    rw [Finset.sum_neg_distrib, Finset.sum_range]
    simp only [mul_comm 2]
  · rw [dif_neg he, if_neg he]
    show (((0#32 : BitVec 32).toInt : ℝ) : EReal) = ((0 : ℝ) : EReal)
    simp

def outRows (x : Vec Ideal S8x8192x8192 .f32) : Vec Ideal S4x8192x2 .f32 :=
  transpose S4x8192x2 [0, 2, 1] (shapeCast S4x2x8192 (Host.reduceAdd (F := Ideal) (φ := .f32) (shapeCast S8x8192x1 (sums x) shapeCasts_S8x8192_S8x8192x1)
    (constant (F := Ideal) S_ .f32 0x00000000#32) reducesTo_S8x8192x1_S8x8192_d2 h_S_) shapeCasts_S8x8192_S4x2x8192) transposes_S4x2x8192_S4x8192x2_0_2_1

theorem outRows_at {x : Vec Ideal S8x8192x8192 .f32} {f : ℕ → ℕ → ℕ → ℝ} (hx : Is3 x f) :
    Is3 (outRows x) fun h r e => ∑ j ∈ Finset.range 8192, f (2 * h + e) r j := by
  intro h r e
  pointwise [outRows]
  rw [one_sum, sums_at hx]
  simp only [mul_comm 2]

section Model

variable {q k v g : Vec Ideal S8192x512 .f32} {c : Vec Ideal S8x8192 .f32} {Q K V G C : ℕ → ℕ → ℝ}

/-- The reference's masked logits. -/
def logitsR (q k : Vec Ideal S8192x512 .f32) (c : Vec Ideal S8x8192 .f32) : Vec Ideal S8x8192x8192 .f32 := masked (shifted (rowed (logits q k) c) c)

def expsR (q k : Vec Ideal S8192x512 .f32) (c : Vec Ideal S8x8192 .f32) : Vec Ideal S8x8192x8192 .f32 := exps (logitsR q k c) (upper (tops (logitsR q k c)))

def weightR (q k : Vec Ideal S8192x512 .f32) (c : Vec Ideal S8x8192 .f32) : Vec Ideal S8x8192x8192 .f32 := quotient (expsR q k c) (sums (expsR q k c))

def gradR (q k v g : Vec Ideal S8192x512 .f32) (c : Vec Ideal S8x8192 .f32) : Vec Ideal S8x8192x8192 .f32 :=
  grad (products g v) (expsR q k c) (sums (expsR q k c))

/-- The reference's exponentials are the model's, scaled along each row. -/
theorem exps_scaled (V G : ℕ → ℕ → ℝ) (hq : Is2 q Q) (hk : Is2 k K) (hc : Is2 c C) :
    ∃ R : ℕ → ℕ → ℝ, (∀ h r, 0 < R h r) ∧ Is3 (expsR q k c) fun h r j => raw Q K V G C h r j * R h r := by
  have hx : Low (logitsR q k c) _ := masked_at (shifted_at (rowed_at (logits_at hq hk) hc) hc)
  obtain ⟨M, hM⟩ := tops_at hx
  refine ⟨fun h r => Real.exp (-(M h r - C h r)), fun h r => Real.exp_pos _, fun h r j => (exps_at hx (upper_at hM) h r j).trans (congrArg _ ?_)⟩
  refine Eq.trans ?_ (low_shift _ (fun h r => M h r - C h r) _ _ _)
  refine congrArg (fun f => low f h.val r.val j.val) (funext fun h => funext fun r => funext fun j => congrArg Real.exp ?_)
  show _ = (∑ d ∈ Finset.range 64, Q r (64 * h + d) * (1 / 8) * K j (64 * h + d)) - C h j - (M h r - C h r)
  ring

theorem weightR_at (V G : ℕ → ℕ → ℝ) (hq : Is2 q Q) (hk : Is2 k K) (hc : Is2 c C) : Is3 (weightR q k c) (weight Q K V G C) := by
  obtain ⟨R, pos, he⟩ := exps_scaled V G hq hk hc
  have hz : Is2 (sums (expsR q k c)) fun h r => total Q K V G C h r * R h r := fun h r => (sums_at he h r).trans (congrArg _ (Finset.sum_mul ..).symm)
  refine fun h r j => (quotient_at he hz (fun h r hr => mul_pos (total_pos Q K V G C h r hr) (pos h r)) h r j).trans (congrArg _ ?_)
  exact mul_div_mul_right _ _ (pos _ _).ne'

theorem gradR_at (hq : Is2 q Q) (hk : Is2 k K) (hv : Is2 v V) (hg : Is2 g G) (hc : Is2 c C) : Is3 (gradR q k v g c) (glob Q K V G C).b := by
  obtain ⟨R, pos, he⟩ := exps_scaled V G hq hk hc
  have hz : Is2 (sums (expsR q k c)) fun h r => total Q K V G C h r * R h r := fun h r => (sums_at he h r).trans (congrArg _ (Finset.sum_mul ..).symm)
  refine fun h r j => (grad_at (products_at hg hv) he hz (fun h r hr => mul_pos (total_pos Q K V G C h r hr) (pos h r)) h r j).trans (congrArg _ ?_)
  have hZ := (total_pos Q K V G C h.val r.val r.isLt).ne'
  have hR := (pos h.val r.val).ne'
  unfold Cert.FoxIdeal.Tile.Glob.b
  rw [glob_u _ _ _ _ _ _ _ _ r.isLt, glob_δ]
  show low (fun h r j => ((glob Q K V G C).dp h r j / _ + -∑ j ∈ Finset.range 8192, (glob Q K V G C).dp h r j * _ * _) * _) _ _ _ = _
  unfold low
  split
  · have e : ∀ j, (glob Q K V G C).dp h r j * (1 / (total Q K V G C h r * R h r * (total Q K V G C h r * R h r))) * (raw Q K V G C h r j * R h r)
        = weight Q K V G C h r j * (glob Q K V G C).dp h r j * (1 / (total Q K V G C h r * R h r)) := by
      intro j
      unfold weight
      field_simp
    simp only [e, ← Finset.sum_mul]
    unfold weight
    field_simp
    ring
  · next hj =>
    unfold weight raw low
    rw [if_neg hj]
    ring

end Model

variable (m : (ℓ : Loc nD τ sig) → Buf (Elt Ideal) ℓ)

open Idealize.SL.Sem StableHlo in
set_option maxHeartbeats 4000000 in
/-- What the reference leaves: every result as a function of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v89) = outQ (gradR (wide (m ((c : Thread nD τ).loc main_arg0))) (wide (m ((c : Thread nD τ).loc main_arg1))) (wide (m ((c : Thread nD τ).loc main_arg2))) (m ((c : Thread nD τ).loc main_arg4)) (m ((c : Thread nD τ).loc main_arg3))) (wide (m ((c : Thread nD τ).loc main_arg1)))
      ∧ r.2.mem ((c : Thread nD τ).loc main_v90) = outK (gradR (wide (m ((c : Thread nD τ).loc main_arg0))) (wide (m ((c : Thread nD τ).loc main_arg1))) (wide (m ((c : Thread nD τ).loc main_arg2))) (m ((c : Thread nD τ).loc main_arg4)) (m ((c : Thread nD τ).loc main_arg3))) (wide (m ((c : Thread nD τ).loc main_arg0)))
      ∧ r.2.mem ((c : Thread nD τ).loc main_v91) = outV (m ((c : Thread nD τ).loc main_arg4)) (weightR (wide (m ((c : Thread nD τ).loc main_arg0))) (wide (m ((c : Thread nD τ).loc main_arg1))) (m ((c : Thread nD τ).loc main_arg3)))
      ∧ r.2.mem ((c : Thread nD τ).loc main_v88) = outCols (gradR (wide (m ((c : Thread nD τ).loc main_arg0))) (wide (m ((c : Thread nD τ).loc main_arg1))) (wide (m ((c : Thread nD τ).loc main_arg2))) (m ((c : Thread nD τ).loc main_arg4)) (m ((c : Thread nD τ).loc main_arg3)))
      ∧ r.2.mem ((c : Thread nD τ).loc main_v93) = outRows (gradR (wide (m ((c : Thread nD τ).loc main_arg0))) (wide (m ((c : Thread nD τ).loc main_arg1))) (wide (m ((c : Thread nD τ).loc main_arg2))) (m ((c : Thread nD τ).loc main_arg4)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine θ_run_mono (run_hlo defs main (by hlo_seq) (by decide) (by decide) (by simp)
    (by intro _ h; (repeat (cases h with | head => rfl | tail _ h => ?_)); exact nomatch h) m ρ) fun r h => ?_
  refine fun c => ⟨?_, ?_, ?_, ?_, ?_, ?_, ?_, ?_, ?_, ?_⟩ <;> refine (h c _).trans ?_ <;> after_results_simp <;> rfl

end Cert.FoxRefIdeal.Soft

end
-- ==== Proof.Finite.lean ====
/- An array whose entries are all below infinity in absolute value holds real numbers. -/
module

public import proofs.«01_k».proof.Proof.Reals
public import proofs.«01_k».proof.Proof.Scalars

@[expose] public section

noncomputable section

namespace Cert.Finite

open Idealize.ShloMosaic Cert.Scalars

/-- A number whose absolute value is below infinity is real. -/
theorem real_of_lt {x : EReal} (h : max x (-x) < ⊤) : ∃ y : ℝ, x = (y : EReal) := by
  induction x using EReal.rec with
  | bot => simp at h
  | top => simp at h
  | coe y => exact ⟨y, rfl⟩

/-- The test `|a| < ∞` passing everywhere. -/
theorem real {s : Shape} (hb : (⟨0, ![]⟩ : Shape).BroadcastsInDim s (![] : Fin 0 → Fin s.rank)) (a : FVec Ideal s .f32)
    (h : cmpf (F := Ideal) (φ := .f32) .olt (Host.absf (F := Ideal) (φ := .f32) a) (broadcastInDim s ![] hb (constant (F := Ideal) ⟨0, ![]⟩ .f32 0x7F800000#32)) = fun _ => 1#1)
    (i : s.Idx) : ∃ y : ℝ, a i = (y : EReal) := by
  have k := congrFun h i
  refine real_of_lt ?_
  have k' : BitVec.ofBool (decide (max (a i) (-a i) < Ideal.ofBits .f32 0x7F800000#32)) = 1#1 := k
  rw [ofBits_top] at k'
  by_contra hn
  rw [decide_eq_false hn] at k'
  exact absurd k' (by decide)

/-- By row and lane. -/
theorem real2 {a b : ℕ} {x : (⟨2, ![a, b]⟩ : Shape).Idx → EReal} (h : ∀ i, ∃ y : ℝ, x i = (y : EReal)) :
    ∃ f : ℕ → ℕ → ℝ, ∀ (r : Fin a) (j : Fin b), x (ix2 r j) = (f r.val j.val : EReal) := by
  choose f hf using h
  refine ⟨fun r j => if k : r < a ∧ j < b then f (ix2 ⟨r, k.1⟩ ⟨j, k.2⟩) else 0, fun r j => ?_⟩
  show _ = ((if k : r.val < a ∧ j.val < b then f (ix2 ⟨r.val, k.1⟩ ⟨j.val, k.2⟩) else 0 : ℝ) : EReal)
  rw [dif_pos ⟨r.isLt, j.isLt⟩]
  exact hf _

end Cert.Finite

end
-- ==== Proof.FoxPair.lean ====
/- The attention's backward call and its reference, results side by side. -/
module

public import proofs.«01_k».proof.Proof.FoxRef
public import proofs.«01_k».proof.Proof.Finite

@[expose] public section

set_option maxRecDepth 16384

noncomputable section

namespace Cert.FoxIdeal.Soft

open Idealize.ShloMosaic Idealize.ShloMosaic.TcCoe Cert.FoxIdeal Cert.FoxIdeal.Gen Cert.Reals Cert.FoxIdeal.Tile

variable {m : (ℓ : Loc nD τ sig) → Buf (Elt Ideal) ℓ} {c : Dev nD} {Q K W G C : ℕ → ℕ → ℝ} {x0 x1 x2 : Vec Ideal S8192x512 .bf16} {x3 : Vec Ideal S8x8192 .f32} {x4 : Vec Ideal S8192x512 .f32}

open Cert.FoxRefIdeal.Soft (outQ outK outV outCols outRows gradR weightR outQ_at outK_at outV_at outCols_at outRows_at gradR_at weightR_at)

theorem pair_dq (E : Entry m c (glob Q K W G C)) (h0 : Is2 x0 Q) (h1 : Is2 x1 K) (h2 : Is2 x2 W) (h3 : Is2 x3 C) (h4 : Is2 x4 G) :
    ((dats m 0 c).arrAt 7 cfg0.N : Vec Ideal S8192x512 .bf16) = outQ (gradR (wide x0) (wide x1) (wide x2) x4 x3) (wide x1) :=
  Is2.eq (f := (glob Q K W G C).dq) (fun r j => congrFun (arr_dq E) _) (outQ_at (gradR_at (wide_at h0) (wide_at h1) (wide_at h2) h4 h3) (wide_at h1)) fun _ _ => rfl

theorem pair_dk (E : Entry m c (glob Q K W G C)) (h0 : Is2 x0 Q) (h1 : Is2 x1 K) (h2 : Is2 x2 W) (h3 : Is2 x3 C) (h4 : Is2 x4 G) :
    ((dats m 0 c).arrAt 8 cfg0.N : Vec Ideal S512x8192 .f32) = outK (gradR (wide x0) (wide x1) (wide x2) x4 x3) (wide x0) :=
  Is2.eq (f := (glob Q K W G C).dk) (fun r j => congrFun (arr_dk E) _) (outK_at (gradR_at (wide_at h0) (wide_at h1) (wide_at h2) h4 h3) (wide_at h0)) fun _ _ => rfl

theorem pair_dv (E : Entry m c (glob Q K W G C)) (h0 : Is2 x0 Q) (h1 : Is2 x1 K) (h3 : Is2 x3 C) (h4 : Is2 x4 G) :
    ((dats m 0 c).arrAt 9 cfg0.N : Vec Ideal S512x8192 .f32) = outV x4 (weightR (wide x0) (wide x1) x3) :=
  Is2.eq (f := (glob Q K W G C).dv) (fun r j => congrFun (arr_dv E) _) (outV_at h4 (weightR_at W G (wide_at h0) (wide_at h1) h3)) fun l j => by
    refine Finset.sum_congr rfl fun r hr => ?_
    rw [glob_u _ _ _ _ _ _ _ _ (Finset.mem_range.1 hr)]
    rfl

theorem pair_dc (E : Entry m c (glob Q K W G C)) (h0 : Is2 x0 Q) (h1 : Is2 x1 K) (h2 : Is2 x2 W) (h3 : Is2 x3 C) (h4 : Is2 x4 G) :
    ((dats m 0 c).arrAt 10 cfg0.N : Vec Ideal S4x8x8192 .f32) = outCols (gradR (wide x0) (wide x1) (wide x2) x4 x3) :=
  Is3.eq (f := fun h e j => if e < 2 then -(glob Q K W G C).dcol (2 * h + e) j else 0) (fun h r j => congrFun (arr_dc E) _)
    (outCols_at (gradR_at (wide_at h0) (wide_at h1) (wide_at h2) h4 h3)) fun _ _ _ => rfl

theorem pair_dr (E : Entry m c (glob Q K W G C)) (h0 : Is2 x0 Q) (h1 : Is2 x1 K) (h2 : Is2 x2 W) (h3 : Is2 x3 C) (h4 : Is2 x4 G) :
    ((dats m 0 c).arrAt 11 cfg0.N : Vec Ideal S4x8192x2 .f32) = outRows (gradR (wide x0) (wide x1) (wide x2) x4 x3) :=
  Is3.eq (f := fun h r e => (glob Q K W G C).drow (2 * h + e) r) (fun h r j => congrFun (arr_dr E) _)
    (outRows_at (gradR_at (wide_at h0) (wide_at h1) (wide_at h2) h4 h3)) fun _ _ _ => rfl

end Cert.FoxIdeal.Soft

end
-- ==== Proof.FoxClaim.lean ====
/- The attention's value claim: at finite arguments. -/
module

public import proofs.«01_k».proof.Defs
public import proofs.«01_k».proof.Proof.FoxPair

@[expose] public section

set_option maxRecDepth 16384

noncomputable section

namespace Cert.Proof

open Idealize.ShloMosaic Idealize.SL.Sem

theorem facts_finite_fox : Cert.Pre_finite_fox.Facts := ⟨by decide, by decide, by decide⟩

instance inst_finite_fox : Cert.Pre_finite_fox.Facts := facts_finite_fox

open Cert.FoxIdeal in
/-- At finite arguments the launch finds the model of real numbers. -/
theorem real_Fox {m : (ℓ : Loc nD τ sig) → Buf (Elt Ideal) ℓ} (hpre : Cert.Pre_FoxIdeal_finite_fox m) (c : Dev nD) :
    ∃ Q K W G C : ℕ → ℕ → ℝ, Cert.Reals.Is2 (m (c.tc.loc main_arg0) : Vec Ideal S8192x512 .bf16) Q ∧ Cert.Reals.Is2 (m (c.tc.loc main_arg1) : Vec Ideal S8192x512 .bf16) K
      ∧ Cert.Reals.Is2 (m (c.tc.loc main_arg2) : Vec Ideal S8192x512 .bf16) W ∧ Cert.Reals.Is2 (m (c.tc.loc main_arg3) : Vec Ideal S8x8192 .f32) C
      ∧ Cert.Reals.Is2 (m (c.tc.loc main_arg4) : Vec Ideal S8192x512 .f32) G := by
  obtain ⟨a, b, d, e, f⟩ := hpre c
  obtain ⟨Q, hQ⟩ := Finite.real2 (a := 8192) (b := 512) (Finite.real _ _ a)
  obtain ⟨K, hK⟩ := Finite.real2 (a := 8192) (b := 512) (Finite.real _ _ b)
  obtain ⟨W, hW⟩ := Finite.real2 (a := 8192) (b := 512) (Finite.real _ _ d)
  obtain ⟨C, hC⟩ := Finite.real2 (a := 8) (b := 8192) (Finite.real _ _ e)
  obtain ⟨G, hG⟩ := Finite.real2 (a := 8192) (b := 512) (Finite.real _ _ f)
  exact ⟨Q, K, W, G, C, hQ, hK, hW, hC, hG⟩

/-- The attention's gradients are the reference's, at finite arguments. -/
theorem algebraic_Fox : Cert.algebraic_FoxIdeal_FoxRefIdeal_pre_finite_fox := by
  pair_intro
  · run_from Cert.FoxIdeal.Value.run_blocks m g
  · refine (θ_run Cert.FoxRefIdeal.defs _ _).mono (fun r h c => ?_) (Cert.FoxRefIdeal.Soft.run m' g')
    obtain ⟨Q, K, W, G, C, h0, h1, h2, h3, h4⟩ := real_Fox hpre c
    have E := Cert.FoxIdeal.Soft.entry m c h0 h1 h2 h3 h4
    rw [← (hagree c).1] at h0
    rw [← (hagree c).2.1] at h1
    rw [← (hagree c).2.2.1] at h2
    rw [← (hagree c).2.2.2.1] at h3
    rw [← (hagree c).2.2.2.2] at h4
    obtain ⟨a, b, d, e, f, k⟩ := h c
    exact ⟨a.trans (Cert.FoxIdeal.Soft.pair_dq E h0 h1 h2 h3 h4).symm, b.trans (Cert.FoxIdeal.Soft.pair_dk E h0 h1 h2 h3 h4).symm,
      d.trans (Cert.FoxIdeal.Soft.pair_dv E h0 h1 h3 h4).symm, e.trans (Cert.FoxIdeal.Soft.pair_dc E h0 h1 h2 h3 h4).symm,
      f.trans (Cert.FoxIdeal.Soft.pair_dr E h0 h1 h2 h3 h4).symm, k⟩

end Cert.Proof

end
-- ==== Proof.Norms.lean ====
/- The root-mean-square norm of a row, its gradient, and the constants the norms are written with, over the reals. -/
module

public import proofs.«01_k».proof.Proof.Reals

@[expose] public section

noncomputable section

open Idealize.ShloMosaic Cert.Scalars Cert.Reals

namespace Cert.Norms

/-- The number added to a mean square before the root. -/
def eps : ℝ := 10995116 / 2 ^ 40

theorem eps_pos : 0 < eps := by unfold eps; positivity

theorem eps_bits : Ideal.ofBits .f32 0x3727C5AC#32 = (eps : EReal) := by
  simp [Ideal.ofBits, Ideal.ieee, eps, -EReal.coe_mul]
  norm_num

theorem half_bits : Ideal.ofBits .f32 0xBF000000#32 = ((-1 / 2 : ℝ) : EReal) := by
  simp [Ideal.ofBits, Ideal.ieee, -EReal.coe_mul]
  norm_num

theorem bits_512 : Ideal.ofBits .f32 0x44000000#32 = ((512 : ℝ) : EReal) := by
  simp [Ideal.ofBits, Ideal.ieee, -EReal.coe_mul]
  norm_num

theorem rsqrt_pos {x : ℝ} (h : 0 < x) : Ideal.rsqrt (x : EReal) = ((1 / √x : ℝ) : EReal) := by
  rw [Ideal.rsqrt_coe, if_neg h.not_gt, if_neg h.ne', one_div]

variable (n : ℕ) (x g t : ℕ → ℕ → ℝ)

/-- A row's mean square, with `eps`. -/
def ms (r : ℕ) : ℝ := (∑ l ∈ Finset.range n, x r l * x r l) / n + eps

theorem ms_pos (r : ℕ) : 0 < ms n x r :=
  add_pos_of_nonneg_of_pos (div_nonneg (Finset.sum_nonneg fun _ _ => mul_self_nonneg _) (Nat.cast_nonneg _)) eps_pos

/-- The factor that scales a row. -/
def rr (r : ℕ) : ℝ := 1 / √(ms n x r)

theorem rr_sq (r : ℕ) : rr n x r * rr n x r = 1 / ms n x r := by
  unfold rr
  rw [div_mul_div_comm, one_mul, Real.mul_self_sqrt (ms_pos n x r).le]

/-- The row scaled. -/
def vh (r l : ℕ) : ℝ := x r l * rr n x r

/-- The norm's gradient at the cotangent `t`. -/
def dst (r l : ℕ) : ℝ := rr n x r * (t r l - vh n x r l * ((∑ l ∈ Finset.range n, t r l * vh n x r l) / n))

/-- The same with the factor's own gradient written out. -/
theorem dst_eq (r l : ℕ) : t r l * rr n x r + x r l * ((∑ l ∈ Finset.range n, x r l * t r l) * (-1 / 2 * (rr n x r / ms n x r)) / n)
    + (∑ l ∈ Finset.range n, x r l * t r l) * (-1 / 2 * (rr n x r / ms n x r)) / n * x r l = dst n x t r l := by
  have e : ∑ l ∈ Finset.range n, t r l * vh n x r l = (∑ l ∈ Finset.range n, x r l * t r l) * rr n x r := by
    rw [Finset.sum_mul]
    exact Finset.sum_congr rfl fun l _ => by unfold vh; ring
  unfold dst
  rw [e, vh, div_eq_mul_one_div (rr n x r) (ms n x r), ← rr_sq]
  ring

end Cert.Norms

end
-- ==== Proof.MixRows.lean ====
/- The tile of the mixer's backward call over the reals: each payload of the body at real operands. -/
module

public import proofs.«01_k».proof.Proof.Norms
public import proofs.«01_k».proof.Proof.Gen.MixIdeal.Value

@[expose] public section

set_option maxRecDepth 16384

noncomputable section

namespace Cert.MixIdeal.Rows

open Idealize.ShloMosaic Idealize.ShloMosaic.TcCoe Cert.MixIdeal Cert.MixIdeal.Gen Cert.Reals Cert.Scalars Cert.Norms

variable {d w : Vec Ideal S512x1024 .bf16} {x : Vec Ideal S512x512 .f32} {s g : Vec Ideal S1x512 .f32} {D W X S G : ℕ → ℕ → ℝ}

/-- Rows of the cotangent against rows of the weight. -/
def dr (D W : ℕ → ℕ → ℝ) (r l : ℕ) : ℝ := ∑ k ∈ Finset.range 1024, D r k * W l k

theorem pay2_at (hd : Is2 d D) (hw : Is2 w W) : Is2 (k0_pay2 d w) (dr D W) := by
  intro r l
  pointwise [k0_pay2]
  simp only [hd _ _, hw _ _, ← EReal.coe_mul, ← coe_sum]
  rw [dr, Finset.sum_range]

theorem pay3_at (hx : Is2 x X) : Is2 (k0_pay3 x) fun r _ => rr 512 X r := by
  intro r l
  pointwise [k0_pay3]
  simp only [hx _ _, ← EReal.coe_mul, ← coe_sum]
  rw [bits_512, eps_bits, div_coe (by norm_num), ← EReal.coe_add, rsqrt_pos]
  · rw [rr, ms, Finset.sum_range]
    norm_num
  · have h := ms_pos 512 X r
    rw [ms, Finset.sum_range] at h
    exact_mod_cast h

theorem pay4_at (hx : Is2 x X) : Is2 (k0_pay4 x) (vh 512 X) := by
  intro r l
  pointwise [k0_pay4]
  rw [hx, pay3_at hx, ← EReal.coe_mul, vh]

theorem pay5_at (hd : Is2 d D) (hw : Is2 w W) (hx : Is2 x X) (hs : Is2 s S) :
    Is2 (k0_pay5 d w x s) fun r l => S 0 l + ∑ i ∈ Finset.range 512, dr D W i l * vh 512 X i l := by
  intro r l
  pointwise [k0_pay5]
  simp only [pay2_at hd hw _ _, pay4_at hx _ _, hs _ _, ← EReal.coe_mul, ← coe_sum, ← EReal.coe_add]
  rw [Finset.sum_range, Subsingleton.elim r 0]
  rfl

theorem pay6_at (hd : Is2 d D) (hw : Is2 w W) (hx : Is2 x X) (hg : Is2 g G) :
    Is2 (k0_pay6 d w x g) fun r l => dr D W r l * G 0 l
      - vh 512 X r l * ((∑ l ∈ Finset.range 512, dr D W r l * G 0 l * vh 512 X r l) / (512 : ℕ)) := by
  intro r l
  pointwise [k0_pay6]
  simp only [pay2_at hd hw _ _, pay4_at hx _ _, hg _ _, ← EReal.coe_mul, ← coe_sum]
  rw [bits_512, div_coe (by norm_num), ← EReal.coe_mul, ← EReal.coe_sub, Finset.sum_range]
  norm_num

/-- The first part's rows. -/
theorem part0_at (hd : Is2 d D) (hw : Is2 w W) (hx : Is2 x X) (hg : Is2 g G) :
    Is2 (k0_pay7 (k0_pay3 x) (k0_pay6 d w x g)) (dst 512 X fun r l => dr D W r l * G 0 l) := by
  intro r l
  pointwise [k0_pay7]
  rw [pay3_at hx, pay6_at hd hw hx hg, ← EReal.coe_mul, dst]

theorem pay11_eq : k0_pay11 d w x s = k0_pay5 d w x s := rfl

end Cert.MixIdeal.Rows

end
-- ==== Proof.Blocks.lean ====
/- Loads and stores of rectangles of a two-dimensional block, entry by entry. -/
module

public import proofs.«01_k».proof.Proof.Reals
public import Idealize.ShloMosaic.Lib.Writes
public import Idealize.ShloMosaic.Lib.Pipeline.ValueKit.Tiles

@[expose] public section

noncomputable section

open Idealize.ShloMosaic Idealize.ShloMosaic.TcCoe

namespace Cert.Blocks

variable {sig : RefSig} {κ : Kind} {sp : Space} {A B a b : ℕ} {e : EltTy}

/-- A load of a rectangle, at an entry. -/
theorem load_apply (v : View sig κ sp ⟨2, ![A, B]⟩ e) (f : v.ty.Contents (Elt Ideal)) (o p : ℕ) (inb) (r : Fin a) (l : Fin b) (hr : o + r.val < A) (hl : p + l.val < B) :
    v.readAt (Elt Ideal) (Rect.unit (s := ⟨2, ![A, B]⟩) ![o, p] ![a, b] inb).toLoadRect f (ix2 r l) = v.read (Elt Ideal) f (ix2 ⟨o + r.val, hr⟩ ⟨p + l.val, hl⟩) := by
  rw [View.readAt_eq_ld]
  exact View.ld_unit_apply_of (S := ⟨2, ![A, B]⟩) (Val := Elt Ideal) (e := e) _ ![o, p] ![a, b] inb (ix2 r l) (ix2 ⟨o + r.val, hr⟩ ⟨p + l.val, hl⟩) (by
    intro x
    fin_cases x <;> rfl)

/-- An array's entries, by row and lane. -/
def At2 {α : Type} {a b : ℕ} (x : (⟨2, ![a, b]⟩ : Shape).Idx → α) (f : ℕ → ℕ → α) : Prop := ∀ r l, x (ix2 r l) = f r.val l.val

theorem At2.eq {α : Type} {a b : ℕ} {x y : (⟨2, ![a, b]⟩ : Shape).Idx → α} {f g : ℕ → ℕ → α} (hx : At2 x f) (hy : At2 y g)
    (h : ∀ r l, r < a → l < b → f r l = g r l) : x = y :=
  funext fun i => by
    obtain ⟨r, j, rfl⟩ : ∃ (r : Fin a) (j : Fin b), i = ix2 r j := ⟨i 0, i 1, eq_ix2 i⟩
    rw [hx, hy, h _ _ r.isLt j.isLt]

theorem At2.exists {a b : ℕ} (x : (⟨2, ![a, b]⟩ : Shape).Idx → EReal) : ∃ f, At2 x f :=
  ⟨fun r l => if h : r < a ∧ l < b then x (ix2 ⟨r, h.1⟩ ⟨l, h.2⟩) else 0, fun r l => by
    beta_reduce
    rw [dif_pos ⟨r.isLt, l.isLt⟩]⟩

/-- A load of a rectangle, as entries. -/
theorem load_at {v : Memref sig κ sp ⟨2, ![A, B]⟩ e} (hv : v.IsWhole) {x : Vec Ideal ⟨2, ![A, B]⟩ e} {f : ℕ → ℕ → Elt Ideal e} (hx : At2 x f) (o p : ℕ) (inb)
    (ho : o + a ≤ A) (hp : p + b ≤ B) :
    At2 (View.readAt (Elt Ideal) v.view (Rect.unit (s := ⟨2, ![A, B]⟩) ![o, p] ![a, b] inb).toLoadRect (hv.unread x)) fun r l => f (o + r) (p + l) := by
  intro r l
  refine (load_apply v.view (hv.unread x) o p inb r l (by omega) (by omega)).trans ?_
  rw [hv.read_unread]
  exact hx _ _

/-- A load at the block's origin. -/
theorem load_zero {v : Memref sig κ sp ⟨2, ![A, B]⟩ e} (hv : v.IsWhole) {x : Vec Ideal ⟨2, ![A, B]⟩ e}
    {f : ℕ → ℕ → Elt Ideal e} (hx : At2 x f) (inb) (ha : a ≤ A) (hb : b ≤ B) :
    At2 (View.readAt (Elt Ideal) v.view (Rect.unit (s := ⟨2, ![A, B]⟩) ![0, 0] ![a, b] inb).toLoadRect (hv.unread x)) f := by
  have h := load_at hv hx 0 0 inb (by omega) (by omega)
  simpa only [Nat.zero_add] using h

/-- A load of the whole block. -/
theorem load_whole {v : Memref sig κ sp ⟨2, ![A, B]⟩ e} (hv : v.IsWhole) (x : Vec Ideal ⟨2, ![A, B]⟩ e) (inb) :
    View.readAt (Elt Ideal) v.view (Rect.unit (s := ⟨2, ![A, B]⟩) ![0, 0] ![A, B] inb).toLoadRect (hv.unread x) = x := by
  rw [View.readAt_eq_ld, hv.read_unread]
  exact View.ld_unit_zero (by funext a; fin_cases a <;> rfl) _ _

/-- The newest store, at an entry it holds. -/
theorem store_hit (v : View sig κ sp ⟨2, ![A, B]⟩ e) (f : v.ty.Contents (Elt Ideal)) (o p : ℕ) (inb)
    (w : (Rect.unit (s := ⟨2, ![A, B]⟩) ![o, p] ![a, b] inb).shape.Idx → Elt Ideal e) (L : List (View.Piece (Elt Ideal) ⟨2, ![A, B]⟩ e)) (r : Fin A) (l : Fin B) (r' : Fin a) (l' : Fin b)
    (hr : r.val = o + r'.val) (hl : l.val = p + l'.val) :
    v.read (Elt Ideal) (v.writes (Elt Ideal) f (⟨Rect.unit (s := ⟨2, ![A, B]⟩) ![o, p] ![a, b] inb, w⟩ :: L)) (ix2 r l) = w (ix2 r' l') :=
  View.read_writes_cons_hit_of_coords v f (Rect.unit (s := ⟨2, ![A, B]⟩) ![o, p] ![a, b] inb) w L (ix2 r' l') (ix2 r l) (by
    intro x
    fin_cases x
    · show r.val = o + 1 * r'.val
      omega
    · show l.val = p + 1 * l'.val
      omega)

/-- The newest store, at a row it leaves alone. -/
theorem store_miss (v : View sig κ sp ⟨2, ![A, B]⟩ e) (f : v.ty.Contents (Elt Ideal)) (o p : ℕ) (inb)
    (w : (Rect.unit (s := ⟨2, ![A, B]⟩) ![o, p] ![a, b] inb).shape.Idx → Elt Ideal e) (L : List (View.Piece (Elt Ideal) ⟨2, ![A, B]⟩ e)) (r : Fin A) (l : Fin B)
    (hr : r.val < o ∨ o + a ≤ r.val) :
    v.read (Elt Ideal) (v.writes (Elt Ideal) f (⟨Rect.unit (s := ⟨2, ![A, B]⟩) ![o, p] ![a, b] inb, w⟩ :: L)) (ix2 r l) = v.read (Elt Ideal) (v.writes (Elt Ideal) f L) (ix2 r l) :=
  View.read_writes_cons_miss_of_axis v f ⟨Rect.unit (s := ⟨2, ![A, B]⟩) ![o, p] ![a, b] inb, w⟩ L (ix2 r l) 0 o a rfl rfl rfl hr

end Cert.Blocks

end
-- ==== Proof.MixPoint.lean ====
/- One grid point of the mixer's backward call over the reals: what its stores leave in the three results' blocks. -/
module

public import proofs.«01_k».proof.Proof.MixRows
public import proofs.«01_k».proof.Proof.Blocks

@[expose] public section

set_option maxRecDepth 16384

noncomputable section

namespace Cert.MixIdeal.Rows

open Idealize.ShloMosaic Idealize.ShloMosaic.TcCoe Cert.MixIdeal Cert.MixIdeal.Gen Cert.Reals Cert.Scalars Cert.Norms Cert.Blocks

variable (c : Dev nD) (arg1 : Memref sig .tc .vmem S512x1024 .bf16) (harg1 : arg1.IsWhole) (arg2 : Memref sig .tc .vmem S1024x1024 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512 .f32) (harg8 : arg8.IsWhole)
variable (i : grid0.Coords) {x0 : Vec Ideal S512x1024 .bf16} {x1 : Vec Ideal S1024x1024 .bf16} {x2 x3 : Vec Ideal S512x512 .f32} {x4 xo7 : Vec Ideal S8x512 .f32}
variable {D W O C G S : ℕ → ℕ → ℝ}
variable (h0 : Is2 x0 D) (h1 : Is2 x1 W) (h2 : Is2 x2 O) (h3 : Is2 x3 C) (h4 : ∀ (r : Fin 8) (l : Fin 512), r.val < 2 → x4 (ix2 r l) = (G r l : EReal))

include h1 in
theorem low_w : Is2 (View.readAt (Elt Ideal) arg2.view (Rect.unit (s := S1024x1024) ![0, 0] S512x1024.size inb_S1024x1024_S512x1024_0_0).toLoadRect (harg2.unread x1)) W := by
  intro r l
  refine (load_apply arg2.view (harg2.unread x1) 0 0 inb_S1024x1024_S512x1024_0_0 r l (by omega) (by omega)).trans ?_
  rw [harg2.read_unread, h1]
  simp only [Nat.zero_add]

include h1 in
theorem high_w : Is2 (View.readAt (Elt Ideal) arg2.view (Rect.unit (s := S1024x1024) ![512, 0] S512x1024.size inb_S1024x1024_S512x1024_512_0).toLoadRect (harg2.unread x1)) fun l k => W (512 + l) k := by
  intro r l
  refine (load_apply arg2.view (harg2.unread x1) 512 0 inb_S1024x1024_S512x1024_512_0 r l (by omega) (by omega)).trans ?_
  rw [harg2.read_unread, h1]
  simp only [Nat.zero_add]

include h4 in
theorem row0_g : Is2 (View.readAt (Elt Ideal) arg5.view (Rect.unit (s := S8x512) ![0, 0] S1x512.size inb_S8x512_S1x512_0_0).toLoadRect (harg5.unread x4)) fun _ l => G 0 l := by
  intro r l
  refine (load_apply arg5.view (harg5.unread x4) 0 0 inb_S8x512_S1x512_0_0 r l (by omega) (by omega)).trans ?_
  rw [harg5.read_unread, h4 _ _ (by show 0 + r.val < 2; omega), Subsingleton.elim r 0]
  simp

include h4 in
theorem row1_g : Is2 (View.readAt (Elt Ideal) arg5.view (Rect.unit (s := S8x512) ![1, 0] S1x512.size inb_S8x512_S1x512_1_0).toLoadRect (harg5.unread x4)) fun _ l => G 1 l := by
  intro r l
  refine (load_apply arg5.view (harg5.unread x4) 1 0 inb_S8x512_S1x512_1_0 r l (by omega) (by omega)).trans ?_
  rw [harg5.read_unread, h4 _ _ (by show 1 + r.val < 2; omega), Subsingleton.elim r 0]
  simp

include h0 h1 h2 h4 in
theorem do_A (hc0 : cond0_0 i) : Is2 (out0_A_5 c i arg1 harg1 arg2 harg2 arg3 harg3 arg4 harg4 arg5 harg5 arg6 harg6 arg7 harg7 arg8 harg8 hc0 x0 x1 x2 x3 x4) (dst 512 O fun r l => dr D W r l * G 0 l) := by
  intro r l
  unfold out0_A_5 kernelRun0_A
  dsimp only
  refine (store_hit VO0_5 _ 0 0 inb_S512x512_S512x512_0_0 _ [] r l r l (by omega) (by omega)).trans ?_
  refine part0_at (?_ : Is2 _ D) (low_w arg2 harg2 h1) (?_ : Is2 _ O) (row0_g arg5 harg5 h4) r l
  · exact (load_whole harg1 x0 _).symm ▸ h0
  · exact (load_whole harg3 x2 _).symm ▸ h2

include h0 h1 h3 h4 in
theorem dc_A (hc0 : cond0_0 i) : Is2 (out0_A_6 c i arg1 harg1 arg2 harg2 arg3 harg3 arg4 harg4 arg5 harg5 arg6 harg6 arg7 harg7 arg8 harg8 hc0 x0 x1 x2 x3 x4) (dst 512 C fun r l => dr D (fun l k => W (512 + l) k) r l * G 1 l) := by
  intro r l
  have e0 : Is2 (View.readAt (Elt Ideal) arg1.view (Rect.unit (s := S512x1024) ![0, 0] S512x1024.size inb_S512x1024_S512x1024_0_0).toLoadRect (harg1.unread x0)) D := (load_whole harg1 x0 _).symm ▸ h0
  unfold out0_A_6 kernelRun0_A
  dsimp only
  refine (store_hit VO0_6 _ 0 0 inb_S512x512_S512x512_0_0 _ [] r l r l (by omega) (by omega)).trans ?_
  refine part0_at e0 (high_w arg2 harg2 h1) (?_ : Is2 _ C) (row1_g arg5 harg5 h4) r l
  · exact (load_whole harg4 x3 _).symm ▸ h3

include h0 h1 h2 h4 in
theorem do_B (hc0 : ¬cond0_0 i) : Is2 (out0_B_5 c i arg1 harg1 arg2 harg2 arg3 harg3 arg4 harg4 arg5 harg5 arg6 harg6 arg7 harg7 arg8 harg8 hc0 x0 x1 x2 x3 x4 xo7) (dst 512 O fun r l => dr D W r l * G 0 l) := by
  intro r l
  unfold out0_B_5 kernelRun0_B
  dsimp only
  refine (store_hit VO0_5 _ 0 0 inb_S512x512_S512x512_0_0 _ [] r l r l (by omega) (by omega)).trans ?_
  refine part0_at (?_ : Is2 _ D) (low_w arg2 harg2 h1) (?_ : Is2 _ O) (row0_g arg5 harg5 h4) r l
  · exact (load_whole harg1 x0 _).symm ▸ h0
  · exact (load_whole harg3 x2 _).symm ▸ h2

include h0 h1 h3 h4 in
theorem dc_B (hc0 : ¬cond0_0 i) : Is2 (out0_B_6 c i arg1 harg1 arg2 harg2 arg3 harg3 arg4 harg4 arg5 harg5 arg6 harg6 arg7 harg7 arg8 harg8 hc0 x0 x1 x2 x3 x4 xo7) (dst 512 C fun r l => dr D (fun l k => W (512 + l) k) r l * G 1 l) := by
  intro r l
  have e0 : Is2 (View.readAt (Elt Ideal) arg1.view (Rect.unit (s := S512x1024) ![0, 0] S512x1024.size inb_S512x1024_S512x1024_0_0).toLoadRect (harg1.unread x0)) D := (load_whole harg1 x0 _).symm ▸ h0
  unfold out0_B_6 kernelRun0_B
  dsimp only
  refine (store_hit VO0_6 _ 0 0 inb_S512x512_S512x512_0_0 _ [] r l r l (by omega) (by omega)).trans ?_
  refine part0_at e0 (high_w arg2 harg2 h1) (?_ : Is2 _ C) (row1_g arg5 harg5 h4) r l
  · exact (load_whole harg4 x3 _).symm ▸ h3

/-- The rows' sums of one tile. -/
def tileSum (D W O C : ℕ → ℕ → ℝ) (r l : ℕ) : ℝ :=
  if r = 0 then ∑ i ∈ Finset.range 512, dr D W i l * vh 512 O i l
  else if r = 1 then ∑ i ∈ Finset.range 512, dr D (fun l k => W (512 + l) k) i l * vh 512 C i l else 0

include h0 h1 h2 h3 in
theorem st_A (hc0 : cond0_0 i) : Is2 (out0_A_7 c i arg1 harg1 arg2 harg2 arg3 harg3 arg4 harg4 arg5 harg5 arg6 harg6 arg7 harg7 arg8 harg8 hc0 x0 x1 x2 x3 x4) (tileSum D W O C) := by
  have e0 : Is2 (View.readAt (Elt Ideal) arg1.view (Rect.unit (s := S512x1024) ![0, 0] S512x1024.size inb_S512x1024_S512x1024_0_0).toLoadRect (harg1.unread x0)) D := (load_whole harg1 x0 _).symm ▸ h0
  have e2 : Is2 (View.readAt (Elt Ideal) arg3.view (Rect.unit (s := S512x512) ![0, 0] S512x512.size inb_S512x512_S512x512_0_0).toLoadRect (harg3.unread x2)) O := (load_whole harg3 x2 _).symm ▸ h2
  have e3 : Is2 (View.readAt (Elt Ideal) arg4.view (Rect.unit (s := S512x512) ![0, 0] S512x512.size inb_S512x512_S512x512_0_0).toLoadRect (harg4.unread x3)) C := (load_whole harg4 x3 _).symm ▸ h3
  have z : ∀ (v : View sig .tc .vmem S8x512 .f32) (r : Fin 8) (l : Fin 512),
      v.read (Elt Ideal) (v.writes (Elt Ideal) v.junk [⟨Rect.unit (s := S8x512) ![0, 0] S8x512.size inb_S8x512_S8x512_0_0, k0_pay1 (F := Ideal)⟩]) (ix2 r l) = ((0 : ℝ) : EReal) := by
    intro v r l
    refine (store_hit v _ 0 0 inb_S8x512_S8x512_0_0 _ [] r l r l (by omega) (by omega)).trans ?_
    pointwise [k0_pay1]
    simp
  intro r l
  unfold out0_A_7 kernelRun0_A
  dsimp only [kernelRun0_A.sl.H7_2, kernelRun0_A.sl.v55, kernelRun0_A.sl.v20, kernelRun0_A.sl.H7_1]
  rcases Nat.lt_trichotomy r.val 1 with hr | hr | hr
  · have hr : r.val = 0 := by omega
    refine (store_miss VO0_7 _ 1 0 inb_S8x512_S1x512_1_0 _ _ r l (by omega)).trans ?_
    refine (store_hit VO0_7 _ 0 0 inb_S8x512_S1x512_0_0 _ _ r l 0 l (by simp [hr]) (by omega)).trans ?_
    refine (pay5_at (S := fun _ _ => 0) e0 (low_w arg2 harg2 h1) e2 (fun a b => ?_) 0 l).trans ?_
    · refine (load_apply arg8.view _ 0 0 inb_S8x512_S1x512_0_0 a b (by omega) (by omega)).trans ?_
      exact z _ _ _
    · rw [tileSum, if_pos hr, ← zero_add (∑ i ∈ _, _)]
  · refine (store_hit VO0_7 _ 1 0 inb_S8x512_S1x512_1_0 _ _ r l 0 l (by simp [hr]) (by omega)).trans ?_
    rw [pay11_eq]
    refine (pay5_at (S := fun _ _ => 0) e0 (high_w arg2 harg2 h1) e3 (fun a b => ?_) 0 l).trans ?_
    · refine (load_apply arg8.view _ 1 0 inb_S8x512_S1x512_1_0 a b (by omega) (by omega)).trans ?_
      refine (store_miss arg8.view _ 0 0 inb_S8x512_S1x512_0_0 _ _ _ _ (by right; show 0 + 1 ≤ 1 + a.val; omega)).trans ?_
      exact z _ _ _
    · rw [tileSum, if_neg (by omega), if_pos hr, ← zero_add (∑ i ∈ _, _)]
  · refine (store_miss VO0_7 _ 1 0 inb_S8x512_S1x512_1_0 _ _ r l (by omega)).trans ?_
    refine (store_miss VO0_7 _ 0 0 inb_S8x512_S1x512_0_0 _ _ r l (by omega)).trans ?_
    rw [tileSum, if_neg (by omega), if_neg (by omega)]
    exact z _ _ _

include h0 h1 h2 h3 in
theorem st_B (hc0 : ¬cond0_0 i) (h7 : Is2 xo7 S) : Is2 (out0_B_7 c i arg1 harg1 arg2 harg2 arg3 harg3 arg4 harg4 arg5 harg5 arg6 harg6 arg7 harg7 arg8 harg8 hc0 x0 x1 x2 x3 x4 xo7) fun r l => S r l + tileSum D W O C r l := by
  have e0 : Is2 (View.readAt (Elt Ideal) arg1.view (Rect.unit (s := S512x1024) ![0, 0] S512x1024.size inb_S512x1024_S512x1024_0_0).toLoadRect (harg1.unread x0)) D := (load_whole harg1 x0 _).symm ▸ h0
  have e2 : Is2 (View.readAt (Elt Ideal) arg3.view (Rect.unit (s := S512x512) ![0, 0] S512x512.size inb_S512x512_S512x512_0_0).toLoadRect (harg3.unread x2)) O := (load_whole harg3 x2 _).symm ▸ h2
  have e3 : Is2 (View.readAt (Elt Ideal) arg4.view (Rect.unit (s := S512x512) ![0, 0] S512x512.size inb_S512x512_S512x512_0_0).toLoadRect (harg4.unread x3)) C := (load_whole harg4 x3 _).symm ▸ h3
  intro r l
  unfold out0_B_7 kernelRun0_B
  dsimp only [kernelRun0_B.sl.v55]
  rcases Nat.lt_trichotomy r.val 1 with hr | hr | hr
  · have hr : r.val = 0 := by omega
    refine (store_miss arg8.view _ 1 0 inb_S8x512_S1x512_1_0 _ _ r l (by omega)).trans ?_
    refine (store_hit arg8.view _ 0 0 inb_S8x512_S1x512_0_0 _ _ r l 0 l (by simp [hr]) (by omega)).trans ?_
    refine (pay5_at (S := fun _ l => S 0 l) e0 (low_w arg2 harg2 h1) e2 (fun a b => ?_) 0 l).trans ?_
    · refine (load_apply arg8.view _ 0 0 inb_S8x512_S1x512_0_0 a b (by omega) (by omega)).trans ?_
      rw [harg8.read_unread, h7, Subsingleton.elim a 0]
      simp
    · rw [tileSum, if_pos hr, hr]
  · refine (store_hit arg8.view _ 1 0 inb_S8x512_S1x512_1_0 _ _ r l 0 l (by simp [hr]) (by omega)).trans ?_
    rw [pay11_eq]
    refine (pay5_at (S := fun _ l => S 1 l) e0 (high_w arg2 harg2 h1) e3 (fun a b => ?_) 0 l).trans ?_
    · refine (load_apply arg8.view _ 1 0 inb_S8x512_S1x512_1_0 a b (by omega) (by omega)).trans ?_
      rw [harg8.read_unread, h7, Subsingleton.elim a 0]
      simp
    · rw [tileSum, if_neg (by omega), if_pos hr, hr]
  · refine (store_miss arg8.view _ 1 0 inb_S8x512_S1x512_1_0 _ _ r l (by omega)).trans ?_
    refine (store_miss arg8.view _ 0 0 inb_S8x512_S1x512_0_0 _ _ r l (by omega)).trans ?_
    rw [tileSum, if_neg (by omega), if_neg (by omega), add_zero, View.writes_nil, harg8.read_unread]
    exact h7 r l

end Cert.MixIdeal.Rows

end
-- ==== Proof.MixRun.lean ====
/- The mixer's backward call over its grid: what the three results hold when the arguments are real numbers. -/
module

public import proofs.«01_k».proof.Proof.MixPoint
public import Idealize.ShloMosaic.Lib.UnfoldOut
public import Idealize.ShloMosaic.Lib.Pipeline.ValueKit

@[expose] public section

set_option maxRecDepth 16384

noncomputable section

namespace Cert.MixIdeal.Rows

open Idealize.ShloMosaic Idealize.ShloMosaic.TcCoe Cert.MixIdeal Cert.MixIdeal.Gen Cert.Reals Cert.Scalars Cert.Norms

/-- The two gains as the rows of one array. -/
def two (A B : ℕ → ℕ → ℝ) (r l : ℕ) : ℝ := if r = 0 then A 0 l else B 0 l

/-- The rows' sums over the first `n` rows. -/
def rowSums (D W O C : ℕ → ℕ → ℝ) (n r l : ℕ) : ℝ :=
  if r = 0 then ∑ i ∈ Finset.range n, dr D W i l * vh 512 O i l
  else if r = 1 then ∑ i ∈ Finset.range n, dr D (fun l k => W (512 + l) k) i l * vh 512 C i l else 0

theorem rowSums_next (D W O C : ℕ → ℕ → ℝ) (n r l : ℕ) : rowSums D W O C (n + 512) r l
    = rowSums D W O C n r l + tileSum (fun i k => D (n + i) k) W (fun i k => O (n + i) k) (fun i k => C (n + i) k) r l := by
  unfold rowSums tileSum
  split
  · exact Finset.sum_range_add _ _ _
  · split
    · exact Finset.sum_range_add _ _ _
    · exact (add_zero _).symm

variable (m : (ℓ : Loc nD τ sig) → Buf (Elt Ideal) ℓ) (c : Dev nD)

/-- The arguments are real numbers. -/
structure Args (O C A B W D : ℕ → ℕ → ℝ) : Prop where
  ho : Is2 (m ((c : Thread nD τ).loc main_arg0) : Vec Ideal S8192x512 .f32) O
  hc : Is2 (m ((c : Thread nD τ).loc main_arg1) : Vec Ideal S8192x512 .f32) C
  ha : Is2 (m ((c : Thread nD τ).loc main_arg2) : Vec Ideal S1x512 .f32) A
  hb : Is2 (m ((c : Thread nD τ).loc main_arg3) : Vec Ideal S1x512 .f32) B
  hw : Is2 (m ((c : Thread nD τ).loc main_arg4) : Vec Ideal S1024x1024 .bf16) W
  hd : Is2 (m ((c : Thread nD τ).loc main_arg5) : Vec Ideal S8192x1024 .bf16) D

theorem V_gains : (V m c main_v1 : Vec Ideal S8x512 .f32)
    = pad S8x512 ![0, 0] ![6, 0] ![0, 0] (concatenate S2x512 0 [⟨S1x512, m ((c : Thread nD τ).loc main_arg2)⟩, ⟨S1x512, m ((c : Thread nD τ).loc main_arg3)⟩] concatenates_S1x512_S1x512_S2x512_d0)
      (sitofp (F := Ideal) .f32 (constantI S_ 32 0#32)) pads_S2x512_S8x512_060_000 h_S_ := by
  unfold_abbrev_sides
  simp only [hostOps0, hostOps0_1, List.flatten_cons, List.flatten_nil, List.append_nil, List.cons_append, List.nil_append]
  after_results_simp
  rfl

theorem idx (t : Fin cfg0.N) : win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] := by
  revert t; decide +kernel

theorem pts (t : Fin cfg0.N) : t.val < 16 := t.isLt

theorem read_d (f : Vec Ideal S8192x1024 .bf16) (t : Fin cfg0.N) (a : Fin 512) (k : Fin 1024) (h : 512 * t.val + a.val < 8192) :
    ((cfg0.win 0).blk t).view.read (Elt Ideal) f (ix2 a k) = f (ix2 ⟨512 * t.val + a.val, h⟩ k) := by
  blk_ext [idx t]

theorem read_w (f : Vec Ideal S1024x1024 .bf16) (t : Fin cfg0.N) (a k : Fin 1024) :
    ((cfg0.win 1).blk t).view.read (Elt Ideal) f (ix2 a k) = f (ix2 a k) := by
  blk_ext [idx t]

theorem read_o (f : Vec Ideal S8192x512 .f32) (t : Fin cfg0.N) (a k : Fin 512) (h : 512 * t.val + a.val < 8192) :
    ((cfg0.win 2).blk t).view.read (Elt Ideal) f (ix2 a k) = f (ix2 ⟨512 * t.val + a.val, h⟩ k) := by
  blk_ext [idx t]

theorem read_c (f : Vec Ideal S8192x512 .f32) (t : Fin cfg0.N) (a k : Fin 512) (h : 512 * t.val + a.val < 8192) :
    ((cfg0.win 3).blk t).view.read (Elt Ideal) f (ix2 a k) = f (ix2 ⟨512 * t.val + a.val, h⟩ k) := by
  blk_ext [idx t]

theorem read_g (f : Vec Ideal S8x512 .f32) (t : Fin cfg0.N) (a : Fin 8) (k : Fin 512) :
    ((cfg0.win 4).blk t).view.read (Elt Ideal) f (ix2 a k) = f (ix2 a k) := by
  blk_ext [idx t]

variable {m c} {O C A B W D : ℕ → ℕ → ℝ} (E : Args m c O C A B W D)
include E

theorem gains (r : Fin 8) (l : Fin 512) (hr : r.val < 2) : (V m c main_v1 : Vec Ideal S8x512 .f32) (ix2 r l) = (two A B r l : EReal) := by
  refine (congrFun (V_gains m c) _).trans ?_
  have ha := E.ha
  have hb := E.hb
  generalize (m ((c : Thread nD τ).loc main_arg2) : Vec Ideal S1x512 .f32) = x at ha ⊢
  generalize (m ((c : Thread nD τ).loc main_arg3) : Vec Ideal S1x512 .f32) = y at hb ⊢
  pointwise
  rw [dif_pos hr]
  by_cases h : r.val < 1
  · rw [dif_pos h, ha, two, if_pos (by omega)]
    congr 2
    simp only
    omega
  · rw [dif_neg h]
    refine (hb _ _).trans ?_
    have hn : ¬ r.val = 0 := fun e => h (by omega)
    rw [show two A B r.val l.val = B 0 l.val from if_neg hn]
    exact congrArg (fun n => (B n l.val : EReal)) (show r.val - 1 = 0 by omega)

/-- The operands of a point, in one statement. -/
theorem ops (t : Fin cfg0.N) : Is2 (iblk m c 0 t : Vec Ideal S512x1024 .bf16) (fun a k => D (512 * t.val + a) k) ∧ Is2 (iblk m c 1 t : Vec Ideal S1024x1024 .bf16) W
    ∧ Is2 (iblk m c 2 t : Vec Ideal S512x512 .f32) (fun a k => O (512 * t.val + a) k) ∧ Is2 (iblk m c 3 t : Vec Ideal S512x512 .f32) (fun a k => C (512 * t.val + a) k)
    ∧ ∀ (r : Fin 8) (l : Fin 512), r.val < 2 → (iblk m c 4 t : Vec Ideal S8x512 .f32) (ix2 r l) = (two A B r l : EReal) := by
  have ht := pts t
  refine ⟨fun a k => ?_, fun a k => ?_, fun a k => ?_, fun a k => ?_, fun a k hr => ?_⟩
  · exact (read_d (V m c main_arg5) t a k (by omega)).trans ((congrFun (V_main_arg5 m c) _).trans (E.hd _ _))
  · exact (read_w (V m c main_arg4) t a k).trans ((congrFun (V_main_arg4 m c) _).trans (E.hw _ _))
  · exact (read_o (V m c main_arg0) t a k (by omega)).trans ((congrFun (V_main_arg0 m c) _).trans (E.ho _ _))
  · exact (read_c (V m c main_arg1) t a k (by omega)).trans ((congrFun (V_main_arg1 m c) _).trans (E.hc _ _))
  · exact (read_g (V m c main_v1) t a k).trans (gains E a k hr)

theorem rows_o (t : Fin cfg0.N) : Is2 (outsAt0 m c t.val t.isLt).1 fun a l => dst 512 O (fun r l => dr D W r l * A 0 l) (512 * t.val + a) l := by
  obtain ⟨h0, h1, h2, h3, h4⟩ := ops E t
  by_cases h : t.val % 16 = 0
  · have K := do_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (grid0.coords t) h0 h1 h2 h4 (x3 := iblk m c 3 t) ((hcond0_0 t).mpr h)
    rw [outsAt0_A m c t h]
    dsimp only
    exact K
  · have K := do_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (grid0.coords t) h0 h1 h2 h4 (x3 := iblk m c 3 t) (xo7 := (outsAt0 m c (t.val - 1) (Nat.lt_of_le_of_lt (Nat.sub_le _ _) t.isLt)).2.2) (fun k => h ((hcond0_0 t).mp k))
    rw [outsAt0_B m c t h]
    dsimp only
    exact K

theorem rows_c (t : Fin cfg0.N) : Is2 (outsAt0 m c t.val t.isLt).2.1 fun a l => dst 512 C (fun r l => dr D (fun l k => W (512 + l) k) r l * B 0 l) (512 * t.val + a) l := by
  obtain ⟨h0, h1, h2, h3, h4⟩ := ops E t
  by_cases h : t.val % 16 = 0
  · have K := dc_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (grid0.coords t) h0 h1 h3 h4 (x2 := iblk m c 2 t) ((hcond0_0 t).mpr h)
    rw [outsAt0_A m c t h]
    dsimp only
    exact K
  · have K := dc_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (grid0.coords t) h0 h1 h3 h4 (x2 := iblk m c 2 t) (xo7 := (outsAt0 m c (t.val - 1) (Nat.lt_of_le_of_lt (Nat.sub_le _ _) t.isLt)).2.2) (fun k => h ((hcond0_0 t).mp k))
    rw [outsAt0_B m c t h]
    dsimp only
    exact K

theorem stats (n : ℕ) (hn : n < cfg0.N) : Is2 (outsAt0 m c n hn).2.2 (rowSums D W O C (512 * n + 512)) := by
  induction n with
  | zero =>
    obtain ⟨h0, h1, h2, h3, h4⟩ := ops E ⟨0, hn⟩
    have K := st_A c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (grid0.coords ⟨0, hn⟩) h0 h1 h2 h3 (x4 := iblk m c 4 ⟨0, hn⟩) ((hcond0_0 ⟨0, hn⟩).mpr rfl)
    rw [outsAt0_A m c ⟨0, hn⟩ rfl]
    dsimp only
    intro r l
    refine (K r l).trans (congrArg _ ?_)
    rw [rowSums_next]
    simp [rowSums]
  | succ n ih =>
    have hn' : n + 1 < 16 := hn
    have h : ¬(n + 1) % 16 = 0 := by omega
    obtain ⟨h0, h1, h2, h3, h4⟩ := ops E ⟨n + 1, hn⟩
    have K := st_B c (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (grid0.coords ⟨n + 1, hn⟩) h0 h1 h2 h3 (x4 := iblk m c 4 ⟨n + 1, hn⟩) (fun k => h ((hcond0_0 ⟨n + 1, hn⟩).mp k)) (ih (Nat.lt_of_succ_lt hn))
    rw [outsAt0_B m c ⟨n + 1, hn⟩ h]
    dsimp only
    intro r l
    refine (K r l).trans (congrArg _ ?_)
    rw [rowSums_next]
    rfl

omit E in
theorem arr_o_of (f : ℕ → ℕ → ℝ) (h : ∀ t : Fin cfg0.N, Is2 (outsAt0 m c t.val t.isLt).1 fun a l => f (512 * t.val + a) l) :
    Is2 ((dats m 0 c).arrAt 5 cfg0.N : Vec Ideal S8192x512 .f32) f := by
  have K : (dats m 0 c).arrAt 5 cfg0.N = (fun x => ((f (x 0).val (x 1).val : ℝ) : EReal) : Vec Ideal S8192x512 .f32) := by
    refine (dats m 0 c).arrAt_eq_of_covers 5 _ (by decide +kernel) fun t hf y => ?_
    blk_simp
    rw [after0_5]
    obtain ⟨r, j, rfl⟩ : ∃ (r : Fin 512) (j : Fin 512), y = ix2 r j := ⟨y 0, y 1, eq_ix2 y⟩
    refine (h t r j).trans ?_
    rw [(idx t).2.2.2.2.2.1]
    congr 2 <;> simp [Nat.mul_comm]
  intro r l
  exact congrFun K _

omit E in
theorem arr_c_of (f : ℕ → ℕ → ℝ) (h : ∀ t : Fin cfg0.N, Is2 (outsAt0 m c t.val t.isLt).2.1 fun a l => f (512 * t.val + a) l) :
    Is2 ((dats m 0 c).arrAt 6 cfg0.N : Vec Ideal S8192x512 .f32) f := by
  have K : (dats m 0 c).arrAt 6 cfg0.N = (fun x => ((f (x 0).val (x 1).val : ℝ) : EReal) : Vec Ideal S8192x512 .f32) := by
    refine (dats m 0 c).arrAt_eq_of_covers 6 _ (by decide +kernel) fun t hf y => ?_
    blk_simp
    rw [after0_6]
    obtain ⟨r, j, rfl⟩ : ∃ (r : Fin 512) (j : Fin 512), y = ix2 r j := ⟨y 0, y 1, eq_ix2 y⟩
    refine (h t r j).trans ?_
    rw [(idx t).2.2.2.2.2.2.1]
    congr 2 <;> simp [Nat.mul_comm]
  intro r l
  exact congrFun K _

theorem arr_o : Is2 ((dats m 0 c).arrAt 5 cfg0.N : Vec Ideal S8192x512 .f32) (dst 512 O fun r l => dr D W r l * A 0 l) := arr_o_of _ (rows_o E)

theorem arr_c : Is2 ((dats m 0 c).arrAt 6 cfg0.N : Vec Ideal S8192x512 .f32) (dst 512 C fun r l => dr D (fun l k => W (512 + l) k) r l * B 0 l) := arr_c_of _ (rows_c E)

omit E in
theorem arr_st_of (f : ℕ → ℕ → ℝ) (h : ∀ t : Fin cfg0.N, t.val = 15 → Is2 (outsAt0 m c t.val t.isLt).2.2 f) :
    Is2 ((dats m 0 c).arrAt 7 cfg0.N : Vec Ideal S8x512 .f32) f := by
  have K : (dats m 0 c).arrAt 7 cfg0.N = (fun x => ((f (x 0).val (x 1).val : ℝ) : EReal) : Vec Ideal S8x512 .f32) := by
    refine (dats m 0 c).arrAt_eq_of_covers 7 _ (by decide +kernel) fun t hf y => ?_
    blk_simp
    rw [after0_7]
    obtain ⟨r, j, rfl⟩ : ∃ (r : Fin 8) (j : Fin 512), y = ix2 r j := ⟨y 0, y 1, eq_ix2 y⟩
    have hf' := (flush0_7 t).1 hf
    have ht := pts t
    refine (h t (by omega) r j).trans ?_
    rw [(idx t).2.2.2.2.2.2.2]
    congr 2 <;> simp
  intro r l
  exact congrFun K _

theorem arr_st : Is2 ((dats m 0 c).arrAt 7 cfg0.N : Vec Ideal S8x512 .f32) (rowSums D W O C 8192) :=
  arr_st_of _ fun t ht => by
    have K := stats E t.val t.isLt
    rw [show 512 * t.val + 512 = 8192 by omega] at K
    exact K

end Cert.MixIdeal.Rows

end
-- ==== Proof.MixRef.lean ====
/- The mixer's reference over the reals: the transposed host lines of its two row norms, read entry by entry. -/
module

public import proofs.«01_k».proof.Proof.Norms
public import proofs.«01_k».proof.Proof.Reals
public import proofs.«01_k».proof.Proof.Scalars
public import proofs.«01_k».proof.Proof.Gen.MixRefIdeal
public import Idealize.ShloMosaic.Lib.StableHlo.RunHlo

@[expose] public section

set_option maxRecDepth 16384

noncomputable section

namespace Cert.MixRefIdeal.Soft

open Idealize.ShloMosaic Idealize.ShloMosaic.TcCoe Cert.MixRefIdeal Cert.MixRefIdeal.Gen Cert.Reals Cert.Scalars Cert.Norms

/-- A number for every row. -/
def col (b : BitVec 32) : Vec Ideal S8192x1 .f32 := broadcastInDim S8192x1 ![] bcast_S_S8192x1 (constant (F := Ideal) S_ .f32 b)

def across (x : Vec Ideal S8192x1 .f32) : Vec Ideal S8192x512 .f32 := broadcastInDim S8192x512 ![0, 1] bcast_S8192x1_S8192x512_0_1 x

def down (x : Vec Ideal S8192x512 .f32) : Vec Ideal S512 .f32 :=
  Host.reduceAdd (F := Ideal) (φ := .f32) x (constant (F := Ideal) S_ .f32 0x00000000#32) reducesTo_S8192x512_S512_d0 h_S_

def along (x : Vec Ideal S8192x512 .f32) : Vec Ideal S8192 .f32 :=
  Host.reduceAdd (F := Ideal) (φ := .f32) x (constant (F := Ideal) S_ .f32 0x00000000#32) reducesTo_S8192x512_S8192_d1 h_S_

/-- The row's mean square, with `eps`. -/
def square (x : Vec Ideal S8192x512 .f32) : Vec Ideal S8192x1 .f32 :=
  addf (F := Ideal) (φ := .f32) (Host.divf (F := Ideal) (φ := .f32)
    (broadcastInDim S8192x1 ![0] bcast_S8192_S8192x1_0 (along (mulf (F := Ideal) (φ := .f32) x x))) (col 0x44000000#32)) (col 0x3727C5AC#32)

def factor (x : Vec Ideal S8192x512 .f32) : Vec Ideal S8192x1 .f32 := Host.rsqrt (F := Ideal) (φ := .f32) (square x)

/-- The factor's derivative. -/
def slope (x : Vec Ideal S8192x512 .f32) : Vec Ideal S8192x1 .f32 :=
  mulf (F := Ideal) (φ := .f32) (col 0xBF000000#32) (Host.divf (F := Ideal) (φ := .f32) (factor x) (square x))

def scaled (x : Vec Ideal S8192x512 .f32) : Vec Ideal S8192x512 .f32 := mulf (F := Ideal) (φ := .f32) x (across (factor x))

def gain (g : Vec Ideal S1x512 .f32) : Vec Ideal S8192x512 .f32 :=
  broadcastInDim S8192x512 ![0, 1] bcast_S1x512_S8192x512_0_1 (broadcastInDim S1x512 ![1] bcast_S512_S1x512_1 (shapeCast S512 g shapeCasts_S1x512_S512))

def pull (w : Vec Ideal S1024x1024 .bf16) (d : Vec Ideal S8192x1024 .bf16) : Vec Ideal S8192x1024 .f32 :=
  Host.dotGeneral (F := Ideal) (φ₁ := .f32) (φ₂ := .f32) dot_S8192x1024_S1024x1024_S8192x1024_1_1_0_0_n_n none
    (extf (F := Ideal) (φ := .bf16) .f32 d bitsLt_bf16_f32) (extf (F := Ideal) (φ := .bf16) .f32 w bitsLt_bf16_f32)

def first (x : Vec Ideal S8192x1024 .f32) : Vec Ideal S8192x512 .f32 := extractStridedSlice S8192x512 ![0, 0] x slices_S8192x1024_S8192x512_0_0

def second (x : Vec Ideal S8192x1024 .f32) : Vec Ideal S8192x512 .f32 := extractStridedSlice S8192x512 ![0, 512] x slices_S8192x1024_S8192x512_0_512

/-- What the factor's gradient sends to every entry of a row. -/
def share (x t : Vec Ideal S8192x512 .f32) : Vec Ideal S8192x512 .f32 :=
  broadcastInDim S8192x512 ![0] bcast_S8192_S8192x512_0 (Host.reduceAdd (F := Ideal) (φ := .f32)
    (Host.divf (F := Ideal) (φ := .f32) (mulf (F := Ideal) (φ := .f32) (shapeCast S8192x1 (along (mulf (F := Ideal) (φ := .f32) x t)) shapeCasts_S8192_S8192x1) (slope x)) (col 0x44000000#32))
    (constant (F := Ideal) S_ .f32 0x00000000#32) reducesTo_S8192x1_S8192_d1 h_S_)

/-- A row norm's gradient. -/
def grad (x t : Vec Ideal S8192x512 .f32) : Vec Ideal S8192x512 .f32 :=
  addf (F := Ideal) (φ := .f32) (addf (F := Ideal) (φ := .f32) (mulf (F := Ideal) (φ := .f32) t (across (factor x))) (mulf (F := Ideal) (φ := .f32) x (share x t)))
    (mulf (F := Ideal) (φ := .f32) (share x t) x)

/-- The gradient of a gain. -/
def gradGain (x d : Vec Ideal S8192x512 .f32) : Vec Ideal S1x512 .f32 :=
  broadcastInDim S1x512 ![1] bcast_S512_S1x512_1 (Host.reduceAdd (F := Ideal) (φ := .f32)
    (shapeCast S1x512 (down (mulf (F := Ideal) (φ := .f32) (scaled x) d)) shapeCasts_S512_S1x512) (constant (F := Ideal) S_ .f32 0x00000000#32) reducesTo_S1x512_S512_d0 h_S_)

def outX (x d : Vec Ideal S8192x512 .f32) (g : Vec Ideal S1x512 .f32) : Vec Ideal S8192x512 .f32 := grad x (mulf (F := Ideal) (φ := .f32) d (gain g))

def outS (x y p q : Vec Ideal S8192x512 .f32) : Vec Ideal S8x512 .f32 :=
  concatenate S8x512 0 [⟨S1x512, gradGain x p⟩, ⟨S1x512, gradGain y q⟩,
    ⟨S6x512, broadcastInDim S6x512 ![] bcast_S_S6x512 (constant (F := Ideal) S_ .f32 0x00000000#32)⟩] concatenates_S1x512_S1x512_S6x512_S8x512_d0

variable {x t d : Vec Ideal S8192x512 .f32} {X T D : ℕ → ℕ → ℝ}

theorem along_at (hx : Is2 x X) (r : Fin 8192) : along x (ix1 r) = ((∑ l ∈ Finset.range 512, X r l : ℝ) : EReal) := by
  pointwise [along]
  simp only [hx _ _, ← coe_sum]
  rw [Finset.sum_range]

theorem square_at (hx : Is2 x X) : Is2 (square x) fun r _ => ms 512 X r := by
  intro r j
  pointwise [square, col]
  rw [along_at (X := fun r l => X r l * X r l) (fun r l => by pointwise; rw [hx, ← EReal.coe_mul]), bits_512, eps_bits, div_coe (by norm_num), ← EReal.coe_add]
  rfl

theorem factor_at (hx : Is2 x X) : Is2 (factor x) fun r _ => rr 512 X r := by
  intro r j
  pointwise [factor]
  rw [square_at hx, rsqrt_pos (ms_pos 512 X r)]
  rfl

theorem slope_at (hx : Is2 x X) : Is2 (slope x) fun r _ => -1 / 2 * (rr 512 X r / ms 512 X r) := by
  intro r j
  pointwise [slope, col]
  rw [factor_at hx, square_at hx, half_bits, div_coe (ms_pos 512 X r).ne', ← EReal.coe_mul]

theorem scaled_at (hx : Is2 x X) : Is2 (scaled x) (vh 512 X) := by
  intro r j
  pointwise [scaled, across]
  rw [hx, factor_at hx, ← EReal.coe_mul]
  rfl

theorem gain_at {g : Vec Ideal S1x512 .f32} {A : ℕ → ℕ → ℝ} (hg : Is2 g A) : Is2 (gain g) fun _ l => A 0 l := by
  intro r l
  pointwise [gain]
  exact hg _ _

theorem pull_at {w : Vec Ideal S1024x1024 .bf16} {d : Vec Ideal S8192x1024 .bf16} {W D : ℕ → ℕ → ℝ} (hw : Is2 w W) (hd : Is2 d D) :
    Is2 (pull w d) fun r l => ∑ k ∈ Finset.range 1024, D r k * W l k := by
  intro r l
  pointwise [pull]
  simp only [hw _ _, hd _ _, ← EReal.coe_mul, ← coe_sum]
  rw [Finset.sum_range]

theorem first_at {p : Vec Ideal S8192x1024 .f32} {P : ℕ → ℕ → ℝ} (hp : Is2 p P) : Is2 (first p) P := by
  intro r l
  pointwise [first]
  exact hp _ _

theorem second_at {p : Vec Ideal S8192x1024 .f32} {P : ℕ → ℕ → ℝ} (hp : Is2 p P) : Is2 (second p) fun r l => P r (512 + l) := by
  intro r l
  pointwise [second]
  exact hp _ _

theorem mul_at {x t : Vec Ideal S8192x512 .f32} {X T : ℕ → ℕ → ℝ} (hx : Is2 x X) (ht : Is2 t T) : Is2 (mulf (F := Ideal) (φ := .f32) x t : Vec Ideal S8192x512 .f32) fun r l => X r l * T r l := by
  intro r l
  pointwise
  rw [hx, ht, ← EReal.coe_mul]

theorem share_at (hx : Is2 x X) (ht : Is2 t T) :
    Is2 (share x t) fun r _ => (∑ l ∈ Finset.range 512, X r l * T r l) * (-1 / 2 * (rr 512 X r / ms 512 X r)) / (512 : ℕ) := by
  intro r l
  pointwise [share, col]
  refine (Fin.sum_univ_one _).trans ?_
  rw [along_at (mul_at hx ht), slope_at hx, bits_512, ← EReal.coe_mul, div_coe (by norm_num)]
  norm_num

theorem grad_at (hx : Is2 x X) (ht : Is2 t T) : Is2 (grad x t) (dst 512 X T) := by
  intro r l
  pointwise [grad, across]
  rw [factor_at hx, share_at hx ht, hx, ht, ← EReal.coe_mul, ← EReal.coe_mul, ← EReal.coe_mul, ← EReal.coe_add, ← EReal.coe_add]
  exact congrArg _ (dst_eq 512 X T r l)

theorem outX_at {g : Vec Ideal S1x512 .f32} {A : ℕ → ℕ → ℝ} (hx : Is2 x X) (hd : Is2 d D) (hg : Is2 g A) :
    Is2 (outX x d g) (dst 512 X fun r l => D r l * A 0 l) := grad_at hx (mul_at hd (gain_at hg))

theorem gradGain_at (hx : Is2 x X) (hd : Is2 d D) : Is2 (gradGain x d) fun _ l => ∑ r ∈ Finset.range 8192, D r l * vh 512 X r l := by
  have K := mul_at (scaled_at hx) hd
  intro r l
  pointwise [gradGain, down]
  rw [one_sum]
  simp only [scaled_at hx _ _, hd _ _, ← EReal.coe_mul, ← coe_sum]
  rw [Finset.sum_range]
  simp only [mul_comm]

theorem outS_at {x y p q : Vec Ideal S8192x512 .f32} {X Y P Q : ℕ → ℕ → ℝ} (hx : Is2 x X) (hy : Is2 y Y) (hp : Is2 p P) (hq : Is2 q Q) :
    Is2 (outS x y p q) fun r l => if r = 0 then ∑ i ∈ Finset.range 8192, P i l * vh 512 X i l
      else if r = 1 then ∑ i ∈ Finset.range 8192, Q i l * vh 512 Y i l else 0 := by
  have ha := gradGain_at hx hp
  have hb := gradGain_at hy hq
  intro r l
  unfold outS
  generalize gradGain x p = a at ha ⊢
  generalize gradGain y q = b at hb ⊢
  pointwise
  by_cases h : r.val < 1
  · refine (dif_pos h).trans ((ha _ _).trans (congrArg _ (if_pos ?_).symm))
    exact Nat.lt_one_iff.1 h
  · have h0 : ¬ r.val = 0 := fun e => h (e ▸ Nat.one_pos)
    refine (dif_neg h).trans (Eq.trans ?_ (congrArg _ (if_neg h0).symm))
    by_cases h' : r.val - 1 < 1
    · have h1 : r.val = 1 := by omega
      exact (dif_pos h').trans ((hb _ _).trans (congrArg _ (if_pos h1).symm))
    · have h1 : ¬ r.val = 1 := by omega
      refine (dif_neg h').trans (Eq.trans ?_ (congrArg _ (if_neg h1).symm))
      simp

variable (m : (ℓ : Loc nD τ sig) → Buf (Elt Ideal) ℓ)

open Idealize.SL.Sem StableHlo in
set_option maxHeartbeats 4000000 in
/-- What the reference leaves: every result as a function of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v81) = outX (m ((c : Thread nD τ).loc main_arg0)) (first (pull (m ((c : Thread nD τ).loc main_arg4)) (m ((c : Thread nD τ).loc main_arg5)))) (m ((c : Thread nD τ).loc main_arg2))
      ∧ r.2.mem ((c : Thread nD τ).loc main_v60) = outX (m ((c : Thread nD τ).loc main_arg1)) (second (pull (m ((c : Thread nD τ).loc main_arg4)) (m ((c : Thread nD τ).loc main_arg5)))) (m ((c : Thread nD τ).loc main_arg3))
      ∧ r.2.mem ((c : Thread nD τ).loc main_v84) = outS (m ((c : Thread nD τ).loc main_arg0)) (m ((c : Thread nD τ).loc main_arg1)) (first (pull (m ((c : Thread nD τ).loc main_arg4)) (m ((c : Thread nD τ).loc main_arg5)))) (second (pull (m ((c : Thread nD τ).loc main_arg4)) (m ((c : Thread nD τ).loc main_arg5))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine θ_run_mono (run_hlo defs main (by hlo_seq) (by decide) (by decide) (by simp)
    (by intro _ h; (repeat (cases h with | head => rfl | tail _ h => ?_)); exact nomatch h) m ρ) fun r h => ?_
  refine fun c => ⟨?_, ?_, ?_, ?_, ?_, ?_, ?_, ?_, ?_⟩ <;> refine (h c _).trans ?_ <;> after_results_simp <;> rfl

end Cert.MixRefIdeal.Soft

end
-- ==== Proof.MixClaim.lean ====
/- The mixer's value claim: at finite arguments the backward call's results are the reference's. -/
module

public import proofs.«01_k».proof.Defs
public import proofs.«01_k».proof.Proof.MixRun
public import proofs.«01_k».proof.Proof.MixRef
public import proofs.«01_k».proof.Proof.Finite

@[expose] public section

set_option maxRecDepth 16384

noncomputable section

namespace Cert.MixIdeal.Rows

open Idealize.ShloMosaic Idealize.ShloMosaic.TcCoe Cert.MixIdeal Cert.MixIdeal.Gen Cert.Reals Cert.Norms

variable {m : (ℓ : Loc nD τ sig) → Buf (Elt Ideal) ℓ} {c : Dev nD} {O C A B W D : ℕ → ℕ → ℝ} {x0 x1 : Vec Ideal S8192x512 .f32} {x2 x3 : Vec Ideal S1x512 .f32}
  {x4 : Vec Ideal S1024x1024 .bf16} {x5 : Vec Ideal S8192x1024 .bf16}

open Cert.MixRefIdeal.Soft (outX outS first second pull outX_at outS_at first_at second_at pull_at)

theorem pair_o (E : Args m c O C A B W D) (h0 : Is2 x0 O) (h2 : Is2 x2 A) (h4 : Is2 x4 W) (h5 : Is2 x5 D) :
    ((dats m 0 c).arrAt 5 cfg0.N : Vec Ideal S8192x512 .f32) = outX x0 (first (pull x4 x5)) x2 :=
  Is2.eq (arr_o E) (outX_at h0 (first_at (pull_at h4 h5)) h2) fun _ _ => rfl

theorem pair_c (E : Args m c O C A B W D) (h1 : Is2 x1 C) (h3 : Is2 x3 B) (h4 : Is2 x4 W) (h5 : Is2 x5 D) :
    ((dats m 0 c).arrAt 6 cfg0.N : Vec Ideal S8192x512 .f32) = outX x1 (second (pull x4 x5)) x3 :=
  Is2.eq (arr_c E) (outX_at h1 (second_at (pull_at h4 h5)) h3) fun _ _ => rfl

theorem pair_st (E : Args m c O C A B W D) (h0 : Is2 x0 O) (h1 : Is2 x1 C) (h4 : Is2 x4 W) (h5 : Is2 x5 D) :
    ((dats m 0 c).arrAt 7 cfg0.N : Vec Ideal S8x512 .f32) = outS x0 x1 (first (pull x4 x5)) (second (pull x4 x5)) :=
  Is2.eq (arr_st E) (outS_at h0 h1 (first_at (pull_at h4 h5)) (second_at (pull_at h4 h5))) fun _ _ => rfl

end Cert.MixIdeal.Rows

namespace Cert.Proof

open Idealize.ShloMosaic Idealize.SL.Sem

theorem facts_finite_mix : Cert.Pre_finite_mix.Facts := ⟨by decide, by decide, by decide, by decide, by decide⟩

instance inst_finite_mix : Cert.Pre_finite_mix.Facts := facts_finite_mix

open Cert.MixIdeal in
/-- At finite arguments the launch finds real numbers. -/
theorem real_Mix {m : (ℓ : Loc nD τ sig) → Buf (Elt Ideal) ℓ} (hpre : Cert.Pre_MixIdeal_finite_mix m) (c : Dev nD) :
    ∃ O C A B W D : ℕ → ℕ → ℝ, Cert.MixIdeal.Rows.Args m c O C A B W D := by
  obtain ⟨a, b, d, e, f, g⟩ := hpre c
  obtain ⟨O, hO⟩ := Finite.real2 (a := 8192) (b := 512) (Finite.real _ _ a)
  obtain ⟨C, hC⟩ := Finite.real2 (a := 8192) (b := 512) (Finite.real _ _ b)
  obtain ⟨A, hA⟩ := Finite.real2 (a := 1) (b := 512) (Finite.real _ _ d)
  obtain ⟨B, hB⟩ := Finite.real2 (a := 1) (b := 512) (Finite.real _ _ e)
  obtain ⟨W, hW⟩ := Finite.real2 (a := 1024) (b := 1024) (Finite.real _ _ f)
  obtain ⟨D, hD⟩ := Finite.real2 (a := 8192) (b := 1024) (Finite.real _ _ g)
  exact ⟨O, C, A, B, W, D, hO, hC, hA, hB, hW, hD⟩

/-- The mixer's gradients are the reference's, at finite arguments. -/
theorem algebraic_Mix : Cert.algebraic_MixIdeal_MixRefIdeal_pre_finite_mix := by
  pair_intro
  · run_from Cert.MixIdeal.Value.run_blocks m g
  · refine (θ_run Cert.MixRefIdeal.defs _ _).mono (fun r h c => ?_) (Cert.MixRefIdeal.Soft.run m' g')
    obtain ⟨O, C, A, B, W, D, E⟩ := real_Mix hpre c
    have h0 := E.ho
    have h1 := E.hc
    have h2 := E.ha
    have h3 := E.hb
    have h4 := E.hw
    have h5 := E.hd
    rw [← (hagree c).1] at h0
    rw [← (hagree c).2.1] at h1
    rw [← (hagree c).2.2.1] at h2
    rw [← (hagree c).2.2.2.1] at h3
    rw [← (hagree c).2.2.2.2.1] at h4
    rw [← (hagree c).2.2.2.2.2] at h5
    obtain ⟨a, b, d, k⟩ := h c
    exact ⟨a.trans (Cert.MixIdeal.Rows.pair_o E h0 h2 h4 h5).symm, b.trans (Cert.MixIdeal.Rows.pair_c E h1 h3 h4 h5).symm,
      d.trans (Cert.MixIdeal.Rows.pair_st E h0 h1 h4 h5).symm, k⟩

end Cert.Proof

end
-- ==== Proof.ModRows.lean ====
/- The input projection's backward call: each payload of the body, entry by entry. -/
module

public import proofs.«01_k».proof.Proof.Blocks
public import proofs.«01_k».proof.Proof.Scalars
public import proofs.«01_k».proof.Proof.Gen.ModIdeal.Value

@[expose] public section

set_option maxRecDepth 16384

noncomputable section

namespace Cert.ModIdeal.Rows

open Idealize.ShloMosaic Idealize.ShloMosaic.TcCoe Cert.ModIdeal Cert.ModIdeal.Gen Cert.Reals Cert.Scalars Cert.Blocks

/-- The projection's transposed product: the gradients of the five groups of columns against the weight's columns. -/
def du (Q K V G F W : ℕ → ℕ → EReal) (r l : ℕ) : EReal :=
  ∑ k ∈ Finset.range 512, Q r k * W l k + ∑ k ∈ Finset.range 512, K k r * W l (512 + k) + ∑ k ∈ Finset.range 512, V k r * W l (1024 + k)
    + ∑ k ∈ Finset.range 1024, G r k * W l (1544 + k) + ∑ k ∈ Finset.range 8, F k r * W l (1536 + k)

variable {q : Vec Ideal S512x512 .bf16} {k v : Vec Ideal S512x512 .f32} {g : Vec Ideal S512x1024 .bf16} {f : Vec Ideal S8x512 .f32} {wq : Vec Ideal S1024x512 .bf16}
  {wk wv : Vec Ideal S512x1024 .bf16} {wg : Vec Ideal S1024x1024 .bf16} {wf : Vec Ideal S8x1024 .bf16} {x y : Vec Ideal S512x1024 .f32} {s : Vec Ideal S1x1024 .f32}
  {Q K V G F W X Y S : ℕ → ℕ → EReal}

theorem pay1_at (hq : At2 q Q) (hk : At2 k K) (hv : At2 v V) (hg : At2 g G) (hf : At2 f F) (wq' : At2 wq W) (wk' : At2 wk fun j l => W l (512 + j)) (wv' : At2 wv fun j l => W l (1024 + j))
    (wg' : At2 wg fun l j => W l (1544 + j)) (wf' : At2 wf fun j l => W l (1536 + j)) : At2 (k0_pay1 (k0_pay8 k v q wq wk wv g wg) (k0_pay9 f wf)) (du Q K V G F W) := by
  intro r l
  pointwise [k0_pay1, k0_pay8, k0_pay9, k0_pay6, k0_pay7]
  simp only [hq _ _, hk _ _, hv _ _, hg _ _, hf _ _, wq' _ _, wk' _ _, wv' _ _, wg' _ _, wf' _ _]
  simp only [du, Finset.sum_range]

variable {u p : FVec Ideal S512x1024 .f32} {U : ℕ → ℕ → EReal} (hu : At2 (k0_pay1 u p) U)
include hu

theorem pay2_at (hy : At2 y Y) (hs : At2 s S) : At2 (k0_pay2 u p y s) fun r l => Y r l + U r l * (1 + S 0 l) := by
  intro r l
  pointwise [k0_pay2]
  rw [hu, hy, hs]
  rfl

theorem pay4_at (hx : At2 x X) (hs : At2 s S) : At2 (k0_pay4 u p x s) fun _ l => S 0 l + ∑ i ∈ Finset.range 512, U i l * X i l := by
  intro r l
  pointwise [k0_pay4]
  simp only [hu _ _, hx _ _, hs _ _]
  rw [Finset.sum_range, Subsingleton.elim r 0]
  rfl

theorem pay5_at (hs : At2 s S) : At2 (k0_pay5 u p s) fun _ l => S 0 l + ∑ i ∈ Finset.range 512, U i l := by
  intro r l
  pointwise [k0_pay5]
  simp only [hu _ _, hs _ _]
  rw [Finset.sum_range, Subsingleton.elim r 0]
  rfl

end Cert.ModIdeal.Rows

end
-- ==== Proof.ModPoint.lean ====
/- One grid point of the input projection's backward call: what its stores leave in the three results' blocks. -/
module

public import proofs.«01_k».proof.Proof.ModRows

@[expose] public section

set_option maxRecDepth 16384

noncomputable section

namespace Cert.ModIdeal.Rows

open Idealize.ShloMosaic Idealize.ShloMosaic.TcCoe Cert.ModIdeal Cert.ModIdeal.Gen Cert.Reals Cert.Scalars Cert.Blocks

variable (c : Dev nD) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1024 .bf16) (harg4 : arg4.IsWhole) (arg5 : Memref sig .tc .vmem S8x512 .f32) (harg5 : arg5.IsWhole) (arg6 : Memref sig .tc .vmem S1024x1536 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S8x1024 .bf16) (harg9 : arg9.IsWhole) (arg10 : Memref sig .tc .vmem S512x1024 .f32) (harg10 : arg10.IsWhole) (arg11 : Memref sig .tc .vmem S512x1024 .f32) (harg11 : arg11.IsWhole) (arg12 : Memref sig .tc .vmem S8x1024 .f32) (harg12 : arg12.IsWhole) (arg13 : Memref sig .tc .vmem S1024x512 .bf16) (harg13 : arg13.IsWhole) (arg14 : Memref sig .tc .vmem S512x1024 .f32) (harg14 : arg14.IsWhole) (arg15 : Memref sig .tc .vmem S8x1024 .f32) (harg15 : arg15.IsWhole)
variable {x0 : Vec Ideal S512x512 .bf16} {x1 x2 : Vec Ideal S512x512 .f32} {x3 : Vec Ideal S512x1024 .bf16} {x4 : Vec Ideal S8x512 .f32} {x5 : Vec Ideal S1024x1536 .bf16}
  {x6 x7 : Vec Ideal S1024x1024 .bf16} {x8 : Vec Ideal S8x1024 .bf16} {x9 x10 : Vec Ideal S512x1024 .f32} {x11 xo : Vec Ideal S8x1024 .f32}
variable {Q K V G F W X Y P S : ℕ → ℕ → EReal}

/-- The blocks a point reads. -/
structure Blk (x0 : Vec Ideal S512x512 .bf16) (x1 x2 : Vec Ideal S512x512 .f32) (x3 : Vec Ideal S512x1024 .bf16) (x4 : Vec Ideal S8x512 .f32) (x5 : Vec Ideal S1024x1536 .bf16)
    (x6 x7 : Vec Ideal S1024x1024 .bf16) (x8 : Vec Ideal S8x1024 .bf16) (x9 x10 : Vec Ideal S512x1024 .f32) (x11 : Vec Ideal S8x1024 .f32) (Q K V G F W X Y P : ℕ → ℕ → EReal) : Prop where
  hq : At2 x0 Q
  hk : At2 x1 K
  hv : At2 x2 V
  hg : At2 x3 G
  hf : At2 x4 F
  wq : At2 x5 W
  wkv : At2 x6 fun j l => W l (512 + j)
  wg : At2 x7 fun l j => W l (1544 + j)
  wf : At2 x8 fun j l => W l (1536 + j)
  hx : At2 x9 X
  hy : At2 x10 Y
  hp : ∀ l : Fin 1024, x11 (ix2 1 l) = P 1 l.val

variable (b : Blk x0 x1 x2 x3 x4 x5 x6 x7 x8 x9 x10 x11 Q K V G F W X Y P)

/-- The gradients of the keys above those of the values. -/
def kv (K V : ℕ → ℕ → EReal) (r l : ℕ) : EReal := if r < 512 then K r l else V (r - 512) l

/-- The sums over the first `n` rows. -/
def sums (U X : ℕ → ℕ → EReal) (n r l : ℕ) : EReal :=
  if r = 0 then ∑ i ∈ Finset.range n, U i l * X i l else if r = 1 then ∑ i ∈ Finset.range n, U i l else 0

include b in
theorem row1_p : At2 (View.readAt (Elt Ideal) arg12.view (Rect.unit (s := S8x1024) ![1, 0] S1x1024.size inb_S8x1024_S1x1024_1_0).toLoadRect (harg12.unread x11)) fun _ l => P 1 l := by
  intro r l
  refine (load_apply arg12.view (harg12.unread x11) 1 0 inb_S8x1024_S1x1024_1_0 r l (by omega) (by omega)).trans ?_
  rw [harg12.read_unread, Subsingleton.elim r 0]
  refine Eq.trans ?_ (b.hp l)
  congr 2
  exact Fin.ext (Nat.zero_add _)

include b in
theorem du_at : At2 (k0_pay1 (k0_pay8 (View.readAt (Elt Ideal) arg2.view (Rect.unit (s := S512x512) ![0, 0] S512x512.size inb_S512x512_S512x512_0_0).toLoadRect (harg2.unread x1)) (View.readAt (Elt Ideal) arg3.view (Rect.unit (s := S512x512) ![0, 0] S512x512.size inb_S512x512_S512x512_0_0).toLoadRect (harg3.unread x2)) (View.readAt (Elt Ideal) arg1.view (Rect.unit (s := S512x512) ![0, 0] S512x512.size inb_S512x512_S512x512_0_0).toLoadRect (harg1.unread x0))
        (View.readAt (Elt Ideal) arg6.view (Rect.unit (s := S1024x1536) ![0, 0] S1024x512.size inb_S1024x1536_S1024x512_0_0).toLoadRect (harg6.unread x5)) (View.readAt (Elt Ideal) arg7.view (Rect.unit (s := S1024x1024) ![0, 0] S512x1024.size inb_S1024x1024_S512x1024_0_0).toLoadRect (harg7.unread x6)) (View.readAt (Elt Ideal) arg7.view (Rect.unit (s := S1024x1024) ![512, 0] S512x1024.size inb_S1024x1024_S512x1024_512_0).toLoadRect (harg7.unread x6)) (View.readAt (Elt Ideal) arg4.view (Rect.unit (s := S512x1024) ![0, 0] S512x1024.size inb_S512x1024_S512x1024_0_0).toLoadRect (harg4.unread x3)) (View.readAt (Elt Ideal) arg8.view (Rect.unit (s := S1024x1024) ![0, 0] S1024x1024.size inb_S1024x1024_S1024x1024_0_0).toLoadRect (harg8.unread x7)))
      (k0_pay9 (View.readAt (Elt Ideal) arg5.view (Rect.unit (s := S8x512) ![0, 0] S8x512.size inb_S8x512_S8x512_0_0).toLoadRect (harg5.unread x4)) (View.readAt (Elt Ideal) arg9.view (Rect.unit (s := S8x1024) ![0, 0] S8x1024.size inb_S8x1024_S8x1024_0_0).toLoadRect (harg9.unread x8)))) (du Q K V G F W) := by
  refine pay1_at (load_zero harg1 b.hq _ le_rfl le_rfl) (load_zero harg2 b.hk _ le_rfl le_rfl) (load_zero harg3 b.hv _ le_rfl le_rfl) (load_zero harg4 b.hg _ le_rfl le_rfl)
    (load_zero harg5 b.hf _ le_rfl le_rfl) (load_zero harg6 b.wq _ (by omega) (by omega)) (load_zero harg7 b.wkv _ (by omega) le_rfl) ?_ (load_zero harg8 b.wg _ le_rfl le_rfl)
    (load_zero harg9 b.wf _ le_rfl le_rfl)
  have h := load_at harg7 b.wkv 512 0 inb_S1024x1024_S512x1024_512_0 (by omega) (by omega)
  simp only [Nat.zero_add, ← Nat.add_assoc] at h
  exact h

include b in
theorem kv_A (hc0 : cond0_0 i) : At2 (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11) (kv K V) := by
  intro r l
  unfold out0_A_12 kernelRun0_A
  dsimp only
  by_cases h : r.val < 512
  · refine (store_miss VO0_12 _ 512 0 inb_S1024x512_S512x512_512_0 _ _ r l (by omega)).trans ?_
    refine (store_hit VO0_12 _ 0 0 inb_S1024x512_S512x512_0_0 _ [] r l ⟨r.val, h⟩ l (by simp) (by omega)).trans ?_
    exact (load_zero harg2 b.hk _ le_rfl le_rfl ⟨r.val, h⟩ l).trans (if_pos h).symm
  · refine (store_hit VO0_12 _ 512 0 inb_S1024x512_S512x512_512_0 _ _ r l ⟨r.val - 512, by omega⟩ l (by simp; omega) (by omega)).trans ?_
    exact (load_zero harg3 b.hv _ le_rfl le_rfl ⟨r.val - 512, by omega⟩ l).trans (if_neg h).symm

include b in
theorem dx_A (hc0 : cond0_0 i) : At2 (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11) fun r l => Y r l + du Q K V G F W r l * (1 + P 1 l) := by
  intro r l
  unfold out0_A_13 kernelRun0_A
  dsimp only
  refine (store_hit VO0_13 _ 0 0 inb_S512x1024_S512x1024_0_0 _ [] r l r l (by omega) (by omega)).trans ?_
  refine pay2_at (du_at arg1 harg1 arg2 harg2 arg3 harg3 arg4 harg4 arg5 harg5 arg6 harg6 arg7 harg7 arg8 harg8 arg9 harg9 b) (load_zero harg11 b.hy _ le_rfl le_rfl) (row1_p arg12 harg12 b) r l

include b in
theorem kv_B (hc0 : ¬cond0_0 i) : At2 (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo) (kv K V) := by
  intro r l
  unfold out0_B_12 kernelRun0_B
  dsimp only
  by_cases h : r.val < 512
  · refine (store_miss VO0_12 _ 512 0 inb_S1024x512_S512x512_512_0 _ _ r l (by omega)).trans ?_
    refine (store_hit VO0_12 _ 0 0 inb_S1024x512_S512x512_0_0 _ [] r l ⟨r.val, h⟩ l (by simp) (by omega)).trans ?_
    exact (load_zero harg2 b.hk _ le_rfl le_rfl ⟨r.val, h⟩ l).trans (if_pos h).symm
  · refine (store_hit VO0_12 _ 512 0 inb_S1024x512_S512x512_512_0 _ _ r l ⟨r.val - 512, by omega⟩ l (by simp; omega) (by omega)).trans ?_
    exact (load_zero harg3 b.hv _ le_rfl le_rfl ⟨r.val - 512, by omega⟩ l).trans (if_neg h).symm

include b in
theorem dx_B (hc0 : ¬cond0_0 i) : At2 (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo) fun r l => Y r l + du Q K V G F W r l * (1 + P 1 l) := by
  intro r l
  unfold out0_B_13 kernelRun0_B
  dsimp only
  refine (store_hit VO0_13 _ 0 0 inb_S512x1024_S512x1024_0_0 _ [] r l r l (by omega) (by omega)).trans ?_
  refine pay2_at (du_at arg1 harg1 arg2 harg2 arg3 harg3 arg4 harg4 arg5 harg5 arg6 harg6 arg7 harg7 arg8 harg8 arg9 harg9 b) (load_zero harg11 b.hy _ le_rfl le_rfl) (row1_p arg12 harg12 b) r l

include b in
theorem st_A (hc0 : cond0_0 i) : At2 (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11) (sums (du Q K V G F W) X 512) := by
  have z : ∀ (v : View sig .tc .vmem S8x1024 .f32) (r : Fin 8) (l : Fin 1024),
      v.read (Elt Ideal) (v.writes (Elt Ideal) v.junk [⟨Rect.unit (s := S8x1024) ![0, 0] S8x1024.size inb_S8x1024_S8x1024_0_0, k0_pay3 (F := Ideal)⟩]) (ix2 r l) = (0 : EReal) := by
    intro v r l
    refine (store_hit v _ 0 0 inb_S8x1024_S8x1024_0_0 _ [] r l r l (by omega) (by omega)).trans ?_
    pointwise [k0_pay3]
  intro r l
  unfold out0_A_14 kernelRun0_A
  dsimp only [kernelRun0_A.sl.H14_2, kernelRun0_A.sl.r, kernelRun0_A.sl.r_1, kernelRun0_A.sl.v51, kernelRun0_A.sl.v45, kernelRun0_A.sl.H14_1]
  rcases Nat.lt_trichotomy r.val 1 with hr | hr | hr
  · have hr : r.val = 0 := by omega
    refine (store_miss VO0_14 _ 1 0 inb_S8x1024_S1x1024_1_0 _ _ r l (by omega)).trans ?_
    refine (store_hit VO0_14 _ 0 0 inb_S8x1024_S1x1024_0_0 _ _ r l 0 l (by simp [hr]) (by omega)).trans ?_
    refine (pay4_at (S := fun _ _ => 0) (du_at arg1 harg1 arg2 harg2 arg3 harg3 arg4 harg4 arg5 harg5 arg6 harg6 arg7 harg7 arg8 harg8 arg9 harg9 b) (load_zero harg10 b.hx _ le_rfl le_rfl) (fun a b => ?_) 0 l).trans ?_
    · refine (load_apply arg15.view _ 0 0 inb_S8x1024_S1x1024_0_0 a b (by omega) (by omega)).trans ?_
      exact z _ _ _
    · beta_reduce
      rw [sums, if_pos hr, zero_add]
  · refine (store_hit VO0_14 _ 1 0 inb_S8x1024_S1x1024_1_0 _ _ r l 0 l (by simp [hr]) (by omega)).trans ?_
    refine (pay5_at (S := fun _ _ => 0) (du_at arg1 harg1 arg2 harg2 arg3 harg3 arg4 harg4 arg5 harg5 arg6 harg6 arg7 harg7 arg8 harg8 arg9 harg9 b) (fun a b => ?_) 0 l).trans ?_
    · refine (load_apply arg15.view _ 1 0 inb_S8x1024_S1x1024_1_0 a b (by omega) (by omega)).trans ?_
      refine (store_miss arg15.view _ 0 0 inb_S8x1024_S1x1024_0_0 _ _ _ _ (by right; show 0 + 1 ≤ 1 + a.val; omega)).trans ?_
      exact z _ _ _
    · beta_reduce
      rw [sums, if_neg (by omega), if_pos hr, zero_add]
  · refine (store_miss VO0_14 _ 1 0 inb_S8x1024_S1x1024_1_0 _ _ r l (by omega)).trans ?_
    refine (store_miss VO0_14 _ 0 0 inb_S8x1024_S1x1024_0_0 _ _ r l (by omega)).trans ?_
    beta_reduce
    rw [sums, if_neg (by omega), if_neg (by omega)]
    exact z _ _ _

include b in
theorem st_B (hc0 : ¬cond0_0 i) (hS : At2 xo S) : At2 (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xo) (fun r l => S r l + sums (du Q K V G F W) X 512 r l) := by
  intro r l
  unfold out0_B_14 kernelRun0_B
  dsimp only [kernelRun0_B.sl.r, kernelRun0_B.sl.r_1, kernelRun0_B.sl.v51]
  rcases Nat.lt_trichotomy r.val 1 with hr | hr | hr
  · have hr : r.val = 0 := by omega
    refine (store_miss arg15.view _ 1 0 inb_S8x1024_S1x1024_1_0 _ _ r l (by omega)).trans ?_
    refine (store_hit arg15.view _ 0 0 inb_S8x1024_S1x1024_0_0 _ _ r l 0 l (by simp [hr]) (by omega)).trans ?_
    refine (pay4_at (S := fun _ l => S 0 l) (du_at arg1 harg1 arg2 harg2 arg3 harg3 arg4 harg4 arg5 harg5 arg6 harg6 arg7 harg7 arg8 harg8 arg9 harg9 b) (load_zero harg10 b.hx _ le_rfl le_rfl) (fun a b => ?_) 0 l).trans ?_
    · refine (load_apply arg15.view _ 0 0 inb_S8x1024_S1x1024_0_0 a b (by omega) (by omega)).trans ?_
      rw [harg15.read_unread, hS, Subsingleton.elim a 0]
      simp
    · beta_reduce
      rw [sums, if_pos hr, hr]
  · refine (store_hit arg15.view _ 1 0 inb_S8x1024_S1x1024_1_0 _ _ r l 0 l (by simp [hr]) (by omega)).trans ?_
    refine (pay5_at (S := fun _ l => S 1 l) (du_at arg1 harg1 arg2 harg2 arg3 harg3 arg4 harg4 arg5 harg5 arg6 harg6 arg7 harg7 arg8 harg8 arg9 harg9 b) (fun a b => ?_) 0 l).trans ?_
    · refine (load_apply arg15.view _ 1 0 inb_S8x1024_S1x1024_1_0 a b (by omega) (by omega)).trans ?_
      rw [harg15.read_unread, hS, Subsingleton.elim a 0]
      simp
    · beta_reduce
      rw [sums, if_neg (by omega), if_pos hr, hr]
  · refine (store_miss arg15.view _ 1 0 inb_S8x1024_S1x1024_1_0 _ _ r l (by omega)).trans ?_
    refine (store_miss arg15.view _ 0 0 inb_S8x1024_S1x1024_0_0 _ _ r l (by omega)).trans ?_
    beta_reduce
    rw [sums, if_neg (by omega), if_neg (by omega)]
    rw [View.writes_nil, harg15.read_unread, hS, add_zero]

end Cert.ModIdeal.Rows

end
-- ==== Proof.ModRun.lean ====
/- The input projection's backward call over its grid: what the three results hold. -/
module

public import proofs.«01_k».proof.Proof.ModPoint
public import Idealize.ShloMosaic.Lib.UnfoldOut
public import Idealize.ShloMosaic.Lib.Pipeline.ValueKit

@[expose] public section

set_option maxRecDepth 16384

noncomputable section

namespace Cert.ModIdeal.Rows

open Idealize.ShloMosaic Idealize.ShloMosaic.TcCoe Cert.ModIdeal Cert.ModIdeal.Gen Cert.Reals Cert.Scalars Cert.Blocks

theorem sums_next (U X : ℕ → ℕ → EReal) (n r l : ℕ) : sums U X (n + 512) r l = sums U X n r l + sums (fun i l => U (n + i) l) (fun i k => X (n + i) k) 512 r l := by
  unfold sums
  split
  · exact Finset.sum_range_add _ _ _
  · split
    · exact Finset.sum_range_add _ _ _
    · exact (add_zero _).symm

theorem padded {a : Vec Ideal S6x1024 .f32} {P : ℕ → ℕ → EReal} (ha : At2 a P) (l : Fin 1024) :
    pad S8x1024 ![0, 0] ![2, 0] ![0, 0] a (sitofp (F := Ideal) .f32 (constantI S_ 32 0#32)) pads_S6x1024_S8x1024_020_000 h_S_ (ix2 1 l) = P 1 l := by
  pointwise
  exact ha 1 l

variable (m : (ℓ : Loc nD τ sig) → Buf (Elt Ideal) ℓ) (c : Dev nD)

/-- The arguments, by their entries. -/
structure Args (X P W Q K V G F Y : ℕ → ℕ → EReal) : Prop where
  hx : At2 (m ((c : Thread nD τ).loc main_arg0) : Vec Ideal S8192x1024 .f32) X
  hp : At2 (m ((c : Thread nD τ).loc main_arg1) : Vec Ideal S6x1024 .f32) P
  hw : At2 (m ((c : Thread nD τ).loc main_arg2) : Vec Ideal S1024x2568 .bf16) W
  hq : At2 (m ((c : Thread nD τ).loc main_arg3) : Vec Ideal S8192x512 .bf16) Q
  hk : At2 (m ((c : Thread nD τ).loc main_arg4) : Vec Ideal S512x8192 .f32) K
  hv : At2 (m ((c : Thread nD τ).loc main_arg5) : Vec Ideal S512x8192 .f32) V
  hg : At2 (m ((c : Thread nD τ).loc main_arg6) : Vec Ideal S8192x1024 .bf16) G
  hf : At2 (m ((c : Thread nD τ).loc main_arg7) : Vec Ideal S8x8192 .f32) F
  hy : At2 (m ((c : Thread nD τ).loc main_arg8) : Vec Ideal S8192x1024 .f32) Y

theorem V_qkv : (V m c main_v1 : Vec Ideal S1024x1536 .bf16) = extractStridedSlice S1024x1536 ![0, 0] (m ((c : Thread nD τ).loc main_arg2)) slices_S1024x2568_S1024x1536_0_0 := by
  unfold_abbrev_sides
  simp only [hostOps0, hostOps0_1, hostOps0_2, List.flatten_cons, List.flatten_nil, List.append_nil, List.cons_append, List.nil_append]
  after_results_simp

theorem V_kv : (V m c main_v6 : Vec Ideal S1024x1024 .bf16) = transpose S1024x1024 [1, 0] (extractStridedSlice S1024x1024 ![0, 512]
    (extractStridedSlice S1024x1536 ![0, 0] (m ((c : Thread nD τ).loc main_arg2)) slices_S1024x2568_S1024x1536_0_0) slices_S1024x1536_S1024x1024_0_512) transposes_S1024x1024_S1024x1024_1_0 := by
  unfold_abbrev_sides
  simp only [hostOps0, hostOps0_1, hostOps0_2, List.flatten_cons, List.flatten_nil, List.append_nil, List.cons_append, List.nil_append]
  after_results_simp

theorem V_ag : (V m c main_v4 : Vec Ideal S1024x1024 .bf16) = extractStridedSlice S1024x1024 ![0, 1544] (m ((c : Thread nD τ).loc main_arg2)) slices_S1024x2568_S1024x1024_0_1544 := by
  unfold_abbrev_sides
  simp only [hostOps0, hostOps0_1, hostOps0_2, List.flatten_cons, List.flatten_nil, List.append_nil, List.cons_append, List.nil_append]
  after_results_simp

theorem V_f : (V m c main_v3 : Vec Ideal S8x1024 .bf16) = transpose S8x1024 [1, 0] (extractStridedSlice S1024x8 ![0, 1536] (m ((c : Thread nD τ).loc main_arg2)) slices_S1024x2568_S1024x8_0_1536) transposes_S1024x8_S8x1024_1_0 := by
  unfold_abbrev_sides
  simp only [hostOps0, hostOps0_1, hostOps0_2, List.flatten_cons, List.flatten_nil, List.append_nil, List.cons_append, List.nil_append]
  after_results_simp

theorem V_ada : (V m c main_v0 : Vec Ideal S8x1024 .f32) = pad S8x1024 ![0, 0] ![2, 0] ![0, 0] (m ((c : Thread nD τ).loc main_arg1)) (sitofp (F := Ideal) .f32 (constantI S_ 32 0#32)) pads_S6x1024_S8x1024_020_000 h_S_ := by
  unfold_abbrev_sides
  simp only [hostOps0, hostOps0_1, hostOps0_2, List.flatten_cons, List.flatten_nil, List.append_nil, List.cons_append, List.nil_append]
  after_results_simp
  rfl

theorem idx (t : Fin cfg0.N) : win0_0.index t = ![t.val, 0] ∧ win0_1.index t = ![0, t.val] ∧ win0_2.index t = ![0, t.val] ∧ win0_3.index t = ![t.val, 0]
    ∧ win0_4.index t = ![0, t.val] ∧ win0_5.index t = ![0, 0] ∧ win0_6.index t = ![0, 0] ∧ win0_7.index t = ![0, 0] ∧ win0_8.index t = ![0, 0] ∧ win0_9.index t = ![t.val, 0]
    ∧ win0_10.index t = ![t.val, 0] ∧ win0_11.index t = ![0, 0] ∧ win0_12.index t = ![0, t.val] ∧ win0_13.index t = ![t.val, 0] ∧ win0_14.index t = ![0, 0] := by
  revert t; decide +kernel

theorem pts (t : Fin cfg0.N) : t.val < 16 := t.isLt

theorem read_0 {f : Vec Ideal S8192x512 .bf16} {φ : ℕ → ℕ → EReal} (h : At2 f φ) (t : Fin cfg0.N) :
    At2 (((cfg0.win 0).blk t).view.read (Elt Ideal) f : Vec Ideal S512x512 .bf16) fun a k => φ (512 * t.val + a) k := by
  intro a k
  have ht := pts t
  have e : ((cfg0.win 0).blk t).view.read (Elt Ideal) f (ix2 a k) = f (ix2 ⟨512 * t.val + a.val, by omega⟩ k) := by
    blk_ext [idx t]
  exact e.trans (h _ _)

theorem read_1 {f : Vec Ideal S512x8192 .f32} {φ : ℕ → ℕ → EReal} (h : At2 f φ) (t : Fin cfg0.N) :
    At2 (((cfg0.win 1).blk t).view.read (Elt Ideal) f : Vec Ideal S512x512 .f32) fun a k => φ a (512 * t.val + k) := by
  intro a k
  have ht := pts t
  have e : ((cfg0.win 1).blk t).view.read (Elt Ideal) f (ix2 a k) = f (ix2 a ⟨512 * t.val + k.val, by omega⟩) := by
    blk_ext [idx t]
  exact e.trans (h _ _)

theorem read_2 {f : Vec Ideal S512x8192 .f32} {φ : ℕ → ℕ → EReal} (h : At2 f φ) (t : Fin cfg0.N) :
    At2 (((cfg0.win 2).blk t).view.read (Elt Ideal) f : Vec Ideal S512x512 .f32) fun a k => φ a (512 * t.val + k) := by
  intro a k
  have ht := pts t
  have e : ((cfg0.win 2).blk t).view.read (Elt Ideal) f (ix2 a k) = f (ix2 a ⟨512 * t.val + k.val, by omega⟩) := by
    blk_ext [idx t]
  exact e.trans (h _ _)

theorem read_3 {f : Vec Ideal S8192x1024 .bf16} {φ : ℕ → ℕ → EReal} (h : At2 f φ) (t : Fin cfg0.N) :
    At2 (((cfg0.win 3).blk t).view.read (Elt Ideal) f : Vec Ideal S512x1024 .bf16) fun a k => φ (512 * t.val + a) k := by
  intro a k
  have ht := pts t
  have e : ((cfg0.win 3).blk t).view.read (Elt Ideal) f (ix2 a k) = f (ix2 ⟨512 * t.val + a.val, by omega⟩ k) := by
    blk_ext [idx t]
  exact e.trans (h _ _)

theorem read_4 {f : Vec Ideal S8x8192 .f32} {φ : ℕ → ℕ → EReal} (h : At2 f φ) (t : Fin cfg0.N) :
    At2 (((cfg0.win 4).blk t).view.read (Elt Ideal) f : Vec Ideal S8x512 .f32) fun a k => φ a (512 * t.val + k) := by
  intro a k
  have ht := pts t
  have e : ((cfg0.win 4).blk t).view.read (Elt Ideal) f (ix2 a k) = f (ix2 a ⟨512 * t.val + k.val, by omega⟩) := by
    blk_ext [idx t]
  exact e.trans (h _ _)

theorem read_5 {f : Vec Ideal S1024x1536 .bf16} {φ : ℕ → ℕ → EReal} (h : At2 f φ) (t : Fin cfg0.N) :
    At2 (((cfg0.win 5).blk t).view.read (Elt Ideal) f : Vec Ideal S1024x1536 .bf16) fun a k => φ a k := by
  intro a k
  have ht := pts t
  have e : ((cfg0.win 5).blk t).view.read (Elt Ideal) f (ix2 a k) = f (ix2 a k) := by
    blk_ext [idx t]
  exact e.trans (h _ _)

theorem read_6 {f : Vec Ideal S1024x1024 .bf16} {φ : ℕ → ℕ → EReal} (h : At2 f φ) (t : Fin cfg0.N) :
    At2 (((cfg0.win 6).blk t).view.read (Elt Ideal) f : Vec Ideal S1024x1024 .bf16) fun a k => φ a k := by
  intro a k
  have ht := pts t
  have e : ((cfg0.win 6).blk t).view.read (Elt Ideal) f (ix2 a k) = f (ix2 a k) := by
    blk_ext [idx t]
  exact e.trans (h _ _)

theorem read_7 {f : Vec Ideal S1024x1024 .bf16} {φ : ℕ → ℕ → EReal} (h : At2 f φ) (t : Fin cfg0.N) :
    At2 (((cfg0.win 7).blk t).view.read (Elt Ideal) f : Vec Ideal S1024x1024 .bf16) fun a k => φ a k := by
  intro a k
  have ht := pts t
  have e : ((cfg0.win 7).blk t).view.read (Elt Ideal) f (ix2 a k) = f (ix2 a k) := by
    blk_ext [idx t]
  exact e.trans (h _ _)

theorem read_8 {f : Vec Ideal S8x1024 .bf16} {φ : ℕ → ℕ → EReal} (h : At2 f φ) (t : Fin cfg0.N) :
    At2 (((cfg0.win 8).blk t).view.read (Elt Ideal) f : Vec Ideal S8x1024 .bf16) fun a k => φ a k := by
  intro a k
  have ht := pts t
  have e : ((cfg0.win 8).blk t).view.read (Elt Ideal) f (ix2 a k) = f (ix2 a k) := by
    blk_ext [idx t]
  exact e.trans (h _ _)

theorem read_9 {f : Vec Ideal S8192x1024 .f32} {φ : ℕ → ℕ → EReal} (h : At2 f φ) (t : Fin cfg0.N) :
    At2 (((cfg0.win 9).blk t).view.read (Elt Ideal) f : Vec Ideal S512x1024 .f32) fun a k => φ (512 * t.val + a) k := by
  intro a k
  have ht := pts t
  have e : ((cfg0.win 9).blk t).view.read (Elt Ideal) f (ix2 a k) = f (ix2 ⟨512 * t.val + a.val, by omega⟩ k) := by
    blk_ext [idx t]
  exact e.trans (h _ _)

theorem read_10 {f : Vec Ideal S8192x1024 .f32} {φ : ℕ → ℕ → EReal} (h : At2 f φ) (t : Fin cfg0.N) :
    At2 (((cfg0.win 10).blk t).view.read (Elt Ideal) f : Vec Ideal S512x1024 .f32) fun a k => φ (512 * t.val + a) k := by
  intro a k
  have ht := pts t
  have e : ((cfg0.win 10).blk t).view.read (Elt Ideal) f (ix2 a k) = f (ix2 ⟨512 * t.val + a.val, by omega⟩ k) := by
    blk_ext [idx t]
  exact e.trans (h _ _)

theorem read_11 {f : Vec Ideal S8x1024 .f32} {φ : ℕ → ℕ → EReal} (h : At2 f φ) (t : Fin cfg0.N) :
    At2 (((cfg0.win 11).blk t).view.read (Elt Ideal) f : Vec Ideal S8x1024 .f32) fun a k => φ a k := by
  intro a k
  have ht := pts t
  have e : ((cfg0.win 11).blk t).view.read (Elt Ideal) f (ix2 a k) = f (ix2 a k) := by
    blk_ext [idx t]
  exact e.trans (h _ _)

variable {m c} {X P W Q K V G F Y : ℕ → ℕ → EReal} (E : Args m c X P W Q K V G F Y)
include E

/-- The blocks of a point. -/
theorem ops (t : Fin cfg0.N) : Blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (fun r k => Q (512 * t.val + r) k) (fun k r => K k (512 * t.val + r)) (fun k r => V k (512 * t.val + r)) (fun r k => G (512 * t.val + r) k) (fun k r => F k (512 * t.val + r)) W
    (fun r k => X (512 * t.val + r) k) (fun r k => Y (512 * t.val + r) k) P where
  hq := read_0 (f := Gen.V m c main_arg3) (by rw [V_main_arg3]; exact E.hq) t
  hk := read_1 (f := Gen.V m c main_arg4) (by rw [V_main_arg4]; exact E.hk) t
  hv := read_2 (f := Gen.V m c main_arg5) (by rw [V_main_arg5]; exact E.hv) t
  hg := read_3 (f := Gen.V m c main_arg6) (by rw [V_main_arg6]; exact E.hg) t
  hf := read_4 (f := Gen.V m c main_arg7) (by rw [V_main_arg7]; exact E.hf) t
  wq := read_5 (f := Gen.V m c main_v1) (by
    rw [V_qkv]; intro r l; pointwise; exact E.hw _ _) t
  wkv := read_6 (f := Gen.V m c main_v6) (φ := fun j l => W l (512 + j)) (by
    rw [V_kv]; intro r l; pointwise; exact (E.hw _ _).trans (congrArg (W l) (by simp))) t
  wg := read_7 (f := Gen.V m c main_v4) (φ := fun l j => W l (1544 + j)) (by
    rw [V_ag]; intro r l; pointwise; exact (E.hw _ _).trans (congrArg (W r) (by simp))) t
  wf := read_8 (f := Gen.V m c main_v3) (φ := fun j l => W l (1536 + j)) (by
    rw [V_f]; intro r l; pointwise; exact (E.hw _ _).trans (congrArg (W l) (by simp))) t
  hx := read_9 (f := Gen.V m c main_arg0) (by rw [V_main_arg0]; exact E.hx) t
  hy := read_10 (f := Gen.V m c main_arg8) (by rw [V_main_arg8]; exact E.hy) t
  hp l := by
    obtain ⟨φ, hφ⟩ := At2.exists (Gen.V m c main_v0 : Vec Ideal S8x1024 .f32)
    refine (read_11 hφ t 1 l).trans ((hφ 1 l).symm.trans ?_)
    rw [V_ada]
    exact padded E.hp l

theorem rows_kv (t : Fin cfg0.N) : At2 (outsAt0 m c t.val t.isLt).1 fun r l => kv K V r (512 * t.val + l) := by
  by_cases h : t.val % 16 = 0
  · have K := kv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ops E t) ((hcond0_0 t).mpr h)
    rw [outsAt0_A m c t h]
    dsimp only
    exact K
  · have K := kv_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (xo := (outsAt0 m c (t.val - 1) (Nat.lt_of_le_of_lt (Nat.sub_le _ _) t.isLt)).2.2) (ops E t) (fun k => h ((hcond0_0 t).mp k))
    rw [outsAt0_B m c t h]
    dsimp only
    exact K

theorem rows_dx (t : Fin cfg0.N) : At2 (outsAt0 m c t.val t.isLt).2.1 fun r l => Y (512 * t.val + r) l + du Q K V G F W (512 * t.val + r) l * (1 + P 1 l) := by
  by_cases h : t.val % 16 = 0
  · have K := dx_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ops E t) ((hcond0_0 t).mpr h)
    rw [outsAt0_A m c t h]
    dsimp only
    exact K
  · have K := dx_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (xo := (outsAt0 m c (t.val - 1) (Nat.lt_of_le_of_lt (Nat.sub_le _ _) t.isLt)).2.2) (ops E t) (fun k => h ((hcond0_0 t).mp k))
    rw [outsAt0_B m c t h]
    dsimp only
    exact K

theorem stats (n : ℕ) (hn : n < cfg0.N) : At2 (outsAt0 m c n hn).2.2 (sums (du Q K V G F W) X (512 * n + 512)) := by
  induction n with
  | zero =>
    have K := st_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ops E ⟨0, hn⟩) ((hcond0_0 ⟨0, hn⟩).mpr rfl)
    rw [outsAt0_A m c ⟨0, hn⟩ rfl]
    dsimp only
    intro r l
    refine (K r l).trans ?_
    rw [sums_next]
    simp [sums]
  | succ n ih =>
    have hn' : n + 1 < 16 := hn
    have h : ¬(n + 1) % 16 = 0 := by omega
    have K := st_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ops E ⟨n + 1, hn⟩) (fun k => h ((hcond0_0 ⟨n + 1, hn⟩).mp k)) (ih (Nat.lt_of_succ_lt hn))
    rw [outsAt0_B m c ⟨n + 1, hn⟩ h]
    dsimp only
    intro r l
    refine (K r l).trans ?_
    rw [sums_next]
    rfl

omit E in
theorem arr_kv_of (f : ℕ → ℕ → EReal) (h : ∀ t : Fin cfg0.N, At2 (outsAt0 m c t.val t.isLt).1 fun r l => f r (512 * t.val + l)) :
    At2 ((dats m 0 c).arrAt 12 cfg0.N : Vec Ideal S1024x8192 .bf16) f := by
  have K : (dats m 0 c).arrAt 12 cfg0.N = (fun x => f (x 0).val (x 1).val : Vec Ideal S1024x8192 .bf16) := by
    refine (dats m 0 c).arrAt_eq_of_covers 12 _ (by decide +kernel) fun t hf y => ?_
    blk_simp
    rw [after0_12]
    obtain ⟨r, j, rfl⟩ : ∃ (r : Fin 1024) (j : Fin 512), y = ix2 r j := ⟨y 0, y 1, eq_ix2 y⟩
    refine (h t r j).trans ?_
    rw [(idx t).2.2.2.2.2.2.2.2.2.2.2.2.1]
    congr 1 <;> simp [Nat.mul_comm]
  intro r l
  exact congrFun K _

omit E in
theorem arr_dx_of (f : ℕ → ℕ → EReal) (h : ∀ t : Fin cfg0.N, At2 (outsAt0 m c t.val t.isLt).2.1 fun a l => f (512 * t.val + a) l) :
    At2 ((dats m 0 c).arrAt 13 cfg0.N : Vec Ideal S8192x1024 .f32) f := by
  have K : (dats m 0 c).arrAt 13 cfg0.N = (fun x => f (x 0).val (x 1).val : Vec Ideal S8192x1024 .f32) := by
    refine (dats m 0 c).arrAt_eq_of_covers 13 _ (by decide +kernel) fun t hf y => ?_
    blk_simp
    rw [after0_13]
    obtain ⟨r, j, rfl⟩ : ∃ (r : Fin 512) (j : Fin 1024), y = ix2 r j := ⟨y 0, y 1, eq_ix2 y⟩
    refine (h t r j).trans ?_
    rw [(idx t).2.2.2.2.2.2.2.2.2.2.2.2.2.1]
    congr 1 <;> simp [Nat.mul_comm]
  intro r l
  exact congrFun K _

omit E in
theorem arr_st_of (f : ℕ → ℕ → EReal) (h : ∀ t : Fin cfg0.N, t.val = 15 → At2 (outsAt0 m c t.val t.isLt).2.2 f) :
    At2 ((dats m 0 c).arrAt 14 cfg0.N : Vec Ideal S8x1024 .f32) f := by
  have K : (dats m 0 c).arrAt 14 cfg0.N = (fun x => f (x 0).val (x 1).val : Vec Ideal S8x1024 .f32) := by
    refine (dats m 0 c).arrAt_eq_of_covers 14 _ (by decide +kernel) fun t hf y => ?_
    blk_simp
    rw [after0_14]
    obtain ⟨r, j, rfl⟩ : ∃ (r : Fin 8) (j : Fin 1024), y = ix2 r j := ⟨y 0, y 1, eq_ix2 y⟩
    have hf' := (flush0_14 t).1 hf
    have ht := pts t
    refine (h t (by omega) r j).trans ?_
    rw [(idx t).2.2.2.2.2.2.2.2.2.2.2.2.2.2]
    congr 1 <;> simp [Nat.mul_comm]
  intro r l
  exact congrFun K _

theorem arr_kv : At2 ((dats m 0 c).arrAt 12 cfg0.N : Vec Ideal S1024x8192 .bf16) (kv K V) := arr_kv_of _ (rows_kv E)

theorem arr_dx : At2 ((dats m 0 c).arrAt 13 cfg0.N : Vec Ideal S8192x1024 .f32) fun r l => Y r l + du Q K V G F W r l * (1 + P 1 l) :=
  arr_dx_of (fun r l => Y r l + du Q K V G F W r l * (1 + P 1 l)) (rows_dx E)

theorem arr_st : At2 ((dats m 0 c).arrAt 14 cfg0.N : Vec Ideal S8x1024 .f32) (sums (du Q K V G F W) X 8192) :=
  arr_st_of _ fun t ht => by
    have K := stats E t.val t.isLt
    rw [show 512 * t.val + 512 = 8192 by omega] at K
    exact K

end Cert.ModIdeal.Rows

end
-- ==== Proof.ModRef.lean ====
/- The input projection's reference over the reals: the transposed host lines of the modulation and the projection, read entry by entry. -/
module

public import proofs.«01_k».proof.Proof.Blocks
public import proofs.«01_k».proof.Proof.Scalars
public import proofs.«01_k».proof.Proof.Gen.ModRefIdeal
public import Idealize.ShloMosaic.Lib.StableHlo.RunHlo

@[expose] public section

set_option maxRecDepth 16384

noncomputable section

namespace Cert.ModRefIdeal.Soft

open Idealize.ShloMosaic Idealize.ShloMosaic.TcCoe Cert.ModRefIdeal Cert.ModRefIdeal.Gen Cert.Reals Cert.Scalars Cert.Blocks

/-- The projection's gradient, group after group. -/
def cat (q : Vec Ideal S8192x512 .bf16) (k v : Vec Ideal S512x8192 .f32) (g : Vec Ideal S8192x1024 .bf16) (f : Vec Ideal S8x8192 .f32) : Vec Ideal S8192x2568 .f32 :=
  concatenate S8192x2568 1 [⟨S8192x512, extf (F := Ideal) (φ := .bf16) .f32 q bitsLt_bf16_f32⟩, ⟨S8192x512, transpose S8192x512 [1, 0] k transposes_S512x8192_S8192x512_1_0⟩,
    ⟨S8192x512, transpose S8192x512 [1, 0] v transposes_S512x8192_S8192x512_1_0⟩, ⟨S8192x8, transpose S8192x8 [1, 0] f transposes_S8x8192_S8192x8_1_0⟩,
    ⟨S8192x1024, extf (F := Ideal) (φ := .bf16) .f32 g bitsLt_bf16_f32⟩] concatenates_S8192x512_S8192x512_S8192x512_S8192x8_S8192x1024_S8192x2568_d1

def back (p : Vec Ideal S8192x2568 .f32) (w : Vec Ideal S1024x2568 .bf16) : Vec Ideal S8192x1024 .f32 :=
  Host.dotGeneral (F := Ideal) (φ₁ := .f32) (φ₂ := .f32) dot_S8192x2568_S1024x2568_S8192x1024_1_1_0_0_n_n none p (extf (F := Ideal) (φ := .bf16) .f32 w bitsLt_bf16_f32)

/-- One and the scale. -/
def scale (a : Vec Ideal S6x1024 .f32) : Vec Ideal S8192x1024 .f32 :=
  broadcastInDim S8192x1024 ![0, 1] bcast_S1x1024_S8192x1024_0_1 (broadcastInDim S1x1024 ![1] bcast_S1024_S1x1024_1
    (addf (F := Ideal) (φ := .f32) (broadcastInDim S1024 ![] bcast_S_S1024 (constant (F := Ideal) S_ .f32 0x3F800000#32))
      (shapeCast S1024 (extractStridedSlice S1x1024 ![1, 0] a slices_S6x1024_S1x1024_1_0) shapeCasts_S1x1024_S1024)))

/-- The sum over the rows. -/
def total (x : Vec Ideal S8192x1024 .f32) : Vec Ideal S1x1024 .f32 :=
  broadcastInDim S1x1024 ![1] bcast_S1024_S1x1024_1 (Host.reduceAdd (F := Ideal) (φ := .f32)
    (shapeCast S1x1024 (Host.reduceAdd (F := Ideal) (φ := .f32) x (constant (F := Ideal) S_ .f32 0x00000000#32) reducesTo_S8192x1024_S1024_d0 h_S_) shapeCasts_S1024_S1x1024)
    (constant (F := Ideal) S_ .f32 0x00000000#32) reducesTo_S1x1024_S1024_d0 h_S_)

def outX (u y : Vec Ideal S8192x1024 .f32) (a : Vec Ideal S6x1024 .f32) : Vec Ideal S8192x1024 .f32 :=
  addf (F := Ideal) (φ := .f32) y (mulf (F := Ideal) (φ := .f32) u (scale a))

def outS (x u : Vec Ideal S8192x1024 .f32) : Vec Ideal S8x1024 .f32 :=
  concatenate S8x1024 0 [⟨S1x1024, total (mulf (F := Ideal) (φ := .f32) x u)⟩, ⟨S1x1024, total u⟩,
    ⟨S6x1024, broadcastInDim S6x1024 ![] bcast_S_S6x1024 (constant (F := Ideal) S_ .f32 0x00000000#32)⟩] concatenates_S1x1024_S1x1024_S6x1024_S8x1024_d0

def outKV (k v : Vec Ideal S512x8192 .f32) : Vec Ideal S1024x8192 .bf16 :=
  truncf (F := Ideal) (φ := .f32) .bf16 (concatenate S1024x8192 0 [⟨S512x8192, k⟩, ⟨S512x8192, v⟩] concatenates_S512x8192_S512x8192_S1024x8192_d0) bitsLt_bf16_f32

/-- The groups side by side. -/
def side (Q K V G F : ℕ → ℕ → EReal) (r j : ℕ) : EReal :=
  if j < 512 then Q r j else if j - 512 < 512 then K (j - 512) r else if j - 512 - 512 < 512 then V (j - 512 - 512) r
  else if j - 512 - 512 - 512 < 8 then F (j - 512 - 512 - 512) r else G r (j - 512 - 512 - 512 - 8)

theorem sum_side (Q K V G F W : ℕ → ℕ → EReal) (r l : ℕ) : ∑ j ∈ Finset.range 2568, side Q K V G F r j * W l j
    = ∑ k ∈ Finset.range 512, Q r k * W l k + ∑ k ∈ Finset.range 512, K k r * W l (512 + k) + ∑ k ∈ Finset.range 512, V k r * W l (1024 + k)
    + ∑ k ∈ Finset.range 1024, G r k * W l (1544 + k) + ∑ k ∈ Finset.range 8, F k r * W l (1536 + k) := by
  rw [show 2568 = 512 + (512 + (512 + (8 + 1024))) from rfl, Finset.sum_range_add, Finset.sum_range_add _ 512 (512 + (8 + 1024)), Finset.sum_range_add _ 512 (8 + 1024), Finset.sum_range_add _ 8 1024]
  have a : ∀ k ∈ Finset.range 512, side Q K V G F r k * W l k = Q r k * W l k := fun k h => by
    rw [side, if_pos (Finset.mem_range.1 h)]
  have b : ∀ k ∈ Finset.range 512, side Q K V G F r (512 + k) * W l (512 + k) = K k r * W l (512 + k) := fun k h => by
    have h := Finset.mem_range.1 h
    rw [side, if_neg (by omega), if_pos (by omega), Nat.add_sub_cancel_left]
  have d : ∀ k ∈ Finset.range 512, side Q K V G F r (512 + (512 + k)) * W l (512 + (512 + k)) = V k r * W l (1024 + k) := fun k h => by
    have h := Finset.mem_range.1 h
    rw [side, if_neg (by omega), if_neg (by omega), if_pos (by omega), Nat.add_sub_cancel_left, Nat.add_sub_cancel_left, ← Nat.add_assoc]
  have e : ∀ k ∈ Finset.range 8, side Q K V G F r (512 + (512 + (512 + k))) * W l (512 + (512 + (512 + k))) = F k r * W l (1536 + k) := fun k h => by
    have h := Finset.mem_range.1 h
    rw [side, if_neg (by omega), if_neg (by omega), if_neg (by omega), if_pos (by omega), Nat.add_sub_cancel_left, Nat.add_sub_cancel_left, Nat.add_sub_cancel_left, ← Nat.add_assoc, ← Nat.add_assoc]
  have f : ∀ k ∈ Finset.range 1024, side Q K V G F r (512 + (512 + (512 + (8 + k)))) * W l (512 + (512 + (512 + (8 + k)))) = G r k * W l (1544 + k) := fun k h => by
    rw [side, if_neg (by omega), if_neg (by omega), if_neg (by omega), if_neg (by omega), Nat.add_sub_cancel_left, Nat.add_sub_cancel_left, Nat.add_sub_cancel_left, Nat.add_sub_cancel_left]
    simp only [← Nat.add_assoc]
  rw [Finset.sum_congr rfl a, Finset.sum_congr rfl b, Finset.sum_congr rfl d, Finset.sum_congr rfl e, Finset.sum_congr rfl f]
  simp only [add_assoc]
  congr 3
  exact add_comm _ _

variable {q : Vec Ideal S8192x512 .bf16} {k v : Vec Ideal S512x8192 .f32} {g : Vec Ideal S8192x1024 .bf16} {f : Vec Ideal S8x8192 .f32} {w : Vec Ideal S1024x2568 .bf16}
  {x y u : Vec Ideal S8192x1024 .f32} {a : Vec Ideal S6x1024 .f32} {Q K V G F W X Y U P : ℕ → ℕ → EReal}

theorem cat_at (hq : At2 q Q) (hk : At2 k K) (hv : At2 v V) (hg : At2 g G) (hf : At2 f F) : At2 (cat q k v g f) (side Q K V G F) := by
  have a : At2 (extf (F := Ideal) (φ := .bf16) .f32 q bitsLt_bf16_f32) Q := hq
  have b : At2 (transpose S8192x512 [1, 0] k transposes_S512x8192_S8192x512_1_0) fun r l => K l r := fun r l => by
    pointwise
    exact hk _ _
  have d : At2 (transpose S8192x512 [1, 0] v transposes_S512x8192_S8192x512_1_0) fun r l => V l r := fun r l => by
    pointwise
    exact hv _ _
  have e : At2 (transpose S8192x8 [1, 0] f transposes_S8x8192_S8192x8_1_0) fun r l => F l r := fun r l => by
    pointwise
    exact hf _ _
  have h : At2 (extf (F := Ideal) (φ := .bf16) .f32 g bitsLt_bf16_f32) G := hg
  intro r l
  unfold cat side
  generalize extf (F := Ideal) (φ := .bf16) .f32 q bitsLt_bf16_f32 = a' at a ⊢
  generalize transpose S8192x512 [1, 0] k transposes_S512x8192_S8192x512_1_0 = b' at b ⊢
  generalize transpose S8192x512 [1, 0] v transposes_S512x8192_S8192x512_1_0 = d' at d ⊢
  generalize transpose S8192x8 [1, 0] f transposes_S8x8192_S8192x8_1_0 = e' at e ⊢
  generalize extf (F := Ideal) (φ := .bf16) .f32 g bitsLt_bf16_f32 = h' at h ⊢
  pointwise
  by_cases h1 : l.val < 512
  · exact (dif_pos h1).trans ((a _ _).trans (if_pos h1).symm)
  refine (dif_neg h1).trans (Eq.trans ?_ (if_neg h1).symm)
  by_cases h2 : l.val - 512 < 512
  · exact (dif_pos h2).trans ((b _ _).trans (if_pos h2).symm)
  refine (dif_neg h2).trans (Eq.trans ?_ (if_neg h2).symm)
  by_cases h3 : l.val - 512 - 512 < 512
  · exact (dif_pos h3).trans ((d _ _).trans (if_pos h3).symm)
  refine (dif_neg h3).trans (Eq.trans ?_ (if_neg h3).symm)
  by_cases h4 : l.val - 512 - 512 - 512 < 8
  · exact (dif_pos h4).trans ((e _ _).trans (if_pos h4).symm)
  refine (dif_neg h4).trans (Eq.trans ?_ (if_neg h4).symm)
  exact h _ _

theorem back_at {p : Vec Ideal S8192x2568 .f32} {D : ℕ → ℕ → EReal} (hp : At2 p D) (hw : At2 w W) : At2 (back p w) fun r l => ∑ j ∈ Finset.range 2568, D r j * W l j := by
  intro r l
  pointwise [back]
  simp only [hp _ _, hw _ _]
  rw [Finset.sum_range]

theorem scale_at (ha : At2 a P) : At2 (scale a) fun _ l => 1 + P 1 l := by
  intro r l
  pointwise [scale]
  rw [ha]
  rfl

theorem total_at (hx : At2 x X) : At2 (total x) fun _ l => ∑ i ∈ Finset.range 8192, X i l := by
  intro r l
  pointwise [total]
  rw [one_sum]
  simp only [hx _ _]
  rw [Finset.sum_range]

theorem outX_at (hu : At2 u U) (hy : At2 y Y) (ha : At2 a P) : At2 (outX u y a) fun r l => Y r l + U r l * (1 + P 1 l) := by
  have hs := scale_at ha
  intro r l
  unfold outX
  generalize scale a = s at hs ⊢
  pointwise
  rw [hu, hy, hs]

theorem outKV_at (hk : At2 k K) (hv : At2 v V) : At2 (outKV k v) fun r l => if r < 512 then K r l else V (r - 512) l := by
  intro r l
  pointwise [outKV]
  by_cases h : r.val < 512
  · exact (dif_pos h).trans ((hk _ _).trans (if_pos h).symm)
  · exact (dif_neg h).trans ((hv _ _).trans (if_neg h).symm)

theorem outS_at (hx : At2 x X) (hu : At2 u U) : At2 (outS x u) fun r l => if r = 0 then ∑ i ∈ Finset.range 8192, X i l * U i l
      else if r = 1 then ∑ i ∈ Finset.range 8192, U i l else 0 := by
  have ha : At2 (total (mulf (F := Ideal) (φ := .f32) x u)) fun _ l => ∑ i ∈ Finset.range 8192, X i l * U i l := total_at (X := fun r l => X r l * U r l) fun r l => by
    pointwise
    rw [hx, hu]
  have hb := total_at hu
  intro r l
  unfold outS
  generalize total (mulf (F := Ideal) (φ := .f32) x u) = a at ha ⊢
  generalize total u = b at hb ⊢
  pointwise
  by_cases h : r.val < 1
  · refine (dif_pos h).trans ((ha _ _).trans (if_pos ?_).symm)
    exact Nat.lt_one_iff.1 h
  · have h0 : ¬ r.val = 0 := fun e => h (e ▸ Nat.one_pos)
    refine (dif_neg h).trans (Eq.trans ?_ (if_neg h0).symm)
    by_cases h' : r.val - 1 < 1
    · have h1 : r.val = 1 := by omega
      exact (dif_pos h').trans ((hb _ _).trans (if_pos h1).symm)
    · have h1 : ¬ r.val = 1 := by omega
      refine (dif_neg h').trans (Eq.trans ?_ (if_neg h1).symm)
      rfl

variable (m : (ℓ : Loc nD τ sig) → Buf (Elt Ideal) ℓ)

/-- The projection's transposed product at the launch's arguments. -/
abbrev du (c : Dev nD) : Vec Ideal S8192x1024 .f32 :=
  back (cat (m ((c : Thread nD τ).loc main_arg3)) (m ((c : Thread nD τ).loc main_arg4)) (m ((c : Thread nD τ).loc main_arg5)) (m ((c : Thread nD τ).loc main_arg6)) (m ((c : Thread nD τ).loc main_arg7)))
    (m ((c : Thread nD τ).loc main_arg2))

open Idealize.SL.Sem StableHlo in
set_option maxHeartbeats 4000000 in
/-- What the reference leaves: every result as a function of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v36) = outKV (m ((c : Thread nD τ).loc main_arg4)) (m ((c : Thread nD τ).loc main_arg5))
      ∧ r.2.mem ((c : Thread nD τ).loc main_v29) = outX (du m c) (m ((c : Thread nD τ).loc main_arg8)) (m ((c : Thread nD τ).loc main_arg1))
      ∧ r.2.mem ((c : Thread nD τ).loc main_v34) = outS (m ((c : Thread nD τ).loc main_arg0)) (du m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine θ_run_mono (run_hlo defs main (by hlo_seq) (by decide) (by decide) (by simp)
    (by intro _ h; (repeat (cases h with | head => rfl | tail _ h => ?_)); exact nomatch h) m ρ) fun r h => ?_
  refine fun c => ⟨?_, ?_, ?_, ?_, ?_, ?_, ?_, ?_, ?_, ?_, ?_, ?_⟩ <;> refine (h c _).trans ?_ <;> after_results_simp <;> rfl

end Cert.ModRefIdeal.Soft

end
-- ==== Proof.ModClaim.lean ====
/- The input projection's value claim: the backward call's results are the reference's, at every argument. -/
module

public import proofs.«01_k».proof.Defs
public import proofs.«01_k».proof.Proof.ModRun
public import proofs.«01_k».proof.Proof.ModRef

@[expose] public section

set_option maxRecDepth 16384

noncomputable section

namespace Cert.ModIdeal.Rows

open Idealize.ShloMosaic Idealize.ShloMosaic.TcCoe Cert.ModIdeal Cert.ModIdeal.Gen Cert.Blocks

variable {m : (ℓ : Loc nD τ sig) → Buf (Elt Ideal) ℓ} {c : Dev nD} {X P W Q K V G F Y : ℕ → ℕ → EReal} {x0 : Vec Ideal S8192x1024 .f32} {x1 : Vec Ideal S6x1024 .f32}
  {x2 : Vec Ideal S1024x2568 .bf16} {x3 : Vec Ideal S8192x512 .bf16} {x4 x5 : Vec Ideal S512x8192 .f32} {x6 : Vec Ideal S8192x1024 .bf16} {x7 : Vec Ideal S8x8192 .f32} {x8 : Vec Ideal S8192x1024 .f32}

open Cert.ModRefIdeal.Soft (outX outS outKV back cat outX_at outS_at outKV_at back_at cat_at sum_side)

theorem exists_args (m : (ℓ : Loc nD τ sig) → Buf (Elt Ideal) ℓ) (c : Dev nD) : ∃ X P W Q K V G F Y : ℕ → ℕ → EReal, Args m c X P W Q K V G F Y := by
  obtain ⟨X, hX⟩ := At2.exists (m ((c : Thread nD τ).loc main_arg0) : Vec Ideal S8192x1024 .f32)
  obtain ⟨P, hP⟩ := At2.exists (m ((c : Thread nD τ).loc main_arg1) : Vec Ideal S6x1024 .f32)
  obtain ⟨W, hW⟩ := At2.exists (m ((c : Thread nD τ).loc main_arg2) : Vec Ideal S1024x2568 .bf16)
  obtain ⟨Q, hQ⟩ := At2.exists (m ((c : Thread nD τ).loc main_arg3) : Vec Ideal S8192x512 .bf16)
  obtain ⟨K, hK⟩ := At2.exists (m ((c : Thread nD τ).loc main_arg4) : Vec Ideal S512x8192 .f32)
  obtain ⟨V, hV⟩ := At2.exists (m ((c : Thread nD τ).loc main_arg5) : Vec Ideal S512x8192 .f32)
  obtain ⟨G, hG⟩ := At2.exists (m ((c : Thread nD τ).loc main_arg6) : Vec Ideal S8192x1024 .bf16)
  obtain ⟨F, hF⟩ := At2.exists (m ((c : Thread nD τ).loc main_arg7) : Vec Ideal S8x8192 .f32)
  obtain ⟨Y, hY⟩ := At2.exists (m ((c : Thread nD τ).loc main_arg8) : Vec Ideal S8192x1024 .f32)
  exact ⟨X, P, W, Q, K, V, G, F, Y, hX, hP, hW, hQ, hK, hV, hG, hF, hY⟩

theorem du_at_ref (h2 : At2 x2 W) (h3 : At2 x3 Q) (h4 : At2 x4 K) (h5 : At2 x5 V) (h6 : At2 x6 G) (h7 : At2 x7 F) : At2 (back (cat x3 x4 x5 x6 x7) x2) (du Q K V G F W) := fun r l =>
  (back_at (cat_at h3 h4 h5 h6 h7) h2 r l).trans (sum_side Q K V G F W r l)

theorem pair_kv (E : Args m c X P W Q K V G F Y) (h4 : At2 x4 K) (h5 : At2 x5 V) : ((dats m 0 c).arrAt 12 cfg0.N : Vec Ideal S1024x8192 .bf16) = outKV x4 x5 :=
  At2.eq (arr_kv E) (outKV_at h4 h5) fun _ _ _ _ => rfl

theorem pair_dx (E : Args m c X P W Q K V G F Y) {u : Vec Ideal S8192x1024 .f32} (hu : At2 u (du Q K V G F W)) (h1 : At2 x1 P) (h8 : At2 x8 Y) :
    ((dats m 0 c).arrAt 13 cfg0.N : Vec Ideal S8192x1024 .f32) = outX u x8 x1 :=
  At2.eq (arr_dx E) (outX_at hu h8 h1) fun _ _ _ _ => rfl

theorem pair_st (E : Args m c X P W Q K V G F Y) {u : Vec Ideal S8192x1024 .f32} (hu : At2 u (du Q K V G F W)) (h0 : At2 x0 X) :
    ((dats m 0 c).arrAt 14 cfg0.N : Vec Ideal S8x1024 .f32) = outS x0 u :=
  At2.eq (arr_st E) (outS_at h0 hu) fun r l _ _ => by
    unfold sums
    simp only [mul_comm]

end Cert.ModIdeal.Rows

namespace Cert.Proof

open Idealize.ShloMosaic Idealize.SL.Sem

/-- The projection's gradients are the reference's. -/
theorem algebraic_Mod : Cert.algebraic_ModIdeal_ModRefIdeal := by
  pair_intro
  · run_from Cert.ModIdeal.Value.run_blocks m g
  · refine (θ_run Cert.ModRefIdeal.defs _ _).mono (fun r h c => ?_) (Cert.ModRefIdeal.Soft.run m' g')
    obtain ⟨X, P, W, Q, K, V, G, F, Y, E⟩ := Cert.ModIdeal.Rows.exists_args m c
    have h0 := E.hx
    have h1 := E.hp
    have h2 := E.hw
    have h3 := E.hq
    have h4 := E.hk
    have h5 := E.hv
    have h6 := E.hg
    have h7 := E.hf
    have h8 := E.hy
    rw [← (hagree c).1] at h0
    rw [← (hagree c).2.1] at h1
    rw [← (hagree c).2.2.1] at h2
    rw [← (hagree c).2.2.2.1] at h3
    rw [← (hagree c).2.2.2.2.1] at h4
    rw [← (hagree c).2.2.2.2.2.1] at h5
    rw [← (hagree c).2.2.2.2.2.2.1] at h6
    rw [← (hagree c).2.2.2.2.2.2.2.1] at h7
    rw [← (hagree c).2.2.2.2.2.2.2.2] at h8
    have hu := Cert.ModIdeal.Rows.du_at_ref h2 h3 h4 h5 h6 h7
    obtain ⟨a, b, d, k⟩ := h c
    exact ⟨a.trans (Cert.ModIdeal.Rows.pair_kv E h4 h5).symm, b.trans (Cert.ModIdeal.Rows.pair_dx E hu h1 h8).symm,
      d.trans (Cert.ModIdeal.Rows.pair_st E hu h0).symm, k⟩

end Cert.Proof

end
-- ==== Proof.Layer.lean ====
/- The layer norm of a row, its gradient, and the channel mixer's rows, over the reals. -/
module

public import proofs.«01_k».proof.Proof.Norms

@[expose] public section

noncomputable section

open Idealize.ShloMosaic Cert.Scalars Cert.Reals Cert.Norms

namespace Cert.Layer

theorem bits_1024 : Ideal.ofBits .f32 0x44800000#32 = ((1024 : ℝ) : EReal) := by
  simp [Ideal.ofBits, Ideal.ieee, -EReal.coe_mul]
  norm_num

theorem bits_part : Ideal.ofBits .f32 0x3A800000#32 = ((1 / 1024 : ℝ) : EReal) := by
  simp [Ideal.ofBits, Ideal.ieee, -EReal.coe_mul]
  norm_num

theorem bits_halfPart : Ideal.ofBits .f32 0x3A000000#32 = ((1 / 2048 : ℝ) : EReal) := by
  simp [Ideal.ofBits, Ideal.ieee, -EReal.coe_mul]
  norm_num

theorem bits_half : Ideal.ofBits .f32 0x3F000000#32 = ((1 / 2 : ℝ) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

/-- The factor of the residual branch. -/
def al : ℝ := 9975792 / 2 ^ 23

theorem al_bits : Ideal.ofBits .f32 0x3F9837F0#32 = (al : EReal) := by
  simp [Ideal.ofBits, Ideal.ieee, al, -EReal.coe_mul]
  norm_num

section Norm

variable (n : ℕ) (x t : ℕ → ℝ)

/-- A row's mean. -/
def mean : ℝ := (∑ l ∈ Finset.range n, x l) / n

/-- The row less its mean. -/
def cen (l : ℕ) : ℝ := x l - mean n x

/-- The row's variance, with `eps`. -/
def va : ℝ := (∑ l ∈ Finset.range n, cen n x l * cen n x l) / n + eps

theorem va_pos : 0 < va n x :=
  add_pos_of_nonneg_of_pos (div_nonneg (Finset.sum_nonneg fun _ _ => mul_self_nonneg _) (Nat.cast_nonneg _)) eps_pos

/-- The factor that scales the row. -/
def rs : ℝ := 1 / √(va n x)

theorem rs_sq : rs n x * rs n x = 1 / va n x := by
  unfold rs
  rw [div_mul_div_comm, one_mul, Real.mul_self_sqrt (va_pos n x).le]

/-- The row normalized. -/
def xh (l : ℕ) : ℝ := cen n x l * rs n x

/-- The norm's gradient at the cotangent `t`. -/
def lb (l : ℕ) : ℝ := rs n x * (t l - mean n t - xh n x l * mean n fun l => t l * xh n x l)

/-- The factor of twice a centred entry in the gradient. -/
def sh : ℝ := (∑ l ∈ Finset.range n, cen n x l * t l) * (-1 / 2 * (rs n x / va n x)) / n

theorem sum_cen (hn : n ≠ 0) : ∑ l ∈ Finset.range n, cen n x l = 0 := by
  have h : (n : ℝ) ≠ 0 := Nat.cast_ne_zero.2 hn
  simp only [cen, Finset.sum_sub_distrib, Finset.sum_const, Finset.card_range, nsmul_eq_mul, mean]
  field_simp
  ring

/-- The same with the factor's and the mean's own gradients written out. -/
theorem lb_eq (hn : n ≠ 0) (l : ℕ) : t l * rs n x + sh n x t * (2 * cen n x l)
    + (∑ l ∈ Finset.range n, -(t l * rs n x) + ∑ l ∈ Finset.range n, -(sh n x t * (2 * cen n x l))) / n = lb n x t l := by
  have e : ∑ l ∈ Finset.range n, t l * xh n x l = (∑ l ∈ Finset.range n, cen n x l * t l) * rs n x := by
    rw [Finset.sum_mul]
    exact Finset.sum_congr rfl fun l _ => by unfold xh; ring
  rw [Finset.sum_neg_distrib, Finset.sum_neg_distrib, ← Finset.mul_sum, ← Finset.mul_sum, sum_cen n x hn, ← Finset.sum_mul, lb, mean, mean, e, sh, xh,
    div_eq_mul_one_div (rs n x) (va n x), ← rs_sq]
  ring

end Norm

section Rows

variable (x t : ℕ → ℝ) (A W1 W2 : ℕ → ℕ → ℝ) (g b : ℕ → ℝ)

/-- A row modulated by the scale and the shift. -/
def mo (l : ℕ) : ℝ := x l * (1 + A 4 l) + A 3 l

/-- The inner layer before its activation. -/
def pre (u : ℕ → ℝ) (j : ℕ) : ℝ := ∑ k ∈ Finset.range 1024, u k * W1 k j

/-- The squared positive part. -/
def sqp (y : ℝ) : ℝ := max y 0 * max y 0

/-- The inner layer. -/
def hid (j : ℕ) : ℝ := sqp (pre W1 (mo x A) j)

/-- The outer layer. -/
def ff (l : ℕ) : ℝ := ∑ j ∈ Finset.range 4096, hid x A W1 j * W2 j l

/-- The residual sum. -/
def zz (l : ℕ) : ℝ := al * x l + (1 + A 5 l) * ff x A W1 W2 l

/-- The residual sum, normalized. -/
def zh (l : ℕ) : ℝ := xh 1024 (zz x A W1 W2) l

/-- The output less the target. -/
def diff (l : ℕ) : ℝ := zh x A W1 W2 l * g l + b l - t l

/-- The loss's gradient. -/
def dy (l : ℕ) : ℝ := diff x t A W1 W2 g b l * (1 / 1024)

/-- The gradient of the residual sum. -/
def dz (l : ℕ) : ℝ := lb 1024 (zz x A W1 W2) (fun l => dy x t A W1 W2 g b l * g l) l

end Rows

end Cert.Layer

end
-- ==== Proof.LayerTile.lean ====
/- The layer norm of a tile's rows and its gradient, as a tile computes them, over the reals. -/
module

public import proofs.«01_k».proof.Proof.Layer
public import Idealize.ShloMosaic.Lib.Pipeline.ValueKit.Tiles

@[expose] public section

set_option maxRecDepth 16384

noncomputable section

open Idealize.ShloMosaic Idealize.ShloMosaic.TcCoe Cert.Scalars Cert.Reals Cert.Norms Cert.Layer

namespace Cert.LayerTile

variable {a : ℕ} (hr : (⟨2, ![a, 1024]⟩ : Shape).Reduces [1] ⟨1, ![a]⟩) (hs : (⟨1, ![a]⟩ : Shape).ShapeCasts ⟨2, ![a, 1]⟩)
  (hb : (⟨2, ![a, 1]⟩ : Shape).Broadcasts ⟨2, ![a, 1024]⟩)

theorem column_at (v : (⟨1, ![a]⟩ : Shape).Idx → EReal) (r : Fin a) (l : Fin 1) : shapeCast ⟨2, ![a, 1]⟩ v hs (ix2 r l) = v (ix1 r) := by
  refine congrArg v (Shape.reshapeEquiv_eq_of_vals _ _ _ r.val r.val ?_ ?_ rfl)
  · exact Shape.rowMajor_val_one _
  · refine (Shape.rowMajor_val_two _).trans ?_
    have h := l.isLt
    simp

theorem along_at {x : FVec Ideal ⟨2, ![a, 1024]⟩ .f32} {X : ℕ → ℕ → ℝ} (hx : Is2 x X) (r : Fin a) :
    multiReduction .add [1] ⟨1, ![a]⟩ x 0x00000000#32 hr (.inl rfl) rfl (ix1 r) = ((∑ l ∈ Finset.range 1024, X r l : ℝ) : EReal) := by
  pointwise
  simp only [hx _ _, ← coe_sum]
  rw [Finset.sum_range]

/-- A row's mean. -/
def tmean (x : FVec Ideal ⟨2, ![a, 1024]⟩ .f32) : FVec Ideal ⟨2, ![a, 1]⟩ .f32 :=
  divf (shapeCast ⟨2, ![a, 1]⟩ (multiReduction .add [1] ⟨1, ![a]⟩ x 0x00000000#32 hr (.inl rfl) rfl) hs) (broadcast ⟨2, ![a, 1]⟩ (Scalar.ofBits .f32 0x44800000#32))

theorem tmean_at {x : FVec Ideal ⟨2, ![a, 1024]⟩ .f32} {X : ℕ → ℕ → ℝ} (hx : Is2 x X) : Is2 (tmean hr hs x) fun r _ => mean 1024 (X r) := by
  intro r l
  have h := (column_at hs _ r l).trans (along_at hr hx r)
  unfold tmean
  generalize shapeCast (⟨2, ![a, 1]⟩ : Shape) _ hs = y at h ⊢
  pointwise
  rw [h, bits_1024, div_coe (by norm_num), mean]
  norm_num

theorem across_at {x : FVec Ideal ⟨2, ![a, 1]⟩ .f32} {c : ℕ → ℝ} (hx : Is2 x fun r _ => c r) : Is2 (broadcastTo ⟨2, ![a, 1024]⟩ x hb) fun r _ => c r := by
  intro r l
  refine (congrArg x (funext fun b => Fin.ext ?_)).trans (hx r 0)
  fin_cases b
  · by_cases e : a = 1
    · subst e
      have h := r.isLt
      simp
    · simp [e]
  · simp

def tcen (x : FVec Ideal ⟨2, ![a, 1024]⟩ .f32) : FVec Ideal ⟨2, ![a, 1024]⟩ .f32 := subf x (broadcastTo ⟨2, ![a, 1024]⟩ (tmean hr hs x) hb)

theorem tcen_at {x : FVec Ideal ⟨2, ![a, 1024]⟩ .f32} {X : ℕ → ℕ → ℝ} (hx : Is2 x X) : Is2 (tcen hr hs hb x) fun r => cen 1024 (X r) := by
  have h := across_at hb (tmean_at hr hs hx)
  intro r l
  unfold tcen
  generalize broadcastTo (⟨2, ![a, 1024]⟩ : Shape) _ hb = y at h ⊢
  pointwise
  rw [hx, h, ← EReal.coe_sub, cen]

theorem mul_at {x y : FVec Ideal ⟨2, ![a, 1024]⟩ .f32} {X Y : ℕ → ℕ → ℝ} (hx : Is2 x X) (hy : Is2 y Y) : Is2 (mulf x y) fun r l => X r l * Y r l := by
  intro r l
  pointwise
  rw [hx, hy, ← EReal.coe_mul]

/-- The factor that scales a row, from the centred row. -/
def trs (x : FVec Ideal ⟨2, ![a, 1024]⟩ .f32) : FVec Ideal ⟨2, ![a, 1]⟩ .f32 := rsqrt (addf (tmean hr hs (mulf x x)) (broadcast ⟨2, ![a, 1]⟩ (Scalar.ofBits .f32 0x3727C5AC#32)))

theorem trs_at {x : FVec Ideal ⟨2, ![a, 1024]⟩ .f32} {X : ℕ → ℕ → ℝ} (hx : Is2 x fun r => cen 1024 (X r)) : Is2 (trs hr hs x) fun r _ => rs 1024 (X r) := by
  have h := tmean_at hr hs (mul_at hx hx)
  intro r l
  unfold trs
  generalize tmean hr hs _ = y at h ⊢
  pointwise
  rw [h, eps_bits, ← EReal.coe_add]
  exact rsqrt_pos (va_pos 1024 (X r))

def txh (x : FVec Ideal ⟨2, ![a, 1024]⟩ .f32) (s : FVec Ideal ⟨2, ![a, 1]⟩ .f32) : FVec Ideal ⟨2, ![a, 1024]⟩ .f32 := mulf x (broadcastTo ⟨2, ![a, 1024]⟩ s hb)

theorem txh_at {x : FVec Ideal ⟨2, ![a, 1024]⟩ .f32} {s : FVec Ideal ⟨2, ![a, 1]⟩ .f32} {X : ℕ → ℕ → ℝ} (hx : Is2 x fun r => cen 1024 (X r)) (h : Is2 s fun r _ => rs 1024 (X r)) :
    Is2 (txh hb x s) fun r => xh 1024 (X r) := mul_at hx (across_at hb h)

/-- The norm's gradient from the factor, the normalized row and the cotangent. -/
def tlb (s : FVec Ideal ⟨2, ![a, 1]⟩ .f32) (h t : FVec Ideal ⟨2, ![a, 1024]⟩ .f32) : FVec Ideal ⟨2, ![a, 1024]⟩ .f32 :=
  mulf (broadcastTo ⟨2, ![a, 1024]⟩ s hb) (subf (subf t (broadcastTo ⟨2, ![a, 1024]⟩ (tmean hr hs t) hb)) (mulf h (broadcastTo ⟨2, ![a, 1024]⟩ (tmean hr hs (mulf t h)) hb)))

theorem sub_at {x y : FVec Ideal ⟨2, ![a, 1024]⟩ .f32} {X Y : ℕ → ℕ → ℝ} (hx : Is2 x X) (hy : Is2 y Y) : Is2 (subf x y) fun r l => X r l - Y r l := by
  intro r l
  pointwise
  rw [hx, hy, ← EReal.coe_sub]

theorem tlb_at {s : FVec Ideal ⟨2, ![a, 1]⟩ .f32} {h t : FVec Ideal ⟨2, ![a, 1024]⟩ .f32} {X T : ℕ → ℕ → ℝ} (h1 : Is2 s fun r _ => rs 1024 (X r)) (h2 : Is2 h fun r => xh 1024 (X r))
    (ht : Is2 t T) : Is2 (tlb hr hs hb s h t) fun r => lb 1024 (X r) (T r) :=
  mul_at (across_at hb h1) (sub_at (sub_at ht (across_at hb (tmean_at hr hs ht))) (mul_at h2 (across_at hb (tmean_at hr hs (mul_at ht h2)))))

/-- A row of sums: the one before and the sum over the tile's rows. -/
def tsum (h0 : (⟨2, ![a, 1024]⟩ : Shape).Reduces [0] ⟨1, ![1024]⟩) (h1 : (⟨1, ![1024]⟩ : Shape).ShapeCasts ⟨2, ![1, 1024]⟩) (h2 : (⟨2, ![1, 1024]⟩ : Shape).ShapeCasts ⟨2, ![1, 1024]⟩)
    (x : FVec Ideal ⟨2, ![a, 1024]⟩ .f32) (s : FVec Ideal ⟨2, ![1, 1024]⟩ .f32) : FVec Ideal ⟨2, ![1, 1024]⟩ .f32 :=
  addf (shapeCast ⟨2, ![1, 1024]⟩ s h2) (shapeCast ⟨2, ![1, 1024]⟩ (multiReduction .add [0] ⟨1, ![1024]⟩ x 0x00000000#32 h0 (.inl rfl) rfl) h1)

theorem tsum_at (h0 : (⟨2, ![a, 1024]⟩ : Shape).Reduces [0] ⟨1, ![1024]⟩) (h1 : (⟨1, ![1024]⟩ : Shape).ShapeCasts ⟨2, ![1, 1024]⟩) (h2 : (⟨2, ![1, 1024]⟩ : Shape).ShapeCasts ⟨2, ![1, 1024]⟩)
    {x : FVec Ideal ⟨2, ![a, 1024]⟩ .f32} {s : FVec Ideal ⟨2, ![1, 1024]⟩ .f32} {X : ℕ → ℕ → ℝ} {S : ℕ → ℝ} (hx : Is2 x X) (hS : Is2 s fun _ l => S l) :
    Is2 (tsum h0 h1 h2 x s) fun _ l => S l + ∑ r ∈ Finset.range a, X r l := by
  intro r l
  pointwise [tsum]
  rw [hS]
  simp only [hx _ _, ← coe_sum, ← EReal.coe_add]
  rw [Finset.sum_range]

/-- A row scaled and shifted down the tile. -/
theorem down_at (hd : (⟨2, ![1, 1024]⟩ : Shape).Broadcasts ⟨2, ![a, 1024]⟩) {x : FVec Ideal ⟨2, ![1, 1024]⟩ .f32} {c : ℕ → ℝ} (hx : Is2 x fun _ l => c l) :
    Is2 (broadcastTo ⟨2, ![a, 1024]⟩ x hd) fun _ l => c l := by
  intro r l
  pointwise
  exact hx _ _

end Cert.LayerTile

end
-- ==== Proof.LossRows.lean ====
/- The tile of the feed-forward call over the reals: each payload of the body at real operands. -/
module

public import proofs.«01_k».proof.Proof.Blocks
public import proofs.«01_k».proof.Proof.LayerTile
public import proofs.«01_k».proof.Proof.Gen.LossIdeal.Value

@[expose] public section

set_option maxRecDepth 16384

noncomputable section

namespace Cert.LossIdeal.Rows

open Idealize.ShloMosaic Idealize.ShloMosaic.TcCoe Cert.LossIdeal Cert.LossIdeal.Gen Cert.Reals Cert.Scalars Cert.Norms Cert.Layer Cert.LayerTile

variable {x t : Vec Ideal S512x1024 .f32} {s c q g b : Vec Ideal S1x1024 .f32} {X T A W1 W2 : ℕ → ℕ → ℝ} {G B : ℕ → ℝ}

theorem pay1_at (hx : Is2 x X) (hc : Is2 c fun _ l => A 4 l) (hs : Is2 s fun _ l => A 3 l) : Is2 (k0_pay1 x c s) fun r => mo (X r) A := by
  intro r l
  pointwise [k0_pay1]
  rw [hx, hc, hs, ← EReal.coe_one, ← EReal.coe_add, ← EReal.coe_mul, ← EReal.coe_add, mo]

/-- One column piece of the inner layer. -/
theorem pay5_at {u : FVec Ideal S512x1024 .bf16} {w : Vec Ideal S1x1024x512 .bf16} {U W : ℕ → ℕ → ℝ} (hu : Is2 u U) (hw : Is3 w fun _ k j => W k j) :
    Is2 (k0_pay5 u w) fun r j => sqp (pre W (U r) j) := by
  intro r j
  pointwise [k0_pay5]
  simp only [hu _ _, hw _ _ _, ← EReal.coe_mul, ← coe_sum]
  rw [← EReal.coe_zero, max_coe, ← EReal.coe_mul, sqp, pre, Finset.sum_range]

/-- The outer layer with one more piece. -/
def step (a : FVec Ideal S512x1024 .f32) (u : FVec Ideal S512x1024 .bf16) (w : Vec Ideal S1x1024x512 .bf16) (v : Vec Ideal S512x1024 .bf16) : FVec Ideal S512x1024 .f32 :=
  addf a (matmul (φ₂ := .bf16) dot_S512x512_S512x1024_S512x1024_1_0_0_1_n_n none (k0_pay5 u w) v (constant S512x1024 .f32 0x00000000#32))

/-- The outer layer's sum over the first `n` inner entries. -/
def part (n : ℕ) (W1 W2 U : ℕ → ℕ → ℝ) (r l : ℕ) : ℝ := ∑ j ∈ Finset.range n, sqp (pre W1 (U r) j) * W2 j l

theorem step_at (n : ℕ) {a : FVec Ideal S512x1024 .f32} {u : FVec Ideal S512x1024 .bf16} {w : Vec Ideal S1x1024x512 .bf16} {v : Vec Ideal S512x1024 .bf16} {U : ℕ → ℕ → ℝ}
    (ha : Is2 a (part n W1 W2 U)) (hu : Is2 u U) (hw : Is3 w fun _ k j => W1 k (n + j)) (hv : Is2 v fun j l => W2 (n + j) l) :
    Is2 (step a u w v) (part (n + 512) W1 W2 U) := by
  have h := pay5_at (W := fun k j => W1 k (n + j)) hu hw
  intro r l
  unfold step
  generalize k0_pay5 u w = y at h ⊢
  pointwise
  simp only [ha _ _, h _ _, hv _ _, ← EReal.coe_mul, ← coe_sum, ← EReal.coe_add]
  rw [part, part, Finset.sum_range_add, Finset.sum_range (n := 512)]
  rfl

theorem none_at (U : ℕ → ℕ → ℝ) : Is2 (broadcast S512x1024 (Scalar.ofBits .f32 0x00000000#32) : FVec Ideal S512x1024 .f32) (part 0 W1 W2 U) := by
  intro r l
  pointwise
  rw [part, Finset.sum_range_zero, EReal.coe_zero]

/-- All the pieces of the weights. -/
structure Pieces (w : Fin 8 → Vec Ideal S1x1024x512 .bf16) (v : Fin 8 → Vec Ideal S512x1024 .bf16) (W1 W2 : ℕ → ℕ → ℝ) : Prop where
  hw : ∀ d : Fin 8, Is3 (w d) fun _ k j => W1 k (512 * d.val + j)
  hv : ∀ d : Fin 8, Is2 (v d) fun j l => W2 (512 * d.val + j) l

variable {w : Fin 8 → Vec Ideal S1x1024x512 .bf16} {v : Fin 8 → Vec Ideal S512x1024 .bf16}

/-- The outer layer, piece after piece. -/
def outer (x : Vec Ideal S512x1024 .f32) (c s : Vec Ideal S1x1024 .f32) (w : Fin 8 → Vec Ideal S1x1024x512 .bf16) (v : Fin 8 → Vec Ideal S512x1024 .bf16) : FVec Ideal S512x1024 .f32 :=
  k0_pay12 (k0_pay1 x c s) (k0_pay7 (k0_pay1 x c s) (k0_pay3 x c s (w 0) (v 0)) (k0_pay4 x c s (w 1)) (v 1) (w 2) (v 2) (w 3) (v 3)) (k0_pay8 (w 4)) (constant S512x512 .f32 0x00000000#32) (v 4) (w 5) (v 5) (w 6) (v 6)

theorem outer_at (hx : Is2 x X) (hc : Is2 c fun _ l => A 4 l) (hs : Is2 s fun _ l => A 3 l) (p : Pieces w v W1 W2) : Is2 (outer x c s w v) (part 3584 W1 W2 fun r => mo (X r) A) := by
  have hu := pay1_at hx hc hs
  exact step_at 3072 (step_at 2560 (step_at 2048 (step_at 1536 (step_at 1024 (step_at 512 (step_at 0 (none_at _) hu (p.hw 0) (p.hv 0))
    hu (p.hw 1) (p.hv 1)) hu (p.hw 2) (p.hv 2)) hu (p.hw 3) (p.hv 3)) hu (p.hw 4) (p.hv 4)) hu (p.hw 5) (p.hv 5)) hu (p.hw 6) (p.hv 6)

theorem pay14_at (hx : Is2 x X) (hc : Is2 c fun _ l => A 4 l) (hs : Is2 s fun _ l => A 3 l) (p : Pieces w v W1 W2) :
    Is2 (k0_pay14 (k0_pay1 x c s) (outer x c s w v) (w 7) (v 7)) fun r => ff (X r) A W1 W2 :=
  step_at 3584 (outer_at hx hc hs p) (pay1_at hx hc hs) (p.hw 7) (p.hv 7)

theorem pay15_at (hq : Is2 q fun _ l => A 5 l) : Is2 (k0_pay15 q) fun _ l => 1 + A 5 l := by
  intro r l
  pointwise [k0_pay15]
  rw [hq, ← EReal.coe_one, ← EReal.coe_add]

/-- The residual sum. -/
def resid (x f : FVec Ideal S512x1024 .f32) (q : FVec Ideal S1x1024 .f32) : FVec Ideal S512x1024 .f32 :=
  addf (mulf (broadcast S512x1024 (Scalar.ofBits .f32 0x3F9837F0#32)) x) (mulf (broadcastTo S512x1024 q broadcasts_S1x1024_S512x1024) f)

theorem resid_at {f : FVec Ideal S512x1024 .f32} {q : FVec Ideal S1x1024 .f32} (hx : Is2 x X) (hf : Is2 f fun r => ff (X r) A W1 W2) (hq : Is2 q fun _ l => 1 + A 5 l) :
    Is2 (resid x f q) fun r => zz (X r) A W1 W2 := by
  have h := mul_at (down_at broadcasts_S1x1024_S512x1024 hq) hf
  intro r l
  unfold resid
  generalize mulf (broadcastTo S512x1024 q broadcasts_S1x1024_S512x1024) f = y at h ⊢
  pointwise
  rw [hx, h, al_bits, ← EReal.coe_mul, ← EReal.coe_add, zz]

theorem pay16_at (hx : Is2 x X) (hc : Is2 c fun _ l => A 4 l) (hs : Is2 s fun _ l => A 3 l) (p : Pieces w v W1 W2) (hq : Is2 q fun _ l => A 5 l) :
    Is2 (k0_pay16 x (k0_pay1 x c s) (outer x c s w v) (w 7) (v 7) q) fun r => cen 1024 (zz (X r) A W1 W2) :=
  tcen_at reduces_S512x1024_S512 shapeCasts_S512_S512x1 broadcasts_S512x1_S512x1024 (resid_at hx (pay14_at hx hc hs p) (pay15_at hq))

theorem pay17_at (hx : Is2 x X) (hc : Is2 c fun _ l => A 4 l) (hs : Is2 s fun _ l => A 3 l) (p : Pieces w v W1 W2) (hq : Is2 q fun _ l => A 5 l) :
    Is2 (k0_pay17 x (k0_pay1 x c s) (outer x c s w v) (w 7) (v 7) q) fun r _ => rs 1024 (zz (X r) A W1 W2) :=
  trs_at reduces_S512x1024_S512 shapeCasts_S512_S512x1 (pay16_at hx hc hs p hq)

theorem pay18_at (hx : Is2 x X) (hc : Is2 c fun _ l => A 4 l) (hs : Is2 s fun _ l => A 3 l) (p : Pieces w v W1 W2) (hq : Is2 q fun _ l => A 5 l) :
    Is2 (k0_pay18 x (k0_pay1 x c s) (outer x c s w v) (w 7) (v 7) q) fun r => zh (X r) A W1 W2 :=
  txh_at broadcasts_S512x1_S512x1024 (pay16_at hx hc hs p hq) (pay17_at hx hc hs p hq)

section Tail

variable {e : FVec Ideal S512x1 .f32} {h f d y z : FVec Ideal S512x1024 .f32} {a k : FVec Ideal S1x1024 .f32} {n o : Vec Ideal S1x1024 .f32} {F D Y Z H : ℕ → ℕ → ℝ} {S : ℕ → ℝ}

theorem pay19_at (hg : Is2 g fun _ l => G l) : Is2 (k0_pay19 g) fun _ l => G l := by
  intro r l
  pointwise [k0_pay19]
  exact hg _ _

theorem pay20_at (hh : Is2 h fun r => zh (X r) A W1 W2) (hg : Is2 g fun _ l => G l) (hb : Is2 b fun _ l => B l) (ht : Is2 t T) :
    Is2 (k0_pay20 h (k0_pay19 g) b t) fun r => diff (X r) (T r) A W1 W2 G B := by
  intro r l
  pointwise [k0_pay20]
  rw [hh, pay19_at hg, hb, ht, ← EReal.coe_mul, ← EReal.coe_add, ← EReal.coe_sub, diff]

theorem pay21_at (hh : Is2 h fun r => zh (X r) A W1 W2) (hg : Is2 g fun _ l => G l) (hb : Is2 b fun _ l => B l) (ht : Is2 t T) :
    Is2 (k0_pay21 h (k0_pay19 g) b t) fun r => dy (X r) (T r) A W1 W2 G B := by
  intro r l
  pointwise [k0_pay21]
  rw [pay20_at hh hg hb ht, bits_part, ← EReal.coe_mul, dy]

theorem pay22_at (he : Is2 e fun r _ => rs 1024 (zz (X r) A W1 W2)) (hh : Is2 h fun r => zh (X r) A W1 W2) (hg : Is2 g fun _ l => G l) (hb : Is2 b fun _ l => B l) (ht : Is2 t T) :
    Is2 (k0_pay22 e h (k0_pay19 g) b t g) fun r => dz (X r) (T r) A W1 W2 G B :=
  tlb_at reduces_S512x1024_S512 shapeCasts_S512_S512x1 broadcasts_S512x1_S512x1024 he hh
    (mul_at (pay21_at hh hg hb ht) (down_at broadcasts_S1x1024_S512x1024 (pay19_at hg)))

theorem pay23_at (hk : Is2 k fun _ l => 1 + A 5 l) (he : Is2 e fun r _ => rs 1024 (zz (X r) A W1 W2)) (hh : Is2 h fun r => zh (X r) A W1 W2) (hg : Is2 g fun _ l => G l) (hb : Is2 b fun _ l => B l)
    (ht : Is2 t T) : Is2 (k0_pay23 k e h (k0_pay19 g) b t g) fun r l => (1 + A 5 l) * dz (X r) (T r) A W1 W2 G B l :=
  mul_at (down_at broadcasts_S1x1024_S512x1024 hk) (pay22_at he hh hg hb ht)

theorem pay24_at (he : Is2 e fun r _ => rs 1024 (zz (X r) A W1 W2)) (hh : Is2 h fun r => zh (X r) A W1 W2) (hg : Is2 g fun _ l => G l) (hb : Is2 b fun _ l => B l)
    (ht : Is2 t T) : Is2 (k0_pay24 e h (k0_pay19 g) b t g) fun r l => al * dz (X r) (T r) A W1 W2 G B l := by
  intro r l
  pointwise [k0_pay24]
  rw [pay22_at he hh hg hb ht, al_bits, ← EReal.coe_mul]

theorem pay26_at (hh : Is2 h H) (hy : Is2 y Y) (hn : Is2 n fun _ l => S l) : Is2 (k0_pay26 h y n) fun _ l => S l + ∑ r ∈ Finset.range 512, Y r l * H r l :=
  tsum_at reduces_S512x1024_S1024 shapeCasts_S1024_S1x1024 shapeCasts_S1x1024_S1x1024 (mul_at hy hh) hn

theorem pay27_at (hy : Is2 y Y) (hn : Is2 n fun _ l => S l) : Is2 (k0_pay27 y n) fun _ l => S l + ∑ r ∈ Finset.range 512, Y r l :=
  tsum_at reduces_S512x1024_S1024 shapeCasts_S1024_S1x1024 shapeCasts_S1x1024_S1x1024 hy hn

theorem pay28_at (hf : Is2 f F) (hz : Is2 z Z) (hn : Is2 n fun _ l => S l) : Is2 (k0_pay28 f z n) fun _ l => S l + ∑ r ∈ Finset.range 512, Z r l * F r l :=
  tsum_at reduces_S512x1024_S1024 shapeCasts_S1024_S1x1024 shapeCasts_S1x1024_S1x1024 (mul_at hz hf) hn

theorem pay29_at (hd : Is2 d D) (hn : Is2 n fun _ l => S l) :
    Is2 (k0_pay29 d n) fun _ l => S l + (∑ r ∈ Finset.range 512, ∑ l ∈ Finset.range 1024, D r l * D r l) * (1 / 2048) := by
  intro r l
  pointwise [k0_pay29]
  rw [hn]
  simp only [hd _ _, ← EReal.coe_mul, ← coe_sum, bits_halfPart, ← EReal.coe_add]
  rw [Finset.sum_range]
  simp only [Finset.sum_range (n := 1024)]

end Tail

end Cert.LossIdeal.Rows

end
-- ==== Proof.Slabs.lean ====
/- Loads of single rows and of slabs of a three-dimensional block, and stores of rows and of column pieces, entry by entry. -/
module

public import proofs.«01_k».proof.Proof.Blocks

@[expose] public section

noncomputable section

open Idealize.ShloMosaic Idealize.ShloMosaic.TcCoe Cert.Reals

namespace Cert.Blocks

variable {sig : RefSig} {κ : Kind} {sp : Space} {A B D a b : ℕ} {e : EltTy}

/-- A load of one row. -/
theorem load_row {v : Memref sig κ sp ⟨2, ![A, B]⟩ e} (hv : v.IsWhole) {x : Vec Ideal ⟨2, ![A, B]⟩ e} {f : ℕ → Elt Ideal e} (k : ℕ) (hk : k < A)
    (hx : ∀ l : Fin B, x (ix2 ⟨k, hk⟩ l) = f l.val) (inb) :
    At2 (View.readAt (Elt Ideal) v.view (Rect.unit (s := ⟨2, ![A, B]⟩) ![k, 0] ![1, B] inb).toLoadRect (hv.unread x)) fun _ l => f l := by
  intro r l
  refine (load_apply v.view (hv.unread x) k 0 inb r l (by omega) (by omega)).trans ?_
  rw [hv.read_unread]
  refine Eq.trans ?_ (hx l)
  congr 2
  · exact Fin.ext (by simp)
  · exact Fin.ext (Nat.zero_add _)

/-- A load of one slab. -/
theorem load_slab {v : Memref sig κ sp ⟨3, ![D, A, B]⟩ e} (hv : v.IsWhole) {x : Vec Ideal ⟨3, ![D, A, B]⟩ e} {f : ℕ → ℕ → ℕ → Elt Ideal e} (hx : ∀ d r l, x (ix3 d r l) = f d.val r.val l.val)
    (d : ℕ) (hd : d < D) (inb) (c : Fin 1) (r : Fin A) (l : Fin B) :
    View.readAt (Elt Ideal) v.view (Rect.unit (s := ⟨3, ![D, A, B]⟩) ![d, 0, 0] ![1, A, B] inb).toLoadRect (hv.unread x) (ix3 c r l) = f d r.val l.val := by
  rw [View.readAt_eq_ld, hv.read_unread]
  refine (View.ld_unit_apply_of (S := ⟨3, ![D, A, B]⟩) (Val := Elt Ideal) (e := e) _ ![d, 0, 0] ![1, A, B] inb (ix3 c r l) (ix3 ⟨d, hd⟩ r l) (by
    intro y
    fin_cases y
    · show d = d + c.val
      omega
    · show r.val = 0 + r.val
      omega
    · show l.val = 0 + l.val
      omega)).trans (hx _ _ _)

/-- A store of one row, at any entry. -/
theorem store_row (v : View sig κ sp ⟨2, ![A, B]⟩ e) (f : v.ty.Contents (Elt Ideal)) (k : ℕ) (inb)
    (w : (Rect.unit (s := ⟨2, ![A, B]⟩) ![k, 0] ![1, B] inb).shape.Idx → Elt Ideal e) (L : List (View.Piece (Elt Ideal) ⟨2, ![A, B]⟩ e)) (r : Fin A) (l : Fin B) :
    v.read (Elt Ideal) (v.writes (Elt Ideal) f (⟨Rect.unit (s := ⟨2, ![A, B]⟩) ![k, 0] ![1, B] inb, w⟩ :: L)) (ix2 r l)
      = if r.val = k then w (ix2 (0 : Fin 1) l) else v.read (Elt Ideal) (v.writes (Elt Ideal) f L) (ix2 r l) := by
  by_cases h : r.val = k
  · rw [if_pos h]
    exact store_hit v f k 0 inb w L r l 0 l (by simp [h]) (by omega)
  · rw [if_neg h]
    exact store_miss v f k 0 inb w L r l (by omega)

/-- The next column piece behind the columns already stored. -/
theorem store_cols (v : View sig κ sp ⟨2, ![A, B]⟩ e) (f : v.ty.Contents (Elt Ideal)) (p q : ℕ) (hq : p + b = q) (inb)
    (w : (Rect.unit (s := ⟨2, ![A, B]⟩) ![0, p] ![A, b] inb).shape.Idx → Elt Ideal e) (L : List (View.Piece (Elt Ideal) ⟨2, ![A, B]⟩ e)) {F : ℕ → ℕ → Elt Ideal e}
    (hw : ∀ (r : Fin A) (l : Fin b), w (ix2 r l) = F r.val (p + l.val)) (hL : ∀ (r : Fin A) (l : Fin B), l.val < p → v.read (Elt Ideal) (v.writes (Elt Ideal) f L) (ix2 r l) = F r.val l.val)
    (r : Fin A) (l : Fin B) (hl : l.val < q) :
    v.read (Elt Ideal) (v.writes (Elt Ideal) f (⟨Rect.unit (s := ⟨2, ![A, B]⟩) ![0, p] ![A, b] inb, w⟩ :: L)) (ix2 r l) = F r.val l.val := by
  by_cases h : l.val < p
  · exact (View.read_writes_cons_miss_of_axis v f ⟨Rect.unit (s := ⟨2, ![A, B]⟩) ![0, p] ![A, b] inb, w⟩ L (ix2 r l) 1 p b rfl rfl rfl (Or.inl h)).trans (hL r l h)
  · refine (store_hit v f 0 p inb w L r l r ⟨l.val - p, by omega⟩ (by omega) (by show l.val = p + (l.val - p); omega)).trans ((hw _ _).trans ?_)
    congr 1
    show p + (l.val - p) = l.val
    omega

end Cert.Blocks

end
-- ==== Proof.LossPoint.lean ====
/- One grid point of the feed-forward call: what its stores leave in the five results' blocks. -/
module

public import proofs.«01_k».proof.Proof.LossRows
public import proofs.«01_k».proof.Proof.Slabs

@[expose] public section

set_option maxRecDepth 16384

noncomputable section

namespace Cert.LossIdeal.Rows

open Idealize.ShloMosaic Idealize.ShloMosaic.TcCoe Cert.LossIdeal Cert.LossIdeal.Gen Cert.Reals Cert.Scalars Cert.Blocks Cert.Layer

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x1024x512 .bf16) (harg3 : arg3.IsWhole) (arg4 : Memref sig .tc .vmem S4096x1024 .bf16) (harg4 : arg4.IsWhole) (arg5 : Memref sig .tc .vmem S8x1024 .f32) (harg5 : arg5.IsWhole) (arg6 : Memref sig .tc .vmem S8x1024 .f32) (harg6 : arg6.IsWhole) (arg7 : Memref sig .tc .vmem S512x1024 .bf16) (harg7 : arg7.IsWhole) (arg8 : Memref sig .tc .vmem S512x4096 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S8x1024 .f32) (harg11 : arg11.IsWhole)
variable {x0 x1 : Vec Ideal S512x1024 .f32} {x2 : Vec Ideal S8x1024x512 .bf16} {x3 : Vec Ideal S4096x1024 .bf16} {x4 x5 xo : Vec Ideal S8x1024 .f32} {X T A W1 W2 S : ℕ → ℕ → ℝ} {G B : ℕ → ℝ}

/-- The blocks a point reads. -/
structure Blk (x0 x1 : Vec Ideal S512x1024 .f32) (x2 : Vec Ideal S8x1024x512 .bf16) (x3 : Vec Ideal S4096x1024 .bf16) (x4 x5 : Vec Ideal S8x1024 .f32) (X T A W1 W2 : ℕ → ℕ → ℝ) (G B : ℕ → ℝ) : Prop where
  hx : Is2 x0 X
  ht : Is2 x1 T
  hw : Is3 x2 fun d k j => W1 k (512 * d + j)
  hv : Is2 x3 W2
  h3 : ∀ l : Fin 1024, x4 (ix2 3 l) = (A 3 l.val : EReal)
  h4 : ∀ l : Fin 1024, x4 (ix2 4 l) = (A 4 l.val : EReal)
  h5 : ∀ l : Fin 1024, x4 (ix2 5 l) = (A 5 l.val : EReal)
  hg : ∀ l : Fin 1024, x5 (ix2 2 l) = (G l.val : EReal)
  hb : ∀ l : Fin 1024, x5 (ix2 3 l) = (B l.val : EReal)

theorem slab_in (d : Fin 8) : ∀ a, (![d.val, 0, 0] : Fin 3 → ℕ) a + S1x1024x512.size a ≤ S8x1024x512.size a := fun a => by
  fin_cases a
  · show d.val + 1 ≤ 8
    omega
  · exact le_of_eq (Nat.zero_add _)
  · exact le_of_eq (Nat.zero_add _)

theorem band_in (d : Fin 8) : ∀ a, (![512 * d.val, 0] : Fin 2 → ℕ) a + S512x1024.size a ≤ S4096x1024.size a := fun a => by
  fin_cases a
  · show 512 * d.val + 512 ≤ 4096
    omega
  · exact le_of_eq (Nat.zero_add _)

/-- The first weight's pieces. -/
def pw (x2 : Vec Ideal S8x1024x512 .bf16) (d : Fin 8) : Vec Ideal S1x1024x512 .bf16 :=
  View.readAt (Elt Ideal) arg3.view (Rect.unit (s := S8x1024x512) ![d.val, 0, 0] S1x1024x512.size (slab_in d)).toLoadRect (harg3.unread x2)

/-- The second weight's pieces. -/
def pv (x3 : Vec Ideal S4096x1024 .bf16) (d : Fin 8) : Vec Ideal S512x1024 .bf16 :=
  View.readAt (Elt Ideal) arg4.view (Rect.unit (s := S4096x1024) ![512 * d.val, 0] S512x1024.size (band_in d)).toLoadRect (harg4.unread x3)

variable (b : Blk x0 x1 x2 x3 x4 x5 X T A W1 W2 G B)

include b in
theorem pieces : Pieces (pw arg3 harg3 x2) (pv arg4 harg4 x3) W1 W2 where
  hw d c k j := load_slab harg3 (f := fun d k j => (W1 k (512 * d + j) : EReal)) (fun d r l => b.hw d r l) d.val d.isLt (slab_in d) c k j
  hv d j l := by
    have h := load_at harg4 (f := fun r l => (W2 r l : EReal)) b.hv (512 * d.val) 0 (band_in d) (by omega) (by omega) j l
    simp only [Nat.zero_add] at h
    exact h

include b in
theorem x_at : Is2 (View.readAt (Elt Ideal) arg1.view (Rect.unit (s := S512x1024) ![0, 0] S512x1024.size inb_S512x1024_S512x1024_0_0).toLoadRect (harg1.unread x0)) X := load_zero harg1 (f := fun r l => (X r l : EReal)) b.hx _ le_rfl le_rfl

include b in
theorem t_at : Is2 (View.readAt (Elt Ideal) arg2.view (Rect.unit (s := S512x1024) ![0, 0] S512x1024.size inb_S512x1024_S512x1024_0_0).toLoadRect (harg2.unread x1)) T := load_zero harg2 (f := fun r l => (T r l : EReal)) b.ht _ le_rfl le_rfl

include b in
theorem s_at : Is2 (View.readAt (Elt Ideal) arg5.view (Rect.unit (s := S8x1024) ![3, 0] S1x1024.size inb_S8x1024_S1x1024_3_0).toLoadRect (harg5.unread x4)) fun _ l => A 3 l := load_row harg5 (f := fun l => (A 3 l : EReal)) 3 (by omega) b.h3 _

include b in
theorem c_at : Is2 (View.readAt (Elt Ideal) arg5.view (Rect.unit (s := S8x1024) ![4, 0] S1x1024.size inb_S8x1024_S1x1024_4_0).toLoadRect (harg5.unread x4)) fun _ l => A 4 l := load_row harg5 (f := fun l => (A 4 l : EReal)) 4 (by omega) b.h4 _

include b in
theorem q_at : Is2 (View.readAt (Elt Ideal) arg5.view (Rect.unit (s := S8x1024) ![5, 0] S1x1024.size inb_S8x1024_S1x1024_5_0).toLoadRect (harg5.unread x4)) fun _ l => A 5 l := load_row harg5 (f := fun l => (A 5 l : EReal)) 5 (by omega) b.h5 _

include b in
theorem g_at : Is2 (View.readAt (Elt Ideal) arg6.view (Rect.unit (s := S8x1024) ![2, 0] S1x1024.size inb_S8x1024_S1x1024_2_0).toLoadRect (harg6.unread x5)) fun _ l => G l := load_row harg6 (f := fun l => (G l : EReal)) 2 (by omega) b.hg _

include b in
theorem b_at : Is2 (View.readAt (Elt Ideal) arg6.view (Rect.unit (s := S8x1024) ![3, 0] S1x1024.size inb_S8x1024_S1x1024_3_0).toLoadRect (harg6.unread x5)) fun _ l => B l := load_row harg6 (f := fun l => (B l : EReal)) 3 (by omega) b.hb _

/-- The point's rows before the second norm. -/
def u (x0 : Vec Ideal S512x1024 .f32) (x4 : Vec Ideal S8x1024 .f32) : FVec Ideal S512x1024 .bf16 := k0_pay1 (View.readAt (Elt Ideal) arg1.view (Rect.unit (s := S512x1024) ![0, 0] S512x1024.size inb_S512x1024_S512x1024_0_0).toLoadRect (harg1.unread x0)) (View.readAt (Elt Ideal) arg5.view (Rect.unit (s := S8x1024) ![4, 0] S1x1024.size inb_S8x1024_S1x1024_4_0).toLoadRect (harg5.unread x4)) (View.readAt (Elt Ideal) arg5.view (Rect.unit (s := S8x1024) ![3, 0] S1x1024.size inb_S8x1024_S1x1024_3_0).toLoadRect (harg5.unread x4))

def o (x0 : Vec Ideal S512x1024 .f32) (x2 : Vec Ideal S8x1024x512 .bf16) (x3 : Vec Ideal S4096x1024 .bf16) (x4 : Vec Ideal S8x1024 .f32) : FVec Ideal S512x1024 .f32 := outer (View.readAt (Elt Ideal) arg1.view (Rect.unit (s := S512x1024) ![0, 0] S512x1024.size inb_S512x1024_S512x1024_0_0).toLoadRect (harg1.unread x0)) (View.readAt (Elt Ideal) arg5.view (Rect.unit (s := S8x1024) ![4, 0] S1x1024.size inb_S8x1024_S1x1024_4_0).toLoadRect (harg5.unread x4)) (View.readAt (Elt Ideal) arg5.view (Rect.unit (s := S8x1024) ![3, 0] S1x1024.size inb_S8x1024_S1x1024_3_0).toLoadRect (harg5.unread x4)) (pw arg3 harg3 x2) (pv arg4 harg4 x3)

include b in
theorem u_at : Is2 (u arg1 harg1 arg5 harg5 x0 x4) fun r => mo (X r) A := pay1_at (x_at arg1 harg1 b) (c_at arg5 harg5 b) (s_at arg5 harg5 b)

include b in
theorem f_at : Is2 (k0_pay14 (u arg1 harg1 arg5 harg5 x0 x4) (o arg1 harg1 arg3 harg3 arg4 harg4 arg5 harg5 x0 x2 x3 x4) (pw arg3 harg3 x2 7) (pv arg4 harg4 x3 7)) fun r => ff (X r) A W1 W2 := pay14_at (x_at arg1 harg1 b) (c_at arg5 harg5 b) (s_at arg5 harg5 b) (pieces arg3 harg3 arg4 harg4 b)

include b in
theorem e_at : Is2 (k0_pay17 (View.readAt (Elt Ideal) arg1.view (Rect.unit (s := S512x1024) ![0, 0] S512x1024.size inb_S512x1024_S512x1024_0_0).toLoadRect (harg1.unread x0)) (u arg1 harg1 arg5 harg5 x0 x4) (o arg1 harg1 arg3 harg3 arg4 harg4 arg5 harg5 x0 x2 x3 x4) (pw arg3 harg3 x2 7) (pv arg4 harg4 x3 7) (View.readAt (Elt Ideal) arg5.view (Rect.unit (s := S8x1024) ![5, 0] S1x1024.size inb_S8x1024_S1x1024_5_0).toLoadRect (harg5.unread x4))) fun r _ => rs 1024 (zz (X r) A W1 W2) := pay17_at (x_at arg1 harg1 b) (c_at arg5 harg5 b) (s_at arg5 harg5 b) (pieces arg3 harg3 arg4 harg4 b) (q_at arg5 harg5 b)

include b in
theorem h_at : Is2 (k0_pay18 (View.readAt (Elt Ideal) arg1.view (Rect.unit (s := S512x1024) ![0, 0] S512x1024.size inb_S512x1024_S512x1024_0_0).toLoadRect (harg1.unread x0)) (u arg1 harg1 arg5 harg5 x0 x4) (o arg1 harg1 arg3 harg3 arg4 harg4 arg5 harg5 x0 x2 x3 x4) (pw arg3 harg3 x2 7) (pv arg4 harg4 x3 7) (View.readAt (Elt Ideal) arg5.view (Rect.unit (s := S8x1024) ![5, 0] S1x1024.size inb_S8x1024_S1x1024_5_0).toLoadRect (harg5.unread x4))) fun r => zh (X r) A W1 W2 := pay18_at (x_at arg1 harg1 b) (c_at arg5 harg5 b) (s_at arg5 harg5 b) (pieces arg3 harg3 arg4 harg4 b) (q_at arg5 harg5 b)

include b in
theorem d_at : Is2 (k0_pay20 (k0_pay18 (View.readAt (Elt Ideal) arg1.view (Rect.unit (s := S512x1024) ![0, 0] S512x1024.size inb_S512x1024_S512x1024_0_0).toLoadRect (harg1.unread x0)) (u arg1 harg1 arg5 harg5 x0 x4) (o arg1 harg1 arg3 harg3 arg4 harg4 arg5 harg5 x0 x2 x3 x4) (pw arg3 harg3 x2 7) (pv arg4 harg4 x3 7) (View.readAt (Elt Ideal) arg5.view (Rect.unit (s := S8x1024) ![5, 0] S1x1024.size inb_S8x1024_S1x1024_5_0).toLoadRect (harg5.unread x4))) (k0_pay19 (View.readAt (Elt Ideal) arg6.view (Rect.unit (s := S8x1024) ![2, 0] S1x1024.size inb_S8x1024_S1x1024_2_0).toLoadRect (harg6.unread x5))) (View.readAt (Elt Ideal) arg6.view (Rect.unit (s := S8x1024) ![3, 0] S1x1024.size inb_S8x1024_S1x1024_3_0).toLoadRect (harg6.unread x5)) (View.readAt (Elt Ideal) arg2.view (Rect.unit (s := S512x1024) ![0, 0] S512x1024.size inb_S512x1024_S512x1024_0_0).toLoadRect (harg2.unread x1))) fun r => diff (X r) (T r) A W1 W2 G B := pay20_at (h_at arg1 harg1 arg3 harg3 arg4 harg4 arg5 harg5 b) (g_at arg6 harg6 b) (b_at arg6 harg6 b) (t_at arg2 harg2 b)

include b in
theorem y_at : Is2 (k0_pay21 (k0_pay18 (View.readAt (Elt Ideal) arg1.view (Rect.unit (s := S512x1024) ![0, 0] S512x1024.size inb_S512x1024_S512x1024_0_0).toLoadRect (harg1.unread x0)) (u arg1 harg1 arg5 harg5 x0 x4) (o arg1 harg1 arg3 harg3 arg4 harg4 arg5 harg5 x0 x2 x3 x4) (pw arg3 harg3 x2 7) (pv arg4 harg4 x3 7) (View.readAt (Elt Ideal) arg5.view (Rect.unit (s := S8x1024) ![5, 0] S1x1024.size inb_S8x1024_S1x1024_5_0).toLoadRect (harg5.unread x4))) (k0_pay19 (View.readAt (Elt Ideal) arg6.view (Rect.unit (s := S8x1024) ![2, 0] S1x1024.size inb_S8x1024_S1x1024_2_0).toLoadRect (harg6.unread x5))) (View.readAt (Elt Ideal) arg6.view (Rect.unit (s := S8x1024) ![3, 0] S1x1024.size inb_S8x1024_S1x1024_3_0).toLoadRect (harg6.unread x5)) (View.readAt (Elt Ideal) arg2.view (Rect.unit (s := S512x1024) ![0, 0] S512x1024.size inb_S512x1024_S512x1024_0_0).toLoadRect (harg2.unread x1))) fun r => dy (X r) (T r) A W1 W2 G B := pay21_at (h_at arg1 harg1 arg3 harg3 arg4 harg4 arg5 harg5 b) (g_at arg6 harg6 b) (b_at arg6 harg6 b) (t_at arg2 harg2 b)

include b in
theorem z_at : Is2 (k0_pay22 (k0_pay17 (View.readAt (Elt Ideal) arg1.view (Rect.unit (s := S512x1024) ![0, 0] S512x1024.size inb_S512x1024_S512x1024_0_0).toLoadRect (harg1.unread x0)) (u arg1 harg1 arg5 harg5 x0 x4) (o arg1 harg1 arg3 harg3 arg4 harg4 arg5 harg5 x0 x2 x3 x4) (pw arg3 harg3 x2 7) (pv arg4 harg4 x3 7) (View.readAt (Elt Ideal) arg5.view (Rect.unit (s := S8x1024) ![5, 0] S1x1024.size inb_S8x1024_S1x1024_5_0).toLoadRect (harg5.unread x4))) (k0_pay18 (View.readAt (Elt Ideal) arg1.view (Rect.unit (s := S512x1024) ![0, 0] S512x1024.size inb_S512x1024_S512x1024_0_0).toLoadRect (harg1.unread x0)) (u arg1 harg1 arg5 harg5 x0 x4) (o arg1 harg1 arg3 harg3 arg4 harg4 arg5 harg5 x0 x2 x3 x4) (pw arg3 harg3 x2 7) (pv arg4 harg4 x3 7) (View.readAt (Elt Ideal) arg5.view (Rect.unit (s := S8x1024) ![5, 0] S1x1024.size inb_S8x1024_S1x1024_5_0).toLoadRect (harg5.unread x4))) (k0_pay19 (View.readAt (Elt Ideal) arg6.view (Rect.unit (s := S8x1024) ![2, 0] S1x1024.size inb_S8x1024_S1x1024_2_0).toLoadRect (harg6.unread x5))) (View.readAt (Elt Ideal) arg6.view (Rect.unit (s := S8x1024) ![3, 0] S1x1024.size inb_S8x1024_S1x1024_3_0).toLoadRect (harg6.unread x5)) (View.readAt (Elt Ideal) arg2.view (Rect.unit (s := S512x1024) ![0, 0] S512x1024.size inb_S512x1024_S512x1024_0_0).toLoadRect (harg2.unread x1)) (View.readAt (Elt Ideal) arg6.view (Rect.unit (s := S8x1024) ![2, 0] S1x1024.size inb_S8x1024_S1x1024_2_0).toLoadRect (harg6.unread x5))) fun r => dz (X r) (T r) A W1 W2 G B := pay22_at (e_at arg1 harg1 arg3 harg3 arg4 harg4 arg5 harg5 b) (h_at arg1 harg1 arg3 harg3 arg4 harg4 arg5 harg5 b) (g_at arg6 harg6 b) (b_at arg6 harg6 b) (t_at arg2 harg2 b)

/-- The sums over the first `n` rows. -/
def sums (X T A W1 W2 : ℕ → ℕ → ℝ) (G B : ℕ → ℝ) (n r l : ℕ) : ℝ :=
  if r = 3 then (∑ i ∈ Finset.range n, ∑ k ∈ Finset.range 1024, diff (X i) (T i) A W1 W2 G B k * diff (X i) (T i) A W1 W2 G B k) * (1 / 2048)
  else if r = 2 then ∑ i ∈ Finset.range n, dz (X i) (T i) A W1 W2 G B l * ff (X i) A W1 W2 l
  else if r = 1 then ∑ i ∈ Finset.range n, dy (X i) (T i) A W1 W2 G B l
  else if r = 0 then ∑ i ∈ Finset.range n, dy (X i) (T i) A W1 W2 G B l * zh (X i) A W1 W2 l else 0

include b in
theorem u_A (hc0 : cond0_0 i) : Is2 (out0_A_6 c i arg1 harg1 arg2 harg2 arg3 harg3 arg4 harg4 arg5 harg5 arg6 harg6 arg7 harg7 arg8 harg8 arg9 harg9 arg10 harg10 arg11 harg11 hc0 x0 x1 x2 x3 x4 x5) fun r => mo (X r) A := by
  intro r l
  unfold out0_A_6 kernelRun0_A
  dsimp only
  exact (store_hit VO0_6 _ 0 0 inb_S512x1024_S512x1024_0_0 _ [] r l r l (by omega) (by omega)).trans (u_at arg1 harg1 arg5 harg5 b r l)

include b in
theorem hid_A (hc0 : cond0_0 i) : Is2 (out0_A_7 c i arg1 harg1 arg2 harg2 arg3 harg3 arg4 harg4 arg5 harg5 arg6 harg6 arg7 harg7 arg8 harg8 arg9 harg9 arg10 harg10 arg11 harg11 hc0 x0 x1 x2 x3 x4 x5) fun r => hid (X r) A W1 := by
  have k : ∀ (d : Fin 8) (r : Fin 512) (l : Fin 512), k0_pay5 (u arg1 harg1 arg5 harg5 x0 x4) (pw arg3 harg3 x2 d) (ix2 r l) = (hid (X r.val) A W1 (512 * d.val + l.val) : EReal) :=
    fun d r l => pay5_at (W := fun k j => W1 k (512 * d.val + j)) (u_at arg1 harg1 arg5 harg5 b) ((pieces arg3 harg3 arg4 harg4 b).hw d) r l
  intro r l
  unfold out0_A_7 kernelRun0_A
  dsimp only
  refine store_cols VO0_7 _ 3584 4096 rfl _ _ _ (F := fun r j => (hid (X r) A W1 j : EReal)) (k 7) ?_ r l l.isLt
  refine store_cols VO0_7 _ 3072 3584 rfl _ _ _ (F := fun r j => (hid (X r) A W1 j : EReal)) (k 6) ?_
  refine store_cols VO0_7 _ 2560 3072 rfl _ _ _ (F := fun r j => (hid (X r) A W1 j : EReal)) (k 5) ?_
  refine store_cols VO0_7 _ 2048 2560 rfl _ _ _ (F := fun r j => (hid (X r) A W1 j : EReal)) (k 4) ?_
  refine store_cols VO0_7 _ 1536 2048 rfl _ _ _ (F := fun r j => (hid (X r) A W1 j : EReal)) (k 3) ?_
  refine store_cols VO0_7 _ 1024 1536 rfl _ _ _ (F := fun r j => (hid (X r) A W1 j : EReal)) (k 2) ?_
  refine store_cols VO0_7 _ 512 1024 rfl _ _ _ (F := fun r j => (hid (X r) A W1 j : EReal)) (k 1) ?_
  refine store_cols VO0_7 _ 0 512 rfl _ _ _ (F := fun r j => (hid (X r) A W1 j : EReal)) (k 0) ?_
  exact fun r l h => absurd h (Nat.not_lt_zero _)

include b in
theorem dff_A (hc0 : cond0_0 i) : Is2 (out0_A_8 c i arg1 harg1 arg2 harg2 arg3 harg3 arg4 harg4 arg5 harg5 arg6 harg6 arg7 harg7 arg8 harg8 arg9 harg9 arg10 harg10 arg11 harg11 hc0 x0 x1 x2 x3 x4 x5) fun r l => (1 + A 5 l) * dz (X r) (T r) A W1 W2 G B l := by
  intro r l
  unfold out0_A_8 kernelRun0_A
  dsimp only
  exact (store_hit VO0_8 _ 0 0 inb_S512x1024_S512x1024_0_0 _ [] r l r l (by omega) (by omega)).trans (pay23_at (pay15_at (q_at arg5 harg5 b)) (e_at arg1 harg1 arg3 harg3 arg4 harg4 arg5 harg5 b) (h_at arg1 harg1 arg3 harg3 arg4 harg4 arg5 harg5 b) (g_at arg6 harg6 b) (b_at arg6 harg6 b) (t_at arg2 harg2 b) r l)

include b in
theorem dx_A (hc0 : cond0_0 i) : Is2 (out0_A_9 c i arg1 harg1 arg2 harg2 arg3 harg3 arg4 harg4 arg5 harg5 arg6 harg6 arg7 harg7 arg8 harg8 arg9 harg9 arg10 harg10 arg11 harg11 hc0 x0 x1 x2 x3 x4 x5) fun r l => al * dz (X r) (T r) A W1 W2 G B l := by
  intro r l
  unfold out0_A_9 kernelRun0_A
  dsimp only
  exact (store_hit VO0_9 _ 0 0 inb_S512x1024_S512x1024_0_0 _ [] r l r l (by omega) (by omega)).trans (pay24_at (e_at arg1 harg1 arg3 harg3 arg4 harg4 arg5 harg5 b) (h_at arg1 harg1 arg3 harg3 arg4 harg4 arg5 harg5 b) (g_at arg6 harg6 b) (b_at arg6 harg6 b) (t_at arg2 harg2 b) r l)

include b in
theorem u_B (hc0 : ¬cond0_0 i) : Is2 (out0_B_6 c i arg1 harg1 arg2 harg2 arg3 harg3 arg4 harg4 arg5 harg5 arg6 harg6 arg7 harg7 arg8 harg8 arg9 harg9 arg10 harg10 arg11 harg11 hc0 x0 x1 x2 x3 x4 x5 xo) fun r => mo (X r) A := by
  intro r l
  unfold out0_B_6 kernelRun0_B
  dsimp only
  exact (store_hit VO0_6 _ 0 0 inb_S512x1024_S512x1024_0_0 _ [] r l r l (by omega) (by omega)).trans (u_at arg1 harg1 arg5 harg5 b r l)

include b in
theorem hid_B (hc0 : ¬cond0_0 i) : Is2 (out0_B_7 c i arg1 harg1 arg2 harg2 arg3 harg3 arg4 harg4 arg5 harg5 arg6 harg6 arg7 harg7 arg8 harg8 arg9 harg9 arg10 harg10 arg11 harg11 hc0 x0 x1 x2 x3 x4 x5 xo) fun r => hid (X r) A W1 := by
  have k : ∀ (d : Fin 8) (r : Fin 512) (l : Fin 512), k0_pay5 (u arg1 harg1 arg5 harg5 x0 x4) (pw arg3 harg3 x2 d) (ix2 r l) = (hid (X r.val) A W1 (512 * d.val + l.val) : EReal) :=
    fun d r l => pay5_at (W := fun k j => W1 k (512 * d.val + j)) (u_at arg1 harg1 arg5 harg5 b) ((pieces arg3 harg3 arg4 harg4 b).hw d) r l
  intro r l
  unfold out0_B_7 kernelRun0_B
  dsimp only
  refine store_cols VO0_7 _ 3584 4096 rfl _ _ _ (F := fun r j => (hid (X r) A W1 j : EReal)) (k 7) ?_ r l l.isLt
  refine store_cols VO0_7 _ 3072 3584 rfl _ _ _ (F := fun r j => (hid (X r) A W1 j : EReal)) (k 6) ?_
  refine store_cols VO0_7 _ 2560 3072 rfl _ _ _ (F := fun r j => (hid (X r) A W1 j : EReal)) (k 5) ?_
  refine store_cols VO0_7 _ 2048 2560 rfl _ _ _ (F := fun r j => (hid (X r) A W1 j : EReal)) (k 4) ?_
  refine store_cols VO0_7 _ 1536 2048 rfl _ _ _ (F := fun r j => (hid (X r) A W1 j : EReal)) (k 3) ?_
  refine store_cols VO0_7 _ 1024 1536 rfl _ _ _ (F := fun r j => (hid (X r) A W1 j : EReal)) (k 2) ?_
  refine store_cols VO0_7 _ 512 1024 rfl _ _ _ (F := fun r j => (hid (X r) A W1 j : EReal)) (k 1) ?_
  refine store_cols VO0_7 _ 0 512 rfl _ _ _ (F := fun r j => (hid (X r) A W1 j : EReal)) (k 0) ?_
  exact fun r l h => absurd h (Nat.not_lt_zero _)

include b in
theorem dff_B (hc0 : ¬cond0_0 i) : Is2 (out0_B_8 c i arg1 harg1 arg2 harg2 arg3 harg3 arg4 harg4 arg5 harg5 arg6 harg6 arg7 harg7 arg8 harg8 arg9 harg9 arg10 harg10 arg11 harg11 hc0 x0 x1 x2 x3 x4 x5 xo) fun r l => (1 + A 5 l) * dz (X r) (T r) A W1 W2 G B l := by
  intro r l
  unfold out0_B_8 kernelRun0_B
  dsimp only
  exact (store_hit VO0_8 _ 0 0 inb_S512x1024_S512x1024_0_0 _ [] r l r l (by omega) (by omega)).trans (pay23_at (pay15_at (q_at arg5 harg5 b)) (e_at arg1 harg1 arg3 harg3 arg4 harg4 arg5 harg5 b) (h_at arg1 harg1 arg3 harg3 arg4 harg4 arg5 harg5 b) (g_at arg6 harg6 b) (b_at arg6 harg6 b) (t_at arg2 harg2 b) r l)

include b in
theorem dx_B (hc0 : ¬cond0_0 i) : Is2 (out0_B_9 c i arg1 harg1 arg2 harg2 arg3 harg3 arg4 harg4 arg5 harg5 arg6 harg6 arg7 harg7 arg8 harg8 arg9 harg9 arg10 harg10 arg11 harg11 hc0 x0 x1 x2 x3 x4 x5 xo) fun r l => al * dz (X r) (T r) A W1 W2 G B l := by
  intro r l
  unfold out0_B_9 kernelRun0_B
  dsimp only
  exact (store_hit VO0_9 _ 0 0 inb_S512x1024_S512x1024_0_0 _ [] r l r l (by omega) (by omega)).trans (pay24_at (e_at arg1 harg1 arg3 harg3 arg4 harg4 arg5 harg5 b) (h_at arg1 harg1 arg3 harg3 arg4 harg4 arg5 harg5 b) (g_at arg6 harg6 b) (b_at arg6 harg6 b) (t_at arg2 harg2 b) r l)

include b in
theorem st_A (hc0 : cond0_0 i) : Is2 (out0_A_10 c i arg1 harg1 arg2 harg2 arg3 harg3 arg4 harg4 arg5 harg5 arg6 harg6 arg7 harg7 arg8 harg8 arg9 harg9 arg10 harg10 arg11 harg11 hc0 x0 x1 x2 x3 x4 x5) (sums X T A W1 W2 G B 512) := by
  have z : ∀ (v : View sig .tc .vmem S8x1024 .f32) (r : Fin 8) (l : Fin 1024),
      v.read (Elt Ideal) (v.writes (Elt Ideal) v.junk [⟨Rect.unit (s := S8x1024) ![0, 0] S8x1024.size inb_S8x1024_S8x1024_0_0, k0_pay25 (F := Ideal)⟩]) (ix2 r l) = (0 : EReal) := by
    intro v r l
    refine (store_hit v _ 0 0 inb_S8x1024_S8x1024_0_0 _ [] r l r l (by omega) (by omega)).trans ?_
    pointwise [k0_pay25]
  intro r l
  unfold out0_A_10 kernelRun0_A
  dsimp only
  unfold sums
  refine (store_row VO0_10 _ 3 inb_S8x1024_S1x1024_3_0 _ _ r l).trans ?_
  by_cases h3 : r.val = 3
  · rw [if_pos h3, if_pos h3]
    refine (pay29_at (S := fun _ => 0) (d_at arg1 harg1 arg2 harg2 arg3 harg3 arg4 harg4 arg5 harg5 arg6 harg6 b) (fun a l => ?_) 0 l).trans (by beta_reduce; rw [zero_add])
    refine (load_apply arg11.view _ 3 0 inb_S8x1024_S1x1024_3_0 a l (by omega) (by omega)).trans ?_
    refine (store_miss arg11.view _ 2 0 inb_S8x1024_S1x1024_2_0 _ _ _ _ (by right; show 2 + 1 ≤ 3 + a.val; omega)).trans ?_
    refine (store_miss arg11.view _ 1 0 inb_S8x1024_S1x1024_1_0 _ _ _ _ (by right; show 1 + 1 ≤ 3 + a.val; omega)).trans ?_
    refine (store_miss arg11.view _ 0 0 inb_S8x1024_S1x1024_0_0 _ _ _ _ (by right; show 0 + 1 ≤ 3 + a.val; omega)).trans ?_
    exact z _ _ _
  rw [if_neg h3, if_neg h3]
  refine (store_row VO0_10 _ 2 inb_S8x1024_S1x1024_2_0 _ _ r l).trans ?_
  by_cases h2 : r.val = 2
  · rw [if_pos h2, if_pos h2]
    refine (pay28_at (S := fun _ => 0) (f_at arg1 harg1 arg3 harg3 arg4 harg4 arg5 harg5 b) (z_at arg1 harg1 arg2 harg2 arg3 harg3 arg4 harg4 arg5 harg5 arg6 harg6 b) (fun a l => ?_) 0 l).trans (by beta_reduce; rw [zero_add])
    refine (load_apply arg11.view _ 2 0 inb_S8x1024_S1x1024_2_0 a l (by omega) (by omega)).trans ?_
    refine (store_miss arg11.view _ 1 0 inb_S8x1024_S1x1024_1_0 _ _ _ _ (by right; show 1 + 1 ≤ 2 + a.val; omega)).trans ?_
    refine (store_miss arg11.view _ 0 0 inb_S8x1024_S1x1024_0_0 _ _ _ _ (by right; show 0 + 1 ≤ 2 + a.val; omega)).trans ?_
    exact z _ _ _
  rw [if_neg h2, if_neg h2]
  refine (store_row VO0_10 _ 1 inb_S8x1024_S1x1024_1_0 _ _ r l).trans ?_
  by_cases h1 : r.val = 1
  · rw [if_pos h1, if_pos h1]
    refine (pay27_at (S := fun _ => 0) (y_at arg1 harg1 arg2 harg2 arg3 harg3 arg4 harg4 arg5 harg5 arg6 harg6 b) (fun a l => ?_) 0 l).trans (by beta_reduce; rw [zero_add])
    refine (load_apply arg11.view _ 1 0 inb_S8x1024_S1x1024_1_0 a l (by omega) (by omega)).trans ?_
    refine (store_miss arg11.view _ 0 0 inb_S8x1024_S1x1024_0_0 _ _ _ _ (by right; show 0 + 1 ≤ 1 + a.val; omega)).trans ?_
    exact z _ _ _
  rw [if_neg h1, if_neg h1]
  refine (store_row VO0_10 _ 0 inb_S8x1024_S1x1024_0_0 _ _ r l).trans ?_
  by_cases h0 : r.val = 0
  · rw [if_pos h0, if_pos h0]
    refine (pay26_at (S := fun _ => 0) (h_at arg1 harg1 arg3 harg3 arg4 harg4 arg5 harg5 b) (y_at arg1 harg1 arg2 harg2 arg3 harg3 arg4 harg4 arg5 harg5 arg6 harg6 b) (fun a l => ?_) 0 l).trans (by beta_reduce; rw [zero_add])
    refine (load_apply arg11.view _ 0 0 inb_S8x1024_S1x1024_0_0 a l (by omega) (by omega)).trans ?_
    exact z _ _ _
  rw [if_neg h0, if_neg h0]
  exact z _ _ _

include b in
theorem st_B (hc0 : ¬cond0_0 i) (hS : Is2 xo S) : Is2 (out0_B_10 c i arg1 harg1 arg2 harg2 arg3 harg3 arg4 harg4 arg5 harg5 arg6 harg6 arg7 harg7 arg8 harg8 arg9 harg9 arg10 harg10 arg11 harg11 hc0 x0 x1 x2 x3 x4 x5 xo) fun r l => S r l + sums X T A W1 W2 G B 512 r l := by
  have z : ∀ (k : Fin 8) (inb), Is2 (View.readAt (Elt Ideal) arg11.view (Rect.unit (s := S8x1024) ![k.val, 0] S1x1024.size inb).toLoadRect (harg11.unread xo)) fun _ l => S k.val l :=
    fun k inb => load_row harg11 (f := fun l => (S k.val l : EReal)) k.val k.isLt (fun l => hS k l) inb
  intro r l
  unfold out0_B_10 kernelRun0_B
  dsimp only
  unfold sums
  refine (store_row arg11.view _ 3 inb_S8x1024_S1x1024_3_0 _ _ r l).trans ?_
  by_cases h3 : r.val = 3
  · rw [if_pos h3, if_pos h3, h3]
    exact pay29_at (S := fun l => S 3 l) (d_at arg1 harg1 arg2 harg2 arg3 harg3 arg4 harg4 arg5 harg5 arg6 harg6 b) (z 3 inb_S8x1024_S1x1024_3_0) 0 l
  rw [if_neg h3, if_neg h3]
  refine (store_row arg11.view _ 2 inb_S8x1024_S1x1024_2_0 _ _ r l).trans ?_
  by_cases h2 : r.val = 2
  · rw [if_pos h2, if_pos h2, h2]
    exact pay28_at (S := fun l => S 2 l) (f_at arg1 harg1 arg3 harg3 arg4 harg4 arg5 harg5 b) (z_at arg1 harg1 arg2 harg2 arg3 harg3 arg4 harg4 arg5 harg5 arg6 harg6 b) (z 2 inb_S8x1024_S1x1024_2_0) 0 l
  rw [if_neg h2, if_neg h2]
  refine (store_row arg11.view _ 1 inb_S8x1024_S1x1024_1_0 _ _ r l).trans ?_
  by_cases h1 : r.val = 1
  · rw [if_pos h1, if_pos h1, h1]
    exact pay27_at (S := fun l => S 1 l) (y_at arg1 harg1 arg2 harg2 arg3 harg3 arg4 harg4 arg5 harg5 arg6 harg6 b) (z 1 inb_S8x1024_S1x1024_1_0) 0 l
  rw [if_neg h1, if_neg h1]
  refine (store_row arg11.view _ 0 inb_S8x1024_S1x1024_0_0 _ _ r l).trans ?_
  by_cases h0 : r.val = 0
  · rw [if_pos h0, if_pos h0, h0]
    exact pay26_at (S := fun l => S 0 l) (h_at arg1 harg1 arg3 harg3 arg4 harg4 arg5 harg5 b) (y_at arg1 harg1 arg2 harg2 arg3 harg3 arg4 harg4 arg5 harg5 arg6 harg6 b) (z 0 inb_S8x1024_S1x1024_0_0) 0 l
  rw [if_neg h0, if_neg h0]
  rw [View.writes_nil, harg11.read_unread, hS, add_zero]

end Cert.LossIdeal.Rows

end
-- ==== Proof.LossRun.lean ====
/- The feed-forward call over its grid: what the five results hold when the arguments are real numbers. -/
module

public import proofs.«01_k».proof.Proof.LossPoint
public import Idealize.ShloMosaic.Lib.UnfoldOut
public import Idealize.ShloMosaic.Lib.Pipeline.ValueKit

@[expose] public section

set_option maxRecDepth 16384

noncomputable section

namespace Cert.LossIdeal.Rows

open Idealize.ShloMosaic Idealize.ShloMosaic.TcCoe Cert.LossIdeal Cert.LossIdeal.Gen Cert.Reals Cert.Scalars Cert.Blocks Cert.Layer

theorem sums_next (X T A W1 W2 : ℕ → ℕ → ℝ) (G B : ℕ → ℝ) (n r l : ℕ) : sums X T A W1 W2 G B (n + 512) r l
    = sums X T A W1 W2 G B n r l + sums (fun i => X (n + i)) (fun i => T (n + i)) A W1 W2 G B 512 r l := by
  unfold sums
  split
  · rw [Finset.sum_range_add, add_mul]
  · split
    · exact Finset.sum_range_add _ _ _
    · split
      · exact Finset.sum_range_add _ _ _
      · split
        · exact Finset.sum_range_add _ _ _
        · exact (add_zero _).symm

theorem padded {a : Vec Ideal S6x1024 .f32} {P : ℕ → ℕ → ℝ} (ha : Is2 a P) (v : Vec Ideal S_ .f32) (l : Fin 1024) :
    pad S8x1024 ![0, 0] ![2, 0] ![0, 0] a v pads_S6x1024_S8x1024_020_000 h_S_ (ix2 3 l) = (P 3 l : EReal)
    ∧ pad S8x1024 ![0, 0] ![2, 0] ![0, 0] a v pads_S6x1024_S8x1024_020_000 h_S_ (ix2 4 l) = (P 4 l : EReal)
    ∧ pad S8x1024 ![0, 0] ![2, 0] ![0, 0] a v pads_S6x1024_S8x1024_020_000 h_S_ (ix2 5 l) = (P 5 l : EReal) := by
  refine ⟨?_, ?_, ?_⟩
  · pointwise
    exact ha 3 l
  · pointwise
    exact ha 4 l
  · pointwise
    exact ha 5 l

/-- The gains under each other. -/
def four (p q g b : Vec Ideal S1x1024 .f32) (v : Vec Ideal S_ .f32) : Vec Ideal S8x1024 .f32 :=
  pad S8x1024 ![0, 0] ![4, 0] ![0, 0] (concatenate S4x1024 0 [⟨S1x1024, p⟩, ⟨S1x1024, q⟩, ⟨S1x1024, g⟩, ⟨S1x1024, b⟩] concatenates_S1x1024_S1x1024_S1x1024_S1x1024_S4x1024_d0) v
    pads_S4x1024_S8x1024_040_000 h_S_

theorem four_at {p q g b : Vec Ideal S1x1024 .f32} {P Q : ℕ → ℕ → ℝ} (hg : Is2 g P) (hb : Is2 b Q) (v : Vec Ideal S_ .f32) (l : Fin 1024) :
    four p q g b v (ix2 2 l) = (P 0 l : EReal) ∧ four p q g b v (ix2 3 l) = (Q 0 l : EReal) := by
  constructor
  · pointwise [four]
    exact hg 0 l
  · pointwise [four]
    exact hb 0 l

/-- The first weight in pieces. -/
def split8 (w : Vec Ideal S1024x4096 .bf16) : Vec Ideal S8x1024x512 .bf16 :=
  transpose S8x1024x512 [1, 0, 2] (shapeCast S1024x8x512 w shapeCasts_S1024x4096_S1024x8x512) transposes_S1024x8x512_S8x1024x512_1_0_2

theorem split8_at {w : Vec Ideal S1024x4096 .bf16} {W : ℕ → ℕ → ℝ} (hw : Is2 w W) : Is3 (split8 w) fun d k j => W k (512 * d + j) := by
  intro d k j
  pointwise [split8]
  refine (hw _ _).trans (congrArg (fun n => (W k.val n : EReal)) ?_)
  simp [Nat.mul_comm]

variable (m : (ℓ : Loc nD τ sig) → Buf (Elt Ideal) ℓ) (c : Dev nD)

/-- The arguments are real numbers. -/
structure Args (X T W1 W2 A G B : ℕ → ℕ → ℝ) : Prop where
  hx : Is2 (m ((c : Thread nD τ).loc main_arg0) : Vec Ideal S8192x1024 .f32) X
  ht : Is2 (m ((c : Thread nD τ).loc main_arg1) : Vec Ideal S8192x1024 .f32) T
  hw : Is2 (m ((c : Thread nD τ).loc main_arg2) : Vec Ideal S1024x4096 .bf16) W1
  hv : Is2 (m ((c : Thread nD τ).loc main_arg3) : Vec Ideal S4096x1024 .bf16) W2
  ha : Is2 (m ((c : Thread nD τ).loc main_arg4) : Vec Ideal S6x1024 .f32) A
  hg : Is2 (m ((c : Thread nD τ).loc main_arg7) : Vec Ideal S1x1024 .f32) G
  hb : Is2 (m ((c : Thread nD τ).loc main_arg8) : Vec Ideal S1x1024 .f32) B

theorem V_ada : (V m c main_v0 : Vec Ideal S8x1024 .f32) = pad S8x1024 ![0, 0] ![2, 0] ![0, 0] (m ((c : Thread nD τ).loc main_arg4)) (sitofp (F := Ideal) .f32 (constantI S_ 32 0#32)) pads_S6x1024_S8x1024_020_000 h_S_ := by
  unfold_abbrev_sides
  simp only [hostOps0, hostOps0_1, hostOps0_2, hostOps0_3, hostOps0_4, List.flatten_cons, List.flatten_nil, List.append_nil, List.cons_append, List.nil_append]
  after_results_simp
  rfl

theorem V_gains : (V m c main_v2 : Vec Ideal S8x1024 .f32) = four (m ((c : Thread nD τ).loc main_arg5)) (m ((c : Thread nD τ).loc main_arg6)) (m ((c : Thread nD τ).loc main_arg7))
    (m ((c : Thread nD τ).loc main_arg8)) (sitofp (F := Ideal) .f32 (constantI S_ 32 0#32)) := by
  unfold_abbrev_sides
  simp only [hostOps0, hostOps0_1, hostOps0_2, hostOps0_3, hostOps0_4, List.flatten_cons, List.flatten_nil, List.append_nil, List.cons_append, List.nil_append]
  after_results_simp
  rfl

theorem V_w : (V m c main_v4 : Vec Ideal S8x1024x512 .bf16) = split8 (m ((c : Thread nD τ).loc main_arg2)) := by
  unfold_abbrev_sides
  simp only [hostOps0, hostOps0_1, hostOps0_2, hostOps0_3, hostOps0_4, List.flatten_cons, List.flatten_nil, List.append_nil, List.cons_append, List.nil_append]
  after_results_simp
  rfl

theorem idx (t : Fin cfg0.N) : win0_0.index t = ![t.val, 0] ∧ win0_1.index t = ![t.val, 0] ∧ win0_2.index t = ![0, 0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![0, 0] := by
  revert t; decide +kernel

theorem pts (t : Fin cfg0.N) : t.val < 16 := t.isLt

theorem read_0 {f : Vec Ideal S8192x1024 .f32} {φ : ℕ → ℕ → ℝ} (h : Is2 f φ) (t : Fin cfg0.N) :
    Is2 (((cfg0.win 0).blk t).view.read (Elt Ideal) f : Vec Ideal S512x1024 .f32) fun a k => φ (512 * t.val + a) k := by
  intro a k
  have ht := pts t
  have e : ((cfg0.win 0).blk t).view.read (Elt Ideal) f (ix2 a k) = f (ix2 ⟨512 * t.val + a.val, by omega⟩ k) := by
    blk_ext [idx t]
  exact e.trans (h _ _)

theorem read_1 {f : Vec Ideal S8192x1024 .f32} {φ : ℕ → ℕ → ℝ} (h : Is2 f φ) (t : Fin cfg0.N) :
    Is2 (((cfg0.win 1).blk t).view.read (Elt Ideal) f : Vec Ideal S512x1024 .f32) fun a k => φ (512 * t.val + a) k := by
  intro a k
  have ht := pts t
  have e : ((cfg0.win 1).blk t).view.read (Elt Ideal) f (ix2 a k) = f (ix2 ⟨512 * t.val + a.val, by omega⟩ k) := by
    blk_ext [idx t]
  exact e.trans (h _ _)

theorem read_2 {f : Vec Ideal S8x1024x512 .bf16} {φ : ℕ → ℕ → ℕ → ℝ} (h : Is3 f φ) (t : Fin cfg0.N) : Is3 (((cfg0.win 2).blk t).view.read (Elt Ideal) f : Vec Ideal S8x1024x512 .bf16) φ := by
  intro d a k
  have e : ((cfg0.win 2).blk t).view.read (Elt Ideal) f (ix3 d a k) = f (ix3 d a k) := by
    blk_ext [idx t]
  exact e.trans (h _ _ _)

theorem read_3 {f : Vec Ideal S4096x1024 .bf16} {φ : ℕ → ℕ → ℝ} (h : Is2 f φ) (t : Fin cfg0.N) :
    Is2 (((cfg0.win 3).blk t).view.read (Elt Ideal) f : Vec Ideal S4096x1024 .bf16) fun a k => φ a k := by
  intro a k
  have ht := pts t
  have e : ((cfg0.win 3).blk t).view.read (Elt Ideal) f (ix2 a k) = f (ix2 a k) := by
    blk_ext [idx t]
  exact e.trans (h _ _)

theorem read_4 (f : Vec Ideal S8x1024 .f32) (t : Fin cfg0.N) (a : Fin 8) (k : Fin 1024) : (((cfg0.win 4).blk t).view.read (Elt Ideal) f : Vec Ideal S8x1024 .f32) (ix2 a k) = f (ix2 a k) := by
  blk_ext [idx t]

theorem read_5 (f : Vec Ideal S8x1024 .f32) (t : Fin cfg0.N) (a : Fin 8) (k : Fin 1024) : (((cfg0.win 5).blk t).view.read (Elt Ideal) f : Vec Ideal S8x1024 .f32) (ix2 a k) = f (ix2 a k) := by
  blk_ext [idx t]

variable {m c} {X T W1 W2 A G B : ℕ → ℕ → ℝ} (E : Args m c X T W1 W2 A G B)
include E

/-- The blocks of a point. -/
theorem ops (t : Fin cfg0.N) : Blk (iblk m c 0 t) (iblk m c 1 t) (iblk m c 2 t) (iblk m c 3 t) (iblk m c 4 t) (iblk m c 5 t)
    (fun r => X (512 * t.val + r)) (fun r => T (512 * t.val + r)) A W1 W2 (G 0) (B 0) where
  hx := read_0 (f := Gen.V m c main_arg0) (by rw [V_main_arg0]; exact E.hx) t
  ht := read_1 (f := Gen.V m c main_arg1) (by rw [V_main_arg1]; exact E.ht) t
  hw := read_2 (f := Gen.V m c main_v4) (by rw [V_w]; exact split8_at E.hw) t
  hv := read_3 (f := Gen.V m c main_arg3) (by rw [V_main_arg3]; exact E.hv) t
  h3 l := (read_4 (Gen.V m c main_v0) t 3 l).trans (by rw [V_ada]; exact (padded E.ha _ l).1)
  h4 l := (read_4 (Gen.V m c main_v0) t 4 l).trans (by rw [V_ada]; exact (padded E.ha _ l).2.1)
  h5 l := (read_4 (Gen.V m c main_v0) t 5 l).trans (by rw [V_ada]; exact (padded E.ha _ l).2.2)
  hg l := (read_5 (Gen.V m c main_v2) t 2 l).trans (by rw [V_gains]; exact (four_at E.hg E.hb _ l).1)
  hb l := (read_5 (Gen.V m c main_v2) t 3 l).trans (by rw [V_gains]; exact (four_at E.hg E.hb _ l).2)

theorem rows_u (t : Fin cfg0.N) : Is2 (outsAt0 m c t.val t.isLt).1 fun r => mo (X (512 * t.val + r)) A := by
  by_cases h : t.val % 16 = 0
  · have K := u_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ops E t) ((hcond0_0 t).mpr h)
    rw [outsAt0_A m c t h]
    dsimp only
    exact K
  · have K := u_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (xo := (outsAt0 m c (t.val - 1) (Nat.lt_of_le_of_lt (Nat.sub_le _ _) t.isLt)).2.2.2.2) (ops E t) (fun k => h ((hcond0_0 t).mp k))
    rw [outsAt0_B m c t h]
    dsimp only
    exact K

theorem rows_hid (t : Fin cfg0.N) : Is2 (outsAt0 m c t.val t.isLt).2.1 fun r => hid (X (512 * t.val + r)) A W1 := by
  by_cases h : t.val % 16 = 0
  · have K := hid_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ops E t) ((hcond0_0 t).mpr h)
    rw [outsAt0_A m c t h]
    dsimp only
    exact K
  · have K := hid_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (xo := (outsAt0 m c (t.val - 1) (Nat.lt_of_le_of_lt (Nat.sub_le _ _) t.isLt)).2.2.2.2) (ops E t) (fun k => h ((hcond0_0 t).mp k))
    rw [outsAt0_B m c t h]
    dsimp only
    exact K

theorem rows_dff (t : Fin cfg0.N) : Is2 (outsAt0 m c t.val t.isLt).2.2.1 fun r l => (1 + A 5 l) * dz (X (512 * t.val + r)) (T (512 * t.val + r)) A W1 W2 (G 0) (B 0) l := by
  by_cases h : t.val % 16 = 0
  · have K := dff_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ops E t) ((hcond0_0 t).mpr h)
    rw [outsAt0_A m c t h]
    dsimp only
    exact K
  · have K := dff_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (xo := (outsAt0 m c (t.val - 1) (Nat.lt_of_le_of_lt (Nat.sub_le _ _) t.isLt)).2.2.2.2) (ops E t) (fun k => h ((hcond0_0 t).mp k))
    rw [outsAt0_B m c t h]
    dsimp only
    exact K

theorem rows_dx (t : Fin cfg0.N) : Is2 (outsAt0 m c t.val t.isLt).2.2.2.1 fun r l => al * dz (X (512 * t.val + r)) (T (512 * t.val + r)) A W1 W2 (G 0) (B 0) l := by
  by_cases h : t.val % 16 = 0
  · have K := dx_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ops E t) ((hcond0_0 t).mpr h)
    rw [outsAt0_A m c t h]
    dsimp only
    exact K
  · have K := dx_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (xo := (outsAt0 m c (t.val - 1) (Nat.lt_of_le_of_lt (Nat.sub_le _ _) t.isLt)).2.2.2.2) (ops E t) (fun k => h ((hcond0_0 t).mp k))
    rw [outsAt0_B m c t h]
    dsimp only
    exact K

theorem stats (n : ℕ) (hn : n < cfg0.N) : Is2 (outsAt0 m c n hn).2.2.2.2 (sums X T A W1 W2 (G 0) (B 0) (512 * n + 512)) := by
  induction n with
  | zero =>
    have K := st_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ops E ⟨0, hn⟩) ((hcond0_0 ⟨0, hn⟩).mpr rfl)
    rw [outsAt0_A m c ⟨0, hn⟩ rfl]
    dsimp only
    intro r l
    refine (K r l).trans (congrArg _ ?_)
    rw [sums_next]
    simp [sums]
  | succ n ih =>
    have hn' : n + 1 < 16 := hn
    have h : ¬(n + 1) % 16 = 0 := by omega
    have K := st_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ops E ⟨n + 1, hn⟩) (fun k => h ((hcond0_0 ⟨n + 1, hn⟩).mp k)) (ih (Nat.lt_of_succ_lt hn))
    rw [outsAt0_B m c ⟨n + 1, hn⟩ h]
    dsimp only
    intro r l
    refine (K r l).trans (congrArg _ ?_)
    rw [sums_next]
    rfl

omit E in
theorem arr_u_of (f : ℕ → ℕ → ℝ) (h : ∀ t : Fin cfg0.N, Is2 (outsAt0 m c t.val t.isLt).1 fun a l => f (512 * t.val + a) l) :
    Is2 ((dats m 0 c).arrAt 6 cfg0.N : Vec Ideal S8192x1024 .bf16) f := by
  have K : (dats m 0 c).arrAt 6 cfg0.N = (fun x => ((f (x 0).val (x 1).val : ℝ) : EReal) : Vec Ideal S8192x1024 .bf16) := by
    refine (dats m 0 c).arrAt_eq_of_covers 6 _ (by decide +kernel) fun t hf y => ?_
    blk_simp
    rw [after0_6]
    obtain ⟨r, j, rfl⟩ : ∃ (r : Fin 512) (j : Fin 1024), y = ix2 r j := ⟨y 0, y 1, eq_ix2 y⟩
    refine (h t r j).trans ?_
    rw [(idx t).2.2.2.2.2.2.1]
    congr 2 <;> simp [Nat.mul_comm]
  intro r l
  exact congrFun K _

omit E in
theorem arr_hid_of (f : ℕ → ℕ → ℝ) (h : ∀ t : Fin cfg0.N, Is2 (outsAt0 m c t.val t.isLt).2.1 fun a l => f (512 * t.val + a) l) :
    Is2 ((dats m 0 c).arrAt 7 cfg0.N : Vec Ideal S8192x4096 .bf16) f := by
  have K : (dats m 0 c).arrAt 7 cfg0.N = (fun x => ((f (x 0).val (x 1).val : ℝ) : EReal) : Vec Ideal S8192x4096 .bf16) := by
    refine (dats m 0 c).arrAt_eq_of_covers 7 _ (by decide +kernel) fun t hf y => ?_
    blk_simp
    rw [after0_7]
    obtain ⟨r, j, rfl⟩ : ∃ (r : Fin 512) (j : Fin 4096), y = ix2 r j := ⟨y 0, y 1, eq_ix2 y⟩
    refine (h t r j).trans ?_
    rw [(idx t).2.2.2.2.2.2.2.1]
    congr 2 <;> simp [Nat.mul_comm]
  intro r l
  exact congrFun K _

omit E in
theorem arr_dff_of (f : ℕ → ℕ → ℝ) (h : ∀ t : Fin cfg0.N, Is2 (outsAt0 m c t.val t.isLt).2.2.1 fun a l => f (512 * t.val + a) l) :
    Is2 ((dats m 0 c).arrAt 8 cfg0.N : Vec Ideal S8192x1024 .bf16) f := by
  have K : (dats m 0 c).arrAt 8 cfg0.N = (fun x => ((f (x 0).val (x 1).val : ℝ) : EReal) : Vec Ideal S8192x1024 .bf16) := by
    refine (dats m 0 c).arrAt_eq_of_covers 8 _ (by decide +kernel) fun t hf y => ?_
    blk_simp
    rw [after0_8]
    obtain ⟨r, j, rfl⟩ : ∃ (r : Fin 512) (j : Fin 1024), y = ix2 r j := ⟨y 0, y 1, eq_ix2 y⟩
    refine (h t r j).trans ?_
    rw [(idx t).2.2.2.2.2.2.2.2.1]
    congr 2 <;> simp [Nat.mul_comm]
  intro r l
  exact congrFun K _

omit E in
theorem arr_dx_of (f : ℕ → ℕ → ℝ) (h : ∀ t : Fin cfg0.N, Is2 (outsAt0 m c t.val t.isLt).2.2.2.1 fun a l => f (512 * t.val + a) l) :
    Is2 ((dats m 0 c).arrAt 9 cfg0.N : Vec Ideal S8192x1024 .f32) f := by
  have K : (dats m 0 c).arrAt 9 cfg0.N = (fun x => ((f (x 0).val (x 1).val : ℝ) : EReal) : Vec Ideal S8192x1024 .f32) := by
    refine (dats m 0 c).arrAt_eq_of_covers 9 _ (by decide +kernel) fun t hf y => ?_
    blk_simp
    rw [after0_9]
    obtain ⟨r, j, rfl⟩ : ∃ (r : Fin 512) (j : Fin 1024), y = ix2 r j := ⟨y 0, y 1, eq_ix2 y⟩
    refine (h t r j).trans ?_
    rw [(idx t).2.2.2.2.2.2.2.2.2.1]
    congr 2 <;> simp [Nat.mul_comm]
  intro r l
  exact congrFun K _

omit E in
theorem arr_st_of (f : ℕ → ℕ → ℝ) (h : ∀ t : Fin cfg0.N, t.val = 15 → Is2 (outsAt0 m c t.val t.isLt).2.2.2.2 f) :
    Is2 ((dats m 0 c).arrAt 10 cfg0.N : Vec Ideal S8x1024 .f32) f := by
  have K : (dats m 0 c).arrAt 10 cfg0.N = (fun x => ((f (x 0).val (x 1).val : ℝ) : EReal) : Vec Ideal S8x1024 .f32) := by
    refine (dats m 0 c).arrAt_eq_of_covers 10 _ (by decide +kernel) fun t hf y => ?_
    blk_simp
    rw [after0_10]
    obtain ⟨r, j, rfl⟩ : ∃ (r : Fin 8) (j : Fin 1024), y = ix2 r j := ⟨y 0, y 1, eq_ix2 y⟩
    have hf' := (flush0_10 t).1 hf
    have ht := pts t
    refine (h t (by omega) r j).trans ?_
    rw [(idx t).2.2.2.2.2.2.2.2.2.2]
    congr 2 <;> simp [Nat.mul_comm]
  intro r l
  exact congrFun K _

theorem arr_u : Is2 ((dats m 0 c).arrAt 6 cfg0.N : Vec Ideal S8192x1024 .bf16) fun r => mo (X r) A := arr_u_of (fun r => mo (X r) A) (rows_u E)

theorem arr_hid : Is2 ((dats m 0 c).arrAt 7 cfg0.N : Vec Ideal S8192x4096 .bf16) fun r => hid (X r) A W1 := arr_hid_of (fun r => hid (X r) A W1) (rows_hid E)

theorem arr_dff : Is2 ((dats m 0 c).arrAt 8 cfg0.N : Vec Ideal S8192x1024 .bf16) fun r l => (1 + A 5 l) * dz (X r) (T r) A W1 W2 (G 0) (B 0) l :=
  arr_dff_of (fun r l => (1 + A 5 l) * dz (X r) (T r) A W1 W2 (G 0) (B 0) l) (rows_dff E)

theorem arr_dx : Is2 ((dats m 0 c).arrAt 9 cfg0.N : Vec Ideal S8192x1024 .f32) fun r l => al * dz (X r) (T r) A W1 W2 (G 0) (B 0) l := arr_dx_of (fun r l => al * dz (X r) (T r) A W1 W2 (G 0) (B 0) l) (rows_dx E)

theorem arr_st : Is2 ((dats m 0 c).arrAt 10 cfg0.N : Vec Ideal S8x1024 .f32) (sums X T A W1 W2 (G 0) (B 0) 8192) :=
  arr_st_of _ fun t ht => by
    have K := stats E t.val t.isLt
    rw [show 512 * t.val + 512 = 8192 by omega] at K
    exact K

end Cert.LossIdeal.Rows

end
-- ==== Proof.LayerRef.lean ====
/- The host lines of a layer norm, of its gradient and of the modulation, read entry by entry over the reals. -/
module

public import proofs.«01_k».proof.Proof.Blocks
public import proofs.«01_k».proof.Proof.Layer
public import proofs.«01_k».proof.Proof.Gen.LossRefIdeal
public import Idealize.ShloMosaic.Lib.StableHlo.RunHlo

@[expose] public section

set_option maxRecDepth 16384

noncomputable section

namespace Cert.LossRefIdeal.Soft

open Idealize.ShloMosaic Idealize.ShloMosaic.TcCoe Cert.LossRefIdeal Cert.LossRefIdeal.Gen Cert.Reals Cert.Scalars Cert.Norms Cert.Layer

/-- A number for every row. -/
def col (b : BitVec 32) : Vec Ideal S8192x1 .f32 := broadcastInDim S8192x1 ![] bcast_S_S8192x1 (constant (F := Ideal) S_ .f32 b)

/-- A number everywhere. -/
def all (b : BitVec 32) : Vec Ideal S8192x1024 .f32 := broadcastInDim S8192x1024 ![] bcast_S_S8192x1024 (constant (F := Ideal) S_ .f32 b)

def across (x : Vec Ideal S8192x1 .f32) : Vec Ideal S8192x1024 .f32 := broadcastInDim S8192x1024 ![0, 1] bcast_S8192x1_S8192x1024_0_1 x

def along (x : Vec Ideal S8192x1024 .f32) : Vec Ideal S8192 .f32 :=
  Host.reduceAdd (F := Ideal) (φ := .f32) x (constant (F := Ideal) S_ .f32 0x00000000#32) reducesTo_S8192x1024_S8192_d1 h_S_

/-- The rows' means. -/
def mean (x : Vec Ideal S8192x1024 .f32) : Vec Ideal S8192x1 .f32 :=
  Host.divf (F := Ideal) (φ := .f32) (broadcastInDim S8192x1 ![0] bcast_S8192_S8192x1_0 (along x)) (col 0x44800000#32)

def cen (x : Vec Ideal S8192x1024 .f32) : Vec Ideal S8192x1024 .f32 := subf (F := Ideal) (φ := .f32) x (across (mean x))

/-- The rows' variances, with `eps`. -/
def vare (x : Vec Ideal S8192x1024 .f32) : Vec Ideal S8192x1 .f32 := addf (F := Ideal) (φ := .f32) (mean (mulf (F := Ideal) (φ := .f32) (cen x) (cen x))) (col 0x3727C5AC#32)

def factor (x : Vec Ideal S8192x1024 .f32) : Vec Ideal S8192x1 .f32 := Host.rsqrt (F := Ideal) (φ := .f32) (vare x)

/-- The factor's derivative. -/
def slope (x : Vec Ideal S8192x1024 .f32) : Vec Ideal S8192x1 .f32 :=
  mulf (F := Ideal) (φ := .f32) (col 0xBF000000#32) (Host.divf (F := Ideal) (φ := .f32) (factor x) (vare x))

def normed (x : Vec Ideal S8192x1024 .f32) : Vec Ideal S8192x1024 .f32 := mulf (F := Ideal) (φ := .f32) (cen x) (across (factor x))

/-- A row's number over the width, sent to every entry. -/
def spread (x : Vec Ideal S8192x1 .f32) : Vec Ideal S8192x1024 .f32 :=
  broadcastInDim S8192x1024 ![0] bcast_S8192_S8192x1024_0 (Host.reduceAdd (F := Ideal) (φ := .f32)
    (Host.divf (F := Ideal) (φ := .f32) x (col 0x44800000#32)) (constant (F := Ideal) S_ .f32 0x00000000#32) reducesTo_S8192x1_S8192_d1 h_S_)

def sumUp (x : Vec Ideal S8192x1024 .f32) : Vec Ideal S8192x1 .f32 := shapeCast S8192x1 (along x) shapeCasts_S8192_S8192x1

/-- What the variance's gradient sends to a row. -/
def byVar (x t : Vec Ideal S8192x1024 .f32) : Vec Ideal S8192x1024 .f32 :=
  mulf (F := Ideal) (φ := .f32) (spread (mulf (F := Ideal) (φ := .f32) (sumUp (mulf (F := Ideal) (φ := .f32) (cen x) t)) (slope x))) (mulf (F := Ideal) (φ := .f32) (all 0x40000000#32) (cen x))

def byRow (x t : Vec Ideal S8192x1024 .f32) : Vec Ideal S8192x1024 .f32 := mulf (F := Ideal) (φ := .f32) t (across (factor x))

/-- A layer norm's gradient. -/
def grad (x t : Vec Ideal S8192x1024 .f32) : Vec Ideal S8192x1024 .f32 :=
  addf (F := Ideal) (φ := .f32) (addf (F := Ideal) (φ := .f32) (byRow x t) (byVar x t))
    (spread (addf (F := Ideal) (φ := .f32) (sumUp (Host.negf (F := Ideal) (φ := .f32) (byRow x t))) (sumUp (Host.negf (F := Ideal) (φ := .f32) (byVar x t)))))

/-- A vector in every row. -/
def vec (v : Vec Ideal S1024 .f32) : Vec Ideal S8192x1024 .f32 :=
  broadcastInDim S8192x1024 ![0, 1] bcast_S1x1024_S8192x1024_0_1 (broadcastInDim S1x1024 ![1] bcast_S1024_S1x1024_1 v)

def gain (g : Vec Ideal S1x1024 .f32) : Vec Ideal S8192x1024 .f32 := vec (shapeCast S1024 g shapeCasts_S1x1024_S1024)

/-- One and a row of the modulation, in every row. -/
def scale (g : Vec Ideal S1x1024 .f32) : Vec Ideal S8192x1024 .f32 :=
  vec (addf (F := Ideal) (φ := .f32) (broadcastInDim S1024 ![] bcast_S_S1024 (constant (F := Ideal) S_ .f32 0x3F800000#32)) (shapeCast S1024 g shapeCasts_S1x1024_S1024))

/-- The sum over the rows. -/
def total (x : Vec Ideal S8192x1024 .f32) : Vec Ideal S1x1024 .f32 :=
  broadcastInDim S1x1024 ![1] bcast_S1024_S1x1024_1 (Host.reduceAdd (F := Ideal) (φ := .f32)
    (shapeCast S1x1024 (Host.reduceAdd (F := Ideal) (φ := .f32) x (constant (F := Ideal) S_ .f32 0x00000000#32) reducesTo_S8192x1024_S1024_d0 h_S_) shapeCasts_S1024_S1x1024)
    (constant (F := Ideal) S_ .f32 0x00000000#32) reducesTo_S1x1024_S1024_d0 h_S_)

def mulA (x y : Vec Ideal S8192x1024 .f32) : Vec Ideal S8192x1024 .f32 := mulf (F := Ideal) (φ := .f32) x y

def addA (x y : Vec Ideal S8192x1024 .f32) : Vec Ideal S8192x1024 .f32 := addf (F := Ideal) (φ := .f32) x y

variable {x y t : Vec Ideal S8192x1024 .f32} {X Y T : ℕ → ℕ → ℝ} {z : Vec Ideal S8192x1 .f32} {Z : ℕ → ℝ} {g : Vec Ideal S1x1024 .f32} {A : ℕ → ℕ → ℝ}

theorem mulA_at (hx : Is2 x X) (hy : Is2 y Y) : Is2 (mulA x y) fun r l => X r l * Y r l := by
  intro r l
  pointwise [mulA]
  rw [hx, hy, ← EReal.coe_mul]

theorem addA_at (hx : Is2 x X) (hy : Is2 y Y) : Is2 (addA x y) fun r l => X r l + Y r l := by
  intro r l
  pointwise [addA]
  rw [hx, hy, ← EReal.coe_add]

theorem all_at {b : BitVec 32} {p : ℝ} (h : Ideal.ofBits .f32 b = (p : EReal)) : Is2 (all b) fun _ _ => p := by
  intro r l
  pointwise [all]
  exact h

theorem across_at (hz : Is2 z fun r _ => Z r) : Is2 (across z) fun r _ => Z r := by
  intro r l
  pointwise [across]
  exact hz _ _

theorem along_at (hx : Is2 x X) (r : Fin 8192) : along x (ix1 r) = ((∑ l ∈ Finset.range 1024, X r l : ℝ) : EReal) := by
  pointwise [along]
  simp only [hx _ _, ← coe_sum]
  rw [Finset.sum_range]

theorem mean_at (hx : Is2 x X) : Is2 (mean x) fun r _ => Layer.mean 1024 (X r) := by
  intro r l
  pointwise [mean, col]
  rw [along_at hx, bits_1024, div_coe (by norm_num), Layer.mean]
  norm_num

theorem cen_at (hx : Is2 x X) : Is2 (cen x) fun r l => Layer.cen 1024 (X r) l := by
  have h := across_at (mean_at hx)
  intro r l
  unfold cen
  generalize across (mean x) = m at h ⊢
  pointwise
  rw [hx, h, ← EReal.coe_sub, Layer.cen]

theorem vare_at (hx : Is2 x X) : Is2 (vare x) fun r _ => va 1024 (X r) := by
  have h := mean_at (mulA_at (cen_at hx) (cen_at hx))
  intro r l
  unfold vare
  change addf (F := Ideal) (φ := .f32) (mean (mulA (cen x) (cen x))) _ _ = _
  generalize mean (mulA (cen x) (cen x)) = m at h ⊢
  pointwise [col]
  rw [h, eps_bits, ← EReal.coe_add]
  rfl

theorem factor_at (hx : Is2 x X) : Is2 (factor x) fun r _ => rs 1024 (X r) := by
  intro r l
  pointwise [factor]
  rw [vare_at hx, rsqrt_pos (va_pos 1024 _)]
  rfl

theorem slope_at (hx : Is2 x X) : Is2 (slope x) fun r _ => -1 / 2 * (rs 1024 (X r) / va 1024 (X r)) := by
  intro r l
  pointwise [slope, col]
  rw [factor_at hx, vare_at hx, half_bits, div_coe (va_pos 1024 _).ne', ← EReal.coe_mul]

theorem normed_at (hx : Is2 x X) : Is2 (normed x) fun r => xh 1024 (X r) := mulA_at (cen_at hx) (across_at (factor_at hx))

theorem spread_at (hz : Is2 z fun r _ => Z r) : Is2 (spread z) fun r _ => Z r / 1024 := by
  intro r l
  pointwise [spread, col]
  refine (Fin.sum_univ_one _).trans ?_
  rw [hz, bits_1024, div_coe (by norm_num)]

theorem sumUp_at (hx : Is2 x X) : Is2 (sumUp x) fun r _ => ∑ l ∈ Finset.range 1024, X r l := by
  intro r l
  pointwise [sumUp]
  exact along_at hx r

theorem neg_at (hx : Is2 x X) : Is2 (Host.negf (F := Ideal) (φ := .f32) x) fun r l => -X r l := by
  intro r l
  pointwise
  rw [hx, neg_coe]

theorem byRow_at (hx : Is2 x X) (ht : Is2 t T) : Is2 (byRow x t) fun r l => T r l * rs 1024 (X r) := mulA_at ht (across_at (factor_at hx))

theorem byVar_at (hx : Is2 x X) (ht : Is2 t T) : Is2 (byVar x t) fun r l => sh 1024 (X r) (T r) * (2 * Layer.cen 1024 (X r) l) := by
  have h := sumUp_at (mulA_at (cen_at hx) ht)
  have k := slope_at hx
  have e : Is2 (mulf (F := Ideal) (φ := .f32) (sumUp (mulA (cen x) t)) (slope x)) fun r _ => (∑ l ∈ Finset.range 1024, Layer.cen 1024 (X r) l * T r l) * (-1 / 2 * (rs 1024 (X r) / va 1024 (X r))) := by
    intro r l
    generalize sumUp (mulA (cen x) t) = a at h ⊢
    generalize slope x = b at k ⊢
    pointwise
    rw [h, k, ← EReal.coe_mul]
  have f := mulA_at (spread_at e) (mulA_at (all_at bits_two) (cen_at hx))
  exact fun r l => (f r l).trans (congrArg _ (by beta_reduce; rw [sh, Nat.cast_ofNat]))

theorem grad_at (hx : Is2 x X) (ht : Is2 t T) : Is2 (grad x t) fun r => lb 1024 (X r) (T r) := by
  have a := byRow_at hx ht
  have b := byVar_at hx ht
  have p := sumUp_at (neg_at a)
  have q := sumUp_at (neg_at b)
  have e : Is2 (addf (F := Ideal) (φ := .f32) (sumUp (Host.negf (F := Ideal) (φ := .f32) (byRow x t))) (sumUp (Host.negf (F := Ideal) (φ := .f32) (byVar x t)))) fun r _ =>
      ∑ l ∈ Finset.range 1024, -(T r l * rs 1024 (X r)) + ∑ l ∈ Finset.range 1024, -(sh 1024 (X r) (T r) * (2 * Layer.cen 1024 (X r) l)) := by
    intro r l
    generalize sumUp (Host.negf (F := Ideal) (φ := .f32) (byRow x t)) = m at p ⊢
    generalize sumUp (Host.negf (F := Ideal) (φ := .f32) (byVar x t)) = n at q ⊢
    pointwise
    rw [p, q, ← EReal.coe_add]
  have f := addA_at (addA_at a b) (spread_at e)
  refine fun r l => (f r l).trans (congrArg _ ?_)
  have k := lb_eq 1024 (X r) (T r) (by norm_num) l
  refine Eq.trans ?_ k
  beta_reduce
  rw [Nat.cast_ofNat]

theorem gain_at (hg : Is2 g A) : Is2 (gain g) fun _ l => A 0 l := by
  intro r l
  pointwise [gain, vec]
  exact hg 0 l

theorem scale_at (hg : Is2 g A) : Is2 (scale g) fun _ l => 1 + A 0 l := by
  intro r l
  pointwise [scale, vec]
  rw [← EReal.coe_one]
  exact (congrArg _ (hg 0 l)).trans (EReal.coe_add _ _).symm

theorem total_at (hx : Is2 x X) : Is2 (total x) fun _ l => ∑ i ∈ Finset.range 8192, X i l := by
  intro r l
  pointwise [total]
  rw [one_sum]
  simp only [hx _ _, ← coe_sum]
  rw [Finset.sum_range]

end Cert.LossRefIdeal.Soft

end
-- ==== Proof.LossRef.lean ====
/- The feed-forward call's reference over the reals: the host lines of the channel mixer, the loss and its transposed lines, read entry by entry. -/
module

public import proofs.«01_k».proof.Proof.LayerRef

@[expose] public section

set_option maxRecDepth 16384

noncomputable section

namespace Cert.LossRefIdeal.Soft

open Idealize.ShloMosaic Idealize.ShloMosaic.TcCoe Cert.LossRefIdeal Cert.LossRefIdeal.Gen Cert.Reals Cert.Scalars Cert.Norms Cert.Layer

def row3 (a : Vec Ideal S6x1024 .f32) : Vec Ideal S1x1024 .f32 := extractStridedSlice S1x1024 ![3, 0] a slices_S6x1024_S1x1024_3_0

def row4 (a : Vec Ideal S6x1024 .f32) : Vec Ideal S1x1024 .f32 := extractStridedSlice S1x1024 ![4, 0] a slices_S6x1024_S1x1024_4_0

def row5 (a : Vec Ideal S6x1024 .f32) : Vec Ideal S1x1024 .f32 := extractStridedSlice S1x1024 ![5, 0] a slices_S6x1024_S1x1024_5_0

/-- The modulated input. -/
def modIn (x : Vec Ideal S8192x1024 .f32) (a : Vec Ideal S6x1024 .f32) : Vec Ideal S8192x1024 .f32 := addA (mulA x (scale (row4 a))) (gain (row3 a))

/-- The inner layer before its activation. -/
def inner (u : Vec Ideal S8192x1024 .f32) (w : Vec Ideal S1024x4096 .bf16) : Vec Ideal S8192x4096 .f32 :=
  Host.dotGeneral (F := Ideal) (φ₁ := .f32) (φ₂ := .f32) dot_S8192x1024_S1024x4096_S8192x4096_1_0_0_1_n_n none u (extf (F := Ideal) (φ := .bf16) .f32 w bitsLt_bf16_f32)

def cut (h : Vec Ideal S8192x4096 .f32) : Vec Ideal S8192x4096 .f32 :=
  maximumf (F := Ideal) (φ := .f32) h (broadcastInDim S8192x4096 ![] bcast_S_S8192x4096 (constant (F := Ideal) S_ .f32 0x00000000#32))

def act (h : Vec Ideal S8192x4096 .f32) : Vec Ideal S8192x4096 .f32 := mulf (F := Ideal) (φ := .f32) (cut h) (cut h)

def outMix (h : Vec Ideal S8192x4096 .f32) (w : Vec Ideal S4096x1024 .bf16) : Vec Ideal S8192x1024 .f32 :=
  Host.dotGeneral (F := Ideal) (φ₁ := .f32) (φ₂ := .f32) dot_S8192x4096_S4096x1024_S8192x1024_1_0_0_1_n_n none h (extf (F := Ideal) (φ := .bf16) .f32 w bitsLt_bf16_f32)

def inMix (x : Vec Ideal S8192x1024 .f32) (a : Vec Ideal S6x1024 .f32) (w1 : Vec Ideal S1024x4096 .bf16) : Vec Ideal S8192x4096 .f32 := act (inner (modIn x a) w1)

/-- What the norm takes. -/
def mixed (x o : Vec Ideal S8192x1024 .f32) (a : Vec Ideal S6x1024 .f32) : Vec Ideal S8192x1024 .f32 := addA (mulA (all 0x3F9837F0#32) x) (mulA (scale (row5 a)) o)

/-- The output less the target. -/
def delta (z t : Vec Ideal S8192x1024 .f32) (g b : Vec Ideal S1x1024 .f32) : Vec Ideal S8192x1024 .f32 :=
  subf (F := Ideal) (φ := .f32) (addA (mulA (normed z) (gain g)) (gain b)) t

/-- The loss' gradient by a difference. -/
def rate : Vec Ideal S8192x1024 .f32 := broadcastInDim S8192x1024 ![0] bcast_S8192_S8192x1024_0 (Host.divf (F := Ideal) (φ := .f32)
  (broadcastInDim S8192 ![] bcast_S_S8192 (mulf (F := Ideal) (φ := .f32) (constant (F := Ideal) S_ .f32 0x3F000000#32) (constant (F := Ideal) S_ .f32 0x3F800000#32)))
  (broadcastInDim S8192 ![] bcast_S_S8192 (constant (F := Ideal) S_ .f32 0x44800000#32)))

def dOut (d : Vec Ideal S8192x1024 .f32) : Vec Ideal S8192x1024 .f32 := mulA rate (mulA (all 0x40000000#32) d)

/-- The loss, in a row. -/
def loss (d : Vec Ideal S8192x1024 .f32) : Vec Ideal S1x1024 .f32 :=
  broadcastInDim S1x1024 ![] bcast_S_S1x1024 (mulf (F := Ideal) (φ := .f32) (constant (F := Ideal) S_ .f32 0x3F000000#32) (Host.reduceAdd (F := Ideal) (φ := .f32)
    (Host.divf (F := Ideal) (φ := .f32) (along (mulA d d)) (broadcastInDim S8192 ![] bcast_S_S8192 (constant (F := Ideal) S_ .f32 0x44800000#32)))
    (constant (F := Ideal) S_ .f32 0x00000000#32) reducesTo_S8192_S_d0 h_S_))

def dIn (z d : Vec Ideal S8192x1024 .f32) (g : Vec Ideal S1x1024 .f32) : Vec Ideal S8192x1024 .f32 := grad z (mulA (dOut d) (gain g))

def outS (z d o : Vec Ideal S8192x1024 .f32) (g : Vec Ideal S1x1024 .f32) : Vec Ideal S8x1024 .f32 :=
  concatenate S8x1024 0 [⟨S1x1024, total (mulA (normed z) (dOut d))⟩, ⟨S1x1024, total (dOut d)⟩, ⟨S1x1024, total (mulA (dIn z d g) o)⟩, ⟨S1x1024, loss d⟩,
    ⟨S4x1024, broadcastInDim S4x1024 ![] bcast_S_S4x1024 (constant (F := Ideal) S_ .f32 0x00000000#32)⟩] concatenates_S1x1024_S1x1024_S1x1024_S1x1024_S4x1024_S8x1024_d0

def half (x : Vec Ideal S8192x1024 .f32) : Vec Ideal S8192x1024 .bf16 := truncf (F := Ideal) (φ := .f32) .bf16 x bitsLt_bf16_f32

def halfH (x : Vec Ideal S8192x4096 .f32) : Vec Ideal S8192x4096 .bf16 := truncf (F := Ideal) (φ := .f32) .bf16 x bitsLt_bf16_f32

variable {x z t u d o : Vec Ideal S8192x1024 .f32} {h : Vec Ideal S8192x4096 .f32} {a : Vec Ideal S6x1024 .f32} {w1 : Vec Ideal S1024x4096 .bf16} {w2 : Vec Ideal S4096x1024 .bf16}
  {g b : Vec Ideal S1x1024 .f32} {X Z T U D O H A W1 W2 G B : ℕ → ℕ → ℝ}

theorem row3_at (ha : Is2 a A) : Is2 (row3 a) fun _ l => A 3 l := by
  intro r l
  pointwise [row3]
  exact (ha _ _).trans (by simp)

theorem row4_at (ha : Is2 a A) : Is2 (row4 a) fun _ l => A 4 l := by
  intro r l
  pointwise [row4]
  exact (ha _ _).trans (by simp)

theorem row5_at (ha : Is2 a A) : Is2 (row5 a) fun _ l => A 5 l := by
  intro r l
  pointwise [row5]
  exact (ha _ _).trans (by simp)

theorem modIn_at (hx : Is2 x X) (ha : Is2 a A) : Is2 (modIn x a) fun r => mo (X r) A :=
  addA_at (mulA_at hx (scale_at (row4_at ha))) (gain_at (row3_at ha))

theorem inner_at (hu : Is2 u U) (hw : Is2 w1 W1) : Is2 (inner u w1) fun r => pre W1 (U r) := by
  intro r l
  pointwise [inner]
  simp only [hu _ _, hw _ _, ← EReal.coe_mul, ← coe_sum]
  rw [pre, Finset.sum_range]

theorem cut_at (hh : Is2 h H) : Is2 (cut h) fun r j => max (H r j) 0 := by
  intro r l
  pointwise [cut]
  rw [hh, ← EReal.coe_zero, max_coe]

theorem act_at (hh : Is2 h H) : Is2 (act h) fun r j => sqp (H r j) := by
  have k := cut_at hh
  intro r l
  unfold act
  generalize cut h = y at k ⊢
  pointwise
  rw [k, ← EReal.coe_mul, sqp]

theorem outMix_at (hh : Is2 h H) (hw : Is2 w2 W2) : Is2 (outMix h w2) fun r l => ∑ j ∈ Finset.range 4096, H r j * W2 j l := by
  intro r l
  pointwise [outMix]
  simp only [hh _ _, hw _ _, ← EReal.coe_mul, ← coe_sum]
  rw [Finset.sum_range]

theorem inMix_at (hx : Is2 x X) (ha : Is2 a A) (hw : Is2 w1 W1) : Is2 (inMix x a w1) fun r => hid (X r) A W1 := act_at (inner_at (modIn_at hx ha) hw)

theorem ff_at (hx : Is2 x X) (ha : Is2 a A) (hw : Is2 w1 W1) (hv : Is2 w2 W2) : Is2 (outMix (inMix x a w1) w2) fun r => ff (X r) A W1 W2 := outMix_at (inMix_at hx ha hw) hv

theorem mixed_at (hx : Is2 x X) (ho : Is2 o O) (ha : Is2 a A) : Is2 (mixed x o a) fun r l => al * X r l + (1 + A 5 l) * O r l :=
  addA_at (mulA_at (all_at al_bits) hx) (mulA_at (scale_at (row5_at ha)) ho)

theorem delta_at (hz : Is2 z Z) (ht : Is2 t T) (hg : Is2 g G) (hb : Is2 b B) : Is2 (delta z t g b) fun r l => xh 1024 (Z r) l * G 0 l + B 0 l - T r l := by
  have k := addA_at (mulA_at (normed_at hz) (gain_at hg)) (gain_at hb)
  intro r l
  unfold delta
  generalize addA (mulA (normed z) (gain g)) (gain b) = y at k ⊢
  pointwise
  rw [k, ht, ← EReal.coe_sub]

theorem rate_at : Is2 rate fun _ _ => 1 / 2 * 1 / 1024 := by
  intro r l
  pointwise [rate]
  rw [bits_half, bits_1024, div_coe (by norm_num)]

theorem dOut_at (hd : Is2 d D) : Is2 (dOut d) fun r l => D r l * (1 / 1024) := by
  have k := mulA_at rate_at (mulA_at (all_at bits_two) hd)
  exact fun r l => (k r l).trans (congrArg _ (by ring))

theorem loss_at (hd : Is2 d D) : Is2 (loss d) fun _ _ => (∑ i ∈ Finset.range 8192, ∑ k ∈ Finset.range 1024, D i k * D i k) * (1 / 2048) := by
  have k := along_at (mulA_at hd hd)
  intro r l
  unfold loss
  generalize along (mulA d d) = y at k ⊢
  pointwise
  simp only [k _, bits_half, bits_1024, div_coe (show (1024 : ℝ) ≠ 0 by norm_num), ← coe_sum, ← EReal.coe_mul]
  congr 1
  rw [Finset.sum_range (n := 8192), ← Finset.sum_div]
  ring

theorem dIn_at (hz : Is2 z Z) (hd : Is2 d D) (hg : Is2 g G) : Is2 (dIn z d g) fun r => lb 1024 (Z r) fun l => D r l * (1 / 1024) * G 0 l :=
  grad_at hz (mulA_at (dOut_at hd) (gain_at hg))

/-- Five pieces under each other. -/
theorem five_at {p q s v : Vec Ideal S1x1024 .f32} {P Q S V : ℕ → ℝ} (hp : Is2 p fun _ l => P l) (hq : Is2 q fun _ l => Q l) (hs : Is2 s fun _ l => S l) (hv : Is2 v fun _ l => V l) :
    Is2 (concatenate S8x1024 0 [⟨S1x1024, p⟩, ⟨S1x1024, q⟩, ⟨S1x1024, s⟩, ⟨S1x1024, v⟩,
      ⟨S4x1024, broadcastInDim S4x1024 ![] bcast_S_S4x1024 (constant (F := Ideal) S_ .f32 0x00000000#32)⟩] concatenates_S1x1024_S1x1024_S1x1024_S1x1024_S4x1024_S8x1024_d0 : Vec Ideal S8x1024 .f32)
      fun r l => if r = 3 then V l else if r = 2 then S l else if r = 1 then Q l else if r = 0 then P l else 0 := by
  intro r l
  pointwise
  obtain ⟨n, hn⟩ := r
  by_cases h0 : n < 1
  · obtain rfl : n = 0 := by omega
    exact (dif_pos h0).trans (hp _ _)
  refine (dif_neg h0).trans ?_
  by_cases h1 : n - 1 < 1
  · obtain rfl : n = 1 := by omega
    exact (dif_pos h1).trans (hq _ _)
  refine (dif_neg h1).trans ?_
  by_cases h2 : n - 1 - 1 < 1
  · obtain rfl : n = 2 := by omega
    exact (dif_pos h2).trans (hs _ _)
  refine (dif_neg h2).trans ?_
  by_cases h3 : n - 1 - 1 - 1 < 1
  · obtain rfl : n = 3 := by omega
    exact (dif_pos h3).trans (hv _ _)
  refine (dif_neg h3).trans ?_
  rw [if_neg (show ¬n = 3 by omega), if_neg (show ¬n = 2 by omega), if_neg (show ¬n = 1 by omega), if_neg (show ¬n = 0 by omega)]
  rfl

theorem outS_at (hz : Is2 z Z) (hd : Is2 d D) (ho : Is2 o O) (hg : Is2 g G) : Is2 (outS z d o g) fun r l =>
    if r = 3 then (∑ i ∈ Finset.range 8192, ∑ k ∈ Finset.range 1024, D i k * D i k) * (1 / 2048)
    else if r = 2 then ∑ i ∈ Finset.range 8192, lb 1024 (Z i) (fun l => D i l * (1 / 1024) * G 0 l) l * O i l
    else if r = 1 then ∑ i ∈ Finset.range 8192, D i l * (1 / 1024)
    else if r = 0 then ∑ i ∈ Finset.range 8192, xh 1024 (Z i) l * (D i l * (1 / 1024)) else 0 :=
  five_at (total_at (mulA_at (normed_at hz) (dOut_at hd))) (total_at (dOut_at hd)) (total_at (mulA_at (dIn_at hz hd hg) ho)) (loss_at hd)

variable (m : (ℓ : Loc nD τ sig) → Buf (Elt Ideal) ℓ)

/-- The channel mixer's output at the launch's arguments. -/
abbrev ffM (c : Dev nD) : Vec Ideal S8192x1024 .f32 :=
  outMix (inMix (m ((c : Thread nD τ).loc main_arg0)) (m ((c : Thread nD τ).loc main_arg4)) (m ((c : Thread nD τ).loc main_arg2))) (m ((c : Thread nD τ).loc main_arg3))

abbrev zM (c : Dev nD) : Vec Ideal S8192x1024 .f32 := mixed (m ((c : Thread nD τ).loc main_arg0)) (ffM m c) (m ((c : Thread nD τ).loc main_arg4))

abbrev dM (c : Dev nD) : Vec Ideal S8192x1024 .f32 :=
  delta (zM m c) (m ((c : Thread nD τ).loc main_arg1)) (m ((c : Thread nD τ).loc main_arg7)) (m ((c : Thread nD τ).loc main_arg8))

open Idealize.SL.Sem StableHlo in
set_option maxHeartbeats 4000000 in
/-- What the reference leaves: every result as a function of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v121) = half (modIn (m ((c : Thread nD τ).loc main_arg0)) (m ((c : Thread nD τ).loc main_arg4)))
      ∧ r.2.mem ((c : Thread nD τ).loc main_v122) = halfH (inMix (m ((c : Thread nD τ).loc main_arg0)) (m ((c : Thread nD τ).loc main_arg4)) (m ((c : Thread nD τ).loc main_arg2)))
      ∧ r.2.mem ((c : Thread nD τ).loc main_v123) = half (mulA (scale (row5 (m ((c : Thread nD τ).loc main_arg4)))) (dIn (zM m c) (dM m c) (m ((c : Thread nD τ).loc main_arg7))))
      ∧ r.2.mem ((c : Thread nD τ).loc main_v116) = mulA (all 0x3F9837F0#32) (dIn (zM m c) (dM m c) (m ((c : Thread nD τ).loc main_arg7)))
      ∧ r.2.mem ((c : Thread nD τ).loc main_v120) = outS (zM m c) (dM m c) (ffM m c) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine θ_run_mono (run_hlo defs main (by hlo_seq) (by decide) (by decide) (by simp)
    (by intro _ h; (repeat (cases h with | head => rfl | tail _ h => ?_)); exact nomatch h) m ρ) fun r h => ?_
  refine fun c => ⟨?_, ?_, ?_, ?_, ?_, ?_, ?_, ?_, ?_, ?_, ?_, ?_, ?_, ?_⟩ <;> refine (h c _).trans ?_ <;> after_results_simp <;> rfl

end Cert.LossRefIdeal.Soft

end
-- ==== Proof.LossClaim.lean ====
/- The feed-forward call's value claim: at finite arguments its results are the reference's. -/
module

public import proofs.«01_k».proof.Defs
public import proofs.«01_k».proof.Proof.LossRun
public import proofs.«01_k».proof.Proof.LossRef
public import proofs.«01_k».proof.Proof.Finite

@[expose] public section

set_option maxRecDepth 16384

noncomputable section

namespace Cert.LossIdeal.Rows

open Idealize.ShloMosaic Idealize.ShloMosaic.TcCoe Cert.LossIdeal Cert.LossIdeal.Gen Cert.Reals Cert.Layer

variable {m : (ℓ : Loc nD τ sig) → Buf (Elt Ideal) ℓ} {c : Dev nD} {X T W1 W2 A G B : ℕ → ℕ → ℝ} {x0 x1 : Vec Ideal S8192x1024 .f32} {x2 : Vec Ideal S1024x4096 .bf16}
  {x3 : Vec Ideal S4096x1024 .bf16} {x4 : Vec Ideal S6x1024 .f32} {x7 x8 : Vec Ideal S1x1024 .f32}

open Cert.LossRefIdeal.Soft (modIn inMix outMix mixed delta dIn outS half halfH mulA all scale row5 modIn_at inMix_at ff_at mixed_at delta_at dIn_at outS_at mulA_at all_at scale_at row5_at)

/-- What the reference's norm takes. -/
abbrev zR (x0 : Vec Ideal S8192x1024 .f32) (x2 : Vec Ideal S1024x4096 .bf16) (x3 : Vec Ideal S4096x1024 .bf16) (x4 : Vec Ideal S6x1024 .f32) : Vec Ideal S8192x1024 .f32 :=
  mixed x0 (outMix (inMix x0 x4 x2) x3) x4

theorem zR_at (h0 : Is2 x0 X) (h2 : Is2 x2 W1) (h3 : Is2 x3 W2) (h4 : Is2 x4 A) : Is2 (zR x0 x2 x3 x4) fun r => zz (X r) A W1 W2 :=
  mixed_at h0 (ff_at h0 h4 h2 h3) h4

theorem dR_at (h0 : Is2 x0 X) (h1 : Is2 x1 T) (h2 : Is2 x2 W1) (h3 : Is2 x3 W2) (h4 : Is2 x4 A) (h7 : Is2 x7 G) (h8 : Is2 x8 B) :
    Is2 (delta (zR x0 x2 x3 x4) x1 x7 x8) fun r => diff (X r) (T r) A W1 W2 (G 0) (B 0) :=
  delta_at (zR_at h0 h2 h3 h4) h1 h7 h8

theorem dzR_at (h0 : Is2 x0 X) (h1 : Is2 x1 T) (h2 : Is2 x2 W1) (h3 : Is2 x3 W2) (h4 : Is2 x4 A) (h7 : Is2 x7 G) (h8 : Is2 x8 B) :
    Is2 (dIn (zR x0 x2 x3 x4) (delta (zR x0 x2 x3 x4) x1 x7 x8) x7) fun r => dz (X r) (T r) A W1 W2 (G 0) (B 0) :=
  dIn_at (zR_at h0 h2 h3 h4) (dR_at h0 h1 h2 h3 h4 h7 h8) h7

theorem pair_u (E : Args m c X T W1 W2 A G B) (h0 : Is2 x0 X) (h4 : Is2 x4 A) :
    ((dats m 0 c).arrAt 6 cfg0.N : Vec Ideal S8192x1024 .bf16) = half (modIn x0 x4) :=
  Is2.eq (arr_u E) (w := half (modIn x0 x4)) (modIn_at h0 h4) fun _ _ => rfl

theorem pair_hid (E : Args m c X T W1 W2 A G B) (h0 : Is2 x0 X) (h2 : Is2 x2 W1) (h4 : Is2 x4 A) :
    ((dats m 0 c).arrAt 7 cfg0.N : Vec Ideal S8192x4096 .bf16) = halfH (inMix x0 x4 x2) :=
  Is2.eq (arr_hid E) (w := halfH (inMix x0 x4 x2)) (inMix_at h0 h4 h2) fun _ _ => rfl

theorem pair_dff (E : Args m c X T W1 W2 A G B) (h0 : Is2 x0 X) (h1 : Is2 x1 T) (h2 : Is2 x2 W1) (h3 : Is2 x3 W2) (h4 : Is2 x4 A) (h7 : Is2 x7 G) (h8 : Is2 x8 B) :
    ((dats m 0 c).arrAt 8 cfg0.N : Vec Ideal S8192x1024 .bf16) = half (mulA (scale (row5 x4)) (dIn (zR x0 x2 x3 x4) (delta (zR x0 x2 x3 x4) x1 x7 x8) x7)) :=
  Is2.eq (arr_dff E) (w := half (mulA (scale (row5 x4)) (dIn (zR x0 x2 x3 x4) (delta (zR x0 x2 x3 x4) x1 x7 x8) x7)))
    (mulA_at (scale_at (row5_at h4)) (dzR_at h0 h1 h2 h3 h4 h7 h8)) fun _ _ => rfl

theorem pair_dx (E : Args m c X T W1 W2 A G B) (h0 : Is2 x0 X) (h1 : Is2 x1 T) (h2 : Is2 x2 W1) (h3 : Is2 x3 W2) (h4 : Is2 x4 A) (h7 : Is2 x7 G) (h8 : Is2 x8 B) :
    ((dats m 0 c).arrAt 9 cfg0.N : Vec Ideal S8192x1024 .f32) = mulA (all 0x3F9837F0#32) (dIn (zR x0 x2 x3 x4) (delta (zR x0 x2 x3 x4) x1 x7 x8) x7) :=
  Is2.eq (arr_dx E) (mulA_at (all_at al_bits) (dzR_at h0 h1 h2 h3 h4 h7 h8)) fun _ _ => rfl

theorem pair_st (E : Args m c X T W1 W2 A G B) (h0 : Is2 x0 X) (h1 : Is2 x1 T) (h2 : Is2 x2 W1) (h3 : Is2 x3 W2) (h4 : Is2 x4 A) (h7 : Is2 x7 G) (h8 : Is2 x8 B) :
    ((dats m 0 c).arrAt 10 cfg0.N : Vec Ideal S8x1024 .f32) = outS (zR x0 x2 x3 x4) (delta (zR x0 x2 x3 x4) x1 x7 x8) (outMix (inMix x0 x4 x2) x3) x7 :=
  Is2.eq (arr_st E) (outS_at (zR_at h0 h2 h3 h4) (dR_at h0 h1 h2 h3 h4 h7 h8) (ff_at h0 h4 h2 h3) h7) fun r l => by
    have e : ∀ i, xh 1024 (zz (X i) A W1 W2) l * (diff (X i) (T i) A W1 W2 (G 0) (B 0) l * (1 / 1024)) = dy (X i) (T i) A W1 W2 (G 0) (B 0) l * zh (X i) A W1 W2 l :=
      fun i => mul_comm _ _
    simp only [e]
    rfl

end Cert.LossIdeal.Rows

namespace Cert.Proof

open Idealize.ShloMosaic Idealize.SL.Sem

theorem facts_finite_loss : Cert.Pre_finite_loss.Facts := ⟨by decide, by decide, by decide, by decide, by decide, by decide⟩

instance inst_finite_loss : Cert.Pre_finite_loss.Facts := facts_finite_loss

open Cert.LossIdeal in
/-- At finite arguments the launch finds real numbers. -/
theorem real_Loss {m : (ℓ : Loc nD τ sig) → Buf (Elt Ideal) ℓ} (hpre : Cert.Pre_LossIdeal_finite_loss m) (c : Dev nD) :
    ∃ X T W1 W2 A G B : ℕ → ℕ → ℝ, Cert.LossIdeal.Rows.Args m c X T W1 W2 A G B := by
  obtain ⟨a, b, d, e, f, g, h⟩ := hpre c
  obtain ⟨X, hX⟩ := Finite.real2 (a := 8192) (b := 1024) (Finite.real _ _ a)
  obtain ⟨T, hT⟩ := Finite.real2 (a := 8192) (b := 1024) (Finite.real _ _ b)
  obtain ⟨W1, hW⟩ := Finite.real2 (a := 1024) (b := 4096) (Finite.real _ _ d)
  obtain ⟨W2, hV⟩ := Finite.real2 (a := 4096) (b := 1024) (Finite.real _ _ e)
  obtain ⟨A, hA⟩ := Finite.real2 (a := 6) (b := 1024) (Finite.real _ _ f)
  obtain ⟨G, hG⟩ := Finite.real2 (a := 1) (b := 1024) (Finite.real _ _ g)
  obtain ⟨B, hB⟩ := Finite.real2 (a := 1) (b := 1024) (Finite.real _ _ h)
  exact ⟨X, T, W1, W2, A, G, B, hX, hT, hW, hV, hA, hG, hB⟩

/-- The channel mixer's saved values, the loss and its gradients are the reference's, at finite arguments. -/
theorem algebraic_Loss : Cert.algebraic_LossIdeal_LossRefIdeal_pre_finite_loss := by
  pair_intro
  · run_from Cert.LossIdeal.Value.run_blocks m g
  · refine (θ_run Cert.LossRefIdeal.defs _ _).mono (fun r h c => ?_) (Cert.LossRefIdeal.Soft.run m' g')
    obtain ⟨X, T, W1, W2, A, G, B, E⟩ := real_Loss hpre c
    have h0 := E.hx
    have h1 := E.ht
    have h2 := E.hw
    have h3 := E.hv
    have h4 := E.ha
    have h7 := E.hg
    have h8 := E.hb
    rw [← (hagree c).1] at h0
    rw [← (hagree c).2.1] at h1
    rw [← (hagree c).2.2.1] at h2
    rw [← (hagree c).2.2.2.1] at h3
    rw [← (hagree c).2.2.2.2.1] at h4
    rw [← (hagree c).2.2.2.2.2.2.2.1] at h7
    rw [← (hagree c).2.2.2.2.2.2.2.2] at h8
    obtain ⟨a, b, d, e, f, k⟩ := h c
    exact ⟨a.trans (Cert.LossIdeal.Rows.pair_u E h0 h4).symm, b.trans (Cert.LossIdeal.Rows.pair_hid E h0 h2 h4).symm,
      d.trans (Cert.LossIdeal.Rows.pair_dff E h0 h1 h2 h3 h4 h7 h8).symm, e.trans (Cert.LossIdeal.Rows.pair_dx E h0 h1 h2 h3 h4 h7 h8).symm,
      f.trans (Cert.LossIdeal.Rows.pair_st E h0 h1 h2 h3 h4 h7 h8).symm, k⟩

end Cert.Proof

end
-- ==== Proof.ReluRows.lean ====
/- The tile of the feed-forward layer's gradient over the reals: each payload of the body at real operands. -/
module

public import proofs.«01_k».proof.Proof.Blocks
public import proofs.«01_k».proof.Proof.LayerTile
public import proofs.«01_k».proof.Proof.Gen.ReluIdeal.Value

@[expose] public section

set_option maxRecDepth 16384

noncomputable section

namespace Cert.ReluIdeal.Rows

open Idealize.ShloMosaic Idealize.ShloMosaic.TcCoe Cert.ReluIdeal Cert.ReluIdeal.Gen Cert.Reals Cert.Scalars Cert.Norms Cert.Layer Cert.LayerTile

section Real

variable (d h e z g : ℕ → ℝ) (A W1 W2 : ℕ → ℕ → ℝ)

/-- The inner layer's gradient of one row before its activation, from the output's gradient `d` and the entry `h` before the activation. -/
def dh (j : ℕ) : ℝ := (∑ k ∈ Finset.range 1024, d k * W2 j k) * (2 * max (h j) 0)

/-- The gradient of the modulated row. -/
def du (l : ℕ) : ℝ := ∑ j ∈ Finset.range 4096, dh d h W2 j * W1 l j

/-- The gradient of the normalized and scaled row, with the residual's own part `e`. -/
def dx (l : ℕ) : ℝ := e l + du d h W1 W2 l * (1 + A 4 l)

/-- The gradient of the row before its norm. -/
def dn (l : ℕ) : ℝ := lb 1024 z (fun l => dx d h e A W1 W2 l * g l) l

end Real

/-- The root of the squared positive part. -/
theorem sqrt_sqp (y : ℝ) : Ideal.sqrt (sqp y : EReal) = (max y 0 : ℝ) := by
  rw [Ideal.sqrt_coe, sqp, if_neg (mul_self_nonneg _).not_gt, Real.sqrt_mul_self (le_max_right _ _)]

variable {D H E X Z M A W1 W2 : ℕ → ℕ → ℝ} {G : ℕ → ℝ}

/-- One column piece of the inner layer's gradient. -/
theorem pay3_at {x : Vec Ideal S256x1024 .bf16} {v : Vec Ideal S512x1024 .bf16} {h : Vec Ideal S256x512 .bf16} (n : ℕ) (hx : Is2 x D) (hv : Is2 v fun j l => W2 (n + j) l)
    (hh : Is2 h fun r j => sqp (H r (n + j))) : Is2 (k0_pay3 x v h) fun r j => dh (D r) (H r) W2 (n + j) := by
  intro r j
  pointwise [k0_pay3]
  simp only [hx _ _, hv _ _, hh _ _, ← EReal.coe_mul, ← coe_sum]
  rw [sqrt_sqp, bits_two, ← EReal.coe_mul, ← EReal.coe_mul, dh, Finset.sum_range]

/-- The modulated row's gradient with one more piece. -/
def step (a : FVec Ideal S256x1024 .f32) (x : Vec Ideal S256x1024 .bf16) (v : Vec Ideal S512x1024 .bf16) (h : Vec Ideal S256x512 .bf16) (w : Vec Ideal S1x1024x512 .bf16) : FVec Ideal S256x1024 .f32 :=
  addf a (matmul (φ₂ := .bf16) dot_S256x512_S1024x512_S256x1024_1_1_0_0_n_n none (k0_pay3 x v h) (shapeCast S1024x512 w shapeCasts_S1x1024x512_S1024x512) (constant S256x1024 .f32 0x00000000#32))

/-- The modulated row's gradient from the first `n` inner entries. -/
def part (n : ℕ) (D H W1 W2 : ℕ → ℕ → ℝ) (r l : ℕ) : ℝ := ∑ j ∈ Finset.range n, dh (D r) (H r) W2 j * W1 l j

theorem step_at (n : ℕ) {a : FVec Ideal S256x1024 .f32} {x : Vec Ideal S256x1024 .bf16} {v : Vec Ideal S512x1024 .bf16} {h : Vec Ideal S256x512 .bf16} {w : Vec Ideal S1x1024x512 .bf16}
    (ha : Is2 a (part n D H W1 W2)) (hx : Is2 x D) (hv : Is2 v fun j l => W2 (n + j) l) (hh : Is2 h fun r j => sqp (H r (n + j))) (hw : Is3 w fun _ k j => W1 k (n + j)) :
    Is2 (step a x v h w) (part (n + 512) D H W1 W2) := by
  have hy := pay3_at n hx hv hh
  intro r l
  unfold step
  generalize k0_pay3 x v h = y at hy ⊢
  pointwise
  simp only [ha _ _, hy _ _, hw _ _ _, ← EReal.coe_mul, ← coe_sum, ← EReal.coe_add]
  rw [part, part, Finset.sum_range_add, Finset.sum_range (n := 512)]

theorem none_at : Is2 (broadcast S256x1024 (Scalar.ofBits .f32 0x00000000#32) : FVec Ideal S256x1024 .f32) (part 0 D H W1 W2) := by
  intro r l
  pointwise
  rw [part, Finset.sum_range_zero, EReal.coe_zero]

/-- All the pieces of the weights and of the inner layer. -/
structure Pieces (w : Fin 8 → Vec Ideal S1x1024x512 .bf16) (v : Fin 8 → Vec Ideal S512x1024 .bf16) (p : Fin 8 → Vec Ideal S256x512 .bf16) (W1 W2 H : ℕ → ℕ → ℝ) : Prop where
  hw : ∀ d : Fin 8, Is3 (w d) fun _ k j => W1 k (512 * d.val + j)
  hv : ∀ d : Fin 8, Is2 (v d) fun j l => W2 (512 * d.val + j) l
  hp : ∀ d : Fin 8, Is2 (p d) fun r j => sqp (H r (512 * d.val + j))

variable {x : Vec Ideal S256x1024 .bf16} {w : Fin 8 → Vec Ideal S1x1024x512 .bf16} {v : Fin 8 → Vec Ideal S512x1024 .bf16} {p : Fin 8 → Vec Ideal S256x512 .bf16}

/-- The modulated row's gradient, piece after piece. -/
def back (x : Vec Ideal S256x1024 .bf16) (w : Fin 8 → Vec Ideal S1x1024x512 .bf16) (v : Fin 8 → Vec Ideal S512x1024 .bf16) (p : Fin 8 → Vec Ideal S256x512 .bf16) : FVec Ideal S256x1024 .f32 :=
  k0_pay16 x (k0_pay12 x (k0_pay9 x (k0_pay4 x (v 0) (p 0) (w 0)) (k0_pay5 x (v 1) (p 1)) (k0_pay6 (w 1)) (constant S256x1024 .f32 0x00000000#32) (v 2) (p 2) (w 2) (v 3) (p 3) (w 3))
    (v 4) (p 4) (w 4) (v 5) (p 5) (w 5)) (k0_pay13 x (v 6)) (p 6) (w 6) (v 7) (p 7) (w 7)

theorem back_at (hx : Is2 x D) (q : Pieces w v p W1 W2 H) : Is2 (back x w v p) fun r => du (D r) (H r) W1 W2 := by
  have k (n : ℕ) (d : Fin 8) (e : 512 * d.val = n) {a : FVec Ideal S256x1024 .f32} (ha : Is2 a (part n D H W1 W2)) : Is2 (step a x (v d) (p d) (w d)) (part (n + 512) D H W1 W2) := by
    subst e
    exact step_at _ ha hx (q.hv d) (q.hp d) (q.hw d)
  exact k 3584 7 rfl (k 3072 6 rfl (k 2560 5 rfl (k 2048 4 rfl (k 1536 3 rfl (k 1024 2 rfl (k 512 1 rfl (k 0 0 rfl none_at)))))))

variable {u e h t m : FVec Ideal S256x1024 .f32} {a g s : Vec Ideal S1x1024 .f32} {U Y T : ℕ → ℕ → ℝ} {S : ℕ → ℝ}

theorem pay17_at (he : Is2 e X) : Is2 (k0_pay17 (F := Ideal) e) X := by
  intro r l
  pointwise [k0_pay17]
  exact he _ _

theorem pay18_at (hu : Is2 u fun r => du (D r) (H r) W1 W2) (he : Is2 e E) (ha : Is2 a fun _ l => A 4 l) : Is2 (k0_pay18 u e a) fun r => dx (D r) (H r) (E r) A W1 W2 := by
  intro r l
  pointwise [k0_pay18]
  rw [hu, he, ha, ← EReal.coe_one, ← EReal.coe_add, ← EReal.coe_mul, ← EReal.coe_add, dx]

theorem pay19_at (hz : Is2 t Z) : Is2 (k0_pay19 (F := Ideal) t) fun r => cen 1024 (Z r) := tcen_at reduces_S256x1024_S256 shapeCasts_S256_S256x1 broadcasts_S256x1_S256x1024 (pay17_at hz)

theorem pay20_at (hz : Is2 t Z) : Is2 (k0_pay20 (F := Ideal) t) fun r _ => rs 1024 (Z r) := trs_at reduces_S256x1024_S256 shapeCasts_S256_S256x1 (pay19_at hz)

theorem pay21_at (hz : Is2 t Z) : Is2 (k0_pay21 (F := Ideal) t) fun r => xh 1024 (Z r) := txh_at broadcasts_S256x1_S256x1024 (pay19_at hz) (pay20_at hz)

theorem row_at (hg : Is2 g fun _ l => G l) : Is2 (shapeCast S1x1024 g shapeCasts_S1x1024_S1x1024 : FVec Ideal S1x1024 .f32) fun _ l => G l := by
  intro r l
  pointwise
  exact hg _ _

theorem pay22_at (hu : Is2 u fun r => du (D r) (H r) W1 W2) (he : Is2 e E) (ha : Is2 a fun _ l => A 4 l) (hz : Is2 t Z) (hg : Is2 g fun _ l => G l) :
    Is2 (k0_pay22 u e a t g) fun r => dn (D r) (H r) (E r) (Z r) G A W1 W2 :=
  tlb_at reduces_S256x1024_S256 shapeCasts_S256_S256x1 broadcasts_S256x1_S256x1024 (pay20_at hz) (pay21_at hz)
    (mul_at (pay18_at hu he ha) (down_at broadcasts_S1x1024_S256x1024 (row_at hg)))

theorem pay24_at (hy : Is2 h Y) : Is2 (k0_pay24 h k0_pay23) fun r l => al * Y r l := by
  intro r l
  pointwise [k0_pay24, k0_pay23]
  rw [hy, al_bits, ← EReal.coe_mul]

theorem pay25_at (hy : Is2 h Y) (ha : Is2 a fun _ l => A 2 l) : Is2 (k0_pay25 h a) fun r l => (1 + A 2 l) * Y r l := by
  intro r l
  pointwise [k0_pay25]
  rw [hy, ha, ← EReal.coe_one, ← EReal.coe_add, ← EReal.coe_mul]

theorem pay1_at (hy : Is2 h Y) (hs : Is2 s fun _ l => S l) : Is2 (k0_pay1 h s) fun _ l => S l + ∑ r ∈ Finset.range 256, Y r l :=
  tsum_at reduces_S256x1024_S1024 shapeCasts_S1024_S1x1024 shapeCasts_S1x1024_S1x1024 hy hs

theorem pay28_at (hy : Is2 h Y) (hs : Is2 s fun _ l => S l) : Is2 (k0_pay28 h s) fun _ l => S l + ∑ r ∈ Finset.range 256, Y r l :=
  pay1_at hy hs

theorem pay2_at (hy : Is2 h Y) (ht : Is2 t T) (hs : Is2 s fun _ l => S l) : Is2 (k0_pay2 h t s) fun _ l => S l + ∑ r ∈ Finset.range 256, Y r l * T r l :=
  pay1_at (mul_at hy ht) hs

theorem pay27_at (hy : Is2 h Y) (ht : Is2 t T) (hs : Is2 s fun _ l => S l) : Is2 (k0_pay27 h t s) fun _ l => S l + ∑ r ∈ Finset.range 256, Y r l * T r l :=
  pay1_at (mul_at hy ht) hs

theorem pay29_at (hy : Is2 h Y) (ht : Is2 t T) (hs : Is2 s fun _ l => S l) : Is2 (k0_pay29 h t s) fun _ l => S l + ∑ r ∈ Finset.range 256, Y r l * T r l :=
  pay1_at (mul_at hy ht) hs

end Cert.ReluIdeal.Rows

end
-- ==== Proof.ReluPoint.lean ====
/- One grid point of the feed-forward layer's gradient: what its stores leave in the four results' blocks. -/
module

public import proofs.«01_k».proof.Proof.ReluRows
public import proofs.«01_k».proof.Proof.Slabs

@[expose] public section

set_option maxRecDepth 16384

noncomputable section

namespace Cert.ReluIdeal.Rows

open Idealize.ShloMosaic Idealize.ShloMosaic.TcCoe Cert.ReluIdeal Cert.ReluIdeal.Gen Cert.Reals Cert.Scalars Cert.Blocks Cert.Layer

variable (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S8x1024x512 .bf16) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x1024 .f32) (harg10 : arg10.IsWhole) (arg11 : Memref sig .tc .vmem S256x4096 .bf16) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S8x1024 .f32) (harg14 : arg14.IsWhole)
variable {x0 : Vec Ideal S256x1024 .bf16} {x1 : Vec Ideal S256x4096 .bf16} {x2 : Vec Ideal S8x1024x512 .bf16} {x3 : Vec Ideal S4096x1024 .bf16} {x4 : Vec Ideal S256x1024 .f32} {x5 : Vec Ideal S256x1024 .f32} {x6 : Vec Ideal S256x1024 .f32} {x7 : Vec Ideal S256x1024 .f32} {x8 : Vec Ideal S8x1024 .f32} {x9 : Vec Ideal S8x1024 .f32} {xo : Vec Ideal S8x1024 .f32} {D H E X Z M A W1 W2 S : ℕ → ℕ → ℝ} {G : ℕ → ℝ}

/-- The blocks a point reads. -/
structure Blk (x0 : Vec Ideal S256x1024 .bf16) (x1 : Vec Ideal S256x4096 .bf16) (x2 : Vec Ideal S8x1024x512 .bf16) (x3 : Vec Ideal S4096x1024 .bf16) (x4 : Vec Ideal S256x1024 .f32) (x5 : Vec Ideal S256x1024 .f32) (x6 : Vec Ideal S256x1024 .f32) (x7 : Vec Ideal S256x1024 .f32) (x8 : Vec Ideal S8x1024 .f32) (x9 : Vec Ideal S8x1024 .f32) (D H E X Z M A W1 W2 : ℕ → ℕ → ℝ) (G : ℕ → ℝ) : Prop where
  hd : Is2 x0 D
  hh : Is2 x1 fun r j => sqp (H r j)
  hw : Is3 x2 fun d k j => W1 k (512 * d + j)
  hv : Is2 x3 W2
  he : Is2 x4 E
  hx : Is2 x5 X
  hz : Is2 x6 Z
  hm : Is2 x7 M
  h2 : ∀ l : Fin 1024, x8 (ix2 2 l) = (A 2 l.val : EReal)
  h4 : ∀ l : Fin 1024, x8 (ix2 4 l) = (A 4 l.val : EReal)
  hg : ∀ l : Fin 1024, x9 (ix2 0 l) = (G l.val : EReal)

theorem slab_in (d : Fin 8) : ∀ a, (![d.val, 0, 0] : Fin 3 → ℕ) a + S1x1024x512.size a ≤ S8x1024x512.size a := fun a => by
  fin_cases a
  · show d.val + 1 ≤ 8
    omega
  · exact le_of_eq (Nat.zero_add _)
  · exact le_of_eq (Nat.zero_add _)

theorem band_in (d : Fin 8) : ∀ a, (![512 * d.val, 0] : Fin 2 → ℕ) a + S512x1024.size a ≤ S4096x1024.size a := fun a => by
  fin_cases a
  · show 512 * d.val + 512 ≤ 4096
    omega
  · exact le_of_eq (Nat.zero_add _)

theorem cols_in (d : Fin 8) : ∀ a, (![0, 512 * d.val] : Fin 2 → ℕ) a + S256x512.size a ≤ S256x4096.size a := fun a => by
  fin_cases a
  · exact le_of_eq (Nat.zero_add _)
  · show 512 * d.val + 512 ≤ 4096
    omega

/-- The first weight's pieces. -/
def pw (x2 : Vec Ideal S8x1024x512 .bf16) (d : Fin 8) : Vec Ideal S1x1024x512 .bf16 :=
  View.readAt (Elt Ideal) arg3.view (Rect.unit (s := S8x1024x512) ![d.val, 0, 0] S1x1024x512.size (slab_in d)).toLoadRect (harg3.unread x2)

/-- The second weight's pieces. -/
def pv (x3 : Vec Ideal S4096x1024 .bf16) (d : Fin 8) : Vec Ideal S512x1024 .bf16 :=
  View.readAt (Elt Ideal) arg4.view (Rect.unit (s := S4096x1024) ![512 * d.val, 0] S512x1024.size (band_in d)).toLoadRect (harg4.unread x3)

/-- The inner layer's pieces. -/
def ph (x1 : Vec Ideal S256x4096 .bf16) (d : Fin 8) : Vec Ideal S256x512 .bf16 :=
  View.readAt (Elt Ideal) arg2.view (Rect.unit (s := S256x4096) ![0, 512 * d.val] S256x512.size (cols_in d)).toLoadRect (harg2.unread x1)

variable (b : Blk x0 x1 x2 x3 x4 x5 x6 x7 x8 x9 D H E X Z M A W1 W2 G)

include b in
theorem pieces : Pieces (pw arg3 harg3 x2) (pv arg4 harg4 x3) (ph arg2 harg2 x1) W1 W2 H where
  hw d c k j := load_slab harg3 (f := fun d k j => (W1 k (512 * d + j) : EReal)) (fun d r l => b.hw d r l) d.val d.isLt (slab_in d) c k j
  hv d j l := by
    have h := load_at harg4 (f := fun r l => (W2 r l : EReal)) b.hv (512 * d.val) 0 (band_in d) (by omega) (by omega) j l
    simp only [Nat.zero_add] at h
    exact h
  hp d r j := by
    have h := load_at harg2 (f := fun r l => (sqp (H r l) : EReal)) b.hh 0 (512 * d.val) (cols_in d) (by omega) (by omega) r j
    simp only [Nat.zero_add] at h
    exact h

include b in
theorem d_at : Is2 (View.readAt (Elt Ideal) arg1.view (Rect.unit (s := S256x1024) ![0, 0] S256x1024.size inb_S256x1024_S256x1024_0_0).toLoadRect (harg1.unread x0)) D := load_zero harg1 (f := fun r l => (D r l : EReal)) b.hd _ le_rfl le_rfl

include b in
theorem e_at : Is2 (View.readAt (Elt Ideal) arg5.view (Rect.unit (s := S256x1024) ![0, 0] S256x1024.size inb_S256x1024_S256x1024_0_0).toLoadRect (harg5.unread x4)) E := load_zero harg5 (f := fun r l => (E r l : EReal)) b.he _ le_rfl le_rfl

include b in
theorem x_at : Is2 (View.readAt (Elt Ideal) arg6.view (Rect.unit (s := S256x1024) ![0, 0] S256x1024.size inb_S256x1024_S256x1024_0_0).toLoadRect (harg6.unread x5)) X := load_zero harg6 (f := fun r l => (X r l : EReal)) b.hx _ le_rfl le_rfl

include b in
theorem z_at : Is2 (View.readAt (Elt Ideal) arg7.view (Rect.unit (s := S256x1024) ![0, 0] S256x1024.size inb_S256x1024_S256x1024_0_0).toLoadRect (harg7.unread x6)) Z := load_zero harg7 (f := fun r l => (Z r l : EReal)) b.hz _ le_rfl le_rfl

include b in
theorem m_at : Is2 (View.readAt (Elt Ideal) arg8.view (Rect.unit (s := S256x1024) ![0, 0] S256x1024.size inb_S256x1024_S256x1024_0_0).toLoadRect (harg8.unread x7)) M := load_zero harg8 (f := fun r l => (M r l : EReal)) b.hm _ le_rfl le_rfl

include b in
theorem a2_at : Is2 (View.readAt (Elt Ideal) arg9.view (Rect.unit (s := S8x1024) ![2, 0] S1x1024.size inb_S8x1024_S1x1024_2_0).toLoadRect (harg9.unread x8)) fun _ l => A 2 l := load_row harg9 (f := fun l => (A 2 l : EReal)) 2 (by omega) b.h2 _

include b in
theorem a4_at : Is2 (View.readAt (Elt Ideal) arg9.view (Rect.unit (s := S8x1024) ![4, 0] S1x1024.size inb_S8x1024_S1x1024_4_0).toLoadRect (harg9.unread x8)) fun _ l => A 4 l := load_row harg9 (f := fun l => (A 4 l : EReal)) 4 (by omega) b.h4 _

include b in
theorem g_at : Is2 (View.readAt (Elt Ideal) arg10.view (Rect.unit (s := S8x1024) ![0, 0] S1x1024.size inb_S8x1024_S1x1024_0_0).toLoadRect (harg10.unread x9)) fun _ l => G l := load_row harg10 (f := fun l => (G l : EReal)) 0 (by omega) b.hg _

/-- The modulated row's gradient. -/
def u (x0 : Vec Ideal S256x1024 .bf16) (x1 : Vec Ideal S256x4096 .bf16) (x2 : Vec Ideal S8x1024x512 .bf16) (x3 : Vec Ideal S4096x1024 .bf16) : FVec Ideal S256x1024 .f32 :=
  back (View.readAt (Elt Ideal) arg1.view (Rect.unit (s := S256x1024) ![0, 0] S256x1024.size inb_S256x1024_S256x1024_0_0).toLoadRect (harg1.unread x0)) (pw arg3 harg3 x2) (pv arg4 harg4 x3) (ph arg2 harg2 x1)

include b in
theorem u_at : Is2 (u arg1 harg1 arg2 harg2 arg3 harg3 arg4 harg4 x0 x1 x2 x3) fun r => du (D r) (H r) W1 W2 := back_at (d_at arg1 harg1 b) (pieces arg2 harg2 arg3 harg3 arg4 harg4 b)

include b in
theorem y_at : Is2 (k0_pay18 (u arg1 harg1 arg2 harg2 arg3 harg3 arg4 harg4 x0 x1 x2 x3) (View.readAt (Elt Ideal) arg5.view (Rect.unit (s := S256x1024) ![0, 0] S256x1024.size inb_S256x1024_S256x1024_0_0).toLoadRect (harg5.unread x4)) (View.readAt (Elt Ideal) arg9.view (Rect.unit (s := S8x1024) ![4, 0] S1x1024.size inb_S8x1024_S1x1024_4_0).toLoadRect (harg9.unread x8))) fun r => dx (D r) (H r) (E r) A W1 W2 := pay18_at (u_at arg1 harg1 arg2 harg2 arg3 harg3 arg4 harg4 b) (e_at arg5 harg5 b) (a4_at arg9 harg9 b)

include b in
theorem n_at : Is2 (k0_pay22 (u arg1 harg1 arg2 harg2 arg3 harg3 arg4 harg4 x0 x1 x2 x3) (View.readAt (Elt Ideal) arg5.view (Rect.unit (s := S256x1024) ![0, 0] S256x1024.size inb_S256x1024_S256x1024_0_0).toLoadRect (harg5.unread x4)) (View.readAt (Elt Ideal) arg9.view (Rect.unit (s := S8x1024) ![4, 0] S1x1024.size inb_S8x1024_S1x1024_4_0).toLoadRect (harg9.unread x8)) (View.readAt (Elt Ideal) arg7.view (Rect.unit (s := S256x1024) ![0, 0] S256x1024.size inb_S256x1024_S256x1024_0_0).toLoadRect (harg7.unread x6)) (View.readAt (Elt Ideal) arg10.view (Rect.unit (s := S8x1024) ![0, 0] S1x1024.size inb_S8x1024_S1x1024_0_0).toLoadRect (harg10.unread x9))) fun r => dn (D r) (H r) (E r) (Z r) G A W1 W2 :=
  pay22_at (u_at arg1 harg1 arg2 harg2 arg3 harg3 arg4 harg4 b) (e_at arg5 harg5 b) (a4_at arg9 harg9 b) (z_at arg7 harg7 b) (g_at arg10 harg10 b)

/-- The sums over the first `n` rows. -/
def sums (D H E X Z M A W1 W2 : ℕ → ℕ → ℝ) (G : ℕ → ℝ) (n r l : ℕ) : ℝ :=
  if r = 4 then ∑ i ∈ Finset.range n, dn (D i) (H i) (E i) (Z i) G A W1 W2 l * M i l
  else if r = 3 then ∑ i ∈ Finset.range n, dx (D i) (H i) (E i) A W1 W2 l
  else if r = 2 then ∑ i ∈ Finset.range n, dx (D i) (H i) (E i) A W1 W2 l * xh 1024 (Z i) l
  else if r = 1 then ∑ i ∈ Finset.range n, du (D i) (H i) W1 W2 l
  else if r = 0 then ∑ i ∈ Finset.range n, du (D i) (H i) W1 W2 l * X i l else 0

include b in
theorem dh_A (hc0 : cond0_0 i) : Is2 (out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9) fun r => dh (D r) (H r) W2 := by
  have q := pieces arg2 harg2 arg3 harg3 arg4 harg4 b
  have k : ∀ (d : Fin 8) (r : Fin 256) (l : Fin 512), k0_pay3 (View.readAt (Elt Ideal) arg1.view (Rect.unit (s := S256x1024) ![0, 0] S256x1024.size inb_S256x1024_S256x1024_0_0).toLoadRect (harg1.unread x0)) (pv arg4 harg4 x3 d) (ph arg2 harg2 x1 d) (ix2 r l) = (dh (D r.val) (H r.val) W2 (512 * d.val + l.val) : EReal) :=
    fun d r l => pay3_at (512 * d.val) (d_at arg1 harg1 b) (q.hv d) (q.hp d) r l
  intro r l
  unfold out0_A_10 kernelRun0_A
  dsimp only
  refine store_cols VO0_10 _ 3584 4096 rfl _ _ _ (F := fun r j => (dh (D r) (H r) W2 j : EReal)) (k 7) ?_ r l l.isLt
  refine store_cols VO0_10 _ 3072 3584 rfl _ _ _ (F := fun r j => (dh (D r) (H r) W2 j : EReal)) (k 6) ?_
  refine store_cols VO0_10 _ 2560 3072 rfl _ _ _ (F := fun r j => (dh (D r) (H r) W2 j : EReal)) (k 5) ?_
  refine store_cols VO0_10 _ 2048 2560 rfl _ _ _ (F := fun r j => (dh (D r) (H r) W2 j : EReal)) (k 4) ?_
  refine store_cols VO0_10 _ 1536 2048 rfl _ _ _ (F := fun r j => (dh (D r) (H r) W2 j : EReal)) (k 3) ?_
  refine store_cols VO0_10 _ 1024 1536 rfl _ _ _ (F := fun r j => (dh (D r) (H r) W2 j : EReal)) (k 2) ?_
  refine store_cols VO0_10 _ 512 1024 rfl _ _ _ (F := fun r j => (dh (D r) (H r) W2 j : EReal)) (k 1) ?_
  refine store_cols VO0_10 _ 0 512 rfl _ _ _ (F := fun r j => (dh (D r) (H r) W2 j : EReal)) (k 0) ?_
  exact fun r l h => absurd h (Nat.not_lt_zero _)

include b in
theorem dxb_A (hc0 : cond0_0 i) : Is2 (out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9) fun r l => al * dn (D r) (H r) (E r) (Z r) G A W1 W2 l := by
  intro r l
  unfold out0_A_11 kernelRun0_A
  dsimp only
  exact (store_hit VO0_11 _ 0 0 inb_S256x1024_S256x1024_0_0 _ [] r l r l (by omega) (by omega)).trans (pay24_at (n_at arg1 harg1 arg2 harg2 arg3 harg3 arg4 harg4 arg5 harg5 arg7 harg7 arg9 harg9 arg10 harg10 b) r l)

include b in
theorem dmix_A (hc0 : cond0_0 i) : Is2 (out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9) fun r l => (1 + A 2 l) * dn (D r) (H r) (E r) (Z r) G A W1 W2 l := by
  intro r l
  unfold out0_A_12 kernelRun0_A
  dsimp only
  exact (store_hit VO0_12 _ 0 0 inb_S256x1024_S256x1024_0_0 _ [] r l r l (by omega) (by omega)).trans (pay25_at (n_at arg1 harg1 arg2 harg2 arg3 harg3 arg4 harg4 arg5 harg5 arg7 harg7 arg9 harg9 arg10 harg10 b) (a2_at arg9 harg9 b) r l)

include b in
theorem dh_B (hc0 : ¬cond0_0 i) : Is2 (out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo) fun r => dh (D r) (H r) W2 := by
  have q := pieces arg2 harg2 arg3 harg3 arg4 harg4 b
  have k : ∀ (d : Fin 8) (r : Fin 256) (l : Fin 512), k0_pay3 (View.readAt (Elt Ideal) arg1.view (Rect.unit (s := S256x1024) ![0, 0] S256x1024.size inb_S256x1024_S256x1024_0_0).toLoadRect (harg1.unread x0)) (pv arg4 harg4 x3 d) (ph arg2 harg2 x1 d) (ix2 r l) = (dh (D r.val) (H r.val) W2 (512 * d.val + l.val) : EReal) :=
    fun d r l => pay3_at (512 * d.val) (d_at arg1 harg1 b) (q.hv d) (q.hp d) r l
  intro r l
  unfold out0_B_10 kernelRun0_B
  dsimp only
  refine store_cols VO0_10 _ 3584 4096 rfl _ _ _ (F := fun r j => (dh (D r) (H r) W2 j : EReal)) (k 7) ?_ r l l.isLt
  refine store_cols VO0_10 _ 3072 3584 rfl _ _ _ (F := fun r j => (dh (D r) (H r) W2 j : EReal)) (k 6) ?_
  refine store_cols VO0_10 _ 2560 3072 rfl _ _ _ (F := fun r j => (dh (D r) (H r) W2 j : EReal)) (k 5) ?_
  refine store_cols VO0_10 _ 2048 2560 rfl _ _ _ (F := fun r j => (dh (D r) (H r) W2 j : EReal)) (k 4) ?_
  refine store_cols VO0_10 _ 1536 2048 rfl _ _ _ (F := fun r j => (dh (D r) (H r) W2 j : EReal)) (k 3) ?_
  refine store_cols VO0_10 _ 1024 1536 rfl _ _ _ (F := fun r j => (dh (D r) (H r) W2 j : EReal)) (k 2) ?_
  refine store_cols VO0_10 _ 512 1024 rfl _ _ _ (F := fun r j => (dh (D r) (H r) W2 j : EReal)) (k 1) ?_
  refine store_cols VO0_10 _ 0 512 rfl _ _ _ (F := fun r j => (dh (D r) (H r) W2 j : EReal)) (k 0) ?_
  exact fun r l h => absurd h (Nat.not_lt_zero _)

include b in
theorem dxb_B (hc0 : ¬cond0_0 i) : Is2 (out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo) fun r l => al * dn (D r) (H r) (E r) (Z r) G A W1 W2 l := by
  intro r l
  unfold out0_B_11 kernelRun0_B
  dsimp only
  exact (store_hit VO0_11 _ 0 0 inb_S256x1024_S256x1024_0_0 _ [] r l r l (by omega) (by omega)).trans (pay24_at (n_at arg1 harg1 arg2 harg2 arg3 harg3 arg4 harg4 arg5 harg5 arg7 harg7 arg9 harg9 arg10 harg10 b) r l)

include b in
theorem dmix_B (hc0 : ¬cond0_0 i) : Is2 (out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo) fun r l => (1 + A 2 l) * dn (D r) (H r) (E r) (Z r) G A W1 W2 l := by
  intro r l
  unfold out0_B_12 kernelRun0_B
  dsimp only
  exact (store_hit VO0_12 _ 0 0 inb_S256x1024_S256x1024_0_0 _ [] r l r l (by omega) (by omega)).trans (pay25_at (n_at arg1 harg1 arg2 harg2 arg3 harg3 arg4 harg4 arg5 harg5 arg7 harg7 arg9 harg9 arg10 harg10 b) (a2_at arg9 harg9 b) r l)

include b in
theorem st_A (hc0 : cond0_0 i) : Is2 (out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9) (sums D H E X Z M A W1 W2 G 256) := by
  have z : ∀ (v : View sig .tc .vmem S8x1024 .f32) (r : Fin 8) (l : Fin 1024),
      v.read (Elt Ideal) (v.writes (Elt Ideal) v.junk [⟨Rect.unit (s := S8x1024) ![0, 0] S8x1024.size inb_S8x1024_S8x1024_0_0, k0_pay26 (F := Ideal)⟩]) (ix2 r l) = (0 : EReal) := by
    intro v r l
    refine (store_hit v _ 0 0 inb_S8x1024_S8x1024_0_0 _ [] r l r l (by omega) (by omega)).trans ?_
    pointwise [k0_pay26]
  intro r l
  unfold out0_A_13 kernelRun0_A
  dsimp only
  unfold sums
  refine (store_row VO0_13 _ 4 inb_S8x1024_S1x1024_4_0 _ _ r l).trans ?_
  by_cases h4 : r.val = 4
  · rw [if_pos h4, if_pos h4]
    refine (pay2_at (S := fun _ => 0) (n_at arg1 harg1 arg2 harg2 arg3 harg3 arg4 harg4 arg5 harg5 arg7 harg7 arg9 harg9 arg10 harg10 b) (m_at arg8 harg8 b) (fun a l => ?_) 0 l).trans (by beta_reduce; rw [zero_add])
    refine (load_apply arg14.view _ 4 0 inb_S8x1024_S1x1024_4_0 a l (by omega) (by omega)).trans ?_
    refine (store_miss arg14.view _ 3 0 inb_S8x1024_S1x1024_3_0 _ _ _ _ (by right; show 3 + 1 ≤ 4 + a.val; omega)).trans ?_
    refine (store_miss arg14.view _ 2 0 inb_S8x1024_S1x1024_2_0 _ _ _ _ (by right; show 2 + 1 ≤ 4 + a.val; omega)).trans ?_
    refine (store_miss arg14.view _ 1 0 inb_S8x1024_S1x1024_1_0 _ _ _ _ (by right; show 1 + 1 ≤ 4 + a.val; omega)).trans ?_
    refine (store_miss arg14.view _ 0 0 inb_S8x1024_S1x1024_0_0 _ _ _ _ (by right; show 0 + 1 ≤ 4 + a.val; omega)).trans ?_
    exact z _ _ _
  rw [if_neg h4, if_neg h4]
  refine (store_row VO0_13 _ 3 inb_S8x1024_S1x1024_3_0 _ _ r l).trans ?_
  by_cases h3 : r.val = 3
  · rw [if_pos h3, if_pos h3]
    refine (pay1_at (S := fun _ => 0) (y_at arg1 harg1 arg2 harg2 arg3 harg3 arg4 harg4 arg5 harg5 arg9 harg9 b) (fun a l => ?_) 0 l).trans (by beta_reduce; rw [zero_add])
    refine (load_apply arg14.view _ 3 0 inb_S8x1024_S1x1024_3_0 a l (by omega) (by omega)).trans ?_
    refine (store_miss arg14.view _ 2 0 inb_S8x1024_S1x1024_2_0 _ _ _ _ (by right; show 2 + 1 ≤ 3 + a.val; omega)).trans ?_
    refine (store_miss arg14.view _ 1 0 inb_S8x1024_S1x1024_1_0 _ _ _ _ (by right; show 1 + 1 ≤ 3 + a.val; omega)).trans ?_
    refine (store_miss arg14.view _ 0 0 inb_S8x1024_S1x1024_0_0 _ _ _ _ (by right; show 0 + 1 ≤ 3 + a.val; omega)).trans ?_
    exact z _ _ _
  rw [if_neg h3, if_neg h3]
  refine (store_row VO0_13 _ 2 inb_S8x1024_S1x1024_2_0 _ _ r l).trans ?_
  by_cases h2 : r.val = 2
  · rw [if_pos h2, if_pos h2]
    refine (pay29_at (S := fun _ => 0) (y_at arg1 harg1 arg2 harg2 arg3 harg3 arg4 harg4 arg5 harg5 arg9 harg9 b) (pay21_at (z_at arg7 harg7 b)) (fun a l => ?_) 0 l).trans (by beta_reduce; rw [zero_add])
    refine (load_apply arg14.view _ 2 0 inb_S8x1024_S1x1024_2_0 a l (by omega) (by omega)).trans ?_
    refine (store_miss arg14.view _ 1 0 inb_S8x1024_S1x1024_1_0 _ _ _ _ (by right; show 1 + 1 ≤ 2 + a.val; omega)).trans ?_
    refine (store_miss arg14.view _ 0 0 inb_S8x1024_S1x1024_0_0 _ _ _ _ (by right; show 0 + 1 ≤ 2 + a.val; omega)).trans ?_
    exact z _ _ _
  rw [if_neg h2, if_neg h2]
  refine (store_row VO0_13 _ 1 inb_S8x1024_S1x1024_1_0 _ _ r l).trans ?_
  by_cases h1 : r.val = 1
  · rw [if_pos h1, if_pos h1]
    refine (pay28_at (S := fun _ => 0) (u_at arg1 harg1 arg2 harg2 arg3 harg3 arg4 harg4 b) (fun a l => ?_) 0 l).trans (by beta_reduce; rw [zero_add])
    refine (load_apply arg14.view _ 1 0 inb_S8x1024_S1x1024_1_0 a l (by omega) (by omega)).trans ?_
    refine (store_miss arg14.view _ 0 0 inb_S8x1024_S1x1024_0_0 _ _ _ _ (by right; show 0 + 1 ≤ 1 + a.val; omega)).trans ?_
    exact z _ _ _
  rw [if_neg h1, if_neg h1]
  refine (store_row VO0_13 _ 0 inb_S8x1024_S1x1024_0_0 _ _ r l).trans ?_
  by_cases h0 : r.val = 0
  · rw [if_pos h0, if_pos h0]
    refine (pay27_at (S := fun _ => 0) (u_at arg1 harg1 arg2 harg2 arg3 harg3 arg4 harg4 b) (pay17_at (x_at arg6 harg6 b)) (fun a l => ?_) 0 l).trans (by beta_reduce; rw [zero_add])
    refine (load_apply arg14.view _ 0 0 inb_S8x1024_S1x1024_0_0 a l (by omega) (by omega)).trans ?_
    exact z _ _ _
  rw [if_neg h0, if_neg h0]
  exact z _ _ _

include b in
theorem st_B (hc0 : ¬cond0_0 i) (hS : Is2 xo S) : Is2 (out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo) fun r l => S r l + sums D H E X Z M A W1 W2 G 256 r l := by
  have z : ∀ (k : Fin 8) (inb), Is2 (View.readAt (Elt Ideal) arg14.view (Rect.unit (s := S8x1024) ![k.val, 0] S1x1024.size inb).toLoadRect (harg14.unread xo)) fun _ l => S k.val l :=
    fun k inb => load_row harg14 (f := fun l => (S k.val l : EReal)) k.val k.isLt (fun l => hS k l) inb
  intro r l
  unfold out0_B_13 kernelRun0_B
  dsimp only
  unfold sums
  refine (store_row arg14.view _ 4 inb_S8x1024_S1x1024_4_0 _ _ r l).trans ?_
  by_cases h4 : r.val = 4
  · rw [if_pos h4, if_pos h4, h4]
    exact pay2_at (S := fun l => S 4 l) (n_at arg1 harg1 arg2 harg2 arg3 harg3 arg4 harg4 arg5 harg5 arg7 harg7 arg9 harg9 arg10 harg10 b) (m_at arg8 harg8 b) (z 4 inb_S8x1024_S1x1024_4_0) 0 l
  rw [if_neg h4, if_neg h4]
  refine (store_row arg14.view _ 3 inb_S8x1024_S1x1024_3_0 _ _ r l).trans ?_
  by_cases h3 : r.val = 3
  · rw [if_pos h3, if_pos h3, h3]
    exact pay1_at (S := fun l => S 3 l) (y_at arg1 harg1 arg2 harg2 arg3 harg3 arg4 harg4 arg5 harg5 arg9 harg9 b) (z 3 inb_S8x1024_S1x1024_3_0) 0 l
  rw [if_neg h3, if_neg h3]
  refine (store_row arg14.view _ 2 inb_S8x1024_S1x1024_2_0 _ _ r l).trans ?_
  by_cases h2 : r.val = 2
  · rw [if_pos h2, if_pos h2, h2]
    exact pay29_at (S := fun l => S 2 l) (y_at arg1 harg1 arg2 harg2 arg3 harg3 arg4 harg4 arg5 harg5 arg9 harg9 b) (pay21_at (z_at arg7 harg7 b)) (z 2 inb_S8x1024_S1x1024_2_0) 0 l
  rw [if_neg h2, if_neg h2]
  refine (store_row arg14.view _ 1 inb_S8x1024_S1x1024_1_0 _ _ r l).trans ?_
  by_cases h1 : r.val = 1
  · rw [if_pos h1, if_pos h1, h1]
    exact pay28_at (S := fun l => S 1 l) (u_at arg1 harg1 arg2 harg2 arg3 harg3 arg4 harg4 b) (z 1 inb_S8x1024_S1x1024_1_0) 0 l
  rw [if_neg h1, if_neg h1]
  refine (store_row arg14.view _ 0 inb_S8x1024_S1x1024_0_0 _ _ r l).trans ?_
  by_cases h0 : r.val = 0
  · rw [if_pos h0, if_pos h0, h0]
    exact pay27_at (S := fun l => S 0 l) (u_at arg1 harg1 arg2 harg2 arg3 harg3 arg4 harg4 b) (pay17_at (x_at arg6 harg6 b)) (z 0 inb_S8x1024_S1x1024_0_0) 0 l
  rw [if_neg h0, if_neg h0]
  rw [View.writes_nil, harg14.read_unread, hS, add_zero]

end Cert.ReluIdeal.Rows

end
-- ==== Proof.ReluRef.lean ====
/- The reference of the feed-forward layer's gradient over the reals: the host lines up to the activation and the transposed lines, read entry by entry. -/
module

public import proofs.«01_k».proof.Proof.LossRef
public import proofs.«01_k».proof.Proof.ReluRows
public import proofs.«01_k».proof.Proof.Gen.ReluRefIdeal

@[expose] public section

set_option maxRecDepth 16384

noncomputable section

namespace Cert.ReluRefIdeal.Soft

open Idealize.ShloMosaic Idealize.ShloMosaic.TcCoe Cert.ReluRefIdeal Cert.ReluRefIdeal.Gen Cert.Reals Cert.Scalars Cert.Norms Cert.Layer
open Cert.LossRefIdeal.Soft (all all_at mulA mulA_at addA addA_at normed normed_at gain gain_at scale scale_at grad grad_at total total_at row4 row4_at modIn modIn_at inner inner_at cut cut_at inMix inMix_at half halfH)
open Cert.ReluIdeal.Rows (dh du dx dn)

def row2 (a : Vec Ideal S6x1024 .f32) : Vec Ideal S1x1024 .f32 := extractStridedSlice S1x1024 ![2, 0] a slices_S6x1024_S1x1024_2_0

/-- What the first norm takes. -/
def before (x y : Vec Ideal S8192x1024 .f32) (a : Vec Ideal S6x1024 .f32) : Vec Ideal S8192x1024 .f32 := addA (mulA (all 0x3F9837F0#32) x) (mulA (scale (row2 a)) y)

/-- What it leaves. -/
def after (z : Vec Ideal S8192x1024 .f32) (g b : Vec Ideal S1x1024 .f32) : Vec Ideal S8192x1024 .f32 := addA (mulA (normed z) (gain g)) (gain b)

def allH (b : BitVec 32) : Vec Ideal S8192x4096 .f32 := broadcastInDim S8192x4096 ![] bcast_S_S8192x4096 (constant (F := Ideal) S_ .f32 b)

/-- The outer product's transpose. -/
def outT (d : Vec Ideal S8192x1024 .bf16) (w : Vec Ideal S4096x1024 .bf16) : Vec Ideal S8192x4096 .f32 :=
  Host.dotGeneral (F := Ideal) (φ₁ := .f32) (φ₂ := .f32) dot_S8192x1024_S4096x1024_S8192x4096_1_1_0_0_n_n none (extf (F := Ideal) (φ := .bf16) .f32 d bitsLt_bf16_f32) (extf (F := Ideal) (φ := .bf16) .f32 w bitsLt_bf16_f32)

/-- The activation's gradient. -/
def dHid (h : Vec Ideal S8192x4096 .f32) (d : Vec Ideal S8192x1024 .bf16) (w : Vec Ideal S4096x1024 .bf16) : Vec Ideal S8192x4096 .f32 :=
  select (cmpf (F := Ideal) (φ := .f32) .ogt h (allH 0x00000000#32)) (mulf (F := Ideal) (φ := .f32) (outT d w) (mulf (F := Ideal) (φ := .f32) (allH 0x40000000#32) (cut h))) (allH 0x00000000#32)

/-- The inner product's transpose. -/
def inT (p : Vec Ideal S8192x4096 .f32) (w : Vec Ideal S1024x4096 .bf16) : Vec Ideal S8192x1024 .f32 :=
  Host.dotGeneral (F := Ideal) (φ₁ := .f32) (φ₂ := .f32) dot_S8192x4096_S1024x4096_S8192x1024_1_1_0_0_n_n none p (extf (F := Ideal) (φ := .bf16) .f32 w bitsLt_bf16_f32)

/-- The gradient that reaches the norm's output, with the residual's own part. -/
def dMid (e u : Vec Ideal S8192x1024 .f32) (a : Vec Ideal S6x1024 .f32) : Vec Ideal S8192x1024 .f32 := addA e (mulA u (scale (row4 a)))

/-- The gradient of what the norm takes. -/
def dTop (z y : Vec Ideal S8192x1024 .f32) (g : Vec Ideal S1x1024 .f32) : Vec Ideal S8192x1024 .f32 := grad z (mulA (shapeCast S8192x1024 y shapeCasts_S8192x1024_S8192x1024) (gain g))

def outS (z x u y n o : Vec Ideal S8192x1024 .f32) : Vec Ideal S8x1024 .f32 :=
  concatenate S8x1024 0 [⟨S1x1024, total (mulA x u)⟩, ⟨S1x1024, total u⟩, ⟨S1x1024, total (mulA (normed z) (shapeCast S8192x1024 y shapeCasts_S8192x1024_S8192x1024))⟩, ⟨S1x1024, total y⟩,
    ⟨S1x1024, total (mulA n o)⟩, ⟨S3x1024, broadcastInDim S3x1024 ![] bcast_S_S3x1024 (constant (F := Ideal) S_ .f32 0x00000000#32)⟩]
    concatenates_S1x1024_S1x1024_S1x1024_S1x1024_S1x1024_S3x1024_S8x1024_d0

variable {x y z u e n o : Vec Ideal S8192x1024 .f32} {h p : Vec Ideal S8192x4096 .f32} {d : Vec Ideal S8192x1024 .bf16} {a : Vec Ideal S6x1024 .f32} {w1 : Vec Ideal S1024x4096 .bf16}
  {w2 : Vec Ideal S4096x1024 .bf16} {g b : Vec Ideal S1x1024 .f32} {X Y Z U E N O H D P A W1 W2 G B : ℕ → ℕ → ℝ}

theorem row2_at (ha : Is2 a A) : Is2 (row2 a) fun _ l => A 2 l := by
  intro r l
  pointwise [row2]
  exact (ha _ _).trans (by simp)

theorem before_at (hx : Is2 x X) (hy : Is2 y Y) (ha : Is2 a A) : Is2 (before x y a) fun r l => al * X r l + (1 + A 2 l) * Y r l :=
  addA_at (mulA_at (all_at al_bits) hx) (mulA_at (scale_at (row2_at ha)) hy)

theorem after_at (hz : Is2 z Z) (hg : Is2 g G) (hb : Is2 b B) : Is2 (after z g b) fun r l => xh 1024 (Z r) l * G 0 l + B 0 l :=
  addA_at (mulA_at (normed_at hz) (gain_at hg)) (gain_at hb)

theorem outT_at (hd : Is2 d D) (hw : Is2 w2 W2) : Is2 (outT d w2) fun r j => ∑ k ∈ Finset.range 1024, D r k * W2 j k := by
  intro r l
  pointwise [outT]
  simp only [hd _ _, hw _ _, ← EReal.coe_mul, ← coe_sum]
  rw [Finset.sum_range]

theorem dHid_at (hh : Is2 h H) (hd : Is2 d D) (hw : Is2 w2 W2) : Is2 (dHid h d w2) fun r => dh (D r) (H r) W2 := by
  have k := cut_at hh
  have q := outT_at hd hw
  intro r l
  unfold dHid
  generalize cut h = c at k ⊢
  generalize outT d w2 = t at q ⊢
  pointwise [allH]
  rw [hh, k, q, bits_two, dh]
  by_cases s : 0 < H r l
  · simp [s, -EReal.coe_mul, ← EReal.coe_mul]
  · simp [s, max_eq_right (not_lt.1 s)]

theorem inT_at (hp : Is2 p P) (hw : Is2 w1 W1) : Is2 (inT p w1) fun r l => ∑ j ∈ Finset.range 4096, P r j * W1 l j := by
  intro r l
  pointwise [inT]
  simp only [hp _ _, hw _ _, ← EReal.coe_mul, ← coe_sum]
  rw [Finset.sum_range]

theorem du_at (hh : Is2 h H) (hd : Is2 d D) (hw : Is2 w1 W1) (hv : Is2 w2 W2) : Is2 (inT (dHid h d w2) w1) fun r => du (D r) (H r) W1 W2 := inT_at (dHid_at hh hd hv) hw

theorem same_at (hy : Is2 y Y) : Is2 (shapeCast S8192x1024 y shapeCasts_S8192x1024_S8192x1024) Y := by
  intro r l
  pointwise
  exact hy _ _

theorem dMid_at (he : Is2 e E) (hu : Is2 u fun r => du (D r) (H r) W1 W2) (ha : Is2 a A) : Is2 (dMid e u a) fun r => dx (D r) (H r) (E r) A W1 W2 :=
  addA_at he (mulA_at hu (scale_at (row4_at ha)))

theorem dTop_at (hz : Is2 z Z) (hy : Is2 y fun r => dx (D r) (H r) (E r) A W1 W2) (hg : Is2 g G) : Is2 (dTop z y g) fun r => dn (D r) (H r) (E r) (Z r) (G 0) A W1 W2 :=
  grad_at hz (mulA_at (same_at hy) (gain_at hg))

/-- Six pieces under each other. -/
theorem six_at {p q s v t : Vec Ideal S1x1024 .f32} {P Q S V T : ℕ → ℝ} (hp : Is2 p fun _ l => P l) (hq : Is2 q fun _ l => Q l) (hs : Is2 s fun _ l => S l) (hv : Is2 v fun _ l => V l)
    (ht : Is2 t fun _ l => T l) :
    Is2 (concatenate S8x1024 0 [⟨S1x1024, p⟩, ⟨S1x1024, q⟩, ⟨S1x1024, s⟩, ⟨S1x1024, v⟩, ⟨S1x1024, t⟩,
      ⟨S3x1024, broadcastInDim S3x1024 ![] bcast_S_S3x1024 (constant (F := Ideal) S_ .f32 0x00000000#32)⟩] concatenates_S1x1024_S1x1024_S1x1024_S1x1024_S1x1024_S3x1024_S8x1024_d0 : Vec Ideal S8x1024 .f32)
      fun r l => if r = 4 then T l else if r = 3 then V l else if r = 2 then S l else if r = 1 then Q l else if r = 0 then P l else 0 := by
  intro r l
  pointwise
  obtain ⟨n, hn⟩ := r
  by_cases h0 : n < 1
  · obtain rfl : n = 0 := by omega
    exact (dif_pos h0).trans (hp _ _)
  refine (dif_neg h0).trans ?_
  by_cases h1 : n - 1 < 1
  · obtain rfl : n = 1 := by omega
    exact (dif_pos h1).trans (hq _ _)
  refine (dif_neg h1).trans ?_
  by_cases h2 : n - 1 - 1 < 1
  · obtain rfl : n = 2 := by omega
    exact (dif_pos h2).trans (hs _ _)
  refine (dif_neg h2).trans ?_
  by_cases h3 : n - 1 - 1 - 1 < 1
  · obtain rfl : n = 3 := by omega
    exact (dif_pos h3).trans (hv _ _)
  refine (dif_neg h3).trans ?_
  by_cases h4 : n - 1 - 1 - 1 - 1 < 1
  · obtain rfl : n = 4 := by omega
    exact (dif_pos h4).trans (ht _ _)
  refine (dif_neg h4).trans ?_
  rw [if_neg (show ¬n = 4 by omega), if_neg (show ¬n = 3 by omega), if_neg (show ¬n = 2 by omega), if_neg (show ¬n = 1 by omega), if_neg (show ¬n = 0 by omega)]
  rfl

theorem outS_at (hz : Is2 z Z) (hx : Is2 x X) (hu : Is2 u U) (hy : Is2 y Y) (hn : Is2 n N) (ho : Is2 o O) : Is2 (outS z x u y n o) fun r l =>
    if r = 4 then ∑ i ∈ Finset.range 8192, N i l * O i l
    else if r = 3 then ∑ i ∈ Finset.range 8192, Y i l
    else if r = 2 then ∑ i ∈ Finset.range 8192, xh 1024 (Z i) l * Y i l
    else if r = 1 then ∑ i ∈ Finset.range 8192, U i l
    else if r = 0 then ∑ i ∈ Finset.range 8192, X i l * U i l else 0 :=
  six_at (total_at (mulA_at hx hu)) (total_at hu) (total_at (mulA_at (normed_at hz) (same_at hy))) (total_at hy) (total_at (mulA_at hn ho))

section Launch

variable (x0 x1 : Vec Ideal S8192x1024 .f32) (a : Vec Ideal S6x1024 .f32) (w1 : Vec Ideal S1024x4096 .bf16) (w2 : Vec Ideal S4096x1024 .bf16) (g b : Vec Ideal S1x1024 .f32)
  (d : Vec Ideal S8192x1024 .bf16) (e : Vec Ideal S8192x1024 .f32)

/-- The norm's output at the arguments. -/
abbrev xL : Vec Ideal S8192x1024 .f32 := after (before x0 x1 a) g b

/-- The inner layer before its activation, at the arguments. -/
abbrev hL : Vec Ideal S8192x4096 .f32 := inner (modIn (xL x0 x1 a g b) a) w1

abbrev pL : Vec Ideal S8192x4096 .f32 := dHid (hL x0 x1 a w1 g b) d w2

abbrev uL : Vec Ideal S8192x1024 .f32 := inT (pL x0 x1 a w1 w2 g b d) w1

abbrev yL : Vec Ideal S8192x1024 .f32 := dMid e (uL x0 x1 a w1 w2 g b d) a

abbrev nL : Vec Ideal S8192x1024 .f32 := dTop (before x0 x1 a) (yL x0 x1 a w1 w2 g b d e) g

abbrev sL : Vec Ideal S8x1024 .f32 := outS (before x0 x1 a) (xL x0 x1 a g b) (uL x0 x1 a w1 w2 g b d) (yL x0 x1 a w1 w2 g b d e) (nL x0 x1 a w1 w2 g b d e) x1

end Launch

variable (m : (ℓ : Loc nD τ sig) → Buf (Elt Ideal) ℓ)

open Idealize.SL.Sem StableHlo in
set_option maxHeartbeats 4000000 in
/-- What the reference leaves: every result as a function of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v129) = halfH (pL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg9)))
      ∧ r.2.mem ((c : Thread nD τ).loc main_v123) = mulA (all 0x3F9837F0#32) (nL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg9))
        (m ((c : Thread nD τ).loc main_arg10)))
      ∧ r.2.mem ((c : Thread nD τ).loc main_v130) = half (mulA (scale (row2 (m ((c : Thread nD τ).loc main_arg2)))) (nL (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg9)) (m ((c : Thread nD τ).loc main_arg10))))
      ∧ r.2.mem ((c : Thread nD τ).loc main_v128) = sL (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg9))
        (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine θ_run_mono (run_hlo defs main (by hlo_seq) (by decide) (by decide) (by simp)
    (by intro _ h; (repeat (cases h with | head => rfl | tail _ h => ?_)); exact nomatch h) m ρ) fun r h => ?_
  refine fun c => ⟨?_, ?_, ?_, ?_, ?_, ?_, ?_, ?_, ?_, ?_, ?_, ?_, ?_, ?_, ?_⟩ <;> refine (h c _).trans ?_ <;> after_results_simp <;> rfl

end Cert.ReluRefIdeal.Soft

end
-- ==== Proof.ReluRun.lean ====
/- The feed-forward gradient's call over its grid: what the four results hold when the arguments are real numbers. -/
module

public import proofs.«01_k».proof.Proof.ReluPoint
public import proofs.«01_k».proof.Proof.ReluRef
public import proofs.«01_k».proof.Proof.LossRun
public import Idealize.ShloMosaic.Lib.UnfoldOut
public import Idealize.ShloMosaic.Lib.Pipeline.ValueKit

@[expose] public section

set_option maxRecDepth 16384

noncomputable section

namespace Cert.ReluIdeal.Rows

open Idealize.ShloMosaic Idealize.ShloMosaic.TcCoe Cert.ReluIdeal Cert.ReluIdeal.Gen Cert.Reals Cert.Scalars Cert.Blocks
open Cert.Layer (al mo pre sqp xh)
open Cert.LossIdeal.Rows (four split8 split8_at)
open Cert.LossRefIdeal.Soft (inMix inMix_at halfH)
open Cert.ReluRefIdeal.Soft (before after before_at after_at)

/-- What the first norm takes. -/
def zz (X M A : ℕ → ℕ → ℝ) (r l : ℕ) : ℝ := al * X r l + (1 + A 2 l) * M r l

/-- What it leaves. -/
def xx (X M A G B : ℕ → ℕ → ℝ) (r l : ℕ) : ℝ := xh 1024 (zz X M A r) l * G 0 l + B 0 l

/-- The inner layer before its activation. -/
def hh (X M A W1 G B : ℕ → ℕ → ℝ) (r j : ℕ) : ℝ := pre W1 (mo (xx X M A G B r) A) j

theorem sums_next (D H E X Z M A W1 W2 : ℕ → ℕ → ℝ) (G : ℕ → ℝ) (n r l : ℕ) : sums D H E X Z M A W1 W2 G (n + 256) r l
    = sums D H E X Z M A W1 W2 G n r l + sums (fun i => D (n + i)) (fun i => H (n + i)) (fun i => E (n + i)) (fun i => X (n + i)) (fun i => Z (n + i)) (fun i => M (n + i)) A W1 W2 G 256 r l := by
  unfold sums
  split
  · exact Finset.sum_range_add _ _ _
  · split
    · exact Finset.sum_range_add _ _ _
    · split
      · exact Finset.sum_range_add _ _ _
      · split
        · exact Finset.sum_range_add _ _ _
        · split
          · exact Finset.sum_range_add _ _ _
          · exact (add_zero _).symm

theorem padded {a : Vec Ideal S6x1024 .f32} {P : ℕ → ℕ → ℝ} (ha : Is2 a P) (v : Vec Ideal S_ .f32) (l : Fin 1024) :
    pad S8x1024 ![0, 0] ![2, 0] ![0, 0] a v pads_S6x1024_S8x1024_020_000 h_S_ (ix2 2 l) = (P 2 l : EReal)
    ∧ pad S8x1024 ![0, 0] ![2, 0] ![0, 0] a v pads_S6x1024_S8x1024_020_000 h_S_ (ix2 4 l) = (P 4 l : EReal) := by
  constructor
  · pointwise
    exact ha 2 l
  · pointwise
    exact ha 4 l

theorem first_at {p q g b : Vec Ideal S1x1024 .f32} {P : ℕ → ℕ → ℝ} (hp : Is2 p P) (v : Vec Ideal S_ .f32) (l : Fin 1024) : four p q g b v (ix2 0 l) = (P 0 l : EReal) := by
  pointwise [four]
  exact hp 0 l

variable (m : (ℓ : Loc nD τ sig) → Buf (Elt Ideal) ℓ) (c : Dev nD)

/-- The arguments are real numbers. -/
structure Args (X M A W1 W2 G B D E : ℕ → ℕ → ℝ) : Prop where
  hx : Is2 (m ((c : Thread nD τ).loc main_arg0) : Vec Ideal S8192x1024 .f32) X
  hm : Is2 (m ((c : Thread nD τ).loc main_arg1) : Vec Ideal S8192x1024 .f32) M
  ha : Is2 (m ((c : Thread nD τ).loc main_arg2) : Vec Ideal S6x1024 .f32) A
  hw : Is2 (m ((c : Thread nD τ).loc main_arg3) : Vec Ideal S1024x4096 .bf16) W1
  hv : Is2 (m ((c : Thread nD τ).loc main_arg4) : Vec Ideal S4096x1024 .bf16) W2
  hg : Is2 (m ((c : Thread nD τ).loc main_arg5) : Vec Ideal S1x1024 .f32) G
  hb : Is2 (m ((c : Thread nD τ).loc main_arg6) : Vec Ideal S1x1024 .f32) B
  hd : Is2 (m ((c : Thread nD τ).loc main_arg9) : Vec Ideal S8192x1024 .bf16) D
  he : Is2 (m ((c : Thread nD τ).loc main_arg10) : Vec Ideal S8192x1024 .f32) E

theorem V_ada : (V m c main_v0 : Vec Ideal S8x1024 .f32) = pad S8x1024 ![0, 0] ![2, 0] ![0, 0] (m ((c : Thread nD τ).loc main_arg2)) (sitofp (F := Ideal) .f32 (constantI S_ 32 0#32)) pads_S6x1024_S8x1024_020_000 h_S_ := by
  unfold_abbrev_sides
  simp only [hostOps0, hostOps0_1, hostOps0_2, hostOps0_3, hostOps0_4, hostOps0_5, hostOps0_6, List.flatten_cons, List.flatten_nil, List.append_nil, List.cons_append, List.nil_append]
  after_results_simp
  rfl

theorem V_gains : (V m c main_v2 : Vec Ideal S8x1024 .f32) = four (m ((c : Thread nD τ).loc main_arg5)) (m ((c : Thread nD τ).loc main_arg6)) (m ((c : Thread nD τ).loc main_arg7))
    (m ((c : Thread nD τ).loc main_arg8)) (sitofp (F := Ideal) .f32 (constantI S_ 32 0#32)) := by
  unfold_abbrev_sides
  simp only [hostOps0, hostOps0_1, hostOps0_2, hostOps0_3, hostOps0_4, hostOps0_5, hostOps0_6, List.flatten_cons, List.flatten_nil, List.append_nil, List.cons_append, List.nil_append]
  after_results_simp
  rfl

theorem V_w : (V m c main_v4 : Vec Ideal S8x1024x512 .bf16) = split8 (m ((c : Thread nD τ).loc main_arg3)) := by
  unfold_abbrev_sides
  simp only [hostOps0, hostOps0_1, hostOps0_2, hostOps0_3, hostOps0_4, hostOps0_5, hostOps0_6, List.flatten_cons, List.flatten_nil, List.append_nil, List.cons_append, List.nil_append]
  after_results_simp
  rfl

theorem V_z : (V m c main_v14 : Vec Ideal S8192x1024 .f32) = before (m ((c : Thread nD τ).loc main_arg0)) (m ((c : Thread nD τ).loc main_arg1)) (m ((c : Thread nD τ).loc main_arg2)) := by
  unfold_abbrev_sides
  simp only [hostOps0, hostOps0_1, hostOps0_2, hostOps0_3, hostOps0_4, hostOps0_5, hostOps0_6, List.flatten_cons, List.flatten_nil, List.append_nil, List.cons_append, List.nil_append]
  after_results_simp
  rfl

theorem V_x : (V m c main_v40 : Vec Ideal S8192x1024 .f32) = after (before (m ((c : Thread nD τ).loc main_arg0)) (m ((c : Thread nD τ).loc main_arg1)) (m ((c : Thread nD τ).loc main_arg2))) (m ((c : Thread nD τ).loc main_arg5)) (m ((c : Thread nD τ).loc main_arg6)) := by
  unfold_abbrev_sides
  simp only [hostOps0, hostOps0_1, hostOps0_2, hostOps0_3, hostOps0_4, hostOps0_5, hostOps0_6, List.flatten_cons, List.flatten_nil, List.append_nil, List.cons_append, List.nil_append]
  after_results_simp
  rfl

theorem V_hid : (V m c main_v57 : Vec Ideal S8192x4096 .bf16) = halfH (inMix (after (before (m ((c : Thread nD τ).loc main_arg0)) (m ((c : Thread nD τ).loc main_arg1)) (m ((c : Thread nD τ).loc main_arg2))) (m ((c : Thread nD τ).loc main_arg5)) (m ((c : Thread nD τ).loc main_arg6))) (m ((c : Thread nD τ).loc main_arg2)) (m ((c : Thread nD τ).loc main_arg3))) := by
  unfold_abbrev_sides
  simp only [hostOps0, hostOps0_1, hostOps0_2, hostOps0_3, hostOps0_4, hostOps0_5, hostOps0_6, List.flatten_cons, List.flatten_nil, List.append_nil, List.cons_append, List.nil_append]
  after_results_simp
  rfl

theorem idx (t : Fin cfg0.N) : win0_0.index t = ![t.val, 0] ∧ win0_1.index t = ![t.val, 0] ∧ win0_2.index t = ![0, 0, 0] ∧ win0_3.index t = ![0, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] ∧ win0_10.index t = ![t.val, 0] ∧ win0_11.index t = ![t.val, 0] ∧ win0_12.index t = ![t.val, 0] ∧ win0_13.index t = ![0, 0] := by
  revert t; decide +kernel

theorem pts (t : Fin cfg0.N) : t.val < 32 := t.isLt

theorem read_0 {f : Vec Ideal S8192x1024 .bf16} {φ : ℕ → ℕ → ℝ} (h : Is2 f φ) (t : Fin cfg0.N) :
    Is2 (((cfg0.win 0).blk t).view.read (Elt Ideal) f : Vec Ideal S256x1024 .bf16) fun a k => φ (256 * t.val + a) k := by
  intro a k
  have ht := pts t
  have e : ((cfg0.win 0).blk t).view.read (Elt Ideal) f (ix2 a k) = f (ix2 ⟨256 * t.val + a.val, by omega⟩ k) := by
    blk_ext [idx t]
  exact e.trans (h _ _)

theorem read_1 {f : Vec Ideal S8192x4096 .bf16} {φ : ℕ → ℕ → ℝ} (h : Is2 f φ) (t : Fin cfg0.N) :
    Is2 (((cfg0.win 1).blk t).view.read (Elt Ideal) f : Vec Ideal S256x4096 .bf16) fun a k => φ (256 * t.val + a) k := by
  intro a k
  have ht := pts t
  have e : ((cfg0.win 1).blk t).view.read (Elt Ideal) f (ix2 a k) = f (ix2 ⟨256 * t.val + a.val, by omega⟩ k) := by
    blk_ext [idx t]
  exact e.trans (h _ _)

theorem read_2 {f : Vec Ideal S8x1024x512 .bf16} {φ : ℕ → ℕ → ℕ → ℝ} (h : Is3 f φ) (t : Fin cfg0.N) : Is3 (((cfg0.win 2).blk t).view.read (Elt Ideal) f : Vec Ideal S8x1024x512 .bf16) φ := by
  intro d a k
  have e : ((cfg0.win 2).blk t).view.read (Elt Ideal) f (ix3 d a k) = f (ix3 d a k) := by
    blk_ext [idx t]
  exact e.trans (h _ _ _)

theorem read_3 {f : Vec Ideal S4096x1024 .bf16} {φ : ℕ → ℕ → ℝ} (h : Is2 f φ) (t : Fin cfg0.N) :
    Is2 (((cfg0.win 3).blk t).view.read (Elt Ideal) f : Vec Ideal S4096x1024 .bf16) fun a k => φ a k := by
  intro a k
  have ht := pts t
  have e : ((cfg0.win 3).blk t).view.read (Elt Ideal) f (ix2 a k) = f (ix2 a k) := by
    blk_ext [idx t]
  exact e.trans (h _ _)

theorem read_4 {f : Vec Ideal S8192x1024 .f32} {φ : ℕ → ℕ → ℝ} (h : Is2 f φ) (t : Fin cfg0.N) :
    Is2 (((cfg0.win 4).blk t).view.read (Elt Ideal) f : Vec Ideal S256x1024 .f32) fun a k => φ (256 * t.val + a) k := by
  intro a k
  have ht := pts t
  have e : ((cfg0.win 4).blk t).view.read (Elt Ideal) f (ix2 a k) = f (ix2 ⟨256 * t.val + a.val, by omega⟩ k) := by
    blk_ext [idx t]
  exact e.trans (h _ _)

theorem read_5 {f : Vec Ideal S8192x1024 .f32} {φ : ℕ → ℕ → ℝ} (h : Is2 f φ) (t : Fin cfg0.N) :
    Is2 (((cfg0.win 5).blk t).view.read (Elt Ideal) f : Vec Ideal S256x1024 .f32) fun a k => φ (256 * t.val + a) k := by
  intro a k
  have ht := pts t
  have e : ((cfg0.win 5).blk t).view.read (Elt Ideal) f (ix2 a k) = f (ix2 ⟨256 * t.val + a.val, by omega⟩ k) := by
    blk_ext [idx t]
  exact e.trans (h _ _)

theorem read_6 {f : Vec Ideal S8192x1024 .f32} {φ : ℕ → ℕ → ℝ} (h : Is2 f φ) (t : Fin cfg0.N) :
    Is2 (((cfg0.win 6).blk t).view.read (Elt Ideal) f : Vec Ideal S256x1024 .f32) fun a k => φ (256 * t.val + a) k := by
  intro a k
  have ht := pts t
  have e : ((cfg0.win 6).blk t).view.read (Elt Ideal) f (ix2 a k) = f (ix2 ⟨256 * t.val + a.val, by omega⟩ k) := by
    blk_ext [idx t]
  exact e.trans (h _ _)

theorem read_7 {f : Vec Ideal S8192x1024 .f32} {φ : ℕ → ℕ → ℝ} (h : Is2 f φ) (t : Fin cfg0.N) :
    Is2 (((cfg0.win 7).blk t).view.read (Elt Ideal) f : Vec Ideal S256x1024 .f32) fun a k => φ (256 * t.val + a) k := by
  intro a k
  have ht := pts t
  have e : ((cfg0.win 7).blk t).view.read (Elt Ideal) f (ix2 a k) = f (ix2 ⟨256 * t.val + a.val, by omega⟩ k) := by
    blk_ext [idx t]
  exact e.trans (h _ _)

theorem read_8 (f : Vec Ideal S8x1024 .f32) (t : Fin cfg0.N) (a : Fin 8) (k : Fin 1024) : (((cfg0.win 8).blk t).view.read (Elt Ideal) f : Vec Ideal S8x1024 .f32) (ix2 a k) = f (ix2 a k) := by
  blk_ext [idx t]

theorem read_9 (f : Vec Ideal S8x1024 .f32) (t : Fin cfg0.N) (a : Fin 8) (k : Fin 1024) : (((cfg0.win 9).blk t).view.read (Elt Ideal) f : Vec Ideal S8x1024 .f32) (ix2 a k) = f (ix2 a k) := by
  blk_ext [idx t]

variable {m c} {X M A W1 W2 G B D E : ℕ → ℕ → ℝ} (L : Args m c X M A W1 W2 G B D E)
include L

theorem z_val : Is2 (V m c main_v14 : Vec Ideal S8192x1024 .f32) (zz X M A) := by
  rw [V_z]
  exact before_at L.hx L.hm L.ha

theorem x_val : Is2 (V m c main_v40 : Vec Ideal S8192x1024 .f32) (xx X M A G B) := by
  rw [V_x]
  exact after_at (before_at L.hx L.hm L.ha) L.hg L.hb

theorem h_val : Is2 (V m c main_v57 : Vec Ideal S8192x4096 .bf16) fun r j => sqp (hh X M A W1 G B r j) := by
  rw [V_hid]
  exact inMix_at (after_at (before_at L.hx L.hm L.ha) L.hg L.hb) L.ha L.hw

/-- The blocks of a point. -/
theorem ops (t : Fin cfg0.N) : Blk (iblk m c 0 t) (iblk m c 1 t) (iblk m c 2 t) (iblk m c 3 t) (iblk m c 4 t) (iblk m c 5 t) (iblk m c 6 t) (iblk m c 7 t) (iblk m c 8 t) (iblk m c 9 t)
    (fun i => D (256 * t.val + i)) (fun i => hh X M A W1 G B (256 * t.val + i)) (fun i => E (256 * t.val + i)) (fun i => xx X M A G B (256 * t.val + i)) (fun i => zz X M A (256 * t.val + i)) (fun i => M (256 * t.val + i)) A W1 W2 (G 0) where
  hd := read_0 (f := Gen.V m c main_arg9) (by rw [V_main_arg9]; exact L.hd) t
  hh := read_1 (f := Gen.V m c main_v57) (h_val L) t
  hw := read_2 (f := Gen.V m c main_v4) (by rw [V_w]; exact split8_at L.hw) t
  hv := read_3 (f := Gen.V m c main_arg4) (by rw [V_main_arg4]; exact L.hv) t
  he := read_4 (f := Gen.V m c main_arg10) (by rw [V_main_arg10]; exact L.he) t
  hx := read_5 (f := Gen.V m c main_v40) (x_val L) t
  hz := read_6 (f := Gen.V m c main_v14) (z_val L) t
  hm := read_7 (f := Gen.V m c main_arg1) (by rw [V_main_arg1]; exact L.hm) t
  h2 l := (read_8 (Gen.V m c main_v0) t 2 l).trans (by rw [V_ada]; exact (padded L.ha _ l).1)
  h4 l := (read_8 (Gen.V m c main_v0) t 4 l).trans (by rw [V_ada]; exact (padded L.ha _ l).2)
  hg l := (read_9 (Gen.V m c main_v2) t 0 l).trans (by rw [V_gains]; exact first_at L.hg _ l)

theorem rows_dh (t : Fin cfg0.N) : Is2 (outsAt0 m c t.val t.isLt).1 fun r => dh (D (256 * t.val + r)) (hh X M A W1 G B (256 * t.val + r)) W2 := by
  by_cases h : t.val % 32 = 0
  · have K := dh_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ops L t) ((hcond0_0 t).mpr h)
    rw [outsAt0_A m c t h]
    dsimp only
    exact K
  · have K := dh_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (xo := (outsAt0 m c (t.val - 1) (Nat.lt_of_le_of_lt (Nat.sub_le _ _) t.isLt)).2.2.2) (ops L t) (fun k => h ((hcond0_0 t).mp k))
    rw [outsAt0_B m c t h]
    dsimp only
    exact K

theorem rows_dxb (t : Fin cfg0.N) : Is2 (outsAt0 m c t.val t.isLt).2.1 fun r l => al * dn (D (256 * t.val + r)) (hh X M A W1 G B (256 * t.val + r)) (E (256 * t.val + r)) (zz X M A (256 * t.val + r)) (G 0) A W1 W2 l := by
  by_cases h : t.val % 32 = 0
  · have K := dxb_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ops L t) ((hcond0_0 t).mpr h)
    rw [outsAt0_A m c t h]
    dsimp only
    exact K
  · have K := dxb_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (xo := (outsAt0 m c (t.val - 1) (Nat.lt_of_le_of_lt (Nat.sub_le _ _) t.isLt)).2.2.2) (ops L t) (fun k => h ((hcond0_0 t).mp k))
    rw [outsAt0_B m c t h]
    dsimp only
    exact K

theorem rows_dmix (t : Fin cfg0.N) : Is2 (outsAt0 m c t.val t.isLt).2.2.1 fun r l => (1 + A 2 l) * dn (D (256 * t.val + r)) (hh X M A W1 G B (256 * t.val + r)) (E (256 * t.val + r)) (zz X M A (256 * t.val + r)) (G 0) A W1 W2 l := by
  by_cases h : t.val % 32 = 0
  · have K := dmix_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ops L t) ((hcond0_0 t).mpr h)
    rw [outsAt0_A m c t h]
    dsimp only
    exact K
  · have K := dmix_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (xo := (outsAt0 m c (t.val - 1) (Nat.lt_of_le_of_lt (Nat.sub_le _ _) t.isLt)).2.2.2) (ops L t) (fun k => h ((hcond0_0 t).mp k))
    rw [outsAt0_B m c t h]
    dsimp only
    exact K

theorem stats (n : ℕ) (hn : n < cfg0.N) : Is2 (outsAt0 m c n hn).2.2.2 (sums D (hh X M A W1 G B) E (xx X M A G B) (zz X M A) M A W1 W2 (G 0) (256 * n + 256)) := by
  induction n with
  | zero =>
    have K := st_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ops L ⟨0, hn⟩) ((hcond0_0 ⟨0, hn⟩).mpr rfl)
    rw [outsAt0_A m c ⟨0, hn⟩ rfl]
    dsimp only
    intro r l
    refine (K r l).trans (congrArg _ ?_)
    rw [sums_next]
    simp [sums]
  | succ n ih =>
    have hn' : n + 1 < 32 := hn
    have h : ¬(n + 1) % 32 = 0 := by omega
    have K := st_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ops L ⟨n + 1, hn⟩) (fun k => h ((hcond0_0 ⟨n + 1, hn⟩).mp k)) (ih (Nat.lt_of_succ_lt hn))
    rw [outsAt0_B m c ⟨n + 1, hn⟩ h]
    dsimp only
    intro r l
    refine (K r l).trans (congrArg _ ?_)
    rw [sums_next]
    rfl

omit L in
theorem arr_dh_of (f : ℕ → ℕ → ℝ) (h : ∀ t : Fin cfg0.N, Is2 (outsAt0 m c t.val t.isLt).1 fun a l => f (256 * t.val + a) l) :
    Is2 ((dats m 0 c).arrAt 10 cfg0.N : Vec Ideal S8192x4096 .bf16) f := by
  have K : (dats m 0 c).arrAt 10 cfg0.N = (fun x => ((f (x 0).val (x 1).val : ℝ) : EReal) : Vec Ideal S8192x4096 .bf16) := by
    refine (dats m 0 c).arrAt_eq_of_covers 10 _ (by decide +kernel) fun t hf y => ?_
    blk_simp
    rw [after0_10]
    obtain ⟨r, j, rfl⟩ : ∃ (r : Fin 256) (j : Fin 4096), y = ix2 r j := ⟨y 0, y 1, eq_ix2 y⟩
    refine (h t r j).trans ?_
    rw [(idx t).2.2.2.2.2.2.2.2.2.2.1]
    congr 2 <;> simp [Nat.mul_comm]
  intro r l
  exact congrFun K _

omit L in
theorem arr_dxb_of (f : ℕ → ℕ → ℝ) (h : ∀ t : Fin cfg0.N, Is2 (outsAt0 m c t.val t.isLt).2.1 fun a l => f (256 * t.val + a) l) :
    Is2 ((dats m 0 c).arrAt 11 cfg0.N : Vec Ideal S8192x1024 .f32) f := by
  have K : (dats m 0 c).arrAt 11 cfg0.N = (fun x => ((f (x 0).val (x 1).val : ℝ) : EReal) : Vec Ideal S8192x1024 .f32) := by
    refine (dats m 0 c).arrAt_eq_of_covers 11 _ (by decide +kernel) fun t hf y => ?_
    blk_simp
    rw [after0_11]
    obtain ⟨r, j, rfl⟩ : ∃ (r : Fin 256) (j : Fin 1024), y = ix2 r j := ⟨y 0, y 1, eq_ix2 y⟩
    refine (h t r j).trans ?_
    rw [(idx t).2.2.2.2.2.2.2.2.2.2.2.1]
    congr 2 <;> simp [Nat.mul_comm]
  intro r l
  exact congrFun K _

omit L in
theorem arr_dmix_of (f : ℕ → ℕ → ℝ) (h : ∀ t : Fin cfg0.N, Is2 (outsAt0 m c t.val t.isLt).2.2.1 fun a l => f (256 * t.val + a) l) :
    Is2 ((dats m 0 c).arrAt 12 cfg0.N : Vec Ideal S8192x1024 .bf16) f := by
  have K : (dats m 0 c).arrAt 12 cfg0.N = (fun x => ((f (x 0).val (x 1).val : ℝ) : EReal) : Vec Ideal S8192x1024 .bf16) := by
    refine (dats m 0 c).arrAt_eq_of_covers 12 _ (by decide +kernel) fun t hf y => ?_
    blk_simp
    rw [after0_12]
    obtain ⟨r, j, rfl⟩ : ∃ (r : Fin 256) (j : Fin 1024), y = ix2 r j := ⟨y 0, y 1, eq_ix2 y⟩
    refine (h t r j).trans ?_
    rw [(idx t).2.2.2.2.2.2.2.2.2.2.2.2.1]
    congr 2 <;> simp [Nat.mul_comm]
  intro r l
  exact congrFun K _

omit L in
theorem arr_st_of (f : ℕ → ℕ → ℝ) (h : ∀ t : Fin cfg0.N, t.val = 31 → Is2 (outsAt0 m c t.val t.isLt).2.2.2 f) :
    Is2 ((dats m 0 c).arrAt 13 cfg0.N : Vec Ideal S8x1024 .f32) f := by
  have K : (dats m 0 c).arrAt 13 cfg0.N = (fun x => ((f (x 0).val (x 1).val : ℝ) : EReal) : Vec Ideal S8x1024 .f32) := by
    refine (dats m 0 c).arrAt_eq_of_covers 13 _ (by decide +kernel) fun t hf y => ?_
    blk_simp
    rw [after0_13]
    obtain ⟨r, j, rfl⟩ : ∃ (r : Fin 8) (j : Fin 1024), y = ix2 r j := ⟨y 0, y 1, eq_ix2 y⟩
    have hf' := (flush0_13 t).1 hf
    have ht := pts t
    refine (h t (by omega) r j).trans ?_
    rw [(idx t).2.2.2.2.2.2.2.2.2.2.2.2.2]
    congr 2 <;> simp [Nat.mul_comm]
  intro r l
  exact congrFun K _

theorem arr_dh : Is2 ((dats m 0 c).arrAt 10 cfg0.N : Vec Ideal S8192x4096 .bf16) fun r => dh (D r) (hh X M A W1 G B r) W2 := arr_dh_of (fun r => dh (D r) (hh X M A W1 G B r) W2) (rows_dh L)

theorem arr_dxb : Is2 ((dats m 0 c).arrAt 11 cfg0.N : Vec Ideal S8192x1024 .f32) fun r l => al * dn (D r) (hh X M A W1 G B r) (E r) (zz X M A r) (G 0) A W1 W2 l := arr_dxb_of (fun r l => al * dn (D r) (hh X M A W1 G B r) (E r) (zz X M A r) (G 0) A W1 W2 l) (rows_dxb L)

theorem arr_dmix : Is2 ((dats m 0 c).arrAt 12 cfg0.N : Vec Ideal S8192x1024 .bf16) fun r l => (1 + A 2 l) * dn (D r) (hh X M A W1 G B r) (E r) (zz X M A r) (G 0) A W1 W2 l :=
  arr_dmix_of (fun r l => (1 + A 2 l) * dn (D r) (hh X M A W1 G B r) (E r) (zz X M A r) (G 0) A W1 W2 l) (rows_dmix L)

theorem arr_st : Is2 ((dats m 0 c).arrAt 13 cfg0.N : Vec Ideal S8x1024 .f32) (sums D (hh X M A W1 G B) E (xx X M A G B) (zz X M A) M A W1 W2 (G 0) 8192) :=
  arr_st_of _ fun t ht => by
    have K := stats L t.val t.isLt
    rw [show 256 * t.val + 256 = 8192 by omega] at K
    exact K

end Cert.ReluIdeal.Rows

end
-- ==== Proof.ReluClaim.lean ====
/- The feed-forward gradient's value claim: at finite arguments its results are the reference's. -/
module

public import proofs.«01_k».proof.Defs
public import proofs.«01_k».proof.Proof.ReluRun
public import proofs.«01_k».proof.Proof.Finite

@[expose] public section

set_option maxRecDepth 16384

noncomputable section

namespace Cert.ReluIdeal.Rows

open Idealize.ShloMosaic Idealize.ShloMosaic.TcCoe Cert.ReluIdeal Cert.ReluIdeal.Gen Cert.Reals
open Cert.Layer (al al_bits)
open Cert.LossRefIdeal.Soft (all all_at mulA mulA_at scale scale_at half halfH inner inner_at modIn modIn_at)
open Cert.ReluRefIdeal.Soft (before_at after_at dHid_at du_at dMid_at dTop_at outS_at row2 row2_at xL hL pL uL yL nL sL)

variable {m : (ℓ : Loc nD τ sig) → Buf (Elt Ideal) ℓ} {c : Dev nD} {X M A W1 W2 G B D E : ℕ → ℕ → ℝ} {x0 x1 : Vec Ideal S8192x1024 .f32} {a : Vec Ideal S6x1024 .f32}
  {w1 : Vec Ideal S1024x4096 .bf16} {w2 : Vec Ideal S4096x1024 .bf16} {g b : Vec Ideal S1x1024 .f32} {d : Vec Ideal S8192x1024 .bf16} {e : Vec Ideal S8192x1024 .f32}

theorem xL_at (h0 : Is2 x0 X) (h1 : Is2 x1 M) (ha : Is2 a A) (hg : Is2 g G) (hb : Is2 b B) : Is2 (xL x0 x1 a g b) (xx X M A G B) := after_at (before_at h0 h1 ha) hg hb

theorem hL_at (h0 : Is2 x0 X) (h1 : Is2 x1 M) (ha : Is2 a A) (hw : Is2 w1 W1) (hg : Is2 g G) (hb : Is2 b B) : Is2 (hL x0 x1 a w1 g b) (hh X M A W1 G B) :=
  inner_at (modIn_at (xL_at h0 h1 ha hg hb) ha) hw

theorem uL_at (h0 : Is2 x0 X) (h1 : Is2 x1 M) (ha : Is2 a A) (hw : Is2 w1 W1) (hv : Is2 w2 W2) (hg : Is2 g G) (hb : Is2 b B) (hd : Is2 d D) :
    Is2 (uL x0 x1 a w1 w2 g b d) fun r => du (D r) (hh X M A W1 G B r) W1 W2 := du_at (hL_at h0 h1 ha hw hg hb) hd hw hv

theorem yL_at (h0 : Is2 x0 X) (h1 : Is2 x1 M) (ha : Is2 a A) (hw : Is2 w1 W1) (hv : Is2 w2 W2) (hg : Is2 g G) (hb : Is2 b B) (hd : Is2 d D) (he : Is2 e E) :
    Is2 (yL x0 x1 a w1 w2 g b d e) fun r => dx (D r) (hh X M A W1 G B r) (E r) A W1 W2 := dMid_at he (uL_at h0 h1 ha hw hv hg hb hd) ha

theorem nL_at (h0 : Is2 x0 X) (h1 : Is2 x1 M) (ha : Is2 a A) (hw : Is2 w1 W1) (hv : Is2 w2 W2) (hg : Is2 g G) (hb : Is2 b B) (hd : Is2 d D) (he : Is2 e E) :
    Is2 (nL x0 x1 a w1 w2 g b d e) fun r => dn (D r) (hh X M A W1 G B r) (E r) (zz X M A r) (G 0) A W1 W2 :=
  dTop_at (before_at h0 h1 ha) (yL_at h0 h1 ha hw hv hg hb hd he) hg

variable (L : Args m c X M A W1 W2 G B D E)
include L

theorem pair_dh (h0 : Is2 x0 X) (h1 : Is2 x1 M) (ha : Is2 a A) (hw : Is2 w1 W1) (hv : Is2 w2 W2) (hg : Is2 g G) (hb : Is2 b B) (hd : Is2 d D) :
    ((dats m 0 c).arrAt 10 cfg0.N : Vec Ideal S8192x4096 .bf16) = halfH (pL x0 x1 a w1 w2 g b d) :=
  Is2.eq (arr_dh L) (w := halfH (pL x0 x1 a w1 w2 g b d)) (dHid_at (hL_at h0 h1 ha hw hg hb) hd hv) fun _ _ => rfl

theorem pair_dxb (h0 : Is2 x0 X) (h1 : Is2 x1 M) (ha : Is2 a A) (hw : Is2 w1 W1) (hv : Is2 w2 W2) (hg : Is2 g G) (hb : Is2 b B) (hd : Is2 d D) (he : Is2 e E) :
    ((dats m 0 c).arrAt 11 cfg0.N : Vec Ideal S8192x1024 .f32) = mulA (all 0x3F9837F0#32) (nL x0 x1 a w1 w2 g b d e) :=
  Is2.eq (arr_dxb L) (mulA_at (all_at al_bits) (nL_at h0 h1 ha hw hv hg hb hd he)) fun _ _ => rfl

theorem pair_dmix (h0 : Is2 x0 X) (h1 : Is2 x1 M) (ha : Is2 a A) (hw : Is2 w1 W1) (hv : Is2 w2 W2) (hg : Is2 g G) (hb : Is2 b B) (hd : Is2 d D) (he : Is2 e E) :
    ((dats m 0 c).arrAt 12 cfg0.N : Vec Ideal S8192x1024 .bf16) = half (mulA (scale (row2 a)) (nL x0 x1 a w1 w2 g b d e)) :=
  Is2.eq (arr_dmix L) (w := half (mulA (scale (row2 a)) (nL x0 x1 a w1 w2 g b d e))) (mulA_at (scale_at (row2_at ha)) (nL_at h0 h1 ha hw hv hg hb hd he)) fun _ _ => rfl

theorem pair_st (h0 : Is2 x0 X) (h1 : Is2 x1 M) (ha : Is2 a A) (hw : Is2 w1 W1) (hv : Is2 w2 W2) (hg : Is2 g G) (hb : Is2 b B) (hd : Is2 d D) (he : Is2 e E) :
    ((dats m 0 c).arrAt 13 cfg0.N : Vec Ideal S8x1024 .f32) = sL x0 x1 a w1 w2 g b d e :=
  Is2.eq (arr_st L) (outS_at (before_at h0 h1 ha) (xL_at h0 h1 ha hg hb) (uL_at h0 h1 ha hw hv hg hb hd) (yL_at h0 h1 ha hw hv hg hb hd he) (nL_at h0 h1 ha hw hv hg hb hd he) h1) fun r l => by
    have p : ∀ i, xx X M A G B i l * du (D i) (hh X M A W1 G B i) W1 W2 l = du (D i) (hh X M A W1 G B i) W1 W2 l * xx X M A G B i l := fun i => mul_comm _ _
    have q : ∀ i, Cert.Layer.xh 1024 (zz X M A i) l * dx (D i) (hh X M A W1 G B i) (E i) A W1 W2 l = dx (D i) (hh X M A W1 G B i) (E i) A W1 W2 l * Cert.Layer.xh 1024 (zz X M A i) l :=
      fun i => mul_comm _ _
    simp only [p]
    exact (congrArg (fun s => if r.val = 4 then _ else if r.val = 3 then _ else if r.val = 2 then s else _) (Finset.sum_congr rfl fun i _ => q i)).symm

end Cert.ReluIdeal.Rows

namespace Cert.Proof

open Idealize.ShloMosaic Idealize.SL.Sem

theorem facts_finite_relu : Cert.Pre_finite_relu.Facts := ⟨by decide, by decide, by decide, by decide, by decide, by decide⟩

instance inst_finite_relu : Cert.Pre_finite_relu.Facts := facts_finite_relu

open Cert.ReluIdeal in
/-- At finite arguments the launch finds real numbers. -/
theorem real_Relu {m : (ℓ : Loc nD τ sig) → Buf (Elt Ideal) ℓ} (hpre : Cert.Pre_ReluIdeal_finite_relu m) (c : Dev nD) :
    ∃ X M A W1 W2 G B D E : ℕ → ℕ → ℝ, Cert.ReluIdeal.Rows.Args m c X M A W1 W2 G B D E := by
  obtain ⟨a, b, d, e, f, g, h, i, j⟩ := hpre c
  obtain ⟨X, hX⟩ := Finite.real2 (a := 8192) (b := 1024) (Finite.real _ _ a)
  obtain ⟨M, hM⟩ := Finite.real2 (a := 8192) (b := 1024) (Finite.real _ _ b)
  obtain ⟨A, hA⟩ := Finite.real2 (a := 6) (b := 1024) (Finite.real _ _ d)
  obtain ⟨W1, hW⟩ := Finite.real2 (a := 1024) (b := 4096) (Finite.real _ _ e)
  obtain ⟨W2, hV⟩ := Finite.real2 (a := 4096) (b := 1024) (Finite.real _ _ f)
  obtain ⟨G, hG⟩ := Finite.real2 (a := 1) (b := 1024) (Finite.real _ _ g)
  obtain ⟨B, hB⟩ := Finite.real2 (a := 1) (b := 1024) (Finite.real _ _ h)
  obtain ⟨D, hD⟩ := Finite.real2 (a := 8192) (b := 1024) (Finite.real _ _ i)
  obtain ⟨E, hE⟩ := Finite.real2 (a := 8192) (b := 1024) (Finite.real _ _ j)
  exact ⟨X, M, A, W1, W2, G, B, D, E, hX, hM, hA, hW, hV, hG, hB, hD, hE⟩

/-- The feed-forward layer's gradient is the reference's, at finite arguments. -/
theorem algebraic_Relu : Cert.algebraic_ReluIdeal_ReluRefIdeal_pre_finite_relu := by
  pair_intro
  · run_from Cert.ReluIdeal.Value.run_blocks m g
  · refine (θ_run Cert.ReluRefIdeal.defs _ _).mono (fun r h c => ?_) (Cert.ReluRefIdeal.Soft.run m' g')
    obtain ⟨X, M, A, W1, W2, G, B, D, E, L⟩ := real_Relu hpre c
    have h0 := L.hx
    have h1 := L.hm
    have h2 := L.ha
    have h3 := L.hw
    have h4 := L.hv
    have h5 := L.hg
    have h6 := L.hb
    have h9 := L.hd
    have h10 := L.he
    rw [← (hagree c).1] at h0
    rw [← (hagree c).2.1] at h1
    rw [← (hagree c).2.2.1] at h2
    rw [← (hagree c).2.2.2.1] at h3
    rw [← (hagree c).2.2.2.2.1] at h4
    rw [← (hagree c).2.2.2.2.2.1] at h5
    rw [← (hagree c).2.2.2.2.2.2.1] at h6
    rw [← (hagree c).2.2.2.2.2.2.2.2.2.1] at h9
    rw [← (hagree c).2.2.2.2.2.2.2.2.2.2] at h10
    obtain ⟨p, q, s, t, k⟩ := h c
    exact ⟨p.trans (Cert.ReluIdeal.Rows.pair_dh L h0 h1 h2 h3 h4 h5 h6 h9).symm, q.trans (Cert.ReluIdeal.Rows.pair_dxb L h0 h1 h2 h3 h4 h5 h6 h9 h10).symm,
      s.trans (Cert.ReluIdeal.Rows.pair_dmix L h0 h1 h2 h3 h4 h5 h6 h9 h10).symm, t.trans (Cert.ReluIdeal.Rows.pair_st L h0 h1 h2 h3 h4 h5 h6 h9 h10).symm, k⟩

end Cert.Proof

end
-- ==== Proof.JoinRows.lean ====
/- The mixer's forward call: its results entry by entry, and each payload of the body. -/
module

public import proofs.«01_k».proof.Proof.Blocks
public import proofs.«01_k».proof.Proof.Scalars
public import proofs.«01_k».proof.Proof.Gen.JoinIdeal.Value

@[expose] public section

set_option maxRecDepth 16384

noncomputable section

namespace Cert.JoinModel

open Idealize.ShloMosaic

/-- A row's mean of squares, with `eps`. -/
def mean2 (X : ℕ → ℕ → EReal) (r : ℕ) : EReal :=
  Ideal.div (∑ l ∈ Finset.range 512, X r l * X r l) (Ideal.ofBits .f32 0x44000000#32) + Ideal.ofBits .f32 0x3727C5AC#32

/-- A row divided by the root of its mean square, times the gain. -/
def rms (X : ℕ → ℕ → EReal) (G : ℕ → EReal) (r l : ℕ) : EReal := X r l * Ideal.rsqrt (mean2 X r) * G l

/-- The two norms side by side. -/
def side (O C : ℕ → ℕ → EReal) (G H : ℕ → EReal) (r l : ℕ) : EReal := if l < 512 then rms O G r l else rms C H r (l - 512)

/-- The norms against the weight. -/
def mixed (O C : ℕ → ℕ → EReal) (G H : ℕ → EReal) (W : ℕ → ℕ → EReal) (r l : ℕ) : EReal :=
  ∑ k ∈ Finset.range 512, rms O G r k * W k l + ∑ k ∈ Finset.range 512, rms C H r k * W (512 + k) l

/-- The sum before the layer norm. -/
def pre (M X : ℕ → ℕ → EReal) (S : ℕ → EReal) (r l : ℕ) : EReal :=
  Ideal.ofBits .f32 0x3F9837F0#32 * X r l + (1 + S l) * M r l

/-- A row less its mean. -/
def centred (Z : ℕ → ℕ → EReal) (r l : ℕ) : EReal := Z r l - Ideal.div (∑ k ∈ Finset.range 1024, Z r k) (Ideal.ofBits .f32 0x44800000#32)

/-- A row's variance, with `eps`. -/
def spread (Z : ℕ → ℕ → EReal) (r : ℕ) : EReal :=
  Ideal.div (∑ l ∈ Finset.range 1024, centred Z r l * centred Z r l) (Ideal.ofBits .f32 0x44800000#32) + Ideal.ofBits .f32 0x3727C5AC#32

/-- The layer norm. -/
def layer (Z : ℕ → ℕ → EReal) (A B : ℕ → EReal) (r l : ℕ) : EReal := centred Z r l * Ideal.rsqrt (spread Z r) * A l + B l

theorem sum_side (O C : ℕ → ℕ → EReal) (G H : ℕ → EReal) (W : ℕ → ℕ → EReal) (r l : ℕ) :
    ∑ k ∈ Finset.range 1024, side O C G H r k * W k l = mixed O C G H W r l := by
  rw [show 1024 = 512 + 512 from rfl, Finset.sum_range_add, mixed]
  refine congrArg₂ (· + ·) (Finset.sum_congr rfl fun k h => ?_) (Finset.sum_congr rfl fun k _ => ?_)
  · rw [side, if_pos (Finset.mem_range.1 h)]
  · rw [side, if_neg (by omega), Nat.add_sub_cancel_left]

end Cert.JoinModel

namespace Cert.JoinIdeal.Rows

open Idealize.ShloMosaic Idealize.ShloMosaic.TcCoe Cert.JoinIdeal Cert.JoinIdeal.Gen Cert.Reals Cert.Scalars Cert.Blocks Cert.JoinModel

variable {o d : Vec Ideal S512x512 .f32} {g h : Vec Ideal S1x512 .f32} {w v : Vec Ideal S512x1024 .bf16} {x : Vec Ideal S512x1024 .f32} {s a b : Vec Ideal S1x1024 .f32}
  {O C W X : ℕ → ℕ → EReal} {G H S A B : ℕ → EReal}

theorem pay2_at (ho : At2 o O) (hg : At2 g fun _ => G) : At2 (k0_pay2 o g) (rms O G) := by
  intro r l
  pointwise [k0_pay2]
  simp only [ho _ _, hg _ _]
  rw [rms, mean2, Finset.sum_range]

theorem pay3_at (hd : At2 d C) (hh : At2 h fun _ => H) : At2 (k0_pay3 d h) (rms C H) := by
  intro r l
  pointwise [k0_pay3]
  simp only [hd _ _, hh _ _]
  rw [rms, mean2, Finset.sum_range]

/-- The product of the two norms and the two halves of the weight. -/
theorem pay5_at (ho : At2 o O) (hg : At2 g fun _ => G) (hd : At2 d C) (hh : At2 h fun _ => H) (hw : At2 w W) (hv : At2 v fun k l => W (512 + k) l) :
    At2 (k0_pay5 (k0_pay3 d h) (k0_pay4 o g w) v) (mixed O C G H W) := by
  have hp := pay2_at ho hg
  have hq := pay3_at hd hh
  intro r l
  pointwise [k0_pay5, k0_pay4]
  simp only [hp _ _, hq _ _, hw _ _, hv _ _]
  rw [mixed, Finset.sum_range, Finset.sum_range]

variable {p : FVec Ideal S512x512 .bf16} {q : FVec Ideal S512x1024 .f32} {M Z : ℕ → ℕ → EReal}

theorem pay6_at (hm : At2 (k0_pay5 p q v) M) (hx : At2 x X) (hs : At2 s fun _ => S) : At2 (k0_pay6 p q v x s) (pre M X S) := by
  intro r l
  pointwise [k0_pay6]
  rw [hm, hx, hs]
  rfl

theorem pay1_at (hz : At2 (k0_pay6 p q v x s) Z) (ha : At2 a fun _ => A) (hb : At2 b fun _ => B) : At2 (k0_pay1 (k0_pay7 p q v x s a) b) (layer Z A B) := by
  intro r l
  pointwise [k0_pay1, k0_pay7]
  simp only [hz _ _, ha _ _, hb _ _]
  simp only [layer, spread, centred, Finset.sum_range]

end Cert.JoinIdeal.Rows

end
-- ==== Proof.JoinPoint.lean ====
/- One grid point of the mixer's forward call: what its stores leave in the four results' blocks. -/
module

public import proofs.«01_k».proof.Proof.JoinRows
public import Idealize.ShloMosaic.Lib.UnfoldOut
public import Idealize.ShloMosaic.Lib.Pipeline.ValueKit

@[expose] public section

set_option maxRecDepth 16384

noncomputable section

namespace Cert.JoinIdeal.Rows

open Idealize.ShloMosaic Idealize.ShloMosaic.TcCoe Cert.JoinIdeal Cert.JoinIdeal.Gen Cert.Reals Cert.Scalars Cert.Blocks Cert.JoinModel

theorem origin : (![0, 0] : Fin 2 → ℕ) = fun _ => 0 := funext fun a => by fin_cases a <;> rfl

/-- A rectangle of a block, at an entry. -/
theorem part_apply {A B a b : ℕ} {e : EltTy} (x : Vec Ideal ⟨2, ![A, B]⟩ e) (k p : ℕ) (inb) (r : Fin a) (l : Fin b) (hr : k + r.val < A) (hl : p + l.val < B) :
    View.ld (Val := Elt Ideal) x (Rect.unit (s := ⟨2, ![A, B]⟩) ![k, p] ![a, b] inb) (ix2 r l) = x (ix2 ⟨k + r.val, hr⟩ ⟨p + l.val, hl⟩) :=
  View.ld_unit_apply_of (S := ⟨2, ![A, B]⟩) (Val := Elt Ideal) (e := e) x ![k, p] ![a, b] inb (ix2 r l) (ix2 ⟨k + r.val, hr⟩ ⟨p + l.val, hl⟩) (by
    intro x
    fin_cases x <;> rfl)

/-- A row of a block. -/
theorem row_at {A B : ℕ} {e : EltTy} {x : Vec Ideal ⟨2, ![A, B]⟩ e} {f : ℕ → Elt Ideal e} (k : Fin A) (hx : ∀ l : Fin B, x (ix2 k l) = f l.val) (inb) :
    At2 (View.ld (Val := Elt Ideal) x (Rect.unit (s := ⟨2, ![A, B]⟩) ![k.val, 0] ![1, B] inb)) fun _ => f := by
  intro r l
  refine (part_apply x k.val 0 inb r l (by omega) (by omega)).trans (Eq.trans ?_ (hx l))
  congr 2
  · exact Fin.ext (by simp)
  · exact Fin.ext (Nat.zero_add _)

/-- The blocks a point reads. -/
structure Blk (x0 x1 : Vec Ideal S512x512 .f32) (x2 : Vec Ideal S512x1024 .f32) (x3 : Vec Ideal S1024x1024 .bf16) (x4 : Vec Ideal S8x512 .f32) (x5 x6 : Vec Ideal S8x1024 .f32)
    (O C X W : ℕ → ℕ → EReal) (G H S A B : ℕ → EReal) : Prop where
  ho : At2 x0 O
  hc : At2 x1 C
  hx : At2 x2 X
  hw : At2 x3 W
  hg : ∀ l : Fin 512, x4 (ix2 0 l) = G l.val
  hh : ∀ l : Fin 512, x4 (ix2 1 l) = H l.val
  hs : ∀ l : Fin 1024, x5 (ix2 2 l) = S l.val
  ha : ∀ l : Fin 1024, x6 (ix2 0 l) = A l.val
  hb : ∀ l : Fin 1024, x6 (ix2 1 l) = B l.val

variable {x0 x1 : Vec Ideal S512x512 .f32} {x2 : Vec Ideal S512x1024 .f32} {x3 : Vec Ideal S1024x1024 .bf16} {x4 : Vec Ideal S8x512 .f32} {x5 x6 : Vec Ideal S8x1024 .f32}
  {O C X W : ℕ → ℕ → EReal} {G H S A B : ℕ → EReal} (b : Blk x0 x1 x2 x3 x4 x5 x6 O C X W G H S A B)
include b

theorem first_at : At2 (k0_pay2 (View.ld (Val := Elt Ideal) x0 r0_0) (View.ld (Val := Elt Ideal) x4 r0_1)) (rms O G) := by
  rw [View.ld_unit_zero origin]
  exact pay2_at b.ho (row_at 0 b.hg _)

theorem second_at : At2 (k0_pay3 (View.ld (Val := Elt Ideal) x1 r0_0) (View.ld (Val := Elt Ideal) x4 r0_2)) (rms C H) := by
  rw [View.ld_unit_zero origin]
  exact pay3_at b.hc (row_at 1 b.hh _)

theorem mixed_at : At2 (k0_pay5 (k0_pay8 x0 x1 x2 x3 x4 x5 x6) (k0_pay9 x0 x1 x2 x3 x4 x5 x6) (View.ld (Val := Elt Ideal) x3 r0_6)) (mixed O C G H W) := by
  unfold k0_pay8 k0_pay9
  rw [View.ld_unit_zero origin, View.ld_unit_zero origin]
  refine pay5_at b.ho (row_at 0 b.hg _) b.hc (row_at 1 b.hh _) (fun r l => ?_) (fun r l => ?_)
  · refine (part_apply x3 0 0 inb_S1024x1024_S512x1024_0_0 r l (by omega) (by omega)).trans ((b.hw _ _).trans ?_)
    simp
  · refine (part_apply x3 512 0 inb_S1024x1024_S512x1024_512_0 r l (by omega) (by omega)).trans ((b.hw _ _).trans ?_)
    simp

theorem pre_at : At2 (k0_pay6 (k0_pay8 x0 x1 x2 x3 x4 x5 x6) (k0_pay9 x0 x1 x2 x3 x4 x5 x6) (View.ld (Val := Elt Ideal) x3 r0_6) (View.ld (Val := Elt Ideal) x2 r0_7)
    (View.ld (Val := Elt Ideal) x5 r0_8)) (pre (mixed O C G H W) X S) := by
  rw [View.ld_unit_zero (S := S512x1024) origin]
  exact pay6_at (mixed_at b) b.hx (row_at 2 b.hs _)

theorem out_side : At2 (out0_7 x0 x1 x2 x3 x4 x5 x6) (side O C G H) := by
  intro r l
  unfold out0_7
  refine View.canon_eq_of_allAt _ _ _ (cover0_7 _ _ _) (View.allAt_cons_unit _ _ _ _ _ (fun x hx => ?_) (View.allAt_cons_unit _ _ _ _ _ (fun x hx => ?_) (View.allAt_nil _ _)))
  · obtain ⟨i, j, rfl⟩ : ∃ (i j : Fin 512), x = ix2 i j := ⟨x 0, x 1, eq_ix2 x⟩
    have h0 : r.val = 0 + i.val := hx 0
    have h1 : l.val = 512 + j.val := hx 1
    refine (second_at b i j).trans ?_
    rw [side, if_neg (by omega), h0, h1, Nat.zero_add, Nat.add_sub_cancel_left]
  · obtain ⟨i, j, rfl⟩ : ∃ (i j : Fin 512), x = ix2 i j := ⟨x 0, x 1, eq_ix2 x⟩
    have h0 : r.val = 0 + i.val := hx 0
    have h1 : l.val = 0 + j.val := hx 1
    refine (first_at b i j).trans ?_
    rw [side, if_pos (by omega), h0, h1, Nat.zero_add, Nat.zero_add]

theorem out_mixed : At2 (out0_8 x0 x1 x2 x3 x4 x5 x6) (mixed O C G H W) := by
  unfold out0_8
  rw [View.canon_unit_zero origin]
  exact mixed_at b

theorem out_pre : At2 (out0_9 x0 x1 x2 x3 x4 x5 x6) (pre (mixed O C G H W) X S) := by
  unfold out0_9
  rw [View.canon_unit_zero origin]
  exact pre_at b

theorem out_layer : At2 (out0_10 x0 x1 x2 x3 x4 x5 x6) (layer (pre (mixed O C G H W) X S) A B) := by
  unfold out0_10
  rw [View.canon_unit_zero origin]
  exact pay1_at (pre_at b) (row_at 0 b.ha _) (row_at 1 b.hb _)

end Cert.JoinIdeal.Rows

end
-- ==== Proof.JoinRun.lean ====
/- The mixer's forward call over its grid: what the four results hold. -/
module

public import proofs.«01_k».proof.Proof.JoinPoint

@[expose] public section

set_option maxRecDepth 16384

noncomputable section

namespace Cert.JoinIdeal.Rows

open Idealize.ShloMosaic Idealize.ShloMosaic.TcCoe Cert.JoinIdeal Cert.JoinIdeal.Gen Cert.Reals Cert.Scalars Cert.Blocks Cert.JoinModel

variable (m : (ℓ : Loc nD τ sig) → Buf (Elt Ideal) ℓ) (c : Dev nD)

/-- The arguments, by their entries. -/
structure Args (O C X P G H W A B A' B' : ℕ → ℕ → EReal) : Prop where
  ho : At2 (m ((c : Thread nD τ).loc main_arg0) : Vec Ideal S8192x512 .f32) O
  hc : At2 (m ((c : Thread nD τ).loc main_arg1) : Vec Ideal S8192x512 .f32) C
  hx : At2 (m ((c : Thread nD τ).loc main_arg2) : Vec Ideal S8192x1024 .f32) X
  hp : At2 (m ((c : Thread nD τ).loc main_arg3) : Vec Ideal S6x1024 .f32) P
  hg : At2 (m ((c : Thread nD τ).loc main_arg4) : Vec Ideal S1x512 .f32) G
  hh : At2 (m ((c : Thread nD τ).loc main_arg5) : Vec Ideal S1x512 .f32) H
  hw : At2 (m ((c : Thread nD τ).loc main_arg6) : Vec Ideal S1024x1024 .bf16) W
  ha : At2 (m ((c : Thread nD τ).loc main_arg7) : Vec Ideal S1x1024 .f32) A
  hb : At2 (m ((c : Thread nD τ).loc main_arg8) : Vec Ideal S1x1024 .f32) B
  ha' : At2 (m ((c : Thread nD τ).loc main_arg9) : Vec Ideal S1x1024 .f32) A'
  hb' : At2 (m ((c : Thread nD τ).loc main_arg10) : Vec Ideal S1x1024 .f32) B'

/-- The two gains, one above the other. -/
abbrev gains (g h : Vec Ideal S1x512 .f32) : Vec Ideal S2x512 .f32 := concatenate S2x512 0 [⟨S1x512, g⟩, ⟨S1x512, h⟩] concatenates_S1x512_S1x512_S2x512_d0

/-- The layer norms' gains and biases, one above the other. -/
abbrev lines (a b a' b' : Vec Ideal S1x1024 .f32) : Vec Ideal S4x1024 .f32 :=
  concatenate S4x1024 0 [⟨S1x1024, a⟩, ⟨S1x1024, b⟩, ⟨S1x1024, a'⟩, ⟨S1x1024, b'⟩] concatenates_S1x1024_S1x1024_S1x1024_S1x1024_S4x1024_d0

/-- The number the rows are filled up with. -/
abbrev fill : Vec Ideal S_ .f32 := sitofp (F := Ideal) .f32 (constantI S_ 32 0#32)

theorem V_gains : (V m c main_v1 : Vec Ideal S8x512 .f32) = pad S8x512 ![0, 0] ![6, 0] ![0, 0] (gains (m ((c : Thread nD τ).loc main_arg4)) (m ((c : Thread nD τ).loc main_arg5))) fill
    pads_S2x512_S8x512_060_000 h_S_ := by
  unfold_abbrev_sides
  simp only [hostOps0, hostOps0_1, hostOps0_2, hostOps0_3, hostOps0_4, hostOps0_5, List.flatten_cons, List.flatten_nil, List.append_nil, List.cons_append, List.nil_append]
  after_results_simp
  rfl

theorem V_ada : (V m c main_v2 : Vec Ideal S8x1024 .f32) = pad S8x1024 ![0, 0] ![2, 0] ![0, 0] (m ((c : Thread nD τ).loc main_arg3)) fill pads_S6x1024_S8x1024_020_000 h_S_ := by
  unfold_abbrev_sides
  simp only [hostOps0, hostOps0_1, hostOps0_2, hostOps0_3, hostOps0_4, hostOps0_5, List.flatten_cons, List.flatten_nil, List.append_nil, List.cons_append, List.nil_append]
  after_results_simp
  rfl

theorem V_lines : (V m c main_v4 : Vec Ideal S8x1024 .f32) = pad S8x1024 ![0, 0] ![4, 0] ![0, 0]
    (lines (m ((c : Thread nD τ).loc main_arg7)) (m ((c : Thread nD τ).loc main_arg8)) (m ((c : Thread nD τ).loc main_arg9)) (m ((c : Thread nD τ).loc main_arg10))) fill
    pads_S4x1024_S8x1024_040_000 h_S_ := by
  unfold_abbrev_sides
  simp only [hostOps0, hostOps0_1, hostOps0_2, hostOps0_3, hostOps0_4, hostOps0_5, List.flatten_cons, List.flatten_nil, List.append_nil, List.cons_append, List.nil_append]
  after_results_simp
  rfl

section Rows

variable {g h : Vec Ideal S1x512 .f32} {p : Vec Ideal S6x1024 .f32} {a b a' b' : Vec Ideal S1x1024 .f32} {G H P A B : ℕ → ℕ → EReal}

theorem gain_0 (hg : At2 g G) (l : Fin 512) : pad S8x512 ![0, 0] ![6, 0] ![0, 0] (gains g h) fill pads_S2x512_S8x512_060_000 h_S_ (ix2 0 l) = G 0 l := by
  pointwise [gains, fill]
  exact hg 0 l

theorem gain_1 (hh : At2 h H) (l : Fin 512) : pad S8x512 ![0, 0] ![6, 0] ![0, 0] (gains g h) fill pads_S2x512_S8x512_060_000 h_S_ (ix2 1 l) = H 0 l := by
  pointwise [gains, fill]
  exact hh 0 l

theorem ada_2 (hp : At2 p P) (l : Fin 1024) : pad S8x1024 ![0, 0] ![2, 0] ![0, 0] p fill pads_S6x1024_S8x1024_020_000 h_S_ (ix2 2 l) = P 2 l := by
  pointwise [fill]
  exact hp 2 l

theorem line_0 (ha : At2 a A) (l : Fin 1024) : pad S8x1024 ![0, 0] ![4, 0] ![0, 0] (lines a b a' b') fill pads_S4x1024_S8x1024_040_000 h_S_ (ix2 0 l) = A 0 l := by
  pointwise [lines, fill]
  exact ha 0 l

theorem line_1 (hb : At2 b B) (l : Fin 1024) : pad S8x1024 ![0, 0] ![4, 0] ![0, 0] (lines a b a' b') fill pads_S4x1024_S8x1024_040_000 h_S_ (ix2 1 l) = B 0 l := by
  pointwise [lines, fill]
  exact hb 0 l

end Rows

theorem idx (t : Fin cfg0.N) : win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![t.val, 0] ∧ win0_8.index t = ![t.val, 0] ∧ win0_9.index t = ![t.val, 0]
    ∧ win0_10.index t = ![t.val, 0] := by
  revert t; decide +kernel

theorem pts (t : Fin cfg0.N) : t.val < 16 := t.isLt

theorem read_0 {f : Vec Ideal S8192x512 .f32} {φ : ℕ → ℕ → EReal} (h : At2 f φ) (t : Fin cfg0.N) :
    At2 (((cfg0.win 0).blk t).view.read (Elt Ideal) f : Vec Ideal S512x512 .f32) fun a k => φ (512 * t.val + a) k := by
  intro a k
  have ht := pts t
  have e : ((cfg0.win 0).blk t).view.read (Elt Ideal) f (ix2 a k) = f (ix2 ⟨512 * t.val + a.val, by omega⟩ k) := by
    blk_ext [idx t]
  exact e.trans (h _ _)

theorem read_1 {f : Vec Ideal S8192x512 .f32} {φ : ℕ → ℕ → EReal} (h : At2 f φ) (t : Fin cfg0.N) :
    At2 (((cfg0.win 1).blk t).view.read (Elt Ideal) f : Vec Ideal S512x512 .f32) fun a k => φ (512 * t.val + a) k := by
  intro a k
  have ht := pts t
  have e : ((cfg0.win 1).blk t).view.read (Elt Ideal) f (ix2 a k) = f (ix2 ⟨512 * t.val + a.val, by omega⟩ k) := by
    blk_ext [idx t]
  exact e.trans (h _ _)

theorem read_2 {f : Vec Ideal S8192x1024 .f32} {φ : ℕ → ℕ → EReal} (h : At2 f φ) (t : Fin cfg0.N) :
    At2 (((cfg0.win 2).blk t).view.read (Elt Ideal) f : Vec Ideal S512x1024 .f32) fun a k => φ (512 * t.val + a) k := by
  intro a k
  have ht := pts t
  have e : ((cfg0.win 2).blk t).view.read (Elt Ideal) f (ix2 a k) = f (ix2 ⟨512 * t.val + a.val, by omega⟩ k) := by
    blk_ext [idx t]
  exact e.trans (h _ _)

theorem read_3 {f : Vec Ideal S1024x1024 .bf16} {φ : ℕ → ℕ → EReal} (h : At2 f φ) (t : Fin cfg0.N) :
    At2 (((cfg0.win 3).blk t).view.read (Elt Ideal) f : Vec Ideal S1024x1024 .bf16) fun a k => φ (a) k := by
  intro a k
  have e : ((cfg0.win 3).blk t).view.read (Elt Ideal) f (ix2 a k) = f (ix2 a k) := by
    blk_ext [idx t]
  exact e.trans (h _ _)

theorem read_4 {f : Vec Ideal S8x512 .f32} {φ : ℕ → ℕ → EReal} (h : At2 f φ) (t : Fin cfg0.N) :
    At2 (((cfg0.win 4).blk t).view.read (Elt Ideal) f : Vec Ideal S8x512 .f32) fun a k => φ (a) k := by
  intro a k
  have e : ((cfg0.win 4).blk t).view.read (Elt Ideal) f (ix2 a k) = f (ix2 a k) := by
    blk_ext [idx t]
  exact e.trans (h _ _)

theorem read_5 {f : Vec Ideal S8x1024 .f32} {φ : ℕ → ℕ → EReal} (h : At2 f φ) (t : Fin cfg0.N) :
    At2 (((cfg0.win 5).blk t).view.read (Elt Ideal) f : Vec Ideal S8x1024 .f32) fun a k => φ (a) k := by
  intro a k
  have e : ((cfg0.win 5).blk t).view.read (Elt Ideal) f (ix2 a k) = f (ix2 a k) := by
    blk_ext [idx t]
  exact e.trans (h _ _)

theorem read_6 {f : Vec Ideal S8x1024 .f32} {φ : ℕ → ℕ → EReal} (h : At2 f φ) (t : Fin cfg0.N) :
    At2 (((cfg0.win 6).blk t).view.read (Elt Ideal) f : Vec Ideal S8x1024 .f32) fun a k => φ (a) k := by
  intro a k
  have e : ((cfg0.win 6).blk t).view.read (Elt Ideal) f (ix2 a k) = f (ix2 a k) := by
    blk_ext [idx t]
  exact e.trans (h _ _)

variable {m c} {O C X P G H W A B A' B' : ℕ → ℕ → EReal} (E : Args m c O C X P G H W A B A' B')
include E

/-- The blocks of a point. -/
theorem ops (t : Fin cfg0.N) : Blk (iblk m c 0 t) (iblk m c 1 t) (iblk m c 2 t) (iblk m c 3 t) (iblk m c 4 t) (iblk m c 5 t) (iblk m c 6 t)
    (fun r k => O (512 * t.val + r) k) (fun r k => C (512 * t.val + r) k) (fun r k => X (512 * t.val + r) k) W (G 0) (H 0) (P 2) (A 0) (B 0) where
  ho := read_0 (f := Gen.V m c main_arg0) (by rw [V_main_arg0]; exact E.ho) t
  hc := read_1 (f := Gen.V m c main_arg1) (by rw [V_main_arg1]; exact E.hc) t
  hx := read_2 (f := Gen.V m c main_arg2) (by rw [V_main_arg2]; exact E.hx) t
  hw := read_3 (f := Gen.V m c main_arg6) (by rw [V_main_arg6]; exact E.hw) t
  hg l := by
    obtain ⟨φ, hφ⟩ := At2.exists (Gen.V m c main_v1 : Vec Ideal S8x512 .f32)
    refine (read_4 hφ t 0 l).trans ((hφ 0 l).symm.trans ?_)
    rw [V_gains]
    exact gain_0 E.hg l
  hh l := by
    obtain ⟨φ, hφ⟩ := At2.exists (Gen.V m c main_v1 : Vec Ideal S8x512 .f32)
    refine (read_4 hφ t 1 l).trans ((hφ 1 l).symm.trans ?_)
    rw [V_gains]
    exact gain_1 E.hh l
  hs l := by
    obtain ⟨φ, hφ⟩ := At2.exists (Gen.V m c main_v2 : Vec Ideal S8x1024 .f32)
    refine (read_5 hφ t 2 l).trans ((hφ 2 l).symm.trans ?_)
    rw [V_ada]
    exact ada_2 E.hp l
  ha l := by
    obtain ⟨φ, hφ⟩ := At2.exists (Gen.V m c main_v4 : Vec Ideal S8x1024 .f32)
    refine (read_6 hφ t 0 l).trans ((hφ 0 l).symm.trans ?_)
    rw [V_lines]
    exact line_0 E.ha l
  hb l := by
    obtain ⟨φ, hφ⟩ := At2.exists (Gen.V m c main_v4 : Vec Ideal S8x1024 .f32)
    refine (read_6 hφ t 1 l).trans ((hφ 1 l).symm.trans ?_)
    rw [V_lines]
    exact line_1 E.hb l

omit E in
theorem arr_side_of (f : ℕ → ℕ → EReal) (h : ∀ t : Fin cfg0.N, At2 (out0_7 (iblk m c 0 t) (iblk m c 1 t) (iblk m c 2 t) (iblk m c 3 t) (iblk m c 4 t) (iblk m c 5 t) (iblk m c 6 t)) fun a l => f (512 * t.val + a) l) :
    At2 ((dats m 0 c).arrAt 7 cfg0.N : Vec Ideal S8192x1024 .bf16) f := by
  have K : (dats m 0 c).arrAt 7 cfg0.N = (fun x => f (x 0).val (x 1).val : Vec Ideal S8192x1024 .bf16) := by
    refine (dats m 0 c).arrAt_eq_of_covers 7 _ (by decide +kernel) fun t hf y => ?_
    blk_simp
    rw [after0_7]
    obtain ⟨r, j, rfl⟩ : ∃ (r : Fin 512) (j : Fin 1024), y = ix2 r j := ⟨y 0, y 1, eq_ix2 y⟩
    refine (h t r j).trans ?_
    rw [(idx t).2.2.2.2.2.2.2.1]
    congr 1 <;> simp [Nat.mul_comm]
  intro r l
  exact congrFun K _

omit E in
theorem arr_mixed_of (f : ℕ → ℕ → EReal) (h : ∀ t : Fin cfg0.N, At2 (out0_8 (iblk m c 0 t) (iblk m c 1 t) (iblk m c 2 t) (iblk m c 3 t) (iblk m c 4 t) (iblk m c 5 t) (iblk m c 6 t)) fun a l => f (512 * t.val + a) l) :
    At2 ((dats m 0 c).arrAt 8 cfg0.N : Vec Ideal S8192x1024 .f32) f := by
  have K : (dats m 0 c).arrAt 8 cfg0.N = (fun x => f (x 0).val (x 1).val : Vec Ideal S8192x1024 .f32) := by
    refine (dats m 0 c).arrAt_eq_of_covers 8 _ (by decide +kernel) fun t hf y => ?_
    blk_simp
    rw [after0_8]
    obtain ⟨r, j, rfl⟩ : ∃ (r : Fin 512) (j : Fin 1024), y = ix2 r j := ⟨y 0, y 1, eq_ix2 y⟩
    refine (h t r j).trans ?_
    rw [(idx t).2.2.2.2.2.2.2.2.1]
    congr 1 <;> simp [Nat.mul_comm]
  intro r l
  exact congrFun K _

omit E in
theorem arr_pre_of (f : ℕ → ℕ → EReal) (h : ∀ t : Fin cfg0.N, At2 (out0_9 (iblk m c 0 t) (iblk m c 1 t) (iblk m c 2 t) (iblk m c 3 t) (iblk m c 4 t) (iblk m c 5 t) (iblk m c 6 t)) fun a l => f (512 * t.val + a) l) :
    At2 ((dats m 0 c).arrAt 9 cfg0.N : Vec Ideal S8192x1024 .f32) f := by
  have K : (dats m 0 c).arrAt 9 cfg0.N = (fun x => f (x 0).val (x 1).val : Vec Ideal S8192x1024 .f32) := by
    refine (dats m 0 c).arrAt_eq_of_covers 9 _ (by decide +kernel) fun t hf y => ?_
    blk_simp
    rw [after0_9]
    obtain ⟨r, j, rfl⟩ : ∃ (r : Fin 512) (j : Fin 1024), y = ix2 r j := ⟨y 0, y 1, eq_ix2 y⟩
    refine (h t r j).trans ?_
    rw [(idx t).2.2.2.2.2.2.2.2.2.1]
    congr 1 <;> simp [Nat.mul_comm]
  intro r l
  exact congrFun K _

omit E in
theorem arr_layer_of (f : ℕ → ℕ → EReal) (h : ∀ t : Fin cfg0.N, At2 (out0_10 (iblk m c 0 t) (iblk m c 1 t) (iblk m c 2 t) (iblk m c 3 t) (iblk m c 4 t) (iblk m c 5 t) (iblk m c 6 t)) fun a l => f (512 * t.val + a) l) :
    At2 ((dats m 0 c).arrAt 10 cfg0.N : Vec Ideal S8192x1024 .f32) f := by
  have K : (dats m 0 c).arrAt 10 cfg0.N = (fun x => f (x 0).val (x 1).val : Vec Ideal S8192x1024 .f32) := by
    refine (dats m 0 c).arrAt_eq_of_covers 10 _ (by decide +kernel) fun t hf y => ?_
    blk_simp
    rw [after0_10]
    obtain ⟨r, j, rfl⟩ : ∃ (r : Fin 512) (j : Fin 1024), y = ix2 r j := ⟨y 0, y 1, eq_ix2 y⟩
    refine (h t r j).trans ?_
    rw [(idx t).2.2.2.2.2.2.2.2.2.2]
    congr 1 <;> simp [Nat.mul_comm]
  intro r l
  exact congrFun K _

theorem arr_side : At2 ((dats m 0 c).arrAt 7 cfg0.N : Vec Ideal S8192x1024 .bf16) (side O C (G 0) (H 0)) :=
  arr_side_of _ fun t => out_side (ops E t)

theorem arr_mixed : At2 ((dats m 0 c).arrAt 8 cfg0.N : Vec Ideal S8192x1024 .f32) (mixed O C (G 0) (H 0) W) :=
  arr_mixed_of _ fun t => out_mixed (ops E t)

theorem arr_pre : At2 ((dats m 0 c).arrAt 9 cfg0.N : Vec Ideal S8192x1024 .f32) (pre (mixed O C (G 0) (H 0) W) X (P 2)) :=
  arr_pre_of _ fun t => out_pre (ops E t)

theorem arr_layer : At2 ((dats m 0 c).arrAt 10 cfg0.N : Vec Ideal S8192x1024 .f32) (layer (pre (mixed O C (G 0) (H 0) W) X (P 2)) (A 0) (B 0)) :=
  arr_layer_of _ fun t => out_layer (ops E t)

end Cert.JoinIdeal.Rows

end
-- ==== Proof.JoinRef.lean ====
/- The mixer's forward reference: the host lines of its two row norms, its product and its layer norm, read entry by entry. -/
module

public import proofs.«01_k».proof.Proof.JoinRows
public import proofs.«01_k».proof.Proof.Gen.JoinRefIdeal
public import Idealize.ShloMosaic.Lib.StableHlo.RunHlo

@[expose] public section

set_option maxRecDepth 16384

noncomputable section

namespace Cert.JoinRefIdeal.Soft

open Idealize.ShloMosaic Idealize.ShloMosaic.TcCoe Cert.JoinRefIdeal Cert.JoinRefIdeal.Gen Cert.Reals Cert.Scalars Cert.Blocks Cert.JoinModel

/-- A number for every row. -/
def col (b : BitVec 32) : Vec Ideal S8192x1 .f32 := broadcastInDim S8192x1 ![] bcast_S_S8192x1 (constant (F := Ideal) S_ .f32 b)

/-- The root's reciprocal of a row's mean square. -/
def factor (x : Vec Ideal S8192x512 .f32) : Vec Ideal S8192x1 .f32 :=
  Host.rsqrt (F := Ideal) (φ := .f32) (addf (F := Ideal) (φ := .f32) (Host.divf (F := Ideal) (φ := .f32)
    (broadcastInDim S8192x1 ![0] bcast_S8192_S8192x1_0 (Host.reduceAdd (F := Ideal) (φ := .f32) (mulf (F := Ideal) (φ := .f32) x x) (constant (F := Ideal) S_ .f32 0x00000000#32)
      reducesTo_S8192x512_S8192_d1 h_S_)) (col 0x44000000#32)) (col 0x3727C5AC#32))

def norm (x : Vec Ideal S8192x512 .f32) (g : Vec Ideal S1x512 .f32) : Vec Ideal S8192x512 .f32 :=
  mulf (F := Ideal) (φ := .f32) (mulf (F := Ideal) (φ := .f32) x (broadcastInDim S8192x512 ![0, 1] bcast_S8192x1_S8192x512_0_1 (factor x)))
    (broadcastInDim S8192x512 ![0, 1] bcast_S1x512_S8192x512_0_1 (broadcastInDim S1x512 ![1] bcast_S512_S1x512_1 (shapeCast S512 g shapeCasts_S1x512_S512)))

def both (o d : Vec Ideal S8192x512 .f32) (g h : Vec Ideal S1x512 .f32) : Vec Ideal S8192x1024 .f32 :=
  concatenate S8192x1024 1 [⟨S8192x512, norm o g⟩, ⟨S8192x512, norm d h⟩] concatenates_S8192x512_S8192x512_S8192x1024_d1

def outSide (o d : Vec Ideal S8192x512 .f32) (g h : Vec Ideal S1x512 .f32) : Vec Ideal S8192x1024 .bf16 := truncf (F := Ideal) (φ := .f32) .bf16 (both o d g h) bitsLt_bf16_f32

def outMixed (s : Vec Ideal S8192x1024 .f32) (w : Vec Ideal S1024x1024 .bf16) : Vec Ideal S8192x1024 .f32 :=
  Host.dotGeneral (F := Ideal) (φ₁ := .f32) (φ₂ := .f32) dot_S8192x1024_S1024x1024_S8192x1024_1_0_0_1_n_n none s (extf (F := Ideal) (φ := .bf16) .f32 w bitsLt_bf16_f32)

/-- One and the scale. -/
def scale (a : Vec Ideal S6x1024 .f32) : Vec Ideal S8192x1024 .f32 :=
  broadcastInDim S8192x1024 ![0, 1] bcast_S1x1024_S8192x1024_0_1 (broadcastInDim S1x1024 ![1] bcast_S1024_S1x1024_1
    (addf (F := Ideal) (φ := .f32) (broadcastInDim S1024 ![] bcast_S_S1024 (constant (F := Ideal) S_ .f32 0x3F800000#32))
      (shapeCast S1024 (extractStridedSlice S1x1024 ![2, 0] a slices_S6x1024_S1x1024_2_0) shapeCasts_S1x1024_S1024)))

def outPre (p x : Vec Ideal S8192x1024 .f32) (a : Vec Ideal S6x1024 .f32) : Vec Ideal S8192x1024 .f32 :=
  addf (F := Ideal) (φ := .f32) (mulf (F := Ideal) (φ := .f32) (broadcastInDim S8192x1024 ![] bcast_S_S8192x1024 (constant (F := Ideal) S_ .f32 0x3F9837F0#32)) x)
    (mulf (F := Ideal) (φ := .f32) (scale a) p)

/-- A row's mean. -/
def mean (z : Vec Ideal S8192x1024 .f32) : Vec Ideal S8192x1 .f32 :=
  Host.divf (F := Ideal) (φ := .f32) (broadcastInDim S8192x1 ![0] bcast_S8192_S8192x1_0 (Host.reduceAdd (F := Ideal) (φ := .f32) z (constant (F := Ideal) S_ .f32 0x00000000#32)
    reducesTo_S8192x1024_S8192_d1 h_S_)) (col 0x44800000#32)

def across (x : Vec Ideal S8192x1 .f32) : Vec Ideal S8192x1024 .f32 := broadcastInDim S8192x1024 ![0, 1] bcast_S8192x1_S8192x1024_0_1 x

def less (z : Vec Ideal S8192x1024 .f32) : Vec Ideal S8192x1024 .f32 := subf (F := Ideal) (φ := .f32) z (across (mean z))

/-- A gain or a bias, for every row. -/
def line (a : Vec Ideal S1x1024 .f32) : Vec Ideal S8192x1024 .f32 :=
  broadcastInDim S8192x1024 ![0, 1] bcast_S1x1024_S8192x1024_0_1 (broadcastInDim S1x1024 ![1] bcast_S1024_S1x1024_1 (shapeCast S1024 a shapeCasts_S1x1024_S1024))

def outLayer (z : Vec Ideal S8192x1024 .f32) (a b : Vec Ideal S1x1024 .f32) : Vec Ideal S8192x1024 .f32 :=
  addf (F := Ideal) (φ := .f32) (mulf (F := Ideal) (φ := .f32) (mulf (F := Ideal) (φ := .f32) (less z)
    (across (Host.rsqrt (F := Ideal) (φ := .f32) (addf (F := Ideal) (φ := .f32) (mean (mulf (F := Ideal) (φ := .f32) (less z) (less z))) (col 0x3727C5AC#32))))) (line a)) (line b)

variable {o d : Vec Ideal S8192x512 .f32} {g h : Vec Ideal S1x512 .f32} {w : Vec Ideal S1024x1024 .bf16} {s p x z : Vec Ideal S8192x1024 .f32} {c : Vec Ideal S6x1024 .f32}
  {a b : Vec Ideal S1x1024 .f32} {O C G H W S M X P Z A B : ℕ → ℕ → EReal}

theorem factor_at (ho : At2 o O) : At2 (factor o) fun r _ => Ideal.rsqrt (mean2 O r) := by
  intro r l
  pointwise [factor, col]
  simp only [ho _ _]
  rw [mean2, Finset.sum_range]

theorem norm_at (ho : At2 o O) (hg : At2 g G) : At2 (norm o g) (rms O (G 0)) := by
  have hf := factor_at ho
  intro r l
  unfold norm
  generalize factor o = f at hf ⊢
  pointwise
  rw [ho, hf, hg]
  rfl

theorem both_at (ho : At2 o O) (hd : At2 d C) (hg : At2 g G) (hh : At2 h H) : At2 (both o d g h) (side O C (G 0) (H 0)) := by
  have hp := norm_at ho hg
  have hq := norm_at hd hh
  intro r l
  unfold both side
  generalize norm o g = p at hp ⊢
  generalize norm d h = q at hq ⊢
  pointwise
  by_cases k : l.val < 512
  · exact (dif_pos k).trans ((hp _ _).trans (if_pos k).symm)
  · exact (dif_neg k).trans ((hq _ _).trans (if_neg k).symm)

theorem outSide_at (ho : At2 o O) (hd : At2 d C) (hg : At2 g G) (hh : At2 h H) : At2 (outSide o d g h) (side O C (G 0) (H 0)) := both_at ho hd hg hh

theorem outMixed_at (hs : At2 s S) (hw : At2 w W) : At2 (outMixed s w) fun r l => ∑ k ∈ Finset.range 1024, S r k * W k l := by
  intro r l
  pointwise [outMixed]
  simp only [hs _ _, hw _ _]
  rw [Finset.sum_range]

theorem outPre_at (hp : At2 p M) (hx : At2 x X) (hc : At2 c P) : At2 (outPre p x c) (pre M X (P 2)) := by
  intro r l
  pointwise [outPre, scale]
  rw [hp, hx, hc]
  rfl

theorem mean_at (hz : At2 z Z) : At2 (mean z) fun r _ => Ideal.div (∑ l ∈ Finset.range 1024, Z r l) (Ideal.ofBits .f32 0x44800000#32) := by
  intro r l
  pointwise [mean, col]
  simp only [hz _ _]
  rw [Finset.sum_range]

theorem less_at (hz : At2 z Z) : At2 (less z) (centred Z) := by
  have hm := mean_at hz
  intro r l
  unfold less
  generalize mean z = k at hm ⊢
  pointwise [across]
  rw [hz, hm]
  rfl

theorem line_at (ha : At2 a A) : At2 (line a) fun _ l => A 0 l := by
  intro r l
  pointwise [line]
  exact ha _ _

theorem outLayer_at (hz : At2 z Z) (ha : At2 a A) (hb : At2 b B) : At2 (outLayer z a b) (layer Z (A 0) (B 0)) := by
  have hl := less_at hz
  have hq : At2 (mulf (F := Ideal) (φ := .f32) (less z) (less z)) fun r l => centred Z r l * centred Z r l := fun r l => by
    generalize less z = k at hl ⊢
    pointwise
    rw [hl]
  have hm := mean_at hq
  have hp := line_at ha
  have hr := line_at hb
  intro r l
  unfold outLayer
  generalize mean (mulf (F := Ideal) (φ := .f32) (less z) (less z)) = k at hm ⊢
  generalize less z = k' at hl ⊢
  generalize line a = a' at hp ⊢
  generalize line b = b' at hr ⊢
  pointwise [across, col]
  rw [hl, hm, hp, hr]
  rfl

variable (m : (ℓ : Loc nD τ sig) → Buf (Elt Ideal) ℓ)

/-- The two norms at the launch's arguments. -/
abbrev norms (c : Dev nD) : Vec Ideal S8192x1024 .f32 :=
  both (m ((c : Thread nD τ).loc main_arg0)) (m ((c : Thread nD τ).loc main_arg1)) (m ((c : Thread nD τ).loc main_arg4)) (m ((c : Thread nD τ).loc main_arg5))

/-- The sum before the layer norm, at the launch's arguments. -/
abbrev total (c : Dev nD) : Vec Ideal S8192x1024 .f32 :=
  outPre (outMixed (norms m c) (m ((c : Thread nD τ).loc main_arg6))) (m ((c : Thread nD τ).loc main_arg2)) (m ((c : Thread nD τ).loc main_arg3))

open Idealize.SL.Sem StableHlo in
set_option maxHeartbeats 4000000 in
/-- What the reference leaves: every result as a function of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v41) = outSide (m ((c : Thread nD τ).loc main_arg0)) (m ((c : Thread nD τ).loc main_arg1)) (m ((c : Thread nD τ).loc main_arg4)) (m ((c : Thread nD τ).loc main_arg5))
      ∧ r.2.mem ((c : Thread nD τ).loc main_v30) = outMixed (norms m c) (m ((c : Thread nD τ).loc main_arg6))
      ∧ r.2.mem ((c : Thread nD τ).loc main_v40) = total m c
      ∧ r.2.mem ((c : Thread nD τ).loc main_v67) = outLayer (total m c) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine θ_run_mono (run_hlo defs main (by hlo_seq) (by decide) (by decide) (by simp)
    (by intro _ h; (repeat (cases h with | head => rfl | tail _ h => ?_)); exact nomatch h) m ρ) fun r h => ?_
  refine fun c => ⟨?_, ?_, ?_, ?_, ?_, ?_, ?_, ?_, ?_, ?_, ?_, ?_, ?_, ?_, ?_⟩ <;> refine (h c _).trans ?_ <;> after_results_simp <;> rfl

end Cert.JoinRefIdeal.Soft

end
-- ==== Proof.JoinClaim.lean ====
/- The mixer's forward value claim: the call's results are the reference's, at every argument. -/
module

public import proofs.«01_k».proof.Defs
public import proofs.«01_k».proof.Proof.JoinRun
public import proofs.«01_k».proof.Proof.JoinRef

@[expose] public section

set_option maxRecDepth 16384

noncomputable section

namespace Cert.JoinIdeal.Rows

open Idealize.ShloMosaic Idealize.ShloMosaic.TcCoe Cert.JoinIdeal Cert.JoinIdeal.Gen Cert.Blocks Cert.JoinModel

open Cert.JoinRefIdeal.Soft (outSide outMixed outPre outLayer outSide_at outMixed_at outPre_at outLayer_at)

theorem exists_args (m : (ℓ : Loc nD τ sig) → Buf (Elt Ideal) ℓ) (c : Dev nD) : ∃ O C X P G H W A B A' B' : ℕ → ℕ → EReal, Args m c O C X P G H W A B A' B' := by
  obtain ⟨O, k0⟩ := At2.exists (m ((c : Thread nD τ).loc main_arg0) : Vec Ideal S8192x512 .f32)
  obtain ⟨C, k1⟩ := At2.exists (m ((c : Thread nD τ).loc main_arg1) : Vec Ideal S8192x512 .f32)
  obtain ⟨X, k2⟩ := At2.exists (m ((c : Thread nD τ).loc main_arg2) : Vec Ideal S8192x1024 .f32)
  obtain ⟨P, k3⟩ := At2.exists (m ((c : Thread nD τ).loc main_arg3) : Vec Ideal S6x1024 .f32)
  obtain ⟨G, k4⟩ := At2.exists (m ((c : Thread nD τ).loc main_arg4) : Vec Ideal S1x512 .f32)
  obtain ⟨H, k5⟩ := At2.exists (m ((c : Thread nD τ).loc main_arg5) : Vec Ideal S1x512 .f32)
  obtain ⟨W, k6⟩ := At2.exists (m ((c : Thread nD τ).loc main_arg6) : Vec Ideal S1024x1024 .bf16)
  obtain ⟨A, k7⟩ := At2.exists (m ((c : Thread nD τ).loc main_arg7) : Vec Ideal S1x1024 .f32)
  obtain ⟨B, k8⟩ := At2.exists (m ((c : Thread nD τ).loc main_arg8) : Vec Ideal S1x1024 .f32)
  obtain ⟨A', k9⟩ := At2.exists (m ((c : Thread nD τ).loc main_arg9) : Vec Ideal S1x1024 .f32)
  obtain ⟨B', k10⟩ := At2.exists (m ((c : Thread nD τ).loc main_arg10) : Vec Ideal S1x1024 .f32)
  exact ⟨O, C, X, P, G, H, W, A, B, A', B', k0, k1, k2, k3, k4, k5, k6, k7, k8, k9, k10⟩

variable {m : (ℓ : Loc nD τ sig) → Buf (Elt Ideal) ℓ} {c : Dev nD} {O C X P G H W A B A' B' : ℕ → ℕ → EReal} (E : Args m c O C X P G H W A B A' B')
  {x0 x1 : Vec Ideal S8192x512 .f32} {x2 s p z : Vec Ideal S8192x1024 .f32} {x3 : Vec Ideal S6x1024 .f32} {x4 x5 : Vec Ideal S1x512 .f32} {x6 : Vec Ideal S1024x1024 .bf16}
  {x7 x8 : Vec Ideal S1x1024 .f32}
include E

theorem pair_side (h0 : At2 x0 O) (h1 : At2 x1 C) (h4 : At2 x4 G) (h5 : At2 x5 H) : ((dats m 0 c).arrAt 7 cfg0.N : Vec Ideal S8192x1024 .bf16) = outSide x0 x1 x4 x5 :=
  At2.eq (arr_side E) (outSide_at h0 h1 h4 h5) fun _ _ _ _ => rfl

theorem pair_mixed (hp : At2 p (mixed O C (G 0) (H 0) W)) : ((dats m 0 c).arrAt 8 cfg0.N : Vec Ideal S8192x1024 .f32) = p :=
  At2.eq (arr_mixed E) hp fun _ _ _ _ => rfl

theorem pair_pre (hp : At2 p (mixed O C (G 0) (H 0) W)) (h2 : At2 x2 X) (h3 : At2 x3 P) : ((dats m 0 c).arrAt 9 cfg0.N : Vec Ideal S8192x1024 .f32) = outPre p x2 x3 :=
  At2.eq (arr_pre E) (outPre_at hp h2 h3) fun _ _ _ _ => rfl

theorem pair_layer (hz : At2 z (pre (mixed O C (G 0) (H 0) W) X (P 2))) (h7 : At2 x7 A) (h8 : At2 x8 B) : ((dats m 0 c).arrAt 10 cfg0.N : Vec Ideal S8192x1024 .f32) = outLayer z x7 x8 :=
  At2.eq (arr_layer E) (outLayer_at hz h7 h8) fun _ _ _ _ => rfl

omit E in
theorem mixed_ref (h : At2 s (side O C (G 0) (H 0))) (h6 : At2 x6 W) : At2 (outMixed s x6) (mixed O C (G 0) (H 0) W) := fun r l =>
  (outMixed_at h h6 r l).trans (sum_side O C (G 0) (H 0) W r l)

end Cert.JoinIdeal.Rows

namespace Cert.Proof

open Idealize.ShloMosaic Idealize.SL.Sem Cert.JoinRefIdeal.Soft Cert.JoinIdeal.Rows

/-- The mixer's forward results are the reference's. -/
theorem algebraic_Join : Cert.algebraic_JoinIdeal_JoinRefIdeal := by
  pair_intro
  · run_from Cert.JoinIdeal.Value.run_blocks m g
  · refine (θ_run Cert.JoinRefIdeal.defs _ _).mono (fun r h c => ?_) (Cert.JoinRefIdeal.Soft.run m' g')
    obtain ⟨O, C, X, P, G, H, W, A, B, A', B', E⟩ := exists_args m c
    have h0 := E.ho
    rw [← (hagree c).1] at h0
    have h1 := E.hc
    rw [← (hagree c).2.1] at h1
    have h2 := E.hx
    rw [← (hagree c).2.2.1] at h2
    have h3 := E.hp
    rw [← (hagree c).2.2.2.1] at h3
    have h4 := E.hg
    rw [← (hagree c).2.2.2.2.1] at h4
    have h5 := E.hh
    rw [← (hagree c).2.2.2.2.2.1] at h5
    have h6 := E.hw
    rw [← (hagree c).2.2.2.2.2.2.1] at h6
    have h7 := E.ha
    rw [← (hagree c).2.2.2.2.2.2.2.1] at h7
    have h8 := E.hb
    rw [← (hagree c).2.2.2.2.2.2.2.2.1] at h8
    have hm := mixed_ref (both_at h0 h1 h4 h5) h6
    obtain ⟨a, b, d, e, k⟩ := h c
    exact ⟨a.trans (pair_side E h0 h1 h4 h5).symm, b.trans (pair_mixed E hm).symm, d.trans (pair_pre E hm h2 h3).symm,
      e.trans (pair_layer E (outPre_at hm h2 h3) h7 h8).symm, k⟩

end Cert.Proof

end
-- ==== Proof.AttnModel.lean ====
/- A row's running maximum and its running sums, and what a tile of columns does to them, over the reals. -/
module

public import proofs.«01_k».proof.Proof.Reals

@[expose] public section

noncomputable section

namespace Cert.AttnIdeal.Tile

open Idealize.ShloMosaic Cert.Reals Cert.Scalars

/-- The sums `w`, kept relative to the running maximum `m`: nothing seen yet, or `a` is `w` times the exponential of `-m`. -/
def Row {D : ℕ} (m : EReal) (a : Fin D → EReal) (w : Fin D → ℝ) : Prop :=
  (m = ⊥ ∧ ∀ d, a d = 0 ∧ w d = 0) ∨ ∃ M : ℝ, m = (M : EReal) ∧ ∀ d, a d = ((w d * Real.exp (-M) : ℝ) : EReal)

theorem Row.congr {D : ℕ} {m : EReal} {a : Fin D → EReal} {w w' : Fin D → ℝ} (h : Row m a w) (e : ∀ d, w d = w' d) : Row m a w' := by
  rw [← show w = w' from funext e]; exact h

/-- The maximum of a tile's scores, one of which is real. -/
theorem fold_real {S : ℕ} {x : Fin S → EReal} {f : Fin S → ℝ} {see : Fin S → Prop} [DecidablePred see]
    (hx : ∀ s, x s = if see s then (f s : EReal) else ⊥) (s0 : Fin S) (hs : see s0) :
    ∃ F : ℝ, Finset.fold max (⊥ : EReal) x Finset.univ = (F : EReal) := by
  have lo : ⊥ < Finset.fold max (⊥ : EReal) x Finset.univ := by
    refine (Finset.lt_fold_max _).2 (.inr ⟨s0, Finset.mem_univ _, ?_⟩)
    rw [hx, if_pos hs]
    exact EReal.bot_lt_coe _
  have hi : Finset.fold max (⊥ : EReal) x Finset.univ < ⊤ := by
    refine (Finset.fold_max_lt _).2 ⟨bot_lt_top, fun s _ => ?_⟩
    rw [hx]
    split
    · exact EReal.coe_lt_top _
    · exact bot_lt_top
  exact ⟨_, (EReal.coe_toReal hi.ne lo.ne').symm⟩

/-- A tile of columns of which the row sees some. -/
theorem Row.tile {S D : ℕ} {m m' : EReal} {a a' : Fin D → EReal} {w : Fin D → ℝ} (h : Row m a w) {x : Fin S → EReal} {f : Fin S → ℝ} {see : Fin S → Prop}
    [DecidablePred see] (hx : ∀ s, x s = if see s then (f s : EReal) else ⊥) (s0 : Fin S) (hs : see s0) {v : Fin S → Fin D → ℝ}
    (hm : m' = max m (Finset.fold max (⊥ : EReal) x Finset.univ))
    (ha : ∀ d, a' d = a d * Ideal.exp (m - m') + ∑ s, Ideal.exp (x s - m') * (v s d : EReal)) :
    Row m' a' (fun d => w d + ∑ s, (if see s then Real.exp (f s) else 0) * v s d) := by
  obtain ⟨F, hF⟩ := fold_real hx s0 hs
  rw [hF] at hm
  have key : ∀ M' : ℝ, m' = (M' : EReal) → ∀ d, ∑ s, Ideal.exp (x s - m') * (v s d : EReal)
      = (((∑ s, (if see s then Real.exp (f s) else 0) * v s d) * Real.exp (-M') : ℝ) : EReal) := by
    intro M' e d
    rw [Finset.sum_mul, coe_sum]
    refine Finset.sum_congr rfl fun s _ => ?_
    rw [hx, e]
    split
    · rw [← EReal.coe_sub, exp_coe, ← EReal.coe_mul, sub_eq_add_neg, Real.exp_add]
      congr 1
      ring
    · rw [EReal.bot_sub, exp_bot, zero_mul, zero_mul, zero_mul, EReal.coe_zero]
  rcases h with ⟨rfl, h0⟩ | ⟨M, rfl, h1⟩
  · rw [max_eq_right bot_le] at hm
    refine .inr ⟨F, hm, fun d => ?_⟩
    simp only [ha, (h0 d).1, (h0 d).2, zero_mul, zero_add, key F hm]
  · rw [max_coe] at hm
    refine .inr ⟨max M F, hm, fun d => ?_⟩
    beta_reduce
    rw [ha, key _ hm, h1, hm, ← EReal.coe_sub, exp_coe, ← EReal.coe_mul, ← EReal.coe_add, add_mul, mul_assoc, ← Real.exp_add]
    congr 4
    ring

/-- The end of a row: the quotient by a sum that is positive. -/
theorem Row.div {D : ℕ} {m : EReal} {a : Fin D → EReal} {w : Fin D → ℝ} (h : Row m a w) (d e : Fin D) (pos : 0 < w e) :
    Ideal.div (a d) (a e) = ((w d / w e : ℝ) : EReal) := by
  rcases h with ⟨_, h0⟩ | ⟨M, _, h1⟩
  · exact absurd (h0 e).2 pos.ne'
  · have hp := Real.exp_pos (-M)
    rw [h1, h1, div_coe (mul_pos pos hp).ne', mul_div_mul_right _ _ hp.ne']

/-- The end of a row: the maximum and the logarithm of the sum. -/
theorem Row.log {D : ℕ} {m : EReal} {a : Fin D → EReal} {w : Fin D → ℝ} (h : Row m a w) (e : Fin D) (pos : 0 < w e) :
    m + Ideal.log (a e) = ((Real.log (w e) : ℝ) : EReal) := by
  rcases h with ⟨_, h0⟩ | ⟨M, hm, h1⟩
  · exact absurd (h0 e).2 pos.ne'
  · have hp := Real.exp_pos (-M)
    rw [h1, hm, log_coe (mul_pos pos hp), Real.log_mul pos.ne' hp.ne', Real.log_exp, ← EReal.coe_add]
    congr 1
    ring

/-- One head's operands at a point: query rows in the head's own lanes, keys, column terms, values with the lane that sums, and the
    number of the block's first row. -/
structure Hd where
  a : Fin 1024 → Fin 128 → ℝ
  K : ℕ → Fin 128 → ℝ
  C : ℕ → ℝ
  V : ℕ → Fin 128 → ℝ
  n : ℕ

namespace Hd
variable (p : Hd)

def f (t : Fin 1024) (j : ℕ) : ℝ := ∑ d, p.a t d * p.K j d - p.C j

/-- The weight of a column in a row's sum. -/
def W (t : Fin 1024) (j : ℕ) : ℝ := if j ≤ p.n + t.val then Real.exp (p.f t j) else 0

/-- The first `J` columns' part of a row's sums. -/
def sum (J : ℕ) (t : Fin 1024) (d : Fin 128) : ℝ := ∑ j ∈ Finset.range J, p.W t j * p.V j d

/-- A tile of `S` columns from column `J`. -/
theorem step {S J : ℕ} {t : Fin 1024} {m m' : EReal} {b b' : Fin 128 → EReal} (h : Row m b (p.sum J t)) {x : Fin S → EReal} (s0 : Fin S)
    (hx : ∀ s, x s = if J + s.val ≤ p.n + t.val then (p.f t (J + s.val) : EReal) else ⊥) (hs : J + s0.val ≤ p.n + t.val)
    (hm : m' = max m (Finset.fold max (⊥ : EReal) x Finset.univ))
    (hb : ∀ d, b' d = b d * Ideal.exp (m - m') + ∑ s, Ideal.exp (x s - m') * (p.V (J + s.val) d : EReal)) :
    Row m' b' (p.sum (J + S) t) := by
  refine (h.tile hx s0 hs hm hb).congr fun d => ?_
  unfold sum
  rw [Finset.sum_range_add, Finset.sum_range fun i => p.W t (J + i) * p.V (J + i) d]
  rfl

/-- Columns right of the row add nothing. -/
theorem right {S J : ℕ} {t : Fin 1024} (h : p.n + t.val < J) (d : Fin 128) : p.sum (J + S) t d = p.sum J t d := by
  unfold sum
  rw [Finset.sum_range_add, add_eq_left]
  exact Finset.sum_eq_zero fun s _ => by rw [W, if_neg (by omega), zero_mul]

/-- Every row of the state holds the first `J` columns' part. -/
def Rows (J : ℕ) (m : (⟨2, ![1024, 1]⟩ : Shape).Idx → EReal) (b : (⟨2, ![1024, 128]⟩ : Shape).Idx → EReal) : Prop :=
  ∀ t, Row (m (ix2 t 0)) (fun d => b (ix2 t d)) (p.sum J t)

end Hd

end Cert.AttnIdeal.Tile

end
-- ==== Proof.AttnTile.lean ====
/- The attention's tiles, entry by entry: scores, running maxima and running sums of both heads, over the extended reals. -/
module

public import proofs.«01_k».proof.Proof.AttnModel
public import proofs.«01_k».proof.Proof.FoxSoft
public import proofs.«01_k».proof.Proof.Gen.AttnIdeal.Skeleton
public import Idealize.ShloMosaic.Lib.WordCmp

@[expose] public section

set_option maxRecDepth 16384

noncomputable section

namespace Cert.AttnIdeal.Tile

open Idealize.ShloMosaic Cert.AttnIdeal Cert.AttnIdeal.Gen Cert.Reals Cert.Scalars
open Cert.FoxIdeal.Tile (own0 own1 keys0 keys1 sel_coe one_zero eighth_bf16)
open Cert.FoxIdeal.Soft (bot_bits)

/-- The scores of a tile. -/
def sc {T S : ℕ} (a : Fin T → Fin 128 → ℝ) (k : Fin S → Fin 128 → ℝ) (c : Fin S → ℝ) (t : Fin T) (s : Fin S) : ℝ := ∑ d, a t d * k s d - c s

/-- The largest score of a tile's row. -/
def topOf {T S : ℕ} (x : (⟨2, ![T, S]⟩ : Shape).Idx → EReal) (t : Fin T) : EReal := Finset.fold max (⊥ : EReal) (fun s => x (ix2 t s)) Finset.univ

/-- A row's sums with a tile added, `m` the old maximum and `m'` the new one. -/
def addOf {T S : ℕ} (b m m' : EReal) (x : (⟨2, ![T, S]⟩ : Shape).Idx → EReal) (v : Fin S → Fin 128 → ℝ) (t : Fin T) (d : Fin 128) : EReal :=
  b * Ideal.exp (m - m') + ∑ s, Ideal.exp (x (ix2 t s) - m') * (v s d : EReal)

/-- The lane numbers. -/
abbrev lanes : IVec S1x128 32 := iota .tc S1x128 32 [1] iota_S1x128_d1_w32

theorem left_lanes (d : Fin 128) : k0_pay15 (ix2 0 d) = BitVec.ofBool (decide (d.val < 64)) := by
  revert d; decide +kernel

theorem right_lanes (d : Fin 128) : k0_pay16 (ix2 0 d) = BitVec.ofBool (decide (64 ≤ d.val)) := by
  revert d; decide +kernel

theorem lane_64 (d : Fin 128) : Scalar.select (IntOp.cmpi CmpIPredicate.eq (BitVec.ofNat 32 d.val) 64#32) (1 : EReal) 0 = ((if d.val = 64 then 1 else 0 : ℝ) : EReal) := by
  rw [show IntOp.cmpi CmpIPredicate.eq (BitVec.ofNat 32 d.val) 64#32 = BitVec.ofBool (decide (d.val = 64)) by revert d; decide +kernel, one_zero]
  simp

theorem lane_0 (d : Fin 128) : Scalar.select (IntOp.cmpi CmpIPredicate.eq (BitVec.ofNat 32 d.val) 0#32) (1 : EReal) 0 = ((if d.val = 0 then 1 else 0 : ℝ) : EReal) := by
  rw [show IntOp.cmpi CmpIPredicate.eq (BitVec.ofNat 32 d.val) 0#32 = BitVec.ofBool (decide (d.val = 0)) by revert d; decide +kernel, one_zero]
  simp

section
variable {q : Fin 1024 → Fin 128 → ℝ} {v0 : Vec Ideal S1024x128 .bf16}

theorem rows0 (h : IsR v0 q) : IsR (k0_pay17 v0) (own0 fun t d => q t d * (1 / 8)) := by
  intro t d
  pointwise [k0_pay17, k0_pay14]
  simp only [h, left_lanes, eighth_bf16, ← EReal.coe_zero, sel_coe, ← EReal.coe_mul]
  unfold own0
  split <;> simp

theorem rows1 (h : IsR v0 q) : IsR (k0_pay18 v0) (own1 fun t d => q t d * (1 / 8)) := by
  intro t d
  pointwise [k0_pay18, k0_pay14]
  simp only [h, right_lanes, eighth_bf16, ← EReal.coe_zero, sel_coe, ← EReal.coe_mul]
  unfold own1
  split <;> simp

end

/-! A tile to the left of the diagonal. -/

section
variable {v12 v237 : FVec Ideal S1024x128 .bf16} {m : FVec Ideal S1024x1 .f32} {b : FVec Ideal S1024x128 .f32} {v233 v236 : Vec Ideal S1024x128 .bf16}
variable {v243 : Vec Ideal S1x1024 .f32} {x : FVec Ideal S1024x1024 .f32} {a k v : Fin 1024 → Fin 128 → ℝ} {c : Fin 1024 → ℝ}

theorem score0 (h12 : IsR v12 a) (hk : IsR v233 k) (hc : ∀ s, v243 (ix2 0 s) = (c s : EReal)) : IsR (k0_pay4 v12 v233 v243) (sc a k c) := by
  intro t s
  pointwise [k0_pay4, k0_pay2]
  simp only [h12, hk, hc, ← EReal.coe_mul, ← coe_sum, ← EReal.coe_sub, sc]

theorem score1 (h12 : IsR v12 a) (hk : IsR v233 k) (hc : ∀ s, v243 (ix2 0 s) = (c s : EReal)) : IsR (k0_pay21 (k0_pay7 v12 v233) v243) (sc a k c) := by
  intro t s
  pointwise [k0_pay21, k0_pay7, k0_pay2]
  simp only [h12, hk, hc, ← EReal.coe_mul, ← coe_sum, ← EReal.coe_sub, sc]

theorem max0 (t : Fin 1024) : k0_pay5 v12 m v233 v243 (ix2 t 0) = max (m (ix2 t 0)) (topOf (k0_pay4 v12 v233 v243) t) := by
  pointwise [k0_pay5]
  rw [bot_bits]
  rfl

theorem max1 (t : Fin 1024) : k0_pay22 m x v243 (ix2 t 0) = max (m (ix2 t 0)) (topOf (k0_pay21 x v243) t) := by
  pointwise [k0_pay22]
  rw [bot_bits]
  rfl

theorem sum0 (hv : IsR v236 v) (t : Fin 1024) (d : Fin 128) : k0_pay6 lanes k0_pay15 v12 m b v233 v236 v243 (ix2 t d)
    = addOf (b (ix2 t d)) (m (ix2 t 0)) (k0_pay5 v12 m v233 v243 (ix2 t 0)) (k0_pay4 v12 v233 v243) (keys0 v) t d := by
  pointwise [k0_pay6, k0_pay3]
  simp only [hv _ _, left_lanes, lane_64, sel_coe]
  rfl

theorem sum1 (hv : IsR v237 v) (t : Fin 1024) (d : Fin 128) : k0_pay23 m b v237 x v243 (ix2 t d)
    = addOf (b (ix2 t d)) (m (ix2 t 0)) (k0_pay22 m x v243 (ix2 t 0)) (k0_pay21 x v243) (keys1 v) t d := by
  pointwise [k0_pay23]
  simp only [hv _ _, right_lanes, lane_0, sel_coe]
  rfl

theorem copy (hv : IsR v236 v) : IsR (k0_pay3 v236) v := by
  intro t d
  pointwise [k0_pay3]
  exact hv _ _

end

/-! The left half of the diagonal. -/

section
variable {v12 : FVec Ideal S1024x128 .bf16} {m : FVec Ideal S1024x1 .f32} {b : FVec Ideal S1024x128 .f32} {v34 v37 : FVec Ideal S512x128 .bf16}
variable {v33 : Vec Ideal S512x128 .bf16} {v43 : Vec Ideal S1x512 .f32} {x : FVec Ideal S1024x512 .f32} {a : Fin 1024 → Fin 128 → ℝ} {k v : Fin 512 → Fin 128 → ℝ} {c : Fin 512 → ℝ}

/-- The word of `-∞`, the zeros and the mask of the left half. -/
abbrev botW : EReal := Scalar.ofBits (F := Ideal) .f32 0xFF800000#32
abbrev zeroW : FVec Ideal S1024x512 .f32 := constant S1024x512 .f32 0x00000000#32

theorem copy27 (hv : IsR v33 v) : IsR (k0_pay27 v33) v := by
  intro t d
  pointwise [k0_pay27]
  exact hv _ _

theorem copy28 (hv : IsR v33 v) : IsR (k0_pay28 v33) v := copy27 hv
theorem copy37 (hv : IsR v33 v) : IsR (k0_pay37 v33) v := copy27 hv
theorem copy38 (hv : IsR v33 v) : IsR (k0_pay38 v33) v := copy27 hv

theorem sees (s : Fin 512) (t : Fin 1024) : IntOp.cmpi CmpIPredicate.sle (BitVec.ofNat 32 s.val) (BitVec.ofNat 32 t.val) = BitVec.ofBool (decide (s.val ≤ t.val)) :=
  WordCmp.cmpi_sle_ofNat (by omega) (by omega)

theorem score2 (h12 : IsR v12 a) (hk : IsR v34 k) (hc : ∀ s, v43 (ix2 0 s) = (c s : EReal)) (t : Fin 1024) (s : Fin 512) :
    k0_pay29 v12 v34 zeroW v43 (ix2 t s) = if s.val ≤ t.val then (sc a k c t s : EReal) else ⊥ := by
  pointwise [k0_pay29]
  rw [sees, select_ofBool, bot_bits]
  simp only [h12 _ _, hk _ _, hc, ← EReal.coe_mul, ← coe_sum, ← EReal.coe_sub, sc, decide_eq_true_eq]

theorem score3 (h12 : IsR v12 a) (hk : IsR v34 k) (hc : ∀ s, v43 (ix2 0 s) = (c s : EReal)) (t : Fin 1024) (s : Fin 512) :
    k0_pay34 (k0_pay32 v12 v34 v43) k0_pay33 botW (ix2 t s) = if s.val ≤ t.val then (sc a k c t s : EReal) else ⊥ := by
  pointwise [k0_pay34, k0_pay33, k0_pay32]
  rw [sees, select_ofBool, bot_bits]
  simp only [h12 _ _, hk _ _, hc, ← EReal.coe_mul, ← coe_sum, ← EReal.coe_sub, sc, decide_eq_true_eq]

theorem max2 (t : Fin 1024) : k0_pay30 v12 m v34 zeroW v43 (ix2 t 0) = max (m (ix2 t 0)) (topOf (k0_pay29 v12 v34 zeroW v43) t) := by
  pointwise [k0_pay30]
  rw [bot_bits]
  rfl

theorem max3 (t : Fin 1024) : k0_pay35 m x k0_pay33 botW (ix2 t 0) = max (m (ix2 t 0)) (topOf (k0_pay34 x k0_pay33 botW) t) := by
  pointwise [k0_pay35]
  rw [bot_bits]
  rfl

theorem sum2 (hv : IsR v37 v) (t : Fin 1024) (d : Fin 128) : k0_pay31 lanes k0_pay15 v12 m b v34 v37 zeroW v43 (ix2 t d)
    = addOf (b (ix2 t d)) (m (ix2 t 0)) (k0_pay30 v12 m v34 zeroW v43 (ix2 t 0)) (k0_pay29 v12 v34 zeroW v43) (keys0 v) t d := by
  pointwise [k0_pay31]
  simp only [hv _ _, left_lanes, lane_64, sel_coe]
  rfl

theorem sum3 (hv : IsR v37 v) (t : Fin 1024) (d : Fin 128) : k0_pay36 lanes k0_pay16 m b v37 x k0_pay33 botW (ix2 t d)
    = addOf (b (ix2 t d)) (m (ix2 t 0)) (k0_pay35 m x k0_pay33 botW (ix2 t 0)) (k0_pay34 x k0_pay33 botW) (keys1 v) t d := by
  pointwise [k0_pay36]
  simp only [hv _ _, right_lanes, lane_0, sel_coe]
  rfl

end

/-! The right half of the diagonal, of the lower 512 rows. -/

section
variable {v12 : FVec Ideal S1024x128 .bf16} {m : FVec Ideal S1024x1 .f32} {b : FVec Ideal S1024x128 .f32} {v117 : Vec Ideal S512x128 .bf16} {v118 v121 : FVec Ideal S512x128 .bf16}
variable {v130 : Vec Ideal S1x512 .f32} {x : FVec Ideal S512x512 .f32} {a : Fin 1024 → Fin 128 → ℝ} {k v : Fin 512 → Fin 128 → ℝ} {c : Fin 512 → ℝ}
variable {y : FVec Ideal S512x1 .f32} {z : FVec Ideal S512x128 .f32}

/-- Row `512 + t`. -/
abbrev lo (t : Fin 512) : Fin 1024 := ⟨512 + t.val, by omega⟩

theorem sees' (s t : Fin 512) : IntOp.cmpi CmpIPredicate.sle (BitVec.ofNat 32 s.val) (BitVec.ofNat 32 t.val) = BitVec.ofBool (decide (s.val ≤ t.val)) :=
  WordCmp.cmpi_sle_ofNat (by omega) (by omega)

theorem score4 (h12 : IsR v12 a) (hk : IsR v117 k) (hc : ∀ s, v130 (ix2 0 s) = (c s : EReal)) (t s : Fin 512) :
    k0_pay42 (k0_pay41 v12 v117 v130) (ix2 t s) = if s.val ≤ t.val then (sc a k c (lo t) s : EReal) else ⊥ := by
  pointwise [k0_pay42, k0_pay41, k0_pay37]
  rw [sees', select_ofBool, bot_bits]
  simp only [h12 _ _, hk _ _, hc, ← EReal.coe_mul, ← coe_sum, ← EReal.coe_sub, sc, decide_eq_true_eq]

theorem score5 (h12 : IsR v12 a) (hk : IsR v118 k) (hc : ∀ s, v130 (ix2 0 s) = (c s : EReal)) (t s : Fin 512) :
    k0_pay48 v12 v118 v130 (ix2 t s) = if s.val ≤ t.val then (sc a k c (lo t) s : EReal) else ⊥ := by
  pointwise [k0_pay48]
  rw [sees', select_ofBool, bot_bits]
  simp only [h12 _ _, hk _ _, hc, ← EReal.coe_mul, ← coe_sum, ← EReal.coe_sub, sc, decide_eq_true_eq]

theorem max4 (t : Fin 512) : k0_pay43 y x (ix2 t 0) = max (y (ix2 t 0)) (topOf (k0_pay42 x) t) := by
  pointwise [k0_pay43]
  rw [bot_bits]
  rfl

theorem max5 (t : Fin 512) : k0_pay49 y x (ix2 t 0) = max (y (ix2 t 0)) (topOf x t) := by
  pointwise [k0_pay49]
  rw [bot_bits]
  rfl

theorem low39 (t : Fin 512) : k0_pay39 m (ix2 t 0) = m (ix2 (lo t) 0) := by
  pointwise [k0_pay39]

theorem low40 (t : Fin 512) (d : Fin 128) : k0_pay40 b (ix2 t d) = b (ix2 (lo t) d) := by
  pointwise [k0_pay40]

theorem join44 (t : Fin 1024) : k0_pay44 m y x (ix2 t 0) = if h : t.val < 512 then m (ix2 t 0) else k0_pay43 y x (ix2 ⟨t.val - 512, by omega⟩ 0) := by
  pointwise [k0_pay44]

theorem join45 (hv : IsR v121 v) (t : Fin 1024) (d : Fin 128) : k0_pay45 lanes k0_pay15 b v121 y z x (ix2 t d) = if h : t.val < 512 then b (ix2 t d) else
    addOf (z (ix2 ⟨t.val - 512, by omega⟩ d)) (y (ix2 ⟨t.val - 512, by omega⟩ 0)) (k0_pay43 y x (ix2 ⟨t.val - 512, by omega⟩ 0)) (k0_pay42 x) (keys0 v) ⟨t.val - 512, by omega⟩ d := by
  pointwise [k0_pay45]
  simp only [hv _ _, left_lanes, lane_64, sel_coe]
  rfl

theorem join50 (hv : IsR v121 v) (t : Fin 1024) (d : Fin 128) : k0_pay50 lanes k0_pay16 b v121 y z x (ix2 t d) = if h : t.val < 512 then b (ix2 t d) else
    addOf (z (ix2 ⟨t.val - 512, by omega⟩ d)) (y (ix2 ⟨t.val - 512, by omega⟩ 0)) (k0_pay49 y x (ix2 ⟨t.val - 512, by omega⟩ 0)) x (keys1 v) ⟨t.val - 512, by omega⟩ d := by
  pointwise [k0_pay50]
  simp only [hv _ _, right_lanes, lane_0, sel_coe]
  rfl

end

end Cert.AttnIdeal.Tile

end
-- ==== Proof.AttnRows.lean ====
/- What the tiles do to the running state of all rows of a head, over the reals. -/
module

public import proofs.«01_k».proof.Proof.AttnTile

@[expose] public section

set_option maxRecDepth 16384

noncomputable section

namespace Cert.AttnIdeal.Tile

open Idealize.ShloMosaic Cert.AttnIdeal Cert.AttnIdeal.Gen Cert.Reals Cert.Scalars
open Cert.FoxIdeal.Tile (own0 own1 keys0 keys1)
open Cert.FoxIdeal.Soft (bot_bits)

/-- `S` columns of keys and column terms are the head's, from column `J`. -/
structure Part {S : ℕ} (p : Hd) (J : ℕ) (xk : (⟨2, ![S, 128]⟩ : Shape).Idx → EReal) (xc : (⟨2, ![1, S]⟩ : Shape).Idx → EReal) : Prop where
  K : IsR xk (fun s d => p.K (J + s.val) d)
  C : ∀ s, xc (ix2 0 s) = (p.C (J + s.val) : EReal)

variable {p : Hd} {J : ℕ}

/-- Nothing seen yet. -/
theorem start : p.Rows 0 (k0_pay19 (F := Ideal)) (k0_pay20 (F := Ideal)) := by
  intro t
  refine .inl ⟨?_, fun d => ⟨?_, ?_⟩⟩
  · pointwise [k0_pay19]
    exact bot_bits
  · pointwise [k0_pay20]
  · unfold Hd.sum
    simp

section
variable {v12 v237 : FVec Ideal S1024x128 .bf16} {m : FVec Ideal S1024x1 .f32} {b : FVec Ideal S1024x128 .f32} {v233 v236 : Vec Ideal S1024x128 .bf16}
variable {v243 : Vec Ideal S1x1024 .f32} {v : Fin 1024 → Fin 128 → ℝ}

theorem left0 (H : p.Rows J m b) (h12 : IsR v12 p.a) (hP : Part p J v233 v243) (hv : IsR v236 v) (hV : ∀ s d, p.V (J + s.val) d = keys0 v s d) (hJ : J + 1024 ≤ p.n) :
    p.Rows (J + 1024) (k0_pay5 v12 m v233 v243) (k0_pay6 lanes k0_pay15 v12 m b v233 v236 v243) := by
  intro t
  refine p.step (H t) ⟨0, by omega⟩ (fun s => ?_) (by show J + 0 ≤ _; omega) (max0 t) fun d => ?_
  · rw [if_pos (by omega)]
    exact score0 h12 hP.K hP.C t s
  · simp only [hV]
    exact sum0 hv t d

theorem left1 (H : p.Rows J m b) (h12 : IsR v12 p.a) (hP : Part p J v233 v243) (hv : IsR v237 v) (hV : ∀ s d, p.V (J + s.val) d = keys1 v s d) (hJ : J + 1024 ≤ p.n) :
    p.Rows (J + 1024) (k0_pay22 m (k0_pay7 v12 v233) v243) (k0_pay23 m b v237 (k0_pay7 v12 v233) v243) := by
  intro t
  refine p.step (H t) ⟨0, by omega⟩ (fun s => ?_) (by show J + 0 ≤ _; omega) (max1 t) fun d => ?_
  · rw [if_pos (by omega)]
    exact score1 h12 hP.K hP.C t s
  · simp only [hV]
    exact sum1 hv t d

end

section
variable {v12 : FVec Ideal S1024x128 .bf16} {m : FVec Ideal S1024x1 .f32} {b : FVec Ideal S1024x128 .f32} {v34 v37 : FVec Ideal S512x128 .bf16}
variable {v43 : Vec Ideal S1x512 .f32} {v : Fin 512 → Fin 128 → ℝ}

theorem near0 (H : p.Rows p.n m b) (h12 : IsR v12 p.a) (hP : Part p p.n v34 v43) (hv : IsR v37 v) (hV : ∀ s d, p.V (p.n + s.val) d = keys0 v s d) :
    p.Rows (p.n + 512) (k0_pay30 v12 m v34 zeroW v43) (k0_pay31 lanes k0_pay15 v12 m b v34 v37 zeroW v43) := by
  intro t
  refine p.step (H t) ⟨0, by omega⟩ (fun s => ?_) (by show p.n + 0 ≤ _; omega) (max2 t) fun d => ?_
  · simp only [Nat.add_le_add_iff_left]
    exact score2 h12 hP.K hP.C t s
  · simp only [hV]
    exact sum2 hv t d

theorem near1 (H : p.Rows p.n m b) (h12 : IsR v12 p.a) (hP : Part p p.n v34 v43) (hv : IsR v37 v) (hV : ∀ s d, p.V (p.n + s.val) d = keys1 v s d) :
    p.Rows (p.n + 512) (k0_pay35 m (k0_pay32 v12 v34 v43) k0_pay33 botW) (k0_pay36 lanes k0_pay16 m b v37 (k0_pay32 v12 v34 v43) k0_pay33 botW) := by
  intro t
  refine p.step (H t) ⟨0, by omega⟩ (fun s => ?_) (by show p.n + 0 ≤ _; omega) (max3 t) fun d => ?_
  · simp only [Nat.add_le_add_iff_left]
    exact score3 h12 hP.K hP.C t s
  · simp only [hV]
    exact sum3 hv t d

end

/-- The last tile: the upper rows stay, the lower ones take it in. -/
theorem far {m m' y : (⟨2, ![1024, 1]⟩ : Shape).Idx → EReal} {b b' : (⟨2, ![1024, 128]⟩ : Shape).Idx → EReal} {x : (⟨2, ![512, 512]⟩ : Shape).Idx → EReal}
    {new : Fin 512 → EReal} {v : Fin 512 → Fin 128 → ℝ} (H : p.Rows (p.n + 512) m b)
    (hx : ∀ t s : Fin 512, x (ix2 t s) = if s.val ≤ t.val then (p.f (lo t) (p.n + 512 + s.val) : EReal) else ⊥)
    (hnew : ∀ t, new t = max (m (ix2 (lo t) 0)) (topOf x t))
    (hm : ∀ t : Fin 1024, m' (ix2 t 0) = if h : t.val < 512 then m (ix2 t 0) else new ⟨t.val - 512, by omega⟩)
    (hb : ∀ (t : Fin 1024) (d : Fin 128), b' (ix2 t d) = if h : t.val < 512 then b (ix2 t d) else
      addOf (b (ix2 (lo ⟨t.val - 512, by omega⟩) d)) (m (ix2 (lo ⟨t.val - 512, by omega⟩) 0)) (new ⟨t.val - 512, by omega⟩) x v ⟨t.val - 512, by omega⟩ d)
    (hV : ∀ s d, p.V (p.n + 512 + s.val) d = v s d) : p.Rows (p.n + 512 + 512) m' b' := by
  intro t
  by_cases h : t.val < 512
  · have e : (fun d => b' (ix2 t d)) = fun d => b (ix2 t d) := funext fun d => by rw [hb, dif_pos h]
    rw [e, hm, dif_pos h]
    exact (H t).congr fun d => (p.right (by omega) d).symm
  · obtain ⟨u, rfl⟩ : ∃ u : Fin 512, t = lo u := ⟨⟨t.val - 512, by omega⟩, Fin.ext (by show _ = 512 + (t.val - 512); omega)⟩
    have eu : (⟨(lo u).val - 512, by omega⟩ : Fin 512) = u := Fin.ext (by show 512 + u.val - 512 = _; omega)
    refine p.step (H (lo u)) ⟨0, by omega⟩ (x := fun s => x (ix2 u s)) (fun s => ?_) (by show p.n + 512 + 0 ≤ p.n + (512 + u.val); omega) ?_ fun d => ?_
    · rw [hx]
      refine if_congr ?_ rfl rfl
      show s.val ≤ u.val ↔ p.n + 512 + s.val ≤ p.n + (512 + u.val)
      omega
    · rw [hm, dif_neg h]
      simp only [eu]
      exact hnew u
    · rw [hb, dif_neg h, hm, dif_neg h]
      simp only [eu, hV]
      rfl

section
variable {v12 : FVec Ideal S1024x128 .bf16} {m : FVec Ideal S1024x1 .f32} {b : FVec Ideal S1024x128 .f32} {v117 : Vec Ideal S512x128 .bf16} {v118 v121 : FVec Ideal S512x128 .bf16}
variable {v130 : Vec Ideal S1x512 .f32} {v : Fin 512 → Fin 128 → ℝ}

theorem far0 (H : p.Rows (p.n + 512) m b) (h12 : IsR v12 p.a) (hP : Part p (p.n + 512) v117 v130) (hv : IsR v121 v) (hV : ∀ s d, p.V (p.n + 512 + s.val) d = keys0 v s d) :
    p.Rows (p.n + 512 + 512) (k0_pay44 m (k0_pay39 m) (k0_pay41 v12 v117 v130)) (k0_pay45 lanes k0_pay15 b v121 (k0_pay39 m) (k0_pay40 b) (k0_pay41 v12 v117 v130)) :=
  far (y := m) (new := fun t => k0_pay43 (k0_pay39 m) (k0_pay41 v12 v117 v130) (ix2 t 0)) H (score4 h12 hP.K hP.C) (fun t => (max4 t).trans (by rw [low39])) join44
    (fun t d => (join45 hv t d).trans (by simp only [low39, low40])) hV

/-- The right head's running maximum after the last tile. -/
def m1 (m : FVec Ideal S1024x1 .f32) (y : FVec Ideal S512x1 .f32) (x : FVec Ideal S512x512 .f32) : FVec Ideal S1024x1 .f32 :=
  concatenate S1024x1 0 [⟨S512x1, extractStridedSlice S512x1 ![0, 0] m slices_S1024x1_o0_0_S512x1⟩, ⟨S512x1, k0_pay49 y x⟩] concatenates_S512x1_S512x1_S1024x1_d0

theorem m1_at (y : FVec Ideal S512x1 .f32) (x : FVec Ideal S512x512 .f32) (t : Fin 1024) :
    m1 m y x (ix2 t 0) = if h : t.val < 512 then m (ix2 t 0) else k0_pay49 y x (ix2 ⟨t.val - 512, by omega⟩ 0) := by
  pointwise [m1]

theorem far1 (H : p.Rows (p.n + 512) m b) (h12 : IsR v12 p.a) (hP : Part p (p.n + 512) v118 v130) (hv : IsR v121 v) (hV : ∀ s d, p.V (p.n + 512 + s.val) d = keys1 v s d) :
    p.Rows (p.n + 512 + 512) (m1 m (k0_pay46 m) (k0_pay48 v12 v118 v130)) (k0_pay50 lanes k0_pay16 b v121 (k0_pay46 m) (k0_pay47 b) (k0_pay48 v12 v118 v130)) :=
  far (y := m) (new := fun t => k0_pay49 (k0_pay46 m) (k0_pay48 v12 v118 v130) (ix2 t 0)) H (score5 h12 hP.K hP.C)
    (fun t => (max5 t).trans (by rw [show k0_pay46 m (ix2 t 0) = m (ix2 (lo t) 0) from low39 t])) (m1_at _ _)
    (fun t d => (join50 hv t d).trans (by
      simp only [show ∀ u : Fin 512, k0_pay46 m (ix2 u 0) = m (ix2 (lo u) 0) from low39, show ∀ (u : Fin 512) d, k0_pay47 b (ix2 u d) = b (ix2 (lo u) d) from low40])) hV

end

/-! The end of a block's rows. -/

section
variable {q : Hd} {b b' : FVec Ideal S1024x128 .f32} {v121 : FVec Ideal S512x128 .bf16} {y : FVec Ideal S512x1 .f32} {z : FVec Ideal S512x128 .f32} {x : FVec Ideal S512x512 .f32}
variable {m m' : FVec Ideal S1024x1 .f32}

theorem out_at (H : p.Rows J m b) (H' : q.Rows J m' (k0_pay50 lanes k0_pay16 b' v121 y z x)) (pos : ∀ t, 0 < p.sum J t 64) (pos' : ∀ t, 0 < q.sum J t 0) :
    IsR (k0_pay53 lanes k0_pay15 k0_pay16 b' v121 b y z x) (fun t d => if d.val < 64 then p.sum J t d / p.sum J t 64 else q.sum J t d / q.sum J t 0) := by
  intro t d
  pointwise [k0_pay53, k0_pay51, k0_pay52]
  have e := (H t).div d 64 (pos t)
  have e' := (H' t).div d 0 (pos' t)
  rw [left_lanes, select_ofBool, coe_ite]
  simp only [decide_eq_true_eq]
  split
  · exact e
  · exact e'

theorem lse0_at (H : p.Rows J m b) (pos : ∀ t, 0 < p.sum J t 64) (t : Fin 1024) : k0_pay54 m b (ix3 0 t 0) = ((Real.log (p.sum J t 64) : ℝ) : EReal) := by
  pointwise [k0_pay54, k0_pay51]
  exact (H t).log 64 (pos t)

theorem lse1_at (H' : q.Rows J (m1 m y x) (k0_pay50 lanes k0_pay16 b' v121 y z x)) (pos' : ∀ t, 0 < q.sum J t 0) (t : Fin 1024) :
    k0_pay1 (k0_pay55 lanes k0_pay16 m b' v121 y z x) (ix3 0 t 0) = ((Real.log (q.sum J t 0) : ℝ) : EReal) := by
  have e := (H' t).log 0 (pos' t)
  have s : k0_pay55 lanes k0_pay16 m b' v121 y z x (ix2 t 0) = m1 m y x (ix2 t 0) + Ideal.log (k0_pay50 lanes k0_pay16 b' v121 y z x (ix2 t 0)) := by
    rw [m1_at]
    pointwise [k0_pay55, k0_pay52]
  pointwise [k0_pay1]
  exact s.trans e

end

end Cert.AttnIdeal.Tile

end
-- ==== Proof.AttnPoint.lean ====
/- What one grid point of the attention leaves in its results, over the reals. -/
module

public import proofs.«01_k».proof.Proof.AttnRows
public import proofs.«01_k».proof.Proof.Gen.AttnIdeal.Frame
public import Idealize.ShloMosaic.Lib.Pipeline.ValueKit
public import Idealize.ShloMosaic.Lib.Pipeline.ValueKit.Tiles

@[expose] public section

set_option maxRecDepth 16384

noncomputable section

namespace Cert.AttnIdeal.Tile

open Idealize.ShloMosaic Cert.AttnIdeal Cert.AttnIdeal.Gen Cert.Reals
open Cert.FoxIdeal.Tile (own0 own1 keys0 keys1)

/-- A grid point's operands: query rows, keys, values, the two heads' column terms, and the number of the block's first row. -/
structure Pt where
  q : Fin 1024 → Fin 128 → ℝ
  K : ℕ → Fin 128 → ℝ
  V : ℕ → Fin 128 → ℝ
  C0 : ℕ → ℝ
  C1 : ℕ → ℝ
  n : ℕ

def Pt.h0 (p : Pt) : Hd := ⟨own0 fun t d => p.q t d * (1 / 8), p.K, p.C0, fun j d => keys0 p.V j d, p.n⟩
def Pt.h1 (p : Pt) : Hd := ⟨own1 fun t d => p.q t d * (1 / 8), p.K, p.C1, fun j d => keys1 p.V j d, p.n⟩

theorem trips1 : ∀ t : Fin cfg0.N, (k0_t1_loop (grid0.coords t)).trips = t.val % 8 := by decide +kernel
theorem trips2 : ∀ t : Fin cfg0.N, (k0_t2_loop (grid0.coords t)).trips = 0 := by decide +kernel
theorem off1 : ∀ (t : Fin cfg0.N) (k : Fin (k0_t1_loop (grid0.coords t)).trips), k0_off1 (grid0.coords t) k = ![1024 * k.val, 0] := by decide +kernel
theorem off2_0 : ∀ (t : Fin cfg0.N) (k : Fin (k0_t1_loop (grid0.coords t)).trips),
    k0_off2 (grid0.coords t) k 0#32 = ![2 * (t.val / 8), 1024 * k.val] := by decide +kernel
theorem off2_1 : ∀ (t : Fin cfg0.N) (k : Fin (k0_t1_loop (grid0.coords t)).trips),
    k0_off2 (grid0.coords t) k 1#32 = ![2 * (t.val / 8) + 1, 1024 * k.val] := by decide +kernel

section
variable {p : Pt} {t : Fin cfg0.N} (hn : p.n = 1024 * (t.val % 8))
include hn

theorem off5_0 : k0_off5 (grid0.coords t) 0#32 = ![p.n, 0] := by rw [hn]; clear hn; revert t; decide +kernel
theorem off5_1 : k0_off5 (grid0.coords t) 1#32 = ![p.n + 512, 0] := by rw [hn]; clear hn; revert t; decide +kernel
theorem off6_00 : k0_off6 (grid0.coords t) 0#32 0#32 = ![2 * (t.val / 8), p.n] := by rw [hn]; clear hn; revert t; decide +kernel
theorem off6_10 : k0_off6 (grid0.coords t) 1#32 0#32 = ![2 * (t.val / 8) + 1, p.n] := by rw [hn]; clear hn; revert t; decide +kernel
theorem off6_01 : k0_off6 (grid0.coords t) 0#32 1#32 = ![2 * (t.val / 8), p.n + 512] := by rw [hn]; clear hn; revert t; decide +kernel
theorem off6_11 : k0_off6 (grid0.coords t) 1#32 1#32 = ![2 * (t.val / 8) + 1, p.n + 512] := by rw [hn]; clear hn; revert t; decide +kernel

end

/-- The keys, values and column terms are the model's; `h` is the pair of heads. -/
structure Cols (p : Pt) (h : ℕ) (xk xv : S8192x128.Idx → EReal) (xc : S8x8192.Idx → EReal) : Prop where
  K : ∀ (j : Fin 8192) d, xk (ix2 j d) = (p.K j d : EReal)
  V : ∀ (j : Fin 8192) d, xv (ix2 j d) = (p.V j d : EReal)
  C0 : ∀ (r : Fin 8) (j : Fin 8192), r.val = 2 * h → xc (ix2 r j) = (p.C0 j : EReal)
  C1 : ∀ (r : Fin 8) (j : Fin 8192), r.val = 2 * h + 1 → xc (ix2 r j) = (p.C1 j : EReal)

/-! Reading a tile of `S` columns. -/

theorem cols_of (S : ℕ) {x : S8192x128.Idx → EReal} {f : ℕ → Fin 128 → ℝ} (h : ∀ (j : Fin 8192) d, x (ix2 j d) = (f j d : EReal)) (off : Fin 2 → ℕ) (J : ℕ)
    (hoff : off = ![J, 0]) (inb : ∀ a, off a + (![S, 128] : Fin 2 → ℕ) a ≤ S8192x128.size a) :
    IsR (View.ld (Val := Elt Ideal) (e' := .bf16) x (Rect.unit (s := S8192x128) off ![S, 128] inb)) (fun s d => f (J + s.val) d) := by
  subst hoff
  intro s d
  have hb : J + S ≤ 8192 := inb 0
  have hj : J + s.val < 8192 := by omega
  exact (View.ld_unit_apply_of (S := S8192x128) (Val := Elt Ideal) (e := .bf16) x ![J, 0] ![S, 128] inb (ix2 s d) (ix2 ⟨J + s.val, hj⟩ d) (by
    intro a
    fin_cases a
    · rfl
    · exact (Nat.zero_add _).symm)).trans (h _ _)

theorem row_of (S : ℕ) {x : S8x8192.Idx → EReal} {f : ℕ → ℝ} {n : ℕ} (h : ∀ (r : Fin 8) (j : Fin 8192), r.val = n → x (ix2 r j) = (f j : EReal)) (off : Fin 2 → ℕ) (J : ℕ)
    (hoff : off = ![n, J]) (inb : ∀ a, off a + (![1, S] : Fin 2 → ℕ) a ≤ S8x8192.size a) (s : Fin S) :
    View.ld (Val := Elt Ideal) (e' := .f32) x (Rect.unit (s := S8x8192) off ![1, S] inb) (ix2 0 s) = (f (J + s.val) : EReal) := by
  subst hoff
  have hb : J + S ≤ 8192 := inb 1
  have hn : n + 1 ≤ 8 := inb 0
  have hj : J + s.val < 8192 := by omega
  exact (View.ld_unit_apply_of (S := S8x8192) (Val := Elt Ideal) (e := .f32) x ![n, J] ![1, S] inb (ix2 0 s) (ix2 ⟨n, hn⟩ ⟨J + s.val, hj⟩) (by
    intro a
    fin_cases a <;> rfl)).trans (h _ _ rfl)

/-- The state of both heads when the first `J` columns are in. -/
def Both (p : Pt) (J : ℕ) (x : FVec Ideal S1024x1 .f32 × FVec Ideal S1024x128 .f32 × FVec Ideal S1024x1 .f32 × FVec Ideal S1024x128 .f32) : Prop :=
  p.h0.Rows J x.1 x.2.1 ∧ p.h1.Rows J x.2.2.1 x.2.2.2

section
variable {𝒱 : Variants} {bd : Option 𝒱.V} {c : Dev nD} {arg2 : Memref sig .tc .vmem S1024x128 .bf16} {harg2 : arg2.IsWhole} {arg3 : Memref sig .tc .vmem S8192x128 .bf16} {harg3 : arg3.IsWhole} {arg4 : Memref sig .tc .vmem S8192x128 .bf16} {harg4 : arg4.IsWhole} {arg5 : Memref sig .tc .vmem S8x8192 .f32} {harg5 : arg5.IsWhole} {arg6 : Memref sig .tc .vmem S1024x128 .f32} {harg6 : arg6.IsWhole} {arg7 : Memref sig .tc .vmem S1x1024x2 .f32} {harg7 : arg7.IsWhole} {arg0 : BitVec 32}
variable {v0 : Vec Ideal S1024x128 .bf16} {X_arg3 : BufTy.Contents (Elt Ideal) arg3.view.ty} {X_arg4 : BufTy.Contents (Elt Ideal) arg4.view.ty} {X_arg5 : BufTy.Contents (Elt Ideal) arg5.view.ty}
variable {p : Pt} {t : Fin cfg0.N} (hq : IsR v0 p.q)
  (hC : Cols p (t.val / 8) (arg3.view.read (Elt Ideal) X_arg3) (arg4.view.read (Elt Ideal) X_arg4) (arg5.view.read (Elt Ideal) X_arg5)) (hn : p.n = 1024 * (t.val % 8))
include hq hC hn

theorem trip (k : Fin (k0_t1_loop (grid0.coords t)).trips) {acc : FVec Ideal S1024x1 .f32 × FVec Ideal S1024x128 .f32 × FVec Ideal S1024x1 .f32 × FVec Ideal S1024x128 .f32}
    (H : Both p (1024 * k.val) acc) :
    Both p (1024 * k.val + 1024) (tripR_k0_t1 𝒱 c bd (grid0.coords t) arg2 harg2 arg3 harg3 arg4 harg4 arg5 harg5 arg6 harg6 arg7 harg7 arg0 v0 lanes X_arg3 X_arg4 X_arg5 k acc) := by
  have hk : 1024 * k.val + 1024 ≤ p.n := by
    have := k.isLt
    have e := trips1 t
    omega
  have rK := cols_of 1024 hC.K _ _ (off1 t k) (k0_off1_inb (grid0.coords t) k)
  have rV := cols_of 1024 hC.V _ _ (off1 t k) (k0_off1_inb (grid0.coords t) k)
  have r0 := row_of 1024 hC.C0 _ _ (off2_0 t k) (k0_off2_inb (grid0.coords t) k 0)
  have r1 := row_of 1024 hC.C1 _ _ (off2_1 t k) (k0_off2_inb (grid0.coords t) k 1)
  unfold tripR_k0_t1 trip_k0_t1
  dsimp only
  exact ⟨left0 H.1 (rows0 hq) ⟨rK, r0⟩ rV (fun s d => rfl) hk, left1 H.2 (rows1 hq) ⟨rK, r1⟩ (copy rV) (fun s d => rfl) hk⟩

theorem upto (k : ℕ) (hk : k ≤ (k0_t1_loop (grid0.coords t)).trips) :
    Both p (1024 * k) (st_k0_t1 𝒱 c bd (grid0.coords t) arg2 harg2 arg3 harg3 arg4 harg4 arg5 harg5 arg6 harg6 arg7 harg7 arg0 v0 lanes X_arg3 X_arg4 X_arg5 (k0_pay19, k0_pay20, k0_pay19, k0_pay20) k) := by
  induction k with
  | zero => exact ⟨start, start⟩
  | succ k ih =>
    rw [st_k0_t1_succ 𝒱 c bd (grid0.coords t) arg2 harg2 arg3 harg3 arg4 harg4 arg5 harg5 arg6 harg6 arg7 harg7 arg0 v0 lanes X_arg3 X_arg4 X_arg5 (k0_pay19, k0_pay20, k0_pay19, k0_pay20) ⟨k, hk⟩]
    exact trip hq hC hn ⟨k, hk⟩ (ih (by omega))

/-- Before the diagonal. -/
theorem left_end : Both p p.n (st_k0_t1 𝒱 c bd (grid0.coords t) arg2 harg2 arg3 harg3 arg4 harg4 arg5 harg5 arg6 harg6 arg7 harg7 arg0 v0 lanes X_arg3 X_arg4 X_arg5 (k0_pay19, k0_pay20, k0_pay19, k0_pay20)
    (Scf.trips (k0_t1_loop (grid0.coords t)).lb (k0_t1_loop (grid0.coords t)).ub (k0_t1_loop (grid0.coords t)).st)) := by
  have h := upto (𝒱 := 𝒱) (bd := bd) (c := c) (harg2 := harg2) (harg3 := harg3) (harg4 := harg4) (harg5 := harg5) (harg6 := harg6) (harg7 := harg7) (arg0 := arg0) hq hC hn _ le_rfl
  have e := trips1 t
  rw [show p.n = 1024 * (k0_t1_loop (grid0.coords t)).trips by omega]
  exact h

end

theorem second_nil (t : Fin cfg0.N) : Scf.trips (k0_t2_loop (grid0.coords t)).lb (k0_t2_loop (grid0.coords t)).ub (k0_t2_loop (grid0.coords t)).st = 0 := trips2 t

/-- The operands of a point are the model's. -/
structure Ops (p : Pt) (t : Fin cfg0.N) (x0 : Vec Ideal S1024x128 .bf16) (x1 x2 : Vec Ideal S8192x128 .bf16) (x3 : Vec Ideal S8x8192 .f32) : Prop where
  num : p.n = 1024 * (t.val % 8)
  q : IsR x0 p.q
  cols : Cols p (t.val / 8) x1 x2 x3

theorem block_read {κ : Kind} {sp : Space} {v : Memref sig κ sp S1024x128 .bf16} (hv : v.IsWhole) (x : Vec Ideal S1024x128 .bf16) :
    View.readAt (Elt Ideal) v.view (Rect.unit (s := S1024x128) ![0, 0] S1024x128.size inb_S1024x128_S1024x128_0_0).toLoadRect (hv.unread x) = x := by
  rw [View.readAt_eq_ld, hv.read_unread, View.ld_unit_zero (by funext a; fin_cases a <;> rfl)]

/-- The own row's weight is positive, so is the sum's. -/
theorem pos_of {p : Hd} {e : Fin 128} (hV : ∀ j, p.V j e = 1) (t : Fin 1024) : 0 < p.sum (p.n + 512 + 512) t e := by
  unfold Hd.sum
  simp only [hV, mul_one]
  refine Finset.sum_pos' (fun j _ => ?_) ⟨p.n + t.val, Finset.mem_range.2 (by omega), ?_⟩
  · unfold Hd.W
    split
    · positivity
    · exact le_rfl
  · rw [Hd.W, if_pos le_rfl]
    positivity

theorem pos0 (p : Pt) (t : Fin 1024) : 0 < p.h0.sum (p.n + 512 + 512) t 64 := pos_of (p := p.h0) (fun _ => rfl) t
theorem pos1 (p : Pt) (t : Fin 1024) : 0 < p.h1.sum (p.n + 512 + 512) t 0 := pos_of (p := p.h1) (fun _ => rfl) t

section
variable (c : Dev nD) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S8x8192 .f32) (harg5 : arg5.IsWhole) (arg6 : Memref sig .tc .vmem S1024x128 .f32) (harg6 : arg6.IsWhole) (arg7 : Memref sig .tc .vmem S1x1024x2 .f32) (harg7 : arg7.IsWhole)
variable {p : Pt} {t : Fin cfg0.N} {x0 : Vec Ideal S1024x128 .bf16} {x1 x2 : Vec Ideal S8192x128 .bf16} {x3 : Vec Ideal S8x8192 .f32} (H : Ops p t x0 x1 x2 x3)
include H

/-- Left of the diagonal, as the run names it. -/
theorem at_left : Both p p.n (kernelRun0_A.sl.r_2 c (grid0.coords t) arg2 harg2 arg3 harg3 arg4 harg4 arg5 harg5 arg6 harg6 arg7 harg7 x0 x1 x2 x3, kernelRun0_A.sl.r_3 c (grid0.coords t) arg2 harg2 arg3 harg3 arg4 harg4 arg5 harg5 arg6 harg6 arg7 harg7 x0 x1 x2 x3,
    kernelRun0_A.sl.r_4 c (grid0.coords t) arg2 harg2 arg3 harg3 arg4 harg4 arg5 harg5 arg6 harg6 arg7 harg7 x0 x1 x2 x3, kernelRun0_A.sl.r_5 c (grid0.coords t) arg2 harg2 arg3 harg3 arg4 harg4 arg5 harg5 arg6 harg6 arg7 harg7 x0 x1 x2 x3) := by
  have hC := H.cols
  rw [← harg3.read_unread (Val := Elt Ideal) x1, ← harg4.read_unread (Val := Elt Ideal) x2, ← harg5.read_unread (Val := Elt Ideal) x3] at hC
  have h := left_end (𝒱 := Variants.none) (bd := none) (c := c) (harg2 := harg2) (harg3 := harg3) (harg4 := harg4) (harg5 := harg5) (harg6 := harg6) (harg7 := harg7) (arg0 := BitVec.ofNat 32 (grid0.coords t 0))
    (v0 := View.readAt (Elt Ideal) arg2.view (Rect.unit (s := S1024x128) ![0, 0] S1024x128.size inb_S1024x128_S1024x128_0_0).toLoadRect (harg2.unread x0))
    (by rw [block_read]; exact H.q) hC H.num
  unfold kernelRun0_A.sl.r_2 kernelRun0_A.sl.r_3 kernelRun0_A.sl.r_4 kernelRun0_A.sl.r_5
  rw [second_nil]
  exact h

theorem head0 : p.h0.Rows (p.n + 512 + 512) (kernelRun0_A.sl.r_18 c (grid0.coords t) arg2 harg2 arg3 harg3 arg4 harg4 arg5 harg5 arg6 harg6 arg7 harg7 x0 x1 x2 x3) (kernelRun0_A.sl.r_19 c (grid0.coords t) arg2 harg2 arg3 harg3 arg4 harg4 arg5 harg5 arg6 harg6 arg7 harg7 x0 x1 x2 x3) := by
  have h := (at_left c arg2 harg2 arg3 harg3 arg4 harg4 arg5 harg5 arg6 harg6 arg7 harg7 H).1
  have hC := H.cols
  rw [← harg3.read_unread (Val := Elt Ideal) x1, ← harg4.read_unread (Val := Elt Ideal) x2, ← harg5.read_unread (Val := Elt Ideal) x3] at hC
  have hq : IsR (kernelRun0_A.sl.r c arg2 harg2 x0) p.h0.a := rows0 (by rw [block_read]; exact H.q)
  have g := near0 h hq ⟨copy27 (cols_of 512 hC.K _ _ (off5_0 H.num) (k0_off5_inb (grid0.coords t) 0)), row_of 512 hC.C0 _ _ (off6_00 H.num) (k0_off6_inb (grid0.coords t) 0 0)⟩
    (copy28 (cols_of 512 hC.V _ _ (off5_0 H.num) (k0_off5_inb (grid0.coords t) 0))) (fun s d => rfl)
  exact far0 g hq ⟨cols_of 512 hC.K _ _ (off5_1 H.num) (k0_off5_inb (grid0.coords t) 1), row_of 512 hC.C0 _ _ (off6_01 H.num) (k0_off6_inb (grid0.coords t) 0 1)⟩
    (copy38 (cols_of 512 hC.V _ _ (off5_1 H.num) (k0_off5_inb (grid0.coords t) 1))) (fun s d => rfl)

theorem head1 : p.h1.Rows (p.n + 512 + 512)
    (m1 (kernelRun0_A.sl.r_11 c (grid0.coords t) arg2 harg2 arg3 harg3 arg4 harg4 arg5 harg5 arg6 harg6 arg7 harg7 x0 x1 x2 x3) (kernelRun0_A.sl.r_20 c (grid0.coords t) arg2 harg2 arg3 harg3 arg4 harg4 arg5 harg5 arg6 harg6 arg7 harg7 x0 x1 x2 x3) (kernelRun0_A.sl.r_22 c (grid0.coords t) arg2 harg2 arg3 harg3 arg5 harg5 x0 x1 x3))
    (k0_pay50 lanes k0_pay16 (kernelRun0_A.sl.r_12 c (grid0.coords t) arg2 harg2 arg3 harg3 arg4 harg4 arg5 harg5 arg6 harg6 arg7 harg7 x0 x1 x2 x3) (kernelRun0_A.sl.r_14 (grid0.coords t) arg4 harg4 x2)
      (kernelRun0_A.sl.r_20 c (grid0.coords t) arg2 harg2 arg3 harg3 arg4 harg4 arg5 harg5 arg6 harg6 arg7 harg7 x0 x1 x2 x3) (kernelRun0_A.sl.r_21 c (grid0.coords t) arg2 harg2 arg3 harg3 arg4 harg4 arg5 harg5 arg6 harg6 arg7 harg7 x0 x1 x2 x3) (kernelRun0_A.sl.r_22 c (grid0.coords t) arg2 harg2 arg3 harg3 arg5 harg5 x0 x1 x3)) := by
  have h := (at_left c arg2 harg2 arg3 harg3 arg4 harg4 arg5 harg5 arg6 harg6 arg7 harg7 H).2
  have hC := H.cols
  rw [← harg3.read_unread (Val := Elt Ideal) x1, ← harg4.read_unread (Val := Elt Ideal) x2, ← harg5.read_unread (Val := Elt Ideal) x3] at hC
  have hq : IsR (kernelRun0_A.sl.r_1 c arg2 harg2 x0) p.h1.a := rows1 (by rw [block_read]; exact H.q)
  have g := near1 h hq ⟨copy27 (cols_of 512 hC.K _ _ (off5_0 H.num) (k0_off5_inb (grid0.coords t) 0)), row_of 512 hC.C1 _ _ (off6_10 H.num) (k0_off6_inb (grid0.coords t) 1 0)⟩
    (copy28 (cols_of 512 hC.V _ _ (off5_0 H.num) (k0_off5_inb (grid0.coords t) 0))) (fun s d => rfl)
  exact far1 g hq ⟨copy37 (cols_of 512 hC.K _ _ (off5_1 H.num) (k0_off5_inb (grid0.coords t) 1)), row_of 512 hC.C1 _ _ (off6_11 H.num) (k0_off6_inb (grid0.coords t) 1 1)⟩
    (copy38 (cols_of 512 hC.V _ _ (off5_1 H.num) (k0_off5_inb (grid0.coords t) 1))) (fun s d => rfl)

theorem out_A : IsR (out0_A_4 c (grid0.coords t) arg2 harg2 arg3 harg3 arg4 harg4 arg5 harg5 arg6 harg6 arg7 harg7 x0 x1 x2 x3) (fun a d =>
    if d.val < 64 then p.h0.sum (p.n + 512 + 512) a d / p.h0.sum (p.n + 512 + 512) a 64 else p.h1.sum (p.n + 512 + 512) a d / p.h1.sum (p.n + 512 + 512) a 0) := by
  intro a d
  have h := out_at (head0 c arg2 harg2 arg3 harg3 arg4 harg4 arg5 harg5 arg6 harg6 arg7 harg7 H) (head1 c arg2 harg2 arg3 harg3 arg4 harg4 arg5 harg5 arg6 harg6 arg7 harg7 H) (pos0 p) (pos1 p) a d
  unfold out0_A_4 kernelRun0_A
  dsimp only
  exact (View.read_writes_cons_hit_of_coords VO0_4 _ (Rect.unit ![0, 0] S1024x128.size inb_S1024x128_S1024x128_0_0) _ [] (ix2 a d) (ix2 a d) (by
    intro b; fin_cases b <;> simp [Rect.unit])).trans h

theorem lse_A (a : Fin 1024) : out0_A_5 c (grid0.coords t) arg2 harg2 arg3 harg3 arg4 harg4 arg5 harg5 arg6 harg6 arg7 harg7 x0 x1 x2 x3 (ix3 0 a 0) = ((Real.log (p.h0.sum (p.n + 512 + 512) a 64) : ℝ) : EReal)
    ∧ out0_A_5 c (grid0.coords t) arg2 harg2 arg3 harg3 arg4 harg4 arg5 harg5 arg6 harg6 arg7 harg7 x0 x1 x2 x3 (ix3 0 a 1) = ((Real.log (p.h1.sum (p.n + 512 + 512) a 0) : ℝ) : EReal) := by
  have h := lse0_at (head0 c arg2 harg2 arg3 harg3 arg4 harg4 arg5 harg5 arg6 harg6 arg7 harg7 H) (pos0 p) a
  have h' := lse1_at (head1 c arg2 harg2 arg3 harg3 arg4 harg4 arg5 harg5 arg6 harg6 arg7 harg7 H) (pos1 p) a
  unfold out0_A_5 kernelRun0_A
  dsimp only
  refine ⟨?_, ?_⟩
  · refine (View.read_writes_cons_miss_of_axis VO0_5 _ _ _ (ix3 0 a 0) 2 1 1 rfl rfl rfl (by show (0 : ℕ) < 1 ∨ 1 + 1 ≤ 0; omega)).trans ?_
    exact (View.read_writes_cons_hit_of_coords VO0_5 _ (Rect.unit ![0, 0, 0] S1x1024x1.size inb_S1x1024x2_S1x1024x1_0_0_0) _ [] (ix3 0 a 0) (ix3 0 a 0) (by
      intro b; fin_cases b <;> simp [Rect.unit])).trans h
  · exact (View.read_writes_cons_hit_of_coords VO0_5 _ (Rect.unit ![0, 0, 1] S1x1024x1.size inb_S1x1024x2_S1x1024x1_0_0_1) _ _ (ix3 0 a 0) (ix3 0 a 1) (by
      intro b; fin_cases b <;> simp [Rect.unit])).trans h'

end

end Cert.AttnIdeal.Tile

end
-- ==== Proof.AttnRun.lean ====
/- The attention's two result arrays, over the reals, from what its operands hold when the kernel starts. -/
module

public import proofs.«01_k».proof.Proof.AttnPoint
public import proofs.«01_k».proof.Proof.FoxHost
public import proofs.«01_k».proof.Proof.Gen.AttnIdeal.Value

@[expose] public section

set_option maxRecDepth 16384

noncomputable section

namespace Cert.AttnIdeal.Tile

open Idealize.ShloMosaic Idealize.ShloMosaic.TcCoe Cert.AttnIdeal Cert.AttnIdeal.Gen Cert.Reals
open Cert.FoxIdeal.Tile (own0 own1 keys0 keys1 sum_own0 sum_own1)
open Cert.FoxIdeal.Soft (raw total weight glob Plain low)

/-- The forward pass has no cotangent. -/
def nil2 : ℕ → ℕ → ℝ := fun _ _ => 0

section Model

variable (Q K W C : ℕ → ℕ → ℝ) (h i : ℕ)

/-- The operands of the point of head pair `h` and row block `i`. -/
def point : Pt where
  q a d := Q (1024 * i + a.val) (128 * h + d.val)
  K j d := K j (128 * h + d.val)
  V j d := W j (128 * h + d.val)
  C0 := C (2 * h)
  C1 := C (2 * h + 1)
  n := 1024 * i

theorem W0_at (a : Fin 1024) (j : ℕ) : (point Q K W C h i).h0.W a j = raw Q K W nil2 C (2 * h) (1024 * i + a.val) j := by
  unfold Hd.W Hd.f Pt.h0 point raw low Cert.FoxIdeal.Tile.Glob.s
  dsimp only
  rw [sum_own0 _ _ _ (fun d => Q (1024 * i + a.val) (64 * (2 * h) + d) * (1 / 8) * K j (64 * (2 * h) + d)) fun d _ => by
    simp only [show 128 * h + d.val = 64 * (2 * h) + d.val by omega]]
  rfl

theorem W1_at (a : Fin 1024) (j : ℕ) : (point Q K W C h i).h1.W a j = raw Q K W nil2 C (2 * h + 1) (1024 * i + a.val) j := by
  unfold Hd.W Hd.f Pt.h1 point raw low Cert.FoxIdeal.Tile.Glob.s
  dsimp only
  rw [sum_own1 _ _ _ (fun d => Q (1024 * i + a.val) (64 * (2 * h + 1) + d) * (1 / 8) * K j (64 * (2 * h + 1) + d)) fun d hd => by
    simp only [show 64 * (2 * h + 1) + (d.val - 64) = 128 * h + d.val by omega]]
  rfl

/-- A row's sum over the columns up to the end of its block is the sum over all columns. -/
theorem sum_cols {H r J : ℕ} (hr : r < J) (hJ : J ≤ 8192) (f : ℕ → ℝ) :
    ∑ j ∈ Finset.range J, raw Q K W nil2 C H r j * f j = ∑ j ∈ Finset.range 8192, raw Q K W nil2 C H r j * f j :=
  Finset.sum_subset (Finset.range_subset_range.2 hJ) fun j _ hj => by
    rw [show raw Q K W nil2 C H r j = 0 from if_neg (by have := Finset.mem_range.not.1 hj; omega), zero_mul]

variable {i} (hi : i < 8) (a : Fin 1024) (d : Fin 128)
include hi

theorem sum0_at (f : ℕ → ℝ) (hf : ∀ j, (point Q K W C h i).h0.V j d = f j) :
    (point Q K W C h i).h0.sum ((point Q K W C h i).n + 512 + 512) a d = ∑ j ∈ Finset.range 8192, raw Q K W nil2 C (2 * h) (1024 * i + a.val) j * f j := by
  refine Eq.trans (Finset.sum_congr rfl fun j _ => ?_) (sum_cols Q K W C (J := 1024 * i + 512 + 512) (by omega) (by omega) f)
  rw [W0_at, hf]

theorem sum1_at (f : ℕ → ℝ) (hf : ∀ j, (point Q K W C h i).h1.V j d = f j) :
    (point Q K W C h i).h1.sum ((point Q K W C h i).n + 512 + 512) a d = ∑ j ∈ Finset.range 8192, raw Q K W nil2 C (2 * h + 1) (1024 * i + a.val) j * f j := by
  refine Eq.trans (Finset.sum_congr rfl fun j _ => ?_) (sum_cols Q K W C (J := 1024 * i + 512 + 512) (by omega) (by omega) f)
  rw [W1_at, hf]

theorem total0_at : (point Q K W C h i).h0.sum ((point Q K W C h i).n + 512 + 512) a 64 = total Q K W nil2 C (2 * h) (1024 * i + a.val) :=
  (sum0_at Q K W C h hi a 64 (fun _ => 1) fun _ => rfl).trans (by simp only [mul_one]; rfl)

theorem total1_at : (point Q K W C h i).h1.sum ((point Q K W C h i).n + 512 + 512) a 0 = total Q K W nil2 C (2 * h + 1) (1024 * i + a.val) :=
  (sum1_at Q K W C h hi a 0 (fun _ => 1) fun _ => rfl).trans (by simp only [mul_one]; rfl)

omit hi in
theorem mean (H r l : ℕ) (hl : l / 64 = H) :
    (∑ j ∈ Finset.range 8192, raw Q K W nil2 C H r j * W j l) / total Q K W nil2 C H r = (glob Q K W nil2 C).O r l := by
  show _ = ∑ j ∈ Finset.range 8192, weight Q K W nil2 C (l / 64) r j * W j l
  rw [hl, Finset.sum_div]
  exact Finset.sum_congr rfl fun j _ => (div_mul_eq_mul_div ..).symm

theorem out_point : (if d.val < 64 then (point Q K W C h i).h0.sum ((point Q K W C h i).n + 512 + 512) a d / (point Q K W C h i).h0.sum ((point Q K W C h i).n + 512 + 512) a 64
    else (point Q K W C h i).h1.sum ((point Q K W C h i).n + 512 + 512) a d / (point Q K W C h i).h1.sum ((point Q K W C h i).n + 512 + 512) a 0)
    = (glob Q K W nil2 C).O (1024 * i + a.val) (128 * h + d.val) := by
  split
  · next hd =>
    rw [sum0_at Q K W C h hi a d (fun j => W j (128 * h + d.val)) fun j => if_pos hd, total0_at Q K W C h hi]
    exact mean Q K W C _ _ _ (by omega)
  · next hd =>
    rw [sum1_at Q K W C h hi a d (fun j => W j (128 * h + d.val)) fun j => if_pos (by omega), total1_at Q K W C h hi]
    exact mean Q K W C _ _ _ (by omega)

end Model

variable (m : (ℓ : Loc nD τ sig) → Buf (Elt Ideal) ℓ) (c : Dev nD)

/-- The call's operands hold the model when the kernel starts. -/
structure Entry (Q K W C : ℕ → ℕ → ℝ) : Prop where
  q : ∀ (r : Fin 8192) (l : Fin 1536), l.val < 512 → (V m c main_v0 : Vec Ideal S8192x1536 .bf16) (ix2 r l) = (Q r l : EReal)
  k : ∀ (r : Fin 8192) (l : Fin 1536) (d : ℕ), l.val = 512 + d → d < 512 → (V m c main_v0 : Vec Ideal S8192x1536 .bf16) (ix2 r l) = (K r d : EReal)
  v : ∀ (r : Fin 8192) (l : Fin 1536) (d : ℕ), l.val = 1024 + d → (V m c main_v0 : Vec Ideal S8192x1536 .bf16) (ix2 r l) = (W r d : EReal)
  cum : ∀ (h : Fin 8) (j : Fin 8192), (V m c main_arg3 : Vec Ideal S8x8192 .f32) (ix2 h j) = (C h j : EReal)

theorem idx (t : Fin cfg0.N) : win0_0.index t = ![t.val % 8, t.val / 8] ∧ win0_1.index t = ![0, 4 + t.val / 8] ∧ win0_2.index t = ![0, 8 + t.val / 8]
    ∧ win0_3.index t = ![0, 0] ∧ win0_4.index t = ![t.val % 8, t.val / 8] ∧ win0_5.index t = ![t.val / 8, t.val % 8, 0] := by
  revert t; decide +kernel

theorem pts (t : Fin cfg0.N) : t.val / 8 < 4 := by
  have : t.val < 32 := t.isLt
  omega

/-! A block of an array, at its coordinates. -/

theorem read_q (f : Vec Ideal S8192x1536 .bf16) (t : Fin cfg0.N) (a : Fin 1024) (d : Fin 128) (h1 : 1024 * (t.val % 8) + a.val < 8192) (h2 : 128 * (t.val / 8) + d.val < 1536) :
    ((cfg0.win 0).blk t).view.read (Elt Ideal) f (ix2 a d) = f (ix2 ⟨1024 * (t.val % 8) + a.val, h1⟩ ⟨128 * (t.val / 8) + d.val, h2⟩) := by
  blk_ext [idx t]

theorem read_k (f : Vec Ideal S8192x1536 .bf16) (t : Fin cfg0.N) (j : Fin 8192) (d : Fin 128) (h2 : 512 + (128 * (t.val / 8) + d.val) < 1536) :
    ((cfg0.win 1).blk t).view.read (Elt Ideal) f (ix2 j d) = f (ix2 j ⟨512 + (128 * (t.val / 8) + d.val), h2⟩) := by
  blk_ext [idx t]

theorem read_v (f : Vec Ideal S8192x1536 .bf16) (t : Fin cfg0.N) (j : Fin 8192) (d : Fin 128) (h2 : 1024 + (128 * (t.val / 8) + d.val) < 1536) :
    ((cfg0.win 2).blk t).view.read (Elt Ideal) f (ix2 j d) = f (ix2 j ⟨1024 + (128 * (t.val / 8) + d.val), h2⟩) := by
  blk_ext [idx t]

theorem read_c (f : Vec Ideal S8x8192 .f32) (t : Fin cfg0.N) (h : Fin 8) (j : Fin 8192) :
    ((cfg0.win 3).blk t).view.read (Elt Ideal) f (ix2 h j) = f (ix2 h j) := by
  blk_ext [idx t]

variable {m c} {Q K W C : ℕ → ℕ → ℝ} (E : Entry m c Q K W C)
include E

theorem ops (t : Fin cfg0.N) : Ops (point Q K W C (t.val / 8) (t.val % 8)) t (iblk m c 0 t) (iblk m c 1 t) (iblk m c 2 t) (iblk m c 3 t) := by
  have hp := pts t
  refine ⟨rfl, fun a d => ?_, ⟨fun j d => ?_, fun j d => ?_, fun r j hr => ?_, fun r j hr => ?_⟩⟩
  · exact (read_q (V m c main_v0) t a d (by omega) (by omega)).trans (E.q _ _ (by show 128 * (t.val / 8) + d.val < 512; omega))
  · exact (read_k (V m c main_v0) t j d (by omega)).trans (E.k _ _ _ rfl (by omega))
  · exact (read_v (V m c main_v0) t j d (by omega)).trans (E.v _ _ _ rfl)
  · exact (read_c (V m c main_arg3) t r j).trans ((E.cum _ _).trans (by rw [hr]; rfl))
  · exact (read_c (V m c main_arg3) t r j).trans ((E.cum _ _).trans (by rw [hr]; rfl))

/-- The output rows a point leaves. -/
theorem rows (t : Fin cfg0.N) : IsR (outsAt0 m c t).1 (fun a d => (glob Q K W nil2 C).O (1024 * (t.val % 8) + a.val) (128 * (t.val / 8) + d.val)) := by
  have R := Cert.FoxIdeal.Tile.IsR.congr (out_A c (ms0_0 t) (hs0_0 t) (ms0_1 t) (hs0_1 t) (ms0_2 t) (hs0_2 t) (ms0_3 t) (hs0_3 t) (ms0_4 t) (hs0_4 t) (ms0_5 t) (hs0_5 t) (ops E t)) fun a d => out_point Q K W C (t.val / 8) (Nat.mod_lt _ (by norm_num)) a d
  simp only [outsAt0]
  exact R

/-- The log-sums a point leaves. -/
theorem logs (t : Fin cfg0.N) (a : Fin 1024) (e : Fin 2) :
    (outsAt0 m c t).2 (ix3 0 a e) = (((glob Q K W nil2 C).L (2 * (t.val / 8) + e.val) (1024 * (t.val % 8) + a.val) : ℝ) : EReal) := by
  have R := lse_A c (ms0_0 t) (hs0_0 t) (ms0_1 t) (hs0_1 t) (ms0_2 t) (hs0_2 t) (ms0_3 t) (hs0_3 t) (ms0_4 t) (hs0_4 t) (ms0_5 t) (hs0_5 t) (ops E t) a
  rw [total0_at Q K W C _ (Nat.mod_lt _ (by norm_num)), total1_at Q K W C _ (Nat.mod_lt _ (by norm_num))] at R
  simp only [outsAt0]
  fin_cases e
  · exact R.1
  · exact R.2

omit E in
/-- The output array, from what each point leaves. -/
theorem arr_out_of (f : ℕ → ℕ → ℝ) (H : ∀ t : Fin cfg0.N, IsR (outsAt0 m c t).1 (fun a d => f (1024 * (t.val % 8) + a.val) (128 * (t.val / 8) + d.val))) :
    (dats m 0 c).arrAt 4 cfg0.N = (fun x => ((f (x 0).val (x 1).val : ℝ) : EReal) : Vec Ideal S8192x512 .f32) := by
  refine (dats m 0 c).arrAt_eq_of_covers 4 _ (by decide +kernel) fun t hf y => ?_
  blk_simp
  rw [after0_4]
  obtain ⟨a, d, rfl⟩ : ∃ (a : Fin 1024) (d : Fin 128), y = ix2 a d := ⟨y 0, y 1, eq_ix2 y⟩
  refine (H t a d).trans ?_
  rw [(idx t).2.2.2.2.1]
  congr 2 <;> simp [Nat.mul_comm]

omit E in
/-- The array of log-sums, from what each point leaves. -/
theorem arr_lse_of (f : ℕ → ℕ → ℝ) (H : ∀ (t : Fin cfg0.N) (a : Fin 1024) (e : Fin 2),
      (outsAt0 m c t).2 (ix3 0 a e) = ((f (2 * (t.val / 8) + e.val) (1024 * (t.val % 8) + a.val) : ℝ) : EReal)) :
    (dats m 0 c).arrAt 5 cfg0.N = (fun x => ((f (2 * (x 0).val + (x 2).val) (x 1).val : ℝ) : EReal) : Vec Ideal S4x8192x2 .f32) := by
  refine (dats m 0 c).arrAt_eq_of_covers 5 _ (by decide +kernel) fun t hf y => ?_
  blk_simp
  rw [after0_5]
  obtain ⟨h, a, e, rfl⟩ : ∃ (h : Fin 1) (a : Fin 1024) (e : Fin 2), y = ix3 h a e := ⟨y 0, y 1, y 2, eq_ix3 y⟩
  obtain rfl : h = 0 := Subsingleton.elim _ _
  refine (H t a e).trans ?_
  rw [(idx t).2.2.2.2.2]
  congr 2 <;> simp [Nat.mul_comm]

theorem arr_out : (dats m 0 c).arrAt 4 cfg0.N = (fun x => (((glob Q K W nil2 C).O (x 0).val (x 1).val : ℝ) : EReal) : Vec Ideal S8192x512 .f32) :=
  arr_out_of _ (rows E)

theorem arr_lse : (dats m 0 c).arrAt 5 cfg0.N = (fun x => (((glob Q K W nil2 C).L (2 * (x 0).val + (x 2).val) (x 1).val : ℝ) : EReal) : Vec Ideal S4x8192x2 .f32) :=
  arr_lse_of _ (logs E)

omit E in
theorem V_qkv : (V m c main_v0 : Vec Ideal S8192x1536 .bf16)
    = concatenate S8192x1536 1 [⟨S8192x512, m ((c : Thread nD τ).loc main_arg0)⟩, ⟨S8192x512, m ((c : Thread nD τ).loc main_arg1)⟩,
      ⟨S8192x512, m ((c : Thread nD τ).loc main_arg2)⟩] concatenates_S8192x512_S8192x512_S8192x512_S8192x1536_d1 := by
  unfold_abbrev_sides
  after_results_simp
  rfl

omit E in
/-- Finite arguments are the model when the kernel starts. -/
theorem entry (hq : Is2 (m ((c : Thread nD τ).loc main_arg0) : Vec Ideal S8192x512 .bf16) Q)
    (hk : Is2 (m ((c : Thread nD τ).loc main_arg1) : Vec Ideal S8192x512 .bf16) K) (hv : Is2 (m ((c : Thread nD τ).loc main_arg2) : Vec Ideal S8192x512 .bf16) W)
    (hc : Is2 (m ((c : Thread nD τ).loc main_arg3) : Vec Ideal S8x8192 .f32) C) : Entry m c Q K W C where
  q r l hl := by
    refine (congrFun V_qkv _).trans ?_
    generalize (m ((c : Thread nD τ).loc main_arg0) : Vec Ideal S8192x512 .bf16) = x at hq ⊢
    generalize (m ((c : Thread nD τ).loc main_arg1) : Vec Ideal S8192x512 .bf16) = y
    generalize (m ((c : Thread nD τ).loc main_arg2) : Vec Ideal S8192x512 .bf16) = z
    pointwise
    rw [dif_pos hl]
    exact hq r ⟨l.val, hl⟩
  k r l d hl hd := by
    refine (congrFun V_qkv _).trans ?_
    generalize (m ((c : Thread nD τ).loc main_arg0) : Vec Ideal S8192x512 .bf16) = x
    generalize (m ((c : Thread nD τ).loc main_arg1) : Vec Ideal S8192x512 .bf16) = y at hk ⊢
    generalize (m ((c : Thread nD τ).loc main_arg2) : Vec Ideal S8192x512 .bf16) = z
    pointwise
    rw [dif_neg (by omega), dif_pos (by omega)]
    exact (hk r ⟨l.val - 512, by omega⟩).trans (congrArg (fun n => (K r n : EReal)) (show l.val - 512 = d by omega))
  v r l d hl := by
    refine (congrFun V_qkv _).trans ?_
    generalize (m ((c : Thread nD τ).loc main_arg0) : Vec Ideal S8192x512 .bf16) = x
    generalize (m ((c : Thread nD τ).loc main_arg1) : Vec Ideal S8192x512 .bf16) = y
    generalize (m ((c : Thread nD τ).loc main_arg2) : Vec Ideal S8192x512 .bf16) = z at hv ⊢
    pointwise
    rw [dif_neg (by omega), dif_neg (by omega)]
    exact (hv r ⟨l.val - 512 - 512, by omega⟩).trans (congrArg (fun n => (W r n : EReal)) (show l.val - 512 - 512 = d by omega))
  cum h j := (congrFun (V_main_arg3 m c) _).trans (hc h j)

end Cert.AttnIdeal.Tile

end
-- ==== Proof.AttnRef.lean ====
/- The reference's attention over the reals: its host lines, read entry by entry, are the same sums the kernel's model names. -/
module

public import proofs.«01_k».proof.Proof.FoxRef
public import proofs.«01_k».proof.Proof.Gen.AttnRefIdeal.Run

@[expose] public section

set_option maxRecDepth 16384

noncomputable section

namespace Cert.AttnRefIdeal.Soft

open Idealize.ShloMosaic Idealize.ShloMosaic.TcCoe Cert.AttnRefIdeal Cert.AttnRefIdeal.Gen Cert.Reals Cert.Scalars Cert.FoxIdeal.Soft
open Cert.FoxRefIdeal.Soft (rowed upper upper_at)

/-- Adding the row's own decay keeps the columns that are not seen at `-∞`. -/
theorem rowed_low {x : Vec Ideal S8x8192x8192 .f32} {c : Vec Ideal S8x8192 .f32} {f : ℕ → ℕ → ℕ → ℝ} {C : ℕ → ℕ → ℝ} (hx : Low x f) (hc : Is2 c C) :
    Low (rowed x c) fun h r j => f h r j + C h r := by
  intro h r j
  pointwise [rowed, spread, column]
  rw [hx, hc]
  split
  · rw [← EReal.coe_add]
  · rw [EReal.bot_add]

theorem masked_low {x : Vec Ideal S8x8192x8192 .f32} {f : ℕ → ℕ → ℕ → ℝ} (hx : Low x f) : Low (masked x) f := by
  intro h r j
  pointwise [masked]
  rw [hx, sees_at, select_ofBool, bot_bits]
  by_cases hj : j.val ≤ r.val <;> simp [hj]

/-- The exponentials, nothing subtracted. -/
def plain (x : Vec Ideal S8x8192x8192 .f32) : Vec Ideal S8x8192x8192 .f32 := Host.exp (F := Ideal) (φ := .f32) x

theorem plain_at {x : Vec Ideal S8x8192x8192 .f32} {f : ℕ → ℕ → ℕ → ℝ} (hx : Low x f) : Is3 (plain x) (low fun h r j => Real.exp (f h r j)) := by
  intro h r j
  pointwise [plain]
  rw [hx]
  unfold low
  split
  · rw [exp_coe]
  · rw [exp_bot, EReal.coe_zero]

/-- The logarithm of each row's sum, by pairs of heads. -/
def outLse (z : Vec Ideal S8x8192 .f32) : Vec Ideal S4x8192x2 .f32 :=
  transpose S4x8192x2 [0, 2, 1] (shapeCast S4x2x8192 (Host.log (F := Ideal) (φ := .f32) z) shapeCasts_S8x8192_S4x2x8192) transposes_S4x2x8192_S4x8192x2_0_2_1

theorem outLse_at {z : Vec Ideal S8x8192 .f32} {Z : ℕ → ℕ → ℝ} (hz : Is2 z Z) (pos : ∀ h r, r < 8192 → 0 < Z h r) :
    Is3 (outLse z) fun h r e => Real.log (Z (2 * h + e) r) := by
  intro h r e
  pointwise [outLse]
  rw [hz, log_coe (pos _ _ r.isLt)]
  simp only [Nat.mul_comm 2]

/-- The logits of the softmax. -/
def shiftedUp (q k : Vec Ideal S8192x512 .f32) (c : Vec Ideal S8x8192 .f32) : Vec Ideal S8x8192x8192 .f32 := masked (rowed (logitsOf q k c) c)

def expsUp (q k : Vec Ideal S8192x512 .f32) (c : Vec Ideal S8x8192 .f32) : Vec Ideal S8x8192x8192 .f32 := exps (shiftedUp q k c) (upper (tops (shiftedUp q k c)))

def outO (q k v : Vec Ideal S8192x512 .f32) (c : Vec Ideal S8x8192 .f32) : Vec Ideal S8192x512 .f32 := mixed (quotient (expsUp q k c) (sums (expsUp q k c))) v

section Model

variable {q k v : Vec Ideal S8192x512 .f32} {c : Vec Ideal S8x8192 .f32} {Q K W G C : ℕ → ℕ → ℝ}

theorem lse_model (hq : Is2 q Q) (hk : Is2 k K) (hc : Is2 c C) :
    Is3 (outLse (sums (plain (logitsOf q k c)))) fun h r e => (glob Q K W G C).L (2 * h + e) r :=
  outLse_at (sums_at (plain_at (logitsOf_at W G hq hk hc))) fun h r hr => low_sum_pos (fun _ _ _ => Real.exp_pos _) h r hr

/-- The softmax's exponentials are the model's, scaled along each row. -/
theorem exps_model (W G : ℕ → ℕ → ℝ) (hq : Is2 q Q) (hk : Is2 k K) (hc : Is2 c C) :
    ∃ R : ℕ → ℕ → ℝ, (∀ h r, 0 < R h r) ∧ Is3 (expsUp q k c) fun h r j => raw Q K W G C h r j * R h r := by
  have hx : Low (shiftedUp q k c) _ := masked_low (rowed_low (logitsOf_at W G hq hk hc) hc)
  obtain ⟨M, hM⟩ := tops_at hx
  refine ⟨fun h r => Real.exp (-(M h r - C h r)), fun h r => Real.exp_pos _, fun h r j => (exps_at hx (upper_at hM) h r j).trans (congrArg _ ?_)⟩
  refine Eq.trans ?_ (low_shift _ (fun h r => M h r - C h r) _ _ _)
  refine congrArg (fun f => low f h.val r.val j.val) (funext fun h => funext fun r => funext fun j => congrArg Real.exp ?_)
  ring

theorem out_model (hq : Is2 q Q) (hk : Is2 k K) (hv : Is2 v W) (hc : Is2 c C) : Is2 (outO q k v c) (glob Q K W G C).O := by
  obtain ⟨R, pos, he⟩ := exps_model W G hq hk hc
  have hz : Is2 (sums (expsUp q k c)) fun h r => total Q K W G C h r * R h r := fun h r => (sums_at he h r).trans (congrArg _ (Finset.sum_mul ..).symm)
  refine fun r l => (mixed_at (quotient_at he hz fun h r hr => mul_pos (total_pos Q K W G C h r hr) (pos h r)) hv r l).trans (congrArg _ ?_)
  exact Finset.sum_congr rfl fun j _ => congrArg (· * _) (mul_div_mul_right _ _ (pos _ _).ne')

end Model

variable (m : (ℓ : Loc nD τ sig) → Buf (Elt Ideal) ℓ)

open Idealize.SL.Sem in
/-- What the reference leaves: both results as functions of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v39) = outO (wide (m ((c : Thread nD τ).loc main_arg0))) (wide (m ((c : Thread nD τ).loc main_arg1))) (wide (m ((c : Thread nD τ).loc main_arg2))) (m ((c : Thread nD τ).loc main_arg3))
      ∧ r.2.mem ((c : Thread nD τ).loc main_v41) = outLse (sums (plain (logitsOf (wide (m ((c : Thread nD τ).loc main_arg0))) (wide (m ((c : Thread nD τ).loc main_arg1))) (m ((c : Thread nD τ).loc main_arg3)))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.AttnRefIdeal.Value.run m ρ)
  obtain ⟨a, b, k⟩ := h c
  exact ⟨a.trans (by unfold Cert.AttnRefIdeal.Value.res_main_v39; rfl), b.trans rfl, k⟩

end Cert.AttnRefIdeal.Soft

end
-- ==== Proof.AttnClaim.lean ====
/- The attention's forward claim: at finite arguments. -/
module

public import proofs.«01_k».proof.Defs
public import proofs.«01_k».proof.Proof.AttnRun
public import proofs.«01_k».proof.Proof.AttnRef
public import proofs.«01_k».proof.Proof.Finite

@[expose] public section

set_option maxRecDepth 16384

noncomputable section

namespace Cert.Proof

open Idealize.ShloMosaic Idealize.SL.Sem

theorem facts_finite_attn : Cert.Pre_finite_attn.Facts := ⟨by decide, by decide, by decide⟩

instance inst_finite_attn : Cert.Pre_finite_attn.Facts := facts_finite_attn

open Cert.AttnIdeal in
/-- At finite arguments the launch finds the model of real numbers. -/
theorem real_Attn {m : (ℓ : Loc nD τ sig) → Buf (Elt Ideal) ℓ} (hpre : Cert.Pre_AttnIdeal_finite_attn m) (c : Dev nD) :
    ∃ Q K W C : ℕ → ℕ → ℝ, Cert.Reals.Is2 (m (c.tc.loc main_arg0) : Vec Ideal S8192x512 .bf16) Q ∧ Cert.Reals.Is2 (m (c.tc.loc main_arg1) : Vec Ideal S8192x512 .bf16) K
      ∧ Cert.Reals.Is2 (m (c.tc.loc main_arg2) : Vec Ideal S8192x512 .bf16) W ∧ Cert.Reals.Is2 (m (c.tc.loc main_arg3) : Vec Ideal S8x8192 .f32) C := by
  obtain ⟨a, b, d, e⟩ := hpre c
  obtain ⟨Q, hQ⟩ := Finite.real2 (a := 8192) (b := 512) (Finite.real _ _ a)
  obtain ⟨K, hK⟩ := Finite.real2 (a := 8192) (b := 512) (Finite.real _ _ b)
  obtain ⟨W, hW⟩ := Finite.real2 (a := 8192) (b := 512) (Finite.real _ _ d)
  obtain ⟨C, hC⟩ := Finite.real2 (a := 8) (b := 8192) (Finite.real _ _ e)
  exact ⟨Q, K, W, C, hQ, hK, hW, hC⟩

section
open Cert.AttnIdeal Cert.AttnIdeal.Gen Cert.AttnIdeal.Tile Cert.Reals Cert.FoxIdeal.Soft Cert.AttnRefIdeal.Soft

variable {m : (ℓ : Loc nD τ sig) → Buf (Elt Ideal) ℓ} {c : Dev nD} {Q K W C : ℕ → ℕ → ℝ} {x0 x1 x2 : Vec Ideal S8192x512 .bf16} {x3 : Vec Ideal S8x8192 .f32}

theorem attn_out (E : Entry m c Q K W C) (h0 : Is2 x0 Q) (h1 : Is2 x1 K) (h2 : Is2 x2 W) (h3 : Is2 x3 C) :
    ((dats m 0 c).arrAt 4 cfg0.N : Vec Ideal S8192x512 .f32) = outO (wide x0) (wide x1) (wide x2) x3 :=
  Is2.eq (f := (glob Q K W nil2 C).O) (fun r j => congrFun (arr_out E) _) (out_model (wide_at h0) (wide_at h1) (wide_at h2) h3) fun _ _ => rfl

theorem attn_lse (E : Entry m c Q K W C) (h0 : Is2 x0 Q) (h1 : Is2 x1 K) (h3 : Is2 x3 C) :
    ((dats m 0 c).arrAt 5 cfg0.N : Vec Ideal S4x8192x2 .f32) = outLse (sums (plain (logitsOf (wide x0) (wide x1) x3))) :=
  Is3.eq (f := fun h r e => (glob Q K W nil2 C).L (2 * h + e) r) (fun h r e => congrFun (arr_lse E) _) (lse_model (wide_at h0) (wide_at h1) h3) fun _ _ _ => rfl

end

/-- The attention's results are the reference's, at finite arguments. -/
theorem algebraic_Attn : Cert.algebraic_AttnIdeal_AttnRefIdeal_pre_finite_attn := by
  pair_intro
  · run_from Cert.AttnIdeal.Value.run_blocks m g
  · refine (θ_run Cert.AttnRefIdeal.defs _ _).mono (fun r h c => ?_) (Cert.AttnRefIdeal.Soft.run m' g')
    obtain ⟨Q, K, W, C, h0, h1, h2, h3⟩ := real_Attn hpre c
    have E := Cert.AttnIdeal.Tile.entry h0 h1 h2 h3
    rw [← (hagree c).1] at h0
    rw [← (hagree c).2.1] at h1
    rw [← (hagree c).2.2.1] at h2
    rw [← (hagree c).2.2.2] at h3
    obtain ⟨a, b, k⟩ := h c
    exact ⟨a.trans (attn_out E h0 h1 h2 h3).symm, b.trans (attn_lse E h0 h1 h3).symm, k⟩

end Cert.Proof

end
-- ==== Proof.OptClaim.lean ====
/- The optimiser's call: the sum of the devices' gradients and one step of the optimiser on it. -/
module

public import proofs.«01_k».proof.Defs
public import proofs.«01_k».proof.Proof.Gen.OptIdeal.Value
public import proofs.«01_k».proof.Proof.Gen.OptRefIdeal.Run
public import proofs.«01_k».proof.Proof.Gen.OptRefIdeal.Read
public import Idealize.ShloMosaic.Lib.Pipeline.ValueKit
public import Idealize.ShloMosaic.Lib.Claim
public import Idealize.ShloMosaic.Lib.ValueLayout
public import Idealize.ShloMosaic.Lib.Pointwise

@[expose] public section

set_option maxRecDepth 16384

noncomputable section

open Idealize.ShloMosaic Idealize.ShloMosaic.TcCoe Idealize.SL.Sem

namespace Cert.Opt.Step

/-! One entry of each result. -/

/-- The first moment. -/
def first (g m : Ideal .f32) : Ideal .f32 :=
  FloatOps.addf (FloatOps.mulf (FloatOps.ofBits .f32 0x3F666666#32) m) (FloatOps.mulf (FloatOps.ofBits .f32 0x3DCCCCCD#32) g)

/-- The second moment. -/
def second (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The step. -/
def step (g w m v : Ideal .f32) : Ideal .f32 :=
  FloatOps.mulf (FloatOps.ofBits .f32 0xBA83126F#32) (FloatOps.addf
    (FloatOps.divf (FloatOps.divf (first g m) (FloatOps.ofBits .f32 0x3F26BD02#32))
      (FloatOps.addf (FloatOps.sqrt (FloatOps.divf (second g v) (FloatOps.ofBits .f32 0x3C231ACC#32))) (FloatOps.ofBits .f32 0x322BCC77#32)))
    (FloatOps.mulf (FloatOps.ofBits .f32 0x3C23D70A#32) w))

end Cert.Opt.Step

namespace Cert.OptRefIdeal.Soft

open Cert.OptRefIdeal Cert.OptRefIdeal.Gen Cert.OptRefIdeal.Read Cert.Opt.Step

variable (x0 : Vec Ideal S8x512x1024 .bf16) (x1 x2 x3 : Vec Ideal S512x1024 .f32) (i : S512x1024.Idx)

theorem grad_at : val_main_v1 x0 i = ∑ k : Fin 8, x0 (ix3 k (i 0) (i 1)) := by
  rw [val_main_v1_apply, val_main_cst_apply]
  show Ideal.ofBits .f32 0x00000000#32 + _ = _
  rw [Ideal.ofBits_zero, zero_add]
  refine Finset.sum_congr rfl fun k _ => congrArg x0 (funext fun a => ?_)
  fin_cases a <;> rfl

theorem first_at : val_main_v6 x0 x2 i = first (val_main_v1 x0 i) (x2 i) := by
  rw [val_main_v6_apply, val_main_v3_apply, val_main_v5_apply, val_main_v2_apply, val_main_v4_apply]
  rfl

theorem second_at : val_main_v12 x0 x3 i = second (val_main_v1 x0 i) (x3 i) := by
  simp only [val_main_v12_apply, val_main_v8_apply, val_main_v11_apply, val_main_v10_apply, val_main_v9_apply, val_main_v7_apply]
  rfl

theorem step_at : val_main_v25 x0 x1 x2 x3 i = step (val_main_v1 x0 i) (x1 i) (x2 i) (x3 i) := by
  simp only [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, first_at, second_at]
  rfl

end Cert.OptRefIdeal.Soft

namespace Cert.OptIdeal.Rows

open Cert.OptIdeal Cert.OptIdeal.Gen Cert.Opt.Step Cert.OptRefIdeal.Read Cert.OptRefIdeal.Soft

theorem hz : (![0, 0] : Fin 2 → ℕ) = fun _ => 0 := funext fun a => by fin_cases a <;> rfl

/-- A slot of the devices' gradients, at an entry. -/
theorem slot (x : Vec Ideal S8x256x1024 .bf16) (k : Fin 8) (inb) (hs : S1x256x1024.ShapeCasts S256x1024) (a : Fin 256) (d : Fin 1024) :
    shapeCast S256x1024 (View.ld x (Rect.unit (s := S8x256x1024) ![k.val, 0, 0] S1x256x1024.size inb)) hs (ix2 a d) = x (ix3 k a d) :=
  (ValueIdx.shapeCast_1ab_ab_apply _ hs a d).trans (View.ld_unit_apply_of (S := S8x256x1024) (Val := Elt Ideal) (e := .bf16) x ![k.val, 0, 0] S1x256x1024.size inb (ix3 0 a d) (ix3 k a d) (by
    intro y
    fin_cases y
    · rfl
    · exact (Nat.zero_add _).symm
    · exact (Nat.zero_add _).symm))

variable (x0 : Vec Ideal S8x256x1024 .bf16) (x1 x2 x3 : Vec Ideal S256x1024 .f32)

theorem grad_pt (a : Fin 256) (d : Fin 1024) : k0_pay5 x0 x1 x2 x3 (ix2 a d) = ∑ k : Fin 8, x0 (ix3 k a d) := by
  have s := fun k h => slot x0 k h shapeCasts_S1x256x1024_S256x1024 a d
  rw [Fin.sum_univ_eight, ← s 0 inb_S8x256x1024_S1x256x1024_0_0_0, ← s 1 inb_S8x256x1024_S1x256x1024_1_0_0, ← s 2 inb_S8x256x1024_S1x256x1024_2_0_0, ← s 3 inb_S8x256x1024_S1x256x1024_3_0_0, ← s 4 inb_S8x256x1024_S1x256x1024_4_0_0, ← s 5 inb_S8x256x1024_S1x256x1024_5_0_0, ← s 6 inb_S8x256x1024_S1x256x1024_6_0_0, ← s 7 inb_S8x256x1024_S1x256x1024_7_0_0]
  rfl

theorem out_4 : out0_4 x0 x1 x2 x3 = k0_pay5 x0 x1 x2 x3 := by
  unfold out0_4
  rw [View.canon_unit_zero hz]

theorem out_5 : out0_5 x0 x1 x2 x3 = fun y => step (k0_pay5 x0 x1 x2 x3 y) (x1 y) (x2 y) (x3 y) := by
  unfold out0_5
  rw [View.canon_unit_zero hz, View.ld_unit_zero hz, View.ld_unit_zero hz, View.ld_unit_zero hz]
  rfl

theorem out_6 : out0_6 x0 x1 x2 x3 = fun y => first (k0_pay5 x0 x1 x2 x3 y) (x2 y) := by
  unfold out0_6
  rw [View.canon_unit_zero hz, View.ld_unit_zero hz]
  rfl

theorem out_7 : out0_7 x0 x1 x2 x3 = fun y => second (k0_pay5 x0 x1 x2 x3 y) (x3 y) := by
  unfold out0_7
  rw [View.canon_unit_zero hz, View.ld_unit_zero hz]
  rfl

variable (m : (ℓ : Loc nD τ sig) → Buf (Elt Ideal) ℓ) (c : Dev nD)

theorem idx (t : Fin cfg0.N) : win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  revert t; decide +kernel

theorem pts (t : Fin cfg0.N) : t.val < 2 := t.isLt

/-- The array's row of a point's row. -/
def row (t : Fin cfg0.N) (a : Fin 256) : Fin 512 := ⟨256 * t.val + a.val, by have := pts t; omega⟩

theorem read_0 (f : Vec Ideal S8x512x1024 .bf16) (t : Fin cfg0.N) (k : Fin 8) (a : Fin 256) (d : Fin 1024) :
    ((cfg0.win 0).blk t).view.read (Elt Ideal) f (ix3 k a d) = f (ix3 k (row t a) d) := by
  blk_ext [idx t, row]

variable (t : Fin cfg0.N) (a : Fin 256) (d : Fin 1024)

/-- A point's gradient is the reference's, at its rows. -/
theorem grad_blk : k0_pay5 (iblk m c 0 t) (iblk m c 1 t) (iblk m c 2 t) (iblk m c 3 t) (ix2 a d) = val_main_v1 (m ((c : Thread nD τ).loc main_arg0)) (ix2 (row t a) d) := by
  rw [grad_pt, grad_at]
  exact Finset.sum_congr rfl fun k _ => (read_0 (V m c main_arg0) t k a d).trans (congrFun (V_main_arg0 m c) _)

theorem w_blk : iblk m c 1 t (ix2 a d) = (m ((c : Thread nD τ).loc main_arg1)) (ix2 (row t a) d) := by
  refine Eq.trans ?_ (congrFun (V_main_arg1 m c) _)
  blk_ext [iblk, idx t, row]

theorem m_blk : iblk m c 2 t (ix2 a d) = (m ((c : Thread nD τ).loc main_arg2)) (ix2 (row t a) d) := by
  refine Eq.trans ?_ (congrFun (V_main_arg2 m c) _)
  blk_ext [iblk, idx t, row]

theorem v_blk : iblk m c 3 t (ix2 a d) = (m ((c : Thread nD τ).loc main_arg3)) (ix2 (row t a) d) := by
  refine Eq.trans ?_ (congrFun (V_main_arg3 m c) _)
  blk_ext [iblk, idx t, row]

theorem arr_4 : (dats m 0 c).arrAt 4 cfg0.N = val_main_v1 (m ((c : Thread nD τ).loc main_arg0)) := by
  refine (dats m 0 c).arrAt_eq_of_covers 4 _ (by decide +kernel) fun t _ y => ?_
  blk_simp
  obtain ⟨a, d, rfl⟩ : ∃ (a : Fin 256) (d : Fin 1024), y = ix2 a d := ⟨y 0, y 1, eq_ix2 y⟩
  rw [after0_4, out_4, grad_blk]
  blk_ext [idx t, row]

theorem arr_5 : (dats m 0 c).arrAt 5 cfg0.N = val_main_v25 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  obtain ⟨a, d, rfl⟩ : ∃ (a : Fin 256) (d : Fin 1024), y = ix2 a d := ⟨y 0, y 1, eq_ix2 y⟩
  rw [after0_5, out_5]
  beta_reduce
  rw [grad_blk, w_blk, m_blk, v_blk, ← step_at]
  blk_ext [idx t, row]

theorem arr_6 : (dats m 0 c).arrAt 6 cfg0.N = val_main_v6 (m ((c : Thread nD τ).loc main_arg0)) (m ((c : Thread nD τ).loc main_arg2)) := by
  refine (dats m 0 c).arrAt_eq_of_covers 6 _ (by decide +kernel) fun t _ y => ?_
  blk_simp
  obtain ⟨a, d, rfl⟩ : ∃ (a : Fin 256) (d : Fin 1024), y = ix2 a d := ⟨y 0, y 1, eq_ix2 y⟩
  rw [after0_6, out_6]
  beta_reduce
  rw [grad_blk, m_blk, ← first_at]
  blk_ext [idx t, row]

theorem arr_7 : (dats m 0 c).arrAt 7 cfg0.N = val_main_v12 (m ((c : Thread nD τ).loc main_arg0)) (m ((c : Thread nD τ).loc main_arg3)) := by
  refine (dats m 0 c).arrAt_eq_of_covers 7 _ (by decide +kernel) fun t _ y => ?_
  blk_simp
  obtain ⟨a, d, rfl⟩ : ∃ (a : Fin 256) (d : Fin 1024), y = ix2 a d := ⟨y 0, y 1, eq_ix2 y⟩
  rw [after0_7, out_7]
  beta_reduce
  rw [grad_blk, v_blk, ← second_at]
  blk_ext [idx t, row]

end Cert.OptIdeal.Rows

namespace Cert.Proof

open Cert.OptIdeal.Rows

/-- The optimiser's results are the reference's, at every argument. -/
theorem algebraic_Opt : Cert.algebraic_OptIdeal_OptRefIdeal := by
  pair_intro
  · run_from Cert.OptIdeal.Value.run_blocks m g
  · refine (θ_run Cert.OptRefIdeal.defs _ _).mono (fun r h c => ?_) (Cert.OptRefIdeal.Value.run (F := Ideal) m' g')
    obtain ⟨h0, h1, h2, h3⟩ := hagree c
    obtain ⟨a, b, d, e, k⟩ := h c
    have k4 := arr_4 m c
    have k5 := arr_5 m c
    have k6 := arr_6 m c
    have k7 := arr_7 m c
    rw [← h0] at k4 k5 k6 k7
    rw [← h1] at k5
    rw [← h2] at k5 k6
    rw [← h3] at k5 k7
    exact ⟨a.trans k4.symm, b.trans k5.symm, d.trans k6.symm, e.trans k7.symm, k⟩

end Cert.Proof

end
-- ==== Proof.lean ====
/- The claim: frames of the calls, their idealizations and references, and the value claims. -/
module

public import proofs.«01_k».proof.Proof.Gen.Gate.Frame
public import proofs.«01_k».proof.Proof.Gen.Mix.Frame
public import proofs.«01_k».proof.Proof.Gen.Loss.Frame
public import proofs.«01_k».proof.Proof.Gen.Join.Frame
public import proofs.«01_k».proof.Proof.Gen.Relu.Frame
public import proofs.«01_k».proof.Proof.Gen.Mod.Frame
public import proofs.«01_k».proof.Proof.Gen.Attn.Frame
public import proofs.«01_k».proof.Proof.Gen.Opt.Frame
public import proofs.«01_k».proof.Proof.Gen.Fox.Frame
public import proofs.«01_k».proof.Proof.Frames
public import proofs.«01_k».proof.Proof.GateClaim
public import proofs.«01_k».proof.Proof.FoxClaim
public import proofs.«01_k».proof.Proof.MixClaim
public import proofs.«01_k».proof.Proof.ModClaim
public import proofs.«01_k».proof.Proof.LossClaim
public import proofs.«01_k».proof.Proof.ReluClaim
public import proofs.«01_k».proof.Proof.JoinClaim
public import proofs.«01_k».proof.Proof.AttnClaim
public import proofs.«01_k».proof.Proof.OptClaim

@[expose] public section

noncomputable section

namespace Cert.Proof

theorem claim : Cert.Claim :=
  ⟨Gate.Gen.facts, GateIdeal.Gen.facts, GateRefIdeal.Gen.facts,
    Mix.Gen.facts, MixIdeal.Gen.facts, MixRefIdeal.Gen.facts,
    Loss.Gen.facts, LossIdeal.Gen.facts, LossRefIdeal.Gen.facts,
    Join.Gen.facts, JoinIdeal.Gen.facts, JoinRefIdeal.Gen.facts,
    Relu.Gen.facts, ReluIdeal.Gen.facts, ReluRefIdeal.Gen.facts,
    Mod.Gen.facts, ModIdeal.Gen.facts, ModRefIdeal.Gen.facts,
    Attn.Gen.facts, AttnIdeal.Gen.facts, AttnRefIdeal.Gen.facts,
    Fox.Gen.facts, FoxIdeal.Gen.facts, FoxRefIdeal.Gen.facts,
    Opt.Gen.facts, OptIdeal.Gen.facts, OptRefIdeal.Gen.facts,
    facts_finite_mix, facts_finite_loss, facts_finite_relu,
    facts_finite_attn, facts_finite_fox,
    fun m ρ _ => Gate.Gen.frame m ρ,
    fun m ρ _ => GateIdeal.Gen.frame m ρ,
    frame_Gate,
    fun m ρ _ => Mix.Gen.frame m ρ,
    fun m ρ _ => MixIdeal.Gen.frame m ρ,
    fun m ρ _ => MixIdeal.Gen.frame m ρ,
    frame_Mix,
    fun m ρ _ => frame_Mix m ρ trivial,
    fun m ρ _ => Loss.Gen.frame m ρ,
    fun m ρ _ => LossIdeal.Gen.frame m ρ,
    fun m ρ _ => LossIdeal.Gen.frame m ρ,
    frame_Loss,
    fun m ρ _ => frame_Loss m ρ trivial,
    fun m ρ _ => Join.Gen.frame m ρ,
    fun m ρ _ => JoinIdeal.Gen.frame m ρ,
    frame_Join,
    fun m ρ _ => Relu.Gen.frame m ρ,
    fun m ρ _ => ReluIdeal.Gen.frame m ρ,
    fun m ρ _ => ReluIdeal.Gen.frame m ρ,
    frame_Relu,
    fun m ρ _ => frame_Relu m ρ trivial,
    fun m ρ _ => Mod.Gen.frame m ρ,
    fun m ρ _ => ModIdeal.Gen.frame m ρ,
    frame_Mod,
    fun m ρ _ => Attn.Gen.frame m ρ,
    fun m ρ _ => AttnIdeal.Gen.frame m ρ,
    fun m ρ _ => AttnIdeal.Gen.frame m ρ,
    frame_Attn,
    fun m ρ _ => frame_Attn m ρ trivial,
    fun m ρ _ => Fox.Gen.frame m ρ,
    fun m ρ _ => FoxIdeal.Gen.frame m ρ,
    fun m ρ _ => FoxIdeal.Gen.frame m ρ,
    frame_Fox,
    fun m ρ _ => frame_Fox m ρ trivial,
    fun m ρ _ => Opt.Gen.frame m ρ,
    fun m ρ _ => OptIdeal.Gen.frame m ρ,
    frame_Opt,
    trivial, algebraic_Gate,
    trivial, algebraic_Mix,
    trivial, algebraic_Loss,
    trivial, algebraic_Join,
    trivial, algebraic_Relu,
    trivial, algebraic_Mod,
    trivial, algebraic_Attn,
    trivial, algebraic_Fox,
    trivial, algebraic_Opt⟩

end Cert.Proof

end
